-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v12_2)) (v4 : (c : Dev Cert.KernelIdeal.nD) → Buf (Elt Ideal) ((c.tc : Thread Cert.KernelIdeal.nD Cert.KernelIdeal.τ).loc Cert.KernelIdeal.main_v12_3)) (v5 : (c : Dev Cert.KernelIdeal.nD) → Buf (Elt Ideal) ((c.tc : Thread Cert.KernelIdeal.nD Cert.KernelIdeal.τ).loc Cert.KernelIdeal.main_v12_5)) (v6 : (c : Dev Cert.KernelIdeal.nD) → Buf (Elt Ideal) ((c.tc : Thread Cert.KernelIdeal.nD Cert.KernelIdeal.τ).loc Cert.KernelIdeal.main_v13)) (v7 : (c : Dev Cert.KernelIdeal.nD) → Buf (Elt Ideal) ((c.tc : Thread Cert.KernelIdeal.nD Cert.KernelIdeal.τ).loc Cert.KernelIdeal.main_v12_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_v12_2) = v3 c
          ∧ r.2.mem ((c.tc : Thread Cert.KernelIdeal.nD Cert.KernelIdeal.τ).loc Cert.KernelIdeal.main_v12_3) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_v12_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v109) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)) (v4 : (c : Dev Cert.Kernel2Ideal.nD) → Buf (Elt Ideal) ((c.tc : Thread Cert.Kernel2Ideal.nD Cert.Kernel2Ideal.τ).loc Cert.Kernel2Ideal.main_v49_4)) (v5 : (c : Dev Cert.Kernel2Ideal.nD) → Buf (Elt Ideal) ((c.tc : Thread Cert.Kernel2Ideal.nD Cert.Kernel2Ideal.τ).loc Cert.Kernel2Ideal.main_v49_5)) (v6 : (c : Dev Cert.Kernel2Ideal.nD) → Buf (Elt Ideal) ((c.tc : Thread Cert.Kernel2Ideal.nD Cert.Kernel2Ideal.τ).loc Cert.Kernel2Ideal.main_v49_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_v49_4) = v4 c
          ∧ r.2.mem ((c.tc : Thread Cert.Kernel2Ideal.nD Cert.Kernel2Ideal.τ).loc Cert.Kernel2Ideal.main_v49_5) = v5 c
          ∧ r.2.mem ((c.tc : Thread Cert.Kernel2Ideal.nD Cert.Kernel2Ideal.τ).loc Cert.Kernel2Ideal.main_v49_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v97) = v1 c
          ∧ r.2.mem ((c.tc : Thread Cert.Reference2Ideal.nD Cert.Reference2Ideal.τ).loc Cert.Reference2Ideal.main_v99) = v2 c
          ∧ r.2.mem ((c.tc : Thread Cert.Reference2Ideal.nD Cert.Reference2Ideal.τ).loc Cert.Reference2Ideal.main_v101) = v3 c
          ∧ r.2.mem ((c.tc : Thread Cert.Reference2Ideal.nD Cert.Reference2Ideal.τ).loc Cert.Reference2Ideal.main_v103) = v4 c
          ∧ r.2.mem ((c.tc : Thread Cert.Reference2Ideal.nD Cert.Reference2Ideal.τ).loc Cert.Reference2Ideal.main_v105) = v5 c
          ∧ r.2.mem ((c.tc : Thread Cert.Reference2Ideal.nD Cert.Reference2Ideal.τ).loc Cert.Reference2Ideal.main_v94) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m ((c.tc : Thread Cert.Kernel4Ideal.nD Cert.Kernel4Ideal.τ).loc Cert.Kernel4Ideal.main_arg0) = Layout.block ⟨2, ![4096, 2816]⟩ ⟨2, ![32768, 2816]⟩ 0 8 c (m' (((0 : Dev Cert.Reference4Ideal.nD).tc : Thread Cert.Reference4Ideal.nD Cert.Reference4Ideal.τ).loc Cert.Reference4Ideal.main_arg0))
      ∧ m ((c.tc : Thread Cert.Kernel4Ideal.nD Cert.Kernel4Ideal.τ).loc Cert.Kernel4Ideal.main_arg1) = Layout.block ⟨2, ![4096, 1024]⟩ ⟨2, ![32768, 1024]⟩ 0 8 c (m' (((0 : Dev Cert.Reference4Ideal.nD).tc : Thread Cert.Reference4Ideal.nD Cert.Reference4Ideal.τ).loc Cert.Reference4Ideal.main_arg1))
      ∧ m ((c.tc : Thread Cert.Kernel4Ideal.nD Cert.Kernel4Ideal.τ).loc Cert.Kernel4Ideal.main_arg2) = Layout.block ⟨3, ![8, 352, 1024]⟩ ⟨3, ![64, 352, 1024]⟩ 0 8 c (m' (((0 : Dev Cert.Reference4Ideal.nD).tc : Thread Cert.Reference4Ideal.nD Cert.Reference4Ideal.τ).loc Cert.Reference4Ideal.main_arg2))) →
    ∃ (v0 : Buf (Elt Ideal) (((0 : Dev Cert.Reference4Ideal.nD).tc : Thread Cert.Reference4Ideal.nD Cert.Reference4Ideal.τ).loc Cert.Reference4Ideal.main_v17)) (v1 : Buf (Elt Ideal) (((0 : Dev Cert.Reference4Ideal.nD).tc : Thread Cert.Reference4Ideal.nD Cert.Reference4Ideal.τ).loc Cert.Reference4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = Layout.block ⟨2, ![2816, 1024]⟩ ⟨2, ![22528, 1024]⟩ 0 8 c v0
          ∧ r.2.mem ((c.tc : Thread Cert.Kernel4Ideal.nD Cert.Kernel4Ideal.τ).loc Cert.Kernel4Ideal.main_v1_1) = Layout.block ⟨3, ![4, 352, 1024]⟩ ⟨3, ![32, 352, 1024]⟩ 0 8 c v1
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r =>
          r.2.mem (((0 : Dev Cert.Reference4Ideal.nD).tc : Thread Cert.Reference4Ideal.nD Cert.Reference4Ideal.τ).loc Cert.Reference4Ideal.main_v17) = v0
          ∧ r.2.mem (((0 : Dev Cert.Reference4Ideal.nD).tc : Thread Cert.Reference4Ideal.nD Cert.Reference4Ideal.τ).loc Cert.Reference4Ideal.main_v18) = v1
          ∧ r.2.mem (((0 : Dev Cert.Reference4Ideal.nD).tc : Thread Cert.Reference4Ideal.nD Cert.Reference4Ideal.τ).loc Cert.Reference4Ideal.main_arg0) = m' (((0 : Dev Cert.Reference4Ideal.nD).tc : Thread Cert.Reference4Ideal.nD Cert.Reference4Ideal.τ).loc Cert.Reference4Ideal.main_arg0)
          ∧ r.2.mem (((0 : Dev Cert.Reference4Ideal.nD).tc : Thread Cert.Reference4Ideal.nD Cert.Reference4Ideal.τ).loc Cert.Reference4Ideal.main_arg1) = m' (((0 : Dev Cert.Reference4Ideal.nD).tc : Thread Cert.Reference4Ideal.nD Cert.Reference4Ideal.τ).loc Cert.Reference4Ideal.main_arg1)
          ∧ r.2.mem (((0 : Dev Cert.Reference4Ideal.nD).tc : Thread Cert.Reference4Ideal.nD Cert.Reference4Ideal.τ).loc Cert.Reference4Ideal.main_arg2) = m' (((0 : Dev Cert.Reference4Ideal.nD).tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.block ⟨2, ![4096, 2816]⟩ ⟨2, ![32768, 2816]⟩ 0 8 c (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = Layout.block ⟨2, ![4096, 1024]⟩ ⟨2, ![32768, 1024]⟩ 0 8 c (m' (((0 : Dev Cert.Reference5Ideal.nD).tc : Thread Cert.Reference5Ideal.nD Cert.Reference5Ideal.τ).loc Cert.Reference5Ideal.main_arg1))
      ∧ m ((c.tc : Thread Cert.Kernel5Ideal.nD Cert.Kernel5Ideal.τ).loc Cert.Kernel5Ideal.main_arg2) = Layout.block ⟨3, ![8, 352, 1024]⟩ ⟨3, ![64, 352, 1024]⟩ 0 8 c (m' (((0 : Dev Cert.Reference5Ideal.nD).tc : Thread Cert.Reference5Ideal.nD Cert.Reference5Ideal.τ).loc Cert.Reference5Ideal.main_arg2))
      ∧ m ((c.tc : Thread Cert.Kernel5Ideal.nD Cert.Kernel5Ideal.τ).loc Cert.Kernel5Ideal.main_arg3) = Layout.block ⟨3, ![4, 480, 1024]⟩ ⟨3, ![32, 480, 1024]⟩ 0 8 c (m' (((0 : Dev Cert.Reference5Ideal.nD).tc : Thread Cert.Reference5Ideal.nD Cert.Reference5Ideal.τ).loc Cert.Reference5Ideal.main_arg3))) →
    ∃ (v0 : Buf (Elt Ideal) (((0 : Dev Cert.Reference5Ideal.nD).tc : Thread Cert.Reference5Ideal.nD Cert.Reference5Ideal.τ).loc Cert.Reference5Ideal.main_v17)) (v1 : Buf (Elt Ideal) (((0 : Dev Cert.Reference5Ideal.nD).tc : Thread Cert.Reference5Ideal.nD Cert.Reference5Ideal.τ).loc Cert.Reference5Ideal.main_v18)) (v2 : Buf (Elt Ideal) (((0 : Dev Cert.Reference5Ideal.nD).tc : Thread Cert.Reference5Ideal.nD Cert.Reference5Ideal.τ).loc Cert.Reference5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.block ⟨2, ![2816, 1024]⟩ ⟨2, ![22528, 1024]⟩ 0 8 c v0
          ∧ r.2.mem ((c.tc : Thread Cert.Kernel5Ideal.nD Cert.Kernel5Ideal.τ).loc Cert.Kernel5Ideal.main_v1_1) = Layout.block ⟨3, ![4, 352, 1024]⟩ ⟨3, ![32, 352, 1024]⟩ 0 8 c v1
          ∧ r.2.mem ((c.tc : Thread Cert.Kernel5Ideal.nD Cert.Kernel5Ideal.τ).loc Cert.Kernel5Ideal.main_v1_2) = Layout.block ⟨3, ![4, 480, 1024]⟩ ⟨3, ![32, 480, 1024]⟩ 0 8 c v2
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v17) = v0
          ∧ r.2.mem (((0 : Dev Cert.Reference5Ideal.nD).tc : Thread Cert.Reference5Ideal.nD Cert.Reference5Ideal.τ).loc Cert.Reference5Ideal.main_v18) = v1
          ∧ r.2.mem (((0 : Dev Cert.Reference5Ideal.nD).tc : Thread Cert.Reference5Ideal.nD Cert.Reference5Ideal.τ).loc Cert.Reference5Ideal.main_v21) = v2
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1)
          ∧ r.2.mem (((0 : Dev Cert.Reference5Ideal.nD).tc : Thread Cert.Reference5Ideal.nD Cert.Reference5Ideal.τ).loc Cert.Reference5Ideal.main_arg2) = m' (((0 : Dev Cert.Reference5Ideal.nD).tc : Thread Cert.Reference5Ideal.nD Cert.Reference5Ideal.τ).loc Cert.Reference5Ideal.main_arg2)
          ∧ r.2.mem (((0 : Dev Cert.Reference5Ideal.nD).tc : Thread Cert.Reference5Ideal.nD Cert.Reference5Ideal.τ).loc Cert.Reference5Ideal.main_arg3) = m' (((0 : Dev Cert.Reference5Ideal.nD).tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m ((c.tc : Thread Cert.Kernel6Ideal.nD Cert.Kernel6Ideal.τ).loc Cert.Kernel6Ideal.main_arg0) = Layout.block ⟨2, ![4096, 2816]⟩ ⟨2, ![32768, 2816]⟩ 0 8 c (m' (((0 : Dev Cert.Reference6Ideal.nD).tc : Thread Cert.Reference6Ideal.nD Cert.Reference6Ideal.τ).loc Cert.Reference6Ideal.main_arg0))
      ∧ m ((c.tc : Thread Cert.Kernel6Ideal.nD Cert.Kernel6Ideal.τ).loc Cert.Kernel6Ideal.main_arg1) = Layout.block ⟨2, ![4096, 1024]⟩ ⟨2, ![32768, 1024]⟩ 0 8 c (m' (((0 : Dev Cert.Reference6Ideal.nD).tc : Thread Cert.Reference6Ideal.nD Cert.Reference6Ideal.τ).loc Cert.Reference6Ideal.main_arg1))
      ∧ m ((c.tc : Thread Cert.Kernel6Ideal.nD Cert.Kernel6Ideal.τ).loc Cert.Kernel6Ideal.main_arg2) = Layout.block ⟨3, ![8, 352, 1024]⟩ ⟨3, ![64, 352, 1024]⟩ 0 8 c (m' (((0 : Dev Cert.Reference6Ideal.nD).tc : Thread Cert.Reference6Ideal.nD Cert.Reference6Ideal.τ).loc Cert.Reference6Ideal.main_arg2))
      ∧ m ((c.tc : Thread Cert.Kernel6Ideal.nD Cert.Kernel6Ideal.τ).loc Cert.Kernel6Ideal.main_arg3) = Layout.block ⟨3, ![4, 352, 1024]⟩ ⟨3, ![32, 352, 1024]⟩ 0 8 c (m' (((0 : Dev Cert.Reference6Ideal.nD).tc : Thread Cert.Reference6Ideal.nD Cert.Reference6Ideal.τ).loc Cert.Reference6Ideal.main_arg3))) →
    ∃ (v0 : Buf (Elt Ideal) (((0 : Dev Cert.Reference6Ideal.nD).tc : Thread Cert.Reference6Ideal.nD Cert.Reference6Ideal.τ).loc Cert.Reference6Ideal.main_v18)) (v1 : Buf (Elt Ideal) (((0 : Dev Cert.Reference6Ideal.nD).tc : Thread Cert.Reference6Ideal.nD Cert.Reference6Ideal.τ).loc Cert.Reference6Ideal.main_v19)) (v2 : Buf (Elt Ideal) (((0 : Dev Cert.Reference6Ideal.nD).tc : Thread Cert.Reference6Ideal.nD Cert.Reference6Ideal.τ).loc Cert.Reference6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = Layout.block ⟨2, ![2816, 1024]⟩ ⟨2, ![22528, 1024]⟩ 0 8 c v0
          ∧ r.2.mem ((c.tc : Thread Cert.Kernel6Ideal.nD Cert.Kernel6Ideal.τ).loc Cert.Kernel6Ideal.main_v1_1) = Layout.block ⟨3, ![4, 352, 1024]⟩ ⟨3, ![32, 352, 1024]⟩ 0 8 c v1
          ∧ r.2.mem ((c.tc : Thread Cert.Kernel6Ideal.nD Cert.Kernel6Ideal.τ).loc Cert.Kernel6Ideal.main_v1_2) = Layout.block ⟨3, ![4, 352, 1024]⟩ ⟨3, ![32, 352, 1024]⟩ 0 8 c v2
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r =>
          r.2.mem (((0 : Dev Cert.Reference6Ideal.nD).tc : Thread Cert.Reference6Ideal.nD Cert.Reference6Ideal.τ).loc Cert.Reference6Ideal.main_v18) = v0
          ∧ r.2.mem (((0 : Dev Cert.Reference6Ideal.nD).tc : Thread Cert.Reference6Ideal.nD Cert.Reference6Ideal.τ).loc Cert.Reference6Ideal.main_v19) = v1
          ∧ r.2.mem (((0 : Dev Cert.Reference6Ideal.nD).tc : Thread Cert.Reference6Ideal.nD Cert.Reference6Ideal.τ).loc Cert.Reference6Ideal.main_v20) = v2
          ∧ r.2.mem (((0 : Dev Cert.Reference6Ideal.nD).tc : Thread Cert.Reference6Ideal.nD Cert.Reference6Ideal.τ).loc Cert.Reference6Ideal.main_arg0) = m' (((0 : Dev Cert.Reference6Ideal.nD).tc : Thread Cert.Reference6Ideal.nD Cert.Reference6Ideal.τ).loc Cert.Reference6Ideal.main_arg0)
          ∧ r.2.mem (((0 : Dev Cert.Reference6Ideal.nD).tc : Thread Cert.Reference6Ideal.nD Cert.Reference6Ideal.τ).loc Cert.Reference6Ideal.main_arg1) = m' (((0 : Dev Cert.Reference6Ideal.nD).tc : Thread Cert.Reference6Ideal.nD Cert.Reference6Ideal.τ).loc Cert.Reference6Ideal.main_arg1)
          ∧ r.2.mem (((0 : Dev Cert.Reference6Ideal.nD).tc : Thread Cert.Reference6Ideal.nD Cert.Reference6Ideal.τ).loc Cert.Reference6Ideal.main_arg2) = m' (((0 : Dev Cert.Reference6Ideal.nD).tc : Thread Cert.Reference6Ideal.nD Cert.Reference6Ideal.τ).loc Cert.Reference6Ideal.main_arg2)
          ∧ r.2.mem (((0 : Dev Cert.Reference6Ideal.nD).tc : Thread Cert.Reference6Ideal.nD Cert.Reference6Ideal.τ).loc Cert.Reference6Ideal.main_arg3) = m' (((0 : Dev Cert.Reference6Ideal.nD).tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_v57) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x2048x1024 : Shape := ⟨3, ![2, 2048, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S2x9216 : S_.BroadcastsInDim S2x9216 (![] : Fin 0 → Fin S2x9216.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_v2 : IVec S2x2048x1024 1) (main_v5 : IVec S2x2048x1024 1) (main_v8 : IVec S2x9216 1) (main_v11 : IVec S1x1024 1) (main_v14 : IVec S1x1024x2816 1) (main_v17 : IVec S1x1024x2816 1) : IVec S2x2048x1024 1 × IVec S2x2048x1024 1 × IVec S2x9216 1 × IVec S1x1024 1 × IVec S1x1024x2816 1 × IVec S1x1024x2816 1 × IVec S1x2816x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  (main_v2, main_v5, main_v8, main_v11, main_v14, main_v17, main_v20)

def fn {F : FTy → Type} [FloatOps F] (main_arg0 : FVec F S2x2048x1024 .f32) (main_arg1 : FVec F S2x2048x1024 .f32) (main_arg2 : FVec F S2x9216 .f32) (main_arg3 : FVec F S1x1024 .f32) (main_arg4 : FVec F S1x1024x2816 .f32) (main_arg5 : FVec F S1x1024x2816 .f32) (main_arg6 : FVec F S1x2816x1024 .f32) : IVec S2x2048x1024 1 × IVec S2x2048x1024 1 × IVec S2x9216 1 × IVec S1x1024 1 × IVec S1x1024x2816 1 × IVec S1x1024x2816 1 × IVec S1x2816x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2x9216 .f32 := Host.absf main_arg2
  let main_cst_1 : FVec F S_ .f32 := constant S_ .f32 0x7F800000#32
  let main_v7 : FVec F S2x9216 .f32 := broadcastInDim S2x9216 ![] bcast_S_S2x9216 main_cst_1
  let main_v8 : IVec S2x9216 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x2816 .f32 := Host.absf main_arg4
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x1024x2816 .f32 := Host.absf main_arg5
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  fn_part1 (F := F) main_arg6 main_v2 main_v5 main_v8 main_v11 main_v14 main_v17
-- ==== Kernel.lean ====
abbrev S2x2048x1024 : Shape := ⟨3, ![2, 2048, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S2x9x1024 : Shape := ⟨3, ![2, 9, 1024]⟩
abbrev S1024x2816 : Shape := ⟨2, ![1024, 2816]⟩
abbrev S2816x1024 : Shape := ⟨2, ![2816, 1024]⟩
abbrev S4096x2816 : Shape := ⟨2, ![4096, 2816]⟩
abbrev S16x8x128 : Shape := ⟨3, ![16, 8, 128]⟩
abbrev S256x1024 : Shape := ⟨2, ![256, 1024]⟩
abbrev S1x9x1024 : Shape := ⟨3, ![1, 9, 1024]⟩
abbrev S256x2816 : Shape := ⟨2, ![256, 2816]⟩
abbrev S1x8x128 : Shape := ⟨3, ![1, 8, 128]⟩
abbrev S1x1x1024 : Shape := ⟨3, ![1, 1, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S2x8x1024 : Shape := ⟨3, ![2, 8, 1024]⟩
abbrev S1x8x1024 : Shape := ⟨3, ![1, 8, 1024]⟩
abbrev S1024 : Shape := ⟨1, ![1024]⟩
abbrev S2048x1408 : Shape := ⟨2, ![2048, 1408]⟩
abbrev S2048x1024 : Shape := ⟨2, ![2048, 1024]⟩
abbrev S1408x1024 : Shape := ⟨2, ![1408, 1024]⟩
abbrev S16x1x1 : Shape := ⟨3, ![16, 1, 1]⟩
abbrev S16 : Shape := ⟨1, ![16]⟩
abbrev S_ : Shape := ⟨0, ![]⟩

abbrev nBuf : Space → Nat
  | .hbm => 35
  | .vmem => 56
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x9216, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S4096x1024, .f32⟩
  | .hbm, ⟨8, _⟩ => ⟨S2x9x1024, .f32⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S1024x2816, .f32⟩
  | .hbm, ⟨13, _⟩ => ⟨S1024x2816, .bf16⟩
  | .hbm, ⟨14, _⟩ => ⟨S2816x1024, .bf16⟩
  | .hbm, ⟨15, _⟩ => ⟨S2816x1024, .f32⟩
  | .hbm, ⟨16, _⟩ => ⟨S2816x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .bf16⟩
  | .hbm, ⟨21, _⟩ => ⟨S4096x2816, .bf16⟩
  | .hbm, ⟨22, _⟩ => ⟨S16x8x128, .f32⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S4096x2816, .bf16⟩
  | .hbm, ⟨27, _⟩ => ⟨S4096x2816, .bf16⟩
  | .hbm, ⟨28, _⟩ => ⟨S4096x2816, .bf16⟩
  | .hbm, ⟨29, _⟩ => ⟨S2x8x1024, .f32⟩
  | .hbm, ⟨30, _⟩ => ⟨S2816x1024, .f32⟩
  | .hbm, ⟨31, _⟩ => ⟨S16x1x1, .f32⟩
  | .hbm, ⟨32, _⟩ => ⟨S16, .f32⟩
  | .hbm, ⟨33, _⟩ => ⟨S_, .f32⟩
  | .hbm, ⟨34, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x8x128, .f32⟩
  | .local _ .vmem, ⟨19, _⟩ => ⟨S1x8x128, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x2816, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S1x9x1024, .f32⟩
  | .local _ .vmem, ⟨31, _⟩ => ⟨S1x9x1024, .f32⟩
  | .local _ .vmem, ⟨32, _⟩ => ⟨S1x1024, .f32⟩
  | .local _ .vmem, ⟨33, _⟩ => ⟨S2816x1024, .bf16⟩
  | .local _ .vmem, ⟨34, _⟩ => ⟨S2816x1024, .bf16⟩
  | .local _ .vmem, ⟨35, _⟩ => ⟨S2816x1024, .bf16⟩
  | .local _ .vmem, ⟨36, _⟩ => ⟨S256x1024, .f32⟩
  | .local _ .vmem, ⟨37, _⟩ => ⟨S256x1024, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x2816, .bf16⟩
  | .local _ .vmem, ⟨43, _⟩ => ⟨S256x2816, .bf16⟩
  | .local _ .vmem, ⟨44, _⟩ => ⟨S256x2816, .bf16⟩
  | .local _ .vmem, ⟨45, _⟩ => ⟨S256x2816, .bf16⟩
  | .local _ .vmem, ⟨46, _⟩ => ⟨S256x2816, .bf16⟩
  | .local _ .vmem, ⟨47, _⟩ => ⟨S256x2816, .bf16⟩
  | .local _ .vmem, ⟨48, _⟩ => ⟨S1x8x1024, .f32⟩
  | .local _ .vmem, ⟨49, _⟩ => ⟨S1x8x1024, .f32⟩
  | .local _ .vmem, ⟨50, _⟩ => ⟨S2048x1408, .bf16⟩
  | .local _ .vmem, ⟨51, _⟩ => ⟨S2048x1408, .bf16⟩
  | .local _ .vmem, ⟨52, _⟩ => ⟨S2048x1024, .bf16⟩
  | .local _ .vmem, ⟨53, _⟩ => ⟨S2048x1024, .bf16⟩
  | .local _ .vmem, ⟨54, _⟩ => ⟨S1408x1024, .f32⟩
  | .local _ .vmem, ⟨55, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc1_stg15_0 : Ref sig .tc := ⟨.vmem, 46, rfl⟩
abbrev cc1_stg15_1 : Ref sig .tc := ⟨.vmem, 47, rfl⟩
abbrev cc1_stg16_0 : Ref sig .tc := ⟨.vmem, 48, rfl⟩
abbrev cc1_stg16_1 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg1_1 : Ref sig .tc := ⟨.vmem, 53, rfl⟩
abbrev cc2_stg2_0 : Ref sig .tc := ⟨.vmem, 54, rfl⟩
abbrev cc2_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45
abbrev cc1_sem15_0 : DmaSem sig := 46
abbrev cc1_sem15_1 : DmaSem sig := 47
abbrev cc1_sem16_0 : DmaSem sig := 48
abbrev cc1_sem16_1 : DmaSem sig := 49
abbrev cc2_sem0_0 : DmaSem sig := 50
abbrev cc2_sem0_1 : DmaSem sig := 51
abbrev cc2_sem1_0 : DmaSem sig := 52
abbrev cc2_sem1_1 : DmaSem sig := 53
abbrev cc2_sem2_0 : DmaSem sig := 54
abbrev cc2_sem2_1 : DmaSem sig := 55

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x9x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2816x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2816 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x2816 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x2816 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x8x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨3, ![2, 1, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S2x2048x1024 : Shape := ⟨3, ![2, 2048, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x9x1024 : Shape := ⟨3, ![2, 9, 1024]⟩
abbrev S2x1x1024 : Shape := ⟨3, ![2, 1, 1024]⟩
abbrev S2x1024 : Shape := ⟨2, ![2, 1024]⟩
abbrev S_ : Shape := ⟨0, ![]⟩
abbrev S2x2048x2816 : Shape := ⟨3, ![2, 2048, 2816]⟩
abbrev S1024x2816 : Shape := ⟨2, ![1024, 2816]⟩
abbrev S2816x1024 : Shape := ⟨2, ![2816, 1024]⟩
abbrev S2x2048 : Shape := ⟨2, ![2, 2048]⟩
abbrev S2x2048x1 : Shape := ⟨3, ![2, 2048, 1]⟩
abbrev S2x3x1024 : Shape := ⟨3, ![2, 3, 1024]⟩
abbrev S2x5x1024 : Shape := ⟨3, ![2, 5, 1024]⟩
abbrev S2x8x1024 : Shape := ⟨3, ![2, 8, 1024]⟩
abbrev S4096x1024 : Shape := ⟨2, ![4096, 1024]⟩
abbrev S4096x2816 : Shape := ⟨2, ![4096, 2816]⟩

abbrev nBuf : Space → Nat
  | .hbm => 169
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x9216, .f32⟩
  | 3 => ⟨S1x1024, .f32⟩
  | 4 => ⟨S1x1024x2816, .f32⟩
  | 5 => ⟨S1x1024x2816, .f32⟩
  | 6 => ⟨S1x2816x1024, .f32⟩
  | 7 => ⟨S2x9x1024, .f32⟩
  | 8 => ⟨S2x1x1024, .f32⟩
  | 9 => ⟨S2x1024, .f32⟩
  | 10 => ⟨S_, .f32⟩
  | 11 => ⟨S2x1024, .f32⟩
  | 12 => ⟨S2x1024, .f32⟩
  | 13 => ⟨S2x1024, .f32⟩
  | 14 => ⟨S2x1024, .f32⟩
  | 15 => ⟨S_, .f32⟩
  | 16 => ⟨S2x2048x2816, .f32⟩
  | 17 => ⟨S_, .f32⟩
  | 18 => ⟨S2x2048x1024, .f32⟩
  | 19 => ⟨S2x1x1024, .f32⟩
  | 20 => ⟨S2x1024, .f32⟩
  | 21 => ⟨S2x1x1024, .f32⟩
  | 22 => ⟨S2x1024, .f32⟩
  | 23 => ⟨S1024x2816, .f32⟩
  | 24 => ⟨S1024x2816, .f32⟩
  | 25 => ⟨S2816x1024, .f32⟩
  | 26 => ⟨S2x1x1024, .f32⟩
  | 27 => ⟨S2x2048x1024, .f32⟩
  | 28 => ⟨S_, .f32⟩
  | 29 => ⟨S2x2048, .f32⟩
  | 30 => ⟨S2x2048x1, .f32⟩
  | 31 => ⟨S_, .f32⟩
  | 32 => ⟨S2x2048x1, .f32⟩
  | 33 => ⟨S2x2048x1, .f32⟩
  | 34 => ⟨S_, .f32⟩
  | 35 => ⟨S2x2048x1, .f32⟩
  | 36 => ⟨S2x2048x1, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x1x1024, .f32⟩
  | 47 => ⟨S2x2048x1024, .f32⟩
  | 48 => ⟨S2x2048x1024, .f32⟩
  | 49 => ⟨S2x2048x2816, .f32⟩
  | 50 => ⟨S2x2048x2816, .f32⟩
  | 51 => ⟨S2x2048x2816, .f32⟩
  | 52 => ⟨S_, .f32⟩
  | 53 => ⟨S2x2048x2816, .f32⟩
  | 54 => ⟨S2x2048x2816, .f32⟩
  | 55 => ⟨S_, .f32⟩
  | 56 => ⟨S2x2048x2816, .f32⟩
  | 57 => ⟨S2x2048x2816, .f32⟩
  | 58 => ⟨S_, .f32⟩
  | 59 => ⟨S2x2048x2816, .f32⟩
  | 60 => ⟨S2x2048x2816, .f32⟩
  | 61 => ⟨S2x2048x2816, .f32⟩
  | 62 => ⟨S2x2048x2816, .f32⟩
  | 63 => ⟨S2x2048x2816, .f32⟩
  | 64 => ⟨S2x2048x2816, .f32⟩
  | 65 => ⟨S2x2048x2816, .f32⟩
  | 66 => ⟨S2x1x1024, .f32⟩
  | 67 => ⟨S_, .f32⟩
  | 68 => ⟨S2x1x1024, .f32⟩
  | 69 => ⟨S2x1x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S_, .f32⟩
  | 78 => ⟨S2x2048x1024, .f32⟩
  | 79 => ⟨S2x2048x1024, .f32⟩
  | 80 => ⟨S_, .f32⟩
  | 81 => ⟨S2x2048, .f32⟩
  | 82 => ⟨S_, .f32⟩
  | 83 => ⟨S2x2048, .f32⟩
  | 84 => ⟨S2x2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S2x2048, .f32⟩
  | 93 => ⟨S_, .f32⟩
  | 94 => ⟨S2x2048, .f32⟩
  | 95 => ⟨S2x2048, .f32⟩
  | 96 => ⟨S2x2048x1024, .f32⟩
  | 97 => ⟨S2x2048x1024, .f32⟩
  | 98 => ⟨S2x2048x1024, .f32⟩
  | 99 => ⟨S2x2048x1024, .f32⟩
  | 100 => ⟨S2x2048x1024, .f32⟩
  | 101 => ⟨S_, .f32⟩
  | 102 => ⟨S2x1024, .f32⟩
  | 103 => ⟨S2x1x1024, .f32⟩
  | 104 => ⟨S2x2048x2816, .f32⟩
  | 105 => ⟨S_, .f32⟩
  | 106 => ⟨S2x1x1024, .f32⟩
  | 107 => ⟨S2x1x1024, .f32⟩
  | 108 => ⟨S_, .f32⟩
  | 109 => ⟨S2x1024, .f32⟩
  | 110 => ⟨S2x2048x2816, .f32⟩
  | 111 => ⟨S2x2048x2816, .f32⟩
  | 112 => ⟨S2x2048x1024, .f32⟩
  | 113 => ⟨S2x2048x2816, .f32⟩
  | 114 => ⟨S2x2048x2816, .f32⟩
  | 115 => ⟨S2x2048x2816, .f32⟩
  | 116 => ⟨S2x2048x2816, .f32⟩
  | 117 => ⟨S2816x1024, .f32⟩
  | 118 => ⟨S1024x2816, .f32⟩
  | 119 => ⟨S2x2048x1024, .f32⟩
  | 120 => ⟨S2x2048x1024, .f32⟩
  | 121 => ⟨S_, .f32⟩
  | 122 => ⟨S2x1024, .f32⟩
  | 123 => ⟨S2x1x1024, .f32⟩
  | 124 => ⟨S_, .f32⟩
  | 125 => ⟨S2x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x1024, .f32⟩
  | 1 => ⟨S2x1x1024, .f32⟩
  | 2 => ⟨S2x2048x1024, .f32⟩
  | 3 => ⟨S2x2048x1024, .f32⟩
  | 4 => ⟨S2x2048x1024, .f32⟩
  | 5 => ⟨S_, .f32⟩
  | 6 => ⟨S2x2048, .f32⟩
  | 7 => ⟨S2x2048x1, .f32⟩
  | 8 => ⟨S2x2048x1024, .f32⟩
  | 9 => ⟨S2x2048x1024, .f32⟩
  | 10 => ⟨S2x2048x1024, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S_, .f32⟩
  | 23 => ⟨S2x1024, .f32⟩
  | 24 => ⟨S2x1x1024, .f32⟩
  | 25 => ⟨S2x1x1024, .f32⟩
  | 26 => ⟨S2x1x1024, .f32⟩
  | 27 => ⟨S2x3x1024, .f32⟩
  | 28 => ⟨S_, .f32⟩
  | 29 => ⟨S2x5x1024, .f32⟩
  | 30 => ⟨S2x8x1024, .f32⟩
  | 31 => ⟨S4096x1024, .f32⟩
  | 32 => ⟨S4096x1024, .f32⟩
  | 33 => ⟨S4096x1024, .bf16⟩
  | 34 => ⟨S4096x1024, .f32⟩
  | 35 => ⟨S4096x1024, .bf16⟩
  | 36 => ⟨S4096x2816, .f32⟩
  | 37 => ⟨S4096x2816, .bf16⟩
  | 38 => ⟨S4096x2816, .f32⟩
  | 39 => ⟨S4096x2816, .bf16⟩
  | 40 => ⟨S2816x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_cst_12 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_cst_17 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_18 : Ref sig .tc := ⟨.hbm, 121, rfl⟩
abbrev main_v80 : Ref sig .tc := ⟨.hbm, 122, rfl⟩
abbrev main_v81 : Ref sig .tc := ⟨.hbm, 123, rfl⟩
abbrev main_cst_19 : Ref sig .tc := ⟨.hbm, 124, rfl⟩
abbrev main_v82 : Ref sig .tc := ⟨.hbm, 125, rfl⟩
abbrev main_v83 : Ref sig .tc := ⟨.hbm, 126, rfl⟩
abbrev main_cst_20 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x9x1024 : Shape := ⟨3, ![2, 9, 1024]⟩
abbrev S1x1x1024 : Shape := ⟨3, ![1, 1, 1024]⟩
abbrev S_ : Shape := ⟨0, ![]⟩
abbrev S2x2048 : Shape := ⟨2, ![2, 2048]⟩
abbrev S2x2048x1 : Shape := ⟨3, ![2, 2048, 1]⟩
abbrev S2x1x1024 : Shape := ⟨3, ![2, 1, 1024]⟩
abbrev S2x1024 : Shape := ⟨2, ![2, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x1024 : Shape := ⟨2, ![4096, 1024]⟩
abbrev S4096x2816 : Shape := ⟨2, ![4096, 2816]⟩
abbrev S2x8x1024 : Shape := ⟨3, ![2, 8, 1024]⟩
abbrev S256x1024 : Shape := ⟨2, ![256, 1024]⟩
abbrev S256x2816 : Shape := ⟨2, ![256, 2816]⟩
abbrev S1x9x1024 : Shape := ⟨3, ![1, 9, 1024]⟩
abbrev S1x8x1024 : Shape := ⟨3, ![1, 8, 1024]⟩
abbrev S256 : Shape := ⟨1, ![256]⟩
abbrev S256x1 : Shape := ⟨2, ![256, 1]⟩
abbrev S1024 : Shape := ⟨1, ![1024]⟩

abbrev nBuf : Space → Nat
  | .hbm => 75
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x9216, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S2x9x1024, .f32⟩
  | .hbm, ⟨8, _⟩ => ⟨S1x1x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x1x1024, .f32⟩
  | .hbm, ⟨33, _⟩ => ⟨S2x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S1024x2816, .f32⟩
  | .hbm, ⟨38, _⟩ => ⟨S2x2048x2816, .f32⟩
  | .hbm, ⟨39, _⟩ => ⟨S1024x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2816x1024, .f32⟩
  | .hbm, ⟨52, _⟩ => ⟨S2x2048x1024, .f32⟩
  | .hbm, ⟨53, _⟩ => ⟨S4096x1024, .f32⟩
  | .hbm, ⟨54, _⟩ => ⟨S4096x2816, .f32⟩
  | .hbm, ⟨55, _⟩ => ⟨S4096x2816, .bf16⟩
  | .hbm, ⟨56, _⟩ => ⟨S4096x2816, .f32⟩
  | .hbm, ⟨57, _⟩ => ⟨S4096x2816, .bf16⟩
  | .hbm, ⟨58, _⟩ => ⟨S1024x2816, .f32⟩
  | .hbm, ⟨59, _⟩ => ⟨S1024x2816, .bf16⟩
  | .hbm, ⟨60, _⟩ => ⟨S2816x1024, .bf16⟩
  | .hbm, ⟨61, _⟩ => ⟨S1024x2816, .f32⟩
  | .hbm, ⟨62, _⟩ => ⟨S1024x2816, .bf16⟩
  | .hbm, ⟨63, _⟩ => ⟨S2816x1024, .bf16⟩
  | .hbm, ⟨64, _⟩ => ⟨S2816x1024, .f32⟩
  | .hbm, ⟨65, _⟩ => ⟨S2816x1024, .bf16⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | .hbm, ⟨70, _⟩ => ⟨S4096x1024, .bf16⟩
  | .hbm, ⟨71, _⟩ => ⟨S4096x2816, .bf16⟩
  | .hbm, ⟨72, _⟩ => ⟨S4096x2816, .bf16⟩
  | .hbm, ⟨73, _⟩ => ⟨S4096x2816, .bf16⟩
  | .hbm, ⟨74, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S1x9x1024, .f32⟩
  | .local _ .vmem, ⟨11, _⟩ => ⟨S1x9x1024, .f32⟩
  | .local _ .vmem, ⟨12, _⟩ => ⟨S1x1024, .f32⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | .local _ .vmem, ⟨28, _⟩ => ⟨S1x8x1024, .f32⟩
  | .local _ .vmem, ⟨29, _⟩ => ⟨S1x8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev main_v49_3 : Ref sig .tc := ⟨.hbm, 71, rfl⟩
abbrev main_v49_4 : Ref sig .tc := ⟨.hbm, 72, rfl⟩
abbrev main_v49_5 : Ref sig .tc := ⟨.hbm, 73, rfl⟩
abbrev main_v49_6 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x2048x1024 : Shape := ⟨3, ![2, 2048, 1024]⟩
abbrev S2x9216 : Shape := ⟨2, ![2, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x9x1024 : Shape := ⟨3, ![2, 9, 1024]⟩
abbrev S2x1x1024 : Shape := ⟨3, ![2, 1, 1024]⟩
abbrev S2x1024 : Shape := ⟨2, ![2, 1024]⟩
abbrev S_ : Shape := ⟨0, ![]⟩
abbrev S2x2048x2816 : Shape := ⟨3, ![2, 2048, 2816]⟩
abbrev S1024x2816 : Shape := ⟨2, ![1024, 2816]⟩
abbrev S2816x1024 : Shape := ⟨2, ![2816, 1024]⟩
abbrev S2x2048 : Shape := ⟨2, ![2, 2048]⟩
abbrev S2x2048x1 : Shape := ⟨3, ![2, 2048, 1]⟩
abbrev S2x3x1024 : Shape := ⟨3, ![2, 3, 1024]⟩
abbrev S2x5x1024 : Shape := ⟨3, ![2, 5, 1024]⟩
abbrev S2x8x1024 : Shape := ⟨3, ![2, 8, 1024]⟩
abbrev S4096x1024 : Shape := ⟨2, ![4096, 1024]⟩
abbrev S4096x2816 : Shape := ⟨2, ![4096, 2816]⟩

abbrev nBuf : Space → Nat
  | .hbm => 147
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x9216, .f32⟩
  | 3 => ⟨S1x1024, .f32⟩
  | 4 => ⟨S1x1024x2816, .f32⟩
  | 5 => ⟨S1x1024x2816, .f32⟩
  | 6 => ⟨S1x2816x1024, .f32⟩
  | 7 => ⟨S2x9x1024, .f32⟩
  | 8 => ⟨S2x1x1024, .f32⟩
  | 9 => ⟨S2x1024, .f32⟩
  | 10 => ⟨S_, .f32⟩
  | 11 => ⟨S2x1024, .f32⟩
  | 12 => ⟨S2x1024, .f32⟩
  | 13 => ⟨S2x1024, .f32⟩
  | 14 => ⟨S2x1024, .f32⟩
  | 15 => ⟨S_, .f32⟩
  | 16 => ⟨S2x2048x2816, .f32⟩
  | 17 => ⟨S_, .f32⟩
  | 18 => ⟨S2x2048x1024, .f32⟩
  | 19 => ⟨S2x1x1024, .f32⟩
  | 20 => ⟨S2x1024, .f32⟩
  | 21 => ⟨S2x1x1024, .f32⟩
  | 22 => ⟨S2x1024, .f32⟩
  | 23 => ⟨S1024x2816, .f32⟩
  | 24 => ⟨S1024x2816, .f32⟩
  | 25 => ⟨S2816x1024, .f32⟩
  | 26 => ⟨S2x1x1024, .f32⟩
  | 27 => ⟨S2x2048x1024, .f32⟩
  | 28 => ⟨S_, .f32⟩
  | 29 => ⟨S2x2048, .f32⟩
  | 30 => ⟨S2x2048x1, .f32⟩
  | 31 => ⟨S_, .f32⟩
  | 32 => ⟨S2x2048x1, .f32⟩
  | 33 => ⟨S2x2048x1, .f32⟩
  | 34 => ⟨S_, .f32⟩
  | 35 => ⟨S2x2048x1, .f32⟩
  | 36 => ⟨S2x2048x1, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x1x1024, .f32⟩
  | 47 => ⟨S2x2048x1024, .f32⟩
  | 48 => ⟨S2x2048x1024, .f32⟩
  | 49 => ⟨S2x2048x2816, .f32⟩
  | 50 => ⟨S2x2048x2816, .f32⟩
  | 51 => ⟨S2x2048x2816, .f32⟩
  | 52 => ⟨S2x2048x2816, .f32⟩
  | 53 => ⟨S2x2048x2816, .f32⟩
  | 54 => ⟨S2x2048x2816, .f32⟩
  | 55 => ⟨S_, .f32⟩
  | 56 => ⟨S2x2048x2816, .f32⟩
  | 57 => ⟨S2x2048x2816, .f32⟩
  | 58 => ⟨S_, .f32⟩
  | 59 => ⟨S2x2048x2816, .f32⟩
  | 60 => ⟨S2x2048x2816, .f32⟩
  | 61 => ⟨S_, .f32⟩
  | 62 => ⟨S2x2048x2816, .f32⟩
  | 63 => ⟨S2x2048x2816, .f32⟩
  | 64 => ⟨S2x2048x2816, .f32⟩
  | 65 => ⟨S2x2048x2816, .f32⟩
  | 66 => ⟨S2x2048x2816, .f32⟩
  | 67 => ⟨S2x2048x1024, .f32⟩
  | 68 => ⟨S2x2048x1024, .f32⟩
  | 69 => ⟨S2x1x1024, .f32⟩
  | 70 => ⟨S_, .f32⟩
  | 71 => ⟨S2x1x1024, .f32⟩
  | 72 => ⟨S2x1x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S_, .f32⟩
  | 81 => ⟨S2x1024, .f32⟩
  | 82 => ⟨S2x1x1024, .f32⟩
  | 83 => ⟨S_, .f32⟩
  | 84 => ⟨S2x1x1024, .f32⟩
  | 85 => ⟨S2x1x1024, .f32⟩
  | 86 => ⟨S_, .f32⟩
  | 87 => ⟨S2x1024, .f32⟩
  | 88 => ⟨S2x2048x2816, .f32⟩
  | 89 => ⟨S2x2048x2816, .f32⟩
  | 90 => ⟨S2x2048x2816, .f32⟩
  | 91 => ⟨S2x2048x2816, .f32⟩
  | 92 => ⟨S2x2048x2816, .f32⟩
  | 93 => ⟨S2x2048x2816, .f32⟩
  | 94 => ⟨S2x2048x2816, .f32⟩
  | 95 => ⟨S2x2048x1024, .f32⟩
  | 96 => ⟨S2x2048x1024, .f32⟩
  | 97 => ⟨S2x2048x1024, .f32⟩
  | 98 => ⟨S_, .f32⟩
  | 99 => ⟨S2x1024, .f32⟩
  | 100 => ⟨S2x1x1024, .f32⟩
  | 101 => ⟨S_, .f32⟩
  | 102 => ⟨S2x1024, .f32⟩
  | 103 => ⟨S2x2048x1024, .f32⟩
  | 104 => ⟨S_, .f32⟩
  | 105 => ⟨S2x1024, .f32⟩
  | 106 => ⟨S2x1x1024, .f32⟩
  | 107 => ⟨S2x2048x1024, .f32⟩
  | 108 => ⟨S2x2048x1024, .f32⟩
  | 109 => ⟨S2x2048x1024, .f32⟩
  | 110 => ⟨S_, .f32⟩
  | 111 => ⟨S2x2048, .f32⟩
  | 112 => ⟨S2x2048x1, .f32⟩
  | 113 => ⟨S2x2048x1024, .f32⟩
  | 114 => ⟨S2x2048x1024, .f32⟩
  | 115 => ⟨S2x2048x1024, .f32⟩
  | 116 => ⟨S2x2048x1, .f32⟩
  | 117 => ⟨S_, .f32⟩
  | 118 => ⟨S2x2048x1, .f32⟩
  | 119 => ⟨S2x2048x1, .f32⟩
  | 120 => ⟨S_, .f32⟩
  | 121 => ⟨S2x2048, .f32⟩
  | 122 => ⟨S2x2048x1024, .f32⟩
  | 123 => ⟨S2x2048x1024, .f32⟩
  | 124 => ⟨S2x2048x1024, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x1024, .f32⟩
  | 1 => ⟨S2x1x1024, .f32⟩
  | 2 => ⟨S2x1x1024, .f32⟩
  | 3 => ⟨S2x1x1024, .f32⟩
  | 4 => ⟨S2x3x1024, .f32⟩
  | 5 => ⟨S_, .f32⟩
  | 6 => ⟨S2x5x1024, .f32⟩
  | 7 => ⟨S2x8x1024, .f32⟩
  | 8 => ⟨S4096x1024, .f32⟩
  | 9 => ⟨S4096x1024, .f32⟩
  | 10 => ⟨S4096x1024, .bf16⟩
  | 11 => ⟨S4096x1024, .f32⟩
  | 12 => ⟨S4096x1024, .bf16⟩
  | 13 => ⟨S4096x2816, .f32⟩
  | 14 => ⟨S4096x2816, .bf16⟩
  | 15 => ⟨S4096x2816, .f32⟩
  | 16 => ⟨S4096x2816, .bf16⟩
  | 17 => ⟨S4096x2816, .f32⟩
  | 18 => ⟨S4096x2816, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v39_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v39_1 : Ref sig .tc := ⟨.hbm, 64, rfl⟩
abbrev main_v39_0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]
-- ==== Kernel3.lean ====
abbrev S4096x3840 : Shape := ⟨2, ![4096, 3840]⟩
abbrev S4096x1024 : Shape := ⟨2, ![4096, 1024]⟩
abbrev S3840x1024 : Shape := ⟨2, ![3840, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3840, .bf16⟩
  | .hbm, ⟨1, _⟩ => ⟨S4096x1024, .bf16⟩
  | .hbm, ⟨2, _⟩ => ⟨S3840x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x3840 : Shape := ⟨2, ![4096, 3840]⟩
abbrev S4096x1024 : Shape := ⟨2, ![4096, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S4096x1024, .bf16⟩
  | .hbm, ⟨2, _⟩ => ⟨S4096x1024, .f32⟩
  | .hbm, ⟨3, _⟩ => ⟨S4096x3840, .f32⟩
  | .hbm, ⟨4, _⟩ => ⟨S_, .f32⟩
  | .hbm, ⟨5, _⟩ => ⟨S1024x3840, .f32⟩
  | .hbm, ⟨6, _⟩ => ⟨S4096x3840, .f32⟩
  | .hbm, ⟨7, _⟩ => ⟨S3840x1024, .f32⟩
  | .hbm, ⟨8, _⟩ => ⟨S1024x3840, .f32⟩
  | .hbm, ⟨9, _⟩ => ⟨S3840x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S8x352x1024 : Shape := ⟨3, ![8, 352, 1024]⟩
abbrev S2816x1024 : Shape := ⟨2, ![2816, 1024]⟩
abbrev S4x352x1024 : Shape := ⟨3, ![4, 352, 1024]⟩
abbrev S2048x1408 : Shape := ⟨2, ![2048, 1408]⟩
abbrev S2048x1024 : Shape := ⟨2, ![2048, 1024]⟩
abbrev S1408x1024 : Shape := ⟨2, ![1408, 1024]⟩
abbrev S1x4 : Shape := ⟨2, ![1, 4]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x352x1024, .f32⟩
  | .hbm, ⟨3, _⟩ => ⟨S2816x1024, .f32⟩
  | .hbm, ⟨4, _⟩ => ⟨S4x352x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 1, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_39 : BitVec 32 := 0#32
  let c0_i32_40 : BitVec 32 := 0#32
  ![v33.toNat, 0, 0]
def k0_dev1 (d23 : Dev nD) : Nat :=
  let c0_i32_34 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_33 : BitVec 32 := 4#32
  let v44 : BitVec 32 := Scalar.muli v25 c4_i32_33
  let v45 : BitVec 32 := Scalar.addi c0_i32_34 v44
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_35 : BitVec 32 := 2#32
  let v46 : BitVec 32 := Scalar.muli v28 c2_i32_35
  let v47 : BitVec 32 := Scalar.addi v45 v46
  let c1_i32_19 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v34 : BitVec 32 := Scalar.subi c1_i32_19 v31
  let c1_i32_36 : BitVec 32 := 1#32
  let v48 : BitVec 32 := Scalar.muli v34 c1_i32_36
  let v49 : BitVec 32 := Scalar.addi v47 v48
  v49.toNat
def k0_dev2 (d23 : Dev nD) : Nat :=
  let c0_i32_47 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_46 : BitVec 32 := 4#32
  let v58 : BitVec 32 := Scalar.muli v25 c4_i32_46
  let v59 : BitVec 32 := Scalar.addi c0_i32_47 v58
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_48 : BitVec 32 := 2#32
  let v60 : BitVec 32 := Scalar.muli v28 c2_i32_48
  let v61 : BitVec 32 := Scalar.addi v59 v60
  let c1_i32_22 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v37 : BitVec 32 := Scalar.subi c1_i32_22 v31
  let c1_i32_49 : BitVec 32 := 1#32
  let v62 : BitVec 32 := Scalar.muli v37 c1_i32_49
  let v63 : BitVec 32 := Scalar.addi v61 v62
  v63.toNat
def k0_dev3 (d23 : Dev nD) : Nat :=
  let c0_i32_60 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_59 : BitVec 32 := 4#32
  let v72 : BitVec 32 := Scalar.muli v25 c4_i32_59
  let v73 : BitVec 32 := Scalar.addi c0_i32_60 v72
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_61 : BitVec 32 := 2#32
  let v74 : BitVec 32 := Scalar.muli v28 c2_i32_61
  let v75 : BitVec 32 := Scalar.addi v73 v74
  let c1_i32_25 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v40 : BitVec 32 := Scalar.subi c1_i32_25 v31
  let c1_i32_62 : BitVec 32 := 1#32
  let v76 : BitVec 32 := Scalar.muli v40 c1_i32_62
  let v77 : BitVec 32 := Scalar.addi v75 v76
  v77.toNat
def k0_dev4 (d23 : Dev nD) : Nat :=
  let c0_i32_73 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_72 : BitVec 32 := 4#32
  let v86 : BitVec 32 := Scalar.muli v25 c4_i32_72
  let v87 : BitVec 32 := Scalar.addi c0_i32_73 v86
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_74 : BitVec 32 := 2#32
  let v88 : BitVec 32 := Scalar.muli v28 c2_i32_74
  let v89 : BitVec 32 := Scalar.addi v87 v88
  let c1_i32_27 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v43 : BitVec 32 := Scalar.subi c1_i32_27 v31
  let c1_i32_75 : BitVec 32 := 1#32
  let v90 : BitVec 32 := Scalar.muli v43 c1_i32_75
  let v91 : BitVec 32 := Scalar.addi v89 v90
  v91.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c3_i32 : BitVec 32 := 3#32
  let v20 : BitVec 1 := Scalar.cmpi .eq v4 c3_i32
  let v21 : BitVec 32 := Scalar.extui v20
  let c0_i32_11 : BitVec 32 := 0#32
  let v22 : BitVec 1 := Scalar.cmpi .ne v21 c0_i32_11
  v22

def k0_off2 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_34 : BitVec 32 := 0#32
  let c0_i32_35 : BitVec 32 := 0#32
  ![v33.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S32768x2816 : Shape := ⟨2, ![32768, 2816]⟩
abbrev S32768x1024 : Shape := ⟨2, ![32768, 1024]⟩
abbrev S64x352x1024 : Shape := ⟨3, ![64, 352, 1024]⟩
abbrev S8x4096x1024 : Shape := ⟨3, ![8, 4096, 1024]⟩
abbrev S8x4096x2816 : Shape := ⟨3, ![8, 4096, 2816]⟩
abbrev S_ : Shape := ⟨0, ![]⟩
abbrev S8x1024x2816 : Shape := ⟨3, ![8, 1024, 2816]⟩
abbrev S8x2816x1024 : Shape := ⟨3, ![8, 2816, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S22528x1024 : Shape := ⟨2, ![22528, 1024]⟩
abbrev S32x352x1024 : Shape := ⟨3, ![32, 352, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S32768x1024, .bf16⟩
  | .hbm, ⟨2, _⟩ => ⟨S64x352x1024, .f32⟩
  | .hbm, ⟨3, _⟩ => ⟨S32768x1024, .f32⟩
  | .hbm, ⟨4, _⟩ => ⟨S8x4096x1024, .f32⟩
  | .hbm, ⟨5, _⟩ => ⟨S32768x2816, .f32⟩
  | .hbm, ⟨6, _⟩ => ⟨S8x4096x2816, .f32⟩
  | .hbm, ⟨7, _⟩ => ⟨S_, .f32⟩
  | .hbm, ⟨8, _⟩ => ⟨S8x1024x2816, .f32⟩
  | .hbm, ⟨9, _⟩ => ⟨S8x4096x2816, .f32⟩
  | .hbm, ⟨10, _⟩ => ⟨S8x2816x1024, .f32⟩
  | .hbm, ⟨11, _⟩ => ⟨S8x1024x2816, .f32⟩
  | .hbm, ⟨12, _⟩ => ⟨S4x2x4x2x352x1024, .f32⟩
  | .hbm, ⟨13, _⟩ => ⟨S4x1x4x1x352x1024, .f32⟩
  | .hbm, ⟨14, _⟩ => ⟨S4x4x352x1024, .f32⟩
  | .hbm, ⟨15, _⟩ => ⟨S4x1x4x1x352x1024, .f32⟩
  | .hbm, ⟨16, _⟩ => ⟨S4x4x352x1024, .f32⟩
  | .hbm, ⟨17, _⟩ => ⟨S4x1x4x352x1024, .f32⟩
  | .hbm, ⟨18, _⟩ => ⟨S4x1x4x352x1024, .f32⟩
  | .hbm, ⟨19, _⟩ => ⟨S4x2x4x352x1024, .f32⟩
  | .hbm, ⟨20, _⟩ => ⟨S8x2816x1024, .f32⟩
  | .hbm, ⟨21, _⟩ => ⟨S22528x1024, .f32⟩
  | .hbm, ⟨22, _⟩ => ⟨S32x352x1024, .f32⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S8x352x1024 : Shape := ⟨3, ![8, 352, 1024]⟩
abbrev S4x480x1024 : Shape := ⟨3, ![4, 480, 1024]⟩
abbrev S2816x1024 : Shape := ⟨2, ![2816, 1024]⟩
abbrev S4x352x1024 : Shape := ⟨3, ![4, 352, 1024]⟩
abbrev S2048x1408 : Shape := ⟨2, ![2048, 1408]⟩
abbrev S2048x1024 : Shape := ⟨2, ![2048, 1024]⟩
abbrev S1408x1024 : Shape := ⟨2, ![1408, 1024]⟩
abbrev S1x4 : Shape := ⟨2, ![1, 4]⟩
abbrev S1x3 : Shape := ⟨2, ![1, 3]⟩
abbrev S1 : Shape := ⟨1, ![1]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩
abbrev S1x480x1024 : Shape := ⟨3, ![1, 480, 1024]⟩
abbrev S480x1024 : Shape := ⟨2, ![480, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x352x1024, .f32⟩
  | .hbm, ⟨3, _⟩ => ⟨S4x480x1024, .bf16⟩
  | .hbm, ⟨4, _⟩ => ⟨S2816x1024, .f32⟩
  | .hbm, ⟨5, _⟩ => ⟨S4x352x1024, .f32⟩
  | .hbm, ⟨6, _⟩ => ⟨S4x480x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 1, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_39 : BitVec 32 := 0#32
  let c0_i32_40 : BitVec 32 := 0#32
  ![v33.toNat, 0, 0]
def k0_dev1 (d23 : Dev nD) : Nat :=
  let c0_i32_34 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_33 : BitVec 32 := 4#32
  let v44 : BitVec 32 := Scalar.muli v25 c4_i32_33
  let v45 : BitVec 32 := Scalar.addi c0_i32_34 v44
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_35 : BitVec 32 := 2#32
  let v46 : BitVec 32 := Scalar.muli v28 c2_i32_35
  let v47 : BitVec 32 := Scalar.addi v45 v46
  let c1_i32_19 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v34 : BitVec 32 := Scalar.subi c1_i32_19 v31
  let c1_i32_36 : BitVec 32 := 1#32
  let v48 : BitVec 32 := Scalar.muli v34 c1_i32_36
  let v49 : BitVec 32 := Scalar.addi v47 v48
  v49.toNat
def k0_dev2 (d23 : Dev nD) : Nat :=
  let c0_i32_47 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_46 : BitVec 32 := 4#32
  let v58 : BitVec 32 := Scalar.muli v25 c4_i32_46
  let v59 : BitVec 32 := Scalar.addi c0_i32_47 v58
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_48 : BitVec 32 := 2#32
  let v60 : BitVec 32 := Scalar.muli v28 c2_i32_48
  let v61 : BitVec 32 := Scalar.addi v59 v60
  let c1_i32_22 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v37 : BitVec 32 := Scalar.subi c1_i32_22 v31
  let c1_i32_49 : BitVec 32 := 1#32
  let v62 : BitVec 32 := Scalar.muli v37 c1_i32_49
  let v63 : BitVec 32 := Scalar.addi v61 v62
  v63.toNat
def k0_dev3 (d23 : Dev nD) : Nat :=
  let c0_i32_60 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_59 : BitVec 32 := 4#32
  let v72 : BitVec 32 := Scalar.muli v25 c4_i32_59
  let v73 : BitVec 32 := Scalar.addi c0_i32_60 v72
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_61 : BitVec 32 := 2#32
  let v74 : BitVec 32 := Scalar.muli v28 c2_i32_61
  let v75 : BitVec 32 := Scalar.addi v73 v74
  let c1_i32_25 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v40 : BitVec 32 := Scalar.subi c1_i32_25 v31
  let c1_i32_62 : BitVec 32 := 1#32
  let v76 : BitVec 32 := Scalar.muli v40 c1_i32_62
  let v77 : BitVec 32 := Scalar.addi v75 v76
  v77.toNat
def k0_dev4 (d23 : Dev nD) : Nat :=
  let c0_i32_73 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_72 : BitVec 32 := 4#32
  let v86 : BitVec 32 := Scalar.muli v25 c4_i32_72
  let v87 : BitVec 32 := Scalar.addi c0_i32_73 v86
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_74 : BitVec 32 := 2#32
  let v88 : BitVec 32 := Scalar.muli v28 c2_i32_74
  let v89 : BitVec 32 := Scalar.addi v87 v88
  let c1_i32_27 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v43 : BitVec 32 := Scalar.subi c1_i32_27 v31
  let c1_i32_75 : BitVec 32 := 1#32
  let v90 : BitVec 32 := Scalar.muli v43 c1_i32_75
  let v91 : BitVec 32 := Scalar.addi v89 v90
  v91.toNat
def k0_off2 (d23 : Dev nD) : Fin 3 → Nat :=
  let c2_i32_86 : BitVec 32 := 2#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v109 : BitVec 32 := Scalar.muli c2_i32_86 v102
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v110 : BitVec 32 := Scalar.addi v109 v105
  let c0_i32_95 : BitVec 32 := 0#32
  let c0_i32_96 : BitVec 32 := 0#32
  ![v110.toNat, 0, 0]
def k0_off3 (d23 : Dev nD) : Fin 3 → Nat :=
  let c2_i32_91 : BitVec 32 := 2#32
  let c1_i32_87 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v111 : BitVec 32 := Scalar.subi c1_i32_87 v102
  let v115 : BitVec 32 := Scalar.muli c2_i32_91 v111
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v116 : BitVec 32 := Scalar.addi v115 v105
  let c0_i32_109 : BitVec 32 := 0#32
  let c0_i32_110 : BitVec 32 := 0#32
  ![v116.toNat, 0, 0]
def k0_dev5 (d23 : Dev nD) : Nat :=
  let c0_i32_104 : BitVec 32 := 0#32
  let c1_i32_87 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v111 : BitVec 32 := Scalar.subi c1_i32_87 v102
  let c4_i32_103 : BitVec 32 := 4#32
  let v127 : BitVec 32 := Scalar.muli v111 c4_i32_103
  let v128 : BitVec 32 := Scalar.addi c0_i32_104 v127
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let c2_i32_105 : BitVec 32 := 2#32
  let v129 : BitVec 32 := Scalar.muli v105 c2_i32_105
  let v130 : BitVec 32 := Scalar.addi v128 v129
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_106 : BitVec 32 := 1#32
  let v131 : BitVec 32 := Scalar.muli v108 c1_i32_106
  let v132 : BitVec 32 := Scalar.addi v130 v131
  v132.toNat
def k0_off4 (d23 : Dev nD) : Fin 3 → Nat :=
  let c2_i32_92 : BitVec 32 := 2#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v117 : BitVec 32 := Scalar.muli c2_i32_92 v102
  let c1_i32_88 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v112 : BitVec 32 := Scalar.subi c1_i32_88 v105
  let v118 : BitVec 32 := Scalar.addi v117 v112
  let c0_i32_121 : BitVec 32 := 0#32
  let c0_i32_122 : BitVec 32 := 0#32
  ![v118.toNat, 0, 0]
def k0_dev6 (d23 : Dev nD) : Nat :=
  let c0_i32_116 : BitVec 32 := 0#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let c4_i32_115 : BitVec 32 := 4#32
  let v141 : BitVec 32 := Scalar.muli v102 c4_i32_115
  let v142 : BitVec 32 := Scalar.addi c0_i32_116 v141
  let c1_i32_88 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v112 : BitVec 32 := Scalar.subi c1_i32_88 v105
  let c2_i32_117 : BitVec 32 := 2#32
  let v143 : BitVec 32 := Scalar.muli v112 c2_i32_117
  let v144 : BitVec 32 := Scalar.addi v142 v143
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_118 : BitVec 32 := 1#32
  let v145 : BitVec 32 := Scalar.muli v108 c1_i32_118
  let v146 : BitVec 32 := Scalar.addi v144 v145
  v146.toNat
def k0_off5 (d23 : Dev nD) : Fin 3 → Nat :=
  let c2_i32_93 : BitVec 32 := 2#32
  let c1_i32_89 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v113 : BitVec 32 := Scalar.subi c1_i32_89 v102
  let v119 : BitVec 32 := Scalar.muli c2_i32_93 v113
  let c1_i32_90 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v114 : BitVec 32 := Scalar.subi c1_i32_90 v105
  let v120 : BitVec 32 := Scalar.addi v119 v114
  let c0_i32_133 : BitVec 32 := 0#32
  let c0_i32_134 : BitVec 32 := 0#32
  ![v120.toNat, 0, 0]
def k0_dev7 (d23 : Dev nD) : Nat :=
  let c0_i32_128 : BitVec 32 := 0#32
  let c1_i32_89 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v113 : BitVec 32 := Scalar.subi c1_i32_89 v102
  let c4_i32_127 : BitVec 32 := 4#32
  let v155 : BitVec 32 := Scalar.muli v113 c4_i32_127
  let v156 : BitVec 32 := Scalar.addi c0_i32_128 v155
  let c1_i32_90 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v114 : BitVec 32 := Scalar.subi c1_i32_90 v105
  let c2_i32_129 : BitVec 32 := 2#32
  let v157 : BitVec 32 := Scalar.muli v114 c2_i32_129
  let v158 : BitVec 32 := Scalar.addi v156 v157
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_130 : BitVec 32 := 1#32
  let v159 : BitVec 32 := Scalar.muli v108 c1_i32_130
  let v160 : BitVec 32 := Scalar.addi v158 v159
  v160.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c3_i32 : BitVec 32 := 3#32
  let v20 : BitVec 1 := Scalar.cmpi .eq v4 c3_i32
  let v21 : BitVec 32 := Scalar.extui v20
  let c0_i32_11 : BitVec 32 := 0#32
  let v22 : BitVec 1 := Scalar.cmpi .ne v21 c0_i32_11
  v22

def k0_off6 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_34 : BitVec 32 := 0#32
  let c0_i32_35 : BitVec 32 := 0#32
  ![v33.toNat, 0, 0]
def k0_off7 (d23 : Dev nD) : Fin 3 → Nat :=
  let c2_i32_134 : BitVec 32 := 2#32
  let c1_i32_127 : BitVec 32 := 1#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v127 : BitVec 32 := Scalar.subi c1_i32_127 v118
  let v137 : BitVec 32 := Scalar.muli c2_i32_134 v127
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v138 : BitVec 32 := Scalar.addi v137 v121
  let c0_i32_145 : BitVec 32 := 0#32
  let c0_i32_146 : BitVec 32 := 0#32
  ![v138.toNat, 0, 0]
def k0_off8 (d23 : Dev nD) : Fin 3 → Nat :=
  let c2_i32_126 : BitVec 32 := 2#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v125 : BitVec 32 := Scalar.muli c2_i32_126 v118
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v126 : BitVec 32 := Scalar.addi v125 v121
  let c0_i32_147 : BitVec 32 := 0#32
  let c0_i32_148 : BitVec 32 := 0#32
  ![v126.toNat, 0, 0]
def k0_off9 (d23 : Dev nD) : Fin 3 → Nat :=
  let c2_i32_135 : BitVec 32 := 2#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v139 : BitVec 32 := Scalar.muli c2_i32_135 v118
  let c1_i32_128 : BitVec 32 := 1#32
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v128 : BitVec 32 := Scalar.subi c1_i32_128 v121
  let v140 : BitVec 32 := Scalar.addi v139 v128
  let c0_i32_157 : BitVec 32 := 0#32
  let c0_i32_158 : BitVec 32 := 0#32
  ![v140.toNat, 0, 0]
def k0_off10 (d23 : Dev nD) : Fin 3 → Nat :=
  let c2_i32_136 : BitVec 32 := 2#32
  let c1_i32_129 : BitVec 32 := 1#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v129 : BitVec 32 := Scalar.subi c1_i32_129 v118
  let v141 : BitVec 32 := Scalar.muli c2_i32_136 v129
  let c1_i32_130 : BitVec 32 := 1#32
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v130 : BitVec 32 := Scalar.subi c1_i32_130 v121
  let v142 : BitVec 32 := Scalar.addi v141 v130
  let c0_i32_169 : BitVec 32 := 0#32
  let c0_i32_170 : BitVec 32 := 0#32
  ![v142.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S32768x2816 : Shape := ⟨2, ![32768, 2816]⟩
abbrev S32768x1024 : Shape := ⟨2, ![32768, 1024]⟩
abbrev S64x352x1024 : Shape := ⟨3, ![64, 352, 1024]⟩
abbrev S32x480x1024 : Shape := ⟨3, ![32, 480, 1024]⟩
abbrev S8x4096x1024 : Shape := ⟨3, ![8, 4096, 1024]⟩
abbrev S8x4096x2816 : Shape := ⟨3, ![8, 4096, 2816]⟩
abbrev S_ : Shape := ⟨0, ![]⟩
abbrev S8x1024x2816 : Shape := ⟨3, ![8, 1024, 2816]⟩
abbrev S8x2816x1024 : Shape := ⟨3, ![8, 2816, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S22528x1024 : Shape := ⟨2, ![22528, 1024]⟩
abbrev S32x352x1024 : Shape := ⟨3, ![32, 352, 1024]⟩
abbrev S4x2x4x480x1024 : Shape := ⟨5, ![4, 2, 4, 480, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S32768x1024, .bf16⟩
  | .hbm, ⟨2, _⟩ => ⟨S64x352x1024, .f32⟩
  | .hbm, ⟨3, _⟩ => ⟨S32x480x1024, .bf16⟩
  | .hbm, ⟨4, _⟩ => ⟨S32768x1024, .f32⟩
  | .hbm, ⟨5, _⟩ => ⟨S8x4096x1024, .f32⟩
  | .hbm, ⟨6, _⟩ => ⟨S32768x2816, .f32⟩
  | .hbm, ⟨7, _⟩ => ⟨S8x4096x2816, .f32⟩
  | .hbm, ⟨8, _⟩ => ⟨S_, .f32⟩
  | .hbm, ⟨9, _⟩ => ⟨S8x1024x2816, .f32⟩
  | .hbm, ⟨10, _⟩ => ⟨S8x4096x2816, .f32⟩
  | .hbm, ⟨11, _⟩ => ⟨S8x2816x1024, .f32⟩
  | .hbm, ⟨12, _⟩ => ⟨S8x1024x2816, .f32⟩
  | .hbm, ⟨13, _⟩ => ⟨S4x2x4x2x352x1024, .f32⟩
  | .hbm, ⟨14, _⟩ => ⟨S4x1x4x1x352x1024, .f32⟩
  | .hbm, ⟨15, _⟩ => ⟨S4x4x352x1024, .f32⟩
  | .hbm, ⟨16, _⟩ => ⟨S4x1x4x1x352x1024, .f32⟩
  | .hbm, ⟨17, _⟩ => ⟨S4x4x352x1024, .f32⟩
  | .hbm, ⟨18, _⟩ => ⟨S4x1x4x352x1024, .f32⟩
  | .hbm, ⟨19, _⟩ => ⟨S4x1x4x352x1024, .f32⟩
  | .hbm, ⟨20, _⟩ => ⟨S4x2x4x352x1024, .f32⟩
  | .hbm, ⟨21, _⟩ => ⟨S8x2816x1024, .f32⟩
  | .hbm, ⟨22, _⟩ => ⟨S22528x1024, .f32⟩
  | .hbm, ⟨23, _⟩ => ⟨S32x352x1024, .f32⟩
  | .hbm, ⟨24, _⟩ => ⟨S4x2x4x480x1024, .bf16⟩
  | .hbm, ⟨25, _⟩ => ⟨S4x2x4x480x1024, .bf16⟩
  | .hbm, ⟨26, _⟩ => ⟨S32x480x1024, .bf16⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S8x352x1024 : Shape := ⟨3, ![8, 352, 1024]⟩
abbrev S4x352x1024 : Shape := ⟨3, ![4, 352, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S1x4 : Shape := ⟨2, ![1, 4]⟩
abbrev S1x3 : Shape := ⟨2, ![1, 3]⟩
abbrev S1 : Shape := ⟨1, ![1]⟩
abbrev S1x1 : Shape := ⟨2, ![1, 1]⟩
abbrev S_ : Shape := ⟨0, ![]⟩
abbrev S1x352x1024 : Shape := ⟨3, ![1, 352, 1024]⟩
abbrev S352x1024 : Shape := ⟨2, ![352, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x352x1024, .f32⟩
  | .hbm, ⟨3, _⟩ => ⟨S4x352x1024, .bf16⟩
  | .hbm, ⟨4, _⟩ => ⟨S2816x1024, .f32⟩
  | .hbm, ⟨5, _⟩ => ⟨S4x352x1024, .f32⟩
  | .hbm, ⟨6, _⟩ => ⟨S4x352x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 1, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_39 : BitVec 32 := 0#32
  let c0_i32_40 : BitVec 32 := 0#32
  ![v33.toNat, 0, 0]
def k0_dev1 (d23 : Dev nD) : Nat :=
  let c0_i32_34 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_33 : BitVec 32 := 4#32
  let v44 : BitVec 32 := Scalar.muli v25 c4_i32_33
  let v45 : BitVec 32 := Scalar.addi c0_i32_34 v44
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_35 : BitVec 32 := 2#32
  let v46 : BitVec 32 := Scalar.muli v28 c2_i32_35
  let v47 : BitVec 32 := Scalar.addi v45 v46
  let c1_i32_19 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v34 : BitVec 32 := Scalar.subi c1_i32_19 v31
  let c1_i32_36 : BitVec 32 := 1#32
  let v48 : BitVec 32 := Scalar.muli v34 c1_i32_36
  let v49 : BitVec 32 := Scalar.addi v47 v48
  v49.toNat
def k0_dev2 (d23 : Dev nD) : Nat :=
  let c0_i32_47 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_46 : BitVec 32 := 4#32
  let v58 : BitVec 32 := Scalar.muli v25 c4_i32_46
  let v59 : BitVec 32 := Scalar.addi c0_i32_47 v58
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_48 : BitVec 32 := 2#32
  let v60 : BitVec 32 := Scalar.muli v28 c2_i32_48
  let v61 : BitVec 32 := Scalar.addi v59 v60
  let c1_i32_22 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v37 : BitVec 32 := Scalar.subi c1_i32_22 v31
  let c1_i32_49 : BitVec 32 := 1#32
  let v62 : BitVec 32 := Scalar.muli v37 c1_i32_49
  let v63 : BitVec 32 := Scalar.addi v61 v62
  v63.toNat
def k0_dev3 (d23 : Dev nD) : Nat :=
  let c0_i32_60 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_59 : BitVec 32 := 4#32
  let v72 : BitVec 32 := Scalar.muli v25 c4_i32_59
  let v73 : BitVec 32 := Scalar.addi c0_i32_60 v72
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_61 : BitVec 32 := 2#32
  let v74 : BitVec 32 := Scalar.muli v28 c2_i32_61
  let v75 : BitVec 32 := Scalar.addi v73 v74
  let c1_i32_25 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v40 : BitVec 32 := Scalar.subi c1_i32_25 v31
  let c1_i32_62 : BitVec 32 := 1#32
  let v76 : BitVec 32 := Scalar.muli v40 c1_i32_62
  let v77 : BitVec 32 := Scalar.addi v75 v76
  v77.toNat
def k0_dev4 (d23 : Dev nD) : Nat :=
  let c0_i32_73 : BitVec 32 := 0#32
  let v23 : BitVec 32 := Dev.word d23
  let c4_i32 : BitVec 32 := 4#32
  let v24 : BitVec 32 := Scalar.divsi v23 c4_i32
  let c2_i32_12 : BitVec 32 := 2#32
  let v25 : BitVec 32 := Scalar.remsi v24 c2_i32_12
  let c4_i32_72 : BitVec 32 := 4#32
  let v86 : BitVec 32 := Scalar.muli v25 c4_i32_72
  let v87 : BitVec 32 := Scalar.addi c0_i32_73 v86
  let v26 : BitVec 32 := Dev.word d23
  let c2_i32_14 : BitVec 32 := 2#32
  let v27 : BitVec 32 := Scalar.divsi v26 c2_i32_14
  let c2_i32_13 : BitVec 32 := 2#32
  let v28 : BitVec 32 := Scalar.remsi v27 c2_i32_13
  let c2_i32_74 : BitVec 32 := 2#32
  let v88 : BitVec 32 := Scalar.muli v28 c2_i32_74
  let v89 : BitVec 32 := Scalar.addi v87 v88
  let c1_i32_27 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v43 : BitVec 32 := Scalar.subi c1_i32_27 v31
  let c1_i32_75 : BitVec 32 := 1#32
  let v90 : BitVec 32 := Scalar.muli v43 c1_i32_75
  let v91 : BitVec 32 := Scalar.addi v89 v90
  v91.toNat
def k0_off2 (d23 : Dev nD) : Fin 3 → Nat :=
  let c2_i32_86 : BitVec 32 := 2#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v109 : BitVec 32 := Scalar.muli c2_i32_86 v102
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v110 : BitVec 32 := Scalar.addi v109 v105
  let c0_i32_95 : BitVec 32 := 0#32
  let c0_i32_96 : BitVec 32 := 0#32
  ![v110.toNat, 0, 0]
def k0_off3 (d23 : Dev nD) : Fin 3 → Nat :=
  let c2_i32_91 : BitVec 32 := 2#32
  let c1_i32_87 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v111 : BitVec 32 := Scalar.subi c1_i32_87 v102
  let v115 : BitVec 32 := Scalar.muli c2_i32_91 v111
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v116 : BitVec 32 := Scalar.addi v115 v105
  let c0_i32_109 : BitVec 32 := 0#32
  let c0_i32_110 : BitVec 32 := 0#32
  ![v116.toNat, 0, 0]
def k0_dev5 (d23 : Dev nD) : Nat :=
  let c0_i32_104 : BitVec 32 := 0#32
  let c1_i32_87 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v111 : BitVec 32 := Scalar.subi c1_i32_87 v102
  let c4_i32_103 : BitVec 32 := 4#32
  let v127 : BitVec 32 := Scalar.muli v111 c4_i32_103
  let v128 : BitVec 32 := Scalar.addi c0_i32_104 v127
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let c2_i32_105 : BitVec 32 := 2#32
  let v129 : BitVec 32 := Scalar.muli v105 c2_i32_105
  let v130 : BitVec 32 := Scalar.addi v128 v129
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_106 : BitVec 32 := 1#32
  let v131 : BitVec 32 := Scalar.muli v108 c1_i32_106
  let v132 : BitVec 32 := Scalar.addi v130 v131
  v132.toNat
def k0_off4 (d23 : Dev nD) : Fin 3 → Nat :=
  let c2_i32_92 : BitVec 32 := 2#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v117 : BitVec 32 := Scalar.muli c2_i32_92 v102
  let c1_i32_88 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v112 : BitVec 32 := Scalar.subi c1_i32_88 v105
  let v118 : BitVec 32 := Scalar.addi v117 v112
  let c0_i32_121 : BitVec 32 := 0#32
  let c0_i32_122 : BitVec 32 := 0#32
  ![v118.toNat, 0, 0]
def k0_dev6 (d23 : Dev nD) : Nat :=
  let c0_i32_116 : BitVec 32 := 0#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let c4_i32_115 : BitVec 32 := 4#32
  let v141 : BitVec 32 := Scalar.muli v102 c4_i32_115
  let v142 : BitVec 32 := Scalar.addi c0_i32_116 v141
  let c1_i32_88 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v112 : BitVec 32 := Scalar.subi c1_i32_88 v105
  let c2_i32_117 : BitVec 32 := 2#32
  let v143 : BitVec 32 := Scalar.muli v112 c2_i32_117
  let v144 : BitVec 32 := Scalar.addi v142 v143
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_118 : BitVec 32 := 1#32
  let v145 : BitVec 32 := Scalar.muli v108 c1_i32_118
  let v146 : BitVec 32 := Scalar.addi v144 v145
  v146.toNat
def k0_off5 (d23 : Dev nD) : Fin 3 → Nat :=
  let c2_i32_93 : BitVec 32 := 2#32
  let c1_i32_89 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v113 : BitVec 32 := Scalar.subi c1_i32_89 v102
  let v119 : BitVec 32 := Scalar.muli c2_i32_93 v113
  let c1_i32_90 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v114 : BitVec 32 := Scalar.subi c1_i32_90 v105
  let v120 : BitVec 32 := Scalar.addi v119 v114
  let c0_i32_133 : BitVec 32 := 0#32
  let c0_i32_134 : BitVec 32 := 0#32
  ![v120.toNat, 0, 0]
def k0_dev7 (d23 : Dev nD) : Nat :=
  let c0_i32_128 : BitVec 32 := 0#32
  let c1_i32_89 : BitVec 32 := 1#32
  let v100 : BitVec 32 := Dev.word d23
  let c4_i32_81 : BitVec 32 := 4#32
  let v101 : BitVec 32 := Scalar.divsi v100 c4_i32_81
  let c2_i32_80 : BitVec 32 := 2#32
  let v102 : BitVec 32 := Scalar.remsi v101 c2_i32_80
  let v113 : BitVec 32 := Scalar.subi c1_i32_89 v102
  let c4_i32_127 : BitVec 32 := 4#32
  let v155 : BitVec 32 := Scalar.muli v113 c4_i32_127
  let v156 : BitVec 32 := Scalar.addi c0_i32_128 v155
  let c1_i32_90 : BitVec 32 := 1#32
  let v103 : BitVec 32 := Dev.word d23
  let c2_i32_83 : BitVec 32 := 2#32
  let v104 : BitVec 32 := Scalar.divsi v103 c2_i32_83
  let c2_i32_82 : BitVec 32 := 2#32
  let v105 : BitVec 32 := Scalar.remsi v104 c2_i32_82
  let v114 : BitVec 32 := Scalar.subi c1_i32_90 v105
  let c2_i32_129 : BitVec 32 := 2#32
  let v157 : BitVec 32 := Scalar.muli v114 c2_i32_129
  let v158 : BitVec 32 := Scalar.addi v156 v157
  let v106 : BitVec 32 := Dev.word d23
  let c1_i32_85 : BitVec 32 := 1#32
  let v107 : BitVec 32 := Scalar.divsi v106 c1_i32_85
  let c2_i32_84 : BitVec 32 := 2#32
  let v108 : BitVec 32 := Scalar.remsi v107 c2_i32_84
  let c1_i32_130 : BitVec 32 := 1#32
  let v159 : BitVec 32 := Scalar.muli v108 c1_i32_130
  let v160 : BitVec 32 := Scalar.addi v158 v159
  v160.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c1_i32 : BitVec 32 := 1#32
  let v1 : BitVec 32 := Scalar.muli v0 c1_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c3_i32 : BitVec 32 := 3#32
  let v20 : BitVec 1 := Scalar.cmpi .eq v4 c3_i32
  let v21 : BitVec 32 := Scalar.extui v20
  let c0_i32_11 : BitVec 32 := 0#32
  let v22 : BitVec 1 := Scalar.cmpi .ne v21 c0_i32_11
  v22

def k0_off6 (d23 : Dev nD) (c0_i32_18 : BitVec 32) : Fin 3 → Nat :=
  let c1_i32_17 : BitVec 32 := 1#32
  let v29 : BitVec 32 := Dev.word d23
  let c1_i32_16 : BitVec 32 := 1#32
  let v30 : BitVec 32 := Scalar.divsi v29 c1_i32_16
  let c2_i32_15 : BitVec 32 := 2#32
  let v31 : BitVec 32 := Scalar.remsi v30 c2_i32_15
  let v32 : BitVec 32 := Scalar.subi c1_i32_17 v31
  let v33 : BitVec 32 := Scalar.addi c0_i32_18 v32
  let c0_i32_34 : BitVec 32 := 0#32
  let c0_i32_35 : BitVec 32 := 0#32
  ![v33.toNat, 0, 0]
def k0_off7 (d23 : Dev nD) : Fin 3 → Nat :=
  let c2_i32_134 : BitVec 32 := 2#32
  let c1_i32_127 : BitVec 32 := 1#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v127 : BitVec 32 := Scalar.subi c1_i32_127 v118
  let v137 : BitVec 32 := Scalar.muli c2_i32_134 v127
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v138 : BitVec 32 := Scalar.addi v137 v121
  let c0_i32_145 : BitVec 32 := 0#32
  let c0_i32_146 : BitVec 32 := 0#32
  ![v138.toNat, 0, 0]
def k0_off8 (d23 : Dev nD) : Fin 3 → Nat :=
  let c2_i32_126 : BitVec 32 := 2#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v125 : BitVec 32 := Scalar.muli c2_i32_126 v118
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v126 : BitVec 32 := Scalar.addi v125 v121
  let c0_i32_147 : BitVec 32 := 0#32
  let c0_i32_148 : BitVec 32 := 0#32
  ![v126.toNat, 0, 0]
def k0_off9 (d23 : Dev nD) : Fin 3 → Nat :=
  let c2_i32_135 : BitVec 32 := 2#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v139 : BitVec 32 := Scalar.muli c2_i32_135 v118
  let c1_i32_128 : BitVec 32 := 1#32
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v128 : BitVec 32 := Scalar.subi c1_i32_128 v121
  let v140 : BitVec 32 := Scalar.addi v139 v128
  let c0_i32_157 : BitVec 32 := 0#32
  let c0_i32_158 : BitVec 32 := 0#32
  ![v140.toNat, 0, 0]
def k0_off10 (d23 : Dev nD) : Fin 3 → Nat :=
  let c2_i32_136 : BitVec 32 := 2#32
  let c1_i32_129 : BitVec 32 := 1#32
  let v116 : BitVec 32 := Dev.word d23
  let c4_i32_121 : BitVec 32 := 4#32
  let v117 : BitVec 32 := Scalar.divsi v116 c4_i32_121
  let c2_i32_120 : BitVec 32 := 2#32
  let v118 : BitVec 32 := Scalar.remsi v117 c2_i32_120
  let v129 : BitVec 32 := Scalar.subi c1_i32_129 v118
  let v141 : BitVec 32 := Scalar.muli c2_i32_136 v129
  let c1_i32_130 : BitVec 32 := 1#32
  let v119 : BitVec 32 := Dev.word d23
  let c2_i32_123 : BitVec 32 := 2#32
  let v120 : BitVec 32 := Scalar.divsi v119 c2_i32_123
  let c2_i32_122 : BitVec 32 := 2#32
  let v121 : BitVec 32 := Scalar.remsi v120 c2_i32_122
  let v130 : BitVec 32 := Scalar.subi c1_i32_130 v121
  let v142 : BitVec 32 := Scalar.addi v141 v130
  let c0_i32_169 : BitVec 32 := 0#32
  let c0_i32_170 : BitVec 32 := 0#32
  ![v142.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S32768x2816 : Shape := ⟨2, ![32768, 2816]⟩
abbrev S32768x1024 : Shape := ⟨2, ![32768, 1024]⟩
abbrev S64x352x1024 : Shape := ⟨3, ![64, 352, 1024]⟩
abbrev S32x352x1024 : Shape := ⟨3, ![32, 352, 1024]⟩
abbrev S8x4096x2816 : Shape := ⟨3, ![8, 4096, 2816]⟩
abbrev S8x4096x1024 : Shape := ⟨3, ![8, 4096, 1024]⟩
abbrev S_ : Shape := ⟨0, ![]⟩
abbrev S8x2816x1024 : Shape := ⟨3, ![8, 2816, 1024]⟩
abbrev S8x1024x2816 : Shape := ⟨3, ![8, 1024, 2816]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S22528x1024 : Shape := ⟨2, ![22528, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S32768x1024, .bf16⟩
  | .hbm, ⟨2, _⟩ => ⟨S64x352x1024, .f32⟩
  | .hbm, ⟨3, _⟩ => ⟨S32x352x1024, .bf16⟩
  | .hbm, ⟨4, _⟩ => ⟨S32768x2816, .f32⟩
  | .hbm, ⟨5, _⟩ => ⟨S8x4096x2816, .f32⟩
  | .hbm, ⟨6, _⟩ => ⟨S32768x1024, .f32⟩
  | .hbm, ⟨7, _⟩ => ⟨S8x4096x1024, .f32⟩
  | .hbm, ⟨8, _⟩ => ⟨S_, .f32⟩
  | .hbm, ⟨9, _⟩ => ⟨S8x2816x1024, .f32⟩
  | .hbm, ⟨10, _⟩ => ⟨S8x4096x1024, .f32⟩
  | .hbm, ⟨11, _⟩ => ⟨S8x1024x2816, .f32⟩
  | .hbm, ⟨12, _⟩ => ⟨S8x2816x1024, .f32⟩
  | .hbm, ⟨13, _⟩ => ⟨S4x2x4x2x352x1024, .f32⟩
  | .hbm, ⟨14, _⟩ => ⟨S4x1x4x1x352x1024, .f32⟩
  | .hbm, ⟨15, _⟩ => ⟨S4x4x352x1024, .f32⟩
  | .hbm, ⟨16, _⟩ => ⟨S4x1x4x1x352x1024, .f32⟩
  | .hbm, ⟨17, _⟩ => ⟨S4x4x352x1024, .f32⟩
  | .hbm, ⟨18, _⟩ => ⟨S4x1x4x352x1024, .f32⟩
  | .hbm, ⟨19, _⟩ => ⟨S4x1x4x352x1024, .f32⟩
  | .hbm, ⟨20, _⟩ => ⟨S4x2x4x352x1024, .f32⟩
  | .hbm, ⟨21, _⟩ => ⟨S4x2x4x352x1024, .bf16⟩
  | .hbm, ⟨22, _⟩ => ⟨S4x2x4x352x1024, .bf16⟩
  | .hbm, ⟨23, _⟩ => ⟨S22528x1024, .f32⟩
  | .hbm, ⟨24, _⟩ => ⟨S32x352x1024, .f32⟩
  | .hbm, ⟨25, _⟩ => ⟨S32x352x1024, .bf16⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel7.lean ====
abbrev S16x1024 : Shape := ⟨2, ![16, 1024]⟩
abbrev S16x1152 : Shape := ⟨2, ![16, 1152]⟩
abbrev S1024x1152 : Shape := ⟨2, ![1024, 1152]⟩
abbrev S16x256 : Shape := ⟨2, ![16, 256]⟩
abbrev S256x1152 : Shape := ⟨2, ![256, 1152]⟩

abbrev nBuf : Space → Nat
  | .hbm => 9
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S16x256, .f32⟩
  | .local _ .vmem, ⟨1, _⟩ => ⟨S16x256, .f32⟩
  | .local _ .vmem, ⟨2, _⟩ => ⟨S16x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16x1024 : Shape := ⟨2, ![16, 1024]⟩
abbrev S16x1152 : Shape := ⟨2, ![16, 1152]⟩
abbrev S1024x1152 : Shape := ⟨2, ![1024, 1152]⟩
abbrev S_ : Shape := ⟨0, ![]⟩
abbrev S1152x1024 : Shape := ⟨2, ![1152, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1152, .f32⟩
  | .hbm, ⟨15, _⟩ => ⟨S1152x1024, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel8.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S2x8x1024 : Shape := ⟨3, ![2, 8, 1024]⟩
abbrev S2x9216 : Shape := ⟨2, ![2, 9216]⟩
abbrev S1x1024 : Shape := ⟨2, ![1, 1024]⟩
abbrev S2x9x1024 : Shape := ⟨3, ![2, 9, 1024]⟩
abbrev S8x1024 : Shape := ⟨2, ![8, 1024]⟩
abbrev S1x1x1024 : Shape := ⟨3, ![1, 1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x8x1024, .f32⟩
  | .hbm, ⟨1, _⟩ => ⟨S2x8x1024, .f32⟩
  | .hbm, ⟨2, _⟩ => ⟨S2x8x1024, .f32⟩
  | .hbm, ⟨3, _⟩ => ⟨S2x8x1024, .f32⟩
  | .hbm, ⟨4, _⟩ => ⟨S2x9216, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2x9x1024, .f32⟩
  | .hbm, ⟨9, _⟩ => ⟨S2x9x1024, .f32⟩
  | .hbm, ⟨10, _⟩ => ⟨S8x1024, .f32⟩
  | .local _ .vmem, ⟨0, _⟩ => ⟨S2x8x1024, .f32⟩
  | .local _ .vmem, ⟨1, _⟩ => ⟨S2x8x1024, .f32⟩
  | .local _ .vmem, ⟨2, _⟩ => ⟨S2x8x1024, .f32⟩
  | .local _ .vmem, ⟨3, _⟩ => ⟨S2x8x1024, .f32⟩
  | .local _ .vmem, ⟨4, _⟩ => ⟨S2x9x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2x9x1024, .f32⟩
  | .local _ .vmem, ⟨9, _⟩ => ⟨S8x1024, .f32⟩
  | _, _ => ⟨S2x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x9x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x9x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S2x8x1024 : Shape := ⟨3, ![2, 8, 1024]⟩
abbrev S2x9216 : Shape := ⟨2, ![2, 9216]⟩
abbrev S1x1024 : Shape := ⟨2, ![1, 1024]⟩
abbrev S2x1x1024 : Shape := ⟨3, ![2, 1, 1024]⟩
abbrev S2x1024 : Shape := ⟨2, ![2, 1024]⟩
abbrev S_ : Shape := ⟨0, ![]⟩
abbrev S1024 : Shape := ⟨1, ![1024]⟩
abbrev S2x9x1024 : Shape := ⟨3, ![2, 9, 1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x8x1024, .f32⟩
  | .hbm, ⟨1, _⟩ => ⟨S2x8x1024, .f32⟩
  | .hbm, ⟨2, _⟩ => ⟨S2x8x1024, .f32⟩
  | .hbm, ⟨3, _⟩ => ⟨S2x8x1024, .f32⟩
  | .hbm, ⟨4, _⟩ => ⟨S2x9216, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S_, .f32⟩
  | .hbm, ⟨36, _⟩ => ⟨S2x1024, .f32⟩
  | .hbm, ⟨37, _⟩ => ⟨S2x1024, .f32⟩
  | .hbm, ⟨38, _⟩ => ⟨S2x1024, .f32⟩
  | .hbm, ⟨39, _⟩ => ⟨S2x1024, .f32⟩
  | .hbm, ⟨40, _⟩ => ⟨S_, .f32⟩
  | .hbm, ⟨41, _⟩ => ⟨S2x1024, .f32⟩
  | .hbm, ⟨42, _⟩ => ⟨S2x1024, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S2x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2x1024, .f32⟩
  | .hbm, ⟨63, _⟩ => ⟨S2x1024, .f32⟩
  | .hbm, ⟨64, _⟩ => ⟨S2x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2x9216, .f32⟩
  | .hbm, ⟨69, _⟩ => ⟨S2x9x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S2x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Proof.Spec.lean ====
/- One row of the half step over the real numbers: the normalised and modulated row, the two hidden rows, their
   gated product, the row that comes out, and the gradients of all of them from the gradient of the row that comes out. -/
module

public import Idealize.ShloMosaic.PureOps.Ideal
public import Mathlib.Tactic.Ring
public import Mathlib.Tactic.Positivity
public import Mathlib.Tactic.FieldSimp
public import Mathlib.Tactic.Linarith

@[expose] public section

noncomputable section

namespace Cert.Half

open scoped BigOperators

/-- What every row of one sequence shares: shift, scale and gate of the modulation, the gain, the three matrices. -/
structure Par where
  sh : Fin 1024 → ℝ
  sc : Fin 1024 → ℝ
  ga : Fin 1024 → ℝ
  g : Fin 1024 → ℝ
  wg : Fin 2816 → Fin 1024 → ℝ
  wu : Fin 2816 → Fin 1024 → ℝ
  wd : Fin 2816 → Fin 1024 → ℝ

/-- The small number under the root, as the single-precision constant has it. -/
def eps : ℝ := 8796093 / 8796093022208

/-- The mean square of a row, with the small number added. -/
def ms (x : Fin 1024 → ℝ) : ℝ := (∑ d, x d * x d) * (1 / 1024) + eps

theorem ms_pos (x : Fin 1024 → ℝ) : 0 < ms x := by
  have h : 0 ≤ ∑ d, x d * x d := Finset.sum_nonneg fun d _ => mul_self_nonneg (x d)
  unfold ms eps; positivity

/-- The reciprocal root mean square of a row. -/
def inv (x : Fin 1024 → ℝ) : ℝ := (Real.sqrt (ms x))⁻¹

/-- The normalised row. -/
def rr (x : Fin 1024 → ℝ) (d : Fin 1024) : ℝ := x d * inv x

variable (P : Par) (x c : Fin 1024 → ℝ)

/-- The normalised row under gain, scale and shift. -/
def xn (d : Fin 1024) : ℝ := rr x d * P.g d * (1 + P.sc d) + P.sh d

/-- The two hidden rows. -/
def gg (f : Fin 2816) : ℝ := ∑ d, xn P x d * P.wg f d
def uu (f : Fin 2816) : ℝ := ∑ d, xn P x d * P.wu f d

/-- The logistic function. -/
def sg (z : ℝ) : ℝ := (1 + Real.exp (-z))⁻¹

/-- The gate of the hidden row, and the gated product. -/
def ss (f : Fin 2816) : ℝ := gg P x f * sg (gg P x f)
def aa (f : Fin 2816) : ℝ := ss P x f * uu P x f

/-- The row the last matrix makes of it. -/
def yy (d : Fin 1024) : ℝ := ∑ f, aa P x f * P.wd f d

/-- The half step's row less the target's; the loss's gradient at it. -/
def er (t : Fin 1024 → ℝ) (d : Fin 1024) : ℝ := x d + 1 / 2 * P.ga d * yy P x d - t d
def ct (t : Fin 1024 → ℝ) (d : Fin 1024) : ℝ := er P x t d * (1 / 1024)

/-- From the gradient `c` of the row that comes out: of the last matrix's row, of the gated product, of the hidden
    rows, of the modulated row, of the normalised row, of the row that came in. -/
def dy (d : Fin 1024) : ℝ := 1 / 2 * P.ga d * c d
def da (f : Fin 2816) : ℝ := ∑ d, dy P c d * P.wd f d
def du (f : Fin 2816) : ℝ := da P c f * ss P x f
def dg (f : Fin 2816) : ℝ := da P c f * uu P x f * (sg (gg P x f) * (1 + gg P x f * (1 - sg (gg P x f))))
def dxn (d : Fin 1024) : ℝ := ∑ f, dg P x c f * P.wg f d + ∑ f, du P x c f * P.wu f d
def dr (d : Fin 1024) : ℝ := dxn P x c d * (P.g d * (1 + P.sc d))
def mm : ℝ := (∑ d, dr P x c d * rr x d) * (1 / 1024)
def dh (d : Fin 1024) : ℝ := c d + inv x * (dr P x c d - rr x d * mm P x c)

end Cert.Half

end
-- ==== Proof.Data.lean ====
/- The real arrays the half step is about: the rows of both sequences, the rows they aim at, the modulation of each
   sequence, the gain, the three matrices; a row's parameters are those of the sequence it lies in. -/
module

public import proofs.«01_k».proof.Proof.Spec

@[expose] public section

noncomputable section

namespace Cert.Half

/-- The real arrays. -/
structure Data where
  x : Fin 4096 → Fin 1024 → ℝ
  t : Fin 4096 → Fin 1024 → ℝ
  m : Fin 2 → Fin 9 → Fin 1024 → ℝ
  g : Fin 1024 → ℝ
  wg : Fin 2816 → Fin 1024 → ℝ
  wu : Fin 2816 → Fin 1024 → ℝ
  wd : Fin 2816 → Fin 1024 → ℝ

/-- The parameters of the rows of one sequence: rows 6, 7 and 8 of its modulation. -/
def Data.par (A : Data) (b : Fin 2) : Par := ⟨A.m b 6, A.m b 7, A.m b 8, A.g, A.wg, A.wu, A.wd⟩

/-- … of the rows of one sequence in the first half step: rows 0, 1 and 2. -/
def Data.par0 (A : Data) (b : Fin 2) : Par := ⟨A.m b 0, A.m b 1, A.m b 2, A.g, A.wg, A.wu, A.wd⟩

/-- The sequence a row lies in. -/
def sqn (i : Fin 4096) : Fin 2 := ⟨i.val / 2048, by omega⟩

/-- The row of tile `t` at place `p`, and a tile's sequence. -/
def row (t : ℕ) (h : t < 16) (p : Fin 256) : Fin 4096 := ⟨t * 256 + p.val, by omega⟩
def tq (t : ℕ) (h : t < 16) : Fin 2 := ⟨t / 8, by omega⟩

theorem sqn_row (t : ℕ) (h : t < 16) (p : Fin 256) : sqn (row t h p) = tq t h := Fin.ext (by simp only [sqn, row, tq]; omega)

variable (A : Data)

/-- A row's gradient, as the loss hands it down. -/
def Data.c (i : Fin 4096) : Fin 1024 → ℝ := ct (A.par (sqn i)) (A.x i) (A.t i)

/-- What one row adds to its sequence's three sums: the gradients of shift, of gain under scale, of gate. -/
def part (P : Par) (x c : Fin 1024 → ℝ) (k : Fin 8) (d : Fin 1024) : ℝ :=
  if k = 0 then dxn P x c d else if k = 1 then dxn P x c d * rr x d else if k = 2 then 1 / 2 * (c d * yy P x d) else 0

end Cert.Half

end
-- ==== Proof.Args.lean ====
/- The arguments of the half over the real numbers: each array holds real numbers, the ones `Data` names. -/
module

public import proofs.«01_k».proof.KernelIdeal
public import proofs.«01_k».proof.Proof.Data
public import Idealize.ShloMosaic.PureOps.Ideal
public import Idealize.ShloMosaic.Lib.Pointwise

@[expose] public section

noncomputable section

namespace Cert.Half

open Cert.KernelIdeal Idealize.ShloMosaic

/-- The row of sequence `b` at place `s`, and the column of row `k` of the modulation at place `d`. -/
def rw2 (b : ℕ) (h : b < 2) (s : Fin 2048) : Fin 4096 := ⟨b * 2048 + s.val, by omega⟩
def mcol (k : Fin 9) (d : Fin 1024) : Fin 9216 := ⟨k.val * 1024 + d.val, by omega⟩

theorem sqn_rw2 (b : Fin 2) (s : Fin 2048) : sqn (rw2 b.val b.isLt s) = b := Fin.ext (by simp only [sqn, rw2]; omega)

/-- The seven arguments hold the real arrays. -/
structure Args (a0 a1 : FVec Ideal S2x2048x1024 .f32) (a2 : FVec Ideal S2x9216 .f32) (a3 : FVec Ideal S1x1024 .f32)
    (a4 a5 : FVec Ideal S1x1024x2816 .f32) (a6 : FVec Ideal S1x2816x1024 .f32) (A : Data) : Prop where
  x : ∀ (b : Fin 2) (s : Fin 2048) (d : Fin 1024), a0 (ix3 b s d) = ((A.x (rw2 b.val b.isLt s) d : ℝ) : EReal)
  t : ∀ (b : Fin 2) (s : Fin 2048) (d : Fin 1024), a1 (ix3 b s d) = ((A.t (rw2 b.val b.isLt s) d : ℝ) : EReal)
  m : ∀ (b : Fin 2) (k : Fin 9) (d : Fin 1024), a2 (ix2 b (mcol k d)) = ((A.m b k d : ℝ) : EReal)
  g : ∀ d : Fin 1024, a3 (ix2 (n0 := 1) 0 d) = ((A.g d : ℝ) : EReal)
  wg : ∀ (f : Fin 2816) (d : Fin 1024), a4 (ix3 (n0 := 1) 0 d f) = ((A.wg f d : ℝ) : EReal)
  wu : ∀ (f : Fin 2816) (d : Fin 1024), a5 (ix3 (n0 := 1) 0 d f) = ((A.wu f d : ℝ) : EReal)
  wd : ∀ (f : Fin 2816) (d : Fin 1024), a6 (ix3 (n0 := 1) 0 f d) = ((A.wd f d : ℝ) : EReal)

/-- Arguments none of whose elements is infinite hold real arrays. -/
theorem args_of_finite {a0 a1 : FVec Ideal S2x2048x1024 .f32} {a2 : FVec Ideal S2x9216 .f32} {a3 : FVec Ideal S1x1024 .f32}
    {a4 a5 : FVec Ideal S1x1024x2816 .f32} {a6 : FVec Ideal S1x2816x1024 .f32}
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) : ∃ A : Data, Args a0 a1 a2 a3 a4 a5 a6 A := by
  choose r0 e0 using h0
  choose r1 e1 using h1
  choose r2 e2 using h2
  choose r3 e3 using h3
  choose r4 e4 using h4
  choose r5 e5 using h5
  choose r6 e6 using h6
  have row_at : ∀ (b : Fin 2) (s : Fin 2048) (d : Fin 1024),
      (ix3 b s d : S2x2048x1024.Idx) = ix3 (⟨(rw2 b.val b.isLt s).val / 2048, by omega⟩ : Fin 2) (⟨(rw2 b.val b.isLt s).val % 2048, by omega⟩ : Fin 2048) d := by
    intro b s d
    congr 1 <;> exact Fin.ext (by simp only [rw2]; omega)
  refine ⟨⟨fun i d => r0 (ix3 (⟨i.val / 2048, by omega⟩ : Fin 2) (⟨i.val % 2048, by omega⟩ : Fin 2048) d),
    fun i d => r1 (ix3 (⟨i.val / 2048, by omega⟩ : Fin 2) (⟨i.val % 2048, by omega⟩ : Fin 2048) d), fun b k d => r2 (ix2 b (mcol k d)),
    fun d => r3 (ix2 (n0 := 1) 0 d), fun f d => r4 (ix3 (n0 := 1) 0 d f), fun f d => r5 (ix3 (n0 := 1) 0 d f), fun f d => r6 (ix3 (n0 := 1) 0 f d)⟩,
    ⟨fun b s d => ?_, fun b s d => ?_, fun b k d => e2 _, fun d => e3 _, fun f d => e4 _, fun f d => e5 _, fun f d => e6 _⟩⟩
  · exact (congrArg a0 (row_at b s d)).trans (e0 _)
  · exact (congrArg a1 (row_at b s d)).trans (e1 _)

end Cert.Half

end
-- ==== Proof.Coe.lean ====
/- The exact operations at real numbers are the real operations: the constants both programs name, division by 1024,
   the reciprocal root of a row's mean square, the logistic function, finite sums. -/
module

public import proofs.«01_k».proof.Proof.Spec
public import Idealize.ShloMosaic.Lib.IdealHost
public import Idealize.ShloMosaic.PureOps.Ideal.Laws

@[expose] public section

noncomputable section

namespace Cert.Half

open Idealize.ShloMosaic
open scoped BigOperators

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_one : (1 : EReal) = ((1 : ℝ) : EReal) := by norm_cast

theorem one_add_coe (a : ℝ) : (1 : EReal) + (a : EReal) = ((1 + a : ℝ) : EReal) := by rw [coe_one, ← EReal.coe_add]
theorem one_sub_coe (a : ℝ) : (1 : EReal) - (a : EReal) = ((1 - a : ℝ) : EReal) := by rw [coe_one, ← EReal.coe_sub]

theorem ofBits_1024 : Ideal.ofBits .f32 0x44800000#32 = ((1024 : ℝ) : EReal) := by
  simp [Ideal.ofBits, Ideal.ieee, -EReal.coe_mul]; norm_num
theorem ofBits_eps : Ideal.ofBits .f32 0x358637BD#32 = ((eps : ℝ) : EReal) := by
  simp [Ideal.ofBits, Ideal.ieee, -EReal.coe_mul, eps]; norm_num
theorem ofBits_half : Ideal.ofBits .f32 0x3F000000#32 = ((1 / 2 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

theorem div_1024 (a : ℝ) : Ideal.div (a : EReal) ((1024 : ℝ) : EReal) = ((a * (1 / 1024) : ℝ) : EReal) := by
  rw [Ideal.div_coe (by norm_num : (1024 : ℝ) ≠ 0), ← EReal.coe_mul]

theorem rsqrt_pos {a : ℝ} (h : 0 < a) : Ideal.rsqrt (a : EReal) = (((Real.sqrt a)⁻¹ : ℝ) : EReal) := by
  rw [Ideal.rsqrt_coe, if_neg (not_lt.mpr h.le), if_neg h.ne']

theorem rsqrt_ms (x : Fin 1024 → ℝ) : Ideal.rsqrt (((∑ d, x d * x d) * (1 / 1024) + eps : ℝ) : EReal) = ((inv x : ℝ) : EReal) :=
  rsqrt_pos (ms_pos x)

theorem logistic_coe (z : ℝ) : Ideal.logistic (z : EReal) = ((sg z : ℝ) : EReal) := Ideal.logistic_coe z

end Cert.Half

end
-- ==== Proof.Tile.lean ====
/- What one grid point of the forward call writes, over the real numbers: at inputs that are real at every index, each
   output block's element is the row functions' value at the point's row. -/
module

public import proofs.«01_k».proof.Proof.Gen.KernelIdeal.Frame
public import proofs.«01_k».proof.Proof.Coe
public import Idealize.ShloMosaic.Lib.Pointwise
public import Idealize.ShloMosaic.Lib.UnfoldOut

@[expose] public section

set_option maxRecDepth 16384

noncomputable section

namespace Cert.KernelIdeal.Tile

open Cert.KernelIdeal Cert.KernelIdeal.Gen Idealize.ShloMosaic Cert.Half
open scoped BigOperators

/-- The blocks one point of the forward call reads are real: rows `X`, parameters `P`, target rows `T`. -/
structure In0 (P : Par) (X T : Fin 256 → Fin 1024 → ℝ) (x0 : Vec Ideal S256x1024 .f32) (x1 : Vec Ideal S1x9x1024 .f32)
    (x2 : Vec Ideal S1x1024 .f32) (x3 x4 x5 : Vec Ideal S2816x1024 .bf16) (x6 : Vec Ideal S256x1024 .f32) : Prop where
  h0 : ∀ p d, x0 (ix2 p d) = ((X p d : ℝ) : EReal)
  sh : ∀ d, x1 (ix3 (0 : Fin 1) (6 : Fin 9) d) = ((P.sh d : ℝ) : EReal)
  sc : ∀ d, x1 (ix3 (0 : Fin 1) (7 : Fin 9) d) = ((P.sc d : ℝ) : EReal)
  ga : ∀ d, x1 (ix3 (0 : Fin 1) (8 : Fin 9) d) = ((P.ga d : ℝ) : EReal)
  g : ∀ d, x2 (ix2 (0 : Fin 1) d) = ((P.g d : ℝ) : EReal)
  wg : ∀ f d, x3 (ix2 f d) = ((P.wg f d : ℝ) : EReal)
  wu : ∀ f d, x4 (ix2 f d) = ((P.wu f d : ℝ) : EReal)
  wd : ∀ f d, x5 (ix2 f d) = ((P.wd f d : ℝ) : EReal)
  h6 : ∀ p d, x6 (ix2 p d) = ((T p d : ℝ) : EReal)

section
variable {P : Par} {X T : Fin 256 → Fin 1024 → ℝ} {x0 : Vec Ideal S256x1024 .f32} {x1 : Vec Ideal S1x9x1024 .f32}
    {x2 : Vec Ideal S1x1024 .f32} {x3 x4 x5 : Vec Ideal S2816x1024 .bf16} {x6 : Vec Ideal S256x1024 .f32}

theorem pay9_at (h : In0 P X T x0 x1 x2 x3 x4 x5 x6) (p : Fin 256) (d : Fin 1024) :
    k0_pay9 (View.ld x0 r0_0) (View.ld x1 r0_1) (View.ld x1 r0_2) (View.ld x2 r0_4) (ix2 p d) = ((xn P (X p) d : ℝ) : EReal) := by
  pointwise [k0_pay9, k0_pay7, r0_0, r0_1, r0_2, r0_4]
  simp only [h.h0, h.sh, h.sc, h.g, ← EReal.coe_mul, coe_sum, ofBits_1024, ofBits_eps, div_1024, ← EReal.coe_add, rsqrt_ms, one_add_coe]
  rfl

theorem pay16_at (h : In0 P X T x0 x1 x2 x3 x4 x5 x6) (p : Fin 256) (f : Fin 2816) :
    k0_pay16 x0 x1 x2 x3 x4 x5 x6 (ix2 p f) = ((gg P (X p) f : ℝ) : EReal) := by
  pointwise [k0_pay16, k0_pay11, r0_5]
  simp only [pay9_at h, h.wg, ← EReal.coe_mul, coe_sum]
  rfl

theorem pay17_at (h : In0 P X T x0 x1 x2 x3 x4 x5 x6) (p : Fin 256) (f : Fin 2816) :
    k0_pay17 x0 x1 x2 x3 x4 x5 x6 (ix2 p f) = ((uu P (X p) f : ℝ) : EReal) := by
  pointwise [k0_pay17, k0_pay12, r0_5]
  simp only [pay9_at h, h.wu, ← EReal.coe_mul, coe_sum]
  rfl

theorem pay3_at (h : In0 P X T x0 x1 x2 x3 x4 x5 x6) (p : Fin 256) (d : Fin 1024) :
    k0_pay3 (k0_pay15 x0 x1 x2 x3 x4 x5 x6) (k0_pay16 x0 x1 x2 x3 x4 x5 x6) (k0_pay17 x0 x1 x2 x3 x4 x5 x6) (View.ld x5 r0_5) (ix2 p d)
      = ((yy P (X p) d : ℝ) : EReal) := by
  pointwise [k0_pay3, k0_pay2, k0_pay1, k0_pay15, k0_pay10, r0_5]
  simp only [pay16_at h, pay17_at h, h.wd, logistic_coe, ← EReal.coe_mul, coe_sum, zero_add]
  rfl

theorem pay4_at (h : In0 P X T x0 x1 x2 x3 x4 x5 x6) (p : Fin 256) (d : Fin 1024) :
    k0_pay4 (k0_pay13 x0 x1 x2 x3 x4 x5 x6) (k0_pay14 x0 x1 x2 x3 x4 x5 x6) (k0_pay15 x0 x1 x2 x3 x4 x5 x6) (k0_pay16 x0 x1 x2 x3 x4 x5 x6)
      (k0_pay17 x0 x1 x2 x3 x4 x5 x6) (View.ld x5 r0_5) (View.ld x6 r0_0) (ix2 p d) = ((er P (X p) (T p) d : ℝ) : EReal) := by
  pointwise [k0_pay4, k0_pay13, k0_pay14, k0_pay7, k0_pay8, r0_0, r0_3]
  simp only [pay3_at h, h.h0, h.ga, h.h6, ofBits_half, ← EReal.coe_mul, ← EReal.coe_add, ← EReal.coe_sub]
  rfl

theorem out7_at (h : In0 P X T x0 x1 x2 x3 x4 x5 x6) (p : Fin 256) (d : Fin 1024) :
    out0_7 x0 x1 x2 x3 x4 x5 x6 (ix2 p d) = ((ct P (X p) (T p) d : ℝ) : EReal) := by
  have e := pay4_at h p d
  unfold r0_0 at e
  unfold out0_7 r0_0
  rw [View.canon_unit_zero (by decide)]
  pointwise [k0_pay5]
  rw [e]
  simp only [ofBits_inv1024, ← EReal.coe_mul]
  rfl

theorem out8_at (h : In0 P X T x0 x1 x2 x3 x4 x5 x6) (p : Fin 256) (d : Fin 1024) :
    out0_8 x0 x1 x2 x3 x4 x5 x6 (ix2 p d) = ((yy P (X p) d : ℝ) : EReal) := by
  unfold out0_8 r0_0
  rw [View.canon_unit_zero (by decide)]
  exact pay3_at h p d

theorem out9_at (h : In0 P X T x0 x1 x2 x3 x4 x5 x6) (p : Fin 256) (f : Fin 2816) :
    out0_9 x0 x1 x2 x3 x4 x5 x6 (ix2 p f) = ((gg P (X p) f : ℝ) : EReal) := by
  unfold out0_9 r0_6
  rw [View.canon_unit_zero (by decide)]
  pointwise [k0_pay1]
  exact pay16_at h p f

theorem out10_at (h : In0 P X T x0 x1 x2 x3 x4 x5 x6) (p : Fin 256) (f : Fin 2816) :
    out0_10 x0 x1 x2 x3 x4 x5 x6 (ix2 p f) = ((uu P (X p) f : ℝ) : EReal) := by
  unfold out0_10 r0_6
  rw [View.canon_unit_zero (by decide)]
  pointwise [k0_pay2]
  exact pay17_at h p f

theorem out11_at (h : In0 P X T x0 x1 x2 x3 x4 x5 x6) (a : Fin 1) (b : Fin 8) (l : Fin 128) :
    out0_11 x0 x1 x2 x3 x4 x5 x6 (ix3 a b l) = ((1 / 2048 * ∑ p, ∑ d, er P (X p) (T p) d * er P (X p) (T p) d : ℝ) : EReal) := by
  unfold out0_11 r0_7
  rw [View.canon_unit_zero (by decide)]
  pointwise [k0_pay6]
  simp only [pay4_at h, ofBits_inv2048, ← EReal.coe_mul, coe_sum]

end

end Cert.KernelIdeal.Tile

end
-- ==== Proof.Reg0.lean ====
/- The arrays the forward call leaves, over the real numbers: every row the row functions' value at that row. -/
module

public import proofs.«01_k».proof.Proof.Tile
public import proofs.«01_k».proof.Proof.Data
public import Idealize.ShloMosaic.Lib.Pipeline.ValueKit

@[expose] public section

set_option maxRecDepth 16384

noncomputable section

namespace Cert.KernelIdeal.Reg0

open Cert.KernelIdeal Cert.KernelIdeal.Gen Idealize.ShloMosaic Idealize.ShloMosaic.TcCoe Idealize.SL.Sem Cert.Half
open Idealize.ShloMosaic.Pipeline (Dat)
open scoped BigOperators

variable (V : (c : Dev nD) → (b : Ref sig .tc) → Buf (Elt Ideal) ((c : Thread nD τ).loc b)) (c : Dev nD) (A : Data)

/-- The arrays the forward call finds are the real arrays. -/
structure Ins : Prop where
  hx : ∀ i d, V c main_v0 (ix2 (n0 := 4096) (n1 := 1024) i d) = ((A.x i d : ℝ) : EReal)
  hm : ∀ b k d, V c main_v1 (ix3 (n0 := 2) (n1 := 9) (n2 := 1024) b k d) = ((A.m b k d : ℝ) : EReal)
  hg : ∀ d, V c main_arg3 (ix2 (n0 := 1) (n1 := 1024) 0 d) = ((A.g d : ℝ) : EReal)
  hwg : ∀ f d, V c main_v4 (ix2 (n0 := 2816) (n1 := 1024) f d) = ((A.wg f d : ℝ) : EReal)
  hwu : ∀ f d, V c main_v7 (ix2 (n0 := 2816) (n1 := 1024) f d) = ((A.wu f d : ℝ) : EReal)
  hwd : ∀ f d, V c main_v9 (ix2 (n0 := 2816) (n1 := 1024) f d) = ((A.wd f d : ℝ) : EReal)
  ht : ∀ i d, V c main_v10 (ix2 (n0 := 4096) (n1 := 1024) i d) = ((A.t i d : ℝ) : EReal)

theorem idx : ∀ t : Fin cfg0.N, win0_0.index t = ![t.val, 0] ∧ win0_1.index t = ![t.val / 8, 0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0, 0] :=
  (by decide +kernel : ∀ t : Fin grid0.N, _)

theorem lt16 (t : Fin cfg0.N) : t.val < 16 := lt_of_lt_of_eq t.isLt N_0

variable {V c A}

theorem ins0 (h : Ins V c A) (t : Fin cfg0.N) :
    Tile.In0 (A.par (tq t.val (lt16 t))) (fun p => A.x (row t.val (lt16 t) p)) (fun p => A.t (row t.val (lt16 t) p))
      (iblk0 V c 0 t) (iblk0 V c 1 t) (iblk0 V c 2 t) (iblk0 V c 3 t) (iblk0 V c 4 t) (iblk0 V c 5 t) (iblk0 V c 6 t) where
  h0 p d := by refine Eq.trans ?_ (h.hx _ _); blk_ext [iblk0, idx t, row]
  sh d := by refine Eq.trans ?_ (h.hm _ _ _); blk_ext [iblk0, idx t, tq]
  sc d := by refine Eq.trans ?_ (h.hm _ _ _); blk_ext [iblk0, idx t, tq]
  ga d := by refine Eq.trans ?_ (h.hm _ _ _); blk_ext [iblk0, idx t, tq]
  g d := by refine Eq.trans ?_ (h.hg _); blk_ext [iblk0, idx t]
  wg f d := by refine Eq.trans ?_ (h.hwg _ _); blk_ext [iblk0, idx t]
  wu f d := by refine Eq.trans ?_ (h.hwu _ _); blk_ext [iblk0, idx t]
  wd f d := by refine Eq.trans ?_ (h.hwd _ _); blk_ext [iblk0, idx t]
  h6 p d := by refine Eq.trans ?_ (h.ht _ _); blk_ext [iblk0, idx t, row]

/-- The rows of the gradient the loss hands down. -/
theorem final7 (h : Ins V c A) : (dat0 V c).arrAt 7 cfg0.N = fun i : S4096x1024.Idx => ((A.c (i 0) (i 1) : ℝ) : EReal) := by
  refine (dat0 V c).arrAt_eq_of_covers 7 _ (by decide +kernel) fun t hf y => ?_
  blk_simp
  rw [after0_7]
  have e0 : (win0_7.blk t).view.emb y 0 = row t.val (lt16 t) (y 0) := Fin.ext (by blk_simp [idx t, row])
  have e1 : (win0_7.blk t).view.emb y 1 = y 1 := Fin.ext (by blk_simp [idx t])
  have e2 : sqn (row t.val (lt16 t) (y 0)) = tq t.val (lt16 t) := sqn_row _ _ _
  simp only [Data.c]
  rw [e0, e1, e2]
  exact (congrArg _ (show y = ix2 (y 0) (y 1) by blk_ext [])).trans (Tile.out7_at (ins0 h t) (y 0) (y 1))

/-- The rows that come out of the half step, before their gate. -/
theorem final8 (h : Ins V c A) : (dat0 V c).arrAt 8 cfg0.N = fun i : S4096x1024.Idx => ((yy (A.par (sqn (i 0))) (A.x (i 0)) (i 1) : ℝ) : EReal) := by
  refine (dat0 V c).arrAt_eq_of_covers 8 _ (by decide +kernel) fun t hf y => ?_
  blk_simp
  rw [after0_8]
  have e0 : (win0_8.blk t).view.emb y 0 = row t.val (lt16 t) (y 0) := Fin.ext (by blk_simp [idx t, row])
  have e1 : (win0_8.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (Tile.out8_at (ins0 h t) (y 0) (y 1))

/-- The first hidden rows. -/
theorem final9 (h : Ins V c A) : (dat0 V c).arrAt 9 cfg0.N = fun i : S4096x2816.Idx => ((gg (A.par (sqn (i 0))) (A.x (i 0)) (i 1) : ℝ) : EReal) := by
  refine (dat0 V c).arrAt_eq_of_covers 9 _ (by decide +kernel) fun t hf y => ?_
  blk_simp
  rw [after0_9]
  have e0 : (win0_9.blk t).view.emb y 0 = row t.val (lt16 t) (y 0) := Fin.ext (by blk_simp [idx t, row])
  have e1 : (win0_9.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (Tile.out9_at (ins0 h t) (y 0) (y 1))

/-- The second hidden rows. -/
theorem final10 (h : Ins V c A) : (dat0 V c).arrAt 10 cfg0.N = fun i : S4096x2816.Idx => ((uu (A.par (sqn (i 0))) (A.x (i 0)) (i 1) : ℝ) : EReal) := by
  refine (dat0 V c).arrAt_eq_of_covers 10 _ (by decide +kernel) fun t hf y => ?_
  blk_simp
  rw [after0_10]
  have e0 : (win0_10.blk t).view.emb y 0 = row t.val (lt16 t) (y 0) := Fin.ext (by blk_simp [idx t, row])
  have e1 : (win0_10.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (Tile.out10_at (ins0 h t) (y 0) (y 1))

/-- A tile's share of the loss. -/
def Tl (A : Data) (t : Fin 16) : ℝ :=
  1 / 2048 * ∑ p, ∑ d, er (A.par (tq t.val t.isLt)) (A.x (row t.val t.isLt p)) (A.t (row t.val t.isLt p)) d
    * er (A.par (tq t.val t.isLt)) (A.x (row t.val t.isLt p)) (A.t (row t.val t.isLt p)) d

/-- Each tile's share of the loss, over its block. -/
theorem final11 (h : Ins V c A) : (dat0 V c).arrAt 11 cfg0.N = fun i : S16x8x128.Idx => ((Tl A (i 0) : ℝ) : EReal) := by
  refine (dat0 V c).arrAt_eq_of_covers 11 _ (by decide +kernel) fun t hf y => ?_
  blk_simp
  rw [after0_11]
  have e0 : (win0_11.blk t).view.emb y 0 = (⟨t.val, lt16 t⟩ : Fin 16) := Fin.ext (by blk_simp [idx t])
  rw [e0]
  exact (congrArg _ (show y = ix3 (y 0) (y 1) (y 2) by blk_ext [])).trans (Tile.out11_at (ins0 h t) (y 0) (y 1) (y 2))

end Cert.KernelIdeal.Reg0

end
-- ==== Proof.TileB.lean ====
/- What one grid point of the backward call writes, over the real numbers: at inputs that are real at every index, each
   output block's element is the row functions' value at the point's row. -/
module

public import proofs.«01_k».proof.Proof.Gen.KernelIdeal.Frame
public import proofs.«01_k».proof.Proof.Coe
public import Idealize.ShloMosaic.Lib.Pointwise
public import Idealize.ShloMosaic.Lib.UnfoldOut

@[expose] public section

set_option maxRecDepth 16384

noncomputable section

namespace Cert.KernelIdeal.Tile

open Cert.KernelIdeal Cert.KernelIdeal.Gen Idealize.ShloMosaic Cert.Half
open scoped BigOperators

/-- The blocks one point of the backward call reads are real: rows `X`, gradient rows `C`, what the forward call left of
them, the three rows of the modulation, parameters `P`. -/
structure In1 (P : Par) (X C : Fin 256 → Fin 1024 → ℝ) (x0 x1 x2 : Vec Ideal S256x1024 .f32) (x3 x4 : Vec Ideal S256x2816 .bf16)
    (s0 s1 s2 : Vec Ideal S1x1x1024 .f32) (x6 : Vec Ideal S1x1024 .f32) (x7 x8 x9 : Vec Ideal S2816x1024 .bf16) : Prop where
  h0 : ∀ p d, x0 (ix2 p d) = ((X p d : ℝ) : EReal)
  h1 : ∀ p d, x1 (ix2 p d) = ((C p d : ℝ) : EReal)
  h2 : ∀ p d, x2 (ix2 p d) = ((yy P (X p) d : ℝ) : EReal)
  h3 : ∀ p f, x3 (ix2 p f) = ((gg P (X p) f : ℝ) : EReal)
  h4 : ∀ p f, x4 (ix2 p f) = ((uu P (X p) f : ℝ) : EReal)
  sh : ∀ d, s0 (ix3 (0 : Fin 1) (0 : Fin 1) d) = ((P.sh d : ℝ) : EReal)
  sc : ∀ d, s1 (ix3 (0 : Fin 1) (0 : Fin 1) d) = ((P.sc d : ℝ) : EReal)
  ga : ∀ d, s2 (ix3 (0 : Fin 1) (0 : Fin 1) d) = ((P.ga d : ℝ) : EReal)
  g : ∀ d, x6 (ix2 (0 : Fin 1) d) = ((P.g d : ℝ) : EReal)
  wg : ∀ f d, x7 (ix2 f d) = ((P.wg f d : ℝ) : EReal)
  wu : ∀ f d, x8 (ix2 f d) = ((P.wu f d : ℝ) : EReal)
  wd : ∀ f d, x9 (ix2 f d) = ((P.wd f d : ℝ) : EReal)

/-- A row loaded from the block of the modulation is the block's row. -/
theorem ld_row (x : Vec Ideal S1x9x1024 .f32) (j : Fin 9) (inb : ∀ a, (![0, j.val, 0] : Fin 3 → ℕ) a + (![1, 1, 1024] : Fin 3 → ℕ) a ≤ S1x9x1024.size a) (d : Fin 1024) :
    View.ld x (Rect.unit (s := S1x9x1024) ![0, j.val, 0] ![1, 1, 1024] inb) (ix3 (0 : Fin 1) (0 : Fin 1) d) = x (ix3 (0 : Fin 1) j d) := by
  refine congrArg x (funext fun a => Fin.ext ?_)
  match a with
  | ⟨0, _⟩ => rfl
  | ⟨1, _⟩ => rfl
  | ⟨2, _⟩ => show 0 + 1 * d.val = d.val; omega

section
variable {P : Par} {X C : Fin 256 → Fin 1024 → ℝ} {x0 x1 x2 : Vec Ideal S256x1024 .f32} {x3 x4 : Vec Ideal S256x2816 .bf16}
    {s0 s1 s2 : Vec Ideal S1x1x1024 .f32} {x6 : Vec Ideal S1x1024 .f32} {x7 x8 x9 : Vec Ideal S2816x1024 .bf16}

theorem b8_at (h : In1 P X C x0 x1 x2 x3 x4 s0 s1 s2 x6 x7 x8 x9) (p : Fin 256) :
    k1_pay8 x0 (ix2 p (0 : Fin 1)) = ((inv (X p) : ℝ) : EReal) := by
  pointwise [k1_pay8, k1_pay5]
  simp only [h.h0, ← EReal.coe_mul, coe_sum, ofBits_1024, ofBits_eps, div_1024, ← EReal.coe_add, rsqrt_ms]

theorem b9_at (h : In1 P X C x0 x1 x2 x3 x4 s0 s1 s2 x6 x7 x8 x9) (p : Fin 256) (d : Fin 1024) :
    k1_pay9 x0 (ix2 p d) = ((rr (X p) d : ℝ) : EReal) := by
  pointwise [k1_pay9, k1_pay5]
  simp only [h.h0, b8_at h, ← EReal.coe_mul]
  rfl

theorem b10_at (h : In1 P X C x0 x1 x2 x3 x4 s0 s1 s2 x6 x7 x8 x9) (p : Fin 256) (d : Fin 1024) :
    k1_pay10 x0 s0
      s1 x6 (ix2 p d) = ((xn P (X p) d : ℝ) : EReal) := by
  pointwise [k1_pay10, k1_pay7]
  simp only [h.sh, h.sc, h.g, b9_at h, ← EReal.coe_mul, ← EReal.coe_add, one_add_coe]
  rfl

theorem b11_at (h : In1 P X C x0 x1 x2 x3 x4 s0 s1 s2 x6 x7 x8 x9) (p : Fin 256) (d : Fin 1024) :
    k1_pay11 x1 s2 (ix2 p d)
      = ((dy P (C p) d : ℝ) : EReal) := by
  pointwise [k1_pay11, k1_pay6]
  simp only [h.ga, h.h1, ofBits_half, ← EReal.coe_mul]
  rfl

theorem b12_at (h : In1 P X C x0 x1 x2 x3 x4 s0 s1 s2 x6 x7 x8 x9) (d : Fin 1024) :
    k1_pay12 (k1_pay6 x1) x2 (ix2 (0 : Fin 1) d) = ((1 / 2 * ∑ p, C p d * yy P (X p) d : ℝ) : EReal) := by
  pointwise [k1_pay12, k1_pay6]
  simp only [h.h1, h.h2, ofBits_half, ← EReal.coe_mul, coe_sum]

theorem b20_at (h : In1 P X C x0 x1 x2 x3 x4 s0 s1 s2 x6 x7 x8 x9) (p : Fin 256) (f : Fin 2816) :
    k1_pay20 x3 x4 (ix2 p f) = ((aa P (X p) f : ℝ) : EReal) := by
  pointwise [k1_pay20, k1_pay19, k1_pay18, k1_pay17, k1_pay16]
  simp only [h.h3, h.h4, logistic_coe, ← EReal.coe_mul]
  rfl

theorem b21_at (h : In1 P X C x0 x1 x2 x3 x4 s0 s1 s2 x6 x7 x8 x9) (p : Fin 256) (f : Fin 2816) :
    k1_pay21 (k1_pay11 x1 s2) x9 (ix2 p f)
      = ((da P (C p) f : ℝ) : EReal) := by
  pointwise [k1_pay21]
  simp only [b11_at h, h.wd, ← EReal.coe_mul, coe_sum]
  rfl

theorem b22_at (h : In1 P X C x0 x1 x2 x3 x4 s0 s1 s2 x6 x7 x8 x9) (p : Fin 256) (f : Fin 2816) :
    k1_pay22 (k1_pay11 x1 s2) x3 x9 (ix2 p f)
      = ((du P (X p) (C p) f : ℝ) : EReal) := by
  pointwise [k1_pay22, k1_pay19, k1_pay18, k1_pay16]
  simp only [b21_at h, h.h3, logistic_coe, ← EReal.coe_mul]
  rfl

theorem b23_at (h : In1 P X C x0 x1 x2 x3 x4 s0 s1 s2 x6 x7 x8 x9) (p : Fin 256) (f : Fin 2816) :
    k1_pay23 (k1_pay11 x1 s2) x3 x4 x9 (ix2 p f)
      = ((dg P (X p) (C p) f : ℝ) : EReal) := by
  pointwise [k1_pay23, k1_pay18, k1_pay17, k1_pay16]
  simp only [b21_at h, h.h3, h.h4, logistic_coe, ← EReal.coe_mul, one_sub_coe, one_add_coe]
  rfl

theorem b24_at (h : In1 P X C x0 x1 x2 x3 x4 s0 s1 s2 x6 x7 x8 x9) (p : Fin 256) (d : Fin 1024) :
    k1_pay24 k1_pay13 (k1_pay14 x7) (k1_pay15 x8)
      (k1_pay22 (k1_pay11 x1 s2) x3 x9)
      (k1_pay23 (k1_pay11 x1 s2) x3 x4 x9) (ix2 p d)
      = ((dxn P (X p) (C p) d : ℝ) : EReal) := by
  pointwise [k1_pay24, k1_pay13, k1_pay14, k1_pay15]
  simp only [b22_at h, b23_at h, h.wg, h.wu, ← EReal.coe_mul, coe_sum, zero_add, ← EReal.coe_add]
  rfl

theorem b25_at (h : In1 P X C x0 x1 x2 x3 x4 s0 s1 s2 x6 x7 x8 x9) (d : Fin 1024) :
    k1_pay25 k1_pay13 (k1_pay14 x7) (k1_pay15 x8)
      (k1_pay22 (k1_pay11 x1 s2) x3 x9)
      (k1_pay23 (k1_pay11 x1 s2) x3 x4 x9) (ix2 (0 : Fin 1) d)
      = ((∑ p, dxn P (X p) (C p) d : ℝ) : EReal) := by
  pointwise [k1_pay25]
  simp only [b24_at h, coe_sum]

theorem b26_at (h : In1 P X C x0 x1 x2 x3 x4 s0 s1 s2 x6 x7 x8 x9) (d : Fin 1024) :
    k1_pay26 (k1_pay9 x0) k1_pay13 (k1_pay14 x7) (k1_pay15 x8)
      (k1_pay22 (k1_pay11 x1 s2) x3 x9)
      (k1_pay23 (k1_pay11 x1 s2) x3 x4 x9) (ix2 (0 : Fin 1) d)
      = ((∑ p, dxn P (X p) (C p) d * rr (X p) d : ℝ) : EReal) := by
  pointwise [k1_pay26]
  simp only [b24_at h, b9_at h, ← EReal.coe_mul, coe_sum]

theorem b27_at (h : In1 P X C x0 x1 x2 x3 x4 s0 s1 s2 x6 x7 x8 x9) (p : Fin 256) (d : Fin 1024) :
    k1_pay27 (k1_pay6 x1) (k1_pay7 s1) x6
      (k1_pay8 x0) (k1_pay9 x0) k1_pay13 (k1_pay14 x7) (k1_pay15 x8)
      (k1_pay22 (k1_pay11 x1 s2) x3 x9)
      (k1_pay23 (k1_pay11 x1 s2) x3 x4 x9) (ix2 p d)
      = ((dh P (X p) (C p) d : ℝ) : EReal) := by
  pointwise [k1_pay27, k1_pay6, k1_pay7]
  simp only [b24_at h, b9_at h, b8_at h, h.h1, h.g, h.sc, one_add_coe, ← EReal.coe_mul, coe_sum, ofBits_1024, div_1024, ← EReal.coe_sub,
    ← EReal.coe_add]
  rfl

end

end Cert.KernelIdeal.Tile

end
-- ==== Proof.MgRows.lean ====
/- The block of a sequence's three sums, row by row: what a point's stores leave of it, at the sequence's first point
   (over a block just filled with zeros) and at a later one (over what the point before left). -/
module

public import proofs.«01_k».proof.Proof.TileB
public import proofs.«01_k».proof.Proof.Data
public import Idealize.ShloMosaic.Lib.Pipeline.ValueKit
public import Idealize.ShloMosaic.Lib.WritesUnit

@[expose] public section

set_option maxRecDepth 16384

noncomputable section

namespace Cert.KernelIdeal.MgRows

open Cert.KernelIdeal Cert.KernelIdeal.Gen Idealize.ShloMosaic Cert.Half Idealize.SL.Sem
open scoped BigOperators

variable {sg : RefSig} {κ : Kind} {sp : Space} (v : View sg κ sp S1x8x1024 .f32)

/-- One row's store over the block: its row reads the store, every other row what was there. -/
theorem row_store (f : v.ty.Contents (Elt Ideal)) (j : ℕ) (hj : j < 8) (inb : ∀ a, (![0, j, 0] : Fin 3 → ℕ) a + (![1, 1, 1024] : Fin 3 → ℕ) a ≤ S1x8x1024.size a)
    (w : Vec Ideal S1x1x1024 .f32) (L : List (View.Piece (Elt Ideal) S1x8x1024 .f32)) (k : Fin 8) (d : Fin 1024) :
    v.read (Elt Ideal) (v.writes (Elt Ideal) f ((⟨Rect.unit (s := S1x8x1024) ![0, j, 0] ![1, 1, 1024] inb, w⟩ : View.Piece (Elt Ideal) S1x8x1024 .f32) :: L)) (ix3 (0 : Fin 1) k d)
      = if k.val = j then w (ix3 (0 : Fin 1) (0 : Fin 1) d) else v.read (Elt Ideal) (v.writes (Elt Ideal) f L) (ix3 (0 : Fin 1) k d) := by
  by_cases h : k.val = j
  · rw [if_pos h]
    exact View.read_writes_cons_unit_of_mem v f inb w L _ (ix3 (0 : Fin 1) (0 : Fin 1) d) rfl fun a => by
      match a with
      | ⟨0, _⟩ => rfl
      | ⟨1, _⟩ => exact h
      | ⟨2, _⟩ => exact (Nat.zero_add _).symm
  · rw [if_neg h]
    refine View.read_writes_cons_unit_of_not_mem v f inb w L _ rfl (1 : Fin 3) ?_
    show k.val < j ∨ j + 1 ≤ k.val
    omega

/-- The block filled with zeros reads zero. -/
theorem fill (f : v.ty.Contents (Elt Ideal)) (inb : ∀ a, (![0, 0, 0] : Fin 3 → ℕ) a + (![1, 8, 1024] : Fin 3 → ℕ) a ≤ S1x8x1024.size a) (k : Fin 8) (d : Fin 1024) :
    v.read (Elt Ideal) (v.writes (Elt Ideal) f [(⟨Rect.unit (s := S1x8x1024) ![0, 0, 0] ![1, 8, 1024] inb, k1_pay1 (F := Ideal)⟩ : View.Piece (Elt Ideal) S1x8x1024 .f32)]) (ix3 (0 : Fin 1) k d)
      = 0 := by
  refine (View.read_writes_cons_unit_of_mem v f inb _ [] _ (ix3 (0 : Fin 1) k d) rfl fun a => ?_).trans (by pointwise [k1_pay1])
  match a with
  | ⟨0, _⟩ => rfl
  | ⟨1, _⟩ => exact (Nat.zero_add _).symm
  | ⟨2, _⟩ => exact (Nat.zero_add _).symm

/-- A row loaded back from what the stores left, as the block reads there. -/
theorem load_row (L : List (View.Piece (Elt Ideal) S1x8x1024 .f32)) (j : ℕ) (hj : j < 8)
    (inb : ∀ a, (![0, j, 0] : Fin 3 → ℕ) a + (![1, 1, 1024] : Fin 3 → ℕ) a ≤ S1x8x1024.size a) (d : Fin 1024) :
    v.readCov L (Rect.unit (s := S1x8x1024) ![0, j, 0] ![1, 1, 1024] inb).toLoadRect (ix3 (0 : Fin 1) (0 : Fin 1) d)
      = v.read (Elt Ideal) (v.writes (Elt Ideal) v.junk L) (ix3 (0 : Fin 1) (⟨j, hj⟩ : Fin 8) d) := by
  rw [View.readCov_eq_canon', View.read_writes_junk_eq_canon]
  refine congrArg (View.canon L) (funext fun a => Fin.ext ?_)
  match a with
  | ⟨0, _⟩ => rfl
  | ⟨1, _⟩ => rfl
  | ⟨2, _⟩ => show 0 + 1 * d.val = d.val; omega

/-- A row's store is the row loaded, with the point's term added. -/
theorem pay2_row (a : Vec Ideal S1x1024 .f32) (b : Vec Ideal S1x1x1024 .f32) (d : Fin 1024) :
    k1_pay2 a b (ix3 (0 : Fin 1) (0 : Fin 1) d) = b (ix3 (0 : Fin 1) (0 : Fin 1) d) + a (ix2 (0 : Fin 1) d) := by pointwise [k1_pay2]
theorem pay3_row (a : Vec Ideal S1x1024 .f32) (b : Vec Ideal S1x1x1024 .f32) (d : Fin 1024) :
    k1_pay3 a b (ix3 (0 : Fin 1) (0 : Fin 1) d) = b (ix3 (0 : Fin 1) (0 : Fin 1) d) + a (ix2 (0 : Fin 1) d) := by pointwise [k1_pay3]
theorem pay4_row (a : Vec Ideal S1x1024 .f32) (b : Vec Ideal S1x1x1024 .f32) (d : Fin 1024) :
    k1_pay4 a b (ix3 (0 : Fin 1) (0 : Fin 1) d) = b (ix3 (0 : Fin 1) (0 : Fin 1) d) + a (ix2 (0 : Fin 1) d) := by pointwise [k1_pay4]

/-- The three rows' terms as one row of terms. -/
def trm (a0 a1 a2 : Vec Ideal S1x1024 .f32) (k : Fin 8) (d : Fin 1024) : EReal :=
  if k.val = 0 then a0 (ix2 (0 : Fin 1) d) else if k.val = 1 then a1 (ix2 (0 : Fin 1) d) else if k.val = 2 then a2 (ix2 (0 : Fin 1) d) else 0

/-- At the real rows the three rows of terms are the sums of what each row adds. -/
theorem trm_eq (P : Par) (X C : Fin 256 → Fin 1024 → ℝ) (a0 a1 a2 : Vec Ideal S1x1024 .f32) (k : Fin 8) (d : Fin 1024)
    (e0 : a0 (ix2 (0 : Fin 1) d) = ((∑ p, dxn P (X p) (C p) d : ℝ) : EReal))
    (e1 : a1 (ix2 (0 : Fin 1) d) = ((∑ p, dxn P (X p) (C p) d * rr (X p) d : ℝ) : EReal))
    (e2 : a2 (ix2 (0 : Fin 1) d) = ((1 / 2 * ∑ p, C p d * yy P (X p) d : ℝ) : EReal)) :
    trm a0 a1 a2 k d = ((∑ p, part P (X p) (C p) k d : ℝ) : EReal) := by
  unfold trm part
  rw [e0, e1, e2]
  by_cases h0 : k = 0
  · subst h0; rfl
  by_cases h1 : k = 1
  · subst h1; rfl
  by_cases h2 : k = 2
  · subst h2
    show ((1 / 2 * ∑ p, C p d * yy P (X p) d : ℝ) : EReal) = ((∑ p, 1 / 2 * (C p d * yy P (X p) d) : ℝ) : EReal)
    rw [Finset.mul_sum]
  have n0 : ¬ k.val = 0 := fun e => h0 (Fin.ext e)
  have n1 : ¬ k.val = 1 := fun e => h1 (Fin.ext e)
  have n2 : ¬ k.val = 2 := fun e => h2 (Fin.ext e)
  simp only [if_neg h0, if_neg h1, if_neg h2, if_neg n0, if_neg n1, if_neg n2, Finset.sum_const_zero, EReal.coe_zero]

/-- A later point: every row is what the point before left, with the term added. -/
theorem step (M : Memref sg κ sp S1x8x1024 .f32) (hw : M.IsWhole) (prev : Vec Ideal S1x8x1024 .f32) (i0 i1 i2) (a0 a1 a2 : Vec Ideal S1x1024 .f32)
    (k : Fin 8) (d : Fin 1024) :
    M.view.read (Elt Ideal) (M.view.writes (Elt Ideal) (hw.unread prev)
      [(⟨Rect.unit (s := S1x8x1024) ![0, 2, 0] ![1, 1, 1024] i2, k1_pay4 a2 (View.ld prev (Rect.unit (s := S1x8x1024) ![0, 2, 0] ![1, 1, 1024] i2))⟩ : View.Piece (Elt Ideal) S1x8x1024 .f32),
       ⟨Rect.unit (s := S1x8x1024) ![0, 1, 0] ![1, 1, 1024] i1, k1_pay3 a1 (View.ld prev (Rect.unit (s := S1x8x1024) ![0, 1, 0] ![1, 1, 1024] i1))⟩,
       ⟨Rect.unit (s := S1x8x1024) ![0, 0, 0] ![1, 1, 1024] i0, k1_pay2 a0 (View.ld prev (Rect.unit (s := S1x8x1024) ![0, 0, 0] ![1, 1, 1024] i0))⟩]) (ix3 (0 : Fin 1) k d)
      = prev (ix3 (0 : Fin 1) k d) + trm a0 a1 a2 k d := by
  rw [row_store M.view _ 2 (by omega), row_store M.view _ 1 (by omega), row_store M.view _ 0 (by omega), pay2_row, pay3_row, pay4_row, View.writes_nil,
    hw.read_unread]
  have e : ∀ (j : ℕ) (hj : j < 8) (inb), k.val = j → View.ld prev (Rect.unit (s := S1x8x1024) ![0, j, 0] ![1, 1, 1024] inb) (ix3 (0 : Fin 1) (0 : Fin 1) d) = prev (ix3 (0 : Fin 1) k d) := by
    rintro j hj inb rfl
    refine congrArg prev (funext fun a => Fin.ext ?_)
    match a with
    | ⟨0, _⟩ => rfl
    | ⟨1, _⟩ => rfl
    | ⟨2, _⟩ => show 0 + 1 * d.val = d.val; omega
  unfold trm
  split_ifs with h2 h1 h0 h0 h1 <;> first | omega | rw [e _ (by omega) _ ‹_›] | rw [add_zero]

/-- The first point: every row is its term. -/
theorem reset (M : Memref sg κ sp S1x8x1024 .f32) (i0 i1 i2 iz) (a0 a1 a2 : Vec Ideal S1x1024 .f32) (k : Fin 8) (d : Fin 1024) :
    View.canon [(⟨Rect.unit (s := S1x8x1024) ![0, 2, 0] ![1, 1, 1024] i2, k1_pay4 a2 (M.view.readCov
          [(⟨Rect.unit (s := S1x8x1024) ![0, 1, 0] ![1, 1, 1024] i1, k1_pay3 a1 (M.view.readCov
              [(⟨Rect.unit (s := S1x8x1024) ![0, 0, 0] ![1, 1, 1024] i0, k1_pay2 a0 (M.view.readCov
                [(⟨Rect.unit (s := S1x8x1024) ![0, 0, 0] ![1, 8, 1024] iz, k1_pay1 (F := Ideal)⟩ : View.Piece (Elt Ideal) S1x8x1024 .f32)]
                (Rect.unit (s := S1x8x1024) ![0, 0, 0] ![1, 1, 1024] i0).toLoadRect)⟩ : View.Piece (Elt Ideal) S1x8x1024 .f32),
               ⟨Rect.unit (s := S1x8x1024) ![0, 0, 0] ![1, 8, 1024] iz, k1_pay1 (F := Ideal)⟩]
              (Rect.unit (s := S1x8x1024) ![0, 1, 0] ![1, 1, 1024] i1).toLoadRect)⟩ : View.Piece (Elt Ideal) S1x8x1024 .f32),
           ⟨Rect.unit (s := S1x8x1024) ![0, 0, 0] ![1, 1, 1024] i0, k1_pay2 a0 (M.view.readCov
              [(⟨Rect.unit (s := S1x8x1024) ![0, 0, 0] ![1, 8, 1024] iz, k1_pay1 (F := Ideal)⟩ : View.Piece (Elt Ideal) S1x8x1024 .f32)]
              (Rect.unit (s := S1x8x1024) ![0, 0, 0] ![1, 1, 1024] i0).toLoadRect)⟩,
           ⟨Rect.unit (s := S1x8x1024) ![0, 0, 0] ![1, 8, 1024] iz, k1_pay1 (F := Ideal)⟩]
          (Rect.unit (s := S1x8x1024) ![0, 2, 0] ![1, 1, 1024] i2).toLoadRect)⟩ : View.Piece (Elt Ideal) S1x8x1024 .f32),
       ⟨Rect.unit (s := S1x8x1024) ![0, 1, 0] ![1, 1, 1024] i1, k1_pay3 a1 (M.view.readCov
          [(⟨Rect.unit (s := S1x8x1024) ![0, 0, 0] ![1, 1, 1024] i0, k1_pay2 a0 (M.view.readCov
            [(⟨Rect.unit (s := S1x8x1024) ![0, 0, 0] ![1, 8, 1024] iz, k1_pay1 (F := Ideal)⟩ : View.Piece (Elt Ideal) S1x8x1024 .f32)]
            (Rect.unit (s := S1x8x1024) ![0, 0, 0] ![1, 1, 1024] i0).toLoadRect)⟩ : View.Piece (Elt Ideal) S1x8x1024 .f32),
           ⟨Rect.unit (s := S1x8x1024) ![0, 0, 0] ![1, 8, 1024] iz, k1_pay1 (F := Ideal)⟩]
          (Rect.unit (s := S1x8x1024) ![0, 1, 0] ![1, 1, 1024] i1).toLoadRect)⟩,
       ⟨Rect.unit (s := S1x8x1024) ![0, 0, 0] ![1, 1, 1024] i0, k1_pay2 a0 (M.view.readCov
          [(⟨Rect.unit (s := S1x8x1024) ![0, 0, 0] ![1, 8, 1024] iz, k1_pay1 (F := Ideal)⟩ : View.Piece (Elt Ideal) S1x8x1024 .f32)]
          (Rect.unit (s := S1x8x1024) ![0, 0, 0] ![1, 1, 1024] i0).toLoadRect)⟩,
       ⟨Rect.unit (s := S1x8x1024) ![0, 0, 0] ![1, 8, 1024] iz, k1_pay1 (F := Ideal)⟩] (ix3 (0 : Fin 1) k d)
      = trm a0 a1 a2 k d := by
  rw [← View.read_writes_junk_eq_canon M.view]
  rw [row_store M.view _ 2 (by omega), row_store M.view _ 1 (by omega), row_store M.view _ 0 (by omega), pay2_row, pay3_row, pay4_row, fill]
  rw [load_row M.view _ 2 (by omega), load_row M.view _ 1 (by omega), load_row M.view _ 0 (by omega)]
  rw [row_store M.view _ 1 (by omega), row_store M.view _ 0 (by omega), row_store M.view _ 0 (by omega)]
  simp only [fill, zero_add]
  unfold trm
  split_ifs <;> first | contradiction | omega | rfl | exact zero_add _

end Cert.KernelIdeal.MgRows

end
-- ==== Proof.Reg1P.lean ====
/- What one grid point of the backward call leaves, at the real arrays: each output block's element at the point's row, and the
   block of its sequence's three sums with the point's rows added. -/
module

public import proofs.«01_k».proof.Proof.MgRows
public import Idealize.ShloMosaic.Lib.Pipeline.ValueKit

@[expose] public section

set_option maxRecDepth 16384

noncomputable section

namespace Cert.KernelIdeal.Reg1

open Cert.KernelIdeal Cert.KernelIdeal.Gen Idealize.ShloMosaic Idealize.ShloMosaic.TcCoe Idealize.SL.Sem Cert.Half
open Idealize.ShloMosaic.Pipeline (Dat)
open scoped BigOperators

variable (V : (c : Dev nD) → (b : Ref sig .tc) → Buf (Elt Ideal) ((c : Thread nD τ).loc b)) (c : Dev nD) (A : Data)

/-- The arrays the backward call finds are the real arrays, and what the forward call left. -/
structure Ins : Prop where
  hx : ∀ i d, V c main_v0 (ix2 (n0 := 4096) (n1 := 1024) i d) = ((A.x i d : ℝ) : EReal)
  hc : ∀ i d, V c main_v11_0 (ix2 (n0 := 4096) (n1 := 1024) i d) = ((A.c i d : ℝ) : EReal)
  hy : ∀ i d, V c main_v11_1 (ix2 (n0 := 4096) (n1 := 1024) i d) = ((yy (A.par (sqn i)) (A.x i) d : ℝ) : EReal)
  hgb : ∀ i f, V c main_v11_2 (ix2 (n0 := 4096) (n1 := 2816) i f) = ((gg (A.par (sqn i)) (A.x i) f : ℝ) : EReal)
  hub : ∀ i f, V c main_v11_3 (ix2 (n0 := 4096) (n1 := 2816) i f) = ((uu (A.par (sqn i)) (A.x i) f : ℝ) : EReal)
  hm : ∀ b k d, V c main_v1 (ix3 (n0 := 2) (n1 := 9) (n2 := 1024) b k d) = ((A.m b k d : ℝ) : EReal)
  hg : ∀ d, V c main_arg3 (ix2 (n0 := 1) (n1 := 1024) 0 d) = ((A.g d : ℝ) : EReal)
  hwg : ∀ f d, V c main_v4 (ix2 (n0 := 2816) (n1 := 1024) f d) = ((A.wg f d : ℝ) : EReal)
  hwu : ∀ f d, V c main_v7 (ix2 (n0 := 2816) (n1 := 1024) f d) = ((A.wu f d : ℝ) : EReal)
  hwd : ∀ f d, V c main_v9 (ix2 (n0 := 2816) (n1 := 1024) f d) = ((A.wd f d : ℝ) : EReal)

theorem idx : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val / 8, 0, 0] ∧ win1_6.index t = ![0, 0]
    ∧ win1_7.index t = ![0, 0] ∧ win1_8.index t = ![0, 0] ∧ win1_9.index t = ![0, 0] ∧ win1_10.index t = ![t.val, 0]
    ∧ win1_11.index t = ![t.val, 0] ∧ win1_12.index t = ![t.val, 0] ∧ win1_13.index t = ![t.val, 0] ∧ win1_14.index t = ![t.val, 0]
    ∧ win1_15.index t = ![t.val, 0] ∧ win1_16.index t = ![t.val / 8, 0, 0] :=
  (by decide +kernel : ∀ t : Fin grid1.N, _)

theorem lt16 (t : Fin cfg1.N) : t.val < 16 := lt_of_lt_of_eq t.isLt N_1

/-- A point's parameters, rows and gradient rows. -/
abbrev PP (t : Fin cfg1.N) : Par := A.par (tq t.val (lt16 t))
abbrev XX (t : Fin cfg1.N) (p : Fin 256) : Fin 1024 → ℝ := A.x (row t.val (lt16 t) p)
abbrev CC (t : Fin cfg1.N) (p : Fin 256) : Fin 1024 → ℝ := A.c (row t.val (lt16 t) p)

variable {V c A}

theorem x0_at (h : Ins V c A) (t : Fin cfg1.N) (p : Fin 256) (d : Fin 1024) : iblk1 V c 0 t (ix2 p d) = ((XX A t p d : ℝ) : EReal) := by
  refine Eq.trans ?_ (h.hx (row t.val (lt16 t) p) d); blk_ext [iblk1, idx t, row]

theorem x1_at (h : Ins V c A) (t : Fin cfg1.N) (p : Fin 256) (d : Fin 1024) : iblk1 V c 1 t (ix2 p d) = ((CC A t p d : ℝ) : EReal) := by
  refine Eq.trans ?_ (h.hc (row t.val (lt16 t) p) d); blk_ext [iblk1, idx t, row]

theorem x2_at (h : Ins V c A) (t : Fin cfg1.N) (p : Fin 256) (d : Fin 1024) : iblk1 V c 2 t (ix2 p d) = ((yy (A.par (sqn (row t.val (lt16 t) p))) (XX A t p) d : ℝ) : EReal) := by
  refine Eq.trans ?_ (h.hy (row t.val (lt16 t) p) d); blk_ext [iblk1, idx t, row]

theorem x3_at (h : Ins V c A) (t : Fin cfg1.N) (p : Fin 256) (d : Fin 2816) : iblk1 V c 3 t (ix2 p d) = ((gg (A.par (sqn (row t.val (lt16 t) p))) (XX A t p) d : ℝ) : EReal) := by
  refine Eq.trans ?_ (h.hgb (row t.val (lt16 t) p) d); blk_ext [iblk1, idx t, row]

theorem x4_at (h : Ins V c A) (t : Fin cfg1.N) (p : Fin 256) (d : Fin 2816) : iblk1 V c 4 t (ix2 p d) = ((uu (A.par (sqn (row t.val (lt16 t) p))) (XX A t p) d : ℝ) : EReal) := by
  refine Eq.trans ?_ (h.hub (row t.val (lt16 t) p) d); blk_ext [iblk1, idx t, row]

theorem x5_at (h : Ins V c A) (t : Fin cfg1.N) (k : Fin 9) (d : Fin 1024) : iblk1 V c 5 t (ix3 (0 : Fin 1) k d) = ((A.m (tq t.val (lt16 t)) k d : ℝ) : EReal) := by
  refine Eq.trans ?_ (h.hm (tq t.val (lt16 t)) k d); blk_ext [iblk1, idx t, tq]

theorem x6_at (h : Ins V c A) (t : Fin cfg1.N) (d : Fin 1024) : iblk1 V c 6 t (ix2 (0 : Fin 1) d) = ((A.g d : ℝ) : EReal) := by
  refine Eq.trans ?_ (h.hg d); blk_ext [iblk1, idx t]

theorem x7_at (h : Ins V c A) (t : Fin cfg1.N) (p : Fin 2816) (d : Fin 1024) : iblk1 V c 7 t (ix2 p d) = ((A.wg p d : ℝ) : EReal) := by
  refine Eq.trans ?_ (h.hwg p d); blk_ext [iblk1, idx t]

theorem x8_at (h : Ins V c A) (t : Fin cfg1.N) (p : Fin 2816) (d : Fin 1024) : iblk1 V c 8 t (ix2 p d) = ((A.wu p d : ℝ) : EReal) := by
  refine Eq.trans ?_ (h.hwu p d); blk_ext [iblk1, idx t]

theorem x9_at (h : Ins V c A) (t : Fin cfg1.N) (p : Fin 2816) (d : Fin 1024) : iblk1 V c 9 t (ix2 p d) = ((A.wd p d : ℝ) : EReal) := by
  refine Eq.trans ?_ (h.hwd p d); blk_ext [iblk1, idx t]

theorem ins1 (h : Ins V c A) (t : Fin cfg1.N) :
    Tile.In1 (PP A t) (XX A t) (CC A t)
      (iblk1 V c 0 t) (iblk1 V c 1 t) (iblk1 V c 2 t) (iblk1 V c 3 t) (iblk1 V c 4 t) (View.ld (iblk1 V c 5 t) (Rect.unit (s := S1x9x1024) ![0, 6, 0] ![1, 1, 1024] inb_S1x9x1024_S1x1x1024_0_6_0))
      (View.ld (iblk1 V c 5 t) (Rect.unit (s := S1x9x1024) ![0, 7, 0] ![1, 1, 1024] inb_S1x9x1024_S1x1x1024_0_7_0))
      (View.ld (iblk1 V c 5 t) (Rect.unit (s := S1x9x1024) ![0, 8, 0] ![1, 1, 1024] inb_S1x9x1024_S1x1x1024_0_8_0)) (iblk1 V c 6 t)
      (iblk1 V c 7 t) (iblk1 V c 8 t) (iblk1 V c 9 t) where
  h0 := x0_at h t
  h1 := x1_at h t
  h2 p d := by have e := x2_at h t p d; rwa [sqn_row] at e
  h3 p f := by have e := x3_at h t p f; rwa [sqn_row] at e
  h4 p f := by have e := x4_at h t p f; rwa [sqn_row] at e
  sh d := (Tile.ld_row _ 6 _ d).trans (x5_at h t 6 d)
  sc d := (Tile.ld_row _ 7 _ d).trans (x5_at h t 7 d)
  ga d := (Tile.ld_row _ 8 _ d).trans (x5_at h t 8 d)
  g := x6_at h t
  wg := x7_at h t
  wu := x8_at h t
  wd := x9_at h t

theorem pt10 (h : Ins V c A) (t : Fin cfg1.N) (p : Fin 256) (d : Fin 1024) :
    (outsAt1 V c t.val t.isLt).1 (ix2 p d) = ((dh (PP A t) (XX A t p) (CC A t p) d : ℝ) : EReal) := by
  by_cases h0 : t.val % 8 = 0
  · rw [outsAt1_A V c t h0]; frame_out; exact Tile.b27_at (ins1 h t) p d
  · rw [outsAt1_B V c t h0]; frame_out; exact Tile.b27_at (ins1 h t) p d

theorem pt11 (h : Ins V c A) (t : Fin cfg1.N) (p : Fin 256) (d : Fin 1024) :
    (outsAt1 V c t.val t.isLt).2.1 (ix2 p d) = ((xn (PP A t) (XX A t p) d : ℝ) : EReal) := by
  by_cases h0 : t.val % 8 = 0
  · rw [outsAt1_A V c t h0]; frame_out; exact Tile.b10_at (ins1 h t) p d
  · rw [outsAt1_B V c t h0]; frame_out; exact Tile.b10_at (ins1 h t) p d

theorem pt12 (h : Ins V c A) (t : Fin cfg1.N) (p : Fin 256) (d : Fin 1024) :
    (outsAt1 V c t.val t.isLt).2.2.1 (ix2 p d) = ((dy (PP A t) (CC A t p) d : ℝ) : EReal) := by
  by_cases h0 : t.val % 8 = 0
  · rw [outsAt1_A V c t h0]; frame_out; exact Tile.b11_at (ins1 h t) p d
  · rw [outsAt1_B V c t h0]; frame_out; exact Tile.b11_at (ins1 h t) p d

theorem pt13 (h : Ins V c A) (t : Fin cfg1.N) (p : Fin 256) (d : Fin 2816) :
    (outsAt1 V c t.val t.isLt).2.2.2.1 (ix2 p d) = ((aa (PP A t) (XX A t p) d : ℝ) : EReal) := by
  by_cases h0 : t.val % 8 = 0
  · rw [outsAt1_A V c t h0]; frame_out; exact Tile.b20_at (ins1 h t) p d
  · rw [outsAt1_B V c t h0]; frame_out; exact Tile.b20_at (ins1 h t) p d

theorem pt14 (h : Ins V c A) (t : Fin cfg1.N) (p : Fin 256) (d : Fin 2816) :
    (outsAt1 V c t.val t.isLt).2.2.2.2.1 (ix2 p d) = ((dg (PP A t) (XX A t p) (CC A t p) d : ℝ) : EReal) := by
  by_cases h0 : t.val % 8 = 0
  · rw [outsAt1_A V c t h0]; frame_out; exact Tile.b23_at (ins1 h t) p d
  · rw [outsAt1_B V c t h0]; frame_out; exact Tile.b23_at (ins1 h t) p d

theorem pt15 (h : Ins V c A) (t : Fin cfg1.N) (p : Fin 256) (d : Fin 2816) :
    (outsAt1 V c t.val t.isLt).2.2.2.2.2.1 (ix2 p d) = ((du (PP A t) (XX A t p) (CC A t p) d : ℝ) : EReal) := by
  by_cases h0 : t.val % 8 = 0
  · rw [outsAt1_A V c t h0]; frame_out; exact Tile.b22_at (ins1 h t) p d
  · rw [outsAt1_B V c t h0]; frame_out; exact Tile.b22_at (ins1 h t) p d

/-- What a point adds to its sequence's three sums. -/
def term (A : Data) (t : Fin cfg1.N) (k : Fin 8) (d : Fin 1024) : ℝ := ∑ p, part (PP A t) (XX A t p) (CC A t p) k d

theorem pt16A (h : Ins V c A) (t : Fin cfg1.N) (h0 : t.val % 8 = 0) (k : Fin 8) (d : Fin 1024) :
    (outsAt1 V c t.val t.isLt).2.2.2.2.2.2 (ix3 (0 : Fin 1) k d) = ((term A t k d : ℝ) : EReal) := by
  rw [outsAt1_A V c t h0]; frame_out
  exact (MgRows.reset _ _ _ _ _ _ _ _ k d).trans (MgRows.trm_eq _ _ _ _ _ _ k d (Tile.b25_at (ins1 h t) d) (Tile.b26_at (ins1 h t) d) (Tile.b12_at (ins1 h t) d))

theorem pt16B (h : Ins V c A) (t : Fin cfg1.N) (h0 : ¬ t.val % 8 = 0) (k : Fin 8) (d : Fin 1024) :
    (outsAt1 V c t.val t.isLt).2.2.2.2.2.2 (ix3 (0 : Fin 1) k d)
      = (outsAt1 V c (t.val - 1) (Nat.lt_of_le_of_lt (Nat.sub_le _ _) t.isLt)).2.2.2.2.2.2 (ix3 (0 : Fin 1) k d) + ((term A t k d : ℝ) : EReal) := by
  rw [outsAt1_B V c t h0]; frame_out
  exact (MgRows.step _ _ _ _ _ _ _ _ _ k d).trans (congrArg _ (MgRows.trm_eq _ _ _ _ _ _ k d (Tile.b25_at (ins1 h t) d) (Tile.b26_at (ins1 h t) d) (Tile.b12_at (ins1 h t) d)))

end Cert.KernelIdeal.Reg1

end
-- ==== Proof.Reg1.lean ====
/- The arrays the backward call leaves, over the real numbers: every row the row functions' value at that row, and each
   sequence's three sums over its rows. -/
module

public import proofs.«01_k».proof.Proof.Reg1P

@[expose] public section

set_option maxRecDepth 16384

noncomputable section

namespace Cert.KernelIdeal.Reg1

open Cert.KernelIdeal Cert.KernelIdeal.Gen Idealize.ShloMosaic Idealize.ShloMosaic.TcCoe Idealize.SL.Sem Cert.Half
open Idealize.ShloMosaic.Pipeline (Dat)
open scoped BigOperators

variable {V : (c : Dev nD) → (b : Ref sig .tc) → Buf (Elt Ideal) ((c : Thread nD τ).loc b)} {c : Dev nD} {A : Data}

/-- The rows of the gradient of the half step's input. -/
theorem final10 (h : Ins V c A) : (dat1 V c).arrAt 10 cfg1.N = fun i : S4096x1024.Idx => ((dh (A.par (sqn (i 0))) (A.x (i 0)) (A.c (i 0)) (i 1) : ℝ) : EReal) := by
  refine (dat1 V c).arrAt_eq_of_covers 10 _ (by decide +kernel) fun t hf y => ?_
  blk_simp
  rw [after1_10]
  have e0 : (win1_10.blk t).view.emb y 0 = row t.val (lt16 t) (y 0) := Fin.ext (by blk_simp [idx t, row])
  have e1 : (win1_10.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt10 h t (y 0) (y 1))

/-- The normalised, modulated rows. -/
theorem final11 (h : Ins V c A) : (dat1 V c).arrAt 11 cfg1.N = fun i : S4096x1024.Idx => ((xn (A.par (sqn (i 0))) (A.x (i 0)) (i 1) : ℝ) : EReal) := by
  refine (dat1 V c).arrAt_eq_of_covers 11 _ (by decide +kernel) fun t hf y => ?_
  blk_simp
  rw [after1_11]
  have e0 : (win1_11.blk t).view.emb y 0 = row t.val (lt16 t) (y 0) := Fin.ext (by blk_simp [idx t, row])
  have e1 : (win1_11.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt11 h t (y 0) (y 1))

/-- The gradient of the rows before their gate. -/
theorem final12 (h : Ins V c A) : (dat1 V c).arrAt 12 cfg1.N = fun i : S4096x1024.Idx => ((dy (A.par (sqn (i 0))) (A.c (i 0)) (i 1) : ℝ) : EReal) := by
  refine (dat1 V c).arrAt_eq_of_covers 12 _ (by decide +kernel) fun t hf y => ?_
  blk_simp
  rw [after1_12]
  have e0 : (win1_12.blk t).view.emb y 0 = row t.val (lt16 t) (y 0) := Fin.ext (by blk_simp [idx t, row])
  have e1 : (win1_12.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt12 h t (y 0) (y 1))

/-- The gated hidden rows. -/
theorem final13 (h : Ins V c A) : (dat1 V c).arrAt 13 cfg1.N = fun i : S4096x2816.Idx => ((aa (A.par (sqn (i 0))) (A.x (i 0)) (i 1) : ℝ) : EReal) := by
  refine (dat1 V c).arrAt_eq_of_covers 13 _ (by decide +kernel) fun t hf y => ?_
  blk_simp
  rw [after1_13]
  have e0 : (win1_13.blk t).view.emb y 0 = row t.val (lt16 t) (y 0) := Fin.ext (by blk_simp [idx t, row])
  have e1 : (win1_13.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt13 h t (y 0) (y 1))

/-- The gradient of the first hidden rows. -/
theorem final14 (h : Ins V c A) : (dat1 V c).arrAt 14 cfg1.N = fun i : S4096x2816.Idx => ((dg (A.par (sqn (i 0))) (A.x (i 0)) (A.c (i 0)) (i 1) : ℝ) : EReal) := by
  refine (dat1 V c).arrAt_eq_of_covers 14 _ (by decide +kernel) fun t hf y => ?_
  blk_simp
  rw [after1_14]
  have e0 : (win1_14.blk t).view.emb y 0 = row t.val (lt16 t) (y 0) := Fin.ext (by blk_simp [idx t, row])
  have e1 : (win1_14.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt14 h t (y 0) (y 1))

/-- The gradient of the second hidden rows. -/
theorem final15 (h : Ins V c A) : (dat1 V c).arrAt 15 cfg1.N = fun i : S4096x2816.Idx => ((du (A.par (sqn (i 0))) (A.x (i 0)) (A.c (i 0)) (i 1) : ℝ) : EReal) := by
  refine (dat1 V c).arrAt_eq_of_covers 15 _ (by decide +kernel) fun t hf y => ?_
  blk_simp
  rw [after1_15]
  have e0 : (win1_15.blk t).view.emb y 0 = row t.val (lt16 t) (y 0) := Fin.ext (by blk_simp [idx t, row])
  have e1 : (win1_15.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt15 h t (y 0) (y 1))

/-- A sequence's three sums, tile by tile. -/
def mgsum (A : Data) (b : Fin 2) (k : Fin 8) (d : Fin 1024) : ℝ :=
  ∑ s : Fin 8, ∑ p : Fin 256, part (A.par b) (A.x (row (8 * b.val + s.val) (by omega) p)) (A.c (row (8 * b.val + s.val) (by omega) p)) k d

/-- Each sequence's three sums. -/
theorem final16 (h : Ins V c A) : (dat1 V c).arrAt 16 cfg1.N = fun i : S2x8x1024.Idx => ((mgsum A (i 0) (i 1) (i 2) : ℝ) : EReal) := by
  refine (dat1 V c).arrAt_eq_of_covers 16 _ (by decide +kernel) fun t hf y => ?_
  blk_simp
  rw [after1_16]
  have e0 : (win1_16.blk t).view.emb y 0 = tq t.val (lt16 t) := Fin.ext (by blk_simp [idx t, tq])
  have e1 : (win1_16.blk t).view.emb y 1 = y 1 := Fin.ext (by blk_simp [idx t])
  have e2 : (win1_16.blk t).view.emb y 2 = y 2 := Fin.ext (by blk_simp [idx t])
  rw [e0, e1, e2]
  have hy : y = ix3 (0 : Fin 1) (y 1) (y 2) := by blk_ext []
  refine (congrArg _ hy).trans ?_
  have key := Pipeline.eq_sum_fin_of_reset_step_apply_of_flush
    (fun (n : ℕ) (hn : n < cfg1.N) (q : Fin 8 × Fin 1024) => (show EReal from (outsAt1 V c n hn).2.2.2.2.2.2 (ix3 (0 : Fin 1) q.1 q.2))) 8 (fun _ => 0)
    (fun t q => ((term A t q.1 q.2 : ℝ) : EReal)) (fun t h0 q => (pt16A h t h0 q.1 q.2).trans (zero_add _).symm) (fun t h0 q => pt16B h t h0 q.1 q.2)
    t ((flush1_16 t).mp hf) (y 1, y 2)
  refine key.trans ?_
  rw [zero_add, coe_sum]
  refine congrArg _ (Finset.sum_congr rfl fun s _ => ?_)
  unfold term
  have hq : tq (8 * (t.val / 8) + s.val) (by have := lt16 t; omega) = tq t.val (lt16 t) := Fin.ext (by simp only [tq]; omega)
  simp only [PP, XX, CC]
  rw [hq]
  rfl

end Cert.KernelIdeal.Reg1

end
-- ==== Proof.Reg2.lean ====
/- The array the weight gradient's call leaves, over the real numbers: the sum over all rows of the first hidden row's
   gradient times the normalised row. -/
module

public import proofs.«01_k».proof.Proof.Gen.KernelIdeal.Frame
public import proofs.«01_k».proof.Proof.Coe
public import proofs.«01_k».proof.Proof.Data
public import Idealize.ShloMosaic.Lib.Pointwise
public import Idealize.ShloMosaic.Lib.Pipeline.ValueKit

@[expose] public section

set_option maxRecDepth 16384

noncomputable section

namespace Cert.KernelIdeal.Reg2

open Cert.KernelIdeal Cert.KernelIdeal.Gen Idealize.ShloMosaic Idealize.ShloMosaic.TcCoe Idealize.SL.Sem Cert.Half
open Idealize.ShloMosaic.Pipeline (Dat)
open scoped BigOperators

variable (V : (c : Dev nD) → (b : Ref sig .tc) → Buf (Elt Ideal) ((c : Thread nD τ).loc b)) (c : Dev nD)
  (D : Fin 4096 → Fin 2816 → ℝ) (X : Fin 4096 → Fin 1024 → ℝ)

/-- The two arrays the call finds are real. -/
structure Ins : Prop where
  hd : ∀ i f, V c main_v12_4 (ix2 (n0 := 4096) (n1 := 2816) i f) = ((D i f : ℝ) : EReal)
  hx : ∀ i d, V c main_v12_1 (ix2 (n0 := 4096) (n1 := 1024) i d) = ((X i d : ℝ) : EReal)

theorem idx : ∀ t : Fin cfg2.N, win2_0.index t = ![t.val % 2, t.val / 2] ∧ win2_1.index t = ![t.val % 2, 0] ∧ win2_2.index t = ![t.val / 2, 0] :=
  (by decide +kernel : ∀ t : Fin grid2.N, _)

theorem lt4 (t : Fin cfg2.N) : t.val < 4 := lt_of_lt_of_eq t.isLt N_2

/-- A row of the half of the rows, and a column of the half of the columns, a point reads. -/
def rw2 (s : ℕ) (h : s < 2) (k : Fin 2048) : Fin 4096 := ⟨s * 2048 + k.val, by omega⟩
def cl2 (s : ℕ) (h : s < 2) (f : Fin 1408) : Fin 2816 := ⟨s * 1408 + f.val, by omega⟩

theorem pay_at (acc : Vec Ideal S1408x1024 .f32) (a : Vec Ideal S2048x1408 .bf16) (b : Vec Ideal S2048x1024 .bf16) (f : Fin 1408) (d : Fin 1024) :
    k2_pay2 acc a b (ix2 f d) = acc (ix2 f d) + ∑ k : Fin 2048, a (ix2 k f) * b (ix2 k d) := by pointwise [k2_pay2]

theorem zero_at (f : Fin 1408) (d : Fin 1024) : k2_pay1 (F := Ideal) (ix2 f d) = 0 := by pointwise [k2_pay1]

variable {V c D X}

theorem a_at (h : Ins V c D X) (t : Fin cfg2.N) (k : Fin 2048) (f : Fin 1408) :
    iblk2 V c 0 t (ix2 k f) = ((D (rw2 (t.val % 2) (by omega) k) (cl2 (t.val / 2) (by have := lt4 t; omega) f) : ℝ) : EReal) := by
  refine Eq.trans ?_ (h.hd (rw2 (t.val % 2) (by omega) k) (cl2 (t.val / 2) (by have := lt4 t; omega) f)); blk_ext [iblk2, idx t, rw2, cl2]

theorem b_at (h : Ins V c D X) (t : Fin cfg2.N) (k : Fin 2048) (d : Fin 1024) :
    iblk2 V c 1 t (ix2 k d) = ((X (rw2 (t.val % 2) (by omega) k) d : ℝ) : EReal) := by
  refine Eq.trans ?_ (h.hx (rw2 (t.val % 2) (by omega) k) d); blk_ext [iblk2, idx t, rw2]

/-- What a point adds. -/
def term (D : Fin 4096 → Fin 2816 → ℝ) (X : Fin 4096 → Fin 1024 → ℝ) (t : Fin cfg2.N) (f : Fin 1408) (d : Fin 1024) : ℝ :=
  ∑ k : Fin 2048, D (rw2 (t.val % 2) (by omega) k) (cl2 (t.val / 2) (by have := lt4 t; omega) f) * X (rw2 (t.val % 2) (by omega) k) d

theorem add_at (h : Ins V c D X) (t : Fin cfg2.N) (acc : Vec Ideal S1408x1024 .f32) (f : Fin 1408) (d : Fin 1024) :
    k2_pay2 acc (iblk2 V c 0 t) (iblk2 V c 1 t) (ix2 f d) = acc (ix2 f d) + ((term D X t f d : ℝ) : EReal) := by
  rw [pay_at]
  simp only [a_at h, b_at h, ← EReal.coe_mul, coe_sum]
  rfl

theorem ptA (h : Ins V c D X) (t : Fin cfg2.N) (h0 : t.val % 2 = 0) (f : Fin 1408) (d : Fin 1024) :
    outsAt2 V c t.val t.isLt (ix2 f d) = ((term D X t f d : ℝ) : EReal) := by
  rw [outsAt2_A V c t h0]; frame_out
  rw [add_at h, zero_at, zero_add]

theorem ptB (h : Ins V c D X) (t : Fin cfg2.N) (h0 : ¬ t.val % 2 = 0) (f : Fin 1408) (d : Fin 1024) :
    outsAt2 V c t.val t.isLt (ix2 f d)
      = outsAt2 V c (t.val - 1) (Nat.lt_of_le_of_lt (Nat.sub_le _ _) t.isLt) (ix2 f d) + ((term D X t f d : ℝ) : EReal) := by
  rw [outsAt2_B V c t h0]; frame_out
  rw [add_at h]

/-- The weight gradient, half of the rows by half of the rows. -/
theorem final2 (h : Ins V c D X) : (dat2 V c).arrAt 2 cfg2.N = fun i : S2816x1024.Idx =>
    ((∑ s : Fin 2, ∑ k : Fin 2048, D (rw2 s.val s.isLt k) (i 0) * X (rw2 s.val s.isLt k) (i 1) : ℝ) : EReal) := by
  refine (dat2 V c).arrAt_eq_of_covers 2 _ (by decide +kernel) fun t hf y => ?_
  blk_simp
  rw [after2_2]
  have e0 : (win2_2.blk t).view.emb y 0 = cl2 (t.val / 2) (by have := lt4 t; omega) (y 0) := Fin.ext (by blk_simp [idx t, cl2])
  have e1 : (win2_2.blk t).view.emb y 1 = y 1 := Fin.ext (by blk_simp [idx t])
  rw [e0, e1]
  have hy : y = ix2 (y 0) (y 1) := by blk_ext []
  refine (congrArg _ hy).trans ?_
  have key := Pipeline.eq_sum_fin_of_reset_step_apply_of_flush
    (fun (n : ℕ) (hn : n < cfg2.N) (q : Fin 1408 × Fin 1024) => (show EReal from outsAt2 V c n hn (ix2 q.1 q.2))) 2 (fun _ => 0)
    (fun t q => ((term D X t q.1 q.2 : ℝ) : EReal)) (fun t h0 q => (ptA h t h0 q.1 q.2).trans (zero_add _).symm) (fun t h0 q => ptB h t h0 q.1 q.2)
    t ((flush2_2 t).mp hf) (y 0, y 1)
  refine key.trans ?_
  rw [zero_add, coe_sum]
  refine congrArg _ (Finset.sum_congr rfl fun s _ => Finset.sum_congr rfl fun k _ => ?_)
  have q0 : rw2 ((2 * (t.val / 2) + s.val) % 2) (by omega) k = rw2 s.val s.isLt k := Fin.ext (by simp only [rw2]; omega)
  have q1 : cl2 ((2 * (t.val / 2) + s.val) / 2) (by have := lt4 t; omega) (y 0) = cl2 (t.val / 2) (by have := lt4 t; omega) (y 0) :=
    Fin.ext (by simp only [cl2]; omega)
  rw [q0, q1]

end Cert.KernelIdeal.Reg2

end
-- ==== Proof.HostIn.lean ====
/- What the calls find: the host operations before them only reshape, convert and transpose the arguments, so each
   operand holds the real arrays. -/
module

public import proofs.«01_k».proof.Proof.Gen.KernelIdeal.Frame
public import proofs.«01_k».proof.Proof.Args
public import proofs.«01_k».proof.Proof.Reg0
public import proofs.«01_k».proof.Proof.Reg1
public import proofs.«01_k».proof.Proof.Reg2
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Idealize.SL.Sem Cert.Half

variable (m : (ℓ : Loc nD τ sig) → Buf (Elt Ideal) ℓ) (ρ : Dev nD → PrngReg) (c : Dev nD)

/-- The arguments of a device hold the real arrays. -/
abbrev ArgsAt (A : Data) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) A

theorem rows_at (X : FVec Ideal S2x2048x1024 .f32) (i : Fin 4096) (d : Fin 1024) :
    shapeCast S4096x1024 X shapeCasts_S2x2048x1024_S4096x1024 (ix2 i d)
      = X (ix3 (⟨i.val / 2048, by omega⟩ : Fin 2) (⟨i.val % 2048, by omega⟩ : Fin 2048) d) := by
  pointwise

theorem mods_at (X : FVec Ideal S2x9216 .f32) (b : Fin 2) (k : Fin 9) (d : Fin 1024) :
    shapeCast S2x9x1024 X shapeCasts_S2x9216_S2x9x1024 (ix3 b k d) = X (ix2 b (mcol k d)) := by
  pointwise
  rfl

theorem up_at (X : FVec Ideal S1x1024x2816 .f32) (f : Fin 2816) (d : Fin 1024) :
    transpose S2816x1024 [1, 0] (truncf .bf16 (shapeCast S1024x2816 X shapeCasts_S1x1024x2816_S1024x2816) bitsLt_bf16_f32)
      transposes_S1024x2816_S2816x1024_1_0 (ix2 f d) = X (ix3 (n0 := 1) 0 d f) := by
  pointwise

theorem down_at (X : FVec Ideal S1x2816x1024 .f32) (f : Fin 2816) (d : Fin 1024) :
    truncf .bf16 (shapeCast S2816x1024 X shapeCasts_S1x2816x1024_S2816x1024) bitsLt_bf16_f32 (ix2 f d) = X (ix3 (n0 := 1) 0 f d) := by
  pointwise

variable {m c} {A : Data}

theorem v0_at (h : ArgsAt m c A) (i : Fin 4096) (d : Fin 1024) :
    V1 m ρ c main_v0 (ix2 (n0 := 4096) (n1 := 1024) i d) = ((A.x i d : ℝ) : EReal) := by
  show StableHlo.after hostOps0 (W0 m ρ c) (Proc.devRef .tc main_v0) (ix2 (n0 := 4096) (n1 := 1024) i d) = _
  after_results
  refine (rows_at _ i d).trans ((h.x _ _ d).trans ?_)
  congr 2
  exact Fin.ext (by simp only [rw2]; omega)

theorem v10_at (h : ArgsAt m c A) (i : Fin 4096) (d : Fin 1024) :
    V1 m ρ c main_v10 (ix2 (n0 := 4096) (n1 := 1024) i d) = ((A.t i d : ℝ) : EReal) := by
  show StableHlo.after hostOps0 (W0 m ρ c) (Proc.devRef .tc main_v10) (ix2 (n0 := 4096) (n1 := 1024) i d) = _
  after_results
  refine (rows_at _ i d).trans ((h.t _ _ d).trans ?_)
  congr 2
  exact Fin.ext (by simp only [rw2]; omega)

theorem v1_at (h : ArgsAt m c A) (b : Fin 2) (k : Fin 9) (d : Fin 1024) :
    V1 m ρ c main_v1 (ix3 (n0 := 2) (n1 := 9) (n2 := 1024) b k d) = ((A.m b k d : ℝ) : EReal) := by
  show StableHlo.after hostOps0 (W0 m ρ c) (Proc.devRef .tc main_v1) (ix3 (n0 := 2) (n1 := 9) (n2 := 1024) b k d) = _
  after_results
  exact (mods_at _ b k d).trans (h.m b k d)

theorem v4_at (h : ArgsAt m c A) (f : Fin 2816) (d : Fin 1024) :
    V1 m ρ c main_v4 (ix2 (n0 := 2816) (n1 := 1024) f d) = ((A.wg f d : ℝ) : EReal) := by
  show StableHlo.after hostOps0 (W0 m ρ c) (Proc.devRef .tc main_v4) (ix2 (n0 := 2816) (n1 := 1024) f d) = _
  after_results
  exact (up_at _ f d).trans (h.wg f d)

theorem v7_at (h : ArgsAt m c A) (f : Fin 2816) (d : Fin 1024) :
    V1 m ρ c main_v7 (ix2 (n0 := 2816) (n1 := 1024) f d) = ((A.wu f d : ℝ) : EReal) := by
  show StableHlo.after hostOps0 (W0 m ρ c) (Proc.devRef .tc main_v7) (ix2 (n0 := 2816) (n1 := 1024) f d) = _
  after_results
  exact (up_at _ f d).trans (h.wu f d)

theorem v9_at (h : ArgsAt m c A) (f : Fin 2816) (d : Fin 1024) :
    V1 m ρ c main_v9 (ix2 (n0 := 2816) (n1 := 1024) f d) = ((A.wd f d : ℝ) : EReal) := by
  show StableHlo.after hostOps0 (W0 m ρ c) (Proc.devRef .tc main_v9) (ix2 (n0 := 2816) (n1 := 1024) f d) = _
  after_results
  exact (down_at _ f d).trans (h.wd f d)

theorem g_at (h : ArgsAt m c A) (d : Fin 1024) :
    V1 m ρ c main_arg3 (ix2 (n0 := 1) (n1 := 1024) 0 d) = ((A.g d : ℝ) : EReal) :=
  (congrFun (W1_args m ρ c main_arg3 (by decide)) _).trans (h.g d)

/-- What the forward call finds. -/
theorem ins0 (h : ArgsAt m c A) : Reg0.Ins (V1 m ρ) c A :=
  ⟨v0_at ρ h, v1_at ρ h, g_at ρ h, v4_at ρ h, v7_at ρ h, v9_at ρ h, v10_at ρ h⟩

/-- What the backward call finds: the forward call writes four of its operands and leaves the others. -/
theorem ins1 (h : ArgsAt m c A) : Reg1.Ins (V2 m ρ) c A where
  hx i d := (congrFun (W2_of m ρ c main_v0 (by decide +kernel)) _).trans (v0_at ρ h i d)
  hc i d := congrFun ((W2_arr m ρ c 7).trans (Reg0.final7 (ins0 ρ h))) _
  hy i d := congrFun ((W2_arr m ρ c 8).trans (Reg0.final8 (ins0 ρ h))) _
  hgb i f := congrFun ((W2_arr m ρ c 9).trans (Reg0.final9 (ins0 ρ h))) _
  hub i f := congrFun ((W2_arr m ρ c 10).trans (Reg0.final10 (ins0 ρ h))) _
  hm b k d := (congrFun (W2_of m ρ c main_v1 (by decide +kernel)) _).trans (v1_at ρ h b k d)
  hg d := (congrFun (W2_of m ρ c main_arg3 (by decide +kernel)) _).trans (g_at ρ h d)
  hwg f d := (congrFun (W2_of m ρ c main_v4 (by decide +kernel)) _).trans (v4_at ρ h f d)
  hwu f d := (congrFun (W2_of m ρ c main_v7 (by decide +kernel)) _).trans (v7_at ρ h f d)
  hwd f d := (congrFun (W2_of m ρ c main_v9 (by decide +kernel)) _).trans (v9_at ρ h f d)

/-- What the weight gradient's call finds: two results of the backward call. -/
theorem ins2 (h : ArgsAt m c A) : Reg2.Ins (V3 m ρ) c (fun i f => dg (A.par (sqn i)) (A.x i) (A.c i) f) (fun i d => xn (A.par (sqn i)) (A.x i) d) where
  hd i f := congrFun ((W3_arr m ρ c 14).trans (Reg1.final14 (ins1 ρ h))) _
  hx i d := congrFun ((W3_arr m ρ c 11).trans (Reg1.final11 (ins1 ρ h))) _

end Cert.KernelIdeal.Host

end
-- ==== Proof.Results.lean ====
/- The eight results over the real numbers, and the sums over the tiles put as sums over a sequence's rows. -/
module

public import proofs.«01_k».proof.Proof.Args
public import proofs.«01_k».proof.Proof.Reg0
public import proofs.«01_k».proof.Proof.Reg1
public import proofs.«01_k».proof.Proof.Reg2

@[expose] public section

noncomputable section

namespace Cert.Half

open Cert.KernelIdeal Idealize.ShloMosaic
open scoped BigOperators

variable (A : Data)

/-- One row's square error. -/
def sqe (i : Fin 4096) : ℝ := ∑ d, er (A.par (sqn i)) (A.x i) (A.t i) d * er (A.par (sqn i)) (A.x i) (A.t i) d

/-- The loss: half the sum of the rows' mean square errors. -/
def loss : ℝ := 1 / 2 * ∑ b : Fin 2, ∑ s : Fin 2048, sqe A (rw2 b.val b.isLt s) * (1 / 1024)

def oLoss : FVec Ideal S_ .f32 := fun _ => ((loss A : ℝ) : EReal)
def oDh : FVec Ideal S4096x1024 .f32 := fun i : S4096x1024.Idx => ((dh (A.par (sqn (i 0))) (A.x (i 0)) (A.c (i 0)) (i 1) : ℝ) : EReal)
def oXn : FVec Ideal S4096x1024 .bf16 := fun i : S4096x1024.Idx => ((xn (A.par (sqn (i 0))) (A.x (i 0)) (i 1) : ℝ) : EReal)
def oDy : FVec Ideal S4096x1024 .bf16 := fun i : S4096x1024.Idx => ((dy (A.par (sqn (i 0))) (A.c (i 0)) (i 1) : ℝ) : EReal)
def oAa : FVec Ideal S4096x2816 .bf16 := fun i : S4096x2816.Idx => ((aa (A.par (sqn (i 0))) (A.x (i 0)) (i 1) : ℝ) : EReal)
def oDu : FVec Ideal S4096x2816 .bf16 := fun i : S4096x2816.Idx => ((du (A.par (sqn (i 0))) (A.x (i 0)) (A.c (i 0)) (i 1) : ℝ) : EReal)

/-- The first hidden matrix's gradient: the sum over all rows. -/
def oWg : FVec Ideal S2816x1024 .f32 := fun i : S2816x1024.Idx =>
  ((∑ b : Fin 2, ∑ s : Fin 2048, dg (A.par b) (A.x (rw2 b.val b.isLt s)) (A.c (rw2 b.val b.isLt s)) (i 0)
    * xn (A.par b) (A.x (rw2 b.val b.isLt s)) (i 1) : ℝ) : EReal)

/-- Each sequence's three sums over its rows. -/
def oMg : FVec Ideal S2x8x1024 .f32 := fun i : S2x8x1024.Idx =>
  ((∑ s : Fin 2048, part (A.par (i 0)) (A.x (rw2 (i 0).val (i 0).isLt s)) (A.c (rw2 (i 0).val (i 0).isLt s)) (i 1) (i 2) : ℝ) : EReal)

/-- Sixteen tiles of 256 rows are two sequences of 2048. -/
theorem sum_tiles (E : Fin 4096 → ℝ) :
    ∑ t : Fin 16, ∑ p : Fin 256, E (row t.val t.isLt p) = ∑ b : Fin 2, ∑ s : Fin 2048, E (rw2 b.val b.isLt s) :=
  (Fin.sum_mul_add_fin 16 256 E (by decide)).trans (Fin.sum_mul_add_fin 2 2048 E (by decide)).symm

/-- Eight tiles of one sequence are its 2048 rows. -/
theorem sum_seq (b : Fin 2) (E : Fin 4096 → ℝ) :
    ∑ s : Fin 8, ∑ p : Fin 256, E (row (8 * b.val + s.val) (by omega) p) = ∑ s : Fin 2048, E (rw2 b.val b.isLt s) := by
  refine Fin.sum_mul_add_congr (f := fun s : Fin 2048 => E (rw2 b.val b.isLt s)) (fun s p hl => ?_) (by decide)
  refine congrArg E (Fin.ext ?_)
  simp only [row, rw2]
  omega

theorem loss_tiles : ∑ t : Fin 16, Reg0.Tl A t = loss A := by
  have e : ∀ t : Fin 16, Reg0.Tl A t = ∑ p : Fin 256, 1 / 2048 * sqe A (row t.val t.isLt p) := fun t => by
    rw [← Finset.mul_sum]
    simp only [Reg0.Tl, sqe, sqn_row]
  rw [Finset.sum_congr rfl fun t _ => e t, sum_tiles fun i => 1 / 2048 * sqe A i, loss, Finset.mul_sum]
  refine Finset.sum_congr rfl fun b _ => ?_
  rw [Finset.mul_sum]
  refine Finset.sum_congr rfl fun s _ => ?_
  ring

theorem mg_tiles (b : Fin 2) (k : Fin 8) (d : Fin 1024) :
    Reg1.mgsum A b k d = ∑ s : Fin 2048, part (A.par b) (A.x (rw2 b.val b.isLt s)) (A.c (rw2 b.val b.isLt s)) k d :=
  sum_seq b fun i => part (A.par b) (A.x i) (A.c i) k d

end Cert.Half

end
-- ==== Proof.KerRun.lean ====
/- The kernel program's run: it ends with the eight results of the real arrays, and its arguments as launched. -/
module

public import proofs.«01_k».proof.Proof.HostIn
public import proofs.«01_k».proof.Proof.Results

@[expose] public section

set_option maxRecDepth 16384

noncomputable section

namespace Cert.KernelIdeal.Host

open Cert.KernelIdeal Cert.KernelIdeal.Gen Cert.Half
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every unscoped buffer ends at the contents after the last host operation. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

variable {m} {c : Dev nD} {A : Data}

/-- The loss of the tiles, added up. -/
theorem total_at (X : FVec Ideal S16x8x128 .f32) (i : S_.Idx) :
    Host.reduceAdd (shapeCast S16 (extractStridedSlice S16x1x1 ![0, 0, 0] X slices_S16x8x128_S16x1x1_0_0_0) shapeCasts_S16x1x1_S16)
      (constant S_ .f32 0x00000000#32) reducesTo_S16_S_d0 h_S_ i = ∑ t : Fin 16, X (ix3 (n1 := 8) (n2 := 128) t 0 0) := by
  obtain rfl : i = ix0 := funext fun a => a.elim0
  pointwise

theorem loss_eq (h : ArgsAt m c A) : W5 m ρ c (Proc.devRef .tc main_v16) = oLoss A := by
  show StableHlo.after hostOps3 (W4 m ρ c) (Proc.devRef .tc main_v16) = _
  after_results
  refine funext fun i => ?_
  refine (total_at _ i).trans ?_
  have e : W4 m ρ c (Proc.devRef .tc main_v11_4) = fun i : S16x8x128.Idx => ((Reg0.Tl A (i 0) : ℝ) : EReal) :=
    (W4_of m ρ c main_v11_4 (by decide +kernel)).trans ((W3_of m ρ c main_v11_4 (by decide +kernel)).trans
      ((W2_arr m ρ c 11).trans (Reg0.final11 (ins0 ρ h))))
  rw [e]
  refine (coe_sum _ _).trans (congrArg _ ?_)
  exact loss_tiles A

theorem dh_eq (h : ArgsAt m c A) : W5 m ρ c (Proc.devRef .tc main_v12_0) = oDh A :=
  (W5_of m ρ c main_v12_0 (by decide)).trans ((W4_of m ρ c main_v12_0 (by decide +kernel)).trans ((W3_arr m ρ c 10).trans (Reg1.final10 (ins1 ρ h))))
theorem xn_eq (h : ArgsAt m c A) : W5 m ρ c (Proc.devRef .tc main_v12_1) = oXn A :=
  (W5_of m ρ c main_v12_1 (by decide)).trans ((W4_of m ρ c main_v12_1 (by decide +kernel)).trans ((W3_arr m ρ c 11).trans (Reg1.final11 (ins1 ρ h))))
theorem dy_eq (h : ArgsAt m c A) : W5 m ρ c (Proc.devRef .tc main_v12_2) = oDy A :=
  (W5_of m ρ c main_v12_2 (by decide)).trans ((W4_of m ρ c main_v12_2 (by decide +kernel)).trans ((W3_arr m ρ c 12).trans (Reg1.final12 (ins1 ρ h))))
theorem aa_eq (h : ArgsAt m c A) : W5 m ρ c (Proc.devRef .tc main_v12_3) = oAa A :=
  (W5_of m ρ c main_v12_3 (by decide)).trans ((W4_of m ρ c main_v12_3 (by decide +kernel)).trans ((W3_arr m ρ c 13).trans (Reg1.final13 (ins1 ρ h))))
theorem du_eq (h : ArgsAt m c A) : W5 m ρ c (Proc.devRef .tc main_v12_5) = oDu A :=
  (W5_of m ρ c main_v12_5 (by decide)).trans ((W4_of m ρ c main_v12_5 (by decide +kernel)).trans ((W3_arr m ρ c 15).trans (Reg1.final15 (ins1 ρ h))))
theorem mg_eq (h : ArgsAt m c A) : W5 m ρ c (Proc.devRef .tc main_v12_6) = oMg A := by
  refine (W5_of m ρ c main_v12_6 (by decide)).trans ((W4_of m ρ c main_v12_6 (by decide +kernel)).trans ((W3_arr m ρ c 16).trans ((Reg1.final16 (ins1 ρ h)).trans ?_)))
  exact funext fun i : S2x8x1024.Idx => congrArg _ (mg_tiles A (i 0) (i 1) (i 2))

theorem wg_eq (h : ArgsAt m c A) : W5 m ρ c (Proc.devRef .tc main_v13) = oWg A := by
  refine (W5_of m ρ c main_v13 (by decide)).trans ((W4_arr m ρ c 2).trans ((Reg2.final2 (ins2 ρ h)).trans ?_))
  refine funext fun i : S2816x1024.Idx => congrArg _ (Finset.sum_congr rfl fun b _ => Finset.sum_congr rfl fun s _ => ?_)
  have e : sqn (Reg2.rw2 b.val b.isLt s) = b := sqn_rw2 b s
  rw [e]
  rfl

end Cert.KernelIdeal.Host

end
-- ==== Proof.RefF.lean ====
/- The reference program's forward lines over the real numbers: at a sequence `b` and a place `s` every buffer holds the
   row function of that row. -/
module

public import proofs.«01_k».proof.Proof.Gen.ReferenceIdeal.Read
public import proofs.«01_k».proof.Proof.Args
public import proofs.«01_k».proof.Proof.Coe
public import Idealize.ShloMosaic.Lib.Pointwise

@[expose] public section

set_option maxRecDepth 16384

noncomputable section

namespace Cert.ReferenceIdeal.Ref

open Cert.ReferenceIdeal Cert.ReferenceIdeal.Gen Cert.ReferenceIdeal.Read Idealize.ShloMosaic Cert.Half
open scoped BigOperators

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

/-- The row at a sequence and a place, and the gradient handed to it. -/
abbrev XX (A : Data) (b : Fin 2) (s : Fin 2048) : Fin 1024 → ℝ := A.x (rw2 b.val b.isLt s)
abbrev CC (A : Data) (b : Fin 2) (s : Fin 2048) : Fin 1024 → ℝ := A.c (rw2 b.val b.isLt s)

theorem sig_coe (z : ℝ) : Ideal.div 1 (1 + Ideal.exp (-(z : EReal))) = ((sg z : ℝ) : EReal) := by
  rw [← EReal.coe_neg, Ideal.exp_coe, one_add_coe, coe_one, Ideal.div_coe (by positivity), ← EReal.coe_mul]
  simp only [sg, one_div, one_mul]

theorem v6_at (h : Args x0 x1 x2 x3 x4 x5 x6 A) (b : Fin 2) (d : Fin 1024) :
    val_main_v6 (F := Ideal) x2 x3 (ix2 b d) = ((A.g d * (1 + A.m b 7 d) : ℝ) : EReal) := by
  have e := h.m b 7 d
  simp only [mcol] at e
  pointwise [val_main_v6, val_main_v5, val_main_v4, val_main_v3, val_main_v2, val_main_v1, val_main_v0, val_main_cst]
  have e' : x2 (ix2 b ⟨7168 + d.val, by omega⟩) = ((A.m b 7 d : ℝ) : EReal) := e
  simp only [h.g]
  rw [e', one_add_coe, ← EReal.coe_mul]

theorem v10_at (h : Args x0 x1 x2 x3 x4 x5 x6 A) (b : Fin 2) (d : Fin 1024) :
    val_main_v10 (F := Ideal) x2 (ix2 b d) = ((A.m b 6 d : ℝ) : EReal) := by
  have e := h.m b 6 d
  simp only [mcol] at e
  pointwise [val_main_v10, val_main_v9, val_main_v0]
  exact e

theorem v24_at (h : Args x0 x1 x2 x3 x4 x5 x6 A) (b : Fin 2) (s : Fin 2048) :
    val_main_v24 (F := Ideal) x0 (ix3 (n2 := 1) b s 0) = ((inv (XX A b s) : ℝ) : EReal) := by
  pointwise [val_main_v24, val_main_v23, val_main_v22, val_main_v21, val_main_v20, val_main_v19, val_main_v18, val_main_v17, val_main_cst_2, val_main_cst_3, val_main_cst_4]
  simp only [h.x, ofBits_1024, ofBits_eps, ← EReal.coe_mul, coe_sum, div_1024, ← EReal.coe_add]
  exact rsqrt_ms _

theorem v29_at (h : Args x0 x1 x2 x3 x4 x5 x6 A) (b : Fin 2) (s : Fin 2048) (d : Fin 1024) :
    val_main_v29 (F := Ideal) x0 (ix3 b s d) = ((rr (XX A b s) d : ℝ) : EReal) := by
  pointwise [val_main_v29, val_main_v28]
  simp only [h.x, v24_at h, ← EReal.coe_mul]
  rfl

theorem v34_at (h : Args x0 x1 x2 x3 x4 x5 x6 A) (b : Fin 2) (s : Fin 2048) (d : Fin 1024) :
    val_main_v34 (F := Ideal) x0 x2 x3 (ix3 b s d) = ((xn (A.par b) (XX A b s) d : ℝ) : EReal) := by
  pointwise [val_main_v34, val_main_v33, val_main_v32, val_main_v31, val_main_v30, val_main_v16]
  simp only [v29_at h, v6_at h, v10_at h, ← EReal.coe_mul, ← EReal.coe_add]
  congr 1
  simp only [xn, Data.par]
  ring

theorem v35_at (h : Args x0 x1 x2 x3 x4 x5 x6 A) (b : Fin 2) (s : Fin 2048) (f : Fin 2816) :
    val_main_v35 (F := Ideal) x0 x2 x3 x4 (ix3 b s f) = ((gg (A.par b) (XX A b s) f : ℝ) : EReal) := by
  pointwise [val_main_v35, val_main_v13]
  simp only [v34_at h, h.wg, ← EReal.coe_mul, coe_sum]
  rfl

theorem v36_2_at (h : Args x0 x1 x2 x3 x4 x5 x6 A) (b : Fin 2) (s : Fin 2048) (f : Fin 2816) :
    val_main_v36_2 (F := Ideal) x0 x2 x3 x4 (ix3 b s f) = ((sg (gg (A.par b) (XX A b s) f) : ℝ) : EReal) := by
  pointwise [val_main_v36_2, val_main_call0_v4, val_main_call0_v3, val_main_call0_v2, val_main_call0_v1, val_main_call0_v0, val_main_call0_cst, val_main_call0_cst_0]
  simp only [v35_at h]
  exact sig_coe _

theorem v36_1_at (h : Args x0 x1 x2 x3 x4 x5 x6 A) (b : Fin 2) (s : Fin 2048) (f : Fin 2816) :
    val_main_v36_1 (F := Ideal) x0 x2 x3 x4 (ix3 b s f)
      = ((sg (gg (A.par b) (XX A b s) f) * (1 - sg (gg (A.par b) (XX A b s) f)) : ℝ) : EReal) := by
  pointwise [val_main_v36_1, val_main_call0_v7, val_main_call0_v6, val_main_call0_cst_1]
  simp only [v36_2_at h, one_sub_coe, ← EReal.coe_mul]

theorem v36_0_at (h : Args x0 x1 x2 x3 x4 x5 x6 A) (b : Fin 2) (s : Fin 2048) (f : Fin 2816) :
    val_main_v36_0 (F := Ideal) x0 x2 x3 x4 (ix3 b s f) = ((ss (A.par b) (XX A b s) f : ℝ) : EReal) := by
  pointwise [val_main_v36_0]
  simp only [v36_2_at h, v35_at h, ← EReal.coe_mul]
  rfl

theorem v38_at (h : Args x0 x1 x2 x3 x4 x5 x6 A) (b : Fin 2) (s : Fin 2048) (f : Fin 2816) :
    val_main_v38 (F := Ideal) x0 x2 x3 x5 (ix3 b s f) = ((uu (A.par b) (XX A b s) f : ℝ) : EReal) := by
  pointwise [val_main_v38, val_main_v37, val_main_v14, val_main_v7, val_main_cst_0]
  simp only [v34_at h, h.wu, ← EReal.coe_mul, coe_sum]
  rfl

theorem v39_at (h : Args x0 x1 x2 x3 x4 x5 x6 A) (b : Fin 2) (s : Fin 2048) (f : Fin 2816) :
    val_main_v39 (F := Ideal) x0 x2 x3 x4 x5 (ix3 b s f) = ((aa (A.par b) (XX A b s) f : ℝ) : EReal) := by
  pointwise [val_main_v39]
  simp only [v36_0_at h, v38_at h, ← EReal.coe_mul]
  rfl

theorem v44_at (h : Args x0 x1 x2 x3 x4 x5 x6 A) (b : Fin 2) (s : Fin 2048) (d : Fin 1024) :
    val_main_v44 (F := Ideal) x0 x2 x3 x4 x5 x6 (ix3 b s d) = ((yy (A.par b) (XX A b s) d : ℝ) : EReal) := by
  pointwise [val_main_v44, val_main_v43, val_main_v15, val_main_v8, val_main_cst_1]
  simp only [v39_at h, h.wd, ← EReal.coe_mul, coe_sum]
  rfl

theorem v42_at (h : Args x0 x1 x2 x3 x4 x5 x6 A) (b : Fin 2) (d : Fin 1024) :
    val_main_v42 (F := Ideal) x2 (ix3 (n1 := 1) b 0 d) = ((1 / 2 * A.m b 8 d : ℝ) : EReal) := by
  have e := h.m b 8 d
  simp only [mcol] at e
  pointwise [val_main_v42, val_main_v41, val_main_v40, val_main_v12, val_main_v11, val_main_v0, val_main_cst_6]
  have e' : x2 (ix2 b ⟨8192 + d.val, by omega⟩) = ((A.m b 8 d : ℝ) : EReal) := e
  rw [e', ofBits_half, ← EReal.coe_mul]

theorem v48_at (h : Args x0 x1 x2 x3 x4 x5 x6 A) (b : Fin 2) (s : Fin 2048) (d : Fin 1024) :
    val_main_v48 (F := Ideal) x0 x1 x2 x3 x4 x5 x6 (ix3 b s d)
      = ((er (A.par b) (XX A b s) (A.t (rw2 b.val b.isLt s)) d : ℝ) : EReal) := by
  pointwise [val_main_v48, val_main_v47, val_main_v46, val_main_v45]
  simp only [v44_at h, v42_at h, h.x, h.t, ← EReal.coe_mul, ← EReal.coe_add, ← EReal.coe_sub]
  rfl

theorem ofBits_two : Ideal.ofBits .f32 0x40000000#32 = ((2 : ℝ) : EReal) := by
  simp [Ideal.ofBits, Ideal.ieee, -EReal.coe_mul]; norm_num

theorem v62_at (h : Args x0 x1 x2 x3 x4 x5 x6 A) (b : Fin 2) (s : Fin 2048) (d : Fin 1024) :
    val_main_v62 (F := Ideal) x0 x1 x2 x3 x4 x5 x6 (ix3 b s d) = ((CC A b s d : ℝ) : EReal) := by
  pointwise [val_main_v62, val_main_v61, val_main_v60, val_main_v59, val_main_v58, val_main_v57, val_main_v51, val_main_v50, val_main_cst_7,
    val_main_cst_12, val_main_cst_13, val_main_cst_14]
  simp only [v48_at h, ofBits_half, ofBits_1024, ofBits_two, div_1024, ← EReal.coe_mul]
  simp only [CC, Data.c, sqn_rw2, ct]
  congr 1
  ring

/-- The loss. -/
theorem v56_at (h : Args x0 x1 x2 x3 x4 x5 x6 A) :
    val_main_v56 (F := Ideal) x0 x1 x2 x3 x4 x5 x6 ix0
      = ((1 / 2 * ∑ b : Fin 2, ∑ s : Fin 2048, (∑ d, er (A.par b) (XX A b s) (A.t (rw2 b.val b.isLt s)) d
          * er (A.par b) (XX A b s) (A.t (rw2 b.val b.isLt s)) d) * (1 / 1024) : ℝ) : EReal) := by
  pointwise [val_main_v56, val_main_v55, val_main_v54, val_main_v53, val_main_v52, val_main_v49, val_main_cst_8, val_main_cst_9,
    val_main_cst_10, val_main_cst_11]
  simp only [v48_at h, ofBits_half, ofBits_1024, div_1024, ← EReal.coe_mul, coe_sum]

end Cert.ReferenceIdeal.Ref

end
-- ==== Proof.RefB.lean ====
/- The reference program's backward lines over the real numbers, row by row. -/
module

public import proofs.«01_k».proof.Proof.RefF
public import Idealize.ShloMosaic.Lib.TwoAxisContraction

@[expose] public section

set_option maxRecDepth 16384

noncomputable section

namespace Cert.ReferenceIdeal.Ref

open Cert.ReferenceIdeal Cert.ReferenceIdeal.Gen Cert.ReferenceIdeal.Read Idealize.ShloMosaic Cert.Half
open scoped BigOperators

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

theorem v64_at (h : Args x0 x1 x2 x3 x4 x5 x6 A) (b : Fin 2) (s : Fin 2048) (d : Fin 1024) :
    val_main_v64 (F := Ideal) x0 x1 x2 x3 x4 x5 x6 (ix3 b s d) = ((dy (A.par b) (CC A b s) d : ℝ) : EReal) := by
  pointwise [val_main_v64, val_main_v63]
  simp only [v62_at h, v42_at h, ← EReal.coe_mul]
  rfl

theorem v68_at (h : Args x0 x1 x2 x3 x4 x5 x6 A) (b : Fin 2) (s : Fin 2048) (f : Fin 2816) :
    val_main_v68 (F := Ideal) x0 x1 x2 x3 x4 x5 x6 (ix3 b s f) = ((da (A.par b) (CC A b s) f : ℝ) : EReal) := by
  pointwise [val_main_v68, val_main_v15]
  simp only [v64_at h, h.wd, ← EReal.coe_mul, coe_sum]
  rfl

theorem v72_at (h : Args x0 x1 x2 x3 x4 x5 x6 A) (b : Fin 2) (s : Fin 2048) (f : Fin 2816) :
    val_main_v72 (F := Ideal) x0 x1 x2 x3 x4 x5 x6 (ix3 b s f) = ((du (A.par b) (XX A b s) (CC A b s) f : ℝ) : EReal) := by
  pointwise [val_main_v72]
  simp only [v68_at h, v36_0_at h, ← EReal.coe_mul]
  congr 1
  simp only [du]
  ring

theorem v75_at (h : Args x0 x1 x2 x3 x4 x5 x6 A) (b : Fin 2) (s : Fin 2048) (f : Fin 2816) :
    val_main_v75 (F := Ideal) x0 x1 x2 x3 x4 x5 x6 (ix3 b s f) = ((dg (A.par b) (XX A b s) (CC A b s) f : ℝ) : EReal) := by
  pointwise [val_main_v75, val_main_call1_v2, val_main_call1_v1, val_main_call1_v0, val_main_v73]
  simp only [v68_at h, v38_at h, v35_at h, v36_2_at h, v36_1_at h, ← EReal.coe_mul, ← EReal.coe_add]
  congr 1
  simp only [dg]
  ring

theorem v79_at (h : Args x0 x1 x2 x3 x4 x5 x6 A) (b : Fin 2) (s : Fin 2048) (d : Fin 1024) :
    val_main_v79 (F := Ideal) x0 x1 x2 x3 x4 x5 x6 (ix3 b s d) = ((dxn (A.par b) (XX A b s) (CC A b s) d : ℝ) : EReal) := by
  pointwise [val_main_v79, val_main_v78, val_main_v74, val_main_v13, val_main_v14]
  simp only [v72_at h, v75_at h, h.wg, h.wu, ← EReal.coe_mul, coe_sum, ← EReal.coe_add]
  congr 1
  exact add_comm _ _

theorem v87_at (h : Args x0 x1 x2 x3 x4 x5 x6 A) (b : Fin 2) (s : Fin 2048) (d : Fin 1024) :
    val_main_v87 (F := Ideal) x0 x1 x2 x3 x4 x5 x6 (ix3 b s d) = ((dr (A.par b) (XX A b s) (CC A b s) d : ℝ) : EReal) := by
  pointwise [val_main_v87, val_main_v86, val_main_v16]
  simp only [v79_at h, v6_at h, ← EReal.coe_mul]
  rfl

theorem ofBits_neg_half : Ideal.ofBits .f32 0xBF000000#32 = ((-(1 / 2) : ℝ) : EReal) := by
  simp [Ideal.ofBits, Ideal.ieee, -EReal.coe_mul]; norm_num

theorem div_ms (x : Fin 1024 → ℝ) (a : ℝ) : Ideal.div (a : EReal) ((ms x : ℝ) : EReal) = ((a * (1 / ms x) : ℝ) : EReal) := by
  rw [Ideal.div_coe (ms_pos x).ne', ← EReal.coe_mul]

theorem v23_at (h : Args x0 x1 x2 x3 x4 x5 x6 A) (b : Fin 2) (s : Fin 2048) :
    val_main_v23 (F := Ideal) x0 (ix3 (n2 := 1) b s 0) = ((ms (XX A b s) : ℝ) : EReal) := by
  pointwise [val_main_v23, val_main_v22, val_main_v21, val_main_v20, val_main_v19, val_main_v18, val_main_v17, val_main_cst_2, val_main_cst_3, val_main_cst_4]
  simp only [h.x, ofBits_1024, ofBits_eps, ← EReal.coe_mul, coe_sum, div_1024, ← EReal.coe_add]
  rfl

theorem v27_at (h : Args x0 x1 x2 x3 x4 x5 x6 A) (b : Fin 2) (s : Fin 2048) :
    val_main_v27 (F := Ideal) x0 (ix3 (n2 := 1) b s 0) = ((-(1 / 2) * (Half.inv (XX A b s) * (1 / ms (XX A b s))) : ℝ) : EReal) := by
  pointwise [val_main_v27, val_main_v26, val_main_v25, val_main_cst_5]
  simp only [v24_at h, v23_at h, ofBits_neg_half, div_ms, ← EReal.coe_mul]

theorem v98_at (h : Args x0 x1 x2 x3 x4 x5 x6 A) (b : Fin 2) (s : Fin 2048) (d : Fin 1024) :
    val_main_v98 (F := Ideal) x0 x1 x2 x3 x4 x5 x6 (ix3 b s d)
      = (((∑ k, XX A b s k * dr (A.par b) (XX A b s) (CC A b s) k) * (-(1 / 2) * (Half.inv (XX A b s) * (1 / ms (XX A b s)))) * (1 / 1024) : ℝ) : EReal) := by
  pointwise [val_main_v98, val_main_v97, val_main_v96, val_main_v95, val_main_v94, val_main_v90, val_main_v89, val_main_v88, val_main_cst_21,
    val_main_cst_22, val_main_cst_23]
  simp only [Fin.sum_univ_one, v87_at h, v27_at h, h.x, ofBits_1024, div_1024, ← EReal.coe_mul, coe_sum]

/-- The reciprocal root's square is the reciprocal. -/
theorem inv_sq (x : Fin 1024 → ℝ) : 1 / ms x = Half.inv x * Half.inv x := by
  unfold Half.inv
  rw [← mul_inv, Real.mul_self_sqrt (ms_pos x).le, one_div]

/-- The normalisation's gradient: the two ways of writing it agree. -/
theorem dh_eq (P : Par) (x c : Fin 1024 → ℝ) (d : Fin 1024) :
    c d + dr P x c d * Half.inv x + x d * ((∑ k, x k * dr P x c k) * (-(1 / 2) * (Half.inv x * (1 / ms x))) * (1 / 1024))
      + (∑ k, x k * dr P x c k) * (-(1 / 2) * (Half.inv x * (1 / ms x))) * (1 / 1024) * x d = dh P x c d := by
  have e : mm P x c = (∑ k, x k * dr P x c k) * Half.inv x * (1 / 1024) := by
    rw [Finset.sum_mul]
    refine congrArg (· * (1 / 1024 : ℝ)) (Finset.sum_congr rfl fun k _ => ?_)
    simp only [rr]; ring
  rw [inv_sq]
  simp only [dh, rr, e]
  ring

theorem v102_at (h : Args x0 x1 x2 x3 x4 x5 x6 A) (b : Fin 2) (s : Fin 2048) (d : Fin 1024) :
    val_main_v102 (F := Ideal) x0 x1 x2 x3 x4 x5 x6 (ix3 b s d) = ((dh (A.par b) (XX A b s) (CC A b s) d : ℝ) : EReal) := by
  pointwise [val_main_v102, val_main_v101, val_main_v100, val_main_v99, val_main_v93, val_main_v92, val_main_v91]
  simp only [v62_at h, v87_at h, v24_at h, v98_at h, h.x, ← EReal.coe_mul, ← EReal.coe_add]
  exact congrArg _ (dh_eq _ _ _ _)

theorem v76_at (h : Args x0 x1 x2 x3 x4 x5 x6 A) (f : Fin 2816) (d : Fin 1024) :
    val_main_v76 (F := Ideal) x0 x1 x2 x3 x4 x5 x6 (ix2 f d)
      = ((∑ b : Fin 2, ∑ s : Fin 2048, dg (A.par b) (XX A b s) (CC A b s) f * xn (A.par b) (XX A b s) d : ℝ) : EReal) := by
  pointwise [val_main_v76]
  simp only [v75_at h, v34_at h, ← EReal.coe_mul, coe_sum]

theorem v104_at (h : Args x0 x1 x2 x3 x4 x5 x6 A) (b : Fin 2) (d : Fin 1024) :
    val_main_v104 (F := Ideal) x0 x1 x2 x3 x4 x5 x6 (ix3 (n1 := 1) b 0 d)
      = ((∑ s : Fin 2048, dxn (A.par b) (XX A b s) (CC A b s) d : ℝ) : EReal) := by
  pointwise [val_main_v104, val_main_v82, val_main_v81, val_main_v80, val_main_cst_18, val_main_cst_19]
  simp only [Fin.sum_univ_one, v79_at h, coe_sum]

theorem v105_at (h : Args x0 x1 x2 x3 x4 x5 x6 A) (b : Fin 2) (d : Fin 1024) :
    val_main_v105 (F := Ideal) x0 x1 x2 x3 x4 x5 x6 (ix3 (n1 := 1) b 0 d)
      = ((∑ s : Fin 2048, rr (XX A b s) d * dxn (A.par b) (XX A b s) (CC A b s) d : ℝ) : EReal) := by
  pointwise [val_main_v105, val_main_v103, val_main_v85, val_main_v84, val_main_v83, val_main_cst_20, val_main_cst_24]
  simp only [Fin.sum_univ_one, v79_at h, v29_at h, ← EReal.coe_mul, coe_sum]

theorem v106_at (h : Args x0 x1 x2 x3 x4 x5 x6 A) (b : Fin 2) (d : Fin 1024) :
    val_main_v106 (F := Ideal) x0 x1 x2 x3 x4 x5 x6 (ix3 (n1 := 1) b 0 d)
      = ((1 / 2 * ∑ s : Fin 2048, CC A b s d * yy (A.par b) (XX A b s) d : ℝ) : EReal) := by
  pointwise [val_main_v106, val_main_v71, val_main_v70, val_main_v69, val_main_v67, val_main_v66, val_main_v65, val_main_cst_15, val_main_cst_16, val_main_cst_17]
  simp only [Fin.sum_univ_one, v62_at h, v44_at h, ofBits_half, ← EReal.coe_mul, coe_sum]

theorem v109_at (h : Args x0 x1 x2 x3 x4 x5 x6 A) (b : Fin 2) (k : Fin 8) (d : Fin 1024) :
    val_main_v109 (F := Ideal) x0 x1 x2 x3 x4 x5 x6 (ix3 b k d)
      = ((∑ s : Fin 2048, part (A.par b) (XX A b s) (CC A b s) k d : ℝ) : EReal) := by
  pointwise [val_main_v109, val_main_v108, val_main_v107, val_main_cst_25]
  by_cases h0 : k = 0
  · subst h0
    rw [dif_pos (by decide), dif_pos (by decide)]
    exact v104_at h b d
  by_cases h1 : k = 1
  · subst h1
    rw [dif_pos (by decide), dif_neg (by decide), dif_pos (by decide)]
    refine (v105_at h b d).trans (congrArg _ (Finset.sum_congr rfl fun s _ => ?_))
    simp only [part, if_neg h0, if_pos]
    exact mul_comm _ _
  by_cases h2 : k = 2
  · subst h2
    rw [dif_pos (by decide), dif_neg (by decide), dif_neg (by decide)]
    refine (v106_at h b d).trans (congrArg _ ?_)
    rw [Finset.mul_sum]
    refine Finset.sum_congr rfl fun s _ => ?_
    simp only [part, if_neg h0, if_neg h1, if_pos]
  · have hk : ¬ k.val < 3 := by
      have e0 : k.val ≠ 0 := fun e => h0 (Fin.ext e)
      have e1 : k.val ≠ 1 := fun e => h1 (Fin.ext e)
      have e2 : k.val ≠ 2 := fun e => h2 (Fin.ext e)
      omega
    rw [dif_neg hk]
    simp only [part, if_neg h0, if_neg h1, if_neg h2, Finset.sum_const_zero, EReal.coe_zero]

end Cert.ReferenceIdeal.Ref

end
-- ==== Proof.RefR.lean ====
/- The reference program's results over the real numbers. -/
module

public import proofs.«01_k».proof.Proof.RefB
public import proofs.«01_k».proof.Proof.Results

@[expose] public section

set_option maxRecDepth 16384

noncomputable section

namespace Cert.ReferenceIdeal.Ref

open Cert.ReferenceIdeal Cert.ReferenceIdeal.Gen Cert.ReferenceIdeal.Read Idealize.ShloMosaic Cert.Half
open scoped BigOperators

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

theorem row_split (i : Fin 4096) (h : i.val / 2048 < 2) (h' : i.val % 2048 < 2048) : rw2 (i.val / 2048) h ⟨i.val % 2048, h'⟩ = i :=
  Fin.ext (by simp only [rw2]; omega)

theorem r56 (h : Args x0 x1 x2 x3 x4 x5 x6 A) : val_main_v56 (F := Ideal) x0 x1 x2 x3 x4 x5 x6 = oLoss A := by
  funext i
  obtain rfl : i = ix0 := funext fun a => a.elim0
  refine (v56_at h).trans (congrArg _ ?_)
  simp only [loss, sqe, sqn_rw2]

theorem r110 (h : Args x0 x1 x2 x3 x4 x5 x6 A) : val_main_v110 (F := Ideal) x0 x1 x2 x3 x4 x5 x6 = oDh A := by
  funext i
  idx_vars i
  pointwise [val_main_v110]
  refine (v102_at h _ _ _).trans ?_
  simp only [XX, CC, row_split]
  rfl

theorem r112 (h : Args x0 x1 x2 x3 x4 x5 x6 A) : val_main_v112 (F := Ideal) x0 x2 x3 = oXn A := by
  funext i
  idx_vars i
  pointwise [val_main_v112, val_main_v111]
  refine (v34_at h _ _ _).trans ?_
  simp only [XX, CC, row_split]
  rfl

theorem r114 (h : Args x0 x1 x2 x3 x4 x5 x6 A) : val_main_v114 (F := Ideal) x0 x1 x2 x3 x4 x5 x6 = oDy A := by
  funext i
  idx_vars i
  pointwise [val_main_v114, val_main_v113]
  refine (v64_at h _ _ _).trans ?_
  simp only [XX, CC, row_split]
  rfl

theorem r116 (h : Args x0 x1 x2 x3 x4 x5 x6 A) : val_main_v116 (F := Ideal) x0 x2 x3 x4 x5 = oAa A := by
  funext i
  idx_vars i
  pointwise [val_main_v116, val_main_v115]
  refine (v39_at h _ _ _).trans ?_
  simp only [XX, CC, row_split]
  rfl

theorem r118 (h : Args x0 x1 x2 x3 x4 x5 x6 A) : val_main_v118 (F := Ideal) x0 x1 x2 x3 x4 x5 x6 = oDu A := by
  funext i
  idx_vars i
  pointwise [val_main_v118, val_main_v117]
  refine (v72_at h _ _ _).trans ?_
  simp only [XX, CC, row_split]
  rfl

theorem r119 (h : Args x0 x1 x2 x3 x4 x5 x6 A) : val_main_v119 (F := Ideal) x0 x1 x2 x3 x4 x5 x6 = oWg A := by
  funext i
  idx_vars i
  pointwise [val_main_v119, val_main_v77]
  exact v76_at h _ _

theorem r109 (h : Args x0 x1 x2 x3 x4 x5 x6 A) : val_main_v109 (F := Ideal) x0 x1 x2 x3 x4 x5 x6 = oMg A := by
  funext i
  idx_vars i
  exact v109_at h _ _ _

end Cert.ReferenceIdeal.Ref

end
-- ==== Proof.Finite.lean ====
/- The precondition read at an element: an argument whose absolute values lie below infinity holds real numbers. -/
module

public import proofs.«01_k».proof.Pre_finite
public import proofs.«01_k».proof.Proof.Args

@[expose] public section

noncomputable section

namespace Cert.Pre_finite

open Idealize.ShloMosaic Cert.Half

/-- The side conditions of the precondition's operations. -/
theorem facts : Facts := by constructor <;> decide

theorem ofBits_inf : Ideal.ofBits .f32 0x7F800000#32 = (⊤ : EReal) := by
  simp [Ideal.ofBits, Ideal.ieee]

/-- A number whose absolute value lies below infinity is real. -/
theorem real_of_lt (a : EReal) (h : max a (-a) < ⊤) : ∃ r : ℝ, a = (r : EReal) := by
  induction a using EReal.rec with
  | bot => simp at h
  | coe r => exact ⟨r, rfl⟩
  | top => simp at h

theorem real_at {s : Shape} (X : FVec Ideal s .f32) (hb : S_.BroadcastsInDim s (![] : Fin 0 → Fin s.rank))
    (h : cmpf .olt (Host.absf X) (broadcastInDim s ![] hb (constant S_ .f32 0x7F800000#32)) = fun _ => 1#1) (i : s.Idx) :
    ∃ r : ℝ, X i = (r : EReal) := by
  have e := congrFun h i
  have e' : BitVec.ofBool (decide (max (X i : EReal) (-(X i : EReal)) < Ideal.ofBits .f32 0x7F800000#32)) = 1#1 := e
  rw [ofBits_inf] at e'
  by_cases hlt : max (X i : EReal) (-(X i : EReal)) < ⊤
  · exact real_of_lt _ hlt
  · rw [decide_eq_false hlt] at e'
    exact absurd e' (by decide)

end Cert.Pre_finite

end
-- ==== Proof.DxP.lean ====
/- The first half step's backward call at the real arrays: each output block's element at a point's row, and the block of a
   sequence's three sums with the point's rows added. The call's body is the last half step's at other modulation rows. -/
module

public import proofs.«01_k».proof.Proof.Gen.Kernel2Ideal.Frame
public import proofs.«01_k».proof.Proof.MgRows
public import Idealize.ShloMosaic.Lib.Pipeline.ValueKit

@[expose] public section

set_option maxRecDepth 16384

noncomputable section

namespace Cert.Kernel2Ideal.Dx

open Cert.Kernel2Ideal Cert.Kernel2Ideal.Gen Idealize.ShloMosaic Idealize.ShloMosaic.TcCoe Idealize.SL.Sem Cert.Half
open Idealize.ShloMosaic.Pipeline (Dat)
open scoped BigOperators

variable (m : (ℓ : Loc nD τ sig) → Buf (Elt Ideal) ℓ) (c : Dev nD) (A : Data)

/-- The arrays the backward call finds are the real arrays, and what the forward call left. -/
structure Ins : Prop where
  hx : ∀ i d, V m c main_v47 (ix2 (n0 := 4096) (n1 := 1024) i d) = ((A.x i d : ℝ) : EReal)
  hc : ∀ i d, V m c main_v48 (ix2 (n0 := 4096) (n1 := 1024) i d) = ((A.t i d : ℝ) : EReal)
  hy : ∀ i d, V m c main_v34 (ix2 (n0 := 4096) (n1 := 1024) i d) = ((yy (A.par0 (sqn i)) (A.x i) d : ℝ) : EReal)
  hgb : ∀ i f, V m c main_v36 (ix2 (n0 := 4096) (n1 := 2816) i f) = ((gg (A.par0 (sqn i)) (A.x i) f : ℝ) : EReal)
  hub : ∀ i f, V m c main_v38 (ix2 (n0 := 4096) (n1 := 2816) i f) = ((uu (A.par0 (sqn i)) (A.x i) f : ℝ) : EReal)
  hm : ∀ b k d, V m c main_v0 (ix3 (n0 := 2) (n1 := 9) (n2 := 1024) b k d) = ((A.m b k d : ℝ) : EReal)
  hg : ∀ d, V m c main_arg3 (ix2 (n0 := 1) (n1 := 1024) 0 d) = ((A.g d : ℝ) : EReal)
  hwg : ∀ f d, V m c main_v41 (ix2 (n0 := 2816) (n1 := 1024) f d) = ((A.wg f d : ℝ) : EReal)
  hwu : ∀ f d, V m c main_v44 (ix2 (n0 := 2816) (n1 := 1024) f d) = ((A.wu f d : ℝ) : EReal)
  hwd : ∀ f d, V m c main_v46 (ix2 (n0 := 2816) (n1 := 1024) f d) = ((A.wd f d : ℝ) : EReal)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 8, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val / 8, 0, 0] :=
  (by decide +kernel : ∀ t : Fin grid0.N, _)

theorem lt16 (t : Fin cfg0.N) : t.val < 16 := lt_of_lt_of_eq t.isLt N_0

/-- A point's parameters, rows and gradient rows. -/
abbrev PP (t : Fin cfg0.N) : Par := A.par0 (tq t.val (lt16 t))
abbrev XX (t : Fin cfg0.N) (p : Fin 256) : Fin 1024 → ℝ := A.x (row t.val (lt16 t) p)
abbrev CC (t : Fin cfg0.N) (p : Fin 256) : Fin 1024 → ℝ := A.t (row t.val (lt16 t) p)

variable {m c A}

theorem x0_at (h : Ins m c A) (t : Fin cfg0.N) (p : Fin 256) (d : Fin 1024) : iblk m c 0 t (ix2 p d) = ((XX A t p d : ℝ) : EReal) := by
  refine Eq.trans ?_ (h.hx (row t.val (lt16 t) p) d); blk_ext [iblk, idx t, row]

theorem x1_at (h : Ins m c A) (t : Fin cfg0.N) (p : Fin 256) (d : Fin 1024) : iblk m c 1 t (ix2 p d) = ((CC A t p d : ℝ) : EReal) := by
  refine Eq.trans ?_ (h.hc (row t.val (lt16 t) p) d); blk_ext [iblk, idx t, row]

theorem x2_at (h : Ins m c A) (t : Fin cfg0.N) (p : Fin 256) (d : Fin 1024) : iblk m c 2 t (ix2 p d) = ((yy (A.par0 (sqn (row t.val (lt16 t) p))) (XX A t p) d : ℝ) : EReal) := by
  refine Eq.trans ?_ (h.hy (row t.val (lt16 t) p) d); blk_ext [iblk, idx t, row]

theorem x3_at (h : Ins m c A) (t : Fin cfg0.N) (p : Fin 256) (d : Fin 2816) : iblk m c 3 t (ix2 p d) = ((gg (A.par0 (sqn (row t.val (lt16 t) p))) (XX A t p) d : ℝ) : EReal) := by
  refine Eq.trans ?_ (h.hgb (row t.val (lt16 t) p) d); blk_ext [iblk, idx t, row]

theorem x4_at (h : Ins m c A) (t : Fin cfg0.N) (p : Fin 256) (d : Fin 2816) : iblk m c 4 t (ix2 p d) = ((uu (A.par0 (sqn (row t.val (lt16 t) p))) (XX A t p) d : ℝ) : EReal) := by
  refine Eq.trans ?_ (h.hub (row t.val (lt16 t) p) d); blk_ext [iblk, idx t, row]

theorem x5_at (h : Ins m c A) (t : Fin cfg0.N) (k : Fin 9) (d : Fin 1024) : iblk m c 5 t (ix3 (0 : Fin 1) k d) = ((A.m (tq t.val (lt16 t)) k d : ℝ) : EReal) := by
  refine Eq.trans ?_ (h.hm (tq t.val (lt16 t)) k d); blk_ext [iblk, idx t, tq]

theorem x6_at (h : Ins m c A) (t : Fin cfg0.N) (d : Fin 1024) : iblk m c 6 t (ix2 (0 : Fin 1) d) = ((A.g d : ℝ) : EReal) := by
  refine Eq.trans ?_ (h.hg d); blk_ext [iblk, idx t]

theorem x7_at (h : Ins m c A) (t : Fin cfg0.N) (p : Fin 2816) (d : Fin 1024) : iblk m c 7 t (ix2 p d) = ((A.wg p d : ℝ) : EReal) := by
  refine Eq.trans ?_ (h.hwg p d); blk_ext [iblk, idx t]

theorem x8_at (h : Ins m c A) (t : Fin cfg0.N) (p : Fin 2816) (d : Fin 1024) : iblk m c 8 t (ix2 p d) = ((A.wu p d : ℝ) : EReal) := by
  refine Eq.trans ?_ (h.hwu p d); blk_ext [iblk, idx t]

theorem x9_at (h : Ins m c A) (t : Fin cfg0.N) (p : Fin 2816) (d : Fin 1024) : iblk m c 9 t (ix2 p d) = ((A.wd p d : ℝ) : EReal) := by
  refine Eq.trans ?_ (h.hwd p d); blk_ext [iblk, idx t]

theorem ins1 (h : Ins m c A) (t : Fin cfg0.N) :
    Cert.KernelIdeal.Tile.In1 (PP A t) (XX A t) (CC A t)
      (iblk m c 0 t) (iblk m c 1 t) (iblk m c 2 t) (iblk m c 3 t) (iblk m c 4 t) (View.ld (iblk m c 5 t) (Rect.unit (s := S1x9x1024) ![0, 0, 0] ![1, 1, 1024] inb_S1x9x1024_S1x1x1024_0_0_0))
      (View.ld (iblk m c 5 t) (Rect.unit (s := S1x9x1024) ![0, 1, 0] ![1, 1, 1024] inb_S1x9x1024_S1x1x1024_0_1_0))
      (View.ld (iblk m c 5 t) (Rect.unit (s := S1x9x1024) ![0, 2, 0] ![1, 1, 1024] inb_S1x9x1024_S1x1x1024_0_2_0)) (iblk m c 6 t)
      (iblk m c 7 t) (iblk m c 8 t) (iblk m c 9 t) where
  h0 := x0_at h t
  h1 := x1_at h t
  h2 p d := by have e := x2_at h t p d; rwa [sqn_row] at e
  h3 p f := by have e := x3_at h t p f; rwa [sqn_row] at e
  h4 p f := by have e := x4_at h t p f; rwa [sqn_row] at e
  sh d := (Cert.KernelIdeal.Tile.ld_row _ 0 _ d).trans (x5_at h t 0 d)
  sc d := (Cert.KernelIdeal.Tile.ld_row _ 1 _ d).trans (x5_at h t 1 d)
  ga d := (Cert.KernelIdeal.Tile.ld_row _ 2 _ d).trans (x5_at h t 2 d)
  g := x6_at h t
  wg := x7_at h t
  wu := x8_at h t
  wd := x9_at h t

theorem pt10 (h : Ins m c A) (t : Fin cfg0.N) (p : Fin 256) (d : Fin 1024) :
    (outsAt0 m c t.val t.isLt).1 (ix2 p d) = ((dh (PP A t) (XX A t p) (CC A t p) d : ℝ) : EReal) := by
  by_cases h0 : t.val % 8 = 0
  · rw [outsAt0_A m c t h0]; frame_out; exact Cert.KernelIdeal.Tile.b27_at (ins1 h t) p d
  · rw [outsAt0_B m c t h0]; frame_out; exact Cert.KernelIdeal.Tile.b27_at (ins1 h t) p d

theorem pt11 (h : Ins m c A) (t : Fin cfg0.N) (p : Fin 256) (d : Fin 1024) :
    (outsAt0 m c t.val t.isLt).2.1 (ix2 p d) = ((xn (PP A t) (XX A t p) d : ℝ) : EReal) := by
  by_cases h0 : t.val % 8 = 0
  · rw [outsAt0_A m c t h0]; frame_out; exact Cert.KernelIdeal.Tile.b10_at (ins1 h t) p d
  · rw [outsAt0_B m c t h0]; frame_out; exact Cert.KernelIdeal.Tile.b10_at (ins1 h t) p d

theorem pt12 (h : Ins m c A) (t : Fin cfg0.N) (p : Fin 256) (d : Fin 1024) :
    (outsAt0 m c t.val t.isLt).2.2.1 (ix2 p d) = ((dy (PP A t) (CC A t p) d : ℝ) : EReal) := by
  by_cases h0 : t.val % 8 = 0
  · rw [outsAt0_A m c t h0]; frame_out; exact Cert.KernelIdeal.Tile.b11_at (ins1 h t) p d
  · rw [outsAt0_B m c t h0]; frame_out; exact Cert.KernelIdeal.Tile.b11_at (ins1 h t) p d

theorem pt13 (h : Ins m c A) (t : Fin cfg0.N) (p : Fin 256) (d : Fin 2816) :
    (outsAt0 m c t.val t.isLt).2.2.2.1 (ix2 p d) = ((aa (PP A t) (XX A t p) d : ℝ) : EReal) := by
  by_cases h0 : t.val % 8 = 0
  · rw [outsAt0_A m c t h0]; frame_out; exact Cert.KernelIdeal.Tile.b20_at (ins1 h t) p d
  · rw [outsAt0_B m c t h0]; frame_out; exact Cert.KernelIdeal.Tile.b20_at (ins1 h t) p d

theorem pt14 (h : Ins m c A) (t : Fin cfg0.N) (p : Fin 256) (d : Fin 2816) :
    (outsAt0 m c t.val t.isLt).2.2.2.2.1 (ix2 p d) = ((dg (PP A t) (XX A t p) (CC A t p) d : ℝ) : EReal) := by
  by_cases h0 : t.val % 8 = 0
  · rw [outsAt0_A m c t h0]; frame_out; exact Cert.KernelIdeal.Tile.b23_at (ins1 h t) p d
  · rw [outsAt0_B m c t h0]; frame_out; exact Cert.KernelIdeal.Tile.b23_at (ins1 h t) p d

theorem pt15 (h : Ins m c A) (t : Fin cfg0.N) (p : Fin 256) (d : Fin 2816) :
    (outsAt0 m c t.val t.isLt).2.2.2.2.2.1 (ix2 p d) = ((du (PP A t) (XX A t p) (CC A t p) d : ℝ) : EReal) := by
  by_cases h0 : t.val % 8 = 0
  · rw [outsAt0_A m c t h0]; frame_out; exact Cert.KernelIdeal.Tile.b22_at (ins1 h t) p d
  · rw [outsAt0_B m c t h0]; frame_out; exact Cert.KernelIdeal.Tile.b22_at (ins1 h t) p d

/-- What a point adds to its sequence's three sums. -/
def term (A : Data) (t : Fin cfg0.N) (k : Fin 8) (d : Fin 1024) : ℝ := ∑ p, part (PP A t) (XX A t p) (CC A t p) k d

theorem pt16A (h : Ins m c A) (t : Fin cfg0.N) (h0 : t.val % 8 = 0) (k : Fin 8) (d : Fin 1024) :
    (outsAt0 m c t.val t.isLt).2.2.2.2.2.2 (ix3 (0 : Fin 1) k d) = ((term A t k d : ℝ) : EReal) := by
  rw [outsAt0_A m c t h0]; frame_out
  exact (Cert.KernelIdeal.MgRows.reset _ _ _ _ _ _ _ _ k d).trans (Cert.KernelIdeal.MgRows.trm_eq _ _ _ _ _ _ k d (Cert.KernelIdeal.Tile.b25_at (ins1 h t) d) (Cert.KernelIdeal.Tile.b26_at (ins1 h t) d) (Cert.KernelIdeal.Tile.b12_at (ins1 h t) d))

theorem pt16B (h : Ins m c A) (t : Fin cfg0.N) (h0 : ¬ t.val % 8 = 0) (k : Fin 8) (d : Fin 1024) :
    (outsAt0 m c t.val t.isLt).2.2.2.2.2.2 (ix3 (0 : Fin 1) k d)
      = (outsAt0 m c (t.val - 1) (Nat.lt_of_le_of_lt (Nat.sub_le _ _) t.isLt)).2.2.2.2.2.2 (ix3 (0 : Fin 1) k d) + ((term A t k d : ℝ) : EReal) := by
  rw [outsAt0_B m c t h0]; frame_out
  exact (Cert.KernelIdeal.MgRows.step _ _ _ _ _ _ _ _ _ k d).trans (congrArg _ (Cert.KernelIdeal.MgRows.trm_eq _ _ _ _ _ _ k d (Cert.KernelIdeal.Tile.b25_at (ins1 h t) d) (Cert.KernelIdeal.Tile.b26_at (ins1 h t) d) (Cert.KernelIdeal.Tile.b12_at (ins1 h t) d)))

end Cert.Kernel2Ideal.Dx

end
-- ==== Proof.Dx.lean ====
/- The arrays the first half step's backward call leaves, over the real numbers: every row the row functions' value at that
   row, and each sequence's three sums over its rows. -/
module

public import proofs.«01_k».proof.Proof.DxP

@[expose] public section

set_option maxRecDepth 16384

noncomputable section

namespace Cert.Kernel2Ideal.Dx

open Cert.Kernel2Ideal Cert.Kernel2Ideal.Gen Idealize.ShloMosaic Idealize.ShloMosaic.TcCoe Idealize.SL.Sem Cert.Half
open Idealize.ShloMosaic.Pipeline (Dat)
open scoped BigOperators

variable {m : (ℓ : Loc nD τ sig) → Buf (Elt Ideal) ℓ} {c : Dev nD} {A : Data}

/-- The rows of the gradient of the half step's input. -/
theorem final10 (h : Ins m c A) : (dats m 0 c).arrAt 10 cfg0.N = fun i : S4096x1024.Idx => ((dh (A.par0 (sqn (i 0))) (A.x (i 0)) (A.t (i 0)) (i 1) : ℝ) : EReal) := by
  refine (dats m 0 c).arrAt_eq_of_covers 10 _ (by decide +kernel) fun t hf y => ?_
  blk_simp
  rw [after0_10]
  have e0 : (win0_10.blk t).view.emb y 0 = row t.val (lt16 t) (y 0) := Fin.ext (by blk_simp [idx t, row])
  have e1 : (win0_10.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt10 h t (y 0) (y 1))

/-- The normalised, modulated rows. -/
theorem final11 (h : Ins m c A) : (dats m 0 c).arrAt 11 cfg0.N = fun i : S4096x1024.Idx => ((xn (A.par0 (sqn (i 0))) (A.x (i 0)) (i 1) : ℝ) : EReal) := by
  refine (dats m 0 c).arrAt_eq_of_covers 11 _ (by decide +kernel) fun t hf y => ?_
  blk_simp
  rw [after0_11]
  have e0 : (win0_11.blk t).view.emb y 0 = row t.val (lt16 t) (y 0) := Fin.ext (by blk_simp [idx t, row])
  have e1 : (win0_11.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt11 h t (y 0) (y 1))

/-- The gradient of the rows before their gate. -/
theorem final12 (h : Ins m c A) : (dats m 0 c).arrAt 12 cfg0.N = fun i : S4096x1024.Idx => ((dy (A.par0 (sqn (i 0))) (A.t (i 0)) (i 1) : ℝ) : EReal) := by
  refine (dats m 0 c).arrAt_eq_of_covers 12 _ (by decide +kernel) fun t hf y => ?_
  blk_simp
  rw [after0_12]
  have e0 : (win0_12.blk t).view.emb y 0 = row t.val (lt16 t) (y 0) := Fin.ext (by blk_simp [idx t, row])
  have e1 : (win0_12.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt12 h t (y 0) (y 1))

/-- The gated hidden rows. -/
theorem final13 (h : Ins m c A) : (dats m 0 c).arrAt 13 cfg0.N = fun i : S4096x2816.Idx => ((aa (A.par0 (sqn (i 0))) (A.x (i 0)) (i 1) : ℝ) : EReal) := by
  refine (dats m 0 c).arrAt_eq_of_covers 13 _ (by decide +kernel) fun t hf y => ?_
  blk_simp
  rw [after0_13]
  have e0 : (win0_13.blk t).view.emb y 0 = row t.val (lt16 t) (y 0) := Fin.ext (by blk_simp [idx t, row])
  have e1 : (win0_13.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt13 h t (y 0) (y 1))

/-- The gradient of the first hidden rows. -/
theorem final14 (h : Ins m c A) : (dats m 0 c).arrAt 14 cfg0.N = fun i : S4096x2816.Idx => ((dg (A.par0 (sqn (i 0))) (A.x (i 0)) (A.t (i 0)) (i 1) : ℝ) : EReal) := by
  refine (dats m 0 c).arrAt_eq_of_covers 14 _ (by decide +kernel) fun t hf y => ?_
  blk_simp
  rw [after0_14]
  have e0 : (win0_14.blk t).view.emb y 0 = row t.val (lt16 t) (y 0) := Fin.ext (by blk_simp [idx t, row])
  have e1 : (win0_14.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt14 h t (y 0) (y 1))

/-- The gradient of the second hidden rows. -/
theorem final15 (h : Ins m c A) : (dats m 0 c).arrAt 15 cfg0.N = fun i : S4096x2816.Idx => ((du (A.par0 (sqn (i 0))) (A.x (i 0)) (A.t (i 0)) (i 1) : ℝ) : EReal) := by
  refine (dats m 0 c).arrAt_eq_of_covers 15 _ (by decide +kernel) fun t hf y => ?_
  blk_simp
  rw [after0_15]
  have e0 : (win0_15.blk t).view.emb y 0 = row t.val (lt16 t) (y 0) := Fin.ext (by blk_simp [idx t, row])
  have e1 : (win0_15.blk t).view.emb y 1 = y 1 := Fin.ext (by blk_simp [idx t])
  have e2 : sqn (row t.val (lt16 t) (y 0)) = tq t.val (lt16 t) := sqn_row _ _ _
  rw [e0, e1, e2]
  exact (congrArg _ (show y = ix2 (y 0) (y 1) by blk_ext [])).trans (pt15 h t (y 0) (y 1))

/-- A sequence's three sums, tile by tile. -/
def mgsum (A : Data) (b : Fin 2) (k : Fin 8) (d : Fin 1024) : ℝ :=
  ∑ s : Fin 8, ∑ p : Fin 256, part (A.par0 b) (A.x (row (8 * b.val + s.val) (by omega) p)) (A.t (row (8 * b.val + s.val) (by omega) p)) k d

/-- Each sequence's three sums. -/
theorem final16 (h : Ins m c A) : (dats m 0 c).arrAt 16 cfg0.N = fun i : S2x8x1024.Idx => ((mgsum A (i 0) (i 1) (i 2) : ℝ) : EReal) := by
  refine (dats m 0 c).arrAt_eq_of_covers 16 _ (by decide +kernel) fun t hf y => ?_
  blk_simp
  rw [after0_16]
  have e0 : (win0_16.blk t).view.emb y 0 = tq t.val (lt16 t) := Fin.ext (by blk_simp [idx t, tq])
  have e1 : (win0_16.blk t).view.emb y 1 = y 1 := Fin.ext (by blk_simp [idx t])
  have e2 : (win0_16.blk t).view.emb y 2 = y 2 := Fin.ext (by blk_simp [idx t])
  rw [e0, e1, e2]
  have hy : y = ix3 (0 : Fin 1) (y 1) (y 2) := by blk_ext []
  refine (congrArg _ hy).trans ?_
  have key := Pipeline.eq_sum_fin_of_reset_step_apply_of_flush
    (fun (n : ℕ) (hn : n < cfg0.N) (q : Fin 8 × Fin 1024) => (show EReal from (outsAt0 m c n hn).2.2.2.2.2.2 (ix3 (0 : Fin 1) q.1 q.2))) 8 (fun _ => 0)
    (fun t q => ((term A t q.1 q.2 : ℝ) : EReal)) (fun t h0 q => (pt16A h t h0 q.1 q.2).trans (zero_add _).symm) (fun t h0 q => pt16B h t h0 q.1 q.2)
    t ((flush0_16 t).mp hf) (y 1, y 2)
  refine key.trans ?_
  rw [zero_add, coe_sum]
  refine congrArg _ (Finset.sum_congr rfl fun s _ => ?_)
  unfold term
  have hq : tq (8 * (t.val / 8) + s.val) (by have := lt16 t; omega) = tq t.val (lt16 t) := Fin.ext (by simp only [tq]; omega)
  simp only [PP, XX, CC]
  rw [hq]
  rfl

end Cert.Kernel2Ideal.Dx

end
-- ==== Proof.DxOut.lean ====
/- The results of the first half step's backward call over the real numbers, and its sums over the tiles put as sums over a
   sequence's rows. -/
module

public import proofs.«01_k».proof.Proof.Results
public import proofs.«01_k».proof.Proof.Dx

@[expose] public section

noncomputable section

namespace Cert.Kernel2Ideal.Dx

open Cert.Kernel2Ideal Cert.Half Idealize.ShloMosaic
open scoped BigOperators

variable (A : Data)

def oDh : FVec Ideal S4096x1024 .f32 := fun i : S4096x1024.Idx => ((dh (A.par0 (sqn (i 0))) (A.x (i 0)) (A.t (i 0)) (i 1) : ℝ) : EReal)
def oXn : FVec Ideal S4096x1024 .bf16 := fun i : S4096x1024.Idx => ((xn (A.par0 (sqn (i 0))) (A.x (i 0)) (i 1) : ℝ) : EReal)
def oDy : FVec Ideal S4096x1024 .bf16 := fun i : S4096x1024.Idx => ((dy (A.par0 (sqn (i 0))) (A.t (i 0)) (i 1) : ℝ) : EReal)
def oAa : FVec Ideal S4096x2816 .bf16 := fun i : S4096x2816.Idx => ((aa (A.par0 (sqn (i 0))) (A.x (i 0)) (i 1) : ℝ) : EReal)
def oDg : FVec Ideal S4096x2816 .bf16 := fun i : S4096x2816.Idx => ((dg (A.par0 (sqn (i 0))) (A.x (i 0)) (A.t (i 0)) (i 1) : ℝ) : EReal)
def oDu : FVec Ideal S4096x2816 .bf16 := fun i : S4096x2816.Idx => ((du (A.par0 (sqn (i 0))) (A.x (i 0)) (A.t (i 0)) (i 1) : ℝ) : EReal)

/-- Each sequence's three sums over its rows. -/
def oMg : FVec Ideal S2x8x1024 .f32 := fun i : S2x8x1024.Idx =>
  ((∑ s : Fin 2048, part (A.par0 (i 0)) (A.x (rw2 (i 0).val (i 0).isLt s)) (A.t (rw2 (i 0).val (i 0).isLt s)) (i 1) (i 2) : ℝ) : EReal)

theorem mg_tiles (b : Fin 2) (k : Fin 8) (d : Fin 1024) :
    mgsum A b k d = ∑ s : Fin 2048, part (A.par0 b) (A.x (rw2 b.val b.isLt s)) (A.t (rw2 b.val b.isLt s)) k d :=
  sum_seq b fun i => part (A.par0 b) (A.x i) (A.t i) k d

end Cert.Kernel2Ideal.Dx

end
-- ==== Proof.DxHost.lean ====
/- What the first half step's backward call finds: the host's forward lines, row by row, and its reshaped, converted and
   transposed arguments. -/
module

public import proofs.«01_k».proof.Proof.HostIn
public import proofs.«01_k».proof.Proof.RefB
public import proofs.«01_k».proof.Proof.DxOut

@[expose] public section

set_option maxRecDepth 16384

noncomputable section

namespace Cert.Kernel2Ideal.Dx

open Cert.Kernel2Ideal Cert.Kernel2Ideal.Gen Idealize.ShloMosaic Idealize.ShloMosaic.TcCoe Idealize.SL.Sem Cert.Half
open Cert.KernelIdeal.Host (rows_at mods_at up_at down_at)
open scoped BigOperators

/-- The host's forward lines as functions of the arguments: the normalised rows, the modulated rows, a projection of them,
   the gated product and the half step's second projection. -/
def hR (x : FVec Ideal S2x2048x1024 .f32) : FVec Ideal S2x2048x1024 .f32 :=
  mulf x (broadcastInDim S2x2048x1024 ![0, 1, 2] bcast_S2x2048x1_S2x2048x1024_0_1_2 (Host.rsqrt (addf
    (Host.divf (broadcastInDim S2x2048x1 ![0, 1] bcast_S2x2048_S2x2048x1_0_1
      (Host.reduceAdd (mulf x x) (constant S_ .f32 0x00000000#32) reducesTo_S2x2048x1024_S2x2048_d2 h_S_))
      (broadcastInDim S2x2048x1 ![] bcast_S_S2x2048x1 (constant S_ .f32 0x44800000#32)))
    (broadcastInDim S2x2048x1 ![] bcast_S_S2x2048x1 (constant S_ .f32 0x358637BD#32)))))

def hXn (x : FVec Ideal S2x2048x1024 .f32) (a2 : FVec Ideal S2x9216 .f32) (a3 : FVec Ideal S1x1024 .f32) : FVec Ideal S2x2048x1024 .f32 :=
  addf (mulf (mulf (hR x) (broadcastInDim S2x2048x1024 ![0, 1, 2] bcast_S1x1x1024_S2x2048x1024_0_1_2
        (broadcastInDim S1x1x1024 ![0, 2] bcast_S1x1024_S1x1x1024_0_2 a3)))
      (broadcastInDim S2x2048x1024 ![0, 1, 2] bcast_S2x1x1024_S2x2048x1024_0_1_2
        (addf (broadcastInDim S2x1x1024 ![] bcast_S_S2x1x1024 (constant S_ .f32 0x3F800000#32))
          (broadcastInDim S2x1x1024 ![0, 2] bcast_S2x1024_S2x1x1024_0_2 (shapeCast S2x1024 (extractStridedSlice S2x1x1024 ![0, 1, 0]
            (shapeCast S2x9x1024 a2 shapeCasts_S2x9216_S2x9x1024) slices_S2x9x1024_S2x1x1024_0_1_0) shapeCasts_S2x1x1024_S2x1024)))))
    (broadcastInDim S2x2048x1024 ![0, 1, 2] bcast_S2x1x1024_S2x2048x1024_0_1_2
      (broadcastInDim S2x1x1024 ![0, 2] bcast_S2x1024_S2x1x1024_0_2 (shapeCast S2x1024 (extractStridedSlice S2x1x1024 ![0, 0, 0]
        (shapeCast S2x9x1024 a2 shapeCasts_S2x9216_S2x9x1024) slices_S2x9x1024_S2x1x1024_0_0_0) shapeCasts_S2x1x1024_S2x1024)))

def hUp (x : FVec Ideal S2x2048x1024 .f32) (a2 : FVec Ideal S2x9216 .f32) (a3 : FVec Ideal S1x1024 .f32) (w : FVec Ideal S1x1024x2816 .f32) :
    FVec Ideal S2x2048x2816 .f32 :=
  Host.dotGeneral dot_S2x2048x1024_S1024x2816_S2x2048x2816_2_0_01_1_n_n none (hXn x a2 a3) (shapeCast S1024x2816 w shapeCasts_S1x1024x2816_S1024x2816)

def hSilu (z : FVec Ideal S2x2048x2816 .f32) : FVec Ideal S2x2048x2816 .f32 :=
  mulf z (Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf z))))

def hY (x : FVec Ideal S2x2048x1024 .f32) (a2 : FVec Ideal S2x9216 .f32) (a3 : FVec Ideal S1x1024 .f32) (w4 w5 : FVec Ideal S1x1024x2816 .f32)
    (w6 : FVec Ideal S1x2816x1024 .f32) : FVec Ideal S2x2048x1024 .f32 :=
  Host.dotGeneral dot_S2x2048x2816_S2816x1024_S2x2048x1024_2_0_01_1_n_n none (mulf (hSilu (hUp x a2 a3 w4)) (hUp x a2 a3 w5))
    (shapeCast S2816x1024 w6 shapeCasts_S1x2816x1024_S2816x1024)

section At

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

theorem hR_at (h : Args x0 x1 x2 x3 x4 x5 x6 A) (b : Fin 2) (s : Fin 2048) (d : Fin 1024) :
    hR x0 (ix3 b s d) = ((rr (A.x (rw2 b.val b.isLt s)) d : ℝ) : EReal) := by
  pointwise [hR]
  simp only [h.x, ofBits_1024, ofBits_eps, ← EReal.coe_mul, coe_sum, div_1024, ← EReal.coe_add]
  refine (congrArg (fun z : EReal => ((A.x (rw2 b.val b.isLt s) d : ℝ) : EReal) * z) (rsqrt_ms (A.x (rw2 b.val b.isLt s)))).trans ?_
  rw [← EReal.coe_mul]
  rfl

theorem hXn_at (h : Args x0 x1 x2 x3 x4 x5 x6 A) (b : Fin 2) (s : Fin 2048) (d : Fin 1024) :
    hXn x0 x2 x3 (ix3 b s d) = ((xn (A.par0 b) (A.x (rw2 b.val b.isLt s)) d : ℝ) : EReal) := by
  have e0 := h.m b 0 d
  have e1 := h.m b 1 d
  simp only [mcol] at e0 e1
  pointwise [hXn]
  have e0' : x2 (ix2 b ⟨d.val, by omega⟩) = ((A.m b 0 d : ℝ) : EReal) := (congrArg x2 (congrArg (ix2 b) (Fin.ext (by simp)))).trans e0
  have e1' : x2 (ix2 b ⟨1024 + d.val, by omega⟩) = ((A.m b 1 d : ℝ) : EReal) := e1
  simp only [hR_at h, h.g, e0', e1', one_add_coe, ← EReal.coe_mul, ← EReal.coe_add]
  rfl

theorem hG_at (h : Args x0 x1 x2 x3 x4 x5 x6 A) (b : Fin 2) (s : Fin 2048) (f : Fin 2816) :
    hUp x0 x2 x3 x4 (ix3 b s f) = ((gg (A.par0 b) (A.x (rw2 b.val b.isLt s)) f : ℝ) : EReal) := by
  pointwise [hUp]
  simp only [hXn_at h, h.wg, ← EReal.coe_mul, coe_sum]
  rfl

theorem hU_at (h : Args x0 x1 x2 x3 x4 x5 x6 A) (b : Fin 2) (s : Fin 2048) (f : Fin 2816) :
    hUp x0 x2 x3 x5 (ix3 b s f) = ((uu (A.par0 b) (A.x (rw2 b.val b.isLt s)) f : ℝ) : EReal) := by
  pointwise [hUp]
  simp only [hXn_at h, h.wu, ← EReal.coe_mul, coe_sum]
  rfl

theorem hS_at (h : Args x0 x1 x2 x3 x4 x5 x6 A) (b : Fin 2) (s : Fin 2048) (f : Fin 2816) :
    hSilu (hUp x0 x2 x3 x4) (ix3 b s f) = ((ss (A.par0 b) (A.x (rw2 b.val b.isLt s)) f : ℝ) : EReal) := by
  pointwise [hSilu]
  rw [hG_at h]
  refine (congrArg (fun z : EReal => ((gg (A.par0 b) (A.x (rw2 b.val b.isLt s)) f : ℝ) : EReal) * z) (Cert.ReferenceIdeal.Ref.sig_coe _)).trans ?_
  rw [← EReal.coe_mul]
  rfl

theorem hY_at (h : Args x0 x1 x2 x3 x4 x5 x6 A) (b : Fin 2) (s : Fin 2048) (d : Fin 1024) :
    hY x0 x2 x3 x4 x5 x6 (ix3 b s d) = ((yy (A.par0 b) (A.x (rw2 b.val b.isLt s)) d : ℝ) : EReal) := by
  pointwise [hY]
  simp only [hS_at h, hU_at h, h.wd, ← EReal.coe_mul, coe_sum]
  rfl

/-- A row by its sequence and its place, and the widths of the gate. -/
theorem row_split (i : Fin 4096) : rw2 (i.val / 2048) (by omega) (⟨i.val % 2048, by omega⟩ : Fin 2048) = i := Fin.ext (by simp only [rw2]; omega)

theorem wide_at (X : FVec Ideal S2x2048x2816 .f32) (i : Fin 4096) (f : Fin 2816) :
    truncf .bf16 (shapeCast S4096x2816 X shapeCasts_S2x2048x2816_S4096x2816) bitsLt_bf16_f32 (ix2 i f)
      = X (ix3 (⟨i.val / 2048, by omega⟩ : Fin 2) (⟨i.val % 2048, by omega⟩ : Fin 2048) f) := by
  pointwise

end At

variable (m : (ℓ : Loc nD τ sig) → Buf (Elt Ideal) ℓ) (c : Dev nD)

/-- The arguments of a device hold the real arrays. -/
abbrev ArgsAt (A : Data) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) A

variable {m c} {A : Data}

/-- The host's three stretches, one after another. -/
theorem after_flat (W : Valuation τ sig (Elt Ideal)) : StableHlo.after (List.flatten [hostOps0, hostOps0_1, hostOps0_2]) W
    = StableHlo.after hostOps0_2 (StableHlo.after hostOps0_1 (StableHlo.after hostOps0 W)) := by
  rw [List.flatten_cons, List.flatten_cons, List.flatten_cons, List.flatten_nil, List.append_nil, StableHlo.after_append, StableHlo.after_append]

theorem v47_at (h : ArgsAt m c A) (i : Fin 4096) (d : Fin 1024) :
    V m c main_v47 (ix2 (n0 := 4096) (n1 := 1024) i d) = ((A.x i d : ℝ) : EReal) := by
  show StableHlo.after (List.flatten [hostOps0, hostOps0_1, hostOps0_2]) _ (Proc.devRef .tc main_v47) (ix2 (n0 := 4096) (n1 := 1024) i d) = _
  rw [after_flat]
  after_results
  exact (rows_at _ i d).trans ((h.x _ _ d).trans (by simp only [row_split]))

theorem v48_at (h : ArgsAt m c A) (i : Fin 4096) (d : Fin 1024) :
    V m c main_v48 (ix2 (n0 := 4096) (n1 := 1024) i d) = ((A.t i d : ℝ) : EReal) := by
  show StableHlo.after (List.flatten [hostOps0, hostOps0_1, hostOps0_2]) _ (Proc.devRef .tc main_v48) (ix2 (n0 := 4096) (n1 := 1024) i d) = _
  rw [after_flat]
  after_results
  exact (rows_at _ i d).trans ((h.t _ _ d).trans (by simp only [row_split]))

theorem v34_at (h : ArgsAt m c A) (i : Fin 4096) (d : Fin 1024) :
    V m c main_v34 (ix2 (n0 := 4096) (n1 := 1024) i d) = ((yy (A.par0 (sqn i)) (A.x i) d : ℝ) : EReal) := by
  show StableHlo.after (List.flatten [hostOps0, hostOps0_1, hostOps0_2]) _ (Proc.devRef .tc main_v34) (ix2 (n0 := 4096) (n1 := 1024) i d) = _
  rw [after_flat]
  after_results
  exact (rows_at _ i d).trans ((hY_at h _ _ d).trans (by simp only [row_split]; rfl))

theorem v36_at (h : ArgsAt m c A) (i : Fin 4096) (d : Fin 2816) :
    V m c main_v36 (ix2 (n0 := 4096) (n1 := 2816) i d) = ((gg (A.par0 (sqn i)) (A.x i) d : ℝ) : EReal) := by
  show StableHlo.after (List.flatten [hostOps0, hostOps0_1, hostOps0_2]) _ (Proc.devRef .tc main_v36) (ix2 (n0 := 4096) (n1 := 2816) i d) = _
  rw [after_flat]
  after_results
  exact (wide_at _ i d).trans ((hG_at h _ _ d).trans (by simp only [row_split]; rfl))

theorem v38_at (h : ArgsAt m c A) (i : Fin 4096) (d : Fin 2816) :
    V m c main_v38 (ix2 (n0 := 4096) (n1 := 2816) i d) = ((uu (A.par0 (sqn i)) (A.x i) d : ℝ) : EReal) := by
  show StableHlo.after (List.flatten [hostOps0, hostOps0_1, hostOps0_2]) _ (Proc.devRef .tc main_v38) (ix2 (n0 := 4096) (n1 := 2816) i d) = _
  rw [after_flat]
  after_results
  exact (wide_at _ i d).trans ((hU_at h _ _ d).trans (by simp only [row_split]; rfl))

theorem v0_at (h : ArgsAt m c A) (b : Fin 2) (k : Fin 9) (d : Fin 1024) :
    V m c main_v0 (ix3 (n0 := 2) (n1 := 9) (n2 := 1024) b k d) = ((A.m b k d : ℝ) : EReal) := by
  show StableHlo.after (List.flatten [hostOps0, hostOps0_1, hostOps0_2]) _ (Proc.devRef .tc main_v0) (ix3 (n0 := 2) (n1 := 9) (n2 := 1024) b k d) = _
  rw [after_flat]
  after_results
  exact (mods_at _ b k d).trans (h.m b k d)

theorem v41_at (h : ArgsAt m c A) (f : Fin 2816) (d : Fin 1024) :
    V m c main_v41 (ix2 (n0 := 2816) (n1 := 1024) f d) = ((A.wg f d : ℝ) : EReal) := by
  show StableHlo.after (List.flatten [hostOps0, hostOps0_1, hostOps0_2]) _ (Proc.devRef .tc main_v41) (ix2 (n0 := 2816) (n1 := 1024) f d) = _
  rw [after_flat]
  after_results
  exact (up_at _ f d).trans (h.wg f d)

theorem v44_at (h : ArgsAt m c A) (f : Fin 2816) (d : Fin 1024) :
    V m c main_v44 (ix2 (n0 := 2816) (n1 := 1024) f d) = ((A.wu f d : ℝ) : EReal) := by
  show StableHlo.after (List.flatten [hostOps0, hostOps0_1, hostOps0_2]) _ (Proc.devRef .tc main_v44) (ix2 (n0 := 2816) (n1 := 1024) f d) = _
  rw [after_flat]
  after_results
  exact (up_at _ f d).trans (h.wu f d)

theorem v46_at (h : ArgsAt m c A) (f : Fin 2816) (d : Fin 1024) :
    V m c main_v46 (ix2 (n0 := 2816) (n1 := 1024) f d) = ((A.wd f d : ℝ) : EReal) := by
  show StableHlo.after (List.flatten [hostOps0, hostOps0_1, hostOps0_2]) _ (Proc.devRef .tc main_v46) (ix2 (n0 := 2816) (n1 := 1024) f d) = _
  rw [after_flat]
  after_results
  exact (down_at _ f d).trans (h.wd f d)

/-- What the backward call finds. -/
theorem ins (h : ArgsAt m c A) : Ins m c A :=
  ⟨v47_at h, v48_at h, v34_at h, v36_at h, v38_at h, v0_at h, fun d => (congrFun (V_main_arg3 m c) _).trans (h.g d), v41_at h, v44_at h, v46_at h⟩

/-- The arrays the call leaves. -/
theorem dx_eq (h : ArgsAt m c A) : (dats m 0 c).arrAt 10 cfg0.N = oDh A := final10 (ins h)
theorem xn_eq (h : ArgsAt m c A) : (dats m 0 c).arrAt 11 cfg0.N = oXn A := final11 (ins h)
theorem dy_eq (h : ArgsAt m c A) : (dats m 0 c).arrAt 12 cfg0.N = oDy A := final12 (ins h)
theorem aa_eq (h : ArgsAt m c A) : (dats m 0 c).arrAt 13 cfg0.N = oAa A := final13 (ins h)
theorem dg_eq (h : ArgsAt m c A) : (dats m 0 c).arrAt 14 cfg0.N = oDg A := final14 (ins h)
theorem du_eq (h : ArgsAt m c A) : (dats m 0 c).arrAt 15 cfg0.N = oDu A := final15 (ins h)

/-- The sums over each sequence's rows. -/
theorem mg_eq (h : ArgsAt m c A) : (dats m 0 c).arrAt 16 cfg0.N = oMg A :=
  (final16 (ins h)).trans (funext fun i : S2x8x1024.Idx => congrArg _ (mg_tiles A (i 0) (i 1) (i 2)))

variable {r : PUnit × MemSt nD τ sig (Elt Ideal)}

/-- The buffers of the results after the run. -/
theorem dx_post (hr : Pipeline.FramePost cfgs (dats m) 0 (V m) r) (h : ArgsAt m c A) : r.2.mem ((c : Thread nD τ).loc main_v49_0) = oDh A :=
  ((hr c).1 10).trans (dx_eq h)
theorem xn_post (hr : Pipeline.FramePost cfgs (dats m) 0 (V m) r) (h : ArgsAt m c A) : r.2.mem ((c : Thread nD τ).loc main_v49_1) = oXn A :=
  ((hr c).1 11).trans (xn_eq h)
theorem dy_post (hr : Pipeline.FramePost cfgs (dats m) 0 (V m) r) (h : ArgsAt m c A) : r.2.mem ((c : Thread nD τ).loc main_v49_2) = oDy A :=
  ((hr c).1 12).trans (dy_eq h)
theorem aa_post (hr : Pipeline.FramePost cfgs (dats m) 0 (V m) r) (h : ArgsAt m c A) : r.2.mem ((c : Thread nD τ).loc main_v49_3) = oAa A :=
  ((hr c).1 13).trans (aa_eq h)
theorem dg_post (hr : Pipeline.FramePost cfgs (dats m) 0 (V m) r) (h : ArgsAt m c A) : r.2.mem ((c : Thread nD τ).loc main_v49_4) = oDg A :=
  ((hr c).1 14).trans (dg_eq h)
theorem du_post (hr : Pipeline.FramePost cfgs (dats m) 0 (V m) r) (h : ArgsAt m c A) : r.2.mem ((c : Thread nD τ).loc main_v49_5) = oDu A :=
  ((hr c).1 15).trans (du_eq h)
theorem mg_post (hr : Pipeline.FramePost cfgs (dats m) 0 (V m) r) (h : ArgsAt m c A) : r.2.mem ((c : Thread nD τ).loc main_v49_6) = oMg A :=
  ((hr c).1 16).trans (mg_eq h)

end Cert.Kernel2Ideal.Dx

end
-- ==== Proof.DxRefF.lean ====
/- The first half step's reference over the real numbers, its forward lines: at a sequence `b` and a place `s` every buffer
   holds the row function of that row. -/
module

public import proofs.«01_k».proof.Proof.Gen.Reference2Ideal.Read
public import proofs.«01_k».proof.Proof.RefB

@[expose] public section

set_option maxRecDepth 16384

noncomputable section

namespace Cert.Reference2Ideal.Ref

open Cert.Reference2Ideal Cert.Reference2Ideal.Gen Cert.Reference2Ideal.Read Idealize.ShloMosaic Cert.Half
open Cert.ReferenceIdeal.Ref (sig_coe div_ms dh_eq ofBits_neg_half)
open scoped BigOperators

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

/-- The row at a sequence and a place, and the gradient handed to it. -/
abbrev XX (A : Data) (b : Fin 2) (s : Fin 2048) : Fin 1024 → ℝ := A.x (rw2 b.val b.isLt s)
abbrev CC (A : Data) (b : Fin 2) (s : Fin 2048) : Fin 1024 → ℝ := A.t (rw2 b.val b.isLt s)

theorem v6_at (h : Args x0 x1 x2 x3 x4 x5 x6 A) (b : Fin 2) (d : Fin 1024) :
    val_main_v6 (F := Ideal) x2 x3 (ix2 b d) = ((A.g d * (1 + A.m b 1 d) : ℝ) : EReal) := by
  have e := h.m b 1 d
  simp only [mcol] at e
  pointwise [val_main_v6, val_main_v5, val_main_v4, val_main_v3, val_main_v2, val_main_v1, val_main_v0, val_main_cst]
  have e' : x2 (ix2 b ⟨1024 + d.val, by omega⟩) = ((A.m b 1 d : ℝ) : EReal) := e
  simp only [h.g]
  rw [e', one_add_coe, ← EReal.coe_mul]

theorem v10_at (h : Args x0 x1 x2 x3 x4 x5 x6 A) (b : Fin 2) (d : Fin 1024) :
    val_main_v10 (F := Ideal) x2 (ix2 b d) = ((A.m b 0 d : ℝ) : EReal) := by
  have e := h.m b 0 d
  simp only [mcol] at e
  pointwise [val_main_v10, val_main_v9, val_main_v0]
  exact (congrArg x2 (congrArg (ix2 b) (Fin.ext (by simp)))).trans e

theorem v45_at (h : Args x0 x1 x2 x3 x4 x5 x6 A) (b : Fin 2) (d : Fin 1024) :
    val_main_v45 (F := Ideal) x2 (ix3 (n1 := 1) b 0 d) = ((1 / 2 * A.m b 2 d : ℝ) : EReal) := by
  have e := h.m b 2 d
  simp only [mcol] at e
  pointwise [val_main_v45, val_main_v44, val_main_v43, val_main_v12, val_main_v11, val_main_v0, val_main_cst_6]
  have e' : x2 (ix2 b ⟨2048 + d.val, by omega⟩) = ((A.m b 2 d : ℝ) : EReal) := e
  rw [e', ofBits_half, ← EReal.coe_mul]

theorem v23_at (h : Args x0 x1 x2 x3 x4 x5 x6 A) (b : Fin 2) (s : Fin 2048) :
    val_main_v23 (F := Ideal) x0 (ix3 (n2 := 1) b s 0) = ((ms (XX A b s) : ℝ) : EReal) := by
  pointwise [val_main_v23, val_main_v22, val_main_v21, val_main_v20, val_main_v19, val_main_v18, val_main_v17, val_main_cst_2, val_main_cst_3, val_main_cst_4]
  simp only [h.x, ofBits_1024, ofBits_eps, ← EReal.coe_mul, coe_sum, div_1024, ← EReal.coe_add]
  rfl

theorem v24_at (h : Args x0 x1 x2 x3 x4 x5 x6 A) (b : Fin 2) (s : Fin 2048) :
    val_main_v24 (F := Ideal) x0 (ix3 (n2 := 1) b s 0) = ((Half.inv (XX A b s) : ℝ) : EReal) := by
  pointwise [val_main_v24]
  rw [v23_at h]
  exact rsqrt_ms _

theorem v29_at (h : Args x0 x1 x2 x3 x4 x5 x6 A) (b : Fin 2) (s : Fin 2048) (d : Fin 1024) :
    val_main_v29 (F := Ideal) x0 (ix3 b s d) = ((rr (XX A b s) d : ℝ) : EReal) := by
  pointwise [val_main_v29, val_main_v28]
  simp only [h.x, v24_at h, ← EReal.coe_mul]
  rfl

theorem v34_at (h : Args x0 x1 x2 x3 x4 x5 x6 A) (b : Fin 2) (s : Fin 2048) (d : Fin 1024) :
    val_main_v34 (F := Ideal) x0 x2 x3 (ix3 b s d) = ((xn (A.par0 b) (XX A b s) d : ℝ) : EReal) := by
  pointwise [val_main_v34, val_main_v33, val_main_v32, val_main_v31, val_main_v30, val_main_v16]
  simp only [v29_at h, v6_at h, v10_at h, ← EReal.coe_mul, ← EReal.coe_add]
  congr 1
  simp only [xn, Data.par0]
  ring

theorem v36_at (h : Args x0 x1 x2 x3 x4 x5 x6 A) (b : Fin 2) (s : Fin 2048) (f : Fin 2816) :
    val_main_v36 (F := Ideal) x0 x2 x3 x4 (ix3 b s f) = ((gg (A.par0 b) (XX A b s) f : ℝ) : EReal) := by
  pointwise [val_main_v36, val_main_v35, val_main_v13, val_main_v7, val_main_cst_0]
  simp only [v34_at h, h.wg, ← EReal.coe_mul, coe_sum]
  rfl

theorem v38_at (h : Args x0 x1 x2 x3 x4 x5 x6 A) (b : Fin 2) (s : Fin 2048) (f : Fin 2816) :
    val_main_v38 (F := Ideal) x0 x2 x3 x5 (ix3 b s f) = ((uu (A.par0 b) (XX A b s) f : ℝ) : EReal) := by
  pointwise [val_main_v38, val_main_v37, val_main_v14, val_main_v7, val_main_cst_0]
  simp only [v34_at h, h.wu, ← EReal.coe_mul, coe_sum]
  rfl

theorem v39_2_at (h : Args x0 x1 x2 x3 x4 x5 x6 A) (b : Fin 2) (s : Fin 2048) (f : Fin 2816) :
    val_main_v39_2 (F := Ideal) x0 x2 x3 x4 (ix3 b s f) = ((sg (gg (A.par0 b) (XX A b s) f) : ℝ) : EReal) := by
  pointwise [val_main_v39_2, val_main_call0_v4, val_main_call0_v3, val_main_call0_v2, val_main_call0_v1, val_main_call0_v0, val_main_call0_cst, val_main_call0_cst_0]
  simp only [v36_at h]
  exact sig_coe _

theorem v39_1_at (h : Args x0 x1 x2 x3 x4 x5 x6 A) (b : Fin 2) (s : Fin 2048) (f : Fin 2816) :
    val_main_v39_1 (F := Ideal) x0 x2 x3 x4 (ix3 b s f) = ((sg (gg (A.par0 b) (XX A b s) f) * (1 - sg (gg (A.par0 b) (XX A b s) f)) : ℝ) : EReal) := by
  pointwise [val_main_v39_1, val_main_call0_v7, val_main_call0_v6, val_main_call0_cst_1]
  simp only [v39_2_at h, one_sub_coe, ← EReal.coe_mul]

theorem v39_0_at (h : Args x0 x1 x2 x3 x4 x5 x6 A) (b : Fin 2) (s : Fin 2048) (f : Fin 2816) :
    val_main_v39_0 (F := Ideal) x0 x2 x3 x4 (ix3 b s f) = ((ss (A.par0 b) (XX A b s) f : ℝ) : EReal) := by
  pointwise [val_main_v39_0]
  simp only [v39_2_at h, v36_at h, ← EReal.coe_mul]
  rfl

theorem v40_at (h : Args x0 x1 x2 x3 x4 x5 x6 A) (b : Fin 2) (s : Fin 2048) (f : Fin 2816) :
    val_main_v40 (F := Ideal) x0 x2 x3 x4 x5 (ix3 b s f) = ((aa (A.par0 b) (XX A b s) f : ℝ) : EReal) := by
  pointwise [val_main_v40]
  simp only [v39_0_at h, v38_at h, ← EReal.coe_mul]
  rfl

theorem v42_at (h : Args x0 x1 x2 x3 x4 x5 x6 A) (b : Fin 2) (s : Fin 2048) (d : Fin 1024) :
    val_main_v42 (F := Ideal) x0 x2 x3 x4 x5 x6 (ix3 b s d) = ((yy (A.par0 b) (XX A b s) d : ℝ) : EReal) := by
  pointwise [val_main_v42, val_main_v41, val_main_v15, val_main_v8, val_main_cst_1]
  simp only [v40_at h, h.wd, ← EReal.coe_mul, coe_sum]
  rfl

end Cert.Reference2Ideal.Ref

end
-- ==== Proof.DxRefB.lean ====
/- The first half step's reference over the real numbers, its backward lines, row by row, and its results. -/
module

public import proofs.«01_k».proof.Proof.DxRefF
public import proofs.«01_k».proof.Proof.DxOut

@[expose] public section

set_option maxRecDepth 16384

noncomputable section

namespace Cert.Reference2Ideal.Ref

open Cert.Reference2Ideal Cert.Reference2Ideal.Gen Cert.Reference2Ideal.Read Idealize.ShloMosaic Cert.Half
open Cert.ReferenceIdeal.Ref (sig_coe div_ms dh_eq ofBits_neg_half)
open scoped BigOperators

variable {x0 x1 : FVec Ideal S2x2048x1024 .f32} {x2 : FVec Ideal S2x9216 .f32} {x3 : FVec Ideal S1x1024 .f32}
    {x4 x5 : FVec Ideal S1x1024x2816 .f32} {x6 : FVec Ideal S1x2816x1024 .f32} {A : Data}

theorem v49_at (h : Args x0 x1 x2 x3 x4 x5 x6 A) (b : Fin 2) (s : Fin 2048) (d : Fin 1024) :
    val_main_v49 (F := Ideal) x1 (ix3 b s d) = ((CC A b s d : ℝ) : EReal) := by
  pointwise [val_main_v49]
  simp only [h.t]

theorem v51_at (h : Args x0 x1 x2 x3 x4 x5 x6 A) (b : Fin 2) (s : Fin 2048) (d : Fin 1024) :
    val_main_v51 (F := Ideal) x1 x2 (ix3 b s d) = ((dy (A.par0 b) (CC A b s) d : ℝ) : EReal) := by
  pointwise [val_main_v51, val_main_v50]
  simp only [v49_at h, v45_at h, ← EReal.coe_mul]
  rfl

theorem v58_at (h : Args x0 x1 x2 x3 x4 x5 x6 A) (b : Fin 2) (s : Fin 2048) (f : Fin 2816) :
    val_main_v58 (F := Ideal) x1 x2 x6 (ix3 b s f) = ((da (A.par0 b) (CC A b s) f : ℝ) : EReal) := by
  pointwise [val_main_v58, val_main_v15]
  simp only [v51_at h, h.wd, ← EReal.coe_mul, coe_sum]
  rfl

theorem v59_at (h : Args x0 x1 x2 x3 x4 x5 x6 A) (b : Fin 2) (s : Fin 2048) (f : Fin 2816) :
    val_main_v59 (F := Ideal) x0 x1 x2 x3 x4 x6 (ix3 b s f) = ((du (A.par0 b) (XX A b s) (CC A b s) f : ℝ) : EReal) := by
  pointwise [val_main_v59]
  simp only [v58_at h, v39_0_at h, ← EReal.coe_mul]
  congr 1
  simp only [du]
  ring

theorem v61_at (h : Args x0 x1 x2 x3 x4 x5 x6 A) (b : Fin 2) (s : Fin 2048) (f : Fin 2816) :
    val_main_v61 (F := Ideal) x0 x1 x2 x3 x4 x5 x6 (ix3 b s f) = ((dg (A.par0 b) (XX A b s) (CC A b s) f : ℝ) : EReal) := by
  pointwise [val_main_v61, val_main_call1_v2, val_main_call1_v1, val_main_call1_v0, val_main_v60]
  simp only [v58_at h, v38_at h, v36_at h, v39_2_at h, v39_1_at h, ← EReal.coe_mul, ← EReal.coe_add]
  congr 1
  simp only [dg]
  ring

theorem v64_at (h : Args x0 x1 x2 x3 x4 x5 x6 A) (b : Fin 2) (s : Fin 2048) (d : Fin 1024) :
    val_main_v64 (F := Ideal) x0 x1 x2 x3 x4 x5 x6 (ix3 b s d) = ((dxn (A.par0 b) (XX A b s) (CC A b s) d : ℝ) : EReal) := by
  pointwise [val_main_v64, val_main_v63, val_main_v62, val_main_v13, val_main_v14]
  simp only [v59_at h, v61_at h, h.wg, h.wu, ← EReal.coe_mul, coe_sum, ← EReal.coe_add]
  congr 1
  exact add_comm _ _

theorem v72_at (h : Args x0 x1 x2 x3 x4 x5 x6 A) (b : Fin 2) (s : Fin 2048) (d : Fin 1024) :
    val_main_v72 (F := Ideal) x0 x1 x2 x3 x4 x5 x6 (ix3 b s d) = ((dr (A.par0 b) (XX A b s) (CC A b s) d : ℝ) : EReal) := by
  pointwise [val_main_v72, val_main_v71, val_main_v16]
  simp only [v64_at h, v6_at h, ← EReal.coe_mul]
  rfl

theorem v27_at (h : Args x0 x1 x2 x3 x4 x5 x6 A) (b : Fin 2) (s : Fin 2048) :
    val_main_v27 (F := Ideal) x0 (ix3 (n2 := 1) b s 0) = ((-(1 / 2) * (Half.inv (XX A b s) * (1 / ms (XX A b s))) : ℝ) : EReal) := by
  pointwise [val_main_v27, val_main_v26, val_main_v25, val_main_cst_5]
  simp only [v24_at h, v23_at h, ofBits_neg_half, div_ms, ← EReal.coe_mul]

theorem v83_at (h : Args x0 x1 x2 x3 x4 x5 x6 A) (b : Fin 2) (s : Fin 2048) (d : Fin 1024) :
    val_main_v83 (F := Ideal) x0 x1 x2 x3 x4 x5 x6 (ix3 b s d) = (((∑ k, XX A b s k * dr (A.par0 b) (XX A b s) (CC A b s) k) * (-(1 / 2) * (Half.inv (XX A b s) * (1 / ms (XX A b s)))) * (1 / 1024) : ℝ) : EReal) := by
  pointwise [val_main_v83, val_main_v82, val_main_v81, val_main_v80, val_main_v79, val_main_v75, val_main_v74, val_main_v73, val_main_cst_13, val_main_cst_14, val_main_cst_15]
  simp only [Fin.sum_univ_one, v72_at h, v27_at h, h.x, ofBits_1024, div_1024, ← EReal.coe_mul, coe_sum]

theorem v87_at (h : Args x0 x1 x2 x3 x4 x5 x6 A) (b : Fin 2) (s : Fin 2048) (d : Fin 1024) :
    val_main_v87 (F := Ideal) x0 x1 x2 x3 x4 x5 x6 (ix3 b s d) = ((dh (A.par0 b) (XX A b s) (CC A b s) d : ℝ) : EReal) := by
  pointwise [val_main_v87, val_main_v86, val_main_v85, val_main_v84, val_main_v78, val_main_v77, val_main_v76]
  simp only [h.t, v72_at h, v24_at h, v83_at h, h.x, ← EReal.coe_mul, ← EReal.coe_add]
  exact congrArg _ (dh_eq _ _ _ _)

theorem v89_at (h : Args x0 x1 x2 x3 x4 x5 x6 A) (b : Fin 2) (d : Fin 1024) :
    val_main_v89 (F := Ideal) x0 x1 x2 x3 x4 x5 x6 (ix3 (n1 := 1) b 0 d) = ((∑ s : Fin 2048, dxn (A.par0 b) (XX A b s) (CC A b s) d : ℝ) : EReal) := by
  pointwise [val_main_v89, val_main_v67, val_main_v66, val_main_v65, val_main_cst_10, val_main_cst_11]
  simp only [Fin.sum_univ_one, v64_at h, coe_sum]

theorem v90_at (h : Args x0 x1 x2 x3 x4 x5 x6 A) (b : Fin 2) (d : Fin 1024) :
    val_main_v90 (F := Ideal) x0 x1 x2 x3 x4 x5 x6 (ix3 (n1 := 1) b 0 d) = ((∑ s : Fin 2048, rr (XX A b s) d * dxn (A.par0 b) (XX A b s) (CC A b s) d : ℝ) : EReal) := by
  pointwise [val_main_v90, val_main_v88, val_main_v70, val_main_v69, val_main_v68, val_main_cst_12, val_main_cst_16]
  simp only [Fin.sum_univ_one, v64_at h, v29_at h, ← EReal.coe_mul, coe_sum]

theorem v91_at (h : Args x0 x1 x2 x3 x4 x5 x6 A) (b : Fin 2) (d : Fin 1024) :
    val_main_v91 (F := Ideal) x0 x1 x2 x3 x4 x5 x6 (ix3 (n1 := 1) b 0 d) = ((1 / 2 * ∑ s : Fin 2048, CC A b s d * yy (A.par0 b) (XX A b s) d : ℝ) : EReal) := by
  pointwise [val_main_v91, val_main_v57, val_main_v56, val_main_v55, val_main_v54, val_main_v53, val_main_v52, val_main_cst_7, val_main_cst_8, val_main_cst_9]
  simp only [Fin.sum_univ_one, v49_at h, v42_at h, ofBits_half, ← EReal.coe_mul, coe_sum]

theorem v94_at (h : Args x0 x1 x2 x3 x4 x5 x6 A) (b : Fin 2) (k : Fin 8) (d : Fin 1024) :
    val_main_v94 (F := Ideal) x0 x1 x2 x3 x4 x5 x6 (ix3 b k d) = ((∑ s : Fin 2048, part (A.par0 b) (XX A b s) (CC A b s) k d : ℝ) : EReal) := by
  pointwise [val_main_v94, val_main_v93, val_main_v92, val_main_cst_17]
  by_cases h0 : k = 0
  · subst h0
    rw [dif_pos (by decide), dif_pos (by decide)]
    exact v89_at h b d
  by_cases h1 : k = 1
  · subst h1
    rw [dif_pos (by decide), dif_neg (by decide), dif_pos (by decide)]
    refine (v90_at h b d).trans (congrArg _ (Finset.sum_congr rfl fun s _ => ?_))
    simp only [part, if_neg h0, if_pos]
    exact mul_comm _ _
  by_cases h2 : k = 2
  · subst h2
    rw [dif_pos (by decide), dif_neg (by decide), dif_neg (by decide)]
    refine (v91_at h b d).trans (congrArg _ ?_)
    rw [Finset.mul_sum]
    refine Finset.sum_congr rfl fun s _ => ?_
    simp only [part, if_neg h0, if_neg h1, if_pos]
  · have hk : ¬ k.val < 3 := by
      have e0 : k.val ≠ 0 := fun e => h0 (Fin.ext e)
      have e1 : k.val ≠ 1 := fun e => h1 (Fin.ext e)
      have e2 : k.val ≠ 2 := fun e => h2 (Fin.ext e)
      omega
    rw [dif_neg hk]
    simp only [part, if_neg h0, if_neg h1, if_neg h2, Finset.sum_const_zero, EReal.coe_zero]

/-- A row by its sequence and its place. -/
theorem row_split (i : Fin 4096) : rw2 (i.val / 2048) (by omega) (⟨i.val % 2048, by omega⟩ : Fin 2048) = i := Fin.ext (by simp only [rw2]; omega)

theorem r95 (h : Args x0 x1 x2 x3 x4 x5 x6 A) : val_main_v95 (F := Ideal) x0 x1 x2 x3 x4 x5 x6 = Cert.Kernel2Ideal.Dx.oDh A := by
  funext i
  idx_vars i
  pointwise [val_main_v95]
  refine (v87_at h _ _ _).trans ?_
  simp only [XX, CC, row_split]
  rfl

theorem r97 (h : Args x0 x1 x2 x3 x4 x5 x6 A) : val_main_v97 (F := Ideal) x0 x2 x3 = Cert.Kernel2Ideal.Dx.oXn A := by
  funext i
  idx_vars i
  pointwise [val_main_v97, val_main_v96]
  refine (v34_at h _ _ _).trans ?_
  simp only [XX, CC, row_split]
  rfl

theorem r99 (h : Args x0 x1 x2 x3 x4 x5 x6 A) : val_main_v99 (F := Ideal) x1 x2 = Cert.Kernel2Ideal.Dx.oDy A := by
  funext i
  idx_vars i
  pointwise [val_main_v99, val_main_v98]
  refine (v51_at h _ _ _).trans ?_
  simp only [XX, CC, row_split]
  rfl

theorem r101 (h : Args x0 x1 x2 x3 x4 x5 x6 A) : val_main_v101 (F := Ideal) x0 x2 x3 x4 x5 = Cert.Kernel2Ideal.Dx.oAa A := by
  funext i
  idx_vars i
  pointwise [val_main_v101, val_main_v100]
  refine (v40_at h _ _ _).trans ?_
  simp only [XX, CC, row_split]
  rfl

theorem r103 (h : Args x0 x1 x2 x3 x4 x5 x6 A) : val_main_v103 (F := Ideal) x0 x1 x2 x3 x4 x5 x6 = Cert.Kernel2Ideal.Dx.oDg A := by
  funext i
  idx_vars i
  pointwise [val_main_v103, val_main_v102]
  refine (v61_at h _ _ _).trans ?_
  simp only [XX, CC, row_split]
  rfl

theorem r105 (h : Args x0 x1 x2 x3 x4 x5 x6 A) : val_main_v105 (F := Ideal) x0 x1 x2 x3 x4 x6 = Cert.Kernel2Ideal.Dx.oDu A := by
  funext i
  idx_vars i
  pointwise [val_main_v105, val_main_v104]
  refine (v59_at h _ _ _).trans ?_
  simp only [XX, CC, row_split]
  rfl

theorem r94 (h : Args x0 x1 x2 x3 x4 x5 x6 A) : val_main_v94 (F := Ideal) x0 x1 x2 x3 x4 x5 x6 = Cert.Kernel2Ideal.Dx.oMg A := by
  funext i
  idx_vars i
  exact v94_at h _ _ _

end Cert.Reference2Ideal.Ref

end
-- ==== Proof.WIn.lean ====
/- The input projection's weight gradient: the array the call leaves, accumulated over two halves of the rows, is the
   reference's product over all rows. No entry need be finite: a sum is only cut in two. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.WIn

open Cert.Kernel3Ideal Cert.Kernel3Ideal.Gen Cert.Kernel3Ideal.Value
open Idealize.ShloMosaic Idealize.ShloMosaic.TcCoe Idealize.ShloMosaic.Tactic Idealize.SL.Sem
open scoped BigOperators

variable (m : (ℓ : Loc nD τ sig) → Buf (Elt Ideal) ℓ) (c : Dev nD)

/-- The two arrays the call multiplies: the projection's gradient and the normalised rows. -/
abbrev G : FVec Ideal S4096x3840 .bf16 := m ((c : Thread nD τ).loc main_arg0)
abbrev X : FVec Ideal S4096x1024 .bf16 := m ((c : Thread nD τ).loc main_arg1)

theorem idx : ∀ t : Fin cfg0.N, win0_0.index t = ![t.val % 2, t.val / 2] ∧ win0_1.index t = ![t.val % 2, 0] :=
  (by decide +kernel : ∀ t : Fin grid0.N, _)

/-- Row `k` of half `s` of the rows. -/
def hrow (s : Fin 2) (k : Fin 2048) : Fin 4096 := ⟨s.val * 2048 + k.val, by omega⟩

/-- What a point adds to the block. -/
theorem add_at (acc : Vec Ideal S1280x1024 .f32) (a : Vec Ideal S2048x1280 .bf16) (b : Vec Ideal S2048x1024 .bf16) (f : Fin 1280) (d : Fin 1024) :
    k0_pay2 acc a b (ix2 f d) = acc (ix2 f d) + ∑ k : Fin 2048, a (ix2 k f) * b (ix2 k d) := by pointwise [k0_pay2]

theorem zero_at (f : Fin 1280) (d : Fin 1024) : k0_pay1 (F := Ideal) (ix2 f d) = 0 := by pointwise [k0_pay1]

theorem g_at (s : Fin 2) (r : ℕ) (h : 2 * r + s.val < cfg0.N) (k : Fin 2048) (y : Fin 1280) (f : Fin 3840) (hf : f.val = r * 1280 + y.val) :
    iblk m c 0 ⟨2 * r + s.val, h⟩ (ix2 k y) = G m c (ix2 (hrow s k) f) := by
  have e0 : (2 * r + s.val) % 2 = s.val := by omega
  have e1 : (2 * r + s.val) / 2 = r := by omega
  blk_ext [iblk, idx ⟨2 * r + s.val, h⟩, hrow, e0, e1, hf]

theorem x_at (s : Fin 2) (r : ℕ) (h : 2 * r + s.val < cfg0.N) (k : Fin 2048) (d : Fin 1024) :
    iblk m c 1 ⟨2 * r + s.val, h⟩ (ix2 k d) = X m c (ix2 (hrow s k) d) := by
  have e0 : (2 * r + s.val) % 2 = s.val := by omega
  blk_ext [iblk, idx ⟨2 * r + s.val, h⟩, hrow, e0]

/-- The reference's array: the product over all rows. -/
theorem ref_at (G : FVec Ideal S4096x3840 .bf16) (X : FVec Ideal S4096x1024 .bf16) (f : Fin 3840) (d : Fin 1024) :
    Cert.Reference3Ideal.Read.val_main_v6 (F := Ideal) G X (ix2 f d) = ∑ k : Fin 4096, G (ix2 k f) * X (ix2 k d) := by
  pointwise [Cert.Reference3Ideal.Read.val_main_v6, Cert.Reference3Ideal.Read.val_main_v5, Cert.Reference3Ideal.Read.val_main_v4,
    Cert.Reference3Ideal.Read.val_main_v1, Cert.Reference3Ideal.Read.val_main_v0]

theorem array_eq : G2 m c = Cert.Reference3Ideal.Read.val_main_v6 (F := Ideal) (G m c) (X m c) := by
  refine funext fun i : S3840x1024.Idx => ?_
  obtain ⟨f, d, rfl⟩ : ∃ (f : Fin 3840) (d : Fin 1024), i = ix2 f d := ⟨i 0, i 1, by blk_ext []⟩
  have hr : f.val / 1280 < 3 := by omega
  have hN : 2 * run2Of (ix2 f d) + 1 < cfg0.N := by
    refine lt_of_lt_of_eq ?_ N_0.symm; show 2 * (1 * (f.val / 1280 - 0) + 1 * (d.val / 1024 - 0)) + 1 < 6; omega
  have hrun : run2Of (ix2 f d) = f.val / 1280 := by
    show 1 * (f.val / 1280 - 0) + 1 * (d.val / 1024 - 0) = _; omega
  have hloc : loc2Of (ix2 f d) = ix2 (⟨f.val % 1280, by omega⟩ : Fin 1280) d := by
    funext a; fin_cases a
    · rfl
    · exact Fin.ext (Nat.mod_eq_of_lt d.isLt)
  refine (dif_pos hN).trans ?_
  show step2 m c (2 * run2Of (ix2 f d) + 1) _ (reset2 m c (2 * run2Of (ix2 f d)) _) _ = _
  rw [hloc, ref_at]
  unfold step2 reset2
  rw [add_at, add_at, zero_at, zero_add]
  have hf : f.val = run2Of (ix2 f d) * 1280 + (⟨f.val % 1280, by omega⟩ : Fin 1280).val := by rw [hrun]; show _ = _ * 1280 + f.val % 1280; omega
  refine Eq.trans (congrArg₂ (· + ·) (Finset.sum_congr rfl fun k _ => ?_) (Finset.sum_congr rfl fun k _ => ?_))
    (((Fin.sum_univ_two _).symm).trans (Fin.sum_mul_add_fin 2 2048 (fun k : Fin 4096 => G m c (ix2 k f) * X m c (ix2 k d)) (by decide)))
  · exact congrArg₂ (· * ·) (g_at m c 0 _ _ k _ f hf) (x_at m c 0 _ _ k d)
  · exact congrArg₂ (· * ·) (g_at m c 1 _ _ k _ f hf) (x_at m c 1 _ _ k d)

end Cert.Kernel3Ideal.WIn

end
-- ==== Proof.Claims.lean ====
/- The second and third programs' claims: the first half step's backward call, and the weight gradient of the attention's
   input projection. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.DxHost
public import proofs.«01_k».proof.Proof.DxRefB
public import proofs.«01_k».proof.Proof.WIn
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Half

instance : Cert.Pre_finite.Facts := Cert.Pre_finite.facts

/-- The references run, their arguments end as launched, their counters at zero. -/
theorem frame_ref2 : Cert.quiescent_Reference2Ideal := fun m ρ _ =>
  (θ_run (Cert.Reference2Ideal.defs (F := Ideal)) _ _).mono
    (fun r h => ⟨fun c => (h c).2.2.2.2.2.2.2, sem_eq_zero_of_no_sems (by decide) r.2⟩)
    (Cert.Reference2Ideal.Value.run (F := Ideal) m ρ)

theorem frame_ref3 : Cert.quiescent_Reference3Ideal := fun m ρ _ =>
  (θ_run (Cert.Reference3Ideal.defs (F := Ideal)) _ _).mono
    (fun r h => ⟨fun c => (h c).2, sem_eq_zero_of_no_sems (by decide) r.2⟩)
    (Cert.Reference3Ideal.Value.run (F := Ideal) m ρ)

/-- Under the precondition a device's arguments hold real arrays. -/
theorem args_at2 (m : (ℓ : Loc Cert.Kernel2Ideal.nD Cert.Kernel2Ideal.τ Cert.Kernel2Ideal.sig) → Buf (Elt Ideal) ℓ)
    (h : Cert.Pre_Kernel2Ideal_finite m) (c : Dev Cert.Kernel2Ideal.nD) : ∃ A : Data, Cert.Kernel2Ideal.Dx.ArgsAt m c A := by
  obtain ⟨h0, h1, h2, h3, h4, h5, h6⟩ := h c
  exact args_of_finite (Cert.Pre_finite.real_at _ _ h0) (Cert.Pre_finite.real_at _ _ h1) (Cert.Pre_finite.real_at _ _ h2)
    (Cert.Pre_finite.real_at _ _ h3) (Cert.Pre_finite.real_at _ _ h4) (Cert.Pre_finite.real_at _ _ h5) (Cert.Pre_finite.real_at _ _ h6)

/-- The reference's arguments, being the kernel's, hold the same real arrays. -/
theorem args_ref {a0 a1 a2 a3 a4 a5 a6 b0 b1 b2 b3 b4 b5 b6} {A : Data} (h : Args a0 a1 a2 a3 a4 a5 a6 A)
    (e : b0 = a0 ∧ b1 = a1 ∧ b2 = a2 ∧ b3 = a3 ∧ b4 = a4 ∧ b5 = a5 ∧ b6 = a6) : Args b0 b1 b2 b3 b4 b5 b6 A := by
  obtain ⟨rfl, rfl, rfl, rfl, rfl, rfl, rfl⟩ := e
  exact h

open Cert.Kernel2Ideal.Gen Cert.Kernel2Ideal.Dx in
/-- The seven results of the first half step's backward call are the reference's. -/
theorem results2 : Cert.algebraic_Kernel2Ideal_Reference2Ideal_pre_finite := by
  intro m g m' g' hpre hagree
  choose A hA using args_at2 m hpre
  refine ⟨fun c => Cert.Kernel2Ideal.Dx.oDh (A c), fun c => Cert.Kernel2Ideal.Dx.oXn (A c), fun c => Cert.Kernel2Ideal.Dx.oDy (A c), fun c => Cert.Kernel2Ideal.Dx.oAa (A c), fun c => Cert.Kernel2Ideal.Dx.oDg (A c), fun c => Cert.Kernel2Ideal.Dx.oDu (A c),
    fun c => Cert.Kernel2Ideal.Dx.oMg (A c), ?_, ?_⟩
  · exact (θ_run (Cert.Kernel2Ideal.defs (F := Ideal)) _ _).mono (fun r h c => ⟨dx_post h.1 (hA c),
      xn_post h.1 (hA c), dy_post h.1 (hA c), aa_post h.1 (hA c),
      dg_post h.1 (hA c), du_post h.1 (hA c), mg_post h.1 (hA c), h.2 c⟩)
      (θ_run_and (run_main m g) (unchanged m g))
  · refine (θ_run (Cert.Reference2Ideal.defs (F := Ideal)) _ _).mono (fun r h c => ?_) (Cert.Reference2Ideal.Value.run (F := Ideal) m' g')
    obtain ⟨h95, h97, h99, h101, h103, h105, h94, hargs⟩ := h c
    have hR := args_ref (hA c) (hagree c)
    exact ⟨(h95.trans (Cert.Reference2Ideal.Read.val_main_v95_eq (F := Ideal) m' c)).trans (Cert.Reference2Ideal.Ref.r95 hR),
      (h97.trans (Cert.Reference2Ideal.Read.val_main_v97_eq (F := Ideal) _ _ _)).trans (Cert.Reference2Ideal.Ref.r97 hR),
      (h99.trans (Cert.Reference2Ideal.Read.val_main_v99_eq (F := Ideal) _ _)).trans (Cert.Reference2Ideal.Ref.r99 hR),
      (h101.trans (Cert.Reference2Ideal.Read.val_main_v101_eq (F := Ideal) m' c)).trans (Cert.Reference2Ideal.Ref.r101 hR),
      (h103.trans (Cert.Reference2Ideal.Read.val_main_v103_eq (F := Ideal) m' c)).trans (Cert.Reference2Ideal.Ref.r103 hR),
      (h105.trans (Cert.Reference2Ideal.Read.val_main_v105_eq (F := Ideal) m' c)).trans (Cert.Reference2Ideal.Ref.r105 hR),
      (h94.trans (Cert.Reference2Ideal.Read.val_main_v94_eq (F := Ideal) m' c)).trans (Cert.Reference2Ideal.Ref.r94 hR),
      hargs⟩

open Cert.Kernel3Ideal.Value Cert.Kernel3Ideal.WIn in
/-- The weight gradient of the attention's input projection is the reference's. -/
theorem results3 : Cert.algebraic_Kernel3Ideal_Reference3Ideal := by
  intro m g m' g' _ hagree
  refine ⟨fun c => G2 m c, run m g, ?_⟩
  refine (θ_run (Cert.Reference3Ideal.defs (F := Ideal)) _ _).mono (fun r h c => ?_) (Cert.Reference3Ideal.Value.run (F := Ideal) m' g')
  obtain ⟨h6, hargs⟩ := h c
  refine ⟨?_, hargs⟩
  refine (h6.trans (Cert.Reference3Ideal.Read.val_main_v6_eq (F := Ideal) _ _)).trans ?_
  rw [(hagree c).1, (hagree c).2]
  exact (array_eq (m := m) (c := c)).symm

end Cert.Proof

end
-- ==== Proof.SwapCells.lean ====
/- The wider feed-forward gradient's weight product with its exchange: every device sends four blocks of one operand to
   the device next to it, which differs in the mesh's last axis alone. Here are the two ends of each copy, the
   semaphores it pays, and which elements of memory every one of them hands over. -/
module

public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.Pipeline.Launch
public import Idealize.ShloMosaic.Lib.Pipeline.Kit
public import Idealize.ShloMosaic.Lib.Pointwise
public import Idealize.ShloMosaic.Lib.Pipeline.ValueKit
public import Idealize.ShloMosaic.Lib.Tactic
public import Idealize.ShloMosaic.Lib.ValueLayout

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The partner -/

/-- The device a copy goes to: the one that differs in the mesh's last axis alone. -/
def peer (c : Dev nD) : Dev nD :=
  ⟨(4 * (c.val / 4) + 2 * ((c.val / 2) % 2) + 1) - c.val % 2, by have := c.isLt; revert this; generalize c.val = v; decide +revert⟩

theorem peer_peer (c : Dev nD) : peer (peer c) = c := by revert c; decide
theorem peer_par (c : Dev nD) : (peer c).val % 2 = 1 - c.val % 2 := by revert c; decide

theorem peer_dev1 (c : Dev nD) (h : k0_dev1 c < nD) : (⟨k0_dev1 c, h⟩ : Dev nD) = peer c := Fin.ext (k0_dev1_eq c)
theorem peer_dev2 (c : Dev nD) (h : k0_dev2 c < nD) : (⟨k0_dev2 c, h⟩ : Dev nD) = peer c := Fin.ext (k0_dev2_eq c)
theorem peer_dev3 (c : Dev nD) (h : k0_dev3 c < nD) : (⟨k0_dev3 c, h⟩ : Dev nD) = peer c := Fin.ext (k0_dev3_eq c)
theorem peer_dev4 (c : Dev nD) (h : k0_dev4 c < nD) : (⟨k0_dev4 c, h⟩ : Dev nD) = peer c := Fin.ext (k0_dev4_eq c)

/-- Going to the partner, as a permutation of the devices. -/
def swap : Dev nD ≃ Dev nD := ⟨peer, peer, peer_peer, peer_peer⟩

/-! ## The two ends of a copy -/

theorem src_inb (c : Dev nD) (q : Fin 4) : ∀ a, (k0_off1 c (BitVec.ofNat 32 (2 * q.val))) a + S1x352x1024.size a ≤ S8x352x1024.size a := by
  revert c q; decide +kernel
theorem dst_inb (q : Fin 4) : ∀ a, (![q.val, 0, 0] : Fin 3 → Nat) a + S1x352x1024.size a ≤ S4x352x1024.size a := by revert q; decide +kernel
theorem sem_inb (q : Fin 4) : ∀ a, (![0, q.val] : Fin 2 → Nat) a + S1x1.size a ≤ S1x4.size a := by revert q; decide +kernel

/-- Copy `q` of device `c` reads this block of its operand … -/
abbrev srcM (c : Dev nD) (q : Fin 4) : Memref sig .tc .hbm S352x1024 .f32 :=
  ((Memref.whole main_arg2).slice (Rect.unit (s := S8x352x1024) (k0_off1 c (BitVec.ofNat 32 (2 * q.val))) S1x352x1024.size (src_inb c q)) (fun _ => rfl)).squeeze
    S352x1024 squeezes_S1x352x1024_S352x1024
/-- … and writes this slot of its partner's result. -/
abbrev dstM (q : Fin 4) : Memref sig .tc .hbm S352x1024 .f32 :=
  ((Memref.whole main_v1_1).slice (Rect.unit (s := S4x352x1024) ![q.val, 0, 0] S1x352x1024.size (dst_inb q)) (fun _ => rfl)).squeeze
    S352x1024 squeezes_S1x352x1024_S352x1024

/-- The semaphore copy `q` pays when it has read, and the one it pays on the partner when it has written. -/
abbrev sendS (q : Fin 4) : DmaSem sig :=
  ((cc0_scratch0.slice (Rect.unit (s := S1x4) ![0, q.val] S1x1.size (sem_inb q))).squeeze S_ squeezes_S1x1_S_).sem
abbrev recvS (q : Fin 4) : DmaSem sig :=
  ((cc0_scratch1.slice (Rect.unit (s := S1x4) ![0, q.val] S1x1.size (sem_inb q))).squeeze S_ squeezes_S1x1_S_).sem

theorem sendS_val : ∀ q : Fin 4, (sendS q).val = 6 + q.val := by decide +kernel
theorem recvS_val : ∀ q : Fin 4, (recvS q).val = 10 + q.val := by decide +kernel

/-- What a copy pays each semaphore. -/
abbrev N : ℕ := (dstM 0).view.dmaCredit
theorem N_pos : 0 < N := View.dmaCredit_pos _ (by decide)

theorem src_emb (c : Dev nD) (q : Fin 4) (a : Fin 352) (b : Fin 1024) :
    (srcM c q).view.emb (ix2 a b) = (ix3 (⟨2 * q.val + 1 - c.val % 2, by have := q.isLt; omega⟩ : Fin 8) a b : S8x352x1024.Idx) := by
  refine (congrArg ((Rect.unit (s := S8x352x1024) (k0_off1 c (BitVec.ofNat 32 (2 * q.val))) S1x352x1024.size (src_inb c q)).emb)
    (ValueIdx.reshapeEquiv_ix2_1ab _ a b)).trans ?_
  blk_ext [k0_off1_eq c q]
theorem dst_emb (q : Fin 4) (a : Fin 352) (b : Fin 1024) :
    (dstM q).view.emb (ix2 a b) = (ix3 q a b : S4x352x1024.Idx) := by
  refine (congrArg ((Rect.unit (s := S4x352x1024) ![q.val, 0, 0] S1x352x1024.size (dst_inb q)).emb)
    (ValueIdx.reshapeEquiv_ix2_1ab _ a b)).trans ?_
  blk_ext []

theorem src_disj (c : Dev nD) : ∀ q q' : Fin 4, q ≠ q' → Disjoint (srcM c q).view.set (srcM c q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [src_emb, src_emb] at e
    have := congrArg (fun i : S8x352x1024.Idx => (i 0).val) e
    simp only [ix3] at this
    exact h (Fin.ext (by omega))

theorem dst_disj : ∀ q q' : Fin 4, q ≠ q' → Disjoint (dstM q).view.set (dstM q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [dst_emb, dst_emb] at e
    have := congrArg (fun i : S4x352x1024.Idx => (i 0).val) e
    exact h (Fin.ext this.symm)

theorem dst_cover : (Finset.univ.biUnion fun q : Fin 4 => (dstM q).view.set) = (Finset.univ : Finset S4x352x1024.Idx) :=
  Finset.eq_univ_iff_forall.mpr fun i => Finset.mem_biUnion.mpr ⟨i 0, Finset.mem_univ _, by
    have e : (dstM (i 0)).view.emb (ix2 (i 1) (i 2)) = i := (dst_emb (i 0) (i 1) (i 2)).trans (by ext a; fin_cases a <;> rfl)
    have := View.emb_mem_set (dstM (i 0)).view (ix2 (i 1) (i 2))
    rwa [e] at this⟩

end Cert.Kernel4Ideal.Swap
-- ==== Proof.SwapRounds.lean ====
/- The exchange as a schedule of rounds: eight semaphores a device, one transfer to each. A semaphore paid when a block
   has been read gives the block back; one paid when a slot has been written gives the slot with what landed in it. -/
module

public import proofs.«01_k».proof.Proof.SwapCells

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What lands -/

/-- What the exchange leaves in a device's result: the partner's block of the device's own half. -/
def landed (c : Dev nD) : Buf (Elt F) ((c : Thread nD τ).loc main_v1_1) := fun i : S4x352x1024.Idx =>
  (m ((peer c : Thread nD τ).loc main_arg2) : S8x352x1024.Idx → _) (ix3 (⟨2 * (i 0).val + c.val % 2, by have : (i 0).val < 4 := (i 0).isLt; omega⟩ : Fin 8) (i 1) (i 2))

omit [FloatOps F] in
theorem landed_write (c : Dev nD) (q : Fin 4) (fd : Buf (Elt F) ((c : Thread nD τ).loc main_v1_1)) :
    ∀ i ∈ (dstM q).view.set, (dstM q).view.write (Elt F) fd ((srcM (peer c) q).view.read (Elt F) (m ((peer c : Thread nD τ).loc main_arg2))) Finset.univ i = landed m c i := by
  intro i hi
  obtain ⟨x, rfl⟩ := View.exists_emb_of_mem_set _ hi
  obtain ⟨a, b, rfl⟩ : ∃ a b, x = ix2 a b := ⟨x 0, x 1, by ext a; fin_cases a <;> rfl⟩
  refine (View.write_emb_of_mem _ _ (Finset.mem_univ (ix2 a b))).trans ?_
  rw [View.read_apply, src_emb, dst_emb]
  refine congrArg (m ((peer c : Thread nD τ).loc main_arg2) : S8x352x1024.Idx → _) ?_
  have hp := peer_par c
  ext a
  fin_cases a
  · show 2 * q.val + 1 - (peer c).val % 2 = 2 * q.val + c.val % 2; omega
  · rfl
  · rfl

/-- Block `q` of a device's operand, as it was launched. -/
def srcPts (c : Dev nD) (q : Fin 4) : sProp 𝕄 :=
  (srcM c q).view.loc (c : Thread nD τ) ↦[(srcM c q).view.set]{fullShare} m ((c : Thread nD τ).loc main_arg2)
/-- Slot `q` of a device's result at contents `f`. -/
def dstPts (c : Dev nD) (q : Fin 4) (f : Buf (Elt F) ((c : Thread nD τ).loc main_v1_1)) : sProp 𝕄 :=
  (dstM q).view.loc (c : Thread nD τ) ↦[(dstM q).view.set]{fullShare} f

omit [FloatOps F] in
instance srcPts_storable (c : Dev nD) (q : Fin 4) : BI.Storable (upEmb : UEmb _ 𝕄) (srcPts m c q) := by unfold srcPts; infer_instance
omit [FloatOps F] in
instance dstPts_storable (c : Dev nD) (q : Fin 4) (f) : BI.Storable (upEmb : UEmb _ 𝕄) (dstPts (F := F) c q f) := by unfold dstPts; infer_instance

omit [FloatOps F] in
/-- A result held whole is its four slots. -/
theorem slots_eq (c : Dev nD) (f : Buf (Elt F) ((c : Thread nD τ).loc main_v1_1)) :
    (((c : Thread nD τ).loc main_v1_1) ↦{fullShare} f : sProp 𝕄) = bigSep Finset.univ fun q => dstPts c q f := by
  refine Eq.trans ?_ (pointsTo_biUnion (ℓ := (c : Thread nD τ).loc main_v1_1) Finset.univ (fun q : Fin 4 => (dstM q).view.set) (fun q _ q' _ h => dst_disj q q' h))
  exact congrArg (fun I => (((c : Thread nD τ).loc main_v1_1) ↦[I]{fullShare} f : sProp 𝕄)) dst_cover.symm

/-- The rest of a device's operand: what no copy reads. -/
def restPts (c : Dev nD) : sProp 𝕄 :=
  ((c : Thread nD τ).loc main_arg2) ↦[Finset.univ \ (Finset.univ.biUnion fun q : Fin 4 => (srcM c q).view.set : Finset S8x352x1024.Idx)]{fullShare} m ((c : Thread nD τ).loc main_arg2)

omit [FloatOps F] in
theorem blocks_eq (c : Dev nD) :
    (((c : Thread nD τ).loc main_arg2) ↦{fullShare} m ((c : Thread nD τ).loc main_arg2) : sProp 𝕄)
      ⊣⊢ iprop((bigSep Finset.univ fun q => srcPts m c q) ∗ restPts m c) := by
  have e : (((c : Thread nD τ).loc main_arg2) ↦[Finset.univ.biUnion fun q : Fin 4 => (srcM c q).view.set]{fullShare} m ((c : Thread nD τ).loc main_arg2) : sProp 𝕄)
      = bigSep Finset.univ fun q => srcPts m c q := pointsTo_biUnion Finset.univ _ (fun q _ q' _ h => src_disj c q q' h)
  rw [← e]
  exact pointsTo_split_subset (Finset.subset_univ _)

/-! ## The schedule -/

/-- A device's eight semaphores: `(false, q)` paid when copy `q` has read, `(true, q)` when the partner's has written. -/
abbrev osem (k : Bool × Fin 4) : SemLoc sig := .dma (bif k.1 then recvS k.2 else sendS k.2)
abbrev kcell (ck : Dev nD × Bool × Fin 4) : GSem nD τ sig := ((ck.1 : Thread nD τ), osem ck.2)

/-- Which of the eight a semaphore is. -/
def which : SemLoc sig → Option (Bool × Fin 4)
  | .dma s => if s.val < 6 then none else if s.val < 10 then some (false, Fin.ofNat 4 (s.val - 6)) else some (true, Fin.ofNat 4 (s.val - 10))
  | _ => none

theorem which_osem : ∀ k, which (osem k) = some k := by decide +kernel
theorem osem_inj : Function.Injective osem := fun k k' h => Option.some.inj ((which_osem k).symm.trans ((congrArg which h).trans (which_osem k')))

/-- What a semaphore's transfer hands over. -/
def pay (c : Dev nD) (k : Bool × Fin 4) : sProp 𝕄 := bif k.1 then dstPts c k.2 (landed m c) else srcPts m c k.2

omit [FloatOps F] in
instance pay_storable (c : Dev nD) (k) : BI.Storable (upEmb : UEmb _ 𝕄) (pay m c k) := by
  obtain ⟨_ | _, q⟩ := k
  · exact srcPts_storable m c q
  · exact dstPts_storable c q _

def rd : Rounds.Schedule (GSem nD τ sig) Unit 𝕄 where
  duties g r := if r = 0 ∧ g.1.2 = .tc ∧ (which g.2).isSome then {()} else ∅
  unitless _ := False
  amount _ _ _ := N
  payload g _ _ := (which g.2).elim iprop(emp) (pay m g.1.1)
  amount_pos _ _ _ _ := N_pos

omit [FloatOps F] in
instance rd_storable (g : GSem nD τ sig) (r : ℕ) (d : Unit) : BI.Storable (upEmb : UEmb _ 𝕄) ((rd m).payload g r d) := by
  show BI.Storable upEmb ((which g.2).elim iprop(emp) (pay m g.1.1))
  cases which g.2 <;> dsimp only [Option.elim] <;> infer_instance

omit [FloatOps F] in
theorem duties_cell (ck : Dev nD × Bool × Fin 4) : (rd m).duties (kcell ck) 0 = {()} := by
  dsimp only [rd]; exact if_pos ⟨rfl, rfl, by rw [which_osem]; rfl⟩
omit [FloatOps F] in
theorem duties_later (g : GSem nD τ sig) : ∀ r, 1 ≤ r → (rd m).duties g r = ∅ :=
  fun r hr => by dsimp only [rd]; exact if_neg fun h => by omega
omit [FloatOps F] in
theorem expect_cell (ck : Dev nD × Bool × Fin 4) : (rd m).expect (kcell ck) 0 = N := by
  unfold Schedule.expect Schedule.amountOf; rw [duties_cell, Finset.sum_singleton]; rfl
omit [FloatOps F] in
theorem payload_cell (ck : Dev nD × Bool × Fin 4) (u : Unit) : (rd m).payload (kcell ck) 0 u = pay m ck.1 ck.2 := by
  dsimp only [rd]; rw [which_osem]; rfl
omit [FloatOps F] in
theorem rest_cell (ck : Dev nD × Bool × Fin 4) :
    bigSep ((rd m).duties (kcell ck) 0 \ ∅) (fun u => (rd m).payload (kcell ck) 0 u) = pay m ck.1 ck.2 := by
  rw [Finset.sdiff_empty, duties_cell, bigSep_singleton, payload_cell]

/-! ## What a device owes, and in which order it may wait -/

/-- Device `c` owes its partner's slot `q` a transfer. -/
abbrev due (c : Dev nD) (q : Fin 4) : CellTallies nD τ sig Unit := tallyAt (kcell (peer c, true, q)) () N
def O₀ (c : Dev nD) : CellTallies nD τ sig Unit := due c 3 + due c 2 + due c 1 + due c 0

def L (g : GSem nD τ sig) : Finset Unit := if g.1.2 = .tc then {()} else ∅
def lv (g : GSem nD τ sig) (_ : Unit) : ℕ := if (which g.2).isSome then 1 else 0
theorem L_of_ne (g : GSem nD τ sig) (h : g.1.2 ≠ .tc) : L g = ∅ := if_neg h
theorem L_tc (c : Dev nD) (sm : SemLoc sig) : L ((c : Thread nD τ), sm) = {()} := if_pos rfl

theorem due_apply (c d : Dev nD) (q : Fin 4) (k : Bool × Fin 4) :
    due d q (kcell (c, k)) () = if d = peer c ∧ k = (true, q) then N else 0 := by
  unfold due
  rw [tallyAt_apply]
  refine if_congr ⟨fun h => ?_, fun h => ?_⟩ rfl rfl
  · have e : c = peer d := Fin.ext (congrArg (fun g : GSem nD τ sig => g.1.1.val) h.1)
    exact ⟨by rw [e, peer_peer], osem_inj (congrArg Prod.snd h.1)⟩
  · obtain ⟨rfl, rfl⟩ := h; rw [peer_peer]; exact ⟨rfl, rfl⟩

theorem O₀_pos {c : Dev nD} {g : GSem nD τ sig} {u : Unit} (h : 0 < O₀ c g u) : ∃ q, g = kcell (peer c, true, q) := by
  by_contra hn
  have hq (q : Fin 4) : due c q g u = 0 := by
    unfold due; rw [tallyAt_apply]; exact if_neg fun h' => hn ⟨q, h'.1⟩
  unfold O₀ at h
  rw [Pi.add_apply, Pi.add_apply, Pi.add_apply, Finsupp.add_apply, Finsupp.add_apply, Finsupp.add_apply, hq, hq, hq, hq] at h
  exact Nat.lt_irrefl 0 h

omit [FloatOps F] in
/-- The pipeline's own transfers may be waited for whatever the exchange still owes. -/
theorem mayWait_stage (c : Dev nD) (s : DmaSem sig) (hs : which (.dma s) = none) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by obtain ⟨q, rfl⟩ := O₀_pos hg; exact Finset.mem_singleton_self _)
      (fun p hp => by rw [Finset.mem_singleton.mp hp]; dsimp only [lv]; rw [hs]; decide)
      (fun g u hg => by obtain ⟨q, rfl⟩ := O₀_pos hg; dsimp only [lv]; rw [which_osem]; exact Nat.one_pos)
  · rw [MayWait_zero]; iintro -; iempintro

theorem launch_recv (c : Dev nD) (q : Fin 4) :
    tallyOn (kcell (c, true, q)) (launchCredit (Pipeline.owing O₀) 0 (kcell (c, true, q))) = (tallyAt (kcell (c, true, q)) () N : CellTallies nD τ sig Unit) := by
  have h (d : Dev nD) : O₀ d (kcell (c, true, q)) () = if d = peer c then N else 0 := by
    unfold O₀
    rw [Pi.add_apply, Pi.add_apply, Pi.add_apply, Finsupp.add_apply, Finsupp.add_apply, Finsupp.add_apply, due_apply, due_apply, due_apply, due_apply]
    by_cases e : d = peer c
    · rw [if_pos e]; fin_cases q <;> simp [e]
    · simp [e]
  unfold tallyAt; refine congrArg _ (Finsupp.ext fun u => ?_); cases u
  rw [Pipeline.launchCredit_owing, Finsupp.single_eq_same, Finset.sum_congr rfl fun d _ => h d, Finset.sum_ite_eq' Finset.univ (peer c) fun _ => N,
    if_pos (Finset.mem_univ _)]

omit [FloatOps F] in
/-- What the partners owe a device at launch: its four slots' transfers. -/
theorem creds (c : Dev nD) : (Pipeline.launchCred O₀ c : sProp 𝕄) ⊢ bigSep Finset.univ fun q : Fin 4 => cred (tallyAt (kcell (c, true, q)) () N) := by
  have hinj : Function.Injective fun q : Fin 4 => osem (true, q) := fun q q' h => congrArg Prod.snd (osem_inj h)
  unfold Pipeline.launchCred
  refine (BI.bigSep_subset (Finset.subset_univ (Finset.univ.map ⟨_, hinj⟩))).trans ?_
  rw [bigSep_map]
  exact bigSep_mono fun q _ => Entails.of_eq (congrArg cred (launch_recv c q))

end Cert.Kernel4Ideal.Swap
-- ==== Proof.SwapSteps.lean ====
/- The steps of a device: a load or a store of a whole staging buffer, a copy sent to its partner, a wait. -/
module

public import proofs.«01_k».proof.Proof.SwapRounds

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores of a whole staging buffer -/

section Owned
variable {Λ : Labels} {defs : Defs nD τ sig (Elt F) Λ} (𝒱 : Variants) (c : Dev nD) {cs : CoreSpace} {S : Shape} {e : EltTy}

omit [FloatOps F] in
theorem load_owned {α : Type} {Q : α → sProp 𝕄} {M : Memref sig .tc cs S e} {off : Fin S.rank → Nat} (h : off = fun _ => 0) (inb : ∀ a, off a + S.size a ≤ S.size a)
    {hl : M.view.LoadsAt (Rect.unit off S.size inb).toLoadRect} (X : S.Idx → Elt F e) {k : (S.Idx → Elt F e) → Prog (TpuEff nD τ sig (Elt F) Λ .tc) α} :
    (owns (c : Thread nD τ) M fullShare X : sProp 𝕄)
      ⊢ iprop((owns (c : Thread nD τ) M fullShare X -∗ wp frame (wpE defs 𝒱 (c : Thread nD τ) none) Set.univ (k X) Q)
        -∗ wp frame (wpE defs 𝒱 (c : Thread nD τ) none) Set.univ (.op (.load M (Rect.unit off S.size inb).toLoadRect hl) k) Q) := by
  have hS : M.view.setOn (Rect.unit off S.size inb).toLoadRect.set ⊆ M.view.set := Finset.map_subset_map.mpr (Finset.subset_univ _)
  unfold owns
  iintro ⟨%f, %hf, Hf⟩ Hk
  iapply (wp_load 𝒱 (c : Thread nD τ) none Set.univ (m := M) (S := M.view.set) (q := fullShare) (f := f) hS) $$ Hf
  iintro Hf
  rw [show M.view.readAt (Elt F) (Rect.unit off S.size inb).toLoadRect f = X from (congrArg (fun Y => View.ld Y (Rect.unit off S.size inb)) hf).trans (View.ld_unit_zero h inb X)]
  iapply Hk
  iexists f
  isplitr; · ipureintro; exact hf
  iexact Hf

theorem store_owned {α : Type} {Q : α → sProp 𝕄} {M : Memref sig .tc cs S e} {off : Fin S.rank → Nat} (h : off = fun _ => 0) (inb : ∀ a, off a + S.size a ≤ S.size a)
    {w : S.Idx → Elt F e} {hx : (M.access (Rect.unit off S.size inb)).Stores Finset.univ}
    {hm : (Finset.univ : Finset (Rect.unit off S.size inb).shape.Idx) = Finset.univ ∨ ∀ a, (Rect.unit off S.size inb).stride a = 1}
    {X : S.Idx → Elt F e} {k : PUnit → Prog (TpuEff nD τ sig (Elt F) Λ .tc) α} :
    (owns (c : Thread nD τ) M fullShare X : sProp 𝕄)
      ⊢ iprop((owns (c : Thread nD τ) M fullShare w -∗ wp frame (wpE defs 𝒱 (c : Thread nD τ) none) Set.univ (k ⟨⟩) Q)
        -∗ wp frame (wpE defs 𝒱 (c : Thread nD τ) none) Set.univ (.op (.store M (Rect.unit off S.size inb) w Finset.univ hx hm) k) Q) := by
  have hw (f : Buf (Elt F) (M.view.loc (c : Thread nD τ))) : M.view.read (Elt F) (M.view.writes (Elt F) f [⟨Rect.unit off S.size inb, w⟩]) = w :=
    (View.read_writes_eq_canon M.view f [⟨Rect.unit off S.size inb, w⟩] fun y => ⟨_, List.mem_singleton_self _, by subst h; show y ∈ (Rect.whole S).set; rw [← Rect.map_emb_univ]; exact Finset.mem_map.mpr ⟨y, Finset.mem_univ _, Rect.emb_whole_apply _ y⟩⟩).trans
      (View.canon_cons_unit_zero h inb w [])
  have hS : (M.access (Rect.unit off S.size inb)).set ⊆ M.view.set := by rw [View.set_slice]; exact Finset.map_subset_map.mpr (Finset.subset_univ _)
  unfold owns
  iintro ⟨%f, %hf, Hf⟩ Hk
  iapply (wp_store_writes₀ 𝒱 (c : Thread nD τ) none Set.univ (m := M) (w := w) (f := f) (S := M.view.set) hS) $$ Hf
  iintro Hf
  iapply Hk
  iexists _
  isplitr
  swap; · iexact Hf
  ipureintro; exact hw f

end Owned

/-- The launch's local definitions recurse by no measure. -/
abbrev 𝒱₀ : Variants := .none

/-! ## A copy leaves, and a semaphore is waited for -/

/-- Every semaphore's invariant, and that its first round is open. -/
def records (K : Dev nD × Bool × Fin 4 → ℕ) : sProp 𝕄 :=
  iprop((bigSep Finset.univ fun ck => cellInv ER (rd m) (K ck) (kcell ck)) ∗ bigSep Finset.univ fun ck => reached ER (kcell ck) 0)

omit [FloatOps F] in
instance records_persistent (K) : BI.Persistent (records (F := F) m K) := by unfold records; infer_instance

omit [FloatOps F] in
theorem inv_of (K) (ck) : records (F := F) m K ⊢ cellInv ER (rd m) (K ck) (kcell ck) := by
  unfold records
  iintro ⟨#H, -⟩
  iapply (show (bigSep Finset.univ fun ck => (cellInv ER (rd m) (K ck) (kcell ck) : sProp 𝕄)) ⊢ cellInv ER (rd m) (K ck) (kcell ck) from bigSep_elim (Finset.mem_univ ck)); iexact H

omit [FloatOps F] in
theorem open_of (K) (ck) : records (F := F) m K ⊢ reached ER (kcell ck) 0 := by
  unfold records
  iintro ⟨-, #H⟩
  iapply (show (bigSep Finset.univ fun ck : Dev nD × Bool × Fin 4 => (reached ER (kcell ck) 0 : sProp 𝕄)) ⊢ reached ER (kcell ck) 0 from bigSep_elim (Finset.mem_univ ck)); iexact H

/-- Device `c` issues copy `q`: it hands over its block and its partner's slot, and owes the slot no longer. -/
theorem step_send (K) (c n : Dev nD) (hn : n = peer c) (q : Fin 4) {s1 s2 : DmaSem sig} (h1 : s1 = sendS q) (h2 : s2 = recvS q)
    {src : Memref sig .tc .hbm S352x1024 .f32} (hs : src = srcM c q) {dst : Memref sig .tc .hbm S352x1024 .f32} (hd : dst = dstM q)
    {hsc : dst.view.ref.isScScratch = false} {hsrc : src.view.WordExact} {hdst : dst.view.WordExact}
    {hsem : DmaTarget.Typed .hbm (.dma s2) (.remote (Dev.tc n : Thread nD τ) dst (.dma s1) hsc)}
    {α : Type} {Q : α → sProp 𝕄} {k : PUnit → Prog (TpuEff nD τ sig (Elt F) Λ₀ .tc) α}
    (fn : Buf (Elt F) ((peer c : Thread nD τ).loc main_v1_1)) (O₁ O : CellTallies nD τ sig Unit) (hO : O₁ = O + due c q) (W : Waits sig Unit) :
    iprop(records m K ∗ srcPts m c q ∗ dstPts (peer c) q fn ∗ owes (c : Thread nD τ) O₁ W
        ∗ dutyTok ER (kcell (c, false, q)) 0 () ∗ dutyTok ER (kcell (peer c, true, q)) 0 ())
      ⊢ iprop(((cred (tallyAt (kcell (c, false, q)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2 hs hd
  have hl : (dstPts (peer c) q ((dstM q).view.write (Elt F) fn ((srcM c q).view.read (Elt F) (m ((c : Thread nD τ).loc main_arg2))) Finset.univ) : sProp 𝕄)
      = dstPts (peer c) q (landed m (peer c)) := by
    unfold dstPts
    refine pointsTo_congr fun i hi => ?_
    have := landed_write m (peer c) q fn i hi
    rwa [peer_peer] at this
  have main := Rounds.wp_send_pointsTo (defs := defs₀ (F := F)) 𝒱₀ ER (rd m) (c : Thread nD τ) none (c' := (peer c : Thread nD τ)) (src := srcM c q) (dst := dstM q) (hsc := hsc)
    (sS := .dma (sendS q)) (sem := .dma (recvS q)) (hsrc := hsrc) (hdst := hdst) (hsem := hsem) (Q := Q) (k := k) (Γ := .empty)
    (κ₁ := K (c, false, q)) (κ₂ := K (peer c, true, q)) (q := fullShare) (fs := m ((c : Thread nD τ).loc main_arg2))
    (r₁ := 0) (r₂ := 0) (d₁ := ()) (d₂ := ()) (fd := fn) (Es := Set.univ)
    ((duties_cell m (c, false, q)).symm ▸ Finset.mem_singleton_self ()) ((duties_cell m (peer c, true, q)).symm ▸ Finset.mem_singleton_self ())
    () () N rfl rfl rfl O hO (W := W)
    (Entails.of_eq (payload_cell m (c, false, q) ()).symm) (Entails.of_eq (hl.trans (payload_cell m (peer c, true, q) ()).symm))
  iintro ⟨#HR, Hs, Hd, HO, Ht, Ht'⟩
  iapply main
  isplitr; · iapply (inv_of m K (c, false, q)); iexact HR
  isplitr; · iapply (inv_of m K (peer c, true, q)); iexact HR
  isplitl [Hs]; · unfold srcPts; iexact Hs
  isplitl [Hd]; · unfold dstPts; iexact Hd
  isplitl [HO]; · iexact HO
  isplitl [Ht]; · iexact Ht
  isplitr; · iapply (open_of m K (c, false, q)); iexact HR
  isplitl [Ht']; · iexact Ht'
  iapply (open_of m K (peer c, true, q)); iexact HR

/-- Device `c` waits for one of its eight semaphores: what its transfer hands over comes, and the semaphore stands at 0. -/
theorem step_wait (K) (c : Dev nD) (ck : Bool × Fin 4) {s : DmaSem sig} (hs : SemLoc.dma s = osem ck)
    {S T : Memref sig .tc .hbm S352x1024 .f32} {hS : S.view.WordExact} {hT : T.view.WordExact} (hN : T.view.dmaCredit = N)
    {α : Type} {Q : α → sProp 𝕄} {k : PUnit → Prog (TpuEff nD τ sig (Elt F) Λ₀ .tc) α} (W : Waits sig Unit) :
    iprop(records m K ∗ cred (tallyAt (kcell (c, ck)) () N) ∗ owes (c : Thread nD τ) 0 W ∗ atPos ER (kcell (c, ck)) 0 ∅ 0)
      ⊢ iprop(((owes (c : Thread nD τ) 0 (insert (osem ck, ()) W) ∗ pay m c ck ∗ semVal (kcell (c, ck)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s S T hS hT) k) Q) := by
  have e : (kcell (c, ck) : GSem nD τ sig) = ((c : Thread nD τ), SemLoc.dma s) := by rw [hs]
  iintro ⟨#HR, Hc, HO, Hat⟩ Hk
  rw [← hN]
  have main := Rounds.wp_wait_rest_token (defs := defs₀ (F := F)) 𝒱₀ ER (rd m) (c : Thread nD τ) none (κ := K (c, ck)) (Γ := .empty) (Q := Q) (k := k)
    (wpE_waitDma2_eq (defs := defs₀ (F := F)) (src := S) (dst := T) (sem := s) (hsrc := hS) (hdst := hT) 𝒱₀ (c : Thread nD τ) none Set.univ) (Set.mem_univ _) () (O := 0) (W := W) (R := 0) (m := 0) (T := ∅)
    (by rw [Nat.zero_add, ← e, expect_cell, hN])
  rw [← e] at main
  iapply main $$ [Hc HO Hat]
  · isplitr; · iapply (inv_of m K (c, ck)); iexact HR
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, ck))) (fun h => h) (R := 0 + 1) (duties_later m (kcell (c, ck)))) $$ [Hat] with Hz
  · isplitr; · iapply (inv_of m K (c, ck)); iexact HR
    iexact Hat
  iapply Hk
  isplitl [HO]; · rw [← hs]; iexact HO
  isplitl [Hpay]; · iapply (Entails.of_eq (rest_cell m (c, ck))); iexact Hpay
  iexact Hz

end Cert.Kernel4Ideal.Swap
-- ==== Proof.SwapKernel.lean ====
/- The kernel body at a point of its grid. -/
module

public import proofs.«01_k».proof.Proof.SwapSteps

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Four resources, one by one. -/
theorem sep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-- What copy `q` of device `c` needs to leave: its block, its partner's slot, and the right to pay the two semaphores. -/
def outgoing (c : Dev nD) (q : Fin 4) : sProp 𝕄 :=
  iprop(srcPts m c q ∗ dstPts (peer c) q (m ((peer c : Thread nD τ).loc main_v1_1))
    ∗ dutyTok ER (kcell (c, false, q)) 0 () ∗ dutyTok ER (kcell (peer c, true, q)) 0 ())

def second (i : grid0.Coords) : BitVec 1 :=
  Scalar.cmpi .ne (Scalar.extui (Scalar.cmpi .eq (BitVec.ofNat 32 (i 2).val) 0#32)) 0#32

theorem hz2 : (![0, 0] : Fin 2 → Nat) = fun _ => 0 := funext fun a => by fin_cases a <;> rfl

section Kernel
variable (c : Dev nD) (i : grid0.Coords) (arg3 : Memref sig .tc .vmem S2048x1408 .bf16) (harg3 : arg3.IsWhole)
  (arg4 : Memref sig .tc .vmem S2048x1024 .bf16) (harg4 : arg4.IsWhole) (arg6 : Memref sig .tc .vmem S1408x1024 .f32) (harg6 : arg6.IsWhole)
  (x0 : Vec F S2048x1408 .bf16) (x1 : Vec F S2048x1024 .bf16) (y : Vec F S1408x1024 .f32)

/-- The three staging buffers. -/
def staged (X : Vec F S1408x1024 .f32) : sProp 𝕄 :=
  iprop(owns (c : Thread nD τ) arg3 fullShare x0 ∗ owns (c : Thread nD τ) arg4 fullShare x1 ∗ owns (c : Thread nD τ) arg6 fullShare X)

/-- The body on its operands. -/
abbrev kern : Prog (TpuEff nD τ sig (Elt F) Λ₀ .tc) PUnit :=
  cc0_wgrad_ffn2_up i arg3 harg3 arg4 harg4 (Memref.whole main_arg2) (Memref.isWhole_whole _) arg6 harg6 (Memref.whole main_v1_1) (Memref.isWhole_whole _)
    cc0_scratch0 cc0_scratch1

set_option maxHeartbeats 1600000 in
/-- The first point of the whole grid: the copies leave, the tile starts at zero. -/
theorem kern_first (h1 : k0_cond1 i = 1#1) (h2 : second i = 1#1) (h3 : ¬k0_cond3 i = 1#1) (K) (W : Waits sig Unit) (Kt : PUnit → sProp 𝕄) :
    iprop(records m K ∗ (bigSep Finset.univ fun q => outgoing m c q) ∗ owes (c : Thread nD τ) (O₀ c) W ∗ staged c arg3 arg4 arg6 x0 x1 y
        ∗ (((bigSep Finset.univ fun q : Fin 4 => cred (tallyAt (kcell (c, false, q)) () N)) ∗ owes (c : Thread nD τ) 0 W
            ∗ staged c arg3 arg4 arg6 x0 x1 (k0_pay2 (k0_pay1 (F := F)) x0 x1)) -∗ Kt ⟨⟩))
      ⊢ wp frame (wpE (defs₀ (F := F)) 𝒱₀ (c : Thread nD τ) none) Set.univ (kern i arg3 harg3 arg4 harg4 arg6 harg6) Kt := by
  rw [sep_four, sep_four]
  unfold staged outgoing
  iintro ⟨#HR, ⟨⟨Hs0, Hd0, Ht0, Hu0⟩, ⟨Hs1, Hd1, Ht1, Hu1⟩, ⟨Hs2, Hd2, Ht2, Hu2⟩, ⟨Hs3, Hd3, Ht3, Hu3⟩⟩, HO, ⟨H3, H4, H6⟩, Hk⟩
  simp only [kern, cc0_wgrad_ffn2_up_eq_skeleton]
  unfold cc0_wgrad_ffn2_up_skel
  have h2' : Scalar.cmpi .ne (Scalar.extui (Scalar.cmpi .eq (BitVec.ofNat 32 (i 2).val) 0#32)) 0#32 = 1#1 := h2
  simp only [dif_pos h1, dif_pos h2', dif_neg h3, k0_part1_eq_skeleton, k0_part2_eq_skeleton]
  unfold k0_part1_skel k0_part2_skel
  simp only [Prog.lift, Prog.bind_op, Prog.bind_ret, Prog.pure_eq_ret, wp_deviceId]
  iapply (step_send m K c _ (peer_dev1 c _) 0 rfl rfl rfl rfl _ (O₀ c) (due c 3 + due c 2 + due c 1) rfl W) $$ [Hs0 Hd0 HO Ht0 Hu0]
  · isplitr; · iexact HR
    isplitl [Hs0]; · iexact Hs0
    isplitl [Hd0]; · iexact Hd0
    isplitl [HO]; · iexact HO
    isplitl [Ht0] <;> iassumption
  iintro ⟨Hc0, HO⟩
  iapply (step_send m K c _ (peer_dev2 c _) 1 rfl rfl rfl rfl _ (due c 3 + due c 2 + due c 1) (due c 3 + due c 2) rfl W) $$ [Hs1 Hd1 HO Ht1 Hu1]
  · isplitr; · iexact HR
    isplitl [Hs1]; · iexact Hs1
    isplitl [Hd1]; · iexact Hd1
    isplitl [HO]; · iexact HO
    isplitl [Ht1] <;> iassumption
  iintro ⟨Hc1, HO⟩
  iapply (step_send m K c _ (peer_dev3 c _) 2 rfl rfl rfl rfl _ (due c 3 + due c 2) (due c 3) rfl W) $$ [Hs2 Hd2 HO Ht2 Hu2]
  · isplitr; · iexact HR
    isplitl [Hs2]; · iexact Hs2
    isplitl [Hd2]; · iexact Hd2
    isplitl [HO]; · iexact HO
    isplitl [Ht2] <;> iassumption
  iintro ⟨Hc2, HO⟩
  iapply (step_send m K c _ (peer_dev4 c _) 3 rfl rfl rfl rfl _ (due c 3) (0) (zero_add _).symm W) $$ [Hs3 Hd3 HO Ht3 Hu3]
  · isplitr; · iexact HR
    isplitl [Hs3]; · iexact Hs3
    isplitl [Hd3]; · iexact Hd3
    isplitl [HO]; · iexact HO
    isplitl [Ht3] <;> iassumption
  iintro ⟨Hc3, HO⟩
  iapply (load_owned 𝒱₀ c hz2 _ y) $$ H6; iintro H6
  iapply (store_owned 𝒱₀ c hz2 _) $$ H6; iintro H6
  iapply (load_owned 𝒱₀ c hz2 _ (k0_pay1 (F := F))) $$ H6; iintro H6
  iapply (load_owned 𝒱₀ c hz2 _ x0) $$ H3; iintro H3
  iapply (load_owned 𝒱₀ c hz2 _ x1) $$ H4; iintro H4
  iapply (load_owned 𝒱₀ c hz2 _ (k0_pay1 (F := F))) $$ H6; iintro H6
  iapply (store_owned 𝒱₀ c hz2 _) $$ H6; iintro H6
  rw [wp_ret]; imodintro
  iapply Hk
  isplitl [Hc0 Hc1 Hc2 Hc3]
  · isplitl [Hc0]; · iexact Hc0
    isplitl [Hc1]; · iexact Hc1
    isplitl [Hc2] <;> iassumption
  isplitl [HO]; · iexact HO
  isplitl [H3]; · iexact H3
  isplitl [H4]; · iexact H4
  iexact H6

set_option maxHeartbeats 1600000 in
/-- A point that starts a tile at zero and touches no copy. -/
theorem kern_zero (h1 : ¬k0_cond1 i = 1#1) (h2 : second i = 1#1) (h3 : ¬k0_cond3 i = 1#1) (Kt : PUnit → sProp 𝕄) :
    iprop(staged c arg3 arg4 arg6 x0 x1 y ∗ (staged c arg3 arg4 arg6 x0 x1 (k0_pay2 (k0_pay1 (F := F)) x0 x1) -∗ Kt ⟨⟩))
      ⊢ wp frame (wpE (defs₀ (F := F)) 𝒱₀ (c : Thread nD τ) none) Set.univ (kern i arg3 harg3 arg4 harg4 arg6 harg6) Kt := by
  unfold staged
  iintro ⟨⟨H3, H4, H6⟩, Hk⟩
  simp only [kern, cc0_wgrad_ffn2_up_eq_skeleton]
  unfold cc0_wgrad_ffn2_up_skel
  have h2' : Scalar.cmpi .ne (Scalar.extui (Scalar.cmpi .eq (BitVec.ofNat 32 (i 2).val) 0#32)) 0#32 = 1#1 := h2
  simp only [dif_neg h1, dif_pos h2', dif_neg h3, Prog.lift, Prog.bind_op, Prog.bind_ret, Prog.pure_eq_ret]
  iapply (load_owned 𝒱₀ c hz2 _ y) $$ H6; iintro H6
  iapply (store_owned 𝒱₀ c hz2 _) $$ H6; iintro H6
  iapply (load_owned 𝒱₀ c hz2 _ (k0_pay1 (F := F))) $$ H6; iintro H6
  iapply (load_owned 𝒱₀ c hz2 _ x0) $$ H3; iintro H3
  iapply (load_owned 𝒱₀ c hz2 _ x1) $$ H4; iintro H4
  iapply (load_owned 𝒱₀ c hz2 _ (k0_pay1 (F := F))) $$ H6; iintro H6
  iapply (store_owned 𝒱₀ c hz2 _) $$ H6; iintro H6
  rw [wp_ret]; imodintro
  iapply Hk
  isplitl [H3]; · iexact H3
  isplitl [H4]; · iexact H4
  iexact H6

set_option maxHeartbeats 1600000 in
/-- A point that adds to its tile and touches no copy. -/
theorem kern_add (h1 : ¬k0_cond1 i = 1#1) (h2 : ¬second i = 1#1) (h3 : ¬k0_cond3 i = 1#1) (Kt : PUnit → sProp 𝕄) :
    iprop(staged c arg3 arg4 arg6 x0 x1 y ∗ (staged c arg3 arg4 arg6 x0 x1 (k0_pay2 y x0 x1) -∗ Kt ⟨⟩))
      ⊢ wp frame (wpE (defs₀ (F := F)) 𝒱₀ (c : Thread nD τ) none) Set.univ (kern i arg3 harg3 arg4 harg4 arg6 harg6) Kt := by
  unfold staged
  iintro ⟨⟨H3, H4, H6⟩, Hk⟩
  simp only [kern, cc0_wgrad_ffn2_up_eq_skeleton]
  unfold cc0_wgrad_ffn2_up_skel
  have h2' : ¬Scalar.cmpi .ne (Scalar.extui (Scalar.cmpi .eq (BitVec.ofNat 32 (i 2).val) 0#32)) 0#32 = 1#1 := h2
  simp only [dif_neg h1, dif_neg h2', dif_neg h3, Prog.lift, Prog.bind_op, Prog.bind_ret, Prog.pure_eq_ret]
  iapply (load_owned 𝒱₀ c hz2 _ y) $$ H6; iintro H6
  iapply (load_owned 𝒱₀ c hz2 _ x0) $$ H3; iintro H3
  iapply (load_owned 𝒱₀ c hz2 _ x1) $$ H4; iintro H4
  iapply (load_owned 𝒱₀ c hz2 _ y) $$ H6; iintro H6
  iapply (store_owned 𝒱₀ c hz2 _) $$ H6; iintro H6
  rw [wp_ret]; imodintro
  iapply Hk
  isplitl [H3]; · iexact H3
  isplitl [H4]; · iexact H4
  iexact H6

/-- A transfer's amount is its block's size, whatever the block. -/
theorem credit_any (T : Memref sig .tc .hbm S352x1024 .f32) : T.view.dmaCredit = N := rfl

/-- The two kinds of semaphore, four and four. -/
theorem sep_eight {M : Type} [URA M] (Φ : Bool × Fin 4 → sProp M) :
    bigSep Finset.univ Φ = iprop((Φ (false, 0) ∗ Φ (false, 1) ∗ Φ (false, 2) ∗ Φ (false, 3)) ∗ Φ (true, 0) ∗ Φ (true, 1) ∗ Φ (true, 2) ∗ Φ (true, 3)) := by
  rw [bigSep_univ_eq_bigSepL [(false, (0 : Fin 4)), (false, 1), (false, 2), (false, 3), (true, 0), (true, 1), (true, 2), (true, 3)] (by decide) (by decide) Φ]
  exact Idealize.SL.BI.Entails.antisymm (by show iprop(Φ (false, 0) ∗ Φ (false, 1) ∗ Φ (false, 2) ∗ Φ (false, 3) ∗ Φ (true, 0) ∗ Φ (true, 1) ∗ Φ (true, 2) ∗ Φ (true, 3)) ⊢ _; iintro ⟨$, $, $, $, $, $, $, $⟩) (by show _ ⊢ iprop(Φ (false, 0) ∗ Φ (false, 1) ∗ Φ (false, 2) ∗ Φ (false, 3) ∗ Φ (true, 0) ∗ Φ (true, 1) ∗ Φ (true, 2) ∗ Φ (true, 3)); iintro ⟨⟨$, $, $, $⟩, $, $, $, $⟩)

set_option maxHeartbeats 1600000 in
/-- The last point of the whole grid: the tile is finished, then every semaphore is waited for. -/
theorem kern_last (h1 : ¬k0_cond1 i = 1#1) (h2 : ¬second i = 1#1) (h3 : k0_cond3 i = 1#1) (K) (W : Waits sig Unit) (Kt : PUnit → sProp 𝕄) :
    iprop(records m K ∗ (bigSep Finset.univ fun k => cred (tallyAt (kcell (c, k)) () N)) ∗ (bigSep Finset.univ fun k => atPos ER (kcell (c, k)) 0 ∅ 0)
        ∗ owes (c : Thread nD τ) 0 W ∗ staged c arg3 arg4 arg6 x0 x1 y
        ∗ (((bigSep Finset.univ fun k => pay m c k) ∗ (bigSep Finset.univ fun k => semVal (kcell (c, k)) 0)
            ∗ (∃ W', owes (c : Thread nD τ) 0 W') ∗ staged c arg3 arg4 arg6 x0 x1 (k0_pay2 y x0 x1)) -∗ Kt ⟨⟩))
      ⊢ wp frame (wpE (defs₀ (F := F)) 𝒱₀ (c : Thread nD τ) none) Set.univ (kern i arg3 harg3 arg4 harg4 arg6 harg6) Kt := by
  rw [sep_eight, sep_eight, sep_eight, sep_eight]
  unfold staged
  iintro ⟨#HR, ⟨⟨Hcs0, Hcs1, Hcs2, Hcs3⟩, ⟨Hcr0, Hcr1, Hcr2, Hcr3⟩⟩, ⟨⟨Has0, Has1, Has2, Has3⟩, ⟨Har0, Har1, Har2, Har3⟩⟩, HO, ⟨H3, H4, H6⟩, Hk⟩
  simp only [kern, cc0_wgrad_ffn2_up_eq_skeleton]
  unfold cc0_wgrad_ffn2_up_skel
  have h2' : ¬Scalar.cmpi .ne (Scalar.extui (Scalar.cmpi .eq (BitVec.ofNat 32 (i 2).val) 0#32)) 0#32 = 1#1 := h2
  simp only [dif_neg h1, dif_neg h2', dif_pos h3, k0_part3_eq_skeleton, k0_part4_eq_skeleton, k0_part5_eq_skeleton]
  unfold k0_part3_skel k0_part4_skel k0_part5_skel
  simp only [Prog.lift, Prog.bind_op, Prog.bind_ret, Prog.pure_eq_ret, wp_deviceId]
  iapply (load_owned 𝒱₀ c hz2 _ y) $$ H6; iintro H6
  iapply (load_owned 𝒱₀ c hz2 _ x0) $$ H3; iintro H3
  iapply (load_owned 𝒱₀ c hz2 _ x1) $$ H4; iintro H4
  iapply (load_owned 𝒱₀ c hz2 _ y) $$ H6; iintro H6
  iapply (store_owned 𝒱₀ c hz2 _) $$ H6; iintro H6
  rw [wp_deviceId]
  iapply (step_wait m K c (false, 0) rfl (credit_any _) _) $$ [Hcs0 HO Has0]
  · isplitr; · iexact HR
    isplitl [Hcs0]; · iexact Hcs0
    isplitl [HO]; · iexact HO
    iexact Has0
  iintro ⟨HO, Hps0, Hzs0⟩
  iapply (step_wait m K c (true, 0) rfl (credit_any _) _) $$ [Hcr0 HO Har0]
  · isplitr; · iexact HR
    isplitl [Hcr0]; · iexact Hcr0
    isplitl [HO]; · iexact HO
    iexact Har0
  iintro ⟨HO, Hpr0, Hzr0⟩
  iapply (step_wait m K c (false, 1) rfl (credit_any _) _) $$ [Hcs1 HO Has1]
  · isplitr; · iexact HR
    isplitl [Hcs1]; · iexact Hcs1
    isplitl [HO]; · iexact HO
    iexact Has1
  iintro ⟨HO, Hps1, Hzs1⟩
  iapply (step_wait m K c (true, 1) rfl (credit_any _) _) $$ [Hcr1 HO Har1]
  · isplitr; · iexact HR
    isplitl [Hcr1]; · iexact Hcr1
    isplitl [HO]; · iexact HO
    iexact Har1
  iintro ⟨HO, Hpr1, Hzr1⟩
  iapply (step_wait m K c (false, 2) rfl (credit_any _) _) $$ [Hcs2 HO Has2]
  · isplitr; · iexact HR
    isplitl [Hcs2]; · iexact Hcs2
    isplitl [HO]; · iexact HO
    iexact Has2
  iintro ⟨HO, Hps2, Hzs2⟩
  iapply (step_wait m K c (true, 2) rfl (credit_any _) _) $$ [Hcr2 HO Har2]
  · isplitr; · iexact HR
    isplitl [Hcr2]; · iexact Hcr2
    isplitl [HO]; · iexact HO
    iexact Har2
  iintro ⟨HO, Hpr2, Hzr2⟩
  iapply (step_wait m K c (false, 3) rfl (credit_any _) _) $$ [Hcs3 HO Has3]
  · isplitr; · iexact HR
    isplitl [Hcs3]; · iexact Hcs3
    isplitl [HO]; · iexact HO
    iexact Has3
  iintro ⟨HO, Hps3, Hzs3⟩
  iapply (step_wait m K c (true, 3) rfl (credit_any _) _) $$ [Hcr3 HO Har3]
  · isplitr; · iexact HR
    isplitl [Hcr3]; · iexact Hcr3
    isplitl [HO]; · iexact HO
    iexact Har3
  iintro ⟨HO, Hpr3, Hzr3⟩
  rw [wp_ret]; imodintro
  iapply Hk
  isplitl [Hps0 Hps1 Hps2 Hps3 Hpr0 Hpr1 Hpr2 Hpr3]
  · isplitl [Hps0 Hps1 Hps2 Hps3]
    · isplitl [Hps0]; · iexact Hps0
      isplitl [Hps1]; · iexact Hps1
      isplitl [Hps2] <;> iassumption
    isplitl [Hpr0]; · iexact Hpr0
    isplitl [Hpr1]; · iexact Hpr1
    isplitl [Hpr2] <;> iassumption
  isplitl [Hzs0 Hzs1 Hzs2 Hzs3 Hzr0 Hzr1 Hzr2 Hzr3]
  · isplitl [Hzs0 Hzs1 Hzs2 Hzs3]
    · isplitl [Hzs0]; · iexact Hzs0
      isplitl [Hzs1]; · iexact Hzs1
      isplitl [Hzs2] <;> iassumption
    isplitl [Hzr0]; · iexact Hzr0
    isplitl [Hzr1]; · iexact Hzr1
    isplitl [Hzr2] <;> iassumption
  isplitl [HO]; · iexists _; iexact HO
  isplitl [H3]; · iexact H3
  isplitl [H4]; · iexact H4
  iexact H6

end Kernel

end Cert.Kernel4Ideal.Swap
-- ==== Proof.SwapData.lean ====
/- What the pipeline keeps from point to point, and the body's obligation at every point. -/
module

public import proofs.«01_k».proof.Proof.SwapKernel

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the pipeline's loop keeps -/

/-- Before the first point: every semaphore unpaid, the partner's debts to the device, and what its copies need. -/
def phi0 (c : Dev nD) : sProp 𝕄 :=
  iprop(∃ K, records m K ∗ (bigSep Finset.univ fun k => atPos ER (kcell (c, k)) 0 ∅ 0)
    ∗ (bigSep Finset.univ fun q : Fin 4 => cred (tallyAt (kcell (c, true, q)) () N)) ∗ restPts m c ∗ bigSep Finset.univ fun q => outgoing m c q)
/-- While the copies are on their way. -/
def phi1 (c : Dev nD) : sProp 𝕄 :=
  iprop(∃ K, records m K ∗ (bigSep Finset.univ fun k => atPos ER (kcell (c, k)) 0 ∅ 0)
    ∗ (bigSep Finset.univ fun q : Fin 4 => cred (tallyAt (kcell (c, true, q)) () N)) ∗ restPts m c
    ∗ bigSep Finset.univ fun q : Fin 4 => cred (tallyAt (kcell (c, false, q)) () N))
/-- After the last point: the operand back, the result written, the semaphores at zero. -/
def phi2 (c : Dev nD) : sProp 𝕄 :=
  iprop(restPts m c ∗ (bigSep Finset.univ fun k => pay m c k) ∗ bigSep Finset.univ fun k => semVal (kcell (c, k)) 0)

/-- The point before. -/
abbrev prev (t : Fin cfg0.N) : Fin cfg0.N := ⟨t.val - 1, lt_of_le_of_lt (Nat.sub_le _ _) t.isLt⟩
/-- A tile after its first point, and after point `t`. -/
def started (c : Dev nD) (t : Fin cfg0.N) : Vec F S1408x1024 .f32 := k0_pay2 (k0_pay1 (F := F)) (iblk m c 0 t) (iblk m c 1 t)
def tileAt (c : Dev nD) (t : Fin cfg0.N) : Vec F S1408x1024 .f32 :=
  if t.val % 2 = 0 then started m c t else k0_pay2 (started m c (prev t)) (iblk m c 0 t) (iblk m c 1 t)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => tileAt m c t
  Φ t := if t.val = 0 then phi0 m c else if t.val < 4 then phi1 m c else phi2 m c
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]

theorem phi_eq (c : Dev nD) (t : Fin (cfg0.N + 1)) : (dats m 0 c).Φ t = if t.val = 0 then phi0 m c else if t.val < 4 then phi1 m c else phi2 m c := by
  dsimp only [dats]
theorem owed_eq (c : Dev nD) (t : Fin (cfg0.N + 1)) : (dats m 0 c).owed t = if t.val = 0 then O₀ c else 0 := by dsimp only [dats]

/-- An operand's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
/-- At a tile's second point its buffer holds what the first left. -/
theorem before_2 (c : Dev nD) (t : Fin cfg0.N) (h : t.val % 2 = 1) (d) : (dats m 0 c).before 2 t d = started m c (prev t) := by
  have hN : t.val < 4 := lt_of_lt_of_eq t.isLt N_0
  rw [Dat.before_out_kept _ 2 rfl t (by omega) (Bool.eq_false_iff.mpr fun h' => by have := (flush0_2 _).mp h'; dsimp only at this; omega)
    (fun _ => rfl) (fun _ _ => rfl), after_2]
  exact if_pos (show (t.val - 1) % 2 = 0 by omega)

/-! ## The conditions at a point -/

theorem cond_first : ∀ t : Fin cfg0.N, k0_cond1 (grid0.coords t) = 1#1 ↔ t.val = 0 := by decide +kernel
theorem cond_second : ∀ t : Fin cfg0.N, second (grid0.coords t) = 1#1 ↔ t.val % 2 = 0 := by decide +kernel
theorem cond_last : ∀ t : Fin cfg0.N, k0_cond3 (grid0.coords t) = 1#1 ↔ t.val = 3 := by decide +kernel

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What is owed, and that any waits may have been recorded. -/
theorem owesAt_eq (c : Dev nD) (t : Fin (cfg0.N + 1)) :
    (dats m 0 c).owesAt () t = (iprop(∃ W, owes (c : Thread nD τ) (if t.val = 0 then O₀ c else 0) W) : sProp 𝕄) := by
  unfold Dat.owesAt Pipeline.owesWithin
  rw [owed_eq]
  refine Idealize.SL.BI.Entails.antisymm (show (_ : sProp 𝕄) ⊢ _ from ?_) (show (_ : sProp 𝕄) ⊢ _ from ?_)
  · iintro ⟨%W, -, H⟩; iexists W; iexact H
  · iintro ⟨%W, H⟩; iexists W
    isplitr; · ipureintro; exact fun _ _ => Or.inl trivial
    iexact H

omit [FloatOps F] in
theorem creds_all (c : Dev nD) :
    (iprop((bigSep Finset.univ fun q : Fin 4 => cred (tallyAt (kcell (c, false, q)) () N)) ∗ bigSep Finset.univ fun q : Fin 4 => cred (tallyAt (kcell (c, true, q)) () N)) : sProp 𝕄)
      ⊢ bigSep Finset.univ fun k => cred (tallyAt (kcell (c, k)) () N) := by
  rw [sep_eight, sep_four, sep_four]

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  have hN : t.val < 4 := lt_of_lt_of_eq t.isLt N_0
  unfold bodyPre bodyPost
  simp only [before_0, before_1, after_0, after_1, after_2, owesAt_eq, phi_eq, Fin.val_castSucc, Fin.val_succ]
  rw [if_neg (show ¬t.val + 1 = 0 by omega), if_neg (show ¬t.val + 1 = 0 by omega)]
  by_cases h0 : t.val = 0
  · rw [if_pos h0, if_pos h0, if_pos (show t.val + 1 < 4 by omega)]
    rw [show tileAt m c t = k0_pay2 (k0_pay1 (F := F)) (iblk m c 0 t) (iblk m c 1 t) from if_pos (show t.val % 2 = 0 by omega)]
    unfold phi0 phi1
    iintro ⟨⟨%K, #HR, Hat, Hc, Hr, Ho⟩, ⟨%W, HO⟩, ⟨%d0, H0⟩, ⟨%d1, H1⟩, ⟨%d2, H2⟩⟩
    iapply (kern_first m c (grid0.coords t) (st0_0 t) _ (st0_1 t) _ (st0_2 t) _ (iblk m c 0 t) (iblk m c 1 t) _ ((cond_first t).mpr h0) ((cond_second t).mpr (by omega))
      (fun h => by have := (cond_last t).mp h; omega) K W)
    unfold staged
    isplitr; · iexact HR
    isplitl [Ho]; · iexact Ho
    isplitl [HO]; · iexact HO
    isplitl [H0 H1 H2]
    · isplitl [H0]; · iexact H0
      isplitl [H1]; · iexact H1
      iexact H2
    iintro ⟨Hs, HO, H0, H1, H2⟩
    isplitl [Hat Hc Hr Hs]
    · iexists K
      isplitr; · iexact HR
      isplitl [Hat]; · iexact Hat
      isplitl [Hc]; · iexact Hc
      isplitl [Hr] <;> iassumption
    isplitl [HO]; · iexists W; iexact HO
    isplitl [H0]; · iexact H0
    isplitl [H1]; · iexact H1
    iexact H2
  rw [if_neg h0, if_neg h0, if_pos (show t.val < 4 by omega)]
  have hc1 : ¬k0_cond1 (grid0.coords t) = 1#1 := fun h => h0 ((cond_first t).mp h)
  by_cases h3 : t.val = 3
  · rw [if_neg (show ¬t.val + 1 < 4 by omega)]
    simp only [before_2 m c t (show t.val % 2 = 1 by omega)]
    rw [show tileAt m c t = k0_pay2 (started m c (prev t)) (iblk m c 0 t) (iblk m c 1 t) from if_neg (show ¬t.val % 2 = 0 by omega)]
    unfold phi1 phi2
    iintro ⟨⟨%K, #HR, Hat, Hc, Hr, Hs⟩, ⟨%W, HO⟩, ⟨%d0, H0⟩, ⟨%d1, H1⟩, ⟨%d2, H2⟩⟩
    iapply (kern_last m c (grid0.coords t) (st0_0 t) _ (st0_1 t) _ (st0_2 t) _ (iblk m c 0 t) (iblk m c 1 t) _ hc1 (fun h => by have := (cond_second t).mp h; omega)
      ((cond_last t).mpr h3) K W)
    unfold staged
    isplitr; · iexact HR
    isplitl [Hs Hc]
    · iapply (creds_all c)
      isplitl [Hs] <;> iassumption
    isplitl [Hat]; · iexact Hat
    isplitl [HO]; · iexact HO
    isplitl [H0 H1 H2]
    · isplitl [H0]; · iexact H0
      isplitl [H1]; · iexact H1
      iexact H2
    iintro ⟨Hp, Hz, HO, H0, H1, H2⟩
    isplitl [Hr Hp Hz]
    · isplitl [Hr]; · iexact Hr
      isplitl [Hp] <;> iassumption
    isplitl [HO]; · iexact HO
    isplitl [H0]; · iexact H0
    isplitl [H1]; · iexact H1
    iexact H2
  rw [if_pos (show t.val + 1 < 4 by omega)]
  have hc3 : ¬k0_cond3 (grid0.coords t) = 1#1 := fun h => h3 ((cond_last t).mp h)
  by_cases h2 : t.val % 2 = 0
  · rw [show tileAt m c t = k0_pay2 (k0_pay1 (F := F)) (iblk m c 0 t) (iblk m c 1 t) from if_pos h2]
    iintro ⟨HΦ, HO, ⟨%d0, H0⟩, ⟨%d1, H1⟩, ⟨%d2, H2⟩⟩
    iapply (kern_zero c (grid0.coords t) (st0_0 t) _ (st0_1 t) _ (st0_2 t) _ (iblk m c 0 t) (iblk m c 1 t) _ hc1 ((cond_second t).mpr h2) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2
  · simp only [before_2 m c t (show t.val % 2 = 1 by omega)]
    rw [show tileAt m c t = k0_pay2 (started m c (prev t)) (iblk m c 0 t) (iblk m c 1 t) from if_neg h2]
    iintro ⟨HΦ, HO, ⟨%d0, H0⟩, ⟨%d1, H1⟩, ⟨%d2, H2⟩⟩
    iapply (kern_add c (grid0.coords t) (st0_0 t) _ (st0_1 t) _ (st0_2 t) _ (iblk m c 0 t) (iblk m c 1 t) _ hc1 (fun h => h2 ((cond_second t).mp h)) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

end Cert.Kernel4Ideal.Swap
-- ==== Proof.SwapGhost.lean ====
/- The ghost state at launch, and the operands and results of every device dealt to the devices that copy between them. -/
module

public import proofs.«01_k».proof.Proof.SwapData

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's ghost state -/

theorem ownSemFacts : Pipeline.OwnSemFacts cfg0.spec osem := by decide +kernel
theorem share_eq (c : Dev nD) (w : Fin cfg0.W) : (dats m 0 c).share w = fullShare := by unfold Dat.share; split <;> rfl

theorem kcell_injective : Function.Injective (kcell : Dev nD × Bool × Fin 4 → GSem nD τ sig) := by
  rintro ⟨c, k⟩ ⟨d, l⟩ h
  have hc : c = d := congrArg (fun g : GSem nD τ sig => g.1.1) h
  have hk : k = l := osem_inj (congrArg Prod.snd h)
  rw [hc, hk]

/-- The eight semaphores of every device, and the one transfer to each. -/
def swapCells : Finset (GSem nD τ sig) := Finset.univ.map ⟨kcell, kcell_injective⟩
def swapToks : Finset (GSem nD τ sig × ℕ × Unit) :=
  Finset.univ.map ⟨fun ck : Dev nD × Bool × Fin 4 => (kcell ck, 0, ()), fun _ _ h => kcell_injective (congrArg Prod.fst h)⟩
def u₀ : UU := (initOf (Pipeline.cells cfgs cellOf_inj) (Pipeline.launchToks cfgs cellOf_inj), initOf swapCells swapToks)

/-- A device's part: its schedule's state, its place in it, and the tokens of the transfers to it. -/
def share0 (c : Dev nD) : sProp 𝕄 :=
  iprop((bigSep Finset.univ fun k => roundState ER (rd m) (kcell (c, k)) 0) ∗ (bigSep Finset.univ fun k => reached ER (kcell (c, k)) 0)
    ∗ (bigSep Finset.univ fun k => atPos ER (kcell (c, k)) 0 ∅ 0) ∗ bigSep Finset.univ fun k => dutyTok ER (kcell (c, k)) 0 ())

omit [FloatOps F] in
theorem fund_swap : BI.own (ER (initOf swapCells swapToks)) ⊢ (|==> bigSep Finset.univ (share0 m) : sProp 𝕄) := by
  have hX (Φ : GSem nD τ sig → sProp 𝕄) : bigSep swapCells Φ = bigSep Finset.univ fun c : Dev nD => bigSep Finset.univ fun k : Bool × Fin 4 => Φ (kcell (c, k)) := by
    unfold swapCells; rw [bigSep_map, bigSep_univ_prod]; rfl
  have hT : bigSep swapToks (fun x => (dutyTok ER x.1 x.2.1 x.2.2 : sProp 𝕄))
      = bigSep Finset.univ fun c : Dev nD => bigSep Finset.univ fun k : Bool × Fin 4 => dutyTok ER (kcell (c, k)) 0 () := by
    unfold swapToks; rw [bigSep_map, bigSep_univ_prod]; rfl
  iintro H
  imod (Rounds.fund ER (rd m) swapCells swapToks) $$ H with ⟨Hs, Hr, Ha, Ht⟩
  imodintro
  ihave Hs := (Entails.of_eq (hX fun g => roundState ER (rd m) g 0)) $$ Hs
  ihave Hr := (Entails.of_eq (hX fun g => reached ER g 0)) $$ Hr
  ihave Ha := (Entails.of_eq (hX fun g => atPos ER g 0 ∅ 0)) $$ Ha
  ihave Ht := (Entails.of_eq hT) $$ Ht
  unfold share0; simp only [bigSep_sep']
  isplitl [Hs]; · iexact Hs
  isplitl [Hr]; · iexact Hr
  isplitl [Ha]; · iexact Ha
  iexact Ht

theorem ownU_start : (ownU u₀ : sProp 𝕄)
    ⊢ |={Set.univ}=> iprop(BI.own (EP (initOf (Pipeline.cells cfgs cellOf_inj) (Pipeline.launchToks cfgs cellOf_inj))) ∗ bigSep Finset.univ (share0 m)) := by
  unfold u₀
  iintro H
  ihave H := (ownU_pair _ _) $$ H
  icases H with ⟨HP, HX⟩
  imod (fund_swap m) $$ HX with HG
  imodintro
  isplitl [HP]; · iexact HP
  iexact HG

/-! ## The operands and the results dealt out -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k => semVal (kcell (c, k)) 0 := rfl

theorem by_half {M : Type} [URA M] (Φ : Bool × Fin 4 → sProp M) :
    bigSep Finset.univ Φ = iprop((bigSep Finset.univ fun q => Φ (false, q)) ∗ bigSep Finset.univ fun q => Φ (true, q)) := by
  rw [sep_eight, sep_four, sep_four]

/-- What a device brings, and what it works with: its partner's result in place of its own. -/
def brought (c : Dev nD) : sProp 𝕄 :=
  iprop((bigSep Finset.univ fun k => atPos ER (kcell (c, k)) 0 ∅ 0) ∗ restPts m c ∗ (bigSep Finset.univ fun q => srcPts m c q)
    ∗ (bigSep Finset.univ fun q => dstPts c q (m ((c : Thread nD τ).loc main_v1_1)))
    ∗ (bigSep Finset.univ fun q : Fin 4 => dutyTok ER (kcell (c, false, q)) 0 ()) ∗ bigSep Finset.univ fun q : Fin 4 => dutyTok ER (kcell (c, true, q)) 0 ())
def dealt (c : Dev nD) : sProp 𝕄 :=
  iprop((bigSep Finset.univ fun k => atPos ER (kcell (c, k)) 0 ∅ 0) ∗ restPts m c ∗ bigSep Finset.univ fun q => outgoing m c q)

omit [FloatOps F] in
theorem across (Φ : Dev nD → sProp 𝕄) : bigSep Finset.univ Φ = bigSep Finset.univ fun c => Φ (peer c) := bigSep_univ_equiv swap Φ

omit [FloatOps F] in
theorem trade : bigSep Finset.univ (brought m) ⊢ bigSep Finset.univ (dealt m) := by
  have hd := across (F := F) fun c => bigSep Finset.univ fun q => dstPts c q (m ((c : Thread nD τ).loc main_v1_1))
  have ht := across (F := F) fun c => bigSep Finset.univ fun q : Fin 4 => dutyTok ER (kcell (c, true, q)) 0 ()
  unfold brought dealt outgoing
  simp only [bigSep_sep']
  iintro ⟨Ha, Hr, Hs, Hd, Ht, Hu⟩
  ihave Hd := (Entails.of_eq hd) $$ Hd
  ihave Hu := (Entails.of_eq ht) $$ Hu
  isplitl [Ha]; · iexact Ha
  isplitl [Hr]; · iexact Hr
  isplitl [Hs]; · iexact Hs
  isplitl [Hd]; · iexact Hd
  isplitl [Ht]; · iexact Ht
  iexact Hu

/-- What a device starts its kernel with. -/
def ready (c : Dev nD) : sProp 𝕄 := iprop(∃ K, records m K ∗ dealt m c)

theorem opened (c : Dev nD) :
    iprop(Pipeline.ownSems0 (Ix := Unit) (Name := ℕ) (U := UU) (Lvl := ℕ) (Val := Elt F) (τ := τ) osem c ∗ Pipeline.unscopedRest cfg0.spec c (V m c) ∗ share0 m c)
      ⊢ |={Set.univ}=> iprop((bigSep Finset.univ fun k => iprop(∃ κ : ℕ, cellInv ER (rd m) κ (kcell (c, k))))
          ∗ (bigSep Finset.univ fun k => (reached ER (kcell (c, k)) 0 : sProp 𝕄)) ∗ brought m c) := by
  unfold share0 brought
  rw [ownSems0_eq, show (Pipeline.unscopedRest cfg0.spec c (V m c) : sProp 𝕄) = _ from unscopedRest0_eq c (V m c), by_half fun k => (dutyTok ER (kcell (c, k)) 0 () : sProp 𝕄)]
  iintro ⟨Hv, ⟨Hx, Hy⟩, Hs, Hr, Ha, Ht, Hu⟩
  ihave Hx := (blocks_eq m c).1 $$ Hx
  icases Hx with ⟨Hx, Hrest⟩
  ihave Hy := (Entails.of_eq (slots_eq c (m ((c : Thread nD τ).loc main_v1_1)))) $$ Hy
  imod (show iprop((bigSep Finset.univ fun k => semVal (kcell (c, k)) 0) ∗ bigSep Finset.univ fun k => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hs] with HI
  · isplitl [Hv] <;> iassumption
  imodintro
  isplitl [HI]; · iexact HI
  isplitl [Hr]; · iexact Hr
  isplitl [Ha]; · iexact Ha
  isplitl [Hrest]; · iexact Hrest
  isplitl [Hx]; · iexact Hx
  isplitl [Hy]; · iexact Hy
  isplitl [Ht] <;> iassumption

omit [FloatOps F] in
theorem regroup :
    (bigSep Finset.univ fun c : Dev nD => iprop((bigSep Finset.univ fun k => iprop(∃ κ : ℕ, cellInv ER (rd m) κ (kcell (c, k))))
          ∗ (bigSep Finset.univ fun k => reached ER (kcell (c, k)) 0) ∗ brought m c) : sProp 𝕄)
      ⊢ bigSep Finset.univ (ready m) := by
  rw [bigSep_sep', bigSep_sep', ← bigSep_univ_prod (fun ck : Dev nD × Bool × Fin 4 => iprop(∃ κ : ℕ, cellInv ER (rd m) κ (kcell ck))),
    ← bigSep_univ_prod (fun ck : Dev nD × Bool × Fin 4 => (reached ER (kcell ck) 0 : sProp 𝕄))]
  iintro ⟨HI, #HR, Hb⟩
  ihave HK := (BI.bigSep_exists_pi Finset.univ (fun (ck : Dev nD × Bool × Fin 4) (κ : ℕ) => (cellInv ER (rd m) κ (kcell ck) : sProp 𝕄))) $$ HI
  icases HK with ⟨%K, #HI⟩
  ihave Hd := (trade m) $$ Hb
  iapply (show iprop(records m K ∗ bigSep Finset.univ (dealt m)) ⊢ bigSep Finset.univ (ready m) from
    (sep_mono_left (BI.bigSep_of_persistent Finset.univ (records m K))).trans (by
      rw [← bigSep_sep']
      refine bigSep_mono fun c _ => ?_
      show iprop(records m K ∗ dealt m c) ⊢ ready m c
      unfold ready
      iintro ⟨#H, Hd⟩
      iexists K
      isplitr; · iexact H
      iexact Hd))
  isplitr
  · unfold records; isplitl; · iexact HI
    iexact HR
  · iexact Hd

theorem glob :
    (bigSep Finset.univ fun c => iprop(Pipeline.ownSems0 (Ix := Unit) (Name := ℕ) (U := UU) (Lvl := ℕ) (Val := Elt F) (τ := τ) osem c
        ∗ Pipeline.unscopedRest cfg0.spec c (V m c) ∗ share0 m c) : sProp 𝕄)
      ⊢ |={Set.univ}=> bigSep Finset.univ (ready m) :=
  ((bigSep_mono fun c _ => opened m c).trans (bigSep_fupd _ _)).trans (BI.fupd_mono (regroup m))

/-! ## Into the loop and out of it -/

theorem enter (c : Dev nD) :
    iprop((Pipeline.launchCred O₀ c ∗ ready m c)
        ∗ Pipeline.prefHeld Pipeline.Prefetch.none c (fun _ => fullShare.right) (fun k => k.elim0) ∗ Pipeline.scopedRest cfg0.spec c)
      ⊢ (dats m 0 c).Φ 0 := by
  rw [phi_eq, if_pos (show (0 : Fin (cfg0.N + 1)).val = 0 from rfl)]
  unfold phi0 ready dealt
  iintro ⟨⟨Hc, ⟨%K, #HR, Ha, Hr, Ho⟩⟩, -⟩
  ihave Hc := (creds (F := F) c) $$ Hc
  iexists K
  isplitr; · iexact HR
  isplitl [Ha]; · iexact Ha
  isplitl [Hc]; · iexact Hc
  isplitl [Hr] <;> iassumption

/-- What a device keeps at the end, besides its windows' arrays: the operand as it was, the result as it landed. -/
def kept (c : Dev nD) : sProp 𝕄 :=
  iprop((((c : Thread nD τ).loc main_arg2) ↦{fullShare} m ((c : Thread nD τ).loc main_arg2)) ∗ (((c : Thread nD τ).loc main_v1_1) ↦{fullShare} landed m c))

theorem leave (c : Dev nD) :
    (dats m 0 c).Φ (Fin.last cfg0.N) ⊢ iprop(kept m c ∗ Pipeline.ownSems0 osem c ∗ Pipeline.scopedRest cfg0.spec c) := by
  have h4 : (Fin.last cfg0.N).val = 4 := N_0
  rw [phi_eq, if_neg (by omega), if_neg (by omega), ownSems0_eq, show (Pipeline.scopedRest cfg0.spec c : sProp 𝕄) = _ from scopedRest0_eq c]
  unfold phi2 kept
  rw [by_half fun k => pay m c k, slots_eq]
  iintro ⟨Hr, ⟨Hx, Hy⟩, Hv⟩
  isplitr [Hv]
  · isplitr [Hy]
    · iapply (blocks_eq m c).2
      isplitl [Hx]; · iexact Hx
      iexact Hr
    · iexact Hy
  isplitl [Hv]; · iexact Hv
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rw [owed_eq]; split
      · exact Or.inl rfl
      · exact Or.inr rfl)

end Cert.Kernel4Ideal.Swap
-- ==== Proof.SwapStart.lean ====
/- From a launch of the eight devices to what each device starts its program with. -/
module

public import proofs.«01_k».proof.Proof.SwapGhost

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds before its program and after it -/

abbrev idle (c : Dev nD) : sProp 𝕄 := Pipeline.idleSems0 cfgs cellOf_inj (0 : Fin 1) ownSemFacts c
abbrev own0 (c : Dev nD) : sProp 𝕄 := Pipeline.ownSems0 (Ix := Unit) (Name := ℕ) (U := UU) (Lvl := ℕ) (Val := Elt F) (τ := τ) osem c

/-- The windows' arrays at contents `A`. -/
def windows (c : Dev nD) (A : (w : Fin cfg0.W) → Buf (Elt F) ((cfg0.spec w).arr.view.loc (c.tc : Thread nD τ))) : sProp 𝕄 :=
  bigSep Finset.univ fun w => (((c.tc : Thread nD τ).loc (Pipeline.arrRef cfg0.spec w)) ↦{fullShare} A w : sProp 𝕄)
/-- The windows' arrays once every tile is written back. -/
def finalA (c : Dev nD) (w : Fin cfg0.W) : Buf (Elt F) ((cfg0.spec w).arr.view.loc (c.tc : Thread nD τ)) := (dats m 0 c).arrAt w cfg0.N

theorem windows_eq (c : Dev nD) (A : (w : Fin cfg0.W) → Buf (Elt F) ((cfg0.spec w).arr.view.loc (c.tc : Thread nD τ))) : (dats m 0 c).arrays A = (windows c A : sProp 𝕄) :=
  Pipeline.arrays_eq cfgs (dats m) (0 : Fin 1) c arr_whole0 (share_eq m c) A

/-- What a device starts with. -/
def before (g : Dev nD → PrngReg) (c : Dev nD) : sProp 𝕄 :=
  iprop(scopedBufs (c : Thread nD τ) ∗ Pipeline.cellsSems0 cfgs (0 : Fin 1) c ∗ idle c ∗ windows c (fun w => V m c (Pipeline.arrRef cfg0.spec w))
    ∗ owes (c : Thread nD τ) (O₀ c) ∅ ∗ levAts L lv ∗ Pipeline.launchCred O₀ c ∗ Pipeline.cellsGhost cfgs EP (0 : Fin 1) c ∗ Pipeline.toksInit cfgs EP (0 : Fin 1) c ∗ ready m c)
/-- What it ends with. -/
def afterwards (c : Dev nD) : sProp 𝕄 := iprop(windows c (finalA m c) ∗ kept m c ∗ scopedSems0 (c : Thread nD τ))

theorem sems_split (c : Dev nD) : (scopedSems0 (c.tc : Thread nD τ) : sProp 𝕄) = iprop((Pipeline.cellsSems0 cfgs (0 : Fin 1) c ∗ own0 c) ∗ idle c) :=
  Pipeline.scopedSems0_split cfgs cellOf_inj (0 : Fin 1) winFacts0.to₀ ownSemFacts c
theorem bufs_split (c : Dev nD) : (scopedBufs (c.tc : Thread nD τ) : sProp 𝕄) = iprop(Dat.staging (cfgs 0) c ∗ Pipeline.scopedRest (cfgs 0).spec c) :=
  Pipeline.scopedBufs_split cfgs (0 : Fin 1) winFacts0.to₀.stage_scoped winFacts0.to₀.stage_inj stage_whole0 c
theorem mem_split (c : Dev nD) : (unscopedBufs c (V m c) : sProp 𝕄)
    = iprop(windows c (fun w => V m c (Pipeline.arrRef cfg0.spec w)) ∗ Pipeline.unscopedRest cfg0.spec c (V m c)) :=
  Pipeline.unscopedBufs_split cfgs (0 : Fin 1) winFacts0.to₀.arr_unscoped winFacts0.arr_inj c (V m c)

/-! ## From a launch to what every device starts with -/

/-- What the launch gives a device. -/
def given (g : Dev nD → PrngReg) (c : Dev nD) : sProp 𝕄 :=
  iprop((scopedBufs (c : Thread nD τ) ∗ Pipeline.cellsSems0 cfgs (0 : Fin 1) c ∗ idle c ∗ windows c (fun w => V m c (Pipeline.arrRef cfg0.spec w))
      ∗ owes (c : Thread nD τ) (O₀ c) ∅ ∗ Pipeline.launchCred O₀ c)
    ∗ (own0 c ∗ Pipeline.unscopedRest cfg0.spec c (V m c))
    ∗ levels0 (Ix := Unit) (Val := Elt F) (Name := ℕ) (U := UU) (Lvl := ℕ) (τ := τ) (sig := sig) c)

theorem given_intro (g : Dev nD → PrngReg) (c : Dev nD) :
    coreInit (Ix := Unit) (Name := ℕ) (U := UU) (Lvl := ℕ) (Pipeline.owing O₀) 0 (⟨m, fun _ => 0, g⟩ : MemSt nD τ sig (Elt F)) (c.tc : Thread nD τ) ⊢ given m g c := by
  refine (Pipeline.coreInit_boundary_owing O₀ m g c).trans ?_
  unfold boundary given
  rw [sems_split c, show (unscopedBufs c fun b => m ((c.tc : Thread nD τ).loc b) : sProp 𝕄) = _ from mem_split m c]
  iintro ⟨⟨Hb, ⟨⟨Hc, Ho⟩, Hi⟩, -⟩, ⟨Hw, Hr⟩, -, HO, Hl, -, Hcr⟩
  isplitl [Hb Hc Hi Hw HO Hcr]
  · isplitl [Hb]; · iexact Hb
    isplitl [Hc]; · iexact Hc
    isplitl [Hi]; · iexact Hi
    isplitl [Hw]; · iexact Hw
    isplitl [HO] <;> iassumption
  isplitl [Ho Hr]
  · isplitl [Ho] <;> iassumption
  iexact Hl

/-- The levels of the semaphores fixed, once for all devices. -/
theorem levels_fixed : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun c _ => lev_assign_cells (c.tc : Thread nD τ) L lv).trans <| (BI.bigSep_bupd _ _).trans <| BI.bupd_mono ?_
  have others : (bigSep Finset.univ fun d : Dev nD => bigSep (Finset.univ.erase Proc.tc) fun p => (coreLevAts ((d, p) : Thread nD τ) L lv : sProp 𝕄)) = BI.emp := by
    refine (bigSep_congr fun d _ => (bigSep_congr fun p hp => ?_).trans (BI.bigSep_emp_const _)).trans (BI.bigSep_emp_const _)
    unfold coreLevAts
    refine (bigSep_congr fun sm _ => ?_).trans (BI.bigSep_emp_const _)
    rw [L_of_ne (((d, p) : Thread nD τ), sm) (Finset.ne_of_mem_erase hp), BI.bigSep_empty]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv), others, bigSep_sep']
  refine (show (_ : sProp 𝕄) ⊢ _ from ?_)
  iintro ⟨-, H⟩
  isplitl [H]; · iexact H
  iempintro

theorem all_before (g : Dev nD → PrngReg) :
    iprop((bigSep Finset.univ fun c : Dev nD => coreInit (Ix := Unit) (Name := ℕ) (U := UU) (Lvl := ℕ) (Pipeline.owing O₀) 0 (⟨m, fun _ => 0, g⟩ : MemSt nD τ sig (Elt F)) (c.tc : Thread nD τ)) ∗ ownU u₀)
      ⊢ (|={Set.univ}=> bigSep Finset.univ (before m g) : sProp 𝕄) := by
  have one (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ (0 : Fin 1))
  refine (sep_mono_left (bigSep_mono fun c _ => given_intro m g c)).trans ?_
  unfold before given
  simp only [bigSep_sep']
  iintro ⟨⟨⟨Hb, Hc, Hi, Hw, HO, Hcr⟩, ⟨Ho, Hr⟩, Hl⟩, Hu⟩
  imod (levels_fixed (F := F)) $$ Hl with Hl
  imod (ownU_start m) $$ Hu with ⟨HP, HG⟩
  imod (Pipeline.fund_ghost cfgs EP cellOf_inj) $$ HP with ⟨Hg, Ht⟩
  imod (glob m) $$ [Ho Hr HG] with HR
  · simp only [bigSep_sep']
    isplitl [Ho]; · iexact Ho
    isplitl [Hr] <;> iassumption
  imodintro
  isplitl [Hb]; · iexact Hb
  isplitl [Hc]; · iexact Hc
  isplitl [Hi]; · iexact Hi
  isplitl [Hw]; · iexact Hw
  isplitl [HO]; · iexact HO
  isplitl [Hl]; · iapply (BI.bigSep_intro_persistent (S := Finset.univ) fun (c : Dev nD) _ => (BI.Entails.refl (levAts L lv : sProp 𝕄))); iexact Hl
  isplitl [Hcr]; · iexact Hcr
  isplitl [Hg]; · iapply (one fun p c => Pipeline.cellsGhost cfgs EP p c); iexact Hg
  isplitl [Ht]; · iapply (one fun p c => Pipeline.toksInit cfgs EP p c); iexact Ht
  iexact HR

end Cert.Kernel4Ideal.Swap
-- ==== Proof.SwapRun.lean ====
/- Every device's program run to its end, and the end of all of them read. -/
module

public import proofs.«01_k».proof.Proof.SwapStart

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝔻" => Pipeline.defs pcfgs (defs₀ (F := F))

/-! ## A device's program, and what its end tells -/

theorem no_prefetch (c : Dev nD) : (BI.emp : sProp 𝕄) ⊢ Pipeline.prefHeld Pipeline.Prefetch.none c (fun _ => fullShare.right) (fun k => k.elim0) := by
  unfold Pipeline.prefHeld
  exact Entails.of_eq (BI.bigSep_empty).symm

theorem last_post (c : Dev nD) : Pipeline.EntryPost cfgs (dats m) () (0 : Fin 1) c
    ⊢ iprop(windows c (finalA m c) ∗ ∃ W, owes (c.tc : Thread nD τ) (0 : CellTallies nD τ sig Unit) W) := by
  unfold Pipeline.EntryPost Pipeline.PerCore.EntryPost
  rw [show (dats m 0 c).arrays _ = _ from windows_eq m c _, show (dats m 0 c).owesAt () (Fin.last (cfgs 0).N) = _ from owesAt_eq m c _,
    if_neg (show ¬(Fin.last (cfgs 0).N).val = 0 by rw [show (Fin.last (cfgs 0).N).val = 4 from N_0]; decide)]
  exact Entails.refl _

theorem first_pre (c : Dev nD) (κ : GSem nD τ sig → ℕ) :
    iprop(windows c (fun w => V m c (Pipeline.arrRef cfg0.spec w)) ∗ owes (c : Thread nD τ) (O₀ c) ∅ ∗ levAts L lv
        ∗ Pipeline.cellsInit cfgs (dats m) EP κ (0 : Fin 1) c ∗ Pipeline.toksInit cfgs EP (0 : Fin 1) c)
      ⊢ Pipeline.EntryPre cfgs (dats m) () EP κ (0 : Fin 1) c := by
  unfold Pipeline.EntryPre Pipeline.PerCore.EntryPre
  rw [show (dats m 0 c).arrays _ = _ from windows_eq m c _, show (dats m 0 c).owesAt () 0 = _ from owesAt_eq m c _, if_pos (show ((0 : Fin (cfg0.N + 1))).val = 0 from rfl)]
  iintro ⟨Hw, HO, Hl, Hi, Ht⟩
  isplitl [Hw]; · iapply (Entails.of_eq (congrArg (fun A => (windows c A : sProp 𝕄)) (funext fun w => (A_eq m c w).symm))); iexact Hw
  isplitl [HO]; · iexists ∅; iexact HO
  isplitl [Hl]; · iapply (waits m c); iexact Hl
  isplitl [Hi] <;> iassumption

theorem leave_all (c : Dev nD) :
    iprop((dats m 0 c).Φ (Fin.last cfg0.N) ∗ Pipeline.cellsSems0 cfgs (0 : Fin 1) c ∗ Dat.staging (cfgs 0) c ∗ idle c)
      ⊢ iprop(kept m c ∗ scopedSems0 (c.tc : Thread nD τ) ∗ scopedBufs (c.tc : Thread nD τ)) := by
  rw [sems_split c, bufs_split c]
  iintro ⟨HΦ, Hc, Hs, Hi⟩
  ihave H := (leave m c) $$ HΦ
  icases H with ⟨Hk, Ho, Hr⟩
  isplitl [Hk]; · iexact Hk
  isplitl [Hc Ho Hi]
  · isplitl [Hc Ho]; · isplitl [Hc] <;> iassumption
    iexact Hi
  isplitl [Hs] <;> iassumption

theorem device_run (g : Dev nD → PrngReg) (c : Dev nD) :
    before m g c ⊢ wp frame (wpE 𝔻 (Variants.lift 𝒱₀) (c.tc : Thread nD τ) none) Set.univ (main (F := F) c)
      fun _ => post (liftTc (afterwards m) BI.emp) (c.tc : Thread nD τ) := by
  rw [show main (F := F) c = .op (.customCall (Pipeline.entry (0 : Fin 1)) ()) fun _ => .ret ⟨⟩ from rfl]
  unfold before
  iintro ⟨Hb, Hc, Hi, Hw, HO, Hl, Hcr, Hg, Ht, HR⟩
  iapply (fupd_wp frame (wpE 𝔻 (Variants.lift 𝒱₀) (c.tc : Thread nD τ) none) Set.univ _ _)
  imod (Pipeline.cellsInit_alloc cfgs (dats m) EP cellOf_inj (0 : Fin 1) c) $$ [Hc Hg] with ⟨%κ, -, Hin⟩
  · isplitl [Hc] <;> iassumption
  imodintro
  iapply (Pipeline.wp_customCall_entry_frame pcfgs (fun p => (cfgs p).toPCfg_adm) (dats m) () EP κ cellOf_inj (0 : Fin 1) defs₀ 𝒱₀ (fun _ => fullShare.right) c Set.univ
      (fun _ _ => Set.mem_univ _) (body_obligation m c).loose (fun w => by fin_cases w <;> exact Nat.succ_pos _) none (fun u h => nomatch h)
      (X := iprop(Pipeline.launchCred O₀ c ∗ ready m c)) (Y := kept m c) (R := Pipeline.scopedRest cfg0.spec c) (I := idle c)
      (Entails.of_eq (bufs_split c)) (enter m c) (leave_all m c)
      (k := fun _ => .ret ⟨⟩) (Q := fun _ => post (liftTc (afterwards m) BI.emp) (c.tc : Thread nD τ))) $$ [Hb Hi Hw HO Hl Hcr Ht HR Hin]
  · isplitl [Hw HO Hl Ht Hin]
    · iapply (first_pre m c κ)
      isplitl [Hw]; · iexact Hw
      isplitl [HO]; · iexact HO
      isplitl [Hl]; · iexact Hl
      isplitl [Hin] <;> iassumption
    isplitr
    · iapply (no_prefetch c); iempintro
    isplitl [Hcr HR]
    · isplitl [Hcr] <;> iassumption
    isplitl [Hi] <;> iassumption
  iintro ⟨Hp, Hk, Hs, -⟩
  rw [wp_ret]; imodintro
  unfold post; simp only [liftTc_tc]
  unfold afterwards
  ihave Hp := (last_post m c) $$ Hp
  icases Hp with ⟨Ha, HW⟩
  isplitr [HW]
  · isplitl [Ha]; · iexact Ha
    isplitl [Hk] <;> iassumption
  · iexact HW

/-- What a device's memory and semaphores are at the end. -/
def Ends (c : Dev nD) (s : MemSt nD τ sig (Elt F)) : Prop :=
  ((∀ w : Fin cfg0.W, s.mem ((cfg0.spec w).arr.view.loc (c.tc : Thread nD τ)) = finalA m c w)
    ∧ s.mem ((c : Thread nD τ).loc main_arg2) = m ((c : Thread nD τ).loc main_arg2) ∧ s.mem ((c : Thread nD τ).loc main_v1_1) = landed m c)
  ∧ ∀ sm : SemLoc sig, sm.isScoped .tc = true → s.sem ((c.tc : Thread nD τ), sm) = 0

theorem ends_read (c : Dev nD) (s' : Phys nD τ sig (Elt F)) :
    iprop(afterwards m c ∗ SI s') ⊢ |={Set.univ}=> iprop(⌜Ends m c s'.mem⌝ ∗ SI s') := by
  unfold afterwards kept windows
  iintro ⟨⟨Ha, ⟨H2, H1⟩, Hs⟩, HSI⟩
  ihave %hz := (tcScoped_read_pers c s') $$ [Hs HSI]
  · isplitl [Hs] <;> iassumption
  ihave Hr := (pointsTo_read_all Finset.univ (fun w : Fin cfg0.W => (c.tc : Thread nD τ).loc (Pipeline.arrRef cfg0.spec w)) (finalA m c) s' fullShare) $$ [Ha HSI]
  · isplitl [Ha] <;> iassumption
  icases Hr with ⟨%ha, HSI⟩
  ihave Hr := (pointsTo_read_all (Finset.univ : Finset Unit) (fun _ => (c : Thread nD τ).loc main_arg2) (fun _ => m ((c : Thread nD τ).loc main_arg2)) s' fullShare) $$ [H2 HSI]
  · isplitl [H2]
    · iapply (Entails.of_eq (bigSep_singleton (i := ()) (Φ := fun _ : Unit => (((c : Thread nD τ).loc main_arg2) ↦{fullShare} m ((c : Thread nD τ).loc main_arg2) : sProp 𝕄))).symm); iexact H2
    iexact HSI
  icases Hr with ⟨%h2, HSI⟩
  ihave Hr := (pointsTo_read_all (Finset.univ : Finset Unit) (fun _ => (c : Thread nD τ).loc main_v1_1) (fun _ => landed m c) s' fullShare) $$ [H1 HSI]
  · isplitl [H1]
    · iapply (Entails.of_eq (bigSep_singleton (i := ()) (Φ := fun _ : Unit => (((c : Thread nD τ).loc main_v1_1) ↦{fullShare} landed m c : sProp 𝕄))).symm); iexact H1
    iexact HSI
  icases Hr with ⟨%h1, HSI⟩
  imodintro
  isplitr
  · ipureintro; exact ⟨⟨fun w => ha w (Finset.mem_univ w), h2 () (Finset.mem_univ _), h1 () (Finset.mem_univ _)⟩, hz⟩
  · iexact HSI

/-- From any memory with zero counters every weakly fair execution of the eight devices' program terminates, each device's
    windows at the contents computed, its operands unchanged, the exchange landed, and every counter at zero. -/
theorem run (g : Dev nD → PrngReg) :
    θ_run (defs (F := F)) (onTc (τ := τ) (main (F := F))) ⟨m, fun _ => 0, g⟩ (fun r =>
      (∀ c : Dev nD, ((∀ w : Fin cfg0.W, r.2.mem ((cfg0.spec w).arr.view.loc (c.tc : Thread nD τ)) = finalA m c w)
        ∧ r.2.mem ((c : Thread nD τ).loc main_arg2) = m ((c : Thread nD τ).loc main_arg2) ∧ r.2.mem ((c : Thread nD τ).loc main_v1_1) = landed m c))
      ∧ r.2.sem = fun _ => 0) := by
  classical
  refine (θ_run 𝔻 _ _).mono (Q := fun r => (∀ c : Dev nD, Ends m c r.2) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩)
    (adequate_tpu 𝔻 _ _ _ (reflect_intro_fupd_tc_sems (X := Unit) (Variants.lift 𝒱₀) (Pipeline.owing O₀) 0 (noBookings fun _ => le_rfl) (Pipeline.owing_of_ne O₀) u₀
      (fun _ => before m g) (fun _ => afterwards m) (fun _ => iprop(emp)) Set.univ ?_ (fun _ c => device_run m g c) fun _ => ?_))
  · iintro H
    imod (all_before m g) $$ H with H
    imodintro
    iexists ()
    isplitl [H]; · iexact H
    iempintro
  · iintro ⟨H, -, Hsc⟩ %s' HSI
    ihave %hsc := (scSems_read_zero m g s') $$ [Hsc HSI]
    · isplitl [Hsc] <;> iassumption
    imod (posts_fupd Finset.univ (ends_read m) s') $$ [H HSI] with %h
    · isplitl [H] <;> iassumption
    imodintro
    ipureintro
    exact ⟨fun c => h c (Finset.mem_univ c), hsc⟩

end Cert.Kernel4Ideal.Swap
-- ==== Proof.SwapValue.lean ====
/- What the call of the fourth program leaves in the gradient's array, over the ideal numbers: the product over all the
   device's rows, accumulated in two halves. -/
module

public import proofs.«01_k».proof.Proof.SwapRun
public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Kernel4Ideal.Swap

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ)

/-- The two arrays a device multiplies: the gradient of the up projection and the normalised rows. -/
abbrev G (c : Dev nD) : FVec Ideal S4096x2816 .bf16 := m ((c : Thread nD τ).loc main_arg0)
abbrev X (c : Dev nD) : FVec Ideal S4096x1024 .bf16 := m ((c : Thread nD τ).loc main_arg1)

/-- The product of a device's two operands over all its rows. -/
def prod (c : Dev nD) : Vec Ideal S2816x1024 .f32 := fun i =>
  ∑ k : Fin 4096, G m c (ix2 k (i 0)) * X m c (ix2 k (i 1))

theorem idx_in : ∀ t : Fin cfg0.N, win0_0.index t = ![t.val % 2, t.val / 2] ∧ win0_1.index t = ![t.val % 2, 0] ∧ win0_2.index t = ![t.val / 2, 0] :=
  (by decide +kernel : ∀ t : Fin grid0.N, _)

theorem idx_cover : ∀ r : Fin 2, ∃ t : Fin cfg0.N, (cfg0.win 2).flush t = true ∧ win0_2.index t = ![r.val, 0] :=
  (by decide +kernel : ∀ r : Fin 2, ∃ t : Fin grid0.N, win0_2.flush t = true ∧ win0_2.index t = ![r.val, 0])

/-- Row `k` of half `s` of a device's rows. -/
def hrow (s : Fin 2) (k : Fin 2048) : Fin 4096 := ⟨s.val * 2048 + k.val, by omega⟩

theorem add_at (acc : Vec Ideal S1408x1024 .f32) (a : Vec Ideal S2048x1408 .bf16) (b : Vec Ideal S2048x1024 .bf16) (f : Fin 1408) (d : Fin 1024) :
    k0_pay2 acc a b (ix2 f d) = acc (ix2 f d) + ∑ k : Fin 2048, a (ix2 k f) * b (ix2 k d) := by pointwise [k0_pay2]

theorem zero_at (f : Fin 1408) (d : Fin 1024) : k0_pay1 (F := Ideal) (ix2 f d) = 0 := by pointwise [k0_pay1]

theorem g_at (c : Dev nD) (t : Fin cfg0.N) (s : Fin 2) (hs : t.val % 2 = s.val) (k : Fin 2048) (y : Fin 1408) (f : Fin 2816) (hf : f.val = t.val / 2 * 1408 + y.val) :
    iblk m c 0 t (ix2 k y) = G m c (ix2 (hrow s k) f) := by
  blk_ext [iblk, idx_in t, hrow, hs, hf]

theorem x_at (c : Dev nD) (t : Fin cfg0.N) (s : Fin 2) (hs : t.val % 2 = s.val) (k : Fin 2048) (d : Fin 1024) :
    iblk m c 1 t (ix2 k d) = X m c (ix2 (hrow s k) d) := by
  blk_ext [iblk, idx_in t, hrow, hs]

/-- What a point that writes back leaves in the tile: both halves of the rows. -/
theorem tile_at (c : Dev nD) (t : Fin cfg0.N) (ht : t.val % 2 = 1) (y : Fin 1408) (d : Fin 1024) (f : Fin 2816) (hf : f.val = t.val / 2 * 1408 + y.val) :
    tileAt m c t (ix2 y d) = prod m c (ix2 f d) := by
  unfold tileAt
  rw [if_neg (by omega)]
  unfold started
  rw [add_at, add_at, zero_at, zero_add]
  have hp : (prev t).val = t.val - 1 := rfl
  have h0 : (prev t).val % 2 = (0 : Fin 2).val := by rw [hp]; show (t.val - 1) % 2 = 0; omega
  refine Eq.trans (congrArg₂ (· + ·) (Finset.sum_congr rfl fun k _ => ?_) (Finset.sum_congr rfl fun k _ => ?_))
    (((Fin.sum_univ_two _).symm).trans (Fin.sum_mul_add_fin 2 2048 (fun k : Fin 4096 => G m c (ix2 k f) * X m c (ix2 k d)) (by decide)))
  · exact congrArg₂ (· * ·) (g_at m c (prev t) 0 h0 k y f (by rw [hp]; omega)) (x_at m c (prev t) 0 h0 k d)
  · exact congrArg₂ (· * ·) (g_at m c t 1 ht k y f hf) (x_at m c t 1 ht k d)

theorem mem_tile (t : Fin cfg0.N) (i : S2816x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v1_0).slice (win0_2.rect t)).set ↔ _
  rw [View.set_slice_whole, Rect.mem_set_unit]
  exact Iff.rfl

/-- The gradient a device's call leaves. -/
theorem array_eq (c : Dev nD) : finalA m c 2 = prod m c := by
  refine (dats m 0 c).arrAt_eq_of_cover 2 (prod m c) (fun t hf => ?_) (fun i => ?_)
  · have ht : t.val % 2 = 1 := (flush0_2 t).mp hf
    show (cfg0.win 2).cut (grid0.coords t) ((dats m 0 c).after 2 t) = _
    rw [after_2]
    funext y
    have hy0 : (y 0).val < 1408 := (y 0).isLt
    have hy1 : (y 1).val < 1024 := (y 1).isLt
    have e0 : win0_2.index t (0 : Fin 2) = t.val / 2 := congrFun (idx_in t).2.2 0
    have e1 : win0_2.index t (1 : Fin 2) = 0 := congrFun (idx_in t).2.2 1
    have hb0 : (((cfg0.win 2).blk t).view.emb y 0).val = win0_2.index t (0 : Fin 2) * 1408 + 1 * (y 0).val := rfl
    have hb1 : (((cfg0.win 2).blk t).view.emb y 1).val = win0_2.index t (1 : Fin 2) * 1024 + 1 * (y 1).val := rfl
    rw [e0] at hb0; rw [e1] at hb1
    have hx : (cfg0.win 2).xinj (grid0.coords t) y = ix2 (⟨(y 0).val, hy0⟩ : Fin 1408) (⟨(y 1).val, hy1⟩ : Fin 1024) := by
      funext a; apply Fin.ext
      match a with
      | ⟨0, _⟩ => rfl
      | ⟨1, _⟩ => rfl
    have hN : t.val < 4 := lt_of_lt_of_eq t.isLt N_0
    have he : ((cfg0.win 2).blk t).view.emb y = ix2 (⟨t.val / 2 * 1408 + (y 0).val, by omega⟩ : Fin 2816) (⟨(y 1).val, hy1⟩ : Fin 1024) := by
      funext a; apply Fin.ext
      match a with
      | ⟨0, _⟩ => exact hb0.trans (by show _ = t.val / 2 * 1408 + (y 0).val; omega)
      | ⟨1, _⟩ => exact hb1.trans (by show _ = (y 1).val; omega)
    show tileAt m c t ((cfg0.win 2).xinj (grid0.coords t) y) = prod m c (((cfg0.win 2).blk t).view.emb y)
    rw [hx, he]
    exact tile_at m c t ht _ _ _ rfl
  · have h0 : (i 0).val < 2816 := (i 0).isLt
    have h1 : (i 1).val < 1024 := (i 1).isLt
    obtain ⟨t, hf, ht⟩ := idx_cover ⟨(i 0).val / 1408, by omega⟩
    have q0 : win0_2.index t (0 : Fin 2) = (i 0).val / 1408 := congrFun ht 0
    have q1 : win0_2.index t (1 : Fin 2) = 0 := congrFun ht 1
    refine ⟨t, hf, (mem_tile t i).2 fun a => ?_⟩
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

end Cert.Kernel4Ideal.Swap
-- ==== Proof.SwapRef.lean ====
/- The fourth program's reference read at an index: the gradient of each device's product as one sum over its rows, and
   the block of the other core's gradient that a core owns. -/
module

public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Reference4Ideal.Ref

open Cert.Reference4Ideal Cert.Reference4Ideal.Gen Cert.Reference4Ideal.Read
open Idealize.ShloMosaic Idealize.ShloMosaic.TcCoe Idealize.ShloMosaic.Tactic Idealize.SL.Sem
open scoped BigOperators

/-- Row `k` of device `c`'s rows, row `f` of its block of the weight's gradient. -/
def brow (c : Fin 8) (k : Fin 4096) : Fin 32768 := ⟨c.val * 4096 + k.val, by omega⟩
def wrow (c : Fin 8) (f : Fin 2816) : Fin 22528 := ⟨c.val * 2816 + f.val, by omega⟩

theorem prod_at (G : FVec Ideal S32768x2816 .bf16) (X : FVec Ideal S32768x1024 .bf16) (c : Fin 8) (f : Fin 2816) (d : Fin 1024) :
    val_main_v17 (F := Ideal) G X (ix2 (wrow c f) d) = ∑ k : Fin 4096, G (ix2 (brow c k) f) * X (ix2 (brow c k) d) := by
  rw [val_main_v17_apply, val_main_v16_apply, val_main_v7_apply, val_main_v6_apply]
  refine Finset.sum_congr rfl fun k _ => ?_
  rw [val_main_v3_apply, val_main_v1_apply]
  refine congrArg₂ (· * ·) (congrArg G ?_) (congrArg X ?_)
  · funext a; fin_cases a <;> apply Fin.ext
    · show ((((c.val * 2816 + f.val) * 1024 + d.val) / 2883584 * 4096 + k.val) * 2816 + ((c.val * 2816 + f.val) * 1024 + d.val) / 1024 % 2816) / 2816 = c.val * 4096 + k.val
      omega
    · show ((((c.val * 2816 + f.val) * 1024 + d.val) / 2883584 * 4096 + k.val) * 2816 + ((c.val * 2816 + f.val) * 1024 + d.val) / 1024 % 2816) % 2816 = f.val
      omega
  · funext a; fin_cases a <;> apply Fin.ext
    · show ((((c.val * 2816 + f.val) * 1024 + d.val) / 2883584 * 4096 + k.val) * 1024 + ((c.val * 2816 + f.val) * 1024 + d.val) % 1024) / 1024 = c.val * 4096 + k.val
      omega
    · show ((((c.val * 2816 + f.val) * 1024 + d.val) / 2883584 * 4096 + k.val) * 1024 + ((c.val * 2816 + f.val) * 1024 + d.val) % 1024) % 1024 = d.val
      omega

variable {F : FTy → Type} [FloatOps F]

/-- Block `q` of core `k` of chip `p` among the 32, and the block the other core holds for it among the 64. -/
def mine (p : Fin 4) (k : Fin 2) (q : Fin 4) : Fin 32 := ⟨(p.val * 2 + k.val) * 4 + q.val, by omega⟩
def theirs (p : Fin 4) (k : Fin 2) (q : Fin 4) : Fin 64 := ⟨(p.val * 2 + (1 - k.val)) * 8 + (2 * q.val + k.val), by omega⟩

theorem v8_at (x : (⟨S64x352x1024, .f32⟩ : BufTy).Contents (Elt F)) (p : Fin 4) (k : Fin 2) (q : Fin 4) (l : Fin 2) (a : Fin 352) (b : Fin 1024) :
    val_main_v8 (F := F) x (ix6 p k q l a b) = x (ix3 (⟨(p.val * 2 + k.val) * 8 + (2 * q.val + l.val), by omega⟩ : Fin 64) a b) := by
  unfold val_main_v8
  refine shapeCast_apply x _ _ _ ?_
  rw [Shape.rowMajor_val_three, Shape.rowMajor_val_six]
  show (((p.val * 2 + k.val) * 8 + (2 * q.val + l.val)) * 352 + a.val) * 1024 + b.val = ((((p.val * 2 + k.val) * 4 + q.val) * 2 + l.val) * 352 + a.val) * 1024 + b.val
  omega
theorem v10_at (x : (⟨S64x352x1024, .f32⟩ : BufTy).Contents (Elt F)) (p q : Fin 4) (a : Fin 352) (b : Fin 1024) :
    val_main_v10 (F := F) x (ix4 p q a b) = x (ix3 (theirs p 0 q) a b) := by
  refine Eq.trans ?_ (v8_at x p 1 q 0 a b)
  unfold val_main_v10
  refine (shapeCast_apply (val_main_v9 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v9_apply]; exact congrArg _ (by funext a; fin_cases a <;> rfl)
theorem v12_at (x : (⟨S64x352x1024, .f32⟩ : BufTy).Contents (Elt F)) (p q : Fin 4) (a : Fin 352) (b : Fin 1024) :
    val_main_v12 (F := F) x (ix4 p q a b) = x (ix3 (theirs p 1 q) a b) := by
  refine Eq.trans ?_ (v8_at x p 0 q 1 a b)
  unfold val_main_v12
  refine (shapeCast_apply (val_main_v11 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v11_apply]; exact congrArg _ (by funext a; fin_cases a <;> rfl)

theorem v15_at0 (x : (⟨S64x352x1024, .f32⟩ : BufTy).Contents (Elt F)) (p : Fin 4) (q : Fin 4) (a : Fin 352) (b : Fin 1024) :
    val_main_v15 (F := F) x (ix5 p (0 : Fin 2) q a b) = x (ix3 (theirs p 0 q) a b) := by
  unfold val_main_v15
  refine (concatenate_pair_apply_left (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (0 : Fin 2) q a b) rfl (ix5 p (0 : Fin 1) q a b) (fun j => ?_)).trans ?_
  · match j with
    | ⟨0, _⟩ => rfl
    | ⟨1, _⟩ => rfl
    | ⟨2, _⟩ => rfl
    | ⟨3, _⟩ => rfl
    | ⟨4, _⟩ => rfl
  · rw [val_main_v13_apply]; exact (congrArg _ (by funext a; fin_cases a <;> rfl)).trans (v10_at x p q a b)
theorem v15_at1 (x : (⟨S64x352x1024, .f32⟩ : BufTy).Contents (Elt F)) (p : Fin 4) (q : Fin 4) (a : Fin 352) (b : Fin 1024) :
    val_main_v15 (F := F) x (ix5 p (1 : Fin 2) q a b) = x (ix3 (theirs p 1 q) a b) := by
  unfold val_main_v15
  refine (concatenate_pair_apply_right (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (1 : Fin 2) q a b) rfl rfl (ix5 p (0 : Fin 1) q a b) (fun j hj => ?_) ?_).trans ?_
  · match j with
    | ⟨0, _⟩ => rfl
    | ⟨1, _⟩ => exact absurd (Fin.ext rfl) hj
    | ⟨2, _⟩ => rfl
    | ⟨3, _⟩ => rfl
    | ⟨4, _⟩ => rfl
  · rfl
  · rw [val_main_v14_apply]; exact (congrArg _ (by funext a; fin_cases a <;> rfl)).trans (v12_at x p q a b)
theorem v15_at (x : (⟨S64x352x1024, .f32⟩ : BufTy).Contents (Elt F)) (p : Fin 4) (k : Fin 2) (q : Fin 4) (a : Fin 352) (b : Fin 1024) :
    val_main_v15 (F := F) x (ix5 p k q a b) = x (ix3 (theirs p k q) a b) := by
  match k with
  | ⟨0, _⟩ => exact v15_at0 x p q a b
  | ⟨1, _⟩ => exact v15_at1 x p q a b

theorem swap_at (x : (⟨S64x352x1024, .f32⟩ : BufTy).Contents (Elt F)) (p : Fin 4) (k : Fin 2) (q : Fin 4) (a : Fin 352) (b : Fin 1024) :
    val_main_v18 (F := F) x (ix3 (mine p k q) a b) = x (ix3 (theirs p k q) a b) := by
  rw [val_main_v18_apply]
  refine (congrArg _ ?_).trans (v15_at x p k q a b)
  funext j; fin_cases j <;> apply Fin.ext
  · show ((((p.val * 2 + k.val) * 4 + q.val) * 352 + a.val) * 1024 + b.val) / 2883584 = p.val; omega
  · show ((((p.val * 2 + k.val) * 4 + q.val) * 352 + a.val) * 1024 + b.val) / 1441792 % 2 = k.val; omega
  · show ((((p.val * 2 + k.val) * 4 + q.val) * 352 + a.val) * 1024 + b.val) / 360448 % 4 = q.val; omega
  · show ((((p.val * 2 + k.val) * 4 + q.val) * 352 + a.val) * 1024 + b.val) / 1024 % 352 = a.val; omega
  · show ((((p.val * 2 + k.val) * 4 + q.val) * 352 + a.val) * 1024 + b.val) % 1024 = b.val; omega

end Cert.Reference4Ideal.Ref

end
-- ==== Proof.SwapClaims.lean ====
/- The fourth program's claims: the weight gradient of the up projection with the exchange between the two cores of a chip
   beside it, on eight devices, against its reference on one. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.SwapRun
public import proofs.«01_k».proof.Proof.SwapValue
public import proofs.«01_k».proof.Proof.SwapRef
public import Idealize.ShloMosaic.Lib.Claim
public import Idealize.ShloMosaic.Lib.Layout
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

theorem frame_ref4 : Cert.quiescent_Reference4Ideal := fun m ρ _ =>
  (θ_run (Cert.Reference4Ideal.defs (F := Ideal)) _ _).mono
    (fun r h => ⟨fun c => (h c).2.2, sem_eq_zero_of_no_sems (by decide) r.2⟩)
    (Cert.Reference4Ideal.Value.run (F := Ideal) m ρ)

section Frames

variable {F : FTy → Type} [FloatOps F]
variable (m : (ℓ : Loc Cert.Kernel4Ideal.nD Cert.Kernel4Ideal.τ Cert.Kernel4Ideal.sig) → Buf (Elt F) ℓ)

open Cert.Kernel4Ideal Cert.Kernel4Ideal.Gen Cert.Kernel4Ideal.Swap

/-- The two operands end as launched: their windows are only read. -/
theorem arg0_kept (c : Dev nD) : finalA m c 0 = m ((c : Thread nD τ).loc main_arg0) :=
  ((dats m 0 c).arrAt_in 0 rfl _).trans (A_eq m c 0)
theorem arg1_kept (c : Dev nD) : finalA m c 1 = m ((c : Thread nD τ).loc main_arg1) :=
  ((dats m 0 c).arrAt_in 1 rfl _).trans (A_eq m c 1)

/-- The run leaves the three arguments as launched and every counter at zero, over any numbers. -/
theorem kept4 (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run (defs (F := F)) _ _).mono (fun r h => ⟨fun c => ⟨((h.1 c).1 0).trans (arg0_kept m c), ((h.1 c).1 1).trans (arg1_kept m c), (h.1 c).2.1⟩, h.2⟩)
    (run m g)

end Frames

theorem frame_ideal4 : Cert.quiescent_Kernel4Ideal := fun m g _ => kept4 (F := Ideal) m g

/-- Over the machine's numbers the two programs are the same text. -/
theorem bodies4 : Cert.Kernel4.defs₀ (F := Bits) = Cert.Kernel4Ideal.defs₀ (F := Bits) := by
  unfold Cert.Kernel4.defs₀ Cert.Kernel4Ideal.defs₀
  refine congrArg (fun f => Defs.onTc f) ?_
  funext l a
  match l, a with
  | 0, (t, s) => rfl

theorem texts4 : Cert.Kernel4.defs (F := Bits) = Cert.Kernel4Ideal.defs (F := Bits) := congrArg (Pipeline.defs Cert.Kernel4.pcfgs) bodies4

theorem frame_bits4 : Cert.quiescent_Kernel4 := fun m g _ => by
  rw [texts4]
  exact kept4 (F := Bits) m g

open Cert.Kernel4Ideal Cert.Kernel4Ideal.Gen Cert.Kernel4Ideal.Swap Cert.Reference4Ideal.Ref in
/-- A device's product is its block of the reference's first result. -/
theorem prod_block (m : (ℓ : Loc nD τ sig) → Buf (Elt Ideal) ℓ) (c : Dev nD)
    (g : (⟨2, ![32768, 2816]⟩ : Shape).Idx → Elt Ideal .bf16) (x : (⟨2, ![32768, 1024]⟩ : Shape).Idx → Elt Ideal .bf16)
    (hg : G m c = Layout.block ⟨2, ![4096, 2816]⟩ ⟨2, ![32768, 2816]⟩ 0 8 c g)
    (hx : X m c = Layout.block ⟨2, ![4096, 1024]⟩ ⟨2, ![32768, 1024]⟩ 0 8 c x) :
    prod m c = Layout.block ⟨2, ![2816, 1024]⟩ ⟨2, ![22528, 1024]⟩ 0 8 c (Cert.Reference4Ideal.Read.val_main_v17 (F := Ideal) g x) := by
  refine funext fun i : (⟨2, ![2816, 1024]⟩ : Shape).Idx => ?_
  obtain ⟨f, d, rfl⟩ : ∃ (f : Fin 2816) (d : Fin 1024), i = ix2 f d := ⟨i 0, i 1, by blk_ext []⟩
  have e : (Layout.block ⟨2, ![2816, 1024]⟩ ⟨2, ![22528, 1024]⟩ 0 8 c (Cert.Reference4Ideal.Read.val_main_v17 (F := Ideal) g x)) (ix2 f d)
      = Cert.Reference4Ideal.Read.val_main_v17 (F := Ideal) g x (ix2 (wrow c f) d) := by
    refine congrArg (Cert.Reference4Ideal.Read.val_main_v17 (F := Ideal) g x) (funext fun a => Fin.ext ?_)
    match a with
    | ⟨0, _⟩ => rfl
    | ⟨1, _⟩ => rfl
  rw [e, prod_at]
  refine Finset.sum_congr rfl fun k _ => ?_
  show G m c (ix2 k f) * X m c (ix2 k d) = _
  rw [hg, hx]
  refine congrArg₂ (· * ·) (congrArg g (funext fun a => Fin.ext ?_)) (congrArg x (funext fun a => Fin.ext ?_))
  · match a with
    | ⟨0, _⟩ => rfl
    | ⟨1, _⟩ => rfl
  · match a with
    | ⟨0, _⟩ => rfl
    | ⟨1, _⟩ => rfl

open Cert.Kernel4Ideal Cert.Kernel4Ideal.Gen Cert.Kernel4Ideal.Swap Cert.Reference4Ideal.Ref in
/-- What lands on a device is its block of the reference's second result. -/
theorem swap_block (m : (ℓ : Loc nD τ sig) → Buf (Elt Ideal) ℓ) (w : (⟨3, ![64, 352, 1024]⟩ : Shape).Idx → Elt Ideal .f32)
    (hw : ∀ c : Dev nD, m ((c : Thread nD τ).loc main_arg2) = Layout.block ⟨3, ![8, 352, 1024]⟩ ⟨3, ![64, 352, 1024]⟩ 0 8 c w) (c : Dev nD) :
    landed m c = Layout.block ⟨3, ![4, 352, 1024]⟩ ⟨3, ![32, 352, 1024]⟩ 0 8 c (Cert.Reference4Ideal.Read.val_main_v18 (F := Ideal) w) := by
  refine funext fun i : (⟨3, ![4, 352, 1024]⟩ : Shape).Idx => ?_
  obtain ⟨q, a, b, rfl⟩ : ∃ (q : Fin 4) (a : Fin 352) (b : Fin 1024), i = ix3 q a b := ⟨i 0, i 1, i 2, by blk_ext []⟩
  have hc : c.val < 8 := c.isLt
  have e : (Layout.block ⟨3, ![4, 352, 1024]⟩ ⟨3, ![32, 352, 1024]⟩ 0 8 c (Cert.Reference4Ideal.Read.val_main_v18 (F := Ideal) w)) (ix3 q a b)
      = Cert.Reference4Ideal.Read.val_main_v18 (F := Ideal) w (ix3 (mine ⟨c.val / 2, by omega⟩ ⟨c.val % 2, by omega⟩ q) a b) := by
    refine congrArg (Cert.Reference4Ideal.Read.val_main_v18 (F := Ideal) w) (funext fun j => Fin.ext ?_)
    match j with
    | ⟨0, _⟩ => show c.val * 4 + q.val = (c.val / 2 * 2 + c.val % 2) * 4 + q.val; omega
    | ⟨1, _⟩ => rfl
    | ⟨2, _⟩ => rfl
  rw [e, swap_at]
  have hp : (peer c).val = c.val / 2 * 2 + (1 - c.val % 2) := (by decide : ∀ c : Dev nD, (peer c).val = c.val / 2 * 2 + (1 - c.val % 2)) c
  unfold landed
  rw [hw (peer c)]
  refine congrArg w (funext fun j => Fin.ext ?_)
  match j with
  | ⟨0, _⟩ => show (peer c).val * 8 + (2 * q.val + c.val % 2) = (c.val / 2 * 2 + (1 - c.val % 2)) * 8 + (2 * q.val + c.val % 2); rw [hp]
  | ⟨1, _⟩ => rfl
  | ⟨2, _⟩ => rfl

open Cert.Kernel4Ideal.Gen Cert.Kernel4Ideal.Swap in
/-- Both results on the eight devices are the blocks of the reference's two results. -/
theorem results4 : Cert.algebraic_Kernel4Ideal_Reference4Ideal := by
  intro m g m' g' _ hagree
  refine ⟨Cert.Reference4Ideal.Read.val_main_v17 (F := Ideal) (m' (((0 : Dev Cert.Reference4Ideal.nD).tc : Thread Cert.Reference4Ideal.nD Cert.Reference4Ideal.τ).loc Cert.Reference4Ideal.main_arg0)) (m' (((0 : Dev Cert.Reference4Ideal.nD).tc : Thread Cert.Reference4Ideal.nD Cert.Reference4Ideal.τ).loc Cert.Reference4Ideal.main_arg1)),
    Cert.Reference4Ideal.Read.val_main_v18 (F := Ideal) (m' (((0 : Dev Cert.Reference4Ideal.nD).tc : Thread Cert.Reference4Ideal.nD Cert.Reference4Ideal.τ).loc Cert.Reference4Ideal.main_arg2)), ?_, (θ_run (Cert.Reference4Ideal.defs (F := Ideal)) _ _).mono (fun r h => ?_) (Cert.Reference4Ideal.Value.run (F := Ideal) m' g')⟩
  rotate_left
  · obtain ⟨h17, h18, hargs⟩ := h 0
    exact ⟨h17.trans (Cert.Reference4Ideal.Read.val_main_v17_eq (F := Ideal) _ _), h18.trans (Cert.Reference4Ideal.Read.val_main_v18_eq (F := Ideal) _), hargs⟩
  · refine (θ_run (Cert.Kernel4Ideal.defs (F := Ideal)) _ _).mono (fun r h c => ?_) (run m g)
    obtain ⟨hw, h2, hl⟩ := h.1 c
    exact ⟨((hw 2).trans (array_eq m c)).trans (prod_block m c _ _ (hagree c).1 (hagree c).2.1),
      hl.trans (swap_block m _ (fun d => (hagree d).2.2) c), (hw 0).trans (arg0_kept m c), (hw 1).trans (arg1_kept m c), h2⟩

end Cert.Proof

end
-- ==== Proof.CrossCells.lean ====
/- A weight product with two exchanges beside it: every device sends four blocks of one operand to the device next to it,
   and the parts of another to the same core of the other chips, its own part to itself. Here are the two ends of each
   copy, the semaphores it pays, and which elements of memory every one of them hands over. -/
module

public import proofs.«01_k».proof.Proof.Gen.Kernel5Ideal
public import proofs.«01_k».proof.Proof.Gen.Kernel5Ideal.Skeleton
public import proofs.«01_k».proof.Proof.Gen.Kernel5Ideal.Frame
public import Idealize.ShloMosaic.Lib.Pipeline.Launch
public import Idealize.ShloMosaic.Lib.Pipeline.Kit
public import Idealize.ShloMosaic.Lib.Pointwise
public import Idealize.ShloMosaic.Lib.Pipeline.ValueKit
public import Idealize.ShloMosaic.Lib.Tactic
public import Idealize.ShloMosaic.Lib.ValueLayout

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The partner -/

/-- The device a copy goes to: the one that differs in the mesh's last axis alone. -/
def peer (c : Dev nD) : Dev nD :=
  ⟨(4 * (c.val / 4) + 2 * ((c.val / 2) % 2) + 1) - c.val % 2, by have := c.isLt; revert this; generalize c.val = v; decide +revert⟩

theorem peer_peer (c : Dev nD) : peer (peer c) = c := by revert c; decide
theorem peer_par (c : Dev nD) : (peer c).val % 2 = 1 - c.val % 2 := by revert c; decide

theorem peer_dev1 (c : Dev nD) (h : k0_dev1 c < nD) : (⟨k0_dev1 c, h⟩ : Dev nD) = peer c := Fin.ext (k0_dev1_eq c)
theorem peer_dev2 (c : Dev nD) (h : k0_dev2 c < nD) : (⟨k0_dev2 c, h⟩ : Dev nD) = peer c := Fin.ext (k0_dev2_eq c)
theorem peer_dev3 (c : Dev nD) (h : k0_dev3 c < nD) : (⟨k0_dev3 c, h⟩ : Dev nD) = peer c := Fin.ext (k0_dev3_eq c)
theorem peer_dev4 (c : Dev nD) (h : k0_dev4 c < nD) : (⟨k0_dev4 c, h⟩ : Dev nD) = peer c := Fin.ext (k0_dev4_eq c)

/-- Going to the partner, as a permutation of the devices. -/
def swap : Dev nD ≃ Dev nD := ⟨peer, peer, peer_peer, peer_peer⟩

/-! ## The two ends of a copy -/

theorem src_inb (c : Dev nD) (q : Fin 4) : ∀ a, (k0_off1 c (BitVec.ofNat 32 (2 * q.val))) a + S1x352x1024.size a ≤ S8x352x1024.size a := by
  revert c q; decide +kernel
theorem dst_inb (q : Fin 4) : ∀ a, (![q.val, 0, 0] : Fin 3 → Nat) a + S1x352x1024.size a ≤ S4x352x1024.size a := by revert q; decide +kernel
theorem sem_inb (q : Fin 4) : ∀ a, (![0, q.val] : Fin 2 → Nat) a + S1x1.size a ≤ S1x4.size a := by revert q; decide +kernel

/-- Copy `q` of device `c` reads this block of its operand … -/
abbrev srcM (c : Dev nD) (q : Fin 4) : Memref sig .tc .hbm S352x1024 .f32 :=
  ((Memref.whole main_arg2).slice (Rect.unit (s := S8x352x1024) (k0_off1 c (BitVec.ofNat 32 (2 * q.val))) S1x352x1024.size (src_inb c q)) (fun _ => rfl)).squeeze
    S352x1024 squeezes_S1x352x1024_S352x1024
/-- … and writes this slot of its partner's result. -/
abbrev dstM (q : Fin 4) : Memref sig .tc .hbm S352x1024 .f32 :=
  ((Memref.whole main_v1_1).slice (Rect.unit (s := S4x352x1024) ![q.val, 0, 0] S1x352x1024.size (dst_inb q)) (fun _ => rfl)).squeeze
    S352x1024 squeezes_S1x352x1024_S352x1024

/-- The semaphore copy `q` pays when it has read, and the one it pays on the partner when it has written. -/
abbrev sendS (q : Fin 4) : DmaSem sig :=
  ((cc0_scratch0.slice (Rect.unit (s := S1x4) ![0, q.val] S1x1.size (sem_inb q))).squeeze S_ squeezes_S1x1_S_).sem
abbrev recvS (q : Fin 4) : DmaSem sig :=
  ((cc0_scratch1.slice (Rect.unit (s := S1x4) ![0, q.val] S1x1.size (sem_inb q))).squeeze S_ squeezes_S1x1_S_).sem

theorem sendS_val : ∀ q : Fin 4, (sendS q).val = 6 + q.val := by decide +kernel
theorem recvS_val : ∀ q : Fin 4, (recvS q).val = 10 + q.val := by decide +kernel

/-- What a copy pays each semaphore. -/
def N : ℕ := (dstM 0).view.dmaCredit
theorem N_pos : 0 < N := View.dmaCredit_pos _ (by decide)

theorem src_emb (c : Dev nD) (q : Fin 4) (a : Fin 352) (b : Fin 1024) :
    (srcM c q).view.emb (ix2 a b) = (ix3 (⟨2 * q.val + 1 - c.val % 2, by have := q.isLt; omega⟩ : Fin 8) a b : S8x352x1024.Idx) := by
  refine (congrArg ((Rect.unit (s := S8x352x1024) (k0_off1 c (BitVec.ofNat 32 (2 * q.val))) S1x352x1024.size (src_inb c q)).emb)
    (ValueIdx.reshapeEquiv_ix2_1ab _ a b)).trans ?_
  blk_ext [k0_off1_eq c q]
theorem dst_emb (q : Fin 4) (a : Fin 352) (b : Fin 1024) :
    (dstM q).view.emb (ix2 a b) = (ix3 q a b : S4x352x1024.Idx) := by
  refine (congrArg ((Rect.unit (s := S4x352x1024) ![q.val, 0, 0] S1x352x1024.size (dst_inb q)).emb)
    (ValueIdx.reshapeEquiv_ix2_1ab _ a b)).trans ?_
  blk_ext []

theorem src_disj (c : Dev nD) : ∀ q q' : Fin 4, q ≠ q' → Disjoint (srcM c q).view.set (srcM c q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [src_emb, src_emb] at e
    have := congrArg (fun i : S8x352x1024.Idx => (i 0).val) e
    simp only [ix3] at this
    exact h (Fin.ext (by omega))

theorem dst_disj : ∀ q q' : Fin 4, q ≠ q' → Disjoint (dstM q).view.set (dstM q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [dst_emb, dst_emb] at e
    have := congrArg (fun i : S4x352x1024.Idx => (i 0).val) e
    exact h (Fin.ext this.symm)

theorem dst_cover : (Finset.univ.biUnion fun q : Fin 4 => (dstM q).view.set) = (Finset.univ : Finset S4x352x1024.Idx) :=
  Finset.eq_univ_iff_forall.mpr fun i => Finset.mem_biUnion.mpr ⟨i 0, Finset.mem_univ _, by
    have e : (dstM (i 0)).view.emb (ix2 (i 1) (i 2)) = i := (dst_emb (i 0) (i 1) (i 2)).trans (by ext a; fin_cases a <;> rfl)
    have := View.emb_mem_set (dstM (i 0)).view (ix2 (i 1) (i 2))
    rwa [e] at this⟩

/-! ## The other exchange: the same core of the other chips -/

/-- The chip a device is on, and the device that is core `k` of chip `p`. -/
abbrev chip (c : Dev nD) : Fin 4 := ⟨c.val / 2, by have : c.val < 8 := c.isLt; omega⟩
abbrev onChip (p : Fin 4) (k : Fin 2) : Dev nD := ⟨2 * p.val + k.val, by show _ < 8; omega⟩
abbrev core (c : Dev nD) : Fin 2 := ⟨c.val % 2, by omega⟩

/-- Where a device's parts go: to itself, or one of the three ways to another chip (across the first axis of the mesh,
    the second, both). -/
abbrev Hop : Type := Option (Fin 3)
def over : Hop → Dev nD → Dev nD
  | none, c => c
  | some 0, c => ⟨(2 * ((c.val / 2) % 2) + c.val % 2 + 4) - 4 * (c.val / 4), by have : c.val < 8 := c.isLt; show _ < 8; omega⟩
  | some 1, c => ⟨(4 * (c.val / 4) + c.val % 2 + 2) - 2 * ((c.val / 2) % 2), by have : c.val < 8 := c.isLt; show _ < 8; omega⟩
  | some 2, c => ⟨(c.val % 2 + 6) - (4 * (c.val / 4) + 2 * ((c.val / 2) % 2)), by have : c.val < 8 := c.isLt; show _ < 8; omega⟩

theorem over_over : ∀ (h : Hop) (c : Dev nD), over h (over h c) = c := by decide
theorem over_core : ∀ (h : Hop) (c : Dev nD), (over h c).val % 2 = c.val % 2 := by decide
theorem onChip_over : ∀ (h : Hop) (c : Dev nD), onChip (chip (over h c)) (core c) = over h c := by decide

theorem over_dev5 (c : Dev nD) (h : k0_dev5 c < nD) : (⟨k0_dev5 c, h⟩ : Dev nD) = over (some 0) c := Fin.ext (k0_dev5_eq c)
theorem over_dev6 (c : Dev nD) (h : k0_dev6 c < nD) : (⟨k0_dev6 c, h⟩ : Dev nD) = over (some 1) c := Fin.ext (k0_dev6_eq c)
theorem over_dev7 (c : Dev nD) (h : k0_dev7 c < nD) : (⟨k0_dev7 c, h⟩ : Dev nD) = over (some 2) c := Fin.ext (k0_dev7_eq c)

/-- The chips a device reaches are all four, each one way. -/
def ways (c : Dev nD) : Hop ≃ Fin 4 :=
  Equiv.ofBijective (fun h => chip (over h c)) ((by decide : ∀ c : Dev nD, Function.Bijective fun h : Hop => chip (over h c)) c)

theorem part_inb (p : Fin 4) : ∀ a, (![p.val, 0, 0] : Fin 3 → Nat) a + S1x480x1024.size a ≤ S4x480x1024.size a := by revert p; decide +kernel
theorem three_inb (j : Fin 3) : ∀ a, (![0, j.val] : Fin 2 → Nat) a + S1x1.size a ≤ S1x3.size a := by revert j; decide +kernel

/-- Chip `p`'s part of a device's array of parts, and where the part of a core of chip `p` goes. -/
abbrev partM (p : Fin 4) : Memref sig .tc .hbm S480x1024 .bf16 :=
  ((Memref.whole main_arg3).slice (Rect.unit (s := S4x480x1024) ![p.val, 0, 0] S1x480x1024.size (part_inb p)) (fun _ => rfl)).squeeze
    S480x1024 squeezes_S1x480x1024_S480x1024
abbrev slotM (p : Fin 4) : Memref sig .tc .hbm S480x1024 .bf16 :=
  ((Memref.whole main_v1_2).slice (Rect.unit (s := S4x480x1024) ![p.val, 0, 0] S1x480x1024.size (part_inb p)) (fun _ => rfl)).squeeze
    S480x1024 squeezes_S1x480x1024_S480x1024

/-- A part cut at an offset is the part that offset names. -/
theorem part_at (p : Fin 4) {off : Fin 3 → Nat} (e : off = ![p.val, 0, 0]) (h : ∀ a, off a + S1x480x1024.size a ≤ S4x480x1024.size a) :
    ((Memref.whole main_arg3).slice (Rect.unit (s := S4x480x1024) off S1x480x1024.size h) (fun _ => rfl)).squeeze
      S480x1024 squeezes_S1x480x1024_S480x1024 = partM p := by subst e; rfl
theorem slot_at (p : Fin 4) {off : Fin 3 → Nat} (e : off = ![p.val, 0, 0]) (h : ∀ a, off a + S1x480x1024.size a ≤ S4x480x1024.size a) :
    ((Memref.whole main_v1_2).slice (Rect.unit (s := S4x480x1024) off S1x480x1024.size h) (fun _ => rfl)).squeeze
      S480x1024 squeezes_S1x480x1024_S480x1024 = slotM p := by subst e; rfl

theorem off2_at (c : Dev nD) : k0_off2 c = ![(chip c).val, 0, 0] := by
  rw [k0_off2_eq]; revert c; decide
theorem off3_at (c : Dev nD) : k0_off3 c = ![(chip (over (some 0) c)).val, 0, 0] := by
  rw [k0_off3_eq]; revert c; decide
theorem off4_at (c : Dev nD) : k0_off4 c = ![(chip (over (some 1) c)).val, 0, 0] := by
  rw [k0_off4_eq]; revert c; decide
theorem off5_at (c : Dev nD) : k0_off5 c = ![(chip (over (some 2) c)).val, 0, 0] := by
  rw [k0_off5_eq]; revert c; decide

/-- The semaphores of the ways to other chips, and the one of a device's copy to itself. -/
abbrev leftS (j : Fin 3) : DmaSem sig :=
  ((cc0_scratch2.slice (Rect.unit (s := S1x3) ![0, j.val] S1x1.size (three_inb j))).squeeze S_ squeezes_S1x1_S_).sem
abbrev cameS (j : Fin 3) : DmaSem sig :=
  ((cc0_scratch3.slice (Rect.unit (s := S1x3) ![0, j.val] S1x1.size (three_inb j))).squeeze S_ squeezes_S1x1_S_).sem
abbrev ownS : DmaSem sig := ((cc0_scratch4.slice (Rect.unit (s := S1) ![0] S1.size inb_S1_S1_0)).squeeze S_ squeezes_S1_S_).sem

/-- What the copy of a part pays each semaphore. -/
def N2 : ℕ := (slotM 0).view.dmaCredit
theorem N2_pos : 0 < N2 := View.dmaCredit_pos _ (by decide)

theorem part_emb (p : Fin 4) (a : Fin 480) (b : Fin 1024) : (partM p).view.emb (ix2 a b) = (ix3 p a b : S4x480x1024.Idx) := by
  refine (congrArg ((Rect.unit (s := S4x480x1024) ![p.val, 0, 0] S1x480x1024.size (part_inb p)).emb)
    (ValueIdx.reshapeEquiv_ix2_1ab _ a b)).trans ?_
  blk_ext []
theorem slot_emb (p : Fin 4) (a : Fin 480) (b : Fin 1024) : (slotM p).view.emb (ix2 a b) = (ix3 p a b : S4x480x1024.Idx) := part_emb p a b

theorem part_disj : ∀ p q : Fin 4, p ≠ q → Disjoint (partM p).view.set (partM q).view.set := fun p q h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [part_emb, part_emb] at e
    have := congrArg (fun i : S4x480x1024.Idx => (i 0).val) e
    exact h (Fin.ext this.symm)
theorem slot_disj : ∀ p q : Fin 4, p ≠ q → Disjoint (slotM p).view.set (slotM q).view.set := part_disj

theorem part_cover : (Finset.univ.biUnion fun p : Fin 4 => (partM p).view.set) = (Finset.univ : Finset S4x480x1024.Idx) :=
  Finset.eq_univ_iff_forall.mpr fun i => Finset.mem_biUnion.mpr ⟨i 0, Finset.mem_univ _, by
    have e : (partM (i 0)).view.emb (ix2 (i 1) (i 2)) = i := (part_emb (i 0) (i 1) (i 2)).trans (by ext a; fin_cases a <;> rfl)
    have := View.emb_mem_set (partM (i 0)).view (ix2 (i 1) (i 2))
    rwa [e] at this⟩
theorem slot_cover : (Finset.univ.biUnion fun p : Fin 4 => (slotM p).view.set) = (Finset.univ : Finset S4x480x1024.Idx) := part_cover

end Cert.Kernel5Ideal.Cross
-- ==== Proof.CrossRounds.lean ====
/- The schedule of the two exchanges: one transfer to each of a device's fifteen semaphores. One paid when a block or a
   part has been read gives it back; one paid when a slot has been written gives the slot with what landed in it. -/
module

public import proofs.«01_k».proof.Proof.CrossCells

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What lands -/

/-- What the exchange leaves in a device's result: the partner's block of the device's own half. -/
def landed (c : Dev nD) : Buf (Elt F) ((c : Thread nD τ).loc main_v1_1) := fun i : S4x352x1024.Idx =>
  (m ((peer c : Thread nD τ).loc main_arg2) : S8x352x1024.Idx → _) (ix3 (⟨2 * (i 0).val + c.val % 2, by have : (i 0).val < 4 := (i 0).isLt; omega⟩ : Fin 8) (i 1) (i 2))

omit [FloatOps F] in
theorem landed_write (c : Dev nD) (q : Fin 4) (fd : Buf (Elt F) ((c : Thread nD τ).loc main_v1_1)) :
    ∀ i ∈ (dstM q).view.set, (dstM q).view.write (Elt F) fd ((srcM (peer c) q).view.read (Elt F) (m ((peer c : Thread nD τ).loc main_arg2))) Finset.univ i = landed m c i := by
  intro i hi
  obtain ⟨x, rfl⟩ := View.exists_emb_of_mem_set _ hi
  obtain ⟨a, b, rfl⟩ : ∃ a b, x = ix2 a b := ⟨x 0, x 1, by ext a; fin_cases a <;> rfl⟩
  refine (View.write_emb_of_mem _ _ (Finset.mem_univ (ix2 a b))).trans ?_
  rw [View.read_apply, src_emb, dst_emb]
  refine congrArg (m ((peer c : Thread nD τ).loc main_arg2) : S8x352x1024.Idx → _) ?_
  have hp := peer_par c
  ext a
  fin_cases a
  · show 2 * q.val + 1 - (peer c).val % 2 = 2 * q.val + c.val % 2; omega
  · rfl
  · rfl

/-- Block `q` of a device's operand, as it was launched. -/
def srcPts (c : Dev nD) (q : Fin 4) : sProp 𝕄 :=
  (srcM c q).view.loc (c : Thread nD τ) ↦[(srcM c q).view.set]{fullShare} m ((c : Thread nD τ).loc main_arg2)
/-- Slot `q` of a device's result at contents `f`. -/
def dstPts (c : Dev nD) (q : Fin 4) (f : Buf (Elt F) ((c : Thread nD τ).loc main_v1_1)) : sProp 𝕄 :=
  (dstM q).view.loc (c : Thread nD τ) ↦[(dstM q).view.set]{fullShare} f

omit [FloatOps F] in
instance srcPts_storable (c : Dev nD) (q : Fin 4) : BI.Storable (upEmb : UEmb _ 𝕄) (srcPts m c q) := by unfold srcPts; infer_instance
omit [FloatOps F] in
instance dstPts_storable (c : Dev nD) (q : Fin 4) (f) : BI.Storable (upEmb : UEmb _ 𝕄) (dstPts (F := F) c q f) := by unfold dstPts; infer_instance

omit [FloatOps F] in
/-- A result held whole is its four slots. -/
theorem slots_eq (c : Dev nD) (f : Buf (Elt F) ((c : Thread nD τ).loc main_v1_1)) :
    (((c : Thread nD τ).loc main_v1_1) ↦{fullShare} f : sProp 𝕄) = bigSep Finset.univ fun q => dstPts c q f := by
  refine Eq.trans ?_ (pointsTo_biUnion (ℓ := (c : Thread nD τ).loc main_v1_1) Finset.univ (fun q : Fin 4 => (dstM q).view.set) (fun q _ q' _ h => dst_disj q q' h))
  exact congrArg (fun I => (((c : Thread nD τ).loc main_v1_1) ↦[I]{fullShare} f : sProp 𝕄)) dst_cover.symm

/-- The rest of a device's operand: what no copy reads. -/
def restPts (c : Dev nD) : sProp 𝕄 :=
  ((c : Thread nD τ).loc main_arg2) ↦[Finset.univ \ (Finset.univ.biUnion fun q : Fin 4 => (srcM c q).view.set : Finset S8x352x1024.Idx)]{fullShare} m ((c : Thread nD τ).loc main_arg2)

omit [FloatOps F] in
theorem blocks_eq (c : Dev nD) :
    (((c : Thread nD τ).loc main_arg2) ↦{fullShare} m ((c : Thread nD τ).loc main_arg2) : sProp 𝕄)
      ⊣⊢ iprop((bigSep Finset.univ fun q => srcPts m c q) ∗ restPts m c) := by
  have e : (((c : Thread nD τ).loc main_arg2) ↦[Finset.univ.biUnion fun q : Fin 4 => (srcM c q).view.set]{fullShare} m ((c : Thread nD τ).loc main_arg2) : sProp 𝕄)
      = bigSep Finset.univ fun q => srcPts m c q := pointsTo_biUnion Finset.univ _ (fun q _ q' _ h => src_disj c q q' h)
  rw [← e]
  exact pointsTo_split_subset (Finset.subset_univ _)

/-! ## What lands from the other chips -/

/-- Each chip's part for the device's own chip, from the same core. -/
def came (c : Dev nD) : Buf (Elt F) ((c : Thread nD τ).loc main_v1_2) := fun i : S4x480x1024.Idx =>
  (m ((onChip (i 0) (core c) : Thread nD τ).loc main_arg3) : S4x480x1024.Idx → _) (ix3 (chip c) (i 1) (i 2))

omit [FloatOps F] in
theorem came_write (c : Dev nD) (h : Hop) (fd : Buf (Elt F) ((c : Thread nD τ).loc main_v1_2)) :
    ∀ i ∈ (slotM (chip (over h c))).view.set, (slotM (chip (over h c))).view.write (Elt F) fd
      ((partM (chip c)).view.read (Elt F) (m ((over h c : Thread nD τ).loc main_arg3))) Finset.univ i = came m c i := by
  intro i hi
  obtain ⟨x, rfl⟩ := View.exists_emb_of_mem_set _ hi
  obtain ⟨a, b, rfl⟩ : ∃ a b, x = ix2 a b := ⟨x 0, x 1, by ext a; fin_cases a <;> rfl⟩
  refine (View.write_emb_of_mem _ _ (Finset.mem_univ (ix2 a b))).trans ?_
  rw [View.read_apply, part_emb, slot_emb]
  show (m ((over h c : Thread nD τ).loc main_arg3) : S4x480x1024.Idx → _) (ix3 (chip c) a b)
    = (m ((onChip (chip (over h c)) (core c) : Thread nD τ).loc main_arg3) : S4x480x1024.Idx → _) (ix3 (chip c) a b)
  rw [onChip_over]

/-- The part a device sends one way, as it was launched, and the slot what comes that way fills. -/
def partPts (c : Dev nD) (h : Hop) : sProp 𝕄 :=
  (partM (chip (over h c))).view.loc (c : Thread nD τ) ↦[(partM (chip (over h c))).view.set]{fullShare} m ((c : Thread nD τ).loc main_arg3)
def slotPts (c : Dev nD) (h : Hop) (f : Buf (Elt F) ((c : Thread nD τ).loc main_v1_2)) : sProp 𝕄 :=
  (slotM (chip (over h c))).view.loc (c : Thread nD τ) ↦[(slotM (chip (over h c))).view.set]{fullShare} f

omit [FloatOps F] in
instance partPts_storable (c : Dev nD) (h : Hop) : BI.Storable (upEmb : UEmb _ 𝕄) (partPts m c h) := by unfold partPts; infer_instance
omit [FloatOps F] in
instance slotPts_storable (c : Dev nD) (h : Hop) (f) : BI.Storable (upEmb : UEmb _ 𝕄) (slotPts (F := F) c h f) := by unfold slotPts; infer_instance

omit [FloatOps F] in
/-- Either array held whole is its four pieces, one for each way. -/
theorem parts_eq (c : Dev nD) :
    (((c : Thread nD τ).loc main_arg3) ↦{fullShare} m ((c : Thread nD τ).loc main_arg3) : sProp 𝕄) = bigSep Finset.univ fun h => partPts m c h := by
  refine Eq.trans ?_ ((pointsTo_biUnion (ℓ := (c : Thread nD τ).loc main_arg3) Finset.univ (fun p : Fin 4 => (partM p).view.set) (fun p _ q _ h => part_disj p q h)).trans
    (bigSep_univ_equiv (ways c) _))
  exact congrArg (fun I => (((c : Thread nD τ).loc main_arg3) ↦[I]{fullShare} m ((c : Thread nD τ).loc main_arg3) : sProp 𝕄)) part_cover.symm
omit [FloatOps F] in
theorem arrivals_eq (c : Dev nD) (f : Buf (Elt F) ((c : Thread nD τ).loc main_v1_2)) :
    (((c : Thread nD τ).loc main_v1_2) ↦{fullShare} f : sProp 𝕄) = bigSep Finset.univ fun h => slotPts c h f := by
  refine Eq.trans ?_ ((pointsTo_biUnion (ℓ := (c : Thread nD τ).loc main_v1_2) Finset.univ (fun p : Fin 4 => (slotM p).view.set) (fun p _ q _ h => slot_disj p q h)).trans
    (bigSep_univ_equiv (ways c) _))
  exact congrArg (fun I => (((c : Thread nD τ).loc main_v1_2) ↦[I]{fullShare} f : sProp 𝕄)) slot_cover.symm

/-! ## The seven copies that leave a device -/

/-- A copy to the partner, or to one of the other chips. -/
abbrev Cp : Type := Fin 4 ⊕ Fin 3
/-- The device a copy goes to, which is the one its like comes from. -/
def mate : Cp → Dev nD → Dev nD
  | .inl _, c => peer c
  | .inr j, c => over (some j) c
theorem mate_mate (x : Cp) (c : Dev nD) : mate x (mate x c) = c := by
  cases x
  · exact peer_peer c
  · exact over_over _ c

/-- What copy `x` of a device reads, what its like fills there, at first and once landed. -/
def reads : Cp → Dev nD → sProp 𝕄
  | .inl q, c => srcPts m c q
  | .inr j, c => partPts m c (some j)
def awaits : Cp → Dev nD → sProp 𝕄
  | .inl q, c => dstPts c q (m ((c : Thread nD τ).loc main_v1_1))
  | .inr j, c => slotPts c (some j) (m ((c : Thread nD τ).loc main_v1_2))
def filled : Cp → Dev nD → sProp 𝕄
  | .inl q, c => dstPts c q (landed m c)
  | .inr j, c => slotPts c (some j) (came m c)

omit [FloatOps F] in
instance reads_storable (x : Cp) (c : Dev nD) : BI.Storable (upEmb : UEmb _ 𝕄) (reads m x c) := by
  cases x
  · exact srcPts_storable m c _
  · exact partPts_storable m c _
omit [FloatOps F] in
instance filled_storable (x : Cp) (c : Dev nD) : BI.Storable (upEmb : UEmb _ 𝕄) (filled m x c) := by
  cases x
  · exact dstPts_storable c _ _
  · exact slotPts_storable c _ _

/-! ## The schedule -/

/-- A device's fifteen semaphores: `some (false, x)` paid when copy `x` has read, `some (true, x)` when its like has
    written, `none` when the device's copy to itself is done. -/
abbrev Key : Type := Option (Bool × Cp)
abbrev sentS : Cp → DmaSem sig := fun x => Sum.elim sendS leftS x
abbrev gotS : Cp → DmaSem sig := fun x => Sum.elim recvS cameS x
abbrev osem (k : Key) : SemLoc sig := .dma (k.elim ownS fun p => bif p.1 then gotS p.2 else sentS p.2)
abbrev kcell (ck : Dev nD × Key) : GSem nD τ sig := ((ck.1 : Thread nD τ), osem ck.2)

/-- What a copy pays. -/
def amt : Key → ℕ
  | some (_, .inl _) => N
  | _ => N2
theorem amt_pos (k : Key) : 0 < amt k := by
  rcases k with _ | ⟨b, q | j⟩
  · exact N2_pos
  · exact N_pos
  · exact N2_pos

/-- Which of the fifteen a semaphore is. -/
def which : SemLoc sig → Option Key
  | .dma s => if s.val < 6 then none
    else if s.val < 10 then some (some (false, .inl (Fin.ofNat 4 (s.val - 6))))
    else if s.val < 14 then some (some (true, .inl (Fin.ofNat 4 (s.val - 10))))
    else if s.val < 17 then some (some (false, .inr (Fin.ofNat 3 (s.val - 14))))
    else if s.val < 20 then some (some (true, .inr (Fin.ofNat 3 (s.val - 17))))
    else some none
  | _ => none

theorem which_osem : ∀ k, which (osem k) = some k := by decide +kernel
theorem osem_inj : Function.Injective osem := fun k k' h => Option.some.inj ((which_osem k).symm.trans ((congrArg which h).trans (which_osem k')))

/-- What a semaphore's transfer hands over. -/
def pay (c : Dev nD) : Key → sProp 𝕄
  | none => iprop(slotPts c none (came m c) ∗ partPts m c none)
  | some (false, x) => reads m x c
  | some (true, x) => filled m x c

omit [FloatOps F] in
instance pay_storable (c : Dev nD) (k) : BI.Storable (upEmb : UEmb _ 𝕄) (pay m c k) := by
  obtain _ | ⟨_ | _, x⟩ := k
  · show BI.Storable upEmb iprop(slotPts c none (came m c) ∗ partPts m c none)
    infer_instance
  · exact reads_storable m x c
  · exact filled_storable m x c

def rd : Rounds.Schedule (GSem nD τ sig) Unit 𝕄 where
  duties g r := if r = 0 ∧ g.1.2 = .tc ∧ (which g.2).isSome then {()} else ∅
  unitless _ := False
  amount g _ _ := (which g.2).elim 1 amt
  payload g _ _ := (which g.2).elim iprop(emp) (pay m g.1.1)
  amount_pos g _ _ _ := by
    cases which g.2
    · exact Nat.one_pos
    · exact amt_pos _

omit [FloatOps F] in
instance rd_storable (g : GSem nD τ sig) (r : ℕ) (d : Unit) : BI.Storable (upEmb : UEmb _ 𝕄) ((rd m).payload g r d) := by
  show BI.Storable upEmb ((which g.2).elim iprop(emp) (pay m g.1.1))
  cases which g.2 <;> dsimp only [Option.elim] <;> infer_instance

omit [FloatOps F] in
theorem duties_cell (ck : Dev nD × Key) : (rd m).duties (kcell ck) 0 = {()} := by
  dsimp only [rd]; exact if_pos ⟨rfl, rfl, by rw [which_osem]; rfl⟩
omit [FloatOps F] in
theorem duties_later (g : GSem nD τ sig) : ∀ r, 1 ≤ r → (rd m).duties g r = ∅ :=
  fun r hr => by dsimp only [rd]; exact if_neg fun h => by omega
omit [FloatOps F] in
theorem amount_cell (ck : Dev nD × Key) (u : Unit) : (rd m).amount (kcell ck) 0 u = amt ck.2 := by
  dsimp only [rd]; rw [which_osem]; rfl
omit [FloatOps F] in
theorem expect_cell (ck : Dev nD × Key) : (rd m).expect (kcell ck) 0 = amt ck.2 := by
  unfold Schedule.expect Schedule.amountOf; rw [duties_cell, Finset.sum_singleton, amount_cell]
omit [FloatOps F] in
theorem payload_cell (ck : Dev nD × Key) (u : Unit) : (rd m).payload (kcell ck) 0 u = pay m ck.1 ck.2 := by
  dsimp only [rd]; rw [which_osem]; rfl
omit [FloatOps F] in
theorem rest_cell (ck : Dev nD × Key) :
    bigSep ((rd m).duties (kcell ck) 0 \ ∅) (fun u => (rd m).payload (kcell ck) 0 u) = pay m ck.1 ck.2 := by
  rw [Finset.sdiff_empty, duties_cell, bigSep_singleton, payload_cell]

/-! ## What a device owes, and in which order it may wait -/

/-- Device `c` owes the device copy `x` goes to its transfer. -/
abbrev due (c : Dev nD) (x : Cp) : CellTallies nD τ sig Unit := tallyAt (kcell (mate x c, some (true, x))) () (amt (some (true, x)))
def O₀ (c : Dev nD) : CellTallies nD τ sig Unit :=
  due c (.inr 2) + due c (.inr 1) + due c (.inr 0) + due c (.inl 3) + due c (.inl 2) + due c (.inl 1) + due c (.inl 0)

def L (g : GSem nD τ sig) : Finset Unit := if g.1.2 = .tc then {()} else ∅
def lv (g : GSem nD τ sig) (_ : Unit) : ℕ := if (which g.2).isSome then 1 else 0
theorem L_of_ne (g : GSem nD τ sig) (h : g.1.2 ≠ .tc) : L g = ∅ := if_neg h
theorem L_tc (c : Dev nD) (sm : SemLoc sig) : L ((c : Thread nD τ), sm) = {()} := if_pos rfl

theorem due_apply (c d : Dev nD) (x : Cp) (k : Key) :
    due d x (kcell (c, k)) () = if d = mate x c ∧ k = some (true, x) then amt k else 0 := by
  unfold due
  rw [tallyAt_apply]
  by_cases h : d = mate x c ∧ k = some (true, x)
  · obtain ⟨rfl, rfl⟩ := h
    rw [mate_mate, if_pos ⟨rfl, rfl⟩, if_pos ⟨rfl, rfl⟩]
  · rw [if_neg h, if_neg]
    intro h'
    have e : c = mate x d := Fin.ext (congrArg (fun g : GSem nD τ sig => g.1.1.val) h'.1)
    exact h ⟨by rw [e, mate_mate], osem_inj (congrArg Prod.snd h'.1)⟩

theorem O₀_pos {c : Dev nD} {g : GSem nD τ sig} {u : Unit} (h : 0 < O₀ c g u) : ∃ x, g = kcell (mate x c, some (true, x)) := by
  by_contra hn
  have hq (x : Cp) : due c x g u = 0 := by
    unfold due; rw [tallyAt_apply]; exact if_neg fun h' => hn ⟨x, h'.1⟩
  unfold O₀ at h
  simp only [Pi.add_apply, Finsupp.add_apply, hq] at h
  exact Nat.lt_irrefl 0 h

omit [FloatOps F] in
/-- The pipeline's own transfers may be waited for whatever the exchanges still owe. -/
theorem mayWait_stage (c : Dev nD) (s : DmaSem sig) (hs : which (.dma s) = none) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by obtain ⟨x, rfl⟩ := O₀_pos hg; exact Finset.mem_singleton_self _)
      (fun p hp => by rw [Finset.mem_singleton.mp hp]; dsimp only [lv]; rw [hs]; decide)
      (fun g u hg => by obtain ⟨x, rfl⟩ := O₀_pos hg; dsimp only [lv]; rw [which_osem]; exact Nat.one_pos)
  · rw [MayWait_zero]; iintro -; iempintro

theorem launch_recv (c : Dev nD) (x : Cp) :
    tallyOn (kcell (c, some (true, x))) (launchCredit (Pipeline.owing O₀) 0 (kcell (c, some (true, x))))
      = (tallyAt (kcell (c, some (true, x))) () (amt (some (true, x))) : CellTallies nD τ sig Unit) := by
  have h (d : Dev nD) : O₀ d (kcell (c, some (true, x))) () = if d = mate x c then amt (some (true, x)) else 0 := by
    unfold O₀
    simp only [Pi.add_apply, Finsupp.add_apply, due_apply, Option.some.injEq, Prod.mk.injEq, true_and]
    rcases x with q | j
    · fin_cases q <;> simp
    · fin_cases j <;> simp
  unfold tallyAt; refine congrArg _ (Finsupp.ext fun u => ?_); cases u
  rw [Pipeline.launchCredit_owing, Finsupp.single_eq_same, Finset.sum_congr rfl fun d _ => h d,
    Finset.sum_ite_eq' Finset.univ (mate x c) fun _ => amt (some (true, x)), if_pos (Finset.mem_univ _)]

omit [FloatOps F] in
/-- What the others owe a device at launch: the seven transfers to it. -/
theorem creds (c : Dev nD) : (Pipeline.launchCred O₀ c : sProp 𝕄) ⊢ bigSep Finset.univ fun x : Cp => cred (tallyAt (kcell (c, some (true, x))) () (amt (some (true, x)))) := by
  have hinj : Function.Injective fun x : Cp => osem (some (true, x)) := fun x y h => congrArg Prod.snd (Option.some.inj (osem_inj h))
  unfold Pipeline.launchCred
  refine (BI.bigSep_subset (Finset.subset_univ (Finset.univ.map ⟨_, hinj⟩))).trans ?_
  rw [bigSep_map]
  exact bigSep_mono fun x _ => Entails.of_eq (congrArg cred (launch_recv c x))

end Cert.Kernel5Ideal.Cross
-- ==== Proof.CrossSteps.lean ====
/- The steps of the body with its two exchanges: a load, a store, a block or a part leaving for another device, a part
   copied to the device itself, and the wait for a semaphore, each with what it takes and what it gives. -/
module

public import proofs.«01_k».proof.Proof.CrossRounds

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores of a whole staging buffer -/

section Owned
variable {Λ : Labels} {defs : Defs nD τ sig (Elt F) Λ} (𝒱 : Variants) (c : Dev nD) {cs : CoreSpace} {S : Shape} {e : EltTy}

omit [FloatOps F] in
theorem load_owned {α : Type} {Q : α → sProp 𝕄} {M : Memref sig .tc cs S e} {off : Fin S.rank → Nat} (h : off = fun _ => 0) (inb : ∀ a, off a + S.size a ≤ S.size a)
    {hl : M.view.LoadsAt (Rect.unit off S.size inb).toLoadRect} (X : S.Idx → Elt F e) {k : (S.Idx → Elt F e) → Prog (TpuEff nD τ sig (Elt F) Λ .tc) α} :
    (owns (c : Thread nD τ) M fullShare X : sProp 𝕄)
      ⊢ iprop((owns (c : Thread nD τ) M fullShare X -∗ wp frame (wpE defs 𝒱 (c : Thread nD τ) none) Set.univ (k X) Q)
        -∗ wp frame (wpE defs 𝒱 (c : Thread nD τ) none) Set.univ (.op (.load M (Rect.unit off S.size inb).toLoadRect hl) k) Q) := by
  have hS : M.view.setOn (Rect.unit off S.size inb).toLoadRect.set ⊆ M.view.set := Finset.map_subset_map.mpr (Finset.subset_univ _)
  unfold owns
  iintro ⟨%f, %hf, Hf⟩ Hk
  iapply (wp_load 𝒱 (c : Thread nD τ) none Set.univ (m := M) (S := M.view.set) (q := fullShare) (f := f) hS) $$ Hf
  iintro Hf
  rw [show M.view.readAt (Elt F) (Rect.unit off S.size inb).toLoadRect f = X from (congrArg (fun Y => View.ld Y (Rect.unit off S.size inb)) hf).trans (View.ld_unit_zero h inb X)]
  iapply Hk
  iexists f
  isplitr; · ipureintro; exact hf
  iexact Hf

theorem store_owned {α : Type} {Q : α → sProp 𝕄} {M : Memref sig .tc cs S e} {off : Fin S.rank → Nat} (h : off = fun _ => 0) (inb : ∀ a, off a + S.size a ≤ S.size a)
    {w : S.Idx → Elt F e} {hx : (M.access (Rect.unit off S.size inb)).Stores Finset.univ}
    {hm : (Finset.univ : Finset (Rect.unit off S.size inb).shape.Idx) = Finset.univ ∨ ∀ a, (Rect.unit off S.size inb).stride a = 1}
    {X : S.Idx → Elt F e} {k : PUnit → Prog (TpuEff nD τ sig (Elt F) Λ .tc) α} :
    (owns (c : Thread nD τ) M fullShare X : sProp 𝕄)
      ⊢ iprop((owns (c : Thread nD τ) M fullShare w -∗ wp frame (wpE defs 𝒱 (c : Thread nD τ) none) Set.univ (k ⟨⟩) Q)
        -∗ wp frame (wpE defs 𝒱 (c : Thread nD τ) none) Set.univ (.op (.store M (Rect.unit off S.size inb) w Finset.univ hx hm) k) Q) := by
  have hw (f : Buf (Elt F) (M.view.loc (c : Thread nD τ))) : M.view.read (Elt F) (M.view.writes (Elt F) f [⟨Rect.unit off S.size inb, w⟩]) = w :=
    (View.read_writes_eq_canon M.view f [⟨Rect.unit off S.size inb, w⟩] fun y => ⟨_, List.mem_singleton_self _, by subst h; show y ∈ (Rect.whole S).set; rw [← Rect.map_emb_univ]; exact Finset.mem_map.mpr ⟨y, Finset.mem_univ _, Rect.emb_whole_apply _ y⟩⟩).trans
      (View.canon_cons_unit_zero h inb w [])
  have hS : (M.access (Rect.unit off S.size inb)).set ⊆ M.view.set := by rw [View.set_slice]; exact Finset.map_subset_map.mpr (Finset.subset_univ _)
  unfold owns
  iintro ⟨%f, %hf, Hf⟩ Hk
  iapply (wp_store_writes₀ 𝒱 (c : Thread nD τ) none Set.univ (m := M) (w := w) (f := f) (S := M.view.set) hS) $$ Hf
  iintro Hf
  iapply Hk
  iexists _
  isplitr
  swap; · iexact Hf
  ipureintro; exact hw f

end Owned

/-- The launch's local definitions recurse by no measure. -/
abbrev 𝒱₀ : Variants := .none

/-! ## A copy leaves, and a semaphore is waited for -/

/-- Every semaphore's invariant, and that its first round is open. -/
def records (K : Dev nD × Key → ℕ) : sProp 𝕄 :=
  iprop((bigSep Finset.univ fun ck => cellInv ER (rd m) (K ck) (kcell ck)) ∗ bigSep Finset.univ fun ck => reached ER (kcell ck) 0)

omit [FloatOps F] in
instance records_persistent (K) : BI.Persistent (records (F := F) m K) := by unfold records; infer_instance

omit [FloatOps F] in
theorem inv_of (K) (ck) : records (F := F) m K ⊢ cellInv ER (rd m) (K ck) (kcell ck) := by
  unfold records
  iintro ⟨#H, -⟩
  iapply (show (bigSep Finset.univ fun ck => (cellInv ER (rd m) (K ck) (kcell ck) : sProp 𝕄)) ⊢ cellInv ER (rd m) (K ck) (kcell ck) from bigSep_elim (Finset.mem_univ ck)); iexact H

omit [FloatOps F] in
theorem open_of (K) (ck) : records (F := F) m K ⊢ reached ER (kcell ck) 0 := by
  unfold records
  iintro ⟨-, #H⟩
  iapply (show (bigSep Finset.univ fun ck : Dev nD × Key => (reached ER (kcell ck) 0 : sProp 𝕄)) ⊢ reached ER (kcell ck) 0 from bigSep_elim (Finset.mem_univ ck)); iexact H

/-- Device `c` issues copy `q`: it hands over its block and its partner's slot, and owes the slot no longer. -/
theorem step_send (K) (c n : Dev nD) (hn : n = peer c) (q : Fin 4) {s1 s2 : DmaSem sig} (h1 : s1 = sendS q) (h2 : s2 = recvS q)
    {src : Memref sig .tc .hbm S352x1024 .f32} (hs : src = srcM c q) {dst : Memref sig .tc .hbm S352x1024 .f32} (hd : dst = dstM q)
    {hsc : dst.view.ref.isScScratch = false} {hsrc : src.view.WordExact} {hdst : dst.view.WordExact}
    {hsem : DmaTarget.Typed .hbm (.dma s2) (.remote (Dev.tc n : Thread nD τ) dst (.dma s1) hsc)}
    {α : Type} {Q : α → sProp 𝕄} {k : PUnit → Prog (TpuEff nD τ sig (Elt F) Λ₀ .tc) α}
    (fn : Buf (Elt F) ((peer c : Thread nD τ).loc main_v1_1)) (O₁ O : CellTallies nD τ sig Unit) (hO : O₁ = O + due c (.inl q)) (W : Waits sig Unit) :
    iprop(records m K ∗ srcPts m c q ∗ dstPts (peer c) q fn ∗ owes (c : Thread nD τ) O₁ W
        ∗ dutyTok ER (kcell (c, some (false, .inl q))) 0 () ∗ dutyTok ER (kcell (peer c, some (true, .inl q))) 0 ())
      ⊢ iprop(((cred (tallyAt (kcell (c, some (false, .inl q))) () (amt (some (false, .inl q)))) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2 hs hd
  have hl : (dstPts (peer c) q ((dstM q).view.write (Elt F) fn ((srcM c q).view.read (Elt F) (m ((c : Thread nD τ).loc main_arg2))) Finset.univ) : sProp 𝕄)
      = dstPts (peer c) q (landed m (peer c)) := by
    unfold dstPts
    refine pointsTo_congr fun i hi => ?_
    have := landed_write m (peer c) q fn i hi
    rwa [peer_peer] at this
  have main := Rounds.wp_send_pointsTo (defs := defs₀ (F := F)) 𝒱₀ ER (rd m) (c : Thread nD τ) none (c' := (peer c : Thread nD τ)) (src := srcM c q) (dst := dstM q) (hsc := hsc)
    (sS := .dma (sendS q)) (sem := .dma (recvS q)) (hsrc := hsrc) (hdst := hdst) (hsem := hsem) (Q := Q) (k := k) (Γ := .empty)
    (κ₁ := K (c, some (false, .inl q))) (κ₂ := K (peer c, some (true, .inl q))) (q := fullShare) (fs := m ((c : Thread nD τ).loc main_arg2))
    (r₁ := 0) (r₂ := 0) (d₁ := ()) (d₂ := ()) (fd := fn) (Es := Set.univ)
    ((duties_cell m (c, some (false, .inl q))).symm ▸ Finset.mem_singleton_self ()) ((duties_cell m (peer c, some (true, .inl q))).symm ▸ Finset.mem_singleton_self ())
    () () N rfl (amount_cell m (c, some (false, .inl q)) ()) (amount_cell m (peer c, some (true, .inl q)) ()) O hO (W := W)
    (Entails.of_eq (payload_cell m (c, some (false, .inl q)) ()).symm) (Entails.of_eq (hl.trans (payload_cell m (peer c, some (true, .inl q)) ()).symm))
  iintro ⟨#HR, Hs, Hd, HO, Ht, Ht'⟩
  iapply main
  isplitr; · iapply (inv_of m K (c, some (false, .inl q))); iexact HR
  isplitr; · iapply (inv_of m K (peer c, some (true, .inl q))); iexact HR
  isplitl [Hs]; · unfold srcPts; iexact Hs
  isplitl [Hd]; · unfold dstPts; iexact Hd
  isplitl [HO]; · iexact HO
  isplitl [Ht]; · iexact Ht
  isplitr; · iapply (open_of m K (c, some (false, .inl q))); iexact HR
  isplitl [Ht']; · iexact Ht'
  iapply (open_of m K (peer c, some (true, .inl q))); iexact HR

/-- Device `c` sends a part to the same core of another chip. -/
theorem step_far (K) (c n : Dev nD) (j : Fin 3) (hn : n = over (some j) c) {s1 s2 : DmaSem sig} (h1 : s1 = leftS j) (h2 : s2 = cameS j)
    {src : Memref sig .tc .hbm S480x1024 .bf16} (hs : src = partM (chip (over (some j) c))) {dst : Memref sig .tc .hbm S480x1024 .bf16} (hd : dst = slotM (chip c))
    {hsc : dst.view.ref.isScScratch = false} {hsrc : src.view.WordExact} {hdst : dst.view.WordExact}
    {hsem : DmaTarget.Typed .hbm (.dma s2) (.remote (Dev.tc n : Thread nD τ) dst (.dma s1) hsc)}
    {α : Type} {Q : α → sProp 𝕄} {k : PUnit → Prog (TpuEff nD τ sig (Elt F) Λ₀ .tc) α}
    (fn : Buf (Elt F) ((over (some j) c : Thread nD τ).loc main_v1_2)) (O₁ O : CellTallies nD τ sig Unit) (hO : O₁ = O + due c (.inr j)) (W : Waits sig Unit) :
    iprop(records m K ∗ partPts m c (some j) ∗ slotPts (over (some j) c) (some j) fn ∗ owes (c : Thread nD τ) O₁ W
        ∗ dutyTok ER (kcell (c, some (false, .inr j))) 0 () ∗ dutyTok ER (kcell (over (some j) c, some (true, .inr j))) 0 ())
      ⊢ iprop(((cred (tallyAt (kcell (c, some (false, .inr j))) () (amt (some (false, .inr j)))) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2 hs hd
  have hl : ((slotM (chip c)).view.loc (over (some j) c : Thread nD τ) ↦[(slotM (chip c)).view.set]{fullShare}
        ((slotM (chip c)).view.write (Elt F) fn ((partM (chip (over (some j) c))).view.read (Elt F) (m ((c : Thread nD τ).loc main_arg3))) Finset.univ) : sProp 𝕄)
      = slotPts (over (some j) c) (some j) (came m (over (some j) c)) := by
    unfold slotPts
    have := came_write m (over (some j) c) (some j) fn
    rw [over_over] at this ⊢
    exact pointsTo_congr this
  have main := Rounds.wp_send_pointsTo (defs := defs₀ (F := F)) 𝒱₀ ER (rd m) (c : Thread nD τ) none (c' := (over (some j) c : Thread nD τ)) (src := partM (chip (over (some j) c))) (dst := slotM (chip c)) (hsc := hsc)
    (sS := .dma (leftS j)) (sem := .dma (cameS j)) (hsrc := hsrc) (hdst := hdst) (hsem := hsem) (Q := Q) (k := k) (Γ := .empty)
    (κ₁ := K (c, some (false, .inr j))) (κ₂ := K (over (some j) c, some (true, .inr j))) (q := fullShare) (fs := m ((c : Thread nD τ).loc main_arg3))
    (r₁ := 0) (r₂ := 0) (d₁ := ()) (d₂ := ()) (fd := fn) (Es := Set.univ)
    ((duties_cell m (c, some (false, .inr j))).symm ▸ Finset.mem_singleton_self ()) ((duties_cell m (over (some j) c, some (true, .inr j))).symm ▸ Finset.mem_singleton_self ())
    () () N2 rfl (amount_cell m (c, some (false, .inr j)) ()) (amount_cell m (over (some j) c, some (true, .inr j)) ()) O hO (W := W)
    (Entails.of_eq (payload_cell m (c, some (false, .inr j)) ()).symm) (Entails.of_eq (hl.trans (payload_cell m (over (some j) c, some (true, .inr j)) ()).symm))
  iintro ⟨#HR, Hs, Hd, HO, Ht, Ht'⟩
  iapply main
  isplitr; · iapply (inv_of m K (c, some (false, .inr j))); iexact HR
  isplitr; · iapply (inv_of m K (over (some j) c, some (true, .inr j))); iexact HR
  isplitl [Hs]; · unfold partPts; iexact Hs
  isplitl [Hd]; · unfold slotPts; rw [over_over]; iexact Hd
  isplitl [HO]; · iexact HO
  isplitl [Ht]; · iexact Ht
  isplitr; · iapply (open_of m K (c, some (false, .inr j))); iexact HR
  isplitl [Ht']; · iexact Ht'
  iapply (open_of m K (over (some j) c, some (true, .inr j))); iexact HR

/-- Device `c` copies the part of its own chip to itself. -/
theorem step_own (K) (c : Dev nD) {s : DmaSem sig} (h1 : s = ownS)
    {src : Memref sig .tc .hbm S480x1024 .bf16} (hs : src = partM (chip c)) {dst : Memref sig .tc .hbm S480x1024 .bf16} (hd : dst = slotM (chip c))
    {hsrc : src.view.WordExact} {hdst : dst.view.WordExact} {hsem : DmaTarget.Typed (τ := τ) (nD := nD) .hbm (.dma s) (.here (p := Proc.tc) dst)}
    {α : Type} {Q : α → sProp 𝕄} {k : PUnit → Prog (TpuEff nD τ sig (Elt F) Λ₀ .tc) α} (fd : Buf (Elt F) ((c : Thread nD τ).loc main_v1_2)) :
    iprop(records m K ∗ partPts m c none ∗ slotPts c none fd ∗ dutyTok ER (kcell (c, none)) 0 ())
      ⊢ iprop((cred (tallyAt (kcell (c, none)) () (amt none)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma s) hsrc hdst hsem) k) Q) := by
  subst h1 hs hd
  have hl : ((slotM (chip c)).view.loc (c : Thread nD τ) ↦[(slotM (chip c)).view.set]{fullShare}
        ((slotM (chip c)).view.write (Elt F) fd ((partM (chip c)).view.read (Elt F) (m ((c : Thread nD τ).loc main_arg3))) Finset.univ) : sProp 𝕄)
      = slotPts c none (came m c) := by
    unfold slotPts
    exact pointsTo_congr (came_write m c none fd)
  have main := Rounds.wp_copy_pointsTo (defs := defs₀ (F := F)) 𝒱₀ ER (rd m) (c : Thread nD τ) none (src := partM (chip c)) (dst := slotM (chip c))
    (sem := .dma ownS) (hsrc := hsrc) (hdst := hdst) (hsem := hsem) (Q := Q) (k := k) (Γ := .empty)
    (κ := K (c, none)) (q := fullShare) (fs := m ((c : Thread nD τ).loc main_arg3)) (r := 0) (d := ()) (fd := fd) (Es := Set.univ)
    ((duties_cell m (c, none)).symm ▸ Finset.mem_singleton_self ()) () N2 rfl (amount_cell m (c, none) ())
    ((sep_mono_left (Entails.of_eq hl)).trans (Entails.of_eq (payload_cell m (c, none) ()).symm))
  iintro ⟨#HR, Hs, Hd, Ht⟩
  iapply main
  isplitr; · iapply (inv_of m K (c, none)); iexact HR
  isplitl [Hs]; · unfold partPts; iexact Hs
  isplitl [Hd]; · unfold slotPts; iexact Hd
  isplitl [Ht]; · iexact Ht
  iapply (open_of m K (c, none)); iexact HR

/-- Device `c` waits for one of its fifteen semaphores: what its transfer hands over comes, and the semaphore stands at 0. -/
theorem step_wait (K) (c : Dev nD) (ck : Key) {s : DmaSem sig} (hs : SemLoc.dma s = osem ck)
    {R : Shape} {e : EltTy} {S T : Memref sig .tc .hbm R e} {hS : S.view.WordExact} {hT : T.view.WordExact} (hN : T.view.dmaCredit = amt ck)
    {α : Type} {Q : α → sProp 𝕄} {k : PUnit → Prog (TpuEff nD τ sig (Elt F) Λ₀ .tc) α} (W : Waits sig Unit) :
    iprop(records m K ∗ cred (tallyAt (kcell (c, ck)) () (amt ck)) ∗ owes (c : Thread nD τ) 0 W ∗ atPos ER (kcell (c, ck)) 0 ∅ 0)
      ⊢ iprop(((owes (c : Thread nD τ) 0 (insert (osem ck, ()) W) ∗ pay m c ck ∗ semVal (kcell (c, ck)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s S T hS hT) k) Q) := by
  have e₁ : (kcell (c, ck) : GSem nD τ sig) = ((c : Thread nD τ), SemLoc.dma s) := by rw [hs]
  iintro ⟨#HR, Hc, HO, Hat⟩ Hk
  rw [← hN]
  have main := Rounds.wp_wait_rest_token (defs := defs₀ (F := F)) 𝒱₀ ER (rd m) (c : Thread nD τ) none (κ := K (c, ck)) (Γ := .empty) (Q := Q) (k := k)
    (wpE_waitDma2_eq (defs := defs₀ (F := F)) (src := S) (dst := T) (sem := s) (hsrc := hS) (hdst := hT) 𝒱₀ (c : Thread nD τ) none Set.univ) (Set.mem_univ _) () (O := 0) (W := W) (R := 0) (m := 0) (T := ∅)
    (by rw [Nat.zero_add, ← e₁, expect_cell, hN])
  rw [← e₁] at main
  iapply main $$ [Hc HO Hat]
  · isplitr; · iapply (inv_of m K (c, ck)); iexact HR
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, ck))) (fun h => h) (R := 0 + 1) (duties_later m (kcell (c, ck)))) $$ [Hat] with Hz
  · isplitr; · iapply (inv_of m K (c, ck)); iexact HR
    iexact Hat
  iapply Hk
  isplitl [HO]; · rw [← hs]; iexact HO
  isplitl [Hpay]; · iapply (Entails.of_eq (rest_cell m (c, ck))); iexact Hpay
  iexact Hz

end Cert.Kernel5Ideal.Cross
-- ==== Proof.CrossKernel.lean ====
/- The body at a point of the grid: at the first the copies leave, at the last every semaphore is waited for, and at each
   the tile takes its product. -/
module

public import proofs.«01_k».proof.Proof.CrossSteps

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The seven copies' resources, one by one. -/
theorem sep_seven {M : Type} [URA M] (Φ : Cp → sProp M) :
    bigSep Finset.univ Φ = iprop(Φ (.inl 0) ∗ Φ (.inl 1) ∗ Φ (.inl 2) ∗ Φ (.inl 3) ∗ Φ (.inr 0) ∗ Φ (.inr 1) ∗ Φ (.inr 2)) :=
  bigSep_univ_eq_bigSepL [(.inl 0 : Cp), .inl 1, .inl 2, .inl 3, .inr 0, .inr 1, .inr 2] (by decide) (by decide) Φ

/-- The fifteen semaphores' resources: the one of the copy to the device itself, those of what leaves, those of what comes. -/
theorem by_kind {M : Type} [URA M] (Φ : Key → sProp M) :
    bigSep Finset.univ Φ = iprop(Φ none ∗ (bigSep Finset.univ fun x => Φ (some (false, x))) ∗ bigSep Finset.univ fun x => Φ (some (true, x))) := by
  have h2 (Ψ : Bool × Cp → sProp M) : bigSep Finset.univ Ψ = iprop((bigSep Finset.univ fun x => Ψ (false, x)) ∗ bigSep Finset.univ fun x => Ψ (true, x)) := by
    rw [bigSep_univ_prod]
    exact bigSep_univ_eq_bigSepL [false, true] (by decide) (by decide) _
  rw [← h2 fun p => Φ (some p), bigSep_univ_equiv (Equiv.optionEquivSumPUnit.{0, 0} (Bool × Cp)).symm Φ, bigSep_univ_sum]
  rw [bigSep_univ_eq_bigSepL [PUnit.unit.{1}] (by decide) (by decide) fun b : PUnit.{1} => Φ ((Equiv.optionEquivSumPUnit.{0, 0} (Bool × Cp)).symm (Sum.inr b))]
  refine Idealize.SL.BI.Entails.antisymm (show iprop((bigSep Finset.univ fun p => Φ (some p)) ∗ Φ none) ⊢ iprop(Φ none ∗ bigSep Finset.univ fun p => Φ (some p)) from ?_)
    (show iprop(Φ none ∗ bigSep Finset.univ fun p => Φ (some p)) ⊢ iprop((bigSep Finset.univ fun p => Φ (some p)) ∗ Φ none) from ?_)
  · iintro ⟨$, $⟩
  · iintro ⟨$, $⟩

/-- What copy `x` of a device needs to leave: what it reads, what it fills, and the right to pay the two semaphores. -/
def outgoing (c : Dev nD) (x : Cp) : sProp 𝕄 :=
  iprop(reads m x c ∗ awaits m x (mate x c) ∗ dutyTok ER (kcell (c, some (false, x))) 0 () ∗ dutyTok ER (kcell (mate x c, some (true, x))) 0 ())
/-- What its copy to itself needs. -/
def home (c : Dev nD) : sProp 𝕄 :=
  iprop(partPts m c none ∗ slotPts c none (m ((c : Thread nD τ).loc main_v1_2)) ∗ dutyTok ER (kcell (c, none)) 0 ())
def second (i : grid0.Coords) : BitVec 1 :=
  Scalar.cmpi .ne (Scalar.extui (Scalar.cmpi .eq (BitVec.ofNat 32 (i 2).val) 0#32)) 0#32

theorem hz2 : (![0, 0] : Fin 2 → Nat) = fun _ => 0 := funext fun a => by fin_cases a <;> rfl

section Kernel
variable (c : Dev nD) (i : grid0.Coords) (arg3 : Memref sig .tc .vmem S2048x1408 .bf16) (harg3 : arg3.IsWhole)
  (arg4 : Memref sig .tc .vmem S2048x1024 .bf16) (harg4 : arg4.IsWhole) (arg7 : Memref sig .tc .vmem S1408x1024 .f32) (harg7 : arg7.IsWhole)
  (x0 : Vec F S2048x1408 .bf16) (x1 : Vec F S2048x1024 .bf16) (y : Vec F S1408x1024 .f32)

/-- The three staging buffers. -/
def staged (X : Vec F S1408x1024 .f32) : sProp 𝕄 :=
  iprop(owns (c : Thread nD τ) arg3 fullShare x0 ∗ owns (c : Thread nD τ) arg4 fullShare x1 ∗ owns (c : Thread nD τ) arg7 fullShare X)

/-- The body on its operands. -/
abbrev kern : Prog (TpuEff nD τ sig (Elt F) Λ₀ .tc) PUnit :=
  cc0_wgrad_ffn1_up i arg3 harg3 arg4 harg4 (Memref.whole main_arg2) (Memref.isWhole_whole _) (Memref.whole main_arg3) (Memref.isWhole_whole _) arg7 harg7
    (Memref.whole main_v1_1) (Memref.isWhole_whole _) (Memref.whole main_v1_2) (Memref.isWhole_whole _)
    cc0_scratch0 cc0_scratch1 cc0_scratch2 cc0_scratch3 cc0_scratch4

set_option maxHeartbeats 3200000 in
/-- The first point of the whole grid: the copies leave, the tile starts at zero. -/
theorem kern_first (h1 : k0_cond1 i = 1#1) (h2 : second i = 1#1) (h3 : ¬k0_cond3 i = 1#1) (K) (W : Waits sig Unit) (Kt : PUnit → sProp 𝕄) :
    iprop(records m K ∗ (bigSep Finset.univ fun x => outgoing m c x) ∗ home m c ∗ owes (c : Thread nD τ) (O₀ c) W ∗ staged c arg3 arg4 arg7 x0 x1 y
        ∗ (((bigSep Finset.univ fun x : Cp => cred (tallyAt (kcell (c, some (false, x))) () (amt (some (false, x)))))
            ∗ cred (tallyAt (kcell (c, none)) () (amt none)) ∗ owes (c : Thread nD τ) 0 W
            ∗ staged c arg3 arg4 arg7 x0 x1 (k0_pay2 (k0_pay1 (F := F)) x0 x1)) -∗ Kt ⟨⟩))
      ⊢ wp frame (wpE (defs₀ (F := F)) 𝒱₀ (c : Thread nD τ) none) Set.univ (kern i arg3 harg3 arg4 harg4 arg7 harg7) Kt := by
  rw [sep_seven, sep_seven]
  unfold staged home outgoing
  simp only [reads, awaits, mate]
  iintro ⟨#HR, ⟨⟨Hs0, Hd0, Ht0, Hu0⟩, ⟨Hs1, Hd1, Ht1, Hu1⟩, ⟨Hs2, Hd2, Ht2, Hu2⟩, ⟨Hs3, Hd3, Ht3, Hu3⟩, ⟨Hs4, Hd4, Ht4, Hu4⟩, ⟨Hs5, Hd5, Ht5, Hu5⟩, ⟨Hs6, Hd6, Ht6, Hu6⟩⟩, ⟨Hs, Hd, Ht⟩, HO, ⟨H3, H4, H7⟩, Hk⟩
  simp only [kern, cc0_wgrad_ffn1_up_eq_skeleton]
  unfold cc0_wgrad_ffn1_up_skel
  have h2' : Scalar.cmpi .ne (Scalar.extui (Scalar.cmpi .eq (BitVec.ofNat 32 (i 2).val) 0#32)) 0#32 = 1#1 := h2
  simp only [dif_pos h1, dif_pos h2', dif_neg h3, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iapply (step_send m K c _ (peer_dev1 c _) 0 rfl rfl rfl rfl _ (O₀ c) (due c (.inr 2) + due c (.inr 1) + due c (.inr 0) + due c (.inl 3) + due c (.inl 2) + due c (.inl 1)) rfl W) $$ [Hs0 Hd0 HO Ht0 Hu0]
  · isplitr; · iexact HR
    isplitl [Hs0]; · iexact Hs0
    isplitl [Hd0]; · iexact Hd0
    isplitl [HO]; · iexact HO
    isplitl [Ht0] <;> iassumption
  iintro ⟨Hc0, HO⟩
  iapply (step_send m K c _ (peer_dev2 c _) 1 rfl rfl rfl rfl _ (due c (.inr 2) + due c (.inr 1) + due c (.inr 0) + due c (.inl 3) + due c (.inl 2) + due c (.inl 1)) (due c (.inr 2) + due c (.inr 1) + due c (.inr 0) + due c (.inl 3) + due c (.inl 2)) rfl W) $$ [Hs1 Hd1 HO Ht1 Hu1]
  · isplitr; · iexact HR
    isplitl [Hs1]; · iexact Hs1
    isplitl [Hd1]; · iexact Hd1
    isplitl [HO]; · iexact HO
    isplitl [Ht1] <;> iassumption
  iintro ⟨Hc1, HO⟩
  iapply (step_send m K c _ (peer_dev3 c _) 2 rfl rfl rfl rfl _ (due c (.inr 2) + due c (.inr 1) + due c (.inr 0) + due c (.inl 3) + due c (.inl 2)) (due c (.inr 2) + due c (.inr 1) + due c (.inr 0) + due c (.inl 3)) rfl W) $$ [Hs2 Hd2 HO Ht2 Hu2]
  · isplitr; · iexact HR
    isplitl [Hs2]; · iexact Hs2
    isplitl [Hd2]; · iexact Hd2
    isplitl [HO]; · iexact HO
    isplitl [Ht2] <;> iassumption
  iintro ⟨Hc2, HO⟩
  iapply (step_send m K c _ (peer_dev4 c _) 3 rfl rfl rfl rfl _ (due c (.inr 2) + due c (.inr 1) + due c (.inr 0) + due c (.inl 3)) (due c (.inr 2) + due c (.inr 1) + due c (.inr 0)) rfl W) $$ [Hs3 Hd3 HO Ht3 Hu3]
  · isplitr; · iexact HR
    isplitl [Hs3]; · iexact Hs3
    isplitl [Hd3]; · iexact Hd3
    isplitl [HO]; · iexact HO
    isplitl [Ht3] <;> iassumption
  iintro ⟨Hc3, HO⟩
  iapply (step_own m K c rfl (part_at _ (off2_at c) _) (slot_at _ (off2_at c) _) _) $$ [Hs Hd Ht]
  · isplitr; · iexact HR
    isplitl [Hs]; · iexact Hs
    isplitl [Hd] <;> iassumption
  iintro Hc
  iapply (step_far m K c _ 0 (over_dev5 c _) rfl rfl (part_at _ (off3_at c) _) (slot_at _ (off2_at c) _) _ (due c (.inr 2) + due c (.inr 1) + due c (.inr 0)) (due c (.inr 2) + due c (.inr 1)) rfl W) $$ [Hs4 Hd4 HO Ht4 Hu4]
  · isplitr; · iexact HR
    isplitl [Hs4]; · iexact Hs4
    isplitl [Hd4]; · iexact Hd4
    isplitl [HO]; · iexact HO
    isplitl [Ht4] <;> iassumption
  iintro ⟨Hc4, HO⟩
  iapply (step_far m K c _ 1 (over_dev6 c _) rfl rfl (part_at _ (off4_at c) _) (slot_at _ (off2_at c) _) _ (due c (.inr 2) + due c (.inr 1)) (due c (.inr 2)) rfl W) $$ [Hs5 Hd5 HO Ht5 Hu5]
  · isplitr; · iexact HR
    isplitl [Hs5]; · iexact Hs5
    isplitl [Hd5]; · iexact Hd5
    isplitl [HO]; · iexact HO
    isplitl [Ht5] <;> iassumption
  iintro ⟨Hc5, HO⟩
  iapply (step_far m K c _ 2 (over_dev7 c _) rfl rfl (part_at _ (off5_at c) _) (slot_at _ (off2_at c) _) _ (due c (.inr 2)) (0) (zero_add _).symm W) $$ [Hs6 Hd6 HO Ht6 Hu6]
  · isplitr; · iexact HR
    isplitl [Hs6]; · iexact Hs6
    isplitl [Hd6]; · iexact Hd6
    isplitl [HO]; · iexact HO
    isplitl [Ht6] <;> iassumption
  iintro ⟨Hc6, HO⟩
  iapply (load_owned 𝒱₀ c hz2 _ y) $$ H7; iintro H7
  iapply (store_owned 𝒱₀ c hz2 _) $$ H7; iintro H7
  iapply (load_owned 𝒱₀ c hz2 _ (k0_pay1 (F := F))) $$ H7; iintro H7
  iapply (load_owned 𝒱₀ c hz2 _ x0) $$ H3; iintro H3
  iapply (load_owned 𝒱₀ c hz2 _ x1) $$ H4; iintro H4
  iapply (load_owned 𝒱₀ c hz2 _ (k0_pay1 (F := F))) $$ H7; iintro H7
  iapply (store_owned 𝒱₀ c hz2 _) $$ H7; iintro H7
  rw [wp_ret]; imodintro
  iapply Hk
  isplitl [Hc0 Hc1 Hc2 Hc3 Hc4 Hc5 Hc6]
  · isplitl [Hc0]; · iexact Hc0
    isplitl [Hc1]; · iexact Hc1
    isplitl [Hc2]; · iexact Hc2
    isplitl [Hc3]; · iexact Hc3
    isplitl [Hc4]; · iexact Hc4
    isplitl [Hc5] <;> iassumption
  isplitl [Hc]; · iexact Hc
  isplitl [HO]; · iexact HO
  isplitl [H3]; · iexact H3
  isplitl [H4]; · iexact H4
  iexact H7

set_option maxHeartbeats 1600000 in
/-- A point that starts a tile at zero and touches no copy. -/
theorem kern_zero (h1 : ¬k0_cond1 i = 1#1) (h2 : second i = 1#1) (h3 : ¬k0_cond3 i = 1#1) (Kt : PUnit → sProp 𝕄) :
    iprop(staged c arg3 arg4 arg7 x0 x1 y ∗ (staged c arg3 arg4 arg7 x0 x1 (k0_pay2 (k0_pay1 (F := F)) x0 x1) -∗ Kt ⟨⟩))
      ⊢ wp frame (wpE (defs₀ (F := F)) 𝒱₀ (c : Thread nD τ) none) Set.univ (kern i arg3 harg3 arg4 harg4 arg7 harg7) Kt := by
  unfold staged
  iintro ⟨⟨H3, H4, H7⟩, Hk⟩
  simp only [kern, cc0_wgrad_ffn1_up_eq_skeleton]
  unfold cc0_wgrad_ffn1_up_skel
  have h2' : Scalar.cmpi .ne (Scalar.extui (Scalar.cmpi .eq (BitVec.ofNat 32 (i 2).val) 0#32)) 0#32 = 1#1 := h2
  simp only [dif_neg h1, dif_pos h2', dif_neg h3, Prog.lift, Prog.bind_op, Prog.bind_ret, Prog.pure_eq_ret]
  iapply (load_owned 𝒱₀ c hz2 _ y) $$ H7; iintro H7
  iapply (store_owned 𝒱₀ c hz2 _) $$ H7; iintro H7
  iapply (load_owned 𝒱₀ c hz2 _ (k0_pay1 (F := F))) $$ H7; iintro H7
  iapply (load_owned 𝒱₀ c hz2 _ x0) $$ H3; iintro H3
  iapply (load_owned 𝒱₀ c hz2 _ x1) $$ H4; iintro H4
  iapply (load_owned 𝒱₀ c hz2 _ (k0_pay1 (F := F))) $$ H7; iintro H7
  iapply (store_owned 𝒱₀ c hz2 _) $$ H7; iintro H7
  rw [wp_ret]; imodintro
  iapply Hk
  isplitl [H3]; · iexact H3
  isplitl [H4]; · iexact H4
  iexact H7

set_option maxHeartbeats 1600000 in
/-- A point that adds to its tile and touches no copy. -/
theorem kern_add (h1 : ¬k0_cond1 i = 1#1) (h2 : ¬second i = 1#1) (h3 : ¬k0_cond3 i = 1#1) (Kt : PUnit → sProp 𝕄) :
    iprop(staged c arg3 arg4 arg7 x0 x1 y ∗ (staged c arg3 arg4 arg7 x0 x1 (k0_pay2 y x0 x1) -∗ Kt ⟨⟩))
      ⊢ wp frame (wpE (defs₀ (F := F)) 𝒱₀ (c : Thread nD τ) none) Set.univ (kern i arg3 harg3 arg4 harg4 arg7 harg7) Kt := by
  unfold staged
  iintro ⟨⟨H3, H4, H7⟩, Hk⟩
  simp only [kern, cc0_wgrad_ffn1_up_eq_skeleton]
  unfold cc0_wgrad_ffn1_up_skel
  have h2' : ¬Scalar.cmpi .ne (Scalar.extui (Scalar.cmpi .eq (BitVec.ofNat 32 (i 2).val) 0#32)) 0#32 = 1#1 := h2
  simp only [dif_neg h1, dif_neg h2', dif_neg h3, Prog.lift, Prog.bind_op, Prog.bind_ret, Prog.pure_eq_ret]
  iapply (load_owned 𝒱₀ c hz2 _ y) $$ H7; iintro H7
  iapply (load_owned 𝒱₀ c hz2 _ x0) $$ H3; iintro H3
  iapply (load_owned 𝒱₀ c hz2 _ x1) $$ H4; iintro H4
  iapply (load_owned 𝒱₀ c hz2 _ y) $$ H7; iintro H7
  iapply (store_owned 𝒱₀ c hz2 _) $$ H7; iintro H7
  rw [wp_ret]; imodintro
  iapply Hk
  isplitl [H3]; · iexact H3
  isplitl [H4]; · iexact H4
  iexact H7

/-- A transfer's amount is its block's size, or its part's, whatever the block or the part. -/
theorem credit_block (T : Memref sig .tc .hbm S352x1024 .f32) (b : Bool) (q : Fin 4) : T.view.dmaCredit = amt (some (b, .inl q)) := rfl
theorem credit_part (T : Memref sig .tc .hbm S480x1024 .bf16) (b : Bool) (j : Fin 3) : T.view.dmaCredit = amt (some (b, .inr j)) := rfl
theorem credit_own (T : Memref sig .tc .hbm S480x1024 .bf16) : T.view.dmaCredit = amt none := rfl

set_option maxHeartbeats 3200000 in
/-- The last point of the whole grid: the tile is finished, then every semaphore is waited for. -/
theorem kern_last (h1 : ¬k0_cond1 i = 1#1) (h2 : ¬second i = 1#1) (h3 : k0_cond3 i = 1#1) (K) (W : Waits sig Unit) (Kt : PUnit → sProp 𝕄) :
    iprop(records m K ∗ (bigSep Finset.univ fun k => cred (tallyAt (kcell (c, k)) () (amt k))) ∗ (bigSep Finset.univ fun k => atPos ER (kcell (c, k)) 0 ∅ 0)
        ∗ owes (c : Thread nD τ) 0 W ∗ staged c arg3 arg4 arg7 x0 x1 y
        ∗ (((bigSep Finset.univ fun k => pay m c k) ∗ (bigSep Finset.univ fun k => semVal (kcell (c, k)) 0)
            ∗ (∃ W', owes (c : Thread nD τ) 0 W') ∗ staged c arg3 arg4 arg7 x0 x1 (k0_pay2 y x0 x1)) -∗ Kt ⟨⟩))
      ⊢ wp frame (wpE (defs₀ (F := F)) 𝒱₀ (c : Thread nD τ) none) Set.univ (kern i arg3 harg3 arg4 harg4 arg7 harg7) Kt := by
  simp only [by_kind, sep_seven]
  unfold staged
  iintro ⟨#HR, ⟨Hc, ⟨Hcs0, Hcs1, Hcs2, Hcs3, Hcs4, Hcs5, Hcs6⟩, ⟨Hcr0, Hcr1, Hcr2, Hcr3, Hcr4, Hcr5, Hcr6⟩⟩, ⟨Ha, ⟨Has0, Has1, Has2, Has3, Has4, Has5, Has6⟩, ⟨Har0, Har1, Har2, Har3, Har4, Har5, Har6⟩⟩, HO, ⟨H3, H4, H7⟩, Hk⟩
  simp only [kern, cc0_wgrad_ffn1_up_eq_skeleton]
  unfold cc0_wgrad_ffn1_up_skel
  have h2' : ¬Scalar.cmpi .ne (Scalar.extui (Scalar.cmpi .eq (BitVec.ofNat 32 (i 2).val) 0#32)) 0#32 = 1#1 := h2
  simp only [dif_neg h1, dif_neg h2', dif_pos h3, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret, wp_deviceId]
  iapply (load_owned 𝒱₀ c hz2 _ y) $$ H7; iintro H7
  iapply (load_owned 𝒱₀ c hz2 _ x0) $$ H3; iintro H3
  iapply (load_owned 𝒱₀ c hz2 _ x1) $$ H4; iintro H4
  iapply (load_owned 𝒱₀ c hz2 _ y) $$ H7; iintro H7
  iapply (store_owned 𝒱₀ c hz2 _) $$ H7; iintro H7
  rw [wp_deviceId]
  iapply (step_wait m K c (some (false, .inl 0)) rfl (credit_block _ _ _) _) $$ [Hcs0 HO Has0]
  · isplitr; · iexact HR
    isplitl [Hcs0]; · iexact Hcs0
    isplitl [HO]; · iexact HO
    iexact Has0
  iintro ⟨HO, Hps0, Hzs0⟩
  iapply (step_wait m K c (some (true, .inl 0)) rfl (credit_block _ _ _) _) $$ [Hcr0 HO Har0]
  · isplitr; · iexact HR
    isplitl [Hcr0]; · iexact Hcr0
    isplitl [HO]; · iexact HO
    iexact Har0
  iintro ⟨HO, Hpr0, Hzr0⟩
  iapply (step_wait m K c (some (false, .inl 1)) rfl (credit_block _ _ _) _) $$ [Hcs1 HO Has1]
  · isplitr; · iexact HR
    isplitl [Hcs1]; · iexact Hcs1
    isplitl [HO]; · iexact HO
    iexact Has1
  iintro ⟨HO, Hps1, Hzs1⟩
  iapply (step_wait m K c (some (true, .inl 1)) rfl (credit_block _ _ _) _) $$ [Hcr1 HO Har1]
  · isplitr; · iexact HR
    isplitl [Hcr1]; · iexact Hcr1
    isplitl [HO]; · iexact HO
    iexact Har1
  iintro ⟨HO, Hpr1, Hzr1⟩
  iapply (step_wait m K c (some (false, .inl 2)) rfl (credit_block _ _ _) _) $$ [Hcs2 HO Has2]
  · isplitr; · iexact HR
    isplitl [Hcs2]; · iexact Hcs2
    isplitl [HO]; · iexact HO
    iexact Has2
  iintro ⟨HO, Hps2, Hzs2⟩
  iapply (step_wait m K c (some (true, .inl 2)) rfl (credit_block _ _ _) _) $$ [Hcr2 HO Har2]
  · isplitr; · iexact HR
    isplitl [Hcr2]; · iexact Hcr2
    isplitl [HO]; · iexact HO
    iexact Har2
  iintro ⟨HO, Hpr2, Hzr2⟩
  iapply (step_wait m K c (some (false, .inl 3)) rfl (credit_block _ _ _) _) $$ [Hcs3 HO Has3]
  · isplitr; · iexact HR
    isplitl [Hcs3]; · iexact Hcs3
    isplitl [HO]; · iexact HO
    iexact Has3
  iintro ⟨HO, Hps3, Hzs3⟩
  iapply (step_wait m K c (some (true, .inl 3)) rfl (credit_block _ _ _) _) $$ [Hcr3 HO Har3]
  · isplitr; · iexact HR
    isplitl [Hcr3]; · iexact Hcr3
    isplitl [HO]; · iexact HO
    iexact Har3
  iintro ⟨HO, Hpr3, Hzr3⟩
  iapply (step_wait m K c (some (true, .inr 0)) rfl (credit_part _ _ _) _) $$ [Hcr4 HO Har4]
  · isplitr; · iexact HR
    isplitl [Hcr4]; · iexact Hcr4
    isplitl [HO]; · iexact HO
    iexact Har4
  iintro ⟨HO, Hpr4, Hzr4⟩
  iapply (step_wait m K c (some (true, .inr 1)) rfl (credit_part _ _ _) _) $$ [Hcr5 HO Har5]
  · isplitr; · iexact HR
    isplitl [Hcr5]; · iexact Hcr5
    isplitl [HO]; · iexact HO
    iexact Har5
  iintro ⟨HO, Hpr5, Hzr5⟩
  iapply (step_wait m K c (some (true, .inr 2)) rfl (credit_part _ _ _) _) $$ [Hcr6 HO Har6]
  · isplitr; · iexact HR
    isplitl [Hcr6]; · iexact Hcr6
    isplitl [HO]; · iexact HO
    iexact Har6
  iintro ⟨HO, Hpr6, Hzr6⟩
  iapply (step_wait m K c (some (false, .inr 0)) rfl (credit_part _ _ _) _) $$ [Hcs4 HO Has4]
  · isplitr; · iexact HR
    isplitl [Hcs4]; · iexact Hcs4
    isplitl [HO]; · iexact HO
    iexact Has4
  iintro ⟨HO, Hps4, Hzs4⟩
  iapply (step_wait m K c (some (false, .inr 1)) rfl (credit_part _ _ _) _) $$ [Hcs5 HO Has5]
  · isplitr; · iexact HR
    isplitl [Hcs5]; · iexact Hcs5
    isplitl [HO]; · iexact HO
    iexact Has5
  iintro ⟨HO, Hps5, Hzs5⟩
  iapply (step_wait m K c (some (false, .inr 2)) rfl (credit_part _ _ _) _) $$ [Hcs6 HO Has6]
  · isplitr; · iexact HR
    isplitl [Hcs6]; · iexact Hcs6
    isplitl [HO]; · iexact HO
    iexact Has6
  iintro ⟨HO, Hps6, Hzs6⟩
  iapply (step_wait m K c none rfl (credit_own _) _) $$ [Hc HO Ha]
  · isplitr; · iexact HR
    isplitl [Hc]; · iexact Hc
    isplitl [HO]; · iexact HO
    iexact Ha
  iintro ⟨HO, Hp, Hz⟩
  rw [wp_ret]; imodintro
  iapply Hk
  isplitl [Hp Hps0 Hps1 Hps2 Hps3 Hps4 Hps5 Hps6 Hpr0 Hpr1 Hpr2 Hpr3 Hpr4 Hpr5 Hpr6]
  · isplitl [Hp]; · iexact Hp
    isplitl [Hps0 Hps1 Hps2 Hps3 Hps4 Hps5 Hps6]
    · isplitl [Hps0]; · iexact Hps0
      isplitl [Hps1]; · iexact Hps1
      isplitl [Hps2]; · iexact Hps2
      isplitl [Hps3]; · iexact Hps3
      isplitl [Hps4]; · iexact Hps4
      isplitl [Hps5] <;> iassumption
    isplitl [Hpr0]; · iexact Hpr0
    isplitl [Hpr1]; · iexact Hpr1
    isplitl [Hpr2]; · iexact Hpr2
    isplitl [Hpr3]; · iexact Hpr3
    isplitl [Hpr4]; · iexact Hpr4
    isplitl [Hpr5] <;> iassumption
  isplitl [Hz Hzs0 Hzs1 Hzs2 Hzs3 Hzs4 Hzs5 Hzs6 Hzr0 Hzr1 Hzr2 Hzr3 Hzr4 Hzr5 Hzr6]
  · isplitl [Hz]; · iexact Hz
    isplitl [Hzs0 Hzs1 Hzs2 Hzs3 Hzs4 Hzs5 Hzs6]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5] <;> iassumption
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5] <;> iassumption
  isplitl [HO]; · iexists _; iexact HO
  isplitl [H3]; · iexact H3
  isplitl [H4]; · iexact H4
  iexact H7

end Kernel

end Cert.Kernel5Ideal.Cross
-- ==== Proof.CrossData.lean ====
/- What the pipeline's loop keeps from point to point beside its staging buffers, the contents of those buffers, and the
   body's obligation at every point of the grid. -/
module

public import proofs.«01_k».proof.Proof.CrossKernel

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the pipeline's loop keeps -/

/-- Before the first point: every semaphore unpaid, the others' debts to the device, and what its copies need. -/
def phi0 (c : Dev nD) : sProp 𝕄 :=
  iprop(∃ K, records m K ∗ (bigSep Finset.univ fun k => atPos ER (kcell (c, k)) 0 ∅ 0)
    ∗ (bigSep Finset.univ fun x : Cp => cred (tallyAt (kcell (c, some (true, x))) () (amt (some (true, x))))) ∗ restPts m c
    ∗ (bigSep Finset.univ fun x => outgoing m c x) ∗ home m c)
/-- While the copies are on their way. -/
def phi1 (c : Dev nD) : sProp 𝕄 :=
  iprop(∃ K, records m K ∗ (bigSep Finset.univ fun k => atPos ER (kcell (c, k)) 0 ∅ 0)
    ∗ (bigSep Finset.univ fun x : Cp => cred (tallyAt (kcell (c, some (true, x))) () (amt (some (true, x))))) ∗ restPts m c
    ∗ (bigSep Finset.univ fun x : Cp => cred (tallyAt (kcell (c, some (false, x))) () (amt (some (false, x))))) ∗ cred (tallyAt (kcell (c, none)) () (amt none)))
/-- After the last point: what was sent back, what came written, the semaphores at zero. -/
def phi2 (c : Dev nD) : sProp 𝕄 :=
  iprop(restPts m c ∗ (bigSep Finset.univ fun k => pay m c k) ∗ bigSep Finset.univ fun k => semVal (kcell (c, k)) 0)

/-- The point before. -/
abbrev prev (t : Fin cfg0.N) : Fin cfg0.N := ⟨t.val - 1, lt_of_le_of_lt (Nat.sub_le _ _) t.isLt⟩
/-- A tile after its first point, and after point `t`. -/
def started (c : Dev nD) (t : Fin cfg0.N) : Vec F S1408x1024 .f32 := k0_pay2 (k0_pay1 (F := F)) (iblk m c 0 t) (iblk m c 1 t)
def tileAt (c : Dev nD) (t : Fin cfg0.N) : Vec F S1408x1024 .f32 :=
  if t.val % 2 = 0 then started m c t else k0_pay2 (started m c (prev t)) (iblk m c 0 t) (iblk m c 1 t)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => tileAt m c t
  Φ t := if t.val = 0 then phi0 m c else if t.val < 4 then phi1 m c else phi2 m c
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]

theorem phi_eq (c : Dev nD) (t : Fin (cfg0.N + 1)) : (dats m 0 c).Φ t = if t.val = 0 then phi0 m c else if t.val < 4 then phi1 m c else phi2 m c := by
  dsimp only [dats]
theorem owed_eq (c : Dev nD) (t : Fin (cfg0.N + 1)) : (dats m 0 c).owed t = if t.val = 0 then O₀ c else 0 := by dsimp only [dats]

/-- An operand's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
/-- At a tile's second point its buffer holds what the first left. -/
theorem before_2 (c : Dev nD) (t : Fin cfg0.N) (h : t.val % 2 = 1) (d) : (dats m 0 c).before 2 t d = started m c (prev t) := by
  have hN : t.val < 4 := lt_of_lt_of_eq t.isLt N_0
  rw [Dat.before_out_kept _ 2 rfl t (by omega) (Bool.eq_false_iff.mpr fun h' => by have := (flush0_2 _).mp h'; dsimp only at this; omega)
    (fun _ => rfl) (fun _ _ => rfl), after_2]
  exact if_pos (show (t.val - 1) % 2 = 0 by omega)

/-! ## The conditions at a point -/

theorem cond_first : ∀ t : Fin cfg0.N, k0_cond1 (grid0.coords t) = 1#1 ↔ t.val = 0 := by decide +kernel
theorem cond_second : ∀ t : Fin cfg0.N, second (grid0.coords t) = 1#1 ↔ t.val % 2 = 0 := by decide +kernel
theorem cond_last : ∀ t : Fin cfg0.N, k0_cond3 (grid0.coords t) = 1#1 ↔ t.val = 3 := by decide +kernel

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What is owed, and that any waits may have been recorded. -/
theorem owesAt_eq (c : Dev nD) (t : Fin (cfg0.N + 1)) :
    (dats m 0 c).owesAt () t = (iprop(∃ W, owes (c : Thread nD τ) (if t.val = 0 then O₀ c else 0) W) : sProp 𝕄) := by
  unfold Dat.owesAt Pipeline.owesWithin
  rw [owed_eq]
  refine Idealize.SL.BI.Entails.antisymm (show (_ : sProp 𝕄) ⊢ _ from ?_) (show (_ : sProp 𝕄) ⊢ _ from ?_)
  · iintro ⟨%W, -, H⟩; iexists W; iexact H
  · iintro ⟨%W, H⟩; iexists W
    isplitr; · ipureintro; exact fun _ _ => Or.inl trivial
    iexact H

omit [FloatOps F] in
theorem creds_all (c : Dev nD) :
    (iprop(cred (tallyAt (kcell (c, none)) () (amt none)) ∗ (bigSep Finset.univ fun x : Cp => cred (tallyAt (kcell (c, some (false, x))) () (amt (some (false, x)))))
        ∗ bigSep Finset.univ fun x : Cp => cred (tallyAt (kcell (c, some (true, x))) () (amt (some (true, x))))) : sProp 𝕄)
      ⊢ bigSep Finset.univ fun k => cred (tallyAt (kcell (c, k)) () (amt k)) := by
  rw [by_kind]

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  have hN : t.val < 4 := lt_of_lt_of_eq t.isLt N_0
  unfold bodyPre bodyPost
  simp only [before_0, before_1, after_0, after_1, after_2, owesAt_eq, phi_eq, Fin.val_castSucc, Fin.val_succ]
  rw [if_neg (show ¬t.val + 1 = 0 by omega), if_neg (show ¬t.val + 1 = 0 by omega)]
  by_cases h0 : t.val = 0
  · rw [if_pos h0, if_pos h0, if_pos (show t.val + 1 < 4 by omega)]
    rw [show tileAt m c t = k0_pay2 (k0_pay1 (F := F)) (iblk m c 0 t) (iblk m c 1 t) from if_pos (show t.val % 2 = 0 by omega)]
    unfold phi0 phi1
    iintro ⟨⟨%K, #HR, Hat, Hc, Hr, Ho, Hh⟩, ⟨%W, HO⟩, ⟨%d0, H0⟩, ⟨%d1, H1⟩, ⟨%d2, H2⟩⟩
    iapply (kern_first m c (grid0.coords t) (st0_0 t) _ (st0_1 t) _ (st0_2 t) _ (iblk m c 0 t) (iblk m c 1 t) _ ((cond_first t).mpr h0) ((cond_second t).mpr (by omega))
      (fun h => by have := (cond_last t).mp h; omega) K W)
    unfold staged
    isplitr; · iexact HR
    isplitl [Ho]; · iexact Ho
    isplitl [Hh]; · iexact Hh
    isplitl [HO]; · iexact HO
    isplitl [H0 H1 H2]
    · isplitl [H0]; · iexact H0
      isplitl [H1]; · iexact H1
      iexact H2
    iintro ⟨Hs, Hh, HO, H0, H1, H2⟩
    isplitl [Hat Hc Hr Hs Hh]
    · iexists K
      isplitr; · iexact HR
      isplitl [Hat]; · iexact Hat
      isplitl [Hc]; · iexact Hc
      isplitl [Hr]; · iexact Hr
      isplitl [Hs] <;> iassumption
    isplitl [HO]; · iexists W; iexact HO
    isplitl [H0]; · iexact H0
    isplitl [H1]; · iexact H1
    iexact H2
  rw [if_neg h0, if_neg h0, if_pos (show t.val < 4 by omega)]
  have hc1 : ¬k0_cond1 (grid0.coords t) = 1#1 := fun h => h0 ((cond_first t).mp h)
  by_cases h3 : t.val = 3
  · rw [if_neg (show ¬t.val + 1 < 4 by omega)]
    simp only [before_2 m c t (show t.val % 2 = 1 by omega)]
    rw [show tileAt m c t = k0_pay2 (started m c (prev t)) (iblk m c 0 t) (iblk m c 1 t) from if_neg (show ¬t.val % 2 = 0 by omega)]
    unfold phi1 phi2
    iintro ⟨⟨%K, #HR, Hat, Hc, Hr, Hs, Hh⟩, ⟨%W, HO⟩, ⟨%d0, H0⟩, ⟨%d1, H1⟩, ⟨%d2, H2⟩⟩
    iapply (kern_last m c (grid0.coords t) (st0_0 t) _ (st0_1 t) _ (st0_2 t) _ (iblk m c 0 t) (iblk m c 1 t) _ hc1 (fun h => by have := (cond_second t).mp h; omega)
      ((cond_last t).mpr h3) K W)
    unfold staged
    isplitr; · iexact HR
    isplitl [Hs Hc Hh]
    · iapply (creds_all c)
      isplitl [Hh]; · iexact Hh
      isplitl [Hs] <;> iassumption
    isplitl [Hat]; · iexact Hat
    isplitl [HO]; · iexact HO
    isplitl [H0 H1 H2]
    · isplitl [H0]; · iexact H0
      isplitl [H1]; · iexact H1
      iexact H2
    iintro ⟨Hp, Hz, HO, H0, H1, H2⟩
    isplitl [Hr Hp Hz]
    · isplitl [Hr]; · iexact Hr
      isplitl [Hp] <;> iassumption
    isplitl [HO]; · iexact HO
    isplitl [H0]; · iexact H0
    isplitl [H1]; · iexact H1
    iexact H2
  rw [if_pos (show t.val + 1 < 4 by omega)]
  have hc3 : ¬k0_cond3 (grid0.coords t) = 1#1 := fun h => h3 ((cond_last t).mp h)
  by_cases h2 : t.val % 2 = 0
  · rw [show tileAt m c t = k0_pay2 (k0_pay1 (F := F)) (iblk m c 0 t) (iblk m c 1 t) from if_pos h2]
    iintro ⟨HΦ, HO, ⟨%d0, H0⟩, ⟨%d1, H1⟩, ⟨%d2, H2⟩⟩
    iapply (kern_zero c (grid0.coords t) (st0_0 t) _ (st0_1 t) _ (st0_2 t) _ (iblk m c 0 t) (iblk m c 1 t) _ hc1 ((cond_second t).mpr h2) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2
  · simp only [before_2 m c t (show t.val % 2 = 1 by omega)]
    rw [show tileAt m c t = k0_pay2 (started m c (prev t)) (iblk m c 0 t) (iblk m c 1 t) from if_neg h2]
    iintro ⟨HΦ, HO, ⟨%d0, H0⟩, ⟨%d1, H1⟩, ⟨%d2, H2⟩⟩
    iapply (kern_add c (grid0.coords t) (st0_0 t) _ (st0_1 t) _ (st0_2 t) _ (iblk m c 0 t) (iblk m c 1 t) _ hc1 (fun h => h2 ((cond_second t).mp h)) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

end Cert.Kernel5Ideal.Cross
-- ==== Proof.CrossGhost.lean ====
/- The ghost state at launch, and the operands and results of every device dealt to the devices that copy between them. -/
module

public import proofs.«01_k».proof.Proof.CrossData

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's ghost state -/

theorem ownSemFacts : Pipeline.OwnSemFacts cfg0.spec osem := by decide +kernel
theorem share_eq (c : Dev nD) (w : Fin cfg0.W) : (dats m 0 c).share w = fullShare := by unfold Dat.share; split <;> rfl

theorem kcell_injective : Function.Injective (kcell : Dev nD × Key → GSem nD τ sig) := by
  rintro ⟨c, k⟩ ⟨d, l⟩ h
  have hc : c = d := congrArg (fun g : GSem nD τ sig => g.1.1) h
  have hk : k = l := osem_inj (congrArg Prod.snd h)
  rw [hc, hk]

/-- The fifteen semaphores of every device, and the one transfer to each. -/
def crossCells : Finset (GSem nD τ sig) := Finset.univ.map ⟨kcell, kcell_injective⟩
def crossToks : Finset (GSem nD τ sig × ℕ × Unit) :=
  Finset.univ.map ⟨fun ck : Dev nD × Key => (kcell ck, 0, ()), fun _ _ h => kcell_injective (congrArg Prod.fst h)⟩
def u₀ : UU := (initOf (Pipeline.cells cfgs cellOf_inj) (Pipeline.launchToks cfgs cellOf_inj), initOf crossCells crossToks)

/-- A device's part: its schedule's state, its place in it, and the tokens of the transfers to it. -/
def share0 (c : Dev nD) : sProp 𝕄 :=
  iprop((bigSep Finset.univ fun k => roundState ER (rd m) (kcell (c, k)) 0) ∗ (bigSep Finset.univ fun k => reached ER (kcell (c, k)) 0)
    ∗ (bigSep Finset.univ fun k => atPos ER (kcell (c, k)) 0 ∅ 0) ∗ bigSep Finset.univ fun k => dutyTok ER (kcell (c, k)) 0 ())

omit [FloatOps F] in
theorem fund_cross : BI.own (ER (initOf crossCells crossToks)) ⊢ (|==> bigSep Finset.univ (share0 m) : sProp 𝕄) := by
  have hX (Φ : GSem nD τ sig → sProp 𝕄) : bigSep crossCells Φ = bigSep Finset.univ fun c : Dev nD => bigSep Finset.univ fun k : Key => Φ (kcell (c, k)) := by
    unfold crossCells; rw [bigSep_map, bigSep_univ_prod]; rfl
  have hT : bigSep crossToks (fun x => (dutyTok ER x.1 x.2.1 x.2.2 : sProp 𝕄))
      = bigSep Finset.univ fun c : Dev nD => bigSep Finset.univ fun k : Key => dutyTok ER (kcell (c, k)) 0 () := by
    unfold crossToks; rw [bigSep_map, bigSep_univ_prod]; rfl
  iintro H
  imod (Rounds.fund ER (rd m) crossCells crossToks) $$ H with ⟨Hs, Hr, Ha, Ht⟩
  imodintro
  ihave Hs := (Entails.of_eq (hX fun g => roundState ER (rd m) g 0)) $$ Hs
  ihave Hr := (Entails.of_eq (hX fun g => reached ER g 0)) $$ Hr
  ihave Ha := (Entails.of_eq (hX fun g => atPos ER g 0 ∅ 0)) $$ Ha
  ihave Ht := (Entails.of_eq hT) $$ Ht
  unfold share0; simp only [bigSep_sep']
  isplitl [Hs]; · iexact Hs
  isplitl [Hr]; · iexact Hr
  isplitl [Ha]; · iexact Ha
  iexact Ht

theorem ownU_start : (ownU u₀ : sProp 𝕄)
    ⊢ |={Set.univ}=> iprop(BI.own (EP (initOf (Pipeline.cells cfgs cellOf_inj) (Pipeline.launchToks cfgs cellOf_inj))) ∗ bigSep Finset.univ (share0 m)) := by
  unfold u₀
  iintro H
  ihave H := (ownU_pair _ _) $$ H
  icases H with ⟨HP, HX⟩
  imod (fund_cross m) $$ HX with HG
  imodintro
  isplitl [HP]; · iexact HP
  iexact HG

/-! ## The operands and the results dealt out -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k => semVal (kcell (c, k)) 0 := rfl

/-- Something for each way: for the device itself, and for the three others. -/
theorem sep_hop {M : Type} [URA M] (Φ : Hop → sProp M) : bigSep Finset.univ Φ = iprop(Φ none ∗ bigSep Finset.univ fun j : Fin 3 => Φ (some j)) := by
  rw [bigSep_univ_eq_bigSepL [(none : Hop), some 0, some 1, some 2] (by decide) (by decide) Φ,
    bigSep_univ_eq_bigSepL [(0 : Fin 3), 1, 2] (by decide) (by decide) fun j => Φ (some j)]
  rfl
/-- Something for each copy: for those to the partner, and for those to the other chips. -/
theorem sep_cp {M : Type} [URA M] (Φ : Cp → sProp M) :
    bigSep Finset.univ Φ = iprop((bigSep Finset.univ fun q : Fin 4 => Φ (.inl q)) ∗ bigSep Finset.univ fun j : Fin 3 => Φ (.inr j)) := bigSep_univ_sum Φ

/-- What a device brings, and what it works with: the others' results in place of its own. -/
def brought (c : Dev nD) : sProp 𝕄 :=
  iprop((bigSep Finset.univ fun k => atPos ER (kcell (c, k)) 0 ∅ 0) ∗ restPts m c ∗ (bigSep Finset.univ fun x => reads m x c)
    ∗ (bigSep Finset.univ fun x => awaits m x c) ∗ (bigSep Finset.univ fun x : Cp => dutyTok ER (kcell (c, some (false, x))) 0 ())
    ∗ (bigSep Finset.univ fun x : Cp => dutyTok ER (kcell (c, some (true, x))) 0 ()) ∗ home m c)
def dealt (c : Dev nD) : sProp 𝕄 :=
  iprop((bigSep Finset.univ fun k => atPos ER (kcell (c, k)) 0 ∅ 0) ∗ restPts m c ∗ (bigSep Finset.univ fun x => outgoing m c x) ∗ home m c)

/-- The devices and their copies, each taken to the device the copy goes to. -/
def cross : Dev nD × Cp ≃ Dev nD × Cp where
  toFun p := (mate p.2 p.1, p.2)
  invFun p := (mate p.2 p.1, p.2)
  left_inv p := Prod.ext (mate_mate p.2 p.1) rfl
  right_inv p := Prod.ext (mate_mate p.2 p.1) rfl

omit [FloatOps F] in
theorem across (Φ : Cp → Dev nD → sProp 𝕄) :
    (bigSep Finset.univ fun c => bigSep Finset.univ fun x => Φ x c) = bigSep Finset.univ fun c => bigSep Finset.univ fun x => Φ x (mate x c) := by
  rw [← bigSep_univ_prod (fun p : Dev nD × Cp => Φ p.2 p.1), ← bigSep_univ_prod (fun p : Dev nD × Cp => Φ p.2 (mate p.2 p.1))]
  exact bigSep_univ_equiv cross _

omit [FloatOps F] in
theorem trade : bigSep Finset.univ (brought m) ⊢ bigSep Finset.univ (dealt m) := by
  have hd := across (F := F) fun x c => awaits m x c
  have ht := across (F := F) fun x c => dutyTok ER (kcell (c, some (true, x))) 0 ()
  unfold brought dealt outgoing
  simp only [bigSep_sep']
  iintro ⟨Ha, Hr, Hs, Hd, Ht, Hu, Hh⟩
  ihave Hd := (Entails.of_eq hd) $$ Hd
  ihave Hu := (Entails.of_eq ht) $$ Hu
  isplitl [Ha]; · iexact Ha
  isplitl [Hr]; · iexact Hr
  isplitl [Hs Hd Ht Hu]
  · isplitl [Hs]; · iexact Hs
    isplitl [Hd]; · iexact Hd
    isplitl [Ht]; · iexact Ht
    iexact Hu
  iexact Hh

omit [FloatOps F] in
/-- The four arrays the exchanges use, cut into what each copy reads and fills. -/
theorem cut (c : Dev nD) :
    iprop((((c : Thread nD τ).loc main_arg2) ↦{fullShare} m ((c : Thread nD τ).loc main_arg2))
        ∗ (((c : Thread nD τ).loc main_arg3) ↦{fullShare} m ((c : Thread nD τ).loc main_arg3))
        ∗ (((c : Thread nD τ).loc main_v1_1) ↦{fullShare} m ((c : Thread nD τ).loc main_v1_1))
        ∗ (((c : Thread nD τ).loc main_v1_2) ↦{fullShare} m ((c : Thread nD τ).loc main_v1_2)))
      ⊢ (iprop(restPts m c ∗ (bigSep Finset.univ fun x => reads m x c) ∗ (bigSep Finset.univ fun x => awaits m x c)
          ∗ partPts m c none ∗ slotPts c none (m ((c : Thread nD τ).loc main_v1_2))) : sProp 𝕄) := by
  rw [parts_eq, slots_eq, arrivals_eq, sep_hop, sep_hop, sep_cp, sep_cp]
  dsimp only [reads, awaits]
  iintro ⟨H2, ⟨Hp, Hps⟩, H1, Hq, Hqs⟩
  ihave H2 := (blocks_eq m c).1 $$ H2
  icases H2 with ⟨Hx, Hrest⟩
  isplitl [Hrest]; · iexact Hrest
  isplitl [Hx Hps]
  · isplitl [Hx]; · iexact Hx
    iexact Hps
  isplitl [H1 Hqs]
  · isplitl [H1]; · iexact H1
    iexact Hqs
  isplitl [Hp] <;> iassumption

omit [FloatOps F] in
/-- And put together again, the results as they landed. -/
theorem mend (c : Dev nD) :
    iprop(restPts m c ∗ bigSep Finset.univ fun k => pay m c k)
      ⊢ (iprop((((c : Thread nD τ).loc main_arg2) ↦{fullShare} m ((c : Thread nD τ).loc main_arg2))
        ∗ (((c : Thread nD τ).loc main_arg3) ↦{fullShare} m ((c : Thread nD τ).loc main_arg3))
        ∗ (((c : Thread nD τ).loc main_v1_1) ↦{fullShare} landed m c) ∗ (((c : Thread nD τ).loc main_v1_2) ↦{fullShare} came m c)) : sProp 𝕄) := by
  rw [parts_eq, slots_eq, arrivals_eq, sep_hop, sep_hop, by_kind, sep_cp, sep_cp]
  dsimp only [pay, reads, filled]
  iintro ⟨Hrest, ⟨Hq, Hp⟩, ⟨Hx, Hps⟩, H1, Hqs⟩
  isplitl [Hx Hrest]
  · iapply (blocks_eq m c).2
    isplitl [Hx]; · iexact Hx
    iexact Hrest
  isplitl [Hp Hps]
  · isplitl [Hp]; · iexact Hp
    iexact Hps
  isplitl [H1]; · iexact H1
  isplitl [Hq]; · iexact Hq
  iexact Hqs

/-- What a device starts its kernel with. -/
def ready (c : Dev nD) : sProp 𝕄 := iprop(∃ K, records m K ∗ dealt m c)

theorem opened (c : Dev nD) :
    iprop(Pipeline.ownSems0 (Ix := Unit) (Name := ℕ) (U := UU) (Lvl := ℕ) (Val := Elt F) (τ := τ) osem c ∗ Pipeline.unscopedRest cfg0.spec c (V m c) ∗ share0 m c)
      ⊢ |={Set.univ}=> iprop((bigSep Finset.univ fun k => iprop(∃ κ : ℕ, cellInv ER (rd m) κ (kcell (c, k))))
          ∗ (bigSep Finset.univ fun k => (reached ER (kcell (c, k)) 0 : sProp 𝕄)) ∗ brought m c) := by
  unfold share0 brought
  rw [ownSems0_eq, show (Pipeline.unscopedRest cfg0.spec c (V m c) : sProp 𝕄) = _ from unscopedRest0_eq c (V m c), by_kind fun k => (dutyTok ER (kcell (c, k)) 0 () : sProp 𝕄)]
  unfold home
  iintro ⟨Hv, Hx, Hs, Hr, Ha, Hn, Ht, Hu⟩
  ihave Hx := (cut m c) $$ Hx
  icases Hx with ⟨Hrest, Hx, Hy, Hp, Hq⟩
  imod (show iprop((bigSep Finset.univ fun k => semVal (kcell (c, k)) 0) ∗ bigSep Finset.univ fun k => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hs] with HI
  · isplitl [Hv] <;> iassumption
  imodintro
  isplitl [HI]; · iexact HI
  isplitl [Hr]; · iexact Hr
  isplitl [Ha]; · iexact Ha
  isplitl [Hrest]; · iexact Hrest
  isplitl [Hx]; · iexact Hx
  isplitl [Hy]; · iexact Hy
  isplitl [Ht]; · iexact Ht
  isplitl [Hu]; · iexact Hu
  isplitl [Hp]; · iexact Hp
  isplitl [Hq]; · iexact Hq
  iexact Hn

omit [FloatOps F] in
theorem regroup :
    (bigSep Finset.univ fun c : Dev nD => iprop((bigSep Finset.univ fun k => iprop(∃ κ : ℕ, cellInv ER (rd m) κ (kcell (c, k))))
          ∗ (bigSep Finset.univ fun k => reached ER (kcell (c, k)) 0) ∗ brought m c) : sProp 𝕄)
      ⊢ bigSep Finset.univ (ready m) := by
  rw [bigSep_sep', bigSep_sep', ← bigSep_univ_prod (fun ck : Dev nD × Key => iprop(∃ κ : ℕ, cellInv ER (rd m) κ (kcell ck))),
    ← bigSep_univ_prod (fun ck : Dev nD × Key => (reached ER (kcell ck) 0 : sProp 𝕄))]
  iintro ⟨HI, #HR, Hb⟩
  ihave HK := (BI.bigSep_exists_pi Finset.univ (fun (ck : Dev nD × Key) (κ : ℕ) => (cellInv ER (rd m) κ (kcell ck) : sProp 𝕄))) $$ HI
  icases HK with ⟨%K, #HI⟩
  ihave Hd := (trade m) $$ Hb
  iapply (show iprop(records m K ∗ bigSep Finset.univ (dealt m)) ⊢ bigSep Finset.univ (ready m) from
    (sep_mono_left (BI.bigSep_of_persistent Finset.univ (records m K))).trans (by
      rw [← bigSep_sep']
      refine bigSep_mono fun c _ => ?_
      show iprop(records m K ∗ dealt m c) ⊢ ready m c
      unfold ready
      iintro ⟨#H, Hd⟩
      iexists K
      isplitr; · iexact H
      iexact Hd))
  isplitr
  · unfold records; isplitl; · iexact HI
    iexact HR
  · iexact Hd

theorem glob :
    (bigSep Finset.univ fun c => iprop(Pipeline.ownSems0 (Ix := Unit) (Name := ℕ) (U := UU) (Lvl := ℕ) (Val := Elt F) (τ := τ) osem c
        ∗ Pipeline.unscopedRest cfg0.spec c (V m c) ∗ share0 m c) : sProp 𝕄)
      ⊢ |={Set.univ}=> bigSep Finset.univ (ready m) :=
  ((bigSep_mono fun c _ => opened m c).trans (bigSep_fupd _ _)).trans (BI.fupd_mono (regroup m))

/-! ## Into the loop and out of it -/

theorem enter (c : Dev nD) :
    iprop((Pipeline.launchCred O₀ c ∗ ready m c)
        ∗ Pipeline.prefHeld Pipeline.Prefetch.none c (fun _ => fullShare.right) (fun k => k.elim0) ∗ Pipeline.scopedRest cfg0.spec c)
      ⊢ (dats m 0 c).Φ 0 := by
  rw [phi_eq, if_pos (show (0 : Fin (cfg0.N + 1)).val = 0 from rfl)]
  unfold phi0 ready dealt
  iintro ⟨⟨Hc, ⟨%K, #HR, Ha, Hr, Ho, Hh⟩⟩, -⟩
  ihave Hc := (creds (F := F) c) $$ Hc
  iexists K
  isplitr; · iexact HR
  isplitl [Ha]; · iexact Ha
  isplitl [Hc]; · iexact Hc
  isplitl [Hr]; · iexact Hr
  isplitl [Ho] <;> iassumption

/-- What a device keeps at the end, besides its windows' arrays: the operands as they were, the results as they landed. -/
def kept (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_v1_1) ↦{fullShare} landed m c) ∗ (((c : Thread nD τ).loc main_v1_2) ↦{fullShare} came m c))

theorem leave (c : Dev nD) :
    (dats m 0 c).Φ (Fin.last cfg0.N) ⊢ iprop(kept m c ∗ Pipeline.ownSems0 osem c ∗ Pipeline.scopedRest cfg0.spec c) := by
  have h4 : (Fin.last cfg0.N).val = 4 := N_0
  rw [phi_eq, if_neg (by omega), if_neg (by omega), ownSems0_eq, show (Pipeline.scopedRest cfg0.spec c : sProp 𝕄) = _ from scopedRest0_eq c]
  unfold phi2 kept
  iintro ⟨Hr, Hp, Hv⟩
  isplitr [Hv]
  · iapply (mend m c)
    isplitl [Hr] <;> iassumption
  isplitl [Hv]; · iexact Hv
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rw [owed_eq]; split
      · exact Or.inl rfl
      · exact Or.inr rfl)

end Cert.Kernel5Ideal.Cross
-- ==== Proof.CrossStart.lean ====
/- From a launch of the eight devices to what each device starts its program with. -/
module

public import proofs.«01_k».proof.Proof.CrossGhost

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds before its program and after it -/

abbrev idle (c : Dev nD) : sProp 𝕄 := Pipeline.idleSems0 cfgs cellOf_inj (0 : Fin 1) ownSemFacts c
abbrev own0 (c : Dev nD) : sProp 𝕄 := Pipeline.ownSems0 (Ix := Unit) (Name := ℕ) (U := UU) (Lvl := ℕ) (Val := Elt F) (τ := τ) osem c

/-- The windows' arrays at contents `A`. -/
def windows (c : Dev nD) (A : (w : Fin cfg0.W) → Buf (Elt F) ((cfg0.spec w).arr.view.loc (c.tc : Thread nD τ))) : sProp 𝕄 :=
  bigSep Finset.univ fun w => (((c.tc : Thread nD τ).loc (Pipeline.arrRef cfg0.spec w)) ↦{fullShare} A w : sProp 𝕄)
/-- The windows' arrays once every tile is written back. -/
def finalA (c : Dev nD) (w : Fin cfg0.W) : Buf (Elt F) ((cfg0.spec w).arr.view.loc (c.tc : Thread nD τ)) := (dats m 0 c).arrAt w cfg0.N

theorem windows_eq (c : Dev nD) (A : (w : Fin cfg0.W) → Buf (Elt F) ((cfg0.spec w).arr.view.loc (c.tc : Thread nD τ))) : (dats m 0 c).arrays A = (windows c A : sProp 𝕄) :=
  Pipeline.arrays_eq cfgs (dats m) (0 : Fin 1) c arr_whole0 (share_eq m c) A

/-- What a device starts with. -/
def before (g : Dev nD → PrngReg) (c : Dev nD) : sProp 𝕄 :=
  iprop(scopedBufs (c : Thread nD τ) ∗ Pipeline.cellsSems0 cfgs (0 : Fin 1) c ∗ idle c ∗ windows c (fun w => V m c (Pipeline.arrRef cfg0.spec w))
    ∗ owes (c : Thread nD τ) (O₀ c) ∅ ∗ levAts L lv ∗ Pipeline.launchCred O₀ c ∗ Pipeline.cellsGhost cfgs EP (0 : Fin 1) c ∗ Pipeline.toksInit cfgs EP (0 : Fin 1) c ∗ ready m c)
/-- What it ends with. -/
def afterwards (c : Dev nD) : sProp 𝕄 := iprop(windows c (finalA m c) ∗ kept m c ∗ scopedSems0 (c : Thread nD τ))

theorem sems_split (c : Dev nD) : (scopedSems0 (c.tc : Thread nD τ) : sProp 𝕄) = iprop((Pipeline.cellsSems0 cfgs (0 : Fin 1) c ∗ own0 c) ∗ idle c) :=
  Pipeline.scopedSems0_split cfgs cellOf_inj (0 : Fin 1) winFacts0.to₀ ownSemFacts c
theorem bufs_split (c : Dev nD) : (scopedBufs (c.tc : Thread nD τ) : sProp 𝕄) = iprop(Dat.staging (cfgs 0) c ∗ Pipeline.scopedRest (cfgs 0).spec c) :=
  Pipeline.scopedBufs_split cfgs (0 : Fin 1) winFacts0.to₀.stage_scoped winFacts0.to₀.stage_inj stage_whole0 c
theorem mem_split (c : Dev nD) : (unscopedBufs c (V m c) : sProp 𝕄)
    = iprop(windows c (fun w => V m c (Pipeline.arrRef cfg0.spec w)) ∗ Pipeline.unscopedRest cfg0.spec c (V m c)) :=
  Pipeline.unscopedBufs_split cfgs (0 : Fin 1) winFacts0.to₀.arr_unscoped winFacts0.arr_inj c (V m c)

/-! ## From a launch to what every device starts with -/

/-- What the launch gives a device. -/
def given (g : Dev nD → PrngReg) (c : Dev nD) : sProp 𝕄 :=
  iprop((scopedBufs (c : Thread nD τ) ∗ Pipeline.cellsSems0 cfgs (0 : Fin 1) c ∗ idle c ∗ windows c (fun w => V m c (Pipeline.arrRef cfg0.spec w))
      ∗ owes (c : Thread nD τ) (O₀ c) ∅ ∗ Pipeline.launchCred O₀ c)
    ∗ (own0 c ∗ Pipeline.unscopedRest cfg0.spec c (V m c))
    ∗ levels0 (Ix := Unit) (Val := Elt F) (Name := ℕ) (U := UU) (Lvl := ℕ) (τ := τ) (sig := sig) c)

theorem given_intro (g : Dev nD → PrngReg) (c : Dev nD) :
    coreInit (Ix := Unit) (Name := ℕ) (U := UU) (Lvl := ℕ) (Pipeline.owing O₀) 0 (⟨m, fun _ => 0, g⟩ : MemSt nD τ sig (Elt F)) (c.tc : Thread nD τ) ⊢ given m g c := by
  refine (Pipeline.coreInit_boundary_owing O₀ m g c).trans ?_
  unfold boundary given
  rw [sems_split c, show (unscopedBufs c fun b => m ((c.tc : Thread nD τ).loc b) : sProp 𝕄) = _ from mem_split m c]
  iintro ⟨⟨Hb, ⟨⟨Hc, Ho⟩, Hi⟩, -⟩, ⟨Hw, Hr⟩, -, HO, Hl, -, Hcr⟩
  isplitl [Hb Hc Hi Hw HO Hcr]
  · isplitl [Hb]; · iexact Hb
    isplitl [Hc]; · iexact Hc
    isplitl [Hi]; · iexact Hi
    isplitl [Hw]; · iexact Hw
    isplitl [HO] <;> iassumption
  isplitl [Ho Hr]
  · isplitl [Ho] <;> iassumption
  iexact Hl

/-- The levels of the semaphores fixed, once for all devices. -/
theorem levels_fixed : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun c _ => lev_assign_cells (c.tc : Thread nD τ) L lv).trans <| (BI.bigSep_bupd _ _).trans <| BI.bupd_mono ?_
  have others : (bigSep Finset.univ fun d : Dev nD => bigSep (Finset.univ.erase Proc.tc) fun p => (coreLevAts ((d, p) : Thread nD τ) L lv : sProp 𝕄)) = BI.emp := by
    refine (bigSep_congr fun d _ => (bigSep_congr fun p hp => ?_).trans (BI.bigSep_emp_const _)).trans (BI.bigSep_emp_const _)
    unfold coreLevAts
    refine (bigSep_congr fun sm _ => ?_).trans (BI.bigSep_emp_const _)
    rw [L_of_ne (((d, p) : Thread nD τ), sm) (Finset.ne_of_mem_erase hp), BI.bigSep_empty]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv), others, bigSep_sep']
  refine (show (_ : sProp 𝕄) ⊢ _ from ?_)
  iintro ⟨-, H⟩
  isplitl [H]; · iexact H
  iempintro

theorem all_before (g : Dev nD → PrngReg) :
    iprop((bigSep Finset.univ fun c : Dev nD => coreInit (Ix := Unit) (Name := ℕ) (U := UU) (Lvl := ℕ) (Pipeline.owing O₀) 0 (⟨m, fun _ => 0, g⟩ : MemSt nD τ sig (Elt F)) (c.tc : Thread nD τ)) ∗ ownU u₀)
      ⊢ (|={Set.univ}=> bigSep Finset.univ (before m g) : sProp 𝕄) := by
  have one (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ (0 : Fin 1))
  refine (sep_mono_left (bigSep_mono fun c _ => given_intro m g c)).trans ?_
  unfold before given
  simp only [bigSep_sep']
  iintro ⟨⟨⟨Hb, Hc, Hi, Hw, HO, Hcr⟩, ⟨Ho, Hr⟩, Hl⟩, Hu⟩
  imod (levels_fixed (F := F)) $$ Hl with Hl
  imod (ownU_start m) $$ Hu with ⟨HP, HG⟩
  imod (Pipeline.fund_ghost cfgs EP cellOf_inj) $$ HP with ⟨Hg, Ht⟩
  imod (glob m) $$ [Ho Hr HG] with HR
  · simp only [bigSep_sep']
    isplitl [Ho]; · iexact Ho
    isplitl [Hr] <;> iassumption
  imodintro
  isplitl [Hb]; · iexact Hb
  isplitl [Hc]; · iexact Hc
  isplitl [Hi]; · iexact Hi
  isplitl [Hw]; · iexact Hw
  isplitl [HO]; · iexact HO
  isplitl [Hl]; · iapply (BI.bigSep_intro_persistent (S := Finset.univ) fun (c : Dev nD) _ => (BI.Entails.refl (levAts L lv : sProp 𝕄))); iexact Hl
  isplitl [Hcr]; · iexact Hcr
  isplitl [Hg]; · iapply (one fun p c => Pipeline.cellsGhost cfgs EP p c); iexact Hg
  isplitl [Ht]; · iapply (one fun p c => Pipeline.toksInit cfgs EP p c); iexact Ht
  iexact HR

end Cert.Kernel5Ideal.Cross
-- ==== Proof.CrossRun.lean ====
/- Every device's program run to its end, and the end of all of them read. -/
module

public import proofs.«01_k».proof.Proof.CrossStart

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝔻" => Pipeline.defs pcfgs (defs₀ (F := F))

/-! ## A device's program, and what its end tells -/

theorem no_prefetch (c : Dev nD) : (BI.emp : sProp 𝕄) ⊢ Pipeline.prefHeld Pipeline.Prefetch.none c (fun _ => fullShare.right) (fun k => k.elim0) := by
  unfold Pipeline.prefHeld
  exact Entails.of_eq (BI.bigSep_empty).symm

theorem last_post (c : Dev nD) : Pipeline.EntryPost cfgs (dats m) () (0 : Fin 1) c
    ⊢ iprop(windows c (finalA m c) ∗ ∃ W, owes (c.tc : Thread nD τ) (0 : CellTallies nD τ sig Unit) W) := by
  unfold Pipeline.EntryPost Pipeline.PerCore.EntryPost
  rw [show (dats m 0 c).arrays _ = _ from windows_eq m c _, show (dats m 0 c).owesAt () (Fin.last (cfgs 0).N) = _ from owesAt_eq m c _,
    if_neg (show ¬(Fin.last (cfgs 0).N).val = 0 by rw [show (Fin.last (cfgs 0).N).val = 4 from N_0]; decide)]
  exact Entails.refl _

theorem first_pre (c : Dev nD) (κ : GSem nD τ sig → ℕ) :
    iprop(windows c (fun w => V m c (Pipeline.arrRef cfg0.spec w)) ∗ owes (c : Thread nD τ) (O₀ c) ∅ ∗ levAts L lv
        ∗ Pipeline.cellsInit cfgs (dats m) EP κ (0 : Fin 1) c ∗ Pipeline.toksInit cfgs EP (0 : Fin 1) c)
      ⊢ Pipeline.EntryPre cfgs (dats m) () EP κ (0 : Fin 1) c := by
  unfold Pipeline.EntryPre Pipeline.PerCore.EntryPre
  rw [show (dats m 0 c).arrays _ = _ from windows_eq m c _, show (dats m 0 c).owesAt () 0 = _ from owesAt_eq m c _, if_pos (show ((0 : Fin (cfg0.N + 1))).val = 0 from rfl)]
  iintro ⟨Hw, HO, Hl, Hi, Ht⟩
  isplitl [Hw]; · iapply (Entails.of_eq (congrArg (fun A => (windows c A : sProp 𝕄)) (funext fun w => (A_eq m c w).symm))); iexact Hw
  isplitl [HO]; · iexists ∅; iexact HO
  isplitl [Hl]; · iapply (waits m c); iexact Hl
  isplitl [Hi] <;> iassumption

theorem leave_all (c : Dev nD) :
    iprop((dats m 0 c).Φ (Fin.last cfg0.N) ∗ Pipeline.cellsSems0 cfgs (0 : Fin 1) c ∗ Dat.staging (cfgs 0) c ∗ idle c)
      ⊢ iprop(kept m c ∗ scopedSems0 (c.tc : Thread nD τ) ∗ scopedBufs (c.tc : Thread nD τ)) := by
  rw [sems_split c, bufs_split c]
  iintro ⟨HΦ, Hc, Hs, Hi⟩
  ihave H := (leave m c) $$ HΦ
  icases H with ⟨Hk, Ho, Hr⟩
  isplitl [Hk]; · iexact Hk
  isplitl [Hc Ho Hi]
  · isplitl [Hc Ho]; · isplitl [Hc] <;> iassumption
    iexact Hi
  isplitl [Hs] <;> iassumption

theorem device_run (g : Dev nD → PrngReg) (c : Dev nD) :
    before m g c ⊢ wp frame (wpE 𝔻 (Variants.lift 𝒱₀) (c.tc : Thread nD τ) none) Set.univ (main (F := F) c)
      fun _ => post (liftTc (afterwards m) BI.emp) (c.tc : Thread nD τ) := by
  rw [show main (F := F) c = .op (.customCall (Pipeline.entry (0 : Fin 1)) ()) fun _ => .ret ⟨⟩ from rfl]
  unfold before
  iintro ⟨Hb, Hc, Hi, Hw, HO, Hl, Hcr, Hg, Ht, HR⟩
  iapply (fupd_wp frame (wpE 𝔻 (Variants.lift 𝒱₀) (c.tc : Thread nD τ) none) Set.univ _ _)
  imod (Pipeline.cellsInit_alloc cfgs (dats m) EP cellOf_inj (0 : Fin 1) c) $$ [Hc Hg] with ⟨%κ, -, Hin⟩
  · isplitl [Hc] <;> iassumption
  imodintro
  iapply (Pipeline.wp_customCall_entry_frame pcfgs (fun p => (cfgs p).toPCfg_adm) (dats m) () EP κ cellOf_inj (0 : Fin 1) defs₀ 𝒱₀ (fun _ => fullShare.right) c Set.univ
      (fun _ _ => Set.mem_univ _) (body_obligation m c).loose (fun w => by fin_cases w <;> exact Nat.succ_pos _) none (fun u h => nomatch h)
      (X := iprop(Pipeline.launchCred O₀ c ∗ ready m c)) (Y := kept m c) (R := Pipeline.scopedRest cfg0.spec c) (I := idle c)
      (Entails.of_eq (bufs_split c)) (enter m c) (leave_all m c)
      (k := fun _ => .ret ⟨⟩) (Q := fun _ => post (liftTc (afterwards m) BI.emp) (c.tc : Thread nD τ))) $$ [Hb Hi Hw HO Hl Hcr Ht HR Hin]
  · isplitl [Hw HO Hl Ht Hin]
    · iapply (first_pre m c κ)
      isplitl [Hw]; · iexact Hw
      isplitl [HO]; · iexact HO
      isplitl [Hl]; · iexact Hl
      isplitl [Hin] <;> iassumption
    isplitr
    · iapply (no_prefetch c); iempintro
    isplitl [Hcr HR]
    · isplitl [Hcr] <;> iassumption
    isplitl [Hi] <;> iassumption
  iintro ⟨Hp, Hk, Hs, -⟩
  rw [wp_ret]; imodintro
  unfold post; simp only [liftTc_tc]
  unfold afterwards
  ihave Hp := (last_post m c) $$ Hp
  icases Hp with ⟨Ha, HW⟩
  isplitr [HW]
  · isplitl [Ha]; · iexact Ha
    isplitl [Hk] <;> iassumption
  · iexact HW

/-- What a device's memory is at the end: the windows' arrays computed, the operands as they were, the results as they landed. -/
def Left (c : Dev nD) (s : MemSt nD τ sig (Elt F)) : Prop :=
  (∀ w : Fin cfg0.W, s.mem ((cfg0.spec w).arr.view.loc (c.tc : Thread nD τ)) = finalA m c w)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v1_1) = landed m c ∧ s.mem ((c : Thread nD τ).loc main_v1_2) = came m c
/-- And its semaphores. -/
def Ends (c : Dev nD) (s : MemSt nD τ sig (Elt F)) : Prop :=
  Left m c s ∧ ∀ sm : SemLoc sig, sm.isScoped .tc = true → s.sem ((c.tc : Thread nD τ), sm) = 0

/-- An array held whole is in memory. -/
theorem whole_read (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have e : (bigSep (Finset.univ : Finset Unit) fun _ => (ℓ ↦{fullShare} f : sProp 𝕄)) = (ℓ ↦{fullShare} f : sProp 𝕄) := bigSep_singleton (i := ())
  iintro ⟨H, HSI⟩
  ihave Hr := (pointsTo_read_all (Finset.univ : Finset Unit) (fun _ => ℓ) (fun _ => f) s' fullShare) $$ [H HSI]
  · isplitl [H]
    · iapply (Entails.of_eq e.symm); iexact H
    iexact HSI
  icases Hr with ⟨%h, HSI⟩
  isplitr
  · ipureintro; exact h () (Finset.mem_univ _)
  · iexact HSI

theorem ends_read (c : Dev nD) (s' : Phys nD τ sig (Elt F)) :
    iprop(afterwards m c ∗ SI s') ⊢ |={Set.univ}=> iprop(⌜Ends m c s'.mem⌝ ∗ SI s') := by
  unfold afterwards kept windows
  iintro ⟨⟨Ha, ⟨H2, H3, H1, H0⟩, Hs⟩, HSI⟩
  ihave %hz := (tcScoped_read_pers c s') $$ [Hs HSI]
  · isplitl [Hs] <;> iassumption
  ihave Hr := (pointsTo_read_all Finset.univ (fun w : Fin cfg0.W => (c.tc : Thread nD τ).loc (Pipeline.arrRef cfg0.spec w)) (finalA m c) s' fullShare) $$ [Ha HSI]
  · isplitl [Ha] <;> iassumption
  icases Hr with ⟨%ha, HSI⟩
  ihave Hr := (whole_read ((c : Thread nD τ).loc main_arg2) (m ((c : Thread nD τ).loc main_arg2)) s') $$ [H2 HSI]
  · isplitl [H2] <;> iassumption
  icases Hr with ⟨%h2, HSI⟩
  ihave Hr := (whole_read ((c : Thread nD τ).loc main_arg3) (m ((c : Thread nD τ).loc main_arg3)) s') $$ [H3 HSI]
  · isplitl [H3] <;> iassumption
  icases Hr with ⟨%h3, HSI⟩
  ihave Hr := (whole_read ((c : Thread nD τ).loc main_v1_1) (landed m c) s') $$ [H1 HSI]
  · isplitl [H1] <;> iassumption
  icases Hr with ⟨%h1, HSI⟩
  ihave Hr := (whole_read ((c : Thread nD τ).loc main_v1_2) (came m c) s') $$ [H0 HSI]
  · isplitl [H0] <;> iassumption
  icases Hr with ⟨%h0, HSI⟩
  imodintro
  isplitr
  · ipureintro; exact ⟨⟨fun w => ha w (Finset.mem_univ w), h2, h3, h1, h0⟩, hz⟩
  · iexact HSI

/-- From any memory with zero counters every weakly fair execution of the eight devices' program terminates, each device's
    windows at the contents computed, its operands unchanged, the exchange landed, and every counter at zero. -/
theorem run (g : Dev nD → PrngReg) :
    θ_run (defs (F := F)) (onTc (τ := τ) (main (F := F))) ⟨m, fun _ => 0, g⟩ (fun r =>
      (∀ c : Dev nD, Left m c r.2) ∧ r.2.sem = fun _ => 0) := by
  classical
  refine (θ_run 𝔻 _ _).mono (Q := fun r => (∀ c : Dev nD, Ends m c r.2) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩)
    (adequate_tpu 𝔻 _ _ _ (reflect_intro_fupd_tc_sems (X := Unit) (Variants.lift 𝒱₀) (Pipeline.owing O₀) 0 (noBookings fun _ => le_rfl) (Pipeline.owing_of_ne O₀) u₀
      (fun _ => before m g) (fun _ => afterwards m) (fun _ => iprop(emp)) Set.univ ?_ (fun _ c => device_run m g c) fun _ => ?_))
  · iintro H
    imod (all_before m g) $$ H with H
    imodintro
    iexists ()
    isplitl [H]; · iexact H
    iempintro
  · iintro ⟨H, -, Hsc⟩ %s' HSI
    ihave %hsc := (scSems_read_zero m g s') $$ [Hsc HSI]
    · isplitl [Hsc] <;> iassumption
    imod (posts_fupd Finset.univ (ends_read m) s') $$ [H HSI] with %h
    · isplitl [H] <;> iassumption
    imodintro
    ipureintro
    exact ⟨fun c => h c (Finset.mem_univ c), hsc⟩

end Cert.Kernel5Ideal.Cross
-- ==== Proof.CrossValue.lean ====
/- What the call of the fifth program leaves in the gradient's array, over the ideal numbers: the product over all the
   device's rows, accumulated in two halves. -/
module

public import proofs.«01_k».proof.Proof.CrossRun
public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Kernel5Ideal.Cross

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ)

/-- The two arrays a device multiplies: the gradient of the up projection and the rows it multiplies. -/
abbrev G (c : Dev nD) : FVec Ideal S4096x2816 .bf16 := m ((c : Thread nD τ).loc main_arg0)
abbrev X (c : Dev nD) : FVec Ideal S4096x1024 .bf16 := m ((c : Thread nD τ).loc main_arg1)

/-- The product of a device's two operands over all its rows. -/
def prod (c : Dev nD) : Vec Ideal S2816x1024 .f32 := fun i =>
  ∑ k : Fin 4096, G m c (ix2 k (i 0)) * X m c (ix2 k (i 1))

theorem idx_in : ∀ t : Fin cfg0.N, win0_0.index t = ![t.val % 2, t.val / 2] ∧ win0_1.index t = ![t.val % 2, 0] ∧ win0_2.index t = ![t.val / 2, 0] :=
  (by decide +kernel : ∀ t : Fin grid0.N, _)

theorem idx_cover : ∀ r : Fin 2, ∃ t : Fin cfg0.N, (cfg0.win 2).flush t = true ∧ win0_2.index t = ![r.val, 0] :=
  (by decide +kernel : ∀ r : Fin 2, ∃ t : Fin grid0.N, win0_2.flush t = true ∧ win0_2.index t = ![r.val, 0])

/-- Row `k` of half `s` of a device's rows. -/
def hrow (s : Fin 2) (k : Fin 2048) : Fin 4096 := ⟨s.val * 2048 + k.val, by omega⟩

theorem add_at (acc : Vec Ideal S1408x1024 .f32) (a : Vec Ideal S2048x1408 .bf16) (b : Vec Ideal S2048x1024 .bf16) (f : Fin 1408) (d : Fin 1024) :
    k0_pay2 acc a b (ix2 f d) = acc (ix2 f d) + ∑ k : Fin 2048, a (ix2 k f) * b (ix2 k d) := by pointwise [k0_pay2]

theorem zero_at (f : Fin 1408) (d : Fin 1024) : k0_pay1 (F := Ideal) (ix2 f d) = 0 := by pointwise [k0_pay1]

theorem g_at (c : Dev nD) (t : Fin cfg0.N) (s : Fin 2) (hs : t.val % 2 = s.val) (k : Fin 2048) (y : Fin 1408) (f : Fin 2816) (hf : f.val = t.val / 2 * 1408 + y.val) :
    iblk m c 0 t (ix2 k y) = G m c (ix2 (hrow s k) f) := by
  blk_ext [iblk, idx_in t, hrow, hs, hf]

theorem x_at (c : Dev nD) (t : Fin cfg0.N) (s : Fin 2) (hs : t.val % 2 = s.val) (k : Fin 2048) (d : Fin 1024) :
    iblk m c 1 t (ix2 k d) = X m c (ix2 (hrow s k) d) := by
  blk_ext [iblk, idx_in t, hrow, hs]

/-- What a point that writes back leaves in the tile: both halves of the rows. -/
theorem tile_at (c : Dev nD) (t : Fin cfg0.N) (ht : t.val % 2 = 1) (y : Fin 1408) (d : Fin 1024) (f : Fin 2816) (hf : f.val = t.val / 2 * 1408 + y.val) :
    tileAt m c t (ix2 y d) = prod m c (ix2 f d) := by
  unfold tileAt
  rw [if_neg (by omega)]
  unfold started
  rw [add_at, add_at, zero_at, zero_add]
  have hp : (prev t).val = t.val - 1 := rfl
  have h0 : (prev t).val % 2 = (0 : Fin 2).val := by rw [hp]; show (t.val - 1) % 2 = 0; omega
  refine Eq.trans (congrArg₂ (· + ·) (Finset.sum_congr rfl fun k _ => ?_) (Finset.sum_congr rfl fun k _ => ?_))
    (((Fin.sum_univ_two _).symm).trans (Fin.sum_mul_add_fin 2 2048 (fun k : Fin 4096 => G m c (ix2 k f) * X m c (ix2 k d)) (by decide)))
  · exact congrArg₂ (· * ·) (g_at m c (prev t) 0 h0 k y f (by rw [hp]; omega)) (x_at m c (prev t) 0 h0 k d)
  · exact congrArg₂ (· * ·) (g_at m c t 1 ht k y f hf) (x_at m c t 1 ht k d)

theorem mem_tile (t : Fin cfg0.N) (i : S2816x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v1_0).slice (win0_2.rect t)).set ↔ _
  rw [View.set_slice_whole, Rect.mem_set_unit]
  exact Iff.rfl

/-- The gradient a device's call leaves. -/
theorem array_eq (c : Dev nD) : finalA m c 2 = prod m c := by
  refine (dats m 0 c).arrAt_eq_of_cover 2 (prod m c) (fun t hf => ?_) (fun i => ?_)
  · have ht : t.val % 2 = 1 := (flush0_2 t).mp hf
    show (cfg0.win 2).cut (grid0.coords t) ((dats m 0 c).after 2 t) = _
    rw [after_2]
    funext y
    have hy0 : (y 0).val < 1408 := (y 0).isLt
    have hy1 : (y 1).val < 1024 := (y 1).isLt
    have e0 : win0_2.index t (0 : Fin 2) = t.val / 2 := congrFun (idx_in t).2.2 0
    have e1 : win0_2.index t (1 : Fin 2) = 0 := congrFun (idx_in t).2.2 1
    have hb0 : (((cfg0.win 2).blk t).view.emb y 0).val = win0_2.index t (0 : Fin 2) * 1408 + 1 * (y 0).val := rfl
    have hb1 : (((cfg0.win 2).blk t).view.emb y 1).val = win0_2.index t (1 : Fin 2) * 1024 + 1 * (y 1).val := rfl
    rw [e0] at hb0; rw [e1] at hb1
    have hx : (cfg0.win 2).xinj (grid0.coords t) y = ix2 (⟨(y 0).val, hy0⟩ : Fin 1408) (⟨(y 1).val, hy1⟩ : Fin 1024) := by
      funext a; apply Fin.ext
      match a with
      | ⟨0, _⟩ => rfl
      | ⟨1, _⟩ => rfl
    have hN : t.val < 4 := lt_of_lt_of_eq t.isLt N_0
    have he : ((cfg0.win 2).blk t).view.emb y = ix2 (⟨t.val / 2 * 1408 + (y 0).val, by omega⟩ : Fin 2816) (⟨(y 1).val, hy1⟩ : Fin 1024) := by
      funext a; apply Fin.ext
      match a with
      | ⟨0, _⟩ => exact hb0.trans (by show _ = t.val / 2 * 1408 + (y 0).val; omega)
      | ⟨1, _⟩ => exact hb1.trans (by show _ = (y 1).val; omega)
    show tileAt m c t ((cfg0.win 2).xinj (grid0.coords t) y) = prod m c (((cfg0.win 2).blk t).view.emb y)
    rw [hx, he]
    exact tile_at m c t ht _ _ _ rfl
  · have h0 : (i 0).val < 2816 := (i 0).isLt
    have h1 : (i 1).val < 1024 := (i 1).isLt
    obtain ⟨t, hf, ht⟩ := idx_cover ⟨(i 0).val / 1408, by omega⟩
    have q0 : win0_2.index t (0 : Fin 2) = (i 0).val / 1408 := congrFun ht 0
    have q1 : win0_2.index t (1 : Fin 2) = 0 := congrFun ht 1
    refine ⟨t, hf, (mem_tile t i).2 fun a => ?_⟩
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

end Cert.Kernel5Ideal.Cross
-- ==== Proof.CrossRef.lean ====
/- The fifth program's reference read at an index: the gradient of each device's product as one sum over its rows, and
   the block of the other core's gradient that a core owns. -/
module

public import proofs.«01_k».proof.Proof.Gen.Reference5Ideal.Read
public import Idealize.ShloMosaic.Lib.Pointwise
public import Idealize.ShloMosaic.Lib.Pipeline.ValueKit

@[expose] public section

set_option maxRecDepth 16384

noncomputable section

namespace Cert.Reference5Ideal.Ref

open Cert.Reference5Ideal Cert.Reference5Ideal.Gen Cert.Reference5Ideal.Read
open Idealize.ShloMosaic Idealize.ShloMosaic.TcCoe Idealize.ShloMosaic.Tactic Idealize.SL.Sem
open scoped BigOperators

/-- Row `k` of device `c`'s rows, row `f` of its block of the weight's gradient. -/
def brow (c : Fin 8) (k : Fin 4096) : Fin 32768 := ⟨c.val * 4096 + k.val, by omega⟩
def wrow (c : Fin 8) (f : Fin 2816) : Fin 22528 := ⟨c.val * 2816 + f.val, by omega⟩

theorem prod_at (G : FVec Ideal S32768x2816 .bf16) (X : FVec Ideal S32768x1024 .bf16) (c : Fin 8) (f : Fin 2816) (d : Fin 1024) :
    val_main_v17 (F := Ideal) G X (ix2 (wrow c f) d) = ∑ k : Fin 4096, G (ix2 (brow c k) f) * X (ix2 (brow c k) d) := by
  rw [val_main_v17_apply, val_main_v16_apply, val_main_v7_apply, val_main_v6_apply]
  refine Finset.sum_congr rfl fun k _ => ?_
  rw [val_main_v3_apply, val_main_v1_apply]
  refine congrArg₂ (· * ·) (congrArg G ?_) (congrArg X ?_)
  · funext a; fin_cases a <;> apply Fin.ext
    · show ((((c.val * 2816 + f.val) * 1024 + d.val) / 2883584 * 4096 + k.val) * 2816 + ((c.val * 2816 + f.val) * 1024 + d.val) / 1024 % 2816) / 2816 = c.val * 4096 + k.val
      omega
    · show ((((c.val * 2816 + f.val) * 1024 + d.val) / 2883584 * 4096 + k.val) * 2816 + ((c.val * 2816 + f.val) * 1024 + d.val) / 1024 % 2816) % 2816 = f.val
      omega
  · funext a; fin_cases a <;> apply Fin.ext
    · show ((((c.val * 2816 + f.val) * 1024 + d.val) / 2883584 * 4096 + k.val) * 1024 + ((c.val * 2816 + f.val) * 1024 + d.val) % 1024) / 1024 = c.val * 4096 + k.val
      omega
    · show ((((c.val * 2816 + f.val) * 1024 + d.val) / 2883584 * 4096 + k.val) * 1024 + ((c.val * 2816 + f.val) * 1024 + d.val) % 1024) % 1024 = d.val
      omega

variable {F : FTy → Type} [FloatOps F]

/-- Block `q` of core `k` of chip `p` among the 32, and the block the other core holds for it among the 64. -/
def mine (p : Fin 4) (k : Fin 2) (q : Fin 4) : Fin 32 := ⟨(p.val * 2 + k.val) * 4 + q.val, by omega⟩
def theirs (p : Fin 4) (k : Fin 2) (q : Fin 4) : Fin 64 := ⟨(p.val * 2 + (1 - k.val)) * 8 + (2 * q.val + k.val), by omega⟩

theorem v8_at (x : (⟨S64x352x1024, .f32⟩ : BufTy).Contents (Elt F)) (p : Fin 4) (k : Fin 2) (q : Fin 4) (l : Fin 2) (a : Fin 352) (b : Fin 1024) :
    val_main_v8 (F := F) x (ix6 p k q l a b) = x (ix3 (⟨(p.val * 2 + k.val) * 8 + (2 * q.val + l.val), by omega⟩ : Fin 64) a b) := by
  unfold val_main_v8
  refine shapeCast_apply x _ _ _ ?_
  rw [Shape.rowMajor_val_three, Shape.rowMajor_val_six]
  show (((p.val * 2 + k.val) * 8 + (2 * q.val + l.val)) * 352 + a.val) * 1024 + b.val = ((((p.val * 2 + k.val) * 4 + q.val) * 2 + l.val) * 352 + a.val) * 1024 + b.val
  omega
theorem v10_at (x : (⟨S64x352x1024, .f32⟩ : BufTy).Contents (Elt F)) (p q : Fin 4) (a : Fin 352) (b : Fin 1024) :
    val_main_v10 (F := F) x (ix4 p q a b) = x (ix3 (theirs p 0 q) a b) := by
  refine Eq.trans ?_ (v8_at x p 1 q 0 a b)
  unfold val_main_v10
  refine (shapeCast_apply (val_main_v9 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v9_apply]; exact congrArg _ (by funext a; fin_cases a <;> rfl)
theorem v12_at (x : (⟨S64x352x1024, .f32⟩ : BufTy).Contents (Elt F)) (p q : Fin 4) (a : Fin 352) (b : Fin 1024) :
    val_main_v12 (F := F) x (ix4 p q a b) = x (ix3 (theirs p 1 q) a b) := by
  refine Eq.trans ?_ (v8_at x p 0 q 1 a b)
  unfold val_main_v12
  refine (shapeCast_apply (val_main_v11 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v11_apply]; exact congrArg _ (by funext a; fin_cases a <;> rfl)

theorem v15_at0 (x : (⟨S64x352x1024, .f32⟩ : BufTy).Contents (Elt F)) (p : Fin 4) (q : Fin 4) (a : Fin 352) (b : Fin 1024) :
    val_main_v15 (F := F) x (ix5 p (0 : Fin 2) q a b) = x (ix3 (theirs p 0 q) a b) := by
  unfold val_main_v15
  refine (concatenate_pair_apply_left (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (0 : Fin 2) q a b) rfl (ix5 p (0 : Fin 1) q a b) (fun j => ?_)).trans ?_
  · match j with
    | ⟨0, _⟩ => rfl
    | ⟨1, _⟩ => rfl
    | ⟨2, _⟩ => rfl
    | ⟨3, _⟩ => rfl
    | ⟨4, _⟩ => rfl
  · rw [val_main_v13_apply]; exact (congrArg _ (by funext a; fin_cases a <;> rfl)).trans (v10_at x p q a b)
theorem v15_at1 (x : (⟨S64x352x1024, .f32⟩ : BufTy).Contents (Elt F)) (p : Fin 4) (q : Fin 4) (a : Fin 352) (b : Fin 1024) :
    val_main_v15 (F := F) x (ix5 p (1 : Fin 2) q a b) = x (ix3 (theirs p 1 q) a b) := by
  unfold val_main_v15
  refine (concatenate_pair_apply_right (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (1 : Fin 2) q a b) rfl rfl (ix5 p (0 : Fin 1) q a b) (fun j hj => ?_) ?_).trans ?_
  · match j with
    | ⟨0, _⟩ => rfl
    | ⟨1, _⟩ => exact absurd (Fin.ext rfl) hj
    | ⟨2, _⟩ => rfl
    | ⟨3, _⟩ => rfl
    | ⟨4, _⟩ => rfl
  · rfl
  · rw [val_main_v14_apply]; exact (congrArg _ (by funext a; fin_cases a <;> rfl)).trans (v12_at x p q a b)
theorem v15_at (x : (⟨S64x352x1024, .f32⟩ : BufTy).Contents (Elt F)) (p : Fin 4) (k : Fin 2) (q : Fin 4) (a : Fin 352) (b : Fin 1024) :
    val_main_v15 (F := F) x (ix5 p k q a b) = x (ix3 (theirs p k q) a b) := by
  match k with
  | ⟨0, _⟩ => exact v15_at0 x p q a b
  | ⟨1, _⟩ => exact v15_at1 x p q a b

theorem swap_at (x : (⟨S64x352x1024, .f32⟩ : BufTy).Contents (Elt F)) (p : Fin 4) (k : Fin 2) (q : Fin 4) (a : Fin 352) (b : Fin 1024) :
    val_main_v18 (F := F) x (ix3 (mine p k q) a b) = x (ix3 (theirs p k q) a b) := by
  rw [val_main_v18_apply]
  refine (congrArg _ ?_).trans (v15_at x p k q a b)
  funext j; fin_cases j <;> apply Fin.ext
  · show ((((p.val * 2 + k.val) * 4 + q.val) * 352 + a.val) * 1024 + b.val) / 2883584 = p.val; omega
  · show ((((p.val * 2 + k.val) * 4 + q.val) * 352 + a.val) * 1024 + b.val) / 1441792 % 2 = k.val; omega
  · show ((((p.val * 2 + k.val) * 4 + q.val) * 352 + a.val) * 1024 + b.val) / 360448 % 4 = q.val; omega
  · show ((((p.val * 2 + k.val) * 4 + q.val) * 352 + a.val) * 1024 + b.val) / 1024 % 352 = a.val; omega
  · show ((((p.val * 2 + k.val) * 4 + q.val) * 352 + a.val) * 1024 + b.val) % 1024 = b.val; omega

/-- The part chip `q` sends to core `k` of chip `p`. -/
def sent (p : Fin 4) (k : Fin 2) (q : Fin 4) : Fin 32 := ⟨(q.val * 2 + k.val) * 4 + p.val, by omega⟩

theorem chips_at (x : (⟨S32x480x1024, .bf16⟩ : BufTy).Contents (Elt F)) (p : Fin 4) (k : Fin 2) (q : Fin 4) (a : Fin 480) (b : Fin 1024) :
    val_main_v21 (F := F) x (ix3 (mine p k q) a b) = x (ix3 (sent p k q) a b) := by
  unfold val_main_v21
  refine (shapeCast_apply (val_main_v20 (F := F) x) _ _ (ix5 p k q a b) ?_).trans ?_
  · rw [Shape.rowMajor_val_three, Shape.rowMajor_val_five]; rfl
  rw [val_main_v20_apply]
  unfold val_main_v19
  refine shapeCast_apply x _ _ _ ?_
  rw [Shape.rowMajor_val_three, Shape.rowMajor_val_five]
  rfl

end Cert.Reference5Ideal.Ref

end
-- ==== Proof.CrossClaims.lean ====
/- The fifth program's claims: the weight gradient of the up projection with two exchanges beside it, between the two cores
   of a chip and between the chips, on eight devices, against its reference on one. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.CrossRun
public import proofs.«01_k».proof.Proof.CrossValue
public import proofs.«01_k».proof.Proof.CrossRef
public import Idealize.ShloMosaic.Lib.Claim
public import Idealize.ShloMosaic.Lib.Layout
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

theorem frame_ref5 : Cert.quiescent_Reference5Ideal := fun m ρ _ =>
  (θ_run (Cert.Reference5Ideal.defs (F := Ideal)) _ _).mono
    (fun r h => ⟨fun c => (h c).2.2.2, sem_eq_zero_of_no_sems (by decide) r.2⟩)
    (Cert.Reference5Ideal.Value.run (F := Ideal) m ρ)

section Frames

variable {F : FTy → Type} [FloatOps F]
variable (m : (ℓ : Loc Cert.Kernel5Ideal.nD Cert.Kernel5Ideal.τ Cert.Kernel5Ideal.sig) → Buf (Elt F) ℓ)

open Cert.Kernel5Ideal Cert.Kernel5Ideal.Gen Cert.Kernel5Ideal.Cross

/-- The two operands end as launched: their windows are only read. -/
theorem arg0_kept5 (c : Dev nD) : finalA m c 0 = m ((c : Thread nD τ).loc main_arg0) :=
  ((dats m 0 c).arrAt_in 0 rfl _).trans (A_eq m c 0)
theorem arg1_kept5 (c : Dev nD) : finalA m c 1 = m ((c : Thread nD τ).loc main_arg1) :=
  ((dats m 0 c).arrAt_in 1 rfl _).trans (A_eq m c 1)

/-- The run leaves the four arguments as launched and every counter at zero, over any numbers. -/
theorem kept5 (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) :=
  (θ_run (defs (F := F)) _ _).mono (fun r h => ⟨fun c => ⟨((h.1 c).1 0).trans (arg0_kept5 m c), ((h.1 c).1 1).trans (arg1_kept5 m c), (h.1 c).2.1, (h.1 c).2.2.1⟩, h.2⟩)
    (run m g)

end Frames

theorem frame_ideal5 : Cert.quiescent_Kernel5Ideal := fun m g _ => kept5 (F := Ideal) m g

/-- Over the machine's numbers the two programs are the same text. -/
theorem bodies5 : Cert.Kernel5.defs₀ (F := Bits) = Cert.Kernel5Ideal.defs₀ (F := Bits) := by
  unfold Cert.Kernel5.defs₀ Cert.Kernel5Ideal.defs₀
  refine congrArg (fun f => Defs.onTc f) ?_
  funext l a
  match l, a with
  | 0, (t, s) => rfl

theorem texts5 : Cert.Kernel5.defs (F := Bits) = Cert.Kernel5Ideal.defs (F := Bits) := congrArg (Pipeline.defs Cert.Kernel5.pcfgs) bodies5

theorem frame_bits5 : Cert.quiescent_Kernel5 := fun m g _ => by
  rw [texts5]
  exact kept5 (F := Bits) m g

open Cert.Kernel5Ideal Cert.Kernel5Ideal.Gen Cert.Kernel5Ideal.Cross Cert.Reference5Ideal.Ref in
/-- A device's product is its block of the reference's first result. -/
theorem prod_block5 (m : (ℓ : Loc nD τ sig) → Buf (Elt Ideal) ℓ) (c : Dev nD)
    (g : (⟨2, ![32768, 2816]⟩ : Shape).Idx → Elt Ideal .bf16) (x : (⟨2, ![32768, 1024]⟩ : Shape).Idx → Elt Ideal .bf16)
    (hg : G m c = Layout.block ⟨2, ![4096, 2816]⟩ ⟨2, ![32768, 2816]⟩ 0 8 c g)
    (hx : X m c = Layout.block ⟨2, ![4096, 1024]⟩ ⟨2, ![32768, 1024]⟩ 0 8 c x) :
    prod m c = Layout.block ⟨2, ![2816, 1024]⟩ ⟨2, ![22528, 1024]⟩ 0 8 c (Cert.Reference5Ideal.Read.val_main_v17 (F := Ideal) g x) := by
  refine funext fun i : (⟨2, ![2816, 1024]⟩ : Shape).Idx => ?_
  obtain ⟨f, d, rfl⟩ : ∃ (f : Fin 2816) (d : Fin 1024), i = ix2 f d := ⟨i 0, i 1, by blk_ext []⟩
  have e : (Layout.block ⟨2, ![2816, 1024]⟩ ⟨2, ![22528, 1024]⟩ 0 8 c (Cert.Reference5Ideal.Read.val_main_v17 (F := Ideal) g x)) (ix2 f d)
      = Cert.Reference5Ideal.Read.val_main_v17 (F := Ideal) g x (ix2 (wrow c f) d) := by
    refine congrArg (Cert.Reference5Ideal.Read.val_main_v17 (F := Ideal) g x) (funext fun a => Fin.ext ?_)
    match a with
    | ⟨0, _⟩ => rfl
    | ⟨1, _⟩ => rfl
  rw [e, prod_at]
  refine Finset.sum_congr rfl fun k _ => ?_
  show G m c (ix2 k f) * X m c (ix2 k d) = _
  rw [hg, hx]
  refine congrArg₂ (· * ·) (congrArg g (funext fun a => Fin.ext ?_)) (congrArg x (funext fun a => Fin.ext ?_))
  · match a with
    | ⟨0, _⟩ => rfl
    | ⟨1, _⟩ => rfl
  · match a with
    | ⟨0, _⟩ => rfl
    | ⟨1, _⟩ => rfl

open Cert.Kernel5Ideal Cert.Kernel5Ideal.Gen Cert.Kernel5Ideal.Cross Cert.Reference5Ideal.Ref in
/-- What lands on a device is its block of the reference's second result. -/
theorem swap_block5 (m : (ℓ : Loc nD τ sig) → Buf (Elt Ideal) ℓ) (w : (⟨3, ![64, 352, 1024]⟩ : Shape).Idx → Elt Ideal .f32)
    (hw : ∀ c : Dev nD, m ((c : Thread nD τ).loc main_arg2) = Layout.block ⟨3, ![8, 352, 1024]⟩ ⟨3, ![64, 352, 1024]⟩ 0 8 c w) (c : Dev nD) :
    landed m c = Layout.block ⟨3, ![4, 352, 1024]⟩ ⟨3, ![32, 352, 1024]⟩ 0 8 c (Cert.Reference5Ideal.Read.val_main_v18 (F := Ideal) w) := by
  refine funext fun i : (⟨3, ![4, 352, 1024]⟩ : Shape).Idx => ?_
  obtain ⟨q, a, b, rfl⟩ : ∃ (q : Fin 4) (a : Fin 352) (b : Fin 1024), i = ix3 q a b := ⟨i 0, i 1, i 2, by blk_ext []⟩
  have hc : c.val < 8 := c.isLt
  have e : (Layout.block ⟨3, ![4, 352, 1024]⟩ ⟨3, ![32, 352, 1024]⟩ 0 8 c (Cert.Reference5Ideal.Read.val_main_v18 (F := Ideal) w)) (ix3 q a b)
      = Cert.Reference5Ideal.Read.val_main_v18 (F := Ideal) w (ix3 (mine ⟨c.val / 2, by omega⟩ ⟨c.val % 2, by omega⟩ q) a b) := by
    refine congrArg (Cert.Reference5Ideal.Read.val_main_v18 (F := Ideal) w) (funext fun j => Fin.ext ?_)
    match j with
    | ⟨0, _⟩ => show c.val * 4 + q.val = (c.val / 2 * 2 + c.val % 2) * 4 + q.val; omega
    | ⟨1, _⟩ => rfl
    | ⟨2, _⟩ => rfl
  rw [e, swap_at]
  have hp : (peer c).val = c.val / 2 * 2 + (1 - c.val % 2) := (by decide : ∀ c : Dev nD, (peer c).val = c.val / 2 * 2 + (1 - c.val % 2)) c
  unfold landed
  rw [hw (peer c)]
  refine congrArg w (funext fun j => Fin.ext ?_)
  match j with
  | ⟨0, _⟩ => show (peer c).val * 8 + (2 * q.val + c.val % 2) = (c.val / 2 * 2 + (1 - c.val % 2)) * 8 + (2 * q.val + c.val % 2); rw [hp]
  | ⟨1, _⟩ => rfl
  | ⟨2, _⟩ => rfl

open Cert.Kernel5Ideal Cert.Kernel5Ideal.Gen Cert.Kernel5Ideal.Cross Cert.Reference5Ideal.Ref in
/-- What comes to a device from the chips is its block of the reference's third result. -/
theorem chips_block5 (m : (ℓ : Loc nD τ sig) → Buf (Elt Ideal) ℓ) (w : (⟨3, ![32, 480, 1024]⟩ : Shape).Idx → Elt Ideal .bf16)
    (hw : ∀ c : Dev nD, m ((c : Thread nD τ).loc main_arg3) = Layout.block ⟨3, ![4, 480, 1024]⟩ ⟨3, ![32, 480, 1024]⟩ 0 8 c w) (c : Dev nD) :
    came m c = Layout.block ⟨3, ![4, 480, 1024]⟩ ⟨3, ![32, 480, 1024]⟩ 0 8 c (Cert.Reference5Ideal.Read.val_main_v21 (F := Ideal) w) := by
  refine funext fun i : (⟨3, ![4, 480, 1024]⟩ : Shape).Idx => ?_
  obtain ⟨q, a, b, rfl⟩ : ∃ (q : Fin 4) (a : Fin 480) (b : Fin 1024), i = ix3 q a b := ⟨i 0, i 1, i 2, by blk_ext []⟩
  have e : (Layout.block ⟨3, ![4, 480, 1024]⟩ ⟨3, ![32, 480, 1024]⟩ 0 8 c (Cert.Reference5Ideal.Read.val_main_v21 (F := Ideal) w)) (ix3 q a b)
      = Cert.Reference5Ideal.Read.val_main_v21 (F := Ideal) w (ix3 (mine (chip c) (core c) q) a b) := by
    refine congrArg (Cert.Reference5Ideal.Read.val_main_v21 (F := Ideal) w) (funext fun j => Fin.ext ?_)
    match j with
    | ⟨0, _⟩ => show c.val * 4 + q.val = (c.val / 2 * 2 + c.val % 2) * 4 + q.val; omega
    | ⟨1, _⟩ => rfl
    | ⟨2, _⟩ => rfl
  rw [e, chips_at]
  show (m ((onChip q (core c) : Thread nD τ).loc main_arg3) : S4x480x1024.Idx → _) (ix3 (chip c) a b) = _
  rw [hw (onChip q (core c))]
  refine congrArg w (funext fun j => Fin.ext ?_)
  match j with
  | ⟨0, _⟩ => show (2 * q.val + c.val % 2) * 4 + c.val / 2 = (q.val * 2 + c.val % 2) * 4 + c.val / 2; omega
  | ⟨1, _⟩ => rfl
  | ⟨2, _⟩ => rfl

open Cert.Kernel5Ideal.Gen Cert.Kernel5Ideal.Cross in
/-- The three results on the eight devices are the blocks of the reference's three results. -/
theorem results5 : Cert.algebraic_Kernel5Ideal_Reference5Ideal := by
  intro m g m' g' _ hagree
  refine ⟨Cert.Reference5Ideal.Read.val_main_v17 (F := Ideal) (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)),
    Cert.Reference5Ideal.Read.val_main_v18 (F := Ideal) (m' (((0 : Dev Cert.Reference5Ideal.nD).tc : Thread Cert.Reference5Ideal.nD Cert.Reference5Ideal.τ).loc Cert.Reference5Ideal.main_arg2)),
    Cert.Reference5Ideal.Read.val_main_v21 (F := Ideal) (m' (((0 : Dev Cert.Reference5Ideal.nD).tc : Thread Cert.Reference5Ideal.nD Cert.Reference5Ideal.τ).loc Cert.Reference5Ideal.main_arg3)), ?_, (θ_run (Cert.Reference5Ideal.defs (F := Ideal)) _ _).mono (fun r h => ?_) (Cert.Reference5Ideal.Value.run (F := Ideal) m' g')⟩
  rotate_left
  · obtain ⟨h17, h18, h21, hargs⟩ := h 0
    exact ⟨h17.trans (Cert.Reference5Ideal.Read.val_main_v17_eq (F := Ideal) _ _), h18.trans (Cert.Reference5Ideal.Read.val_main_v18_eq (F := Ideal) _),
      h21.trans (Cert.Reference5Ideal.Read.val_main_v21_eq (F := Ideal) _), hargs⟩
  · refine (θ_run (Cert.Kernel5Ideal.defs (F := Ideal)) _ _).mono (fun r h c => ?_) (run m g)
    obtain ⟨hw, h2, h3, hl, hk⟩ := h.1 c
    exact ⟨((hw 2).trans (array_eq m c)).trans (prod_block5 m c _ _ (hagree c).1 (hagree c).2.1),
      hl.trans (swap_block5 m _ (fun d => (hagree d).2.2.1) c), hk.trans (chips_block5 m _ (fun d => (hagree d).2.2.2) c),
      (hw 0).trans (arg0_kept5 m c), (hw 1).trans (arg1_kept5 m c), h2, h3⟩

end Cert.Proof

end
-- ==== Proof.DownCells.lean ====
/- A weight product with two exchanges beside it: every device sends four blocks of one operand to the device next to it,
   and the parts of another to the same core of the other chips, its own part to itself. Here are the two ends of each
   copy, the semaphores it pays, and which elements of memory every one of them hands over. -/
module

public import proofs.«01_k».proof.Proof.Gen.Kernel6Ideal
public import proofs.«01_k».proof.Proof.Gen.Kernel6Ideal.Skeleton
public import proofs.«01_k».proof.Proof.Gen.Kernel6Ideal.Frame
public import Idealize.ShloMosaic.Lib.Pipeline.Launch
public import Idealize.ShloMosaic.Lib.Pipeline.Kit
public import Idealize.ShloMosaic.Lib.Pointwise
public import Idealize.ShloMosaic.Lib.Pipeline.ValueKit
public import Idealize.ShloMosaic.Lib.Tactic
public import Idealize.ShloMosaic.Lib.ValueLayout

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The partner -/

/-- The device a copy goes to: the one that differs in the mesh's last axis alone. -/
def peer (c : Dev nD) : Dev nD :=
  ⟨(4 * (c.val / 4) + 2 * ((c.val / 2) % 2) + 1) - c.val % 2, by have := c.isLt; revert this; generalize c.val = v; decide +revert⟩

theorem peer_peer (c : Dev nD) : peer (peer c) = c := by revert c; decide
theorem peer_par (c : Dev nD) : (peer c).val % 2 = 1 - c.val % 2 := by revert c; decide

theorem peer_dev1 (c : Dev nD) (h : k0_dev1 c < nD) : (⟨k0_dev1 c, h⟩ : Dev nD) = peer c := Fin.ext (k0_dev1_eq c)
theorem peer_dev2 (c : Dev nD) (h : k0_dev2 c < nD) : (⟨k0_dev2 c, h⟩ : Dev nD) = peer c := Fin.ext (k0_dev2_eq c)
theorem peer_dev3 (c : Dev nD) (h : k0_dev3 c < nD) : (⟨k0_dev3 c, h⟩ : Dev nD) = peer c := Fin.ext (k0_dev3_eq c)
theorem peer_dev4 (c : Dev nD) (h : k0_dev4 c < nD) : (⟨k0_dev4 c, h⟩ : Dev nD) = peer c := Fin.ext (k0_dev4_eq c)

/-- Going to the partner, as a permutation of the devices. -/
def swap : Dev nD ≃ Dev nD := ⟨peer, peer, peer_peer, peer_peer⟩

/-! ## The two ends of a copy -/

theorem src_inb (c : Dev nD) (q : Fin 4) : ∀ a, (k0_off1 c (BitVec.ofNat 32 (2 * q.val))) a + S1x352x1024.size a ≤ S8x352x1024.size a := by
  revert c q; decide +kernel
theorem dst_inb (q : Fin 4) : ∀ a, (![q.val, 0, 0] : Fin 3 → Nat) a + S1x352x1024.size a ≤ S4x352x1024.size a := by revert q; decide +kernel
theorem sem_inb (q : Fin 4) : ∀ a, (![0, q.val] : Fin 2 → Nat) a + S1x1.size a ≤ S1x4.size a := by revert q; decide +kernel

/-- Copy `q` of device `c` reads this block of its operand … -/
abbrev srcM (c : Dev nD) (q : Fin 4) : Memref sig .tc .hbm S352x1024 .f32 :=
  ((Memref.whole main_arg2).slice (Rect.unit (s := S8x352x1024) (k0_off1 c (BitVec.ofNat 32 (2 * q.val))) S1x352x1024.size (src_inb c q)) (fun _ => rfl)).squeeze
    S352x1024 squeezes_S1x352x1024_S352x1024
/-- … and writes this slot of its partner's result. -/
abbrev dstM (q : Fin 4) : Memref sig .tc .hbm S352x1024 .f32 :=
  ((Memref.whole main_v1_1).slice (Rect.unit (s := S4x352x1024) ![q.val, 0, 0] S1x352x1024.size (dst_inb q)) (fun _ => rfl)).squeeze
    S352x1024 squeezes_S1x352x1024_S352x1024

/-- The semaphore copy `q` pays when it has read, and the one it pays on the partner when it has written. -/
abbrev sendS (q : Fin 4) : DmaSem sig :=
  ((cc0_scratch0.slice (Rect.unit (s := S1x4) ![0, q.val] S1x1.size (sem_inb q))).squeeze S_ squeezes_S1x1_S_).sem
abbrev recvS (q : Fin 4) : DmaSem sig :=
  ((cc0_scratch1.slice (Rect.unit (s := S1x4) ![0, q.val] S1x1.size (sem_inb q))).squeeze S_ squeezes_S1x1_S_).sem

theorem sendS_val : ∀ q : Fin 4, (sendS q).val = 6 + q.val := by decide +kernel
theorem recvS_val : ∀ q : Fin 4, (recvS q).val = 10 + q.val := by decide +kernel

/-- What a copy pays each semaphore. -/
def N : ℕ := (dstM 0).view.dmaCredit
theorem N_pos : 0 < N := View.dmaCredit_pos _ (by decide)

theorem src_emb (c : Dev nD) (q : Fin 4) (a : Fin 352) (b : Fin 1024) :
    (srcM c q).view.emb (ix2 a b) = (ix3 (⟨2 * q.val + 1 - c.val % 2, by have := q.isLt; omega⟩ : Fin 8) a b : S8x352x1024.Idx) := by
  refine (congrArg ((Rect.unit (s := S8x352x1024) (k0_off1 c (BitVec.ofNat 32 (2 * q.val))) S1x352x1024.size (src_inb c q)).emb)
    (ValueIdx.reshapeEquiv_ix2_1ab _ a b)).trans ?_
  blk_ext [k0_off1_eq c q]
theorem dst_emb (q : Fin 4) (a : Fin 352) (b : Fin 1024) :
    (dstM q).view.emb (ix2 a b) = (ix3 q a b : S4x352x1024.Idx) := by
  refine (congrArg ((Rect.unit (s := S4x352x1024) ![q.val, 0, 0] S1x352x1024.size (dst_inb q)).emb)
    (ValueIdx.reshapeEquiv_ix2_1ab _ a b)).trans ?_
  blk_ext []

theorem src_disj (c : Dev nD) : ∀ q q' : Fin 4, q ≠ q' → Disjoint (srcM c q).view.set (srcM c q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [src_emb, src_emb] at e
    have := congrArg (fun i : S8x352x1024.Idx => (i 0).val) e
    simp only [ix3] at this
    exact h (Fin.ext (by omega))

theorem dst_disj : ∀ q q' : Fin 4, q ≠ q' → Disjoint (dstM q).view.set (dstM q').view.set := fun q q' h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [dst_emb, dst_emb] at e
    have := congrArg (fun i : S4x352x1024.Idx => (i 0).val) e
    exact h (Fin.ext this.symm)

theorem dst_cover : (Finset.univ.biUnion fun q : Fin 4 => (dstM q).view.set) = (Finset.univ : Finset S4x352x1024.Idx) :=
  Finset.eq_univ_iff_forall.mpr fun i => Finset.mem_biUnion.mpr ⟨i 0, Finset.mem_univ _, by
    have e : (dstM (i 0)).view.emb (ix2 (i 1) (i 2)) = i := (dst_emb (i 0) (i 1) (i 2)).trans (by ext a; fin_cases a <;> rfl)
    have := View.emb_mem_set (dstM (i 0)).view (ix2 (i 1) (i 2))
    rwa [e] at this⟩

/-! ## The other exchange: the same core of the other chips -/

/-- The chip a device is on, and the device that is core `k` of chip `p`. -/
abbrev chip (c : Dev nD) : Fin 4 := ⟨c.val / 2, by have : c.val < 8 := c.isLt; omega⟩
abbrev onChip (p : Fin 4) (k : Fin 2) : Dev nD := ⟨2 * p.val + k.val, by show _ < 8; omega⟩
abbrev core (c : Dev nD) : Fin 2 := ⟨c.val % 2, by omega⟩

/-- Where a device's parts go: to itself, or one of the three ways to another chip (across the first axis of the mesh,
    the second, both). -/
abbrev Hop : Type := Option (Fin 3)
def over : Hop → Dev nD → Dev nD
  | none, c => c
  | some 0, c => ⟨(2 * ((c.val / 2) % 2) + c.val % 2 + 4) - 4 * (c.val / 4), by have : c.val < 8 := c.isLt; show _ < 8; omega⟩
  | some 1, c => ⟨(4 * (c.val / 4) + c.val % 2 + 2) - 2 * ((c.val / 2) % 2), by have : c.val < 8 := c.isLt; show _ < 8; omega⟩
  | some 2, c => ⟨(c.val % 2 + 6) - (4 * (c.val / 4) + 2 * ((c.val / 2) % 2)), by have : c.val < 8 := c.isLt; show _ < 8; omega⟩

theorem over_over : ∀ (h : Hop) (c : Dev nD), over h (over h c) = c := by decide
theorem over_core : ∀ (h : Hop) (c : Dev nD), (over h c).val % 2 = c.val % 2 := by decide
theorem onChip_over : ∀ (h : Hop) (c : Dev nD), onChip (chip (over h c)) (core c) = over h c := by decide

theorem over_dev5 (c : Dev nD) (h : k0_dev5 c < nD) : (⟨k0_dev5 c, h⟩ : Dev nD) = over (some 0) c := Fin.ext (k0_dev5_eq c)
theorem over_dev6 (c : Dev nD) (h : k0_dev6 c < nD) : (⟨k0_dev6 c, h⟩ : Dev nD) = over (some 1) c := Fin.ext (k0_dev6_eq c)
theorem over_dev7 (c : Dev nD) (h : k0_dev7 c < nD) : (⟨k0_dev7 c, h⟩ : Dev nD) = over (some 2) c := Fin.ext (k0_dev7_eq c)

/-- The chips a device reaches are all four, each one way. -/
def ways (c : Dev nD) : Hop ≃ Fin 4 :=
  Equiv.ofBijective (fun h => chip (over h c)) ((by decide : ∀ c : Dev nD, Function.Bijective fun h : Hop => chip (over h c)) c)

theorem part_inb (p : Fin 4) : ∀ a, (![p.val, 0, 0] : Fin 3 → Nat) a + S1x352x1024.size a ≤ S4x352x1024.size a := by revert p; decide +kernel
theorem three_inb (j : Fin 3) : ∀ a, (![0, j.val] : Fin 2 → Nat) a + S1x1.size a ≤ S1x3.size a := by revert j; decide +kernel

/-- Chip `p`'s part of a device's array of parts, and where the part of a core of chip `p` goes. -/
abbrev partM (p : Fin 4) : Memref sig .tc .hbm S352x1024 .bf16 :=
  ((Memref.whole main_arg3).slice (Rect.unit (s := S4x352x1024) ![p.val, 0, 0] S1x352x1024.size (part_inb p)) (fun _ => rfl)).squeeze
    S352x1024 squeezes_S1x352x1024_S352x1024
abbrev slotM (p : Fin 4) : Memref sig .tc .hbm S352x1024 .bf16 :=
  ((Memref.whole main_v1_2).slice (Rect.unit (s := S4x352x1024) ![p.val, 0, 0] S1x352x1024.size (part_inb p)) (fun _ => rfl)).squeeze
    S352x1024 squeezes_S1x352x1024_S352x1024

/-- A part cut at an offset is the part that offset names. -/
theorem part_at (p : Fin 4) {off : Fin 3 → Nat} (e : off = ![p.val, 0, 0]) (h : ∀ a, off a + S1x352x1024.size a ≤ S4x352x1024.size a) :
    ((Memref.whole main_arg3).slice (Rect.unit (s := S4x352x1024) off S1x352x1024.size h) (fun _ => rfl)).squeeze
      S352x1024 squeezes_S1x352x1024_S352x1024 = partM p := by subst e; rfl
theorem slot_at (p : Fin 4) {off : Fin 3 → Nat} (e : off = ![p.val, 0, 0]) (h : ∀ a, off a + S1x352x1024.size a ≤ S4x352x1024.size a) :
    ((Memref.whole main_v1_2).slice (Rect.unit (s := S4x352x1024) off S1x352x1024.size h) (fun _ => rfl)).squeeze
      S352x1024 squeezes_S1x352x1024_S352x1024 = slotM p := by subst e; rfl

theorem off2_at (c : Dev nD) : k0_off2 c = ![(chip c).val, 0, 0] := by
  rw [k0_off2_eq]; revert c; decide
theorem off3_at (c : Dev nD) : k0_off3 c = ![(chip (over (some 0) c)).val, 0, 0] := by
  rw [k0_off3_eq]; revert c; decide
theorem off4_at (c : Dev nD) : k0_off4 c = ![(chip (over (some 1) c)).val, 0, 0] := by
  rw [k0_off4_eq]; revert c; decide
theorem off5_at (c : Dev nD) : k0_off5 c = ![(chip (over (some 2) c)).val, 0, 0] := by
  rw [k0_off5_eq]; revert c; decide

/-- The semaphores of the ways to other chips, and the one of a device's copy to itself. -/
abbrev leftS (j : Fin 3) : DmaSem sig :=
  ((cc0_scratch2.slice (Rect.unit (s := S1x3) ![0, j.val] S1x1.size (three_inb j))).squeeze S_ squeezes_S1x1_S_).sem
abbrev cameS (j : Fin 3) : DmaSem sig :=
  ((cc0_scratch3.slice (Rect.unit (s := S1x3) ![0, j.val] S1x1.size (three_inb j))).squeeze S_ squeezes_S1x1_S_).sem
abbrev ownS : DmaSem sig := ((cc0_scratch4.slice (Rect.unit (s := S1) ![0] S1.size inb_S1_S1_0)).squeeze S_ squeezes_S1_S_).sem

/-- What the copy of a part pays each semaphore. -/
def N2 : ℕ := (slotM 0).view.dmaCredit
theorem N2_pos : 0 < N2 := View.dmaCredit_pos _ (by decide)

theorem part_emb (p : Fin 4) (a : Fin 352) (b : Fin 1024) : (partM p).view.emb (ix2 a b) = (ix3 p a b : S4x352x1024.Idx) := by
  refine (congrArg ((Rect.unit (s := S4x352x1024) ![p.val, 0, 0] S1x352x1024.size (part_inb p)).emb)
    (ValueIdx.reshapeEquiv_ix2_1ab _ a b)).trans ?_
  blk_ext []
theorem slot_emb (p : Fin 4) (a : Fin 352) (b : Fin 1024) : (slotM p).view.emb (ix2 a b) = (ix3 p a b : S4x352x1024.Idx) := part_emb p a b

theorem part_disj : ∀ p q : Fin 4, p ≠ q → Disjoint (partM p).view.set (partM q).view.set := fun p q h =>
  Finset.disjoint_left.mpr fun i hi hi' => by
    obtain ⟨x, rfl⟩ := View.exists_emb_of_mem_set _ hi
    obtain ⟨y, e⟩ := View.exists_emb_of_mem_set _ hi'
    obtain ⟨a, b, rfl⟩ : ∃ a b, x = ix2 a b := ⟨x 0, x 1, by ext a; fin_cases a <;> rfl⟩
    obtain ⟨a', b', rfl⟩ : ∃ a b, y = ix2 a b := ⟨y 0, y 1, by ext a; fin_cases a <;> rfl⟩
    rw [part_emb, part_emb] at e
    have := congrArg (fun i : S4x352x1024.Idx => (i 0).val) e
    exact h (Fin.ext this.symm)
theorem slot_disj : ∀ p q : Fin 4, p ≠ q → Disjoint (slotM p).view.set (slotM q).view.set := part_disj

theorem part_cover : (Finset.univ.biUnion fun p : Fin 4 => (partM p).view.set) = (Finset.univ : Finset S4x352x1024.Idx) :=
  Finset.eq_univ_iff_forall.mpr fun i => Finset.mem_biUnion.mpr ⟨i 0, Finset.mem_univ _, by
    have e : (partM (i 0)).view.emb (ix2 (i 1) (i 2)) = i := (part_emb (i 0) (i 1) (i 2)).trans (by ext a; fin_cases a <;> rfl)
    have := View.emb_mem_set (partM (i 0)).view (ix2 (i 1) (i 2))
    rwa [e] at this⟩
theorem slot_cover : (Finset.univ.biUnion fun p : Fin 4 => (slotM p).view.set) = (Finset.univ : Finset S4x352x1024.Idx) := part_cover

end Cert.Kernel6Ideal.Down
-- ==== Proof.DownRounds.lean ====
/- The schedule of the two exchanges: one transfer to each of a device's fifteen semaphores. One paid when a block or a
   part has been read gives it back; one paid when a slot has been written gives the slot with what landed in it. -/
module

public import proofs.«01_k».proof.Proof.DownCells

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What lands -/

/-- What the exchange leaves in a device's result: the partner's block of the device's own half. -/
def landed (c : Dev nD) : Buf (Elt F) ((c : Thread nD τ).loc main_v1_1) := fun i : S4x352x1024.Idx =>
  (m ((peer c : Thread nD τ).loc main_arg2) : S8x352x1024.Idx → _) (ix3 (⟨2 * (i 0).val + c.val % 2, by have : (i 0).val < 4 := (i 0).isLt; omega⟩ : Fin 8) (i 1) (i 2))

omit [FloatOps F] in
theorem landed_write (c : Dev nD) (q : Fin 4) (fd : Buf (Elt F) ((c : Thread nD τ).loc main_v1_1)) :
    ∀ i ∈ (dstM q).view.set, (dstM q).view.write (Elt F) fd ((srcM (peer c) q).view.read (Elt F) (m ((peer c : Thread nD τ).loc main_arg2))) Finset.univ i = landed m c i := by
  intro i hi
  obtain ⟨x, rfl⟩ := View.exists_emb_of_mem_set _ hi
  obtain ⟨a, b, rfl⟩ : ∃ a b, x = ix2 a b := ⟨x 0, x 1, by ext a; fin_cases a <;> rfl⟩
  refine (View.write_emb_of_mem _ _ (Finset.mem_univ (ix2 a b))).trans ?_
  rw [View.read_apply, src_emb, dst_emb]
  refine congrArg (m ((peer c : Thread nD τ).loc main_arg2) : S8x352x1024.Idx → _) ?_
  have hp := peer_par c
  ext a
  fin_cases a
  · show 2 * q.val + 1 - (peer c).val % 2 = 2 * q.val + c.val % 2; omega
  · rfl
  · rfl

/-- Block `q` of a device's operand, as it was launched. -/
def srcPts (c : Dev nD) (q : Fin 4) : sProp 𝕄 :=
  (srcM c q).view.loc (c : Thread nD τ) ↦[(srcM c q).view.set]{fullShare} m ((c : Thread nD τ).loc main_arg2)
/-- Slot `q` of a device's result at contents `f`. -/
def dstPts (c : Dev nD) (q : Fin 4) (f : Buf (Elt F) ((c : Thread nD τ).loc main_v1_1)) : sProp 𝕄 :=
  (dstM q).view.loc (c : Thread nD τ) ↦[(dstM q).view.set]{fullShare} f

omit [FloatOps F] in
instance srcPts_storable (c : Dev nD) (q : Fin 4) : BI.Storable (upEmb : UEmb _ 𝕄) (srcPts m c q) := by unfold srcPts; infer_instance
omit [FloatOps F] in
instance dstPts_storable (c : Dev nD) (q : Fin 4) (f) : BI.Storable (upEmb : UEmb _ 𝕄) (dstPts (F := F) c q f) := by unfold dstPts; infer_instance

omit [FloatOps F] in
/-- A result held whole is its four slots. -/
theorem slots_eq (c : Dev nD) (f : Buf (Elt F) ((c : Thread nD τ).loc main_v1_1)) :
    (((c : Thread nD τ).loc main_v1_1) ↦{fullShare} f : sProp 𝕄) = bigSep Finset.univ fun q => dstPts c q f := by
  refine Eq.trans ?_ (pointsTo_biUnion (ℓ := (c : Thread nD τ).loc main_v1_1) Finset.univ (fun q : Fin 4 => (dstM q).view.set) (fun q _ q' _ h => dst_disj q q' h))
  exact congrArg (fun I => (((c : Thread nD τ).loc main_v1_1) ↦[I]{fullShare} f : sProp 𝕄)) dst_cover.symm

/-- The rest of a device's operand: what no copy reads. -/
def restPts (c : Dev nD) : sProp 𝕄 :=
  ((c : Thread nD τ).loc main_arg2) ↦[Finset.univ \ (Finset.univ.biUnion fun q : Fin 4 => (srcM c q).view.set : Finset S8x352x1024.Idx)]{fullShare} m ((c : Thread nD τ).loc main_arg2)

omit [FloatOps F] in
theorem blocks_eq (c : Dev nD) :
    (((c : Thread nD τ).loc main_arg2) ↦{fullShare} m ((c : Thread nD τ).loc main_arg2) : sProp 𝕄)
      ⊣⊢ iprop((bigSep Finset.univ fun q => srcPts m c q) ∗ restPts m c) := by
  have e : (((c : Thread nD τ).loc main_arg2) ↦[Finset.univ.biUnion fun q : Fin 4 => (srcM c q).view.set]{fullShare} m ((c : Thread nD τ).loc main_arg2) : sProp 𝕄)
      = bigSep Finset.univ fun q => srcPts m c q := pointsTo_biUnion Finset.univ _ (fun q _ q' _ h => src_disj c q q' h)
  rw [← e]
  exact pointsTo_split_subset (Finset.subset_univ _)

/-! ## What lands from the other chips -/

/-- Each chip's part for the device's own chip, from the same core. -/
def came (c : Dev nD) : Buf (Elt F) ((c : Thread nD τ).loc main_v1_2) := fun i : S4x352x1024.Idx =>
  (m ((onChip (i 0) (core c) : Thread nD τ).loc main_arg3) : S4x352x1024.Idx → _) (ix3 (chip c) (i 1) (i 2))

omit [FloatOps F] in
theorem came_write (c : Dev nD) (h : Hop) (fd : Buf (Elt F) ((c : Thread nD τ).loc main_v1_2)) :
    ∀ i ∈ (slotM (chip (over h c))).view.set, (slotM (chip (over h c))).view.write (Elt F) fd
      ((partM (chip c)).view.read (Elt F) (m ((over h c : Thread nD τ).loc main_arg3))) Finset.univ i = came m c i := by
  intro i hi
  obtain ⟨x, rfl⟩ := View.exists_emb_of_mem_set _ hi
  obtain ⟨a, b, rfl⟩ : ∃ a b, x = ix2 a b := ⟨x 0, x 1, by ext a; fin_cases a <;> rfl⟩
  refine (View.write_emb_of_mem _ _ (Finset.mem_univ (ix2 a b))).trans ?_
  rw [View.read_apply, part_emb, slot_emb]
  show (m ((over h c : Thread nD τ).loc main_arg3) : S4x352x1024.Idx → _) (ix3 (chip c) a b)
    = (m ((onChip (chip (over h c)) (core c) : Thread nD τ).loc main_arg3) : S4x352x1024.Idx → _) (ix3 (chip c) a b)
  rw [onChip_over]

/-- The part a device sends one way, as it was launched, and the slot what comes that way fills. -/
def partPts (c : Dev nD) (h : Hop) : sProp 𝕄 :=
  (partM (chip (over h c))).view.loc (c : Thread nD τ) ↦[(partM (chip (over h c))).view.set]{fullShare} m ((c : Thread nD τ).loc main_arg3)
def slotPts (c : Dev nD) (h : Hop) (f : Buf (Elt F) ((c : Thread nD τ).loc main_v1_2)) : sProp 𝕄 :=
  (slotM (chip (over h c))).view.loc (c : Thread nD τ) ↦[(slotM (chip (over h c))).view.set]{fullShare} f

omit [FloatOps F] in
instance partPts_storable (c : Dev nD) (h : Hop) : BI.Storable (upEmb : UEmb _ 𝕄) (partPts m c h) := by unfold partPts; infer_instance
omit [FloatOps F] in
instance slotPts_storable (c : Dev nD) (h : Hop) (f) : BI.Storable (upEmb : UEmb _ 𝕄) (slotPts (F := F) c h f) := by unfold slotPts; infer_instance

omit [FloatOps F] in
/-- Either array held whole is its four pieces, one for each way. -/
theorem parts_eq (c : Dev nD) :
    (((c : Thread nD τ).loc main_arg3) ↦{fullShare} m ((c : Thread nD τ).loc main_arg3) : sProp 𝕄) = bigSep Finset.univ fun h => partPts m c h := by
  refine Eq.trans ?_ ((pointsTo_biUnion (ℓ := (c : Thread nD τ).loc main_arg3) Finset.univ (fun p : Fin 4 => (partM p).view.set) (fun p _ q _ h => part_disj p q h)).trans
    (bigSep_univ_equiv (ways c) _))
  exact congrArg (fun I => (((c : Thread nD τ).loc main_arg3) ↦[I]{fullShare} m ((c : Thread nD τ).loc main_arg3) : sProp 𝕄)) part_cover.symm
omit [FloatOps F] in
theorem arrivals_eq (c : Dev nD) (f : Buf (Elt F) ((c : Thread nD τ).loc main_v1_2)) :
    (((c : Thread nD τ).loc main_v1_2) ↦{fullShare} f : sProp 𝕄) = bigSep Finset.univ fun h => slotPts c h f := by
  refine Eq.trans ?_ ((pointsTo_biUnion (ℓ := (c : Thread nD τ).loc main_v1_2) Finset.univ (fun p : Fin 4 => (slotM p).view.set) (fun p _ q _ h => slot_disj p q h)).trans
    (bigSep_univ_equiv (ways c) _))
  exact congrArg (fun I => (((c : Thread nD τ).loc main_v1_2) ↦[I]{fullShare} f : sProp 𝕄)) slot_cover.symm

/-! ## The seven copies that leave a device -/

/-- A copy to the partner, or to one of the other chips. -/
abbrev Cp : Type := Fin 4 ⊕ Fin 3
/-- The device a copy goes to, which is the one its like comes from. -/
def mate : Cp → Dev nD → Dev nD
  | .inl _, c => peer c
  | .inr j, c => over (some j) c
theorem mate_mate (x : Cp) (c : Dev nD) : mate x (mate x c) = c := by
  cases x
  · exact peer_peer c
  · exact over_over _ c

/-- What copy `x` of a device reads, what its like fills there, at first and once landed. -/
def reads : Cp → Dev nD → sProp 𝕄
  | .inl q, c => srcPts m c q
  | .inr j, c => partPts m c (some j)
def awaits : Cp → Dev nD → sProp 𝕄
  | .inl q, c => dstPts c q (m ((c : Thread nD τ).loc main_v1_1))
  | .inr j, c => slotPts c (some j) (m ((c : Thread nD τ).loc main_v1_2))
def filled : Cp → Dev nD → sProp 𝕄
  | .inl q, c => dstPts c q (landed m c)
  | .inr j, c => slotPts c (some j) (came m c)

omit [FloatOps F] in
instance reads_storable (x : Cp) (c : Dev nD) : BI.Storable (upEmb : UEmb _ 𝕄) (reads m x c) := by
  cases x
  · exact srcPts_storable m c _
  · exact partPts_storable m c _
omit [FloatOps F] in
instance filled_storable (x : Cp) (c : Dev nD) : BI.Storable (upEmb : UEmb _ 𝕄) (filled m x c) := by
  cases x
  · exact dstPts_storable c _ _
  · exact slotPts_storable c _ _

/-! ## The schedule -/

/-- A device's fifteen semaphores: `some (false, x)` paid when copy `x` has read, `some (true, x)` when its like has
    written, `none` when the device's copy to itself is done. -/
abbrev Key : Type := Option (Bool × Cp)
abbrev sentS : Cp → DmaSem sig := fun x => Sum.elim sendS leftS x
abbrev gotS : Cp → DmaSem sig := fun x => Sum.elim recvS cameS x
abbrev osem (k : Key) : SemLoc sig := .dma (k.elim ownS fun p => bif p.1 then gotS p.2 else sentS p.2)
abbrev kcell (ck : Dev nD × Key) : GSem nD τ sig := ((ck.1 : Thread nD τ), osem ck.2)

/-- What a copy pays. -/
def amt : Key → ℕ
  | some (_, .inl _) => N
  | _ => N2
theorem amt_pos (k : Key) : 0 < amt k := by
  rcases k with _ | ⟨b, q | j⟩
  · exact N2_pos
  · exact N_pos
  · exact N2_pos

/-- Which of the fifteen a semaphore is. -/
def which : SemLoc sig → Option Key
  | .dma s => if s.val < 6 then none
    else if s.val < 10 then some (some (false, .inl (Fin.ofNat 4 (s.val - 6))))
    else if s.val < 14 then some (some (true, .inl (Fin.ofNat 4 (s.val - 10))))
    else if s.val < 17 then some (some (false, .inr (Fin.ofNat 3 (s.val - 14))))
    else if s.val < 20 then some (some (true, .inr (Fin.ofNat 3 (s.val - 17))))
    else some none
  | _ => none

theorem which_osem : ∀ k, which (osem k) = some k := by decide +kernel
theorem osem_inj : Function.Injective osem := fun k k' h => Option.some.inj ((which_osem k).symm.trans ((congrArg which h).trans (which_osem k')))

/-- What a semaphore's transfer hands over. -/
def pay (c : Dev nD) : Key → sProp 𝕄
  | none => iprop(slotPts c none (came m c) ∗ partPts m c none)
  | some (false, x) => reads m x c
  | some (true, x) => filled m x c

omit [FloatOps F] in
instance pay_storable (c : Dev nD) (k) : BI.Storable (upEmb : UEmb _ 𝕄) (pay m c k) := by
  obtain _ | ⟨_ | _, x⟩ := k
  · show BI.Storable upEmb iprop(slotPts c none (came m c) ∗ partPts m c none)
    infer_instance
  · exact reads_storable m x c
  · exact filled_storable m x c

def rd : Rounds.Schedule (GSem nD τ sig) Unit 𝕄 where
  duties g r := if r = 0 ∧ g.1.2 = .tc ∧ (which g.2).isSome then {()} else ∅
  unitless _ := False
  amount g _ _ := (which g.2).elim 1 amt
  payload g _ _ := (which g.2).elim iprop(emp) (pay m g.1.1)
  amount_pos g _ _ _ := by
    cases which g.2
    · exact Nat.one_pos
    · exact amt_pos _

omit [FloatOps F] in
instance rd_storable (g : GSem nD τ sig) (r : ℕ) (d : Unit) : BI.Storable (upEmb : UEmb _ 𝕄) ((rd m).payload g r d) := by
  show BI.Storable upEmb ((which g.2).elim iprop(emp) (pay m g.1.1))
  cases which g.2 <;> dsimp only [Option.elim] <;> infer_instance

omit [FloatOps F] in
theorem duties_cell (ck : Dev nD × Key) : (rd m).duties (kcell ck) 0 = {()} := by
  dsimp only [rd]; exact if_pos ⟨rfl, rfl, by rw [which_osem]; rfl⟩
omit [FloatOps F] in
theorem duties_later (g : GSem nD τ sig) : ∀ r, 1 ≤ r → (rd m).duties g r = ∅ :=
  fun r hr => by dsimp only [rd]; exact if_neg fun h => by omega
omit [FloatOps F] in
theorem amount_cell (ck : Dev nD × Key) (u : Unit) : (rd m).amount (kcell ck) 0 u = amt ck.2 := by
  dsimp only [rd]; rw [which_osem]; rfl
omit [FloatOps F] in
theorem expect_cell (ck : Dev nD × Key) : (rd m).expect (kcell ck) 0 = amt ck.2 := by
  unfold Schedule.expect Schedule.amountOf; rw [duties_cell, Finset.sum_singleton, amount_cell]
omit [FloatOps F] in
theorem payload_cell (ck : Dev nD × Key) (u : Unit) : (rd m).payload (kcell ck) 0 u = pay m ck.1 ck.2 := by
  dsimp only [rd]; rw [which_osem]; rfl
omit [FloatOps F] in
theorem rest_cell (ck : Dev nD × Key) :
    bigSep ((rd m).duties (kcell ck) 0 \ ∅) (fun u => (rd m).payload (kcell ck) 0 u) = pay m ck.1 ck.2 := by
  rw [Finset.sdiff_empty, duties_cell, bigSep_singleton, payload_cell]

/-! ## What a device owes, and in which order it may wait -/

/-- Device `c` owes the device copy `x` goes to its transfer. -/
abbrev due (c : Dev nD) (x : Cp) : CellTallies nD τ sig Unit := tallyAt (kcell (mate x c, some (true, x))) () (amt (some (true, x)))
def O₀ (c : Dev nD) : CellTallies nD τ sig Unit :=
  due c (.inr 2) + due c (.inr 1) + due c (.inr 0) + due c (.inl 3) + due c (.inl 2) + due c (.inl 1) + due c (.inl 0)

def L (g : GSem nD τ sig) : Finset Unit := if g.1.2 = .tc then {()} else ∅
def lv (g : GSem nD τ sig) (_ : Unit) : ℕ := if (which g.2).isSome then 1 else 0
theorem L_of_ne (g : GSem nD τ sig) (h : g.1.2 ≠ .tc) : L g = ∅ := if_neg h
theorem L_tc (c : Dev nD) (sm : SemLoc sig) : L ((c : Thread nD τ), sm) = {()} := if_pos rfl

theorem due_apply (c d : Dev nD) (x : Cp) (k : Key) :
    due d x (kcell (c, k)) () = if d = mate x c ∧ k = some (true, x) then amt k else 0 := by
  unfold due
  rw [tallyAt_apply]
  by_cases h : d = mate x c ∧ k = some (true, x)
  · obtain ⟨rfl, rfl⟩ := h
    rw [mate_mate, if_pos ⟨rfl, rfl⟩, if_pos ⟨rfl, rfl⟩]
  · rw [if_neg h, if_neg]
    intro h'
    have e : c = mate x d := Fin.ext (congrArg (fun g : GSem nD τ sig => g.1.1.val) h'.1)
    exact h ⟨by rw [e, mate_mate], osem_inj (congrArg Prod.snd h'.1)⟩

theorem O₀_pos {c : Dev nD} {g : GSem nD τ sig} {u : Unit} (h : 0 < O₀ c g u) : ∃ x, g = kcell (mate x c, some (true, x)) := by
  by_contra hn
  have hq (x : Cp) : due c x g u = 0 := by
    unfold due; rw [tallyAt_apply]; exact if_neg fun h' => hn ⟨x, h'.1⟩
  unfold O₀ at h
  simp only [Pi.add_apply, Finsupp.add_apply, hq] at h
  exact Nat.lt_irrefl 0 h

omit [FloatOps F] in
/-- The pipeline's own transfers may be waited for whatever the exchanges still owe. -/
theorem mayWait_stage (c : Dev nD) (s : DmaSem sig) (hs : which (.dma s) = none) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by obtain ⟨x, rfl⟩ := O₀_pos hg; exact Finset.mem_singleton_self _)
      (fun p hp => by rw [Finset.mem_singleton.mp hp]; dsimp only [lv]; rw [hs]; decide)
      (fun g u hg => by obtain ⟨x, rfl⟩ := O₀_pos hg; dsimp only [lv]; rw [which_osem]; exact Nat.one_pos)
  · rw [MayWait_zero]; iintro -; iempintro

theorem launch_recv (c : Dev nD) (x : Cp) :
    tallyOn (kcell (c, some (true, x))) (launchCredit (Pipeline.owing O₀) 0 (kcell (c, some (true, x))))
      = (tallyAt (kcell (c, some (true, x))) () (amt (some (true, x))) : CellTallies nD τ sig Unit) := by
  have h (d : Dev nD) : O₀ d (kcell (c, some (true, x))) () = if d = mate x c then amt (some (true, x)) else 0 := by
    unfold O₀
    simp only [Pi.add_apply, Finsupp.add_apply, due_apply, Option.some.injEq, Prod.mk.injEq, true_and]
    rcases x with q | j
    · fin_cases q <;> simp
    · fin_cases j <;> simp
  unfold tallyAt; refine congrArg _ (Finsupp.ext fun u => ?_); cases u
  rw [Pipeline.launchCredit_owing, Finsupp.single_eq_same, Finset.sum_congr rfl fun d _ => h d,
    Finset.sum_ite_eq' Finset.univ (mate x c) fun _ => amt (some (true, x)), if_pos (Finset.mem_univ _)]

omit [FloatOps F] in
/-- What the others owe a device at launch: the seven transfers to it. -/
theorem creds (c : Dev nD) : (Pipeline.launchCred O₀ c : sProp 𝕄) ⊢ bigSep Finset.univ fun x : Cp => cred (tallyAt (kcell (c, some (true, x))) () (amt (some (true, x)))) := by
  have hinj : Function.Injective fun x : Cp => osem (some (true, x)) := fun x y h => congrArg Prod.snd (Option.some.inj (osem_inj h))
  unfold Pipeline.launchCred
  refine (BI.bigSep_subset (Finset.subset_univ (Finset.univ.map ⟨_, hinj⟩))).trans ?_
  rw [bigSep_map]
  exact bigSep_mono fun x _ => Entails.of_eq (congrArg cred (launch_recv c x))

end Cert.Kernel6Ideal.Down
-- ==== Proof.DownSteps.lean ====
/- The steps of the body with its two exchanges: a load, a store, a block or a part leaving for another device, a part
   copied to the device itself, and the wait for a semaphore, each with what it takes and what it gives. -/
module

public import proofs.«01_k».proof.Proof.DownRounds

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores of a whole staging buffer -/

section Owned
variable {Λ : Labels} {defs : Defs nD τ sig (Elt F) Λ} (𝒱 : Variants) (c : Dev nD) {cs : CoreSpace} {S : Shape} {e : EltTy}

omit [FloatOps F] in
theorem load_owned {α : Type} {Q : α → sProp 𝕄} {M : Memref sig .tc cs S e} {off : Fin S.rank → Nat} (h : off = fun _ => 0) (inb : ∀ a, off a + S.size a ≤ S.size a)
    {hl : M.view.LoadsAt (Rect.unit off S.size inb).toLoadRect} (X : S.Idx → Elt F e) {k : (S.Idx → Elt F e) → Prog (TpuEff nD τ sig (Elt F) Λ .tc) α} :
    (owns (c : Thread nD τ) M fullShare X : sProp 𝕄)
      ⊢ iprop((owns (c : Thread nD τ) M fullShare X -∗ wp frame (wpE defs 𝒱 (c : Thread nD τ) none) Set.univ (k X) Q)
        -∗ wp frame (wpE defs 𝒱 (c : Thread nD τ) none) Set.univ (.op (.load M (Rect.unit off S.size inb).toLoadRect hl) k) Q) := by
  have hS : M.view.setOn (Rect.unit off S.size inb).toLoadRect.set ⊆ M.view.set := Finset.map_subset_map.mpr (Finset.subset_univ _)
  unfold owns
  iintro ⟨%f, %hf, Hf⟩ Hk
  iapply (wp_load 𝒱 (c : Thread nD τ) none Set.univ (m := M) (S := M.view.set) (q := fullShare) (f := f) hS) $$ Hf
  iintro Hf
  rw [show M.view.readAt (Elt F) (Rect.unit off S.size inb).toLoadRect f = X from (congrArg (fun Y => View.ld Y (Rect.unit off S.size inb)) hf).trans (View.ld_unit_zero h inb X)]
  iapply Hk
  iexists f
  isplitr; · ipureintro; exact hf
  iexact Hf

theorem store_owned {α : Type} {Q : α → sProp 𝕄} {M : Memref sig .tc cs S e} {off : Fin S.rank → Nat} (h : off = fun _ => 0) (inb : ∀ a, off a + S.size a ≤ S.size a)
    {w : S.Idx → Elt F e} {hx : (M.access (Rect.unit off S.size inb)).Stores Finset.univ}
    {hm : (Finset.univ : Finset (Rect.unit off S.size inb).shape.Idx) = Finset.univ ∨ ∀ a, (Rect.unit off S.size inb).stride a = 1}
    {X : S.Idx → Elt F e} {k : PUnit → Prog (TpuEff nD τ sig (Elt F) Λ .tc) α} :
    (owns (c : Thread nD τ) M fullShare X : sProp 𝕄)
      ⊢ iprop((owns (c : Thread nD τ) M fullShare w -∗ wp frame (wpE defs 𝒱 (c : Thread nD τ) none) Set.univ (k ⟨⟩) Q)
        -∗ wp frame (wpE defs 𝒱 (c : Thread nD τ) none) Set.univ (.op (.store M (Rect.unit off S.size inb) w Finset.univ hx hm) k) Q) := by
  have hw (f : Buf (Elt F) (M.view.loc (c : Thread nD τ))) : M.view.read (Elt F) (M.view.writes (Elt F) f [⟨Rect.unit off S.size inb, w⟩]) = w :=
    (View.read_writes_eq_canon M.view f [⟨Rect.unit off S.size inb, w⟩] fun y => ⟨_, List.mem_singleton_self _, by subst h; show y ∈ (Rect.whole S).set; rw [← Rect.map_emb_univ]; exact Finset.mem_map.mpr ⟨y, Finset.mem_univ _, Rect.emb_whole_apply _ y⟩⟩).trans
      (View.canon_cons_unit_zero h inb w [])
  have hS : (M.access (Rect.unit off S.size inb)).set ⊆ M.view.set := by rw [View.set_slice]; exact Finset.map_subset_map.mpr (Finset.subset_univ _)
  unfold owns
  iintro ⟨%f, %hf, Hf⟩ Hk
  iapply (wp_store_writes₀ 𝒱 (c : Thread nD τ) none Set.univ (m := M) (w := w) (f := f) (S := M.view.set) hS) $$ Hf
  iintro Hf
  iapply Hk
  iexists _
  isplitr
  swap; · iexact Hf
  ipureintro; exact hw f

end Owned

/-- The launch's local definitions recurse by no measure. -/
abbrev 𝒱₀ : Variants := .none

/-! ## A copy leaves, and a semaphore is waited for -/

/-- Every semaphore's invariant, and that its first round is open. -/
def records (K : Dev nD × Key → ℕ) : sProp 𝕄 :=
  iprop((bigSep Finset.univ fun ck => cellInv ER (rd m) (K ck) (kcell ck)) ∗ bigSep Finset.univ fun ck => reached ER (kcell ck) 0)

omit [FloatOps F] in
instance records_persistent (K) : BI.Persistent (records (F := F) m K) := by unfold records; infer_instance

omit [FloatOps F] in
theorem inv_of (K) (ck) : records (F := F) m K ⊢ cellInv ER (rd m) (K ck) (kcell ck) := by
  unfold records
  iintro ⟨#H, -⟩
  iapply (show (bigSep Finset.univ fun ck => (cellInv ER (rd m) (K ck) (kcell ck) : sProp 𝕄)) ⊢ cellInv ER (rd m) (K ck) (kcell ck) from bigSep_elim (Finset.mem_univ ck)); iexact H

omit [FloatOps F] in
theorem open_of (K) (ck) : records (F := F) m K ⊢ reached ER (kcell ck) 0 := by
  unfold records
  iintro ⟨-, #H⟩
  iapply (show (bigSep Finset.univ fun ck : Dev nD × Key => (reached ER (kcell ck) 0 : sProp 𝕄)) ⊢ reached ER (kcell ck) 0 from bigSep_elim (Finset.mem_univ ck)); iexact H

/-- Device `c` issues copy `q`: it hands over its block and its partner's slot, and owes the slot no longer. -/
theorem step_send (K) (c n : Dev nD) (hn : n = peer c) (q : Fin 4) {s1 s2 : DmaSem sig} (h1 : s1 = sendS q) (h2 : s2 = recvS q)
    {src : Memref sig .tc .hbm S352x1024 .f32} (hs : src = srcM c q) {dst : Memref sig .tc .hbm S352x1024 .f32} (hd : dst = dstM q)
    {hsc : dst.view.ref.isScScratch = false} {hsrc : src.view.WordExact} {hdst : dst.view.WordExact}
    {hsem : DmaTarget.Typed .hbm (.dma s2) (.remote (Dev.tc n : Thread nD τ) dst (.dma s1) hsc)}
    {α : Type} {Q : α → sProp 𝕄} {k : PUnit → Prog (TpuEff nD τ sig (Elt F) Λ₀ .tc) α}
    (fn : Buf (Elt F) ((peer c : Thread nD τ).loc main_v1_1)) (O₁ O : CellTallies nD τ sig Unit) (hO : O₁ = O + due c (.inl q)) (W : Waits sig Unit) :
    iprop(records m K ∗ srcPts m c q ∗ dstPts (peer c) q fn ∗ owes (c : Thread nD τ) O₁ W
        ∗ dutyTok ER (kcell (c, some (false, .inl q))) 0 () ∗ dutyTok ER (kcell (peer c, some (true, .inl q))) 0 ())
      ⊢ iprop(((cred (tallyAt (kcell (c, some (false, .inl q))) () (amt (some (false, .inl q)))) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2 hs hd
  have hl : (dstPts (peer c) q ((dstM q).view.write (Elt F) fn ((srcM c q).view.read (Elt F) (m ((c : Thread nD τ).loc main_arg2))) Finset.univ) : sProp 𝕄)
      = dstPts (peer c) q (landed m (peer c)) := by
    unfold dstPts
    refine pointsTo_congr fun i hi => ?_
    have := landed_write m (peer c) q fn i hi
    rwa [peer_peer] at this
  have main := Rounds.wp_send_pointsTo (defs := defs₀ (F := F)) 𝒱₀ ER (rd m) (c : Thread nD τ) none (c' := (peer c : Thread nD τ)) (src := srcM c q) (dst := dstM q) (hsc := hsc)
    (sS := .dma (sendS q)) (sem := .dma (recvS q)) (hsrc := hsrc) (hdst := hdst) (hsem := hsem) (Q := Q) (k := k) (Γ := .empty)
    (κ₁ := K (c, some (false, .inl q))) (κ₂ := K (peer c, some (true, .inl q))) (q := fullShare) (fs := m ((c : Thread nD τ).loc main_arg2))
    (r₁ := 0) (r₂ := 0) (d₁ := ()) (d₂ := ()) (fd := fn) (Es := Set.univ)
    ((duties_cell m (c, some (false, .inl q))).symm ▸ Finset.mem_singleton_self ()) ((duties_cell m (peer c, some (true, .inl q))).symm ▸ Finset.mem_singleton_self ())
    () () N rfl (amount_cell m (c, some (false, .inl q)) ()) (amount_cell m (peer c, some (true, .inl q)) ()) O hO (W := W)
    (Entails.of_eq (payload_cell m (c, some (false, .inl q)) ()).symm) (Entails.of_eq (hl.trans (payload_cell m (peer c, some (true, .inl q)) ()).symm))
  iintro ⟨#HR, Hs, Hd, HO, Ht, Ht'⟩
  iapply main
  isplitr; · iapply (inv_of m K (c, some (false, .inl q))); iexact HR
  isplitr; · iapply (inv_of m K (peer c, some (true, .inl q))); iexact HR
  isplitl [Hs]; · unfold srcPts; iexact Hs
  isplitl [Hd]; · unfold dstPts; iexact Hd
  isplitl [HO]; · iexact HO
  isplitl [Ht]; · iexact Ht
  isplitr; · iapply (open_of m K (c, some (false, .inl q))); iexact HR
  isplitl [Ht']; · iexact Ht'
  iapply (open_of m K (peer c, some (true, .inl q))); iexact HR

/-- Device `c` sends a part to the same core of another chip. -/
theorem step_far (K) (c n : Dev nD) (j : Fin 3) (hn : n = over (some j) c) {s1 s2 : DmaSem sig} (h1 : s1 = leftS j) (h2 : s2 = cameS j)
    {src : Memref sig .tc .hbm S352x1024 .bf16} (hs : src = partM (chip (over (some j) c))) {dst : Memref sig .tc .hbm S352x1024 .bf16} (hd : dst = slotM (chip c))
    {hsc : dst.view.ref.isScScratch = false} {hsrc : src.view.WordExact} {hdst : dst.view.WordExact}
    {hsem : DmaTarget.Typed .hbm (.dma s2) (.remote (Dev.tc n : Thread nD τ) dst (.dma s1) hsc)}
    {α : Type} {Q : α → sProp 𝕄} {k : PUnit → Prog (TpuEff nD τ sig (Elt F) Λ₀ .tc) α}
    (fn : Buf (Elt F) ((over (some j) c : Thread nD τ).loc main_v1_2)) (O₁ O : CellTallies nD τ sig Unit) (hO : O₁ = O + due c (.inr j)) (W : Waits sig Unit) :
    iprop(records m K ∗ partPts m c (some j) ∗ slotPts (over (some j) c) (some j) fn ∗ owes (c : Thread nD τ) O₁ W
        ∗ dutyTok ER (kcell (c, some (false, .inr j))) 0 () ∗ dutyTok ER (kcell (over (some j) c, some (true, .inr j))) 0 ())
      ⊢ iprop(((cred (tallyAt (kcell (c, some (false, .inr j))) () (amt (some (false, .inr j)))) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2 hs hd
  have hl : ((slotM (chip c)).view.loc (over (some j) c : Thread nD τ) ↦[(slotM (chip c)).view.set]{fullShare}
        ((slotM (chip c)).view.write (Elt F) fn ((partM (chip (over (some j) c))).view.read (Elt F) (m ((c : Thread nD τ).loc main_arg3))) Finset.univ) : sProp 𝕄)
      = slotPts (over (some j) c) (some j) (came m (over (some j) c)) := by
    unfold slotPts
    have := came_write m (over (some j) c) (some j) fn
    rw [over_over] at this ⊢
    exact pointsTo_congr this
  have main := Rounds.wp_send_pointsTo (defs := defs₀ (F := F)) 𝒱₀ ER (rd m) (c : Thread nD τ) none (c' := (over (some j) c : Thread nD τ)) (src := partM (chip (over (some j) c))) (dst := slotM (chip c)) (hsc := hsc)
    (sS := .dma (leftS j)) (sem := .dma (cameS j)) (hsrc := hsrc) (hdst := hdst) (hsem := hsem) (Q := Q) (k := k) (Γ := .empty)
    (κ₁ := K (c, some (false, .inr j))) (κ₂ := K (over (some j) c, some (true, .inr j))) (q := fullShare) (fs := m ((c : Thread nD τ).loc main_arg3))
    (r₁ := 0) (r₂ := 0) (d₁ := ()) (d₂ := ()) (fd := fn) (Es := Set.univ)
    ((duties_cell m (c, some (false, .inr j))).symm ▸ Finset.mem_singleton_self ()) ((duties_cell m (over (some j) c, some (true, .inr j))).symm ▸ Finset.mem_singleton_self ())
    () () N2 rfl (amount_cell m (c, some (false, .inr j)) ()) (amount_cell m (over (some j) c, some (true, .inr j)) ()) O hO (W := W)
    (Entails.of_eq (payload_cell m (c, some (false, .inr j)) ()).symm) (Entails.of_eq (hl.trans (payload_cell m (over (some j) c, some (true, .inr j)) ()).symm))
  iintro ⟨#HR, Hs, Hd, HO, Ht, Ht'⟩
  iapply main
  isplitr; · iapply (inv_of m K (c, some (false, .inr j))); iexact HR
  isplitr; · iapply (inv_of m K (over (some j) c, some (true, .inr j))); iexact HR
  isplitl [Hs]; · unfold partPts; iexact Hs
  isplitl [Hd]; · unfold slotPts; rw [over_over]; iexact Hd
  isplitl [HO]; · iexact HO
  isplitl [Ht]; · iexact Ht
  isplitr; · iapply (open_of m K (c, some (false, .inr j))); iexact HR
  isplitl [Ht']; · iexact Ht'
  iapply (open_of m K (over (some j) c, some (true, .inr j))); iexact HR

/-- Device `c` copies the part of its own chip to itself. -/
theorem step_own (K) (c : Dev nD) {s : DmaSem sig} (h1 : s = ownS)
    {src : Memref sig .tc .hbm S352x1024 .bf16} (hs : src = partM (chip c)) {dst : Memref sig .tc .hbm S352x1024 .bf16} (hd : dst = slotM (chip c))
    {hsrc : src.view.WordExact} {hdst : dst.view.WordExact} {hsem : DmaTarget.Typed (τ := τ) (nD := nD) .hbm (.dma s) (.here (p := Proc.tc) dst)}
    {α : Type} {Q : α → sProp 𝕄} {k : PUnit → Prog (TpuEff nD τ sig (Elt F) Λ₀ .tc) α} (fd : Buf (Elt F) ((c : Thread nD τ).loc main_v1_2)) :
    iprop(records m K ∗ partPts m c none ∗ slotPts c none fd ∗ dutyTok ER (kcell (c, none)) 0 ())
      ⊢ iprop((cred (tallyAt (kcell (c, none)) () (amt none)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma s) hsrc hdst hsem) k) Q) := by
  subst h1 hs hd
  have hl : ((slotM (chip c)).view.loc (c : Thread nD τ) ↦[(slotM (chip c)).view.set]{fullShare}
        ((slotM (chip c)).view.write (Elt F) fd ((partM (chip c)).view.read (Elt F) (m ((c : Thread nD τ).loc main_arg3))) Finset.univ) : sProp 𝕄)
      = slotPts c none (came m c) := by
    unfold slotPts
    exact pointsTo_congr (came_write m c none fd)
  have main := Rounds.wp_copy_pointsTo (defs := defs₀ (F := F)) 𝒱₀ ER (rd m) (c : Thread nD τ) none (src := partM (chip c)) (dst := slotM (chip c))
    (sem := .dma ownS) (hsrc := hsrc) (hdst := hdst) (hsem := hsem) (Q := Q) (k := k) (Γ := .empty)
    (κ := K (c, none)) (q := fullShare) (fs := m ((c : Thread nD τ).loc main_arg3)) (r := 0) (d := ()) (fd := fd) (Es := Set.univ)
    ((duties_cell m (c, none)).symm ▸ Finset.mem_singleton_self ()) () N2 rfl (amount_cell m (c, none) ())
    ((sep_mono_left (Entails.of_eq hl)).trans (Entails.of_eq (payload_cell m (c, none) ()).symm))
  iintro ⟨#HR, Hs, Hd, Ht⟩
  iapply main
  isplitr; · iapply (inv_of m K (c, none)); iexact HR
  isplitl [Hs]; · unfold partPts; iexact Hs
  isplitl [Hd]; · unfold slotPts; iexact Hd
  isplitl [Ht]; · iexact Ht
  iapply (open_of m K (c, none)); iexact HR

/-- Device `c` waits for one of its fifteen semaphores: what its transfer hands over comes, and the semaphore stands at 0. -/
theorem step_wait (K) (c : Dev nD) (ck : Key) {s : DmaSem sig} (hs : SemLoc.dma s = osem ck)
    {R : Shape} {e : EltTy} {S T : Memref sig .tc .hbm R e} {hS : S.view.WordExact} {hT : T.view.WordExact} (hN : T.view.dmaCredit = amt ck)
    {α : Type} {Q : α → sProp 𝕄} {k : PUnit → Prog (TpuEff nD τ sig (Elt F) Λ₀ .tc) α} (W : Waits sig Unit) :
    iprop(records m K ∗ cred (tallyAt (kcell (c, ck)) () (amt ck)) ∗ owes (c : Thread nD τ) 0 W ∗ atPos ER (kcell (c, ck)) 0 ∅ 0)
      ⊢ iprop(((owes (c : Thread nD τ) 0 (insert (osem ck, ()) W) ∗ pay m c ck ∗ semVal (kcell (c, ck)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s S T hS hT) k) Q) := by
  have e₁ : (kcell (c, ck) : GSem nD τ sig) = ((c : Thread nD τ), SemLoc.dma s) := by rw [hs]
  iintro ⟨#HR, Hc, HO, Hat⟩ Hk
  rw [← hN]
  have main := Rounds.wp_wait_rest_token (defs := defs₀ (F := F)) 𝒱₀ ER (rd m) (c : Thread nD τ) none (κ := K (c, ck)) (Γ := .empty) (Q := Q) (k := k)
    (wpE_waitDma2_eq (defs := defs₀ (F := F)) (src := S) (dst := T) (sem := s) (hsrc := hS) (hdst := hT) 𝒱₀ (c : Thread nD τ) none Set.univ) (Set.mem_univ _) () (O := 0) (W := W) (R := 0) (m := 0) (T := ∅)
    (by rw [Nat.zero_add, ← e₁, expect_cell, hN])
  rw [← e₁] at main
  iapply main $$ [Hc HO Hat]
  · isplitr; · iapply (inv_of m K (c, ck)); iexact HR
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, ck))) (fun h => h) (R := 0 + 1) (duties_later m (kcell (c, ck)))) $$ [Hat] with Hz
  · isplitr; · iapply (inv_of m K (c, ck)); iexact HR
    iexact Hat
  iapply Hk
  isplitl [HO]; · rw [← hs]; iexact HO
  isplitl [Hpay]; · iapply (Entails.of_eq (rest_cell m (c, ck))); iexact Hpay
  iexact Hz

end Cert.Kernel6Ideal.Down
-- ==== Proof.DownKernel.lean ====
/- The body at a point of the grid: at the first the copies leave, at the last every semaphore is waited for, and at each
   the tile takes its product. -/
module

public import proofs.«01_k».proof.Proof.DownSteps

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The seven copies' resources, one by one. -/
theorem sep_seven {M : Type} [URA M] (Φ : Cp → sProp M) :
    bigSep Finset.univ Φ = iprop(Φ (.inl 0) ∗ Φ (.inl 1) ∗ Φ (.inl 2) ∗ Φ (.inl 3) ∗ Φ (.inr 0) ∗ Φ (.inr 1) ∗ Φ (.inr 2)) :=
  bigSep_univ_eq_bigSepL [(.inl 0 : Cp), .inl 1, .inl 2, .inl 3, .inr 0, .inr 1, .inr 2] (by decide) (by decide) Φ

/-- The fifteen semaphores' resources: the one of the copy to the device itself, those of what leaves, those of what comes. -/
theorem by_kind {M : Type} [URA M] (Φ : Key → sProp M) :
    bigSep Finset.univ Φ = iprop(Φ none ∗ (bigSep Finset.univ fun x => Φ (some (false, x))) ∗ bigSep Finset.univ fun x => Φ (some (true, x))) := by
  have h2 (Ψ : Bool × Cp → sProp M) : bigSep Finset.univ Ψ = iprop((bigSep Finset.univ fun x => Ψ (false, x)) ∗ bigSep Finset.univ fun x => Ψ (true, x)) := by
    rw [bigSep_univ_prod]
    exact bigSep_univ_eq_bigSepL [false, true] (by decide) (by decide) _
  rw [← h2 fun p => Φ (some p), bigSep_univ_equiv (Equiv.optionEquivSumPUnit.{0, 0} (Bool × Cp)).symm Φ, bigSep_univ_sum]
  rw [bigSep_univ_eq_bigSepL [PUnit.unit.{1}] (by decide) (by decide) fun b : PUnit.{1} => Φ ((Equiv.optionEquivSumPUnit.{0, 0} (Bool × Cp)).symm (Sum.inr b))]
  refine Idealize.SL.BI.Entails.antisymm (show iprop((bigSep Finset.univ fun p => Φ (some p)) ∗ Φ none) ⊢ iprop(Φ none ∗ bigSep Finset.univ fun p => Φ (some p)) from ?_)
    (show iprop(Φ none ∗ bigSep Finset.univ fun p => Φ (some p)) ⊢ iprop((bigSep Finset.univ fun p => Φ (some p)) ∗ Φ none) from ?_)
  · iintro ⟨$, $⟩
  · iintro ⟨$, $⟩

/-- What copy `x` of a device needs to leave: what it reads, what it fills, and the right to pay the two semaphores. -/
def outgoing (c : Dev nD) (x : Cp) : sProp 𝕄 :=
  iprop(reads m x c ∗ awaits m x (mate x c) ∗ dutyTok ER (kcell (c, some (false, x))) 0 () ∗ dutyTok ER (kcell (mate x c, some (true, x))) 0 ())
/-- What its copy to itself needs. -/
def home (c : Dev nD) : sProp 𝕄 :=
  iprop(partPts m c none ∗ slotPts c none (m ((c : Thread nD τ).loc main_v1_2)) ∗ dutyTok ER (kcell (c, none)) 0 ())
def second (i : grid0.Coords) : BitVec 1 :=
  Scalar.cmpi .ne (Scalar.extui (Scalar.cmpi .eq (BitVec.ofNat 32 (i 2).val) 0#32)) 0#32

theorem hz2 : (![0, 0] : Fin 2 → Nat) = fun _ => 0 := funext fun a => by fin_cases a <;> rfl

section Kernel
variable (c : Dev nD) (i : grid0.Coords) (arg3 : Memref sig .tc .vmem S2048x1408 .bf16) (harg3 : arg3.IsWhole)
  (arg4 : Memref sig .tc .vmem S2048x1024 .bf16) (harg4 : arg4.IsWhole) (arg7 : Memref sig .tc .vmem S1408x1024 .f32) (harg7 : arg7.IsWhole)
  (x0 : Vec F S2048x1408 .bf16) (x1 : Vec F S2048x1024 .bf16) (y : Vec F S1408x1024 .f32)

/-- The three staging buffers. -/
def staged (X : Vec F S1408x1024 .f32) : sProp 𝕄 :=
  iprop(owns (c : Thread nD τ) arg3 fullShare x0 ∗ owns (c : Thread nD τ) arg4 fullShare x1 ∗ owns (c : Thread nD τ) arg7 fullShare X)

/-- The body on its operands. -/
abbrev kern : Prog (TpuEff nD τ sig (Elt F) Λ₀ .tc) PUnit :=
  cc0_wgrad_ffn1_down i arg3 harg3 arg4 harg4 (Memref.whole main_arg2) (Memref.isWhole_whole _) (Memref.whole main_arg3) (Memref.isWhole_whole _) arg7 harg7
    (Memref.whole main_v1_1) (Memref.isWhole_whole _) (Memref.whole main_v1_2) (Memref.isWhole_whole _)
    cc0_scratch0 cc0_scratch1 cc0_scratch2 cc0_scratch3 cc0_scratch4

set_option maxHeartbeats 3200000 in
/-- The first point of the whole grid: the copies leave, the tile starts at zero. -/
theorem kern_first (h1 : k0_cond1 i = 1#1) (h2 : second i = 1#1) (h3 : ¬k0_cond3 i = 1#1) (K) (W : Waits sig Unit) (Kt : PUnit → sProp 𝕄) :
    iprop(records m K ∗ (bigSep Finset.univ fun x => outgoing m c x) ∗ home m c ∗ owes (c : Thread nD τ) (O₀ c) W ∗ staged c arg3 arg4 arg7 x0 x1 y
        ∗ (((bigSep Finset.univ fun x : Cp => cred (tallyAt (kcell (c, some (false, x))) () (amt (some (false, x)))))
            ∗ cred (tallyAt (kcell (c, none)) () (amt none)) ∗ owes (c : Thread nD τ) 0 W
            ∗ staged c arg3 arg4 arg7 x0 x1 (k0_pay2 (k0_pay1 (F := F)) x0 x1)) -∗ Kt ⟨⟩))
      ⊢ wp frame (wpE (defs₀ (F := F)) 𝒱₀ (c : Thread nD τ) none) Set.univ (kern i arg3 harg3 arg4 harg4 arg7 harg7) Kt := by
  rw [sep_seven, sep_seven]
  unfold staged home outgoing
  simp only [reads, awaits, mate]
  iintro ⟨#HR, ⟨⟨Hs0, Hd0, Ht0, Hu0⟩, ⟨Hs1, Hd1, Ht1, Hu1⟩, ⟨Hs2, Hd2, Ht2, Hu2⟩, ⟨Hs3, Hd3, Ht3, Hu3⟩, ⟨Hs4, Hd4, Ht4, Hu4⟩, ⟨Hs5, Hd5, Ht5, Hu5⟩, ⟨Hs6, Hd6, Ht6, Hu6⟩⟩, ⟨Hs, Hd, Ht⟩, HO, ⟨H3, H4, H7⟩, Hk⟩
  simp only [kern, cc0_wgrad_ffn1_down_eq_skeleton]
  unfold cc0_wgrad_ffn1_down_skel
  have h2' : Scalar.cmpi .ne (Scalar.extui (Scalar.cmpi .eq (BitVec.ofNat 32 (i 2).val) 0#32)) 0#32 = 1#1 := h2
  simp only [dif_pos h1, dif_pos h2', dif_neg h3, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iapply (step_send m K c _ (peer_dev1 c _) 0 rfl rfl rfl rfl _ (O₀ c) (due c (.inr 2) + due c (.inr 1) + due c (.inr 0) + due c (.inl 3) + due c (.inl 2) + due c (.inl 1)) rfl W) $$ [Hs0 Hd0 HO Ht0 Hu0]
  · isplitr; · iexact HR
    isplitl [Hs0]; · iexact Hs0
    isplitl [Hd0]; · iexact Hd0
    isplitl [HO]; · iexact HO
    isplitl [Ht0] <;> iassumption
  iintro ⟨Hc0, HO⟩
  iapply (step_send m K c _ (peer_dev2 c _) 1 rfl rfl rfl rfl _ (due c (.inr 2) + due c (.inr 1) + due c (.inr 0) + due c (.inl 3) + due c (.inl 2) + due c (.inl 1)) (due c (.inr 2) + due c (.inr 1) + due c (.inr 0) + due c (.inl 3) + due c (.inl 2)) rfl W) $$ [Hs1 Hd1 HO Ht1 Hu1]
  · isplitr; · iexact HR
    isplitl [Hs1]; · iexact Hs1
    isplitl [Hd1]; · iexact Hd1
    isplitl [HO]; · iexact HO
    isplitl [Ht1] <;> iassumption
  iintro ⟨Hc1, HO⟩
  iapply (step_send m K c _ (peer_dev3 c _) 2 rfl rfl rfl rfl _ (due c (.inr 2) + due c (.inr 1) + due c (.inr 0) + due c (.inl 3) + due c (.inl 2)) (due c (.inr 2) + due c (.inr 1) + due c (.inr 0) + due c (.inl 3)) rfl W) $$ [Hs2 Hd2 HO Ht2 Hu2]
  · isplitr; · iexact HR
    isplitl [Hs2]; · iexact Hs2
    isplitl [Hd2]; · iexact Hd2
    isplitl [HO]; · iexact HO
    isplitl [Ht2] <;> iassumption
  iintro ⟨Hc2, HO⟩
  iapply (step_send m K c _ (peer_dev4 c _) 3 rfl rfl rfl rfl _ (due c (.inr 2) + due c (.inr 1) + due c (.inr 0) + due c (.inl 3)) (due c (.inr 2) + due c (.inr 1) + due c (.inr 0)) rfl W) $$ [Hs3 Hd3 HO Ht3 Hu3]
  · isplitr; · iexact HR
    isplitl [Hs3]; · iexact Hs3
    isplitl [Hd3]; · iexact Hd3
    isplitl [HO]; · iexact HO
    isplitl [Ht3] <;> iassumption
  iintro ⟨Hc3, HO⟩
  iapply (step_own m K c rfl (part_at _ (off2_at c) _) (slot_at _ (off2_at c) _) _) $$ [Hs Hd Ht]
  · isplitr; · iexact HR
    isplitl [Hs]; · iexact Hs
    isplitl [Hd] <;> iassumption
  iintro Hc
  iapply (step_far m K c _ 0 (over_dev5 c _) rfl rfl (part_at _ (off3_at c) _) (slot_at _ (off2_at c) _) _ (due c (.inr 2) + due c (.inr 1) + due c (.inr 0)) (due c (.inr 2) + due c (.inr 1)) rfl W) $$ [Hs4 Hd4 HO Ht4 Hu4]
  · isplitr; · iexact HR
    isplitl [Hs4]; · iexact Hs4
    isplitl [Hd4]; · iexact Hd4
    isplitl [HO]; · iexact HO
    isplitl [Ht4] <;> iassumption
  iintro ⟨Hc4, HO⟩
  iapply (step_far m K c _ 1 (over_dev6 c _) rfl rfl (part_at _ (off4_at c) _) (slot_at _ (off2_at c) _) _ (due c (.inr 2) + due c (.inr 1)) (due c (.inr 2)) rfl W) $$ [Hs5 Hd5 HO Ht5 Hu5]
  · isplitr; · iexact HR
    isplitl [Hs5]; · iexact Hs5
    isplitl [Hd5]; · iexact Hd5
    isplitl [HO]; · iexact HO
    isplitl [Ht5] <;> iassumption
  iintro ⟨Hc5, HO⟩
  iapply (step_far m K c _ 2 (over_dev7 c _) rfl rfl (part_at _ (off5_at c) _) (slot_at _ (off2_at c) _) _ (due c (.inr 2)) (0) (zero_add _).symm W) $$ [Hs6 Hd6 HO Ht6 Hu6]
  · isplitr; · iexact HR
    isplitl [Hs6]; · iexact Hs6
    isplitl [Hd6]; · iexact Hd6
    isplitl [HO]; · iexact HO
    isplitl [Ht6] <;> iassumption
  iintro ⟨Hc6, HO⟩
  iapply (load_owned 𝒱₀ c hz2 _ y) $$ H7; iintro H7
  iapply (store_owned 𝒱₀ c hz2 _) $$ H7; iintro H7
  iapply (load_owned 𝒱₀ c hz2 _ (k0_pay1 (F := F))) $$ H7; iintro H7
  iapply (load_owned 𝒱₀ c hz2 _ x0) $$ H3; iintro H3
  iapply (load_owned 𝒱₀ c hz2 _ x1) $$ H4; iintro H4
  iapply (load_owned 𝒱₀ c hz2 _ (k0_pay1 (F := F))) $$ H7; iintro H7
  iapply (store_owned 𝒱₀ c hz2 _) $$ H7; iintro H7
  rw [wp_ret]; imodintro
  iapply Hk
  isplitl [Hc0 Hc1 Hc2 Hc3 Hc4 Hc5 Hc6]
  · isplitl [Hc0]; · iexact Hc0
    isplitl [Hc1]; · iexact Hc1
    isplitl [Hc2]; · iexact Hc2
    isplitl [Hc3]; · iexact Hc3
    isplitl [Hc4]; · iexact Hc4
    isplitl [Hc5] <;> iassumption
  isplitl [Hc]; · iexact Hc
  isplitl [HO]; · iexact HO
  isplitl [H3]; · iexact H3
  isplitl [H4]; · iexact H4
  iexact H7

set_option maxHeartbeats 1600000 in
/-- A point that starts a tile at zero and touches no copy. -/
theorem kern_zero (h1 : ¬k0_cond1 i = 1#1) (h2 : second i = 1#1) (h3 : ¬k0_cond3 i = 1#1) (Kt : PUnit → sProp 𝕄) :
    iprop(staged c arg3 arg4 arg7 x0 x1 y ∗ (staged c arg3 arg4 arg7 x0 x1 (k0_pay2 (k0_pay1 (F := F)) x0 x1) -∗ Kt ⟨⟩))
      ⊢ wp frame (wpE (defs₀ (F := F)) 𝒱₀ (c : Thread nD τ) none) Set.univ (kern i arg3 harg3 arg4 harg4 arg7 harg7) Kt := by
  unfold staged
  iintro ⟨⟨H3, H4, H7⟩, Hk⟩
  simp only [kern, cc0_wgrad_ffn1_down_eq_skeleton]
  unfold cc0_wgrad_ffn1_down_skel
  have h2' : Scalar.cmpi .ne (Scalar.extui (Scalar.cmpi .eq (BitVec.ofNat 32 (i 2).val) 0#32)) 0#32 = 1#1 := h2
  simp only [dif_neg h1, dif_pos h2', dif_neg h3, Prog.lift, Prog.bind_op, Prog.bind_ret, Prog.pure_eq_ret]
  iapply (load_owned 𝒱₀ c hz2 _ y) $$ H7; iintro H7
  iapply (store_owned 𝒱₀ c hz2 _) $$ H7; iintro H7
  iapply (load_owned 𝒱₀ c hz2 _ (k0_pay1 (F := F))) $$ H7; iintro H7
  iapply (load_owned 𝒱₀ c hz2 _ x0) $$ H3; iintro H3
  iapply (load_owned 𝒱₀ c hz2 _ x1) $$ H4; iintro H4
  iapply (load_owned 𝒱₀ c hz2 _ (k0_pay1 (F := F))) $$ H7; iintro H7
  iapply (store_owned 𝒱₀ c hz2 _) $$ H7; iintro H7
  rw [wp_ret]; imodintro
  iapply Hk
  isplitl [H3]; · iexact H3
  isplitl [H4]; · iexact H4
  iexact H7

set_option maxHeartbeats 1600000 in
/-- A point that adds to its tile and touches no copy. -/
theorem kern_add (h1 : ¬k0_cond1 i = 1#1) (h2 : ¬second i = 1#1) (h3 : ¬k0_cond3 i = 1#1) (Kt : PUnit → sProp 𝕄) :
    iprop(staged c arg3 arg4 arg7 x0 x1 y ∗ (staged c arg3 arg4 arg7 x0 x1 (k0_pay2 y x0 x1) -∗ Kt ⟨⟩))
      ⊢ wp frame (wpE (defs₀ (F := F)) 𝒱₀ (c : Thread nD τ) none) Set.univ (kern i arg3 harg3 arg4 harg4 arg7 harg7) Kt := by
  unfold staged
  iintro ⟨⟨H3, H4, H7⟩, Hk⟩
  simp only [kern, cc0_wgrad_ffn1_down_eq_skeleton]
  unfold cc0_wgrad_ffn1_down_skel
  have h2' : ¬Scalar.cmpi .ne (Scalar.extui (Scalar.cmpi .eq (BitVec.ofNat 32 (i 2).val) 0#32)) 0#32 = 1#1 := h2
  simp only [dif_neg h1, dif_neg h2', dif_neg h3, Prog.lift, Prog.bind_op, Prog.bind_ret, Prog.pure_eq_ret]
  iapply (load_owned 𝒱₀ c hz2 _ y) $$ H7; iintro H7
  iapply (load_owned 𝒱₀ c hz2 _ x0) $$ H3; iintro H3
  iapply (load_owned 𝒱₀ c hz2 _ x1) $$ H4; iintro H4
  iapply (load_owned 𝒱₀ c hz2 _ y) $$ H7; iintro H7
  iapply (store_owned 𝒱₀ c hz2 _) $$ H7; iintro H7
  rw [wp_ret]; imodintro
  iapply Hk
  isplitl [H3]; · iexact H3
  isplitl [H4]; · iexact H4
  iexact H7

/-- A transfer's amount is its block's size, or its part's, whatever the block or the part. -/
theorem credit_block (T : Memref sig .tc .hbm S352x1024 .f32) (b : Bool) (q : Fin 4) : T.view.dmaCredit = amt (some (b, .inl q)) := rfl
theorem credit_part (T : Memref sig .tc .hbm S352x1024 .bf16) (b : Bool) (j : Fin 3) : T.view.dmaCredit = amt (some (b, .inr j)) := rfl
theorem credit_own (T : Memref sig .tc .hbm S352x1024 .bf16) : T.view.dmaCredit = amt none := rfl

set_option maxHeartbeats 3200000 in
/-- The last point of the whole grid: the tile is finished, then every semaphore is waited for. -/
theorem kern_last (h1 : ¬k0_cond1 i = 1#1) (h2 : ¬second i = 1#1) (h3 : k0_cond3 i = 1#1) (K) (W : Waits sig Unit) (Kt : PUnit → sProp 𝕄) :
    iprop(records m K ∗ (bigSep Finset.univ fun k => cred (tallyAt (kcell (c, k)) () (amt k))) ∗ (bigSep Finset.univ fun k => atPos ER (kcell (c, k)) 0 ∅ 0)
        ∗ owes (c : Thread nD τ) 0 W ∗ staged c arg3 arg4 arg7 x0 x1 y
        ∗ (((bigSep Finset.univ fun k => pay m c k) ∗ (bigSep Finset.univ fun k => semVal (kcell (c, k)) 0)
            ∗ (∃ W', owes (c : Thread nD τ) 0 W') ∗ staged c arg3 arg4 arg7 x0 x1 (k0_pay2 y x0 x1)) -∗ Kt ⟨⟩))
      ⊢ wp frame (wpE (defs₀ (F := F)) 𝒱₀ (c : Thread nD τ) none) Set.univ (kern i arg3 harg3 arg4 harg4 arg7 harg7) Kt := by
  simp only [by_kind, sep_seven]
  unfold staged
  iintro ⟨#HR, ⟨Hc, ⟨Hcs0, Hcs1, Hcs2, Hcs3, Hcs4, Hcs5, Hcs6⟩, ⟨Hcr0, Hcr1, Hcr2, Hcr3, Hcr4, Hcr5, Hcr6⟩⟩, ⟨Ha, ⟨Has0, Has1, Has2, Has3, Has4, Has5, Has6⟩, ⟨Har0, Har1, Har2, Har3, Har4, Har5, Har6⟩⟩, HO, ⟨H3, H4, H7⟩, Hk⟩
  simp only [kern, cc0_wgrad_ffn1_down_eq_skeleton]
  unfold cc0_wgrad_ffn1_down_skel
  have h2' : ¬Scalar.cmpi .ne (Scalar.extui (Scalar.cmpi .eq (BitVec.ofNat 32 (i 2).val) 0#32)) 0#32 = 1#1 := h2
  simp only [dif_neg h1, dif_neg h2', dif_pos h3, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret, wp_deviceId]
  iapply (load_owned 𝒱₀ c hz2 _ y) $$ H7; iintro H7
  iapply (load_owned 𝒱₀ c hz2 _ x0) $$ H3; iintro H3
  iapply (load_owned 𝒱₀ c hz2 _ x1) $$ H4; iintro H4
  iapply (load_owned 𝒱₀ c hz2 _ y) $$ H7; iintro H7
  iapply (store_owned 𝒱₀ c hz2 _) $$ H7; iintro H7
  rw [wp_deviceId]
  iapply (step_wait m K c (some (false, .inl 0)) rfl (credit_block _ _ _) _) $$ [Hcs0 HO Has0]
  · isplitr; · iexact HR
    isplitl [Hcs0]; · iexact Hcs0
    isplitl [HO]; · iexact HO
    iexact Has0
  iintro ⟨HO, Hps0, Hzs0⟩
  iapply (step_wait m K c (some (true, .inl 0)) rfl (credit_block _ _ _) _) $$ [Hcr0 HO Har0]
  · isplitr; · iexact HR
    isplitl [Hcr0]; · iexact Hcr0
    isplitl [HO]; · iexact HO
    iexact Har0
  iintro ⟨HO, Hpr0, Hzr0⟩
  iapply (step_wait m K c (some (false, .inl 1)) rfl (credit_block _ _ _) _) $$ [Hcs1 HO Has1]
  · isplitr; · iexact HR
    isplitl [Hcs1]; · iexact Hcs1
    isplitl [HO]; · iexact HO
    iexact Has1
  iintro ⟨HO, Hps1, Hzs1⟩
  iapply (step_wait m K c (some (true, .inl 1)) rfl (credit_block _ _ _) _) $$ [Hcr1 HO Har1]
  · isplitr; · iexact HR
    isplitl [Hcr1]; · iexact Hcr1
    isplitl [HO]; · iexact HO
    iexact Har1
  iintro ⟨HO, Hpr1, Hzr1⟩
  iapply (step_wait m K c (some (false, .inl 2)) rfl (credit_block _ _ _) _) $$ [Hcs2 HO Has2]
  · isplitr; · iexact HR
    isplitl [Hcs2]; · iexact Hcs2
    isplitl [HO]; · iexact HO
    iexact Has2
  iintro ⟨HO, Hps2, Hzs2⟩
  iapply (step_wait m K c (some (true, .inl 2)) rfl (credit_block _ _ _) _) $$ [Hcr2 HO Har2]
  · isplitr; · iexact HR
    isplitl [Hcr2]; · iexact Hcr2
    isplitl [HO]; · iexact HO
    iexact Har2
  iintro ⟨HO, Hpr2, Hzr2⟩
  iapply (step_wait m K c (some (false, .inl 3)) rfl (credit_block _ _ _) _) $$ [Hcs3 HO Has3]
  · isplitr; · iexact HR
    isplitl [Hcs3]; · iexact Hcs3
    isplitl [HO]; · iexact HO
    iexact Has3
  iintro ⟨HO, Hps3, Hzs3⟩
  iapply (step_wait m K c (some (true, .inl 3)) rfl (credit_block _ _ _) _) $$ [Hcr3 HO Har3]
  · isplitr; · iexact HR
    isplitl [Hcr3]; · iexact Hcr3
    isplitl [HO]; · iexact HO
    iexact Har3
  iintro ⟨HO, Hpr3, Hzr3⟩
  iapply (step_wait m K c (some (true, .inr 0)) rfl (credit_part _ _ _) _) $$ [Hcr4 HO Har4]
  · isplitr; · iexact HR
    isplitl [Hcr4]; · iexact Hcr4
    isplitl [HO]; · iexact HO
    iexact Har4
  iintro ⟨HO, Hpr4, Hzr4⟩
  iapply (step_wait m K c (some (true, .inr 1)) rfl (credit_part _ _ _) _) $$ [Hcr5 HO Har5]
  · isplitr; · iexact HR
    isplitl [Hcr5]; · iexact Hcr5
    isplitl [HO]; · iexact HO
    iexact Har5
  iintro ⟨HO, Hpr5, Hzr5⟩
  iapply (step_wait m K c (some (true, .inr 2)) rfl (credit_part _ _ _) _) $$ [Hcr6 HO Har6]
  · isplitr; · iexact HR
    isplitl [Hcr6]; · iexact Hcr6
    isplitl [HO]; · iexact HO
    iexact Har6
  iintro ⟨HO, Hpr6, Hzr6⟩
  iapply (step_wait m K c (some (false, .inr 0)) rfl (credit_part _ _ _) _) $$ [Hcs4 HO Has4]
  · isplitr; · iexact HR
    isplitl [Hcs4]; · iexact Hcs4
    isplitl [HO]; · iexact HO
    iexact Has4
  iintro ⟨HO, Hps4, Hzs4⟩
  iapply (step_wait m K c (some (false, .inr 1)) rfl (credit_part _ _ _) _) $$ [Hcs5 HO Has5]
  · isplitr; · iexact HR
    isplitl [Hcs5]; · iexact Hcs5
    isplitl [HO]; · iexact HO
    iexact Has5
  iintro ⟨HO, Hps5, Hzs5⟩
  iapply (step_wait m K c (some (false, .inr 2)) rfl (credit_part _ _ _) _) $$ [Hcs6 HO Has6]
  · isplitr; · iexact HR
    isplitl [Hcs6]; · iexact Hcs6
    isplitl [HO]; · iexact HO
    iexact Has6
  iintro ⟨HO, Hps6, Hzs6⟩
  iapply (step_wait m K c none rfl (credit_own _) _) $$ [Hc HO Ha]
  · isplitr; · iexact HR
    isplitl [Hc]; · iexact Hc
    isplitl [HO]; · iexact HO
    iexact Ha
  iintro ⟨HO, Hp, Hz⟩
  rw [wp_ret]; imodintro
  iapply Hk
  isplitl [Hp Hps0 Hps1 Hps2 Hps3 Hps4 Hps5 Hps6 Hpr0 Hpr1 Hpr2 Hpr3 Hpr4 Hpr5 Hpr6]
  · isplitl [Hp]; · iexact Hp
    isplitl [Hps0 Hps1 Hps2 Hps3 Hps4 Hps5 Hps6]
    · isplitl [Hps0]; · iexact Hps0
      isplitl [Hps1]; · iexact Hps1
      isplitl [Hps2]; · iexact Hps2
      isplitl [Hps3]; · iexact Hps3
      isplitl [Hps4]; · iexact Hps4
      isplitl [Hps5] <;> iassumption
    isplitl [Hpr0]; · iexact Hpr0
    isplitl [Hpr1]; · iexact Hpr1
    isplitl [Hpr2]; · iexact Hpr2
    isplitl [Hpr3]; · iexact Hpr3
    isplitl [Hpr4]; · iexact Hpr4
    isplitl [Hpr5] <;> iassumption
  isplitl [Hz Hzs0 Hzs1 Hzs2 Hzs3 Hzs4 Hzs5 Hzs6 Hzr0 Hzr1 Hzr2 Hzr3 Hzr4 Hzr5 Hzr6]
  · isplitl [Hz]; · iexact Hz
    isplitl [Hzs0 Hzs1 Hzs2 Hzs3 Hzs4 Hzs5 Hzs6]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5] <;> iassumption
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5] <;> iassumption
  isplitl [HO]; · iexists _; iexact HO
  isplitl [H3]; · iexact H3
  isplitl [H4]; · iexact H4
  iexact H7

end Kernel

end Cert.Kernel6Ideal.Down
-- ==== Proof.DownData.lean ====
/- What the pipeline's loop keeps from point to point beside its staging buffers, the contents of those buffers, and the
   body's obligation at every point of the grid. -/
module

public import proofs.«01_k».proof.Proof.DownKernel

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the pipeline's loop keeps -/

/-- Before the first point: every semaphore unpaid, the others' debts to the device, and what its copies need. -/
def phi0 (c : Dev nD) : sProp 𝕄 :=
  iprop(∃ K, records m K ∗ (bigSep Finset.univ fun k => atPos ER (kcell (c, k)) 0 ∅ 0)
    ∗ (bigSep Finset.univ fun x : Cp => cred (tallyAt (kcell (c, some (true, x))) () (amt (some (true, x))))) ∗ restPts m c
    ∗ (bigSep Finset.univ fun x => outgoing m c x) ∗ home m c)
/-- While the copies are on their way. -/
def phi1 (c : Dev nD) : sProp 𝕄 :=
  iprop(∃ K, records m K ∗ (bigSep Finset.univ fun k => atPos ER (kcell (c, k)) 0 ∅ 0)
    ∗ (bigSep Finset.univ fun x : Cp => cred (tallyAt (kcell (c, some (true, x))) () (amt (some (true, x))))) ∗ restPts m c
    ∗ (bigSep Finset.univ fun x : Cp => cred (tallyAt (kcell (c, some (false, x))) () (amt (some (false, x))))) ∗ cred (tallyAt (kcell (c, none)) () (amt none)))
/-- After the last point: what was sent back, what came written, the semaphores at zero. -/
def phi2 (c : Dev nD) : sProp 𝕄 :=
  iprop(restPts m c ∗ (bigSep Finset.univ fun k => pay m c k) ∗ bigSep Finset.univ fun k => semVal (kcell (c, k)) 0)

/-- The point before. -/
abbrev prev (t : Fin cfg0.N) : Fin cfg0.N := ⟨t.val - 1, lt_of_le_of_lt (Nat.sub_le _ _) t.isLt⟩
/-- A tile after its first point, and after point `t`. -/
def started (c : Dev nD) (t : Fin cfg0.N) : Vec F S1408x1024 .f32 := k0_pay2 (k0_pay1 (F := F)) (iblk m c 0 t) (iblk m c 1 t)
def tileAt (c : Dev nD) (t : Fin cfg0.N) : Vec F S1408x1024 .f32 :=
  if t.val % 2 = 0 then started m c t else k0_pay2 (started m c (prev t)) (iblk m c 0 t) (iblk m c 1 t)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => tileAt m c t
  Φ t := if t.val = 0 then phi0 m c else if t.val < 4 then phi1 m c else phi2 m c
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]

theorem phi_eq (c : Dev nD) (t : Fin (cfg0.N + 1)) : (dats m 0 c).Φ t = if t.val = 0 then phi0 m c else if t.val < 4 then phi1 m c else phi2 m c := by
  dsimp only [dats]
theorem owed_eq (c : Dev nD) (t : Fin (cfg0.N + 1)) : (dats m 0 c).owed t = if t.val = 0 then O₀ c else 0 := by dsimp only [dats]

/-- An operand's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
/-- At a tile's second point its buffer holds what the first left. -/
theorem before_2 (c : Dev nD) (t : Fin cfg0.N) (h : t.val % 2 = 1) (d) : (dats m 0 c).before 2 t d = started m c (prev t) := by
  have hN : t.val < 4 := lt_of_lt_of_eq t.isLt N_0
  rw [Dat.before_out_kept _ 2 rfl t (by omega) (Bool.eq_false_iff.mpr fun h' => by have := (flush0_2 _).mp h'; dsimp only at this; omega)
    (fun _ => rfl) (fun _ _ => rfl), after_2]
  exact if_pos (show (t.val - 1) % 2 = 0 by omega)

/-! ## The conditions at a point -/

theorem cond_first : ∀ t : Fin cfg0.N, k0_cond1 (grid0.coords t) = 1#1 ↔ t.val = 0 := by decide +kernel
theorem cond_second : ∀ t : Fin cfg0.N, second (grid0.coords t) = 1#1 ↔ t.val % 2 = 0 := by decide +kernel
theorem cond_last : ∀ t : Fin cfg0.N, k0_cond3 (grid0.coords t) = 1#1 ↔ t.val = 3 := by decide +kernel

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What is owed, and that any waits may have been recorded. -/
theorem owesAt_eq (c : Dev nD) (t : Fin (cfg0.N + 1)) :
    (dats m 0 c).owesAt () t = (iprop(∃ W, owes (c : Thread nD τ) (if t.val = 0 then O₀ c else 0) W) : sProp 𝕄) := by
  unfold Dat.owesAt Pipeline.owesWithin
  rw [owed_eq]
  refine Idealize.SL.BI.Entails.antisymm (show (_ : sProp 𝕄) ⊢ _ from ?_) (show (_ : sProp 𝕄) ⊢ _ from ?_)
  · iintro ⟨%W, -, H⟩; iexists W; iexact H
  · iintro ⟨%W, H⟩; iexists W
    isplitr; · ipureintro; exact fun _ _ => Or.inl trivial
    iexact H

omit [FloatOps F] in
theorem creds_all (c : Dev nD) :
    (iprop(cred (tallyAt (kcell (c, none)) () (amt none)) ∗ (bigSep Finset.univ fun x : Cp => cred (tallyAt (kcell (c, some (false, x))) () (amt (some (false, x)))))
        ∗ bigSep Finset.univ fun x : Cp => cred (tallyAt (kcell (c, some (true, x))) () (amt (some (true, x))))) : sProp 𝕄)
      ⊢ bigSep Finset.univ fun k => cred (tallyAt (kcell (c, k)) () (amt k)) := by
  rw [by_kind]

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  have hN : t.val < 4 := lt_of_lt_of_eq t.isLt N_0
  unfold bodyPre bodyPost
  simp only [before_0, before_1, after_0, after_1, after_2, owesAt_eq, phi_eq, Fin.val_castSucc, Fin.val_succ]
  rw [if_neg (show ¬t.val + 1 = 0 by omega), if_neg (show ¬t.val + 1 = 0 by omega)]
  by_cases h0 : t.val = 0
  · rw [if_pos h0, if_pos h0, if_pos (show t.val + 1 < 4 by omega)]
    rw [show tileAt m c t = k0_pay2 (k0_pay1 (F := F)) (iblk m c 0 t) (iblk m c 1 t) from if_pos (show t.val % 2 = 0 by omega)]
    unfold phi0 phi1
    iintro ⟨⟨%K, #HR, Hat, Hc, Hr, Ho, Hh⟩, ⟨%W, HO⟩, ⟨%d0, H0⟩, ⟨%d1, H1⟩, ⟨%d2, H2⟩⟩
    iapply (kern_first m c (grid0.coords t) (st0_0 t) _ (st0_1 t) _ (st0_2 t) _ (iblk m c 0 t) (iblk m c 1 t) _ ((cond_first t).mpr h0) ((cond_second t).mpr (by omega))
      (fun h => by have := (cond_last t).mp h; omega) K W)
    unfold staged
    isplitr; · iexact HR
    isplitl [Ho]; · iexact Ho
    isplitl [Hh]; · iexact Hh
    isplitl [HO]; · iexact HO
    isplitl [H0 H1 H2]
    · isplitl [H0]; · iexact H0
      isplitl [H1]; · iexact H1
      iexact H2
    iintro ⟨Hs, Hh, HO, H0, H1, H2⟩
    isplitl [Hat Hc Hr Hs Hh]
    · iexists K
      isplitr; · iexact HR
      isplitl [Hat]; · iexact Hat
      isplitl [Hc]; · iexact Hc
      isplitl [Hr]; · iexact Hr
      isplitl [Hs] <;> iassumption
    isplitl [HO]; · iexists W; iexact HO
    isplitl [H0]; · iexact H0
    isplitl [H1]; · iexact H1
    iexact H2
  rw [if_neg h0, if_neg h0, if_pos (show t.val < 4 by omega)]
  have hc1 : ¬k0_cond1 (grid0.coords t) = 1#1 := fun h => h0 ((cond_first t).mp h)
  by_cases h3 : t.val = 3
  · rw [if_neg (show ¬t.val + 1 < 4 by omega)]
    simp only [before_2 m c t (show t.val % 2 = 1 by omega)]
    rw [show tileAt m c t = k0_pay2 (started m c (prev t)) (iblk m c 0 t) (iblk m c 1 t) from if_neg (show ¬t.val % 2 = 0 by omega)]
    unfold phi1 phi2
    iintro ⟨⟨%K, #HR, Hat, Hc, Hr, Hs, Hh⟩, ⟨%W, HO⟩, ⟨%d0, H0⟩, ⟨%d1, H1⟩, ⟨%d2, H2⟩⟩
    iapply (kern_last m c (grid0.coords t) (st0_0 t) _ (st0_1 t) _ (st0_2 t) _ (iblk m c 0 t) (iblk m c 1 t) _ hc1 (fun h => by have := (cond_second t).mp h; omega)
      ((cond_last t).mpr h3) K W)
    unfold staged
    isplitr; · iexact HR
    isplitl [Hs Hc Hh]
    · iapply (creds_all c)
      isplitl [Hh]; · iexact Hh
      isplitl [Hs] <;> iassumption
    isplitl [Hat]; · iexact Hat
    isplitl [HO]; · iexact HO
    isplitl [H0 H1 H2]
    · isplitl [H0]; · iexact H0
      isplitl [H1]; · iexact H1
      iexact H2
    iintro ⟨Hp, Hz, HO, H0, H1, H2⟩
    isplitl [Hr Hp Hz]
    · isplitl [Hr]; · iexact Hr
      isplitl [Hp] <;> iassumption
    isplitl [HO]; · iexact HO
    isplitl [H0]; · iexact H0
    isplitl [H1]; · iexact H1
    iexact H2
  rw [if_pos (show t.val + 1 < 4 by omega)]
  have hc3 : ¬k0_cond3 (grid0.coords t) = 1#1 := fun h => h3 ((cond_last t).mp h)
  by_cases h2 : t.val % 2 = 0
  · rw [show tileAt m c t = k0_pay2 (k0_pay1 (F := F)) (iblk m c 0 t) (iblk m c 1 t) from if_pos h2]
    iintro ⟨HΦ, HO, ⟨%d0, H0⟩, ⟨%d1, H1⟩, ⟨%d2, H2⟩⟩
    iapply (kern_zero c (grid0.coords t) (st0_0 t) _ (st0_1 t) _ (st0_2 t) _ (iblk m c 0 t) (iblk m c 1 t) _ hc1 ((cond_second t).mpr h2) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2
  · simp only [before_2 m c t (show t.val % 2 = 1 by omega)]
    rw [show tileAt m c t = k0_pay2 (started m c (prev t)) (iblk m c 0 t) (iblk m c 1 t) from if_neg h2]
    iintro ⟨HΦ, HO, ⟨%d0, H0⟩, ⟨%d1, H1⟩, ⟨%d2, H2⟩⟩
    iapply (kern_add c (grid0.coords t) (st0_0 t) _ (st0_1 t) _ (st0_2 t) _ (iblk m c 0 t) (iblk m c 1 t) _ hc1 (fun h => h2 ((cond_second t).mp h)) hc3)
    unfold staged
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]; · iexact H0
    isplitl [H1]; · iexact H1
    iexact H2

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

end Cert.Kernel6Ideal.Down
-- ==== Proof.DownGhost.lean ====
/- The ghost state at launch, and the operands and results of every device dealt to the devices that copy between them. -/
module

public import proofs.«01_k».proof.Proof.DownData

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's ghost state -/

theorem ownSemFacts : Pipeline.OwnSemFacts cfg0.spec osem := by decide +kernel
theorem share_eq (c : Dev nD) (w : Fin cfg0.W) : (dats m 0 c).share w = fullShare := by unfold Dat.share; split <;> rfl

theorem kcell_injective : Function.Injective (kcell : Dev nD × Key → GSem nD τ sig) := by
  rintro ⟨c, k⟩ ⟨d, l⟩ h
  have hc : c = d := congrArg (fun g : GSem nD τ sig => g.1.1) h
  have hk : k = l := osem_inj (congrArg Prod.snd h)
  rw [hc, hk]

/-- The fifteen semaphores of every device, and the one transfer to each. -/
def crossCells : Finset (GSem nD τ sig) := Finset.univ.map ⟨kcell, kcell_injective⟩
def crossToks : Finset (GSem nD τ sig × ℕ × Unit) :=
  Finset.univ.map ⟨fun ck : Dev nD × Key => (kcell ck, 0, ()), fun _ _ h => kcell_injective (congrArg Prod.fst h)⟩
def u₀ : UU := (initOf (Pipeline.cells cfgs cellOf_inj) (Pipeline.launchToks cfgs cellOf_inj), initOf crossCells crossToks)

/-- A device's part: its schedule's state, its place in it, and the tokens of the transfers to it. -/
def share0 (c : Dev nD) : sProp 𝕄 :=
  iprop((bigSep Finset.univ fun k => roundState ER (rd m) (kcell (c, k)) 0) ∗ (bigSep Finset.univ fun k => reached ER (kcell (c, k)) 0)
    ∗ (bigSep Finset.univ fun k => atPos ER (kcell (c, k)) 0 ∅ 0) ∗ bigSep Finset.univ fun k => dutyTok ER (kcell (c, k)) 0 ())

omit [FloatOps F] in
theorem fund_cross : BI.own (ER (initOf crossCells crossToks)) ⊢ (|==> bigSep Finset.univ (share0 m) : sProp 𝕄) := by
  have hX (Φ : GSem nD τ sig → sProp 𝕄) : bigSep crossCells Φ = bigSep Finset.univ fun c : Dev nD => bigSep Finset.univ fun k : Key => Φ (kcell (c, k)) := by
    unfold crossCells; rw [bigSep_map, bigSep_univ_prod]; rfl
  have hT : bigSep crossToks (fun x => (dutyTok ER x.1 x.2.1 x.2.2 : sProp 𝕄))
      = bigSep Finset.univ fun c : Dev nD => bigSep Finset.univ fun k : Key => dutyTok ER (kcell (c, k)) 0 () := by
    unfold crossToks; rw [bigSep_map, bigSep_univ_prod]; rfl
  iintro H
  imod (Rounds.fund ER (rd m) crossCells crossToks) $$ H with ⟨Hs, Hr, Ha, Ht⟩
  imodintro
  ihave Hs := (Entails.of_eq (hX fun g => roundState ER (rd m) g 0)) $$ Hs
  ihave Hr := (Entails.of_eq (hX fun g => reached ER g 0)) $$ Hr
  ihave Ha := (Entails.of_eq (hX fun g => atPos ER g 0 ∅ 0)) $$ Ha
  ihave Ht := (Entails.of_eq hT) $$ Ht
  unfold share0; simp only [bigSep_sep']
  isplitl [Hs]; · iexact Hs
  isplitl [Hr]; · iexact Hr
  isplitl [Ha]; · iexact Ha
  iexact Ht

theorem ownU_start : (ownU u₀ : sProp 𝕄)
    ⊢ |={Set.univ}=> iprop(BI.own (EP (initOf (Pipeline.cells cfgs cellOf_inj) (Pipeline.launchToks cfgs cellOf_inj))) ∗ bigSep Finset.univ (share0 m)) := by
  unfold u₀
  iintro H
  ihave H := (ownU_pair _ _) $$ H
  icases H with ⟨HP, HX⟩
  imod (fund_cross m) $$ HX with HG
  imodintro
  isplitl [HP]; · iexact HP
  iexact HG

/-! ## The operands and the results dealt out -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k => semVal (kcell (c, k)) 0 := rfl

/-- Something for each way: for the device itself, and for the three others. -/
theorem sep_hop {M : Type} [URA M] (Φ : Hop → sProp M) : bigSep Finset.univ Φ = iprop(Φ none ∗ bigSep Finset.univ fun j : Fin 3 => Φ (some j)) := by
  rw [bigSep_univ_eq_bigSepL [(none : Hop), some 0, some 1, some 2] (by decide) (by decide) Φ,
    bigSep_univ_eq_bigSepL [(0 : Fin 3), 1, 2] (by decide) (by decide) fun j => Φ (some j)]
  rfl
/-- Something for each copy: for those to the partner, and for those to the other chips. -/
theorem sep_cp {M : Type} [URA M] (Φ : Cp → sProp M) :
    bigSep Finset.univ Φ = iprop((bigSep Finset.univ fun q : Fin 4 => Φ (.inl q)) ∗ bigSep Finset.univ fun j : Fin 3 => Φ (.inr j)) := bigSep_univ_sum Φ

/-- What a device brings, and what it works with: the others' results in place of its own. -/
def brought (c : Dev nD) : sProp 𝕄 :=
  iprop((bigSep Finset.univ fun k => atPos ER (kcell (c, k)) 0 ∅ 0) ∗ restPts m c ∗ (bigSep Finset.univ fun x => reads m x c)
    ∗ (bigSep Finset.univ fun x => awaits m x c) ∗ (bigSep Finset.univ fun x : Cp => dutyTok ER (kcell (c, some (false, x))) 0 ())
    ∗ (bigSep Finset.univ fun x : Cp => dutyTok ER (kcell (c, some (true, x))) 0 ()) ∗ home m c)
def dealt (c : Dev nD) : sProp 𝕄 :=
  iprop((bigSep Finset.univ fun k => atPos ER (kcell (c, k)) 0 ∅ 0) ∗ restPts m c ∗ (bigSep Finset.univ fun x => outgoing m c x) ∗ home m c)

/-- The devices and their copies, each taken to the device the copy goes to. -/
def cross : Dev nD × Cp ≃ Dev nD × Cp where
  toFun p := (mate p.2 p.1, p.2)
  invFun p := (mate p.2 p.1, p.2)
  left_inv p := Prod.ext (mate_mate p.2 p.1) rfl
  right_inv p := Prod.ext (mate_mate p.2 p.1) rfl

omit [FloatOps F] in
theorem across (Φ : Cp → Dev nD → sProp 𝕄) :
    (bigSep Finset.univ fun c => bigSep Finset.univ fun x => Φ x c) = bigSep Finset.univ fun c => bigSep Finset.univ fun x => Φ x (mate x c) := by
  rw [← bigSep_univ_prod (fun p : Dev nD × Cp => Φ p.2 p.1), ← bigSep_univ_prod (fun p : Dev nD × Cp => Φ p.2 (mate p.2 p.1))]
  exact bigSep_univ_equiv cross _

omit [FloatOps F] in
theorem trade : bigSep Finset.univ (brought m) ⊢ bigSep Finset.univ (dealt m) := by
  have hd := across (F := F) fun x c => awaits m x c
  have ht := across (F := F) fun x c => dutyTok ER (kcell (c, some (true, x))) 0 ()
  unfold brought dealt outgoing
  simp only [bigSep_sep']
  iintro ⟨Ha, Hr, Hs, Hd, Ht, Hu, Hh⟩
  ihave Hd := (Entails.of_eq hd) $$ Hd
  ihave Hu := (Entails.of_eq ht) $$ Hu
  isplitl [Ha]; · iexact Ha
  isplitl [Hr]; · iexact Hr
  isplitl [Hs Hd Ht Hu]
  · isplitl [Hs]; · iexact Hs
    isplitl [Hd]; · iexact Hd
    isplitl [Ht]; · iexact Ht
    iexact Hu
  iexact Hh

omit [FloatOps F] in
/-- The four arrays the exchanges use, cut into what each copy reads and fills. -/
theorem cut (c : Dev nD) :
    iprop((((c : Thread nD τ).loc main_arg2) ↦{fullShare} m ((c : Thread nD τ).loc main_arg2))
        ∗ (((c : Thread nD τ).loc main_arg3) ↦{fullShare} m ((c : Thread nD τ).loc main_arg3))
        ∗ (((c : Thread nD τ).loc main_v1_1) ↦{fullShare} m ((c : Thread nD τ).loc main_v1_1))
        ∗ (((c : Thread nD τ).loc main_v1_2) ↦{fullShare} m ((c : Thread nD τ).loc main_v1_2)))
      ⊢ (iprop(restPts m c ∗ (bigSep Finset.univ fun x => reads m x c) ∗ (bigSep Finset.univ fun x => awaits m x c)
          ∗ partPts m c none ∗ slotPts c none (m ((c : Thread nD τ).loc main_v1_2))) : sProp 𝕄) := by
  rw [parts_eq, slots_eq, arrivals_eq, sep_hop, sep_hop, sep_cp, sep_cp]
  dsimp only [reads, awaits]
  iintro ⟨H2, ⟨Hp, Hps⟩, H1, Hq, Hqs⟩
  ihave H2 := (blocks_eq m c).1 $$ H2
  icases H2 with ⟨Hx, Hrest⟩
  isplitl [Hrest]; · iexact Hrest
  isplitl [Hx Hps]
  · isplitl [Hx]; · iexact Hx
    iexact Hps
  isplitl [H1 Hqs]
  · isplitl [H1]; · iexact H1
    iexact Hqs
  isplitl [Hp] <;> iassumption

omit [FloatOps F] in
/-- And put together again, the results as they landed. -/
theorem mend (c : Dev nD) :
    iprop(restPts m c ∗ bigSep Finset.univ fun k => pay m c k)
      ⊢ (iprop((((c : Thread nD τ).loc main_arg2) ↦{fullShare} m ((c : Thread nD τ).loc main_arg2))
        ∗ (((c : Thread nD τ).loc main_arg3) ↦{fullShare} m ((c : Thread nD τ).loc main_arg3))
        ∗ (((c : Thread nD τ).loc main_v1_1) ↦{fullShare} landed m c) ∗ (((c : Thread nD τ).loc main_v1_2) ↦{fullShare} came m c)) : sProp 𝕄) := by
  rw [parts_eq, slots_eq, arrivals_eq, sep_hop, sep_hop, by_kind, sep_cp, sep_cp]
  dsimp only [pay, reads, filled]
  iintro ⟨Hrest, ⟨Hq, Hp⟩, ⟨Hx, Hps⟩, H1, Hqs⟩
  isplitl [Hx Hrest]
  · iapply (blocks_eq m c).2
    isplitl [Hx]; · iexact Hx
    iexact Hrest
  isplitl [Hp Hps]
  · isplitl [Hp]; · iexact Hp
    iexact Hps
  isplitl [H1]; · iexact H1
  isplitl [Hq]; · iexact Hq
  iexact Hqs

/-- What a device starts its kernel with. -/
def ready (c : Dev nD) : sProp 𝕄 := iprop(∃ K, records m K ∗ dealt m c)

theorem opened (c : Dev nD) :
    iprop(Pipeline.ownSems0 (Ix := Unit) (Name := ℕ) (U := UU) (Lvl := ℕ) (Val := Elt F) (τ := τ) osem c ∗ Pipeline.unscopedRest cfg0.spec c (V m c) ∗ share0 m c)
      ⊢ |={Set.univ}=> iprop((bigSep Finset.univ fun k => iprop(∃ κ : ℕ, cellInv ER (rd m) κ (kcell (c, k))))
          ∗ (bigSep Finset.univ fun k => (reached ER (kcell (c, k)) 0 : sProp 𝕄)) ∗ brought m c) := by
  unfold share0 brought
  rw [ownSems0_eq, show (Pipeline.unscopedRest cfg0.spec c (V m c) : sProp 𝕄) = _ from unscopedRest0_eq c (V m c), by_kind fun k => (dutyTok ER (kcell (c, k)) 0 () : sProp 𝕄)]
  unfold home
  iintro ⟨Hv, Hx, Hs, Hr, Ha, Hn, Ht, Hu⟩
  ihave Hx := (cut m c) $$ Hx
  icases Hx with ⟨Hrest, Hx, Hy, Hp, Hq⟩
  imod (show iprop((bigSep Finset.univ fun k => semVal (kcell (c, k)) 0) ∗ bigSep Finset.univ fun k => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hs] with HI
  · isplitl [Hv] <;> iassumption
  imodintro
  isplitl [HI]; · iexact HI
  isplitl [Hr]; · iexact Hr
  isplitl [Ha]; · iexact Ha
  isplitl [Hrest]; · iexact Hrest
  isplitl [Hx]; · iexact Hx
  isplitl [Hy]; · iexact Hy
  isplitl [Ht]; · iexact Ht
  isplitl [Hu]; · iexact Hu
  isplitl [Hp]; · iexact Hp
  isplitl [Hq]; · iexact Hq
  iexact Hn

omit [FloatOps F] in
theorem regroup :
    (bigSep Finset.univ fun c : Dev nD => iprop((bigSep Finset.univ fun k => iprop(∃ κ : ℕ, cellInv ER (rd m) κ (kcell (c, k))))
          ∗ (bigSep Finset.univ fun k => reached ER (kcell (c, k)) 0) ∗ brought m c) : sProp 𝕄)
      ⊢ bigSep Finset.univ (ready m) := by
  rw [bigSep_sep', bigSep_sep', ← bigSep_univ_prod (fun ck : Dev nD × Key => iprop(∃ κ : ℕ, cellInv ER (rd m) κ (kcell ck))),
    ← bigSep_univ_prod (fun ck : Dev nD × Key => (reached ER (kcell ck) 0 : sProp 𝕄))]
  iintro ⟨HI, #HR, Hb⟩
  ihave HK := (BI.bigSep_exists_pi Finset.univ (fun (ck : Dev nD × Key) (κ : ℕ) => (cellInv ER (rd m) κ (kcell ck) : sProp 𝕄))) $$ HI
  icases HK with ⟨%K, #HI⟩
  ihave Hd := (trade m) $$ Hb
  iapply (show iprop(records m K ∗ bigSep Finset.univ (dealt m)) ⊢ bigSep Finset.univ (ready m) from
    (sep_mono_left (BI.bigSep_of_persistent Finset.univ (records m K))).trans (by
      rw [← bigSep_sep']
      refine bigSep_mono fun c _ => ?_
      show iprop(records m K ∗ dealt m c) ⊢ ready m c
      unfold ready
      iintro ⟨#H, Hd⟩
      iexists K
      isplitr; · iexact H
      iexact Hd))
  isplitr
  · unfold records; isplitl; · iexact HI
    iexact HR
  · iexact Hd

theorem glob :
    (bigSep Finset.univ fun c => iprop(Pipeline.ownSems0 (Ix := Unit) (Name := ℕ) (U := UU) (Lvl := ℕ) (Val := Elt F) (τ := τ) osem c
        ∗ Pipeline.unscopedRest cfg0.spec c (V m c) ∗ share0 m c) : sProp 𝕄)
      ⊢ |={Set.univ}=> bigSep Finset.univ (ready m) :=
  ((bigSep_mono fun c _ => opened m c).trans (bigSep_fupd _ _)).trans (BI.fupd_mono (regroup m))

/-! ## Into the loop and out of it -/

theorem enter (c : Dev nD) :
    iprop((Pipeline.launchCred O₀ c ∗ ready m c)
        ∗ Pipeline.prefHeld Pipeline.Prefetch.none c (fun _ => fullShare.right) (fun k => k.elim0) ∗ Pipeline.scopedRest cfg0.spec c)
      ⊢ (dats m 0 c).Φ 0 := by
  rw [phi_eq, if_pos (show (0 : Fin (cfg0.N + 1)).val = 0 from rfl)]
  unfold phi0 ready dealt
  iintro ⟨⟨Hc, ⟨%K, #HR, Ha, Hr, Ho, Hh⟩⟩, -⟩
  ihave Hc := (creds (F := F) c) $$ Hc
  iexists K
  isplitr; · iexact HR
  isplitl [Ha]; · iexact Ha
  isplitl [Hc]; · iexact Hc
  isplitl [Hr]; · iexact Hr
  isplitl [Ho] <;> iassumption

/-- What a device keeps at the end, besides its windows' arrays: the operands as they were, the results as they landed. -/
def kept (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_v1_1) ↦{fullShare} landed m c) ∗ (((c : Thread nD τ).loc main_v1_2) ↦{fullShare} came m c))

theorem leave (c : Dev nD) :
    (dats m 0 c).Φ (Fin.last cfg0.N) ⊢ iprop(kept m c ∗ Pipeline.ownSems0 osem c ∗ Pipeline.scopedRest cfg0.spec c) := by
  have h4 : (Fin.last cfg0.N).val = 4 := N_0
  rw [phi_eq, if_neg (by omega), if_neg (by omega), ownSems0_eq, show (Pipeline.scopedRest cfg0.spec c : sProp 𝕄) = _ from scopedRest0_eq c]
  unfold phi2 kept
  iintro ⟨Hr, Hp, Hv⟩
  isplitr [Hv]
  · iapply (mend m c)
    isplitl [Hr] <;> iassumption
  isplitl [Hv]; · iexact Hv
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rw [owed_eq]; split
      · exact Or.inl rfl
      · exact Or.inr rfl)

end Cert.Kernel6Ideal.Down
-- ==== Proof.DownStart.lean ====
/- From a launch of the eight devices to what each device starts its program with. -/
module

public import proofs.«01_k».proof.Proof.DownGhost

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds before its program and after it -/

abbrev idle (c : Dev nD) : sProp 𝕄 := Pipeline.idleSems0 cfgs cellOf_inj (0 : Fin 1) ownSemFacts c
abbrev own0 (c : Dev nD) : sProp 𝕄 := Pipeline.ownSems0 (Ix := Unit) (Name := ℕ) (U := UU) (Lvl := ℕ) (Val := Elt F) (τ := τ) osem c

/-- The windows' arrays at contents `A`. -/
def windows (c : Dev nD) (A : (w : Fin cfg0.W) → Buf (Elt F) ((cfg0.spec w).arr.view.loc (c.tc : Thread nD τ))) : sProp 𝕄 :=
  bigSep Finset.univ fun w => (((c.tc : Thread nD τ).loc (Pipeline.arrRef cfg0.spec w)) ↦{fullShare} A w : sProp 𝕄)
/-- The windows' arrays once every tile is written back. -/
def finalA (c : Dev nD) (w : Fin cfg0.W) : Buf (Elt F) ((cfg0.spec w).arr.view.loc (c.tc : Thread nD τ)) := (dats m 0 c).arrAt w cfg0.N

theorem windows_eq (c : Dev nD) (A : (w : Fin cfg0.W) → Buf (Elt F) ((cfg0.spec w).arr.view.loc (c.tc : Thread nD τ))) : (dats m 0 c).arrays A = (windows c A : sProp 𝕄) :=
  Pipeline.arrays_eq cfgs (dats m) (0 : Fin 1) c arr_whole0 (share_eq m c) A

/-- What a device starts with. -/
def before (g : Dev nD → PrngReg) (c : Dev nD) : sProp 𝕄 :=
  iprop(scopedBufs (c : Thread nD τ) ∗ Pipeline.cellsSems0 cfgs (0 : Fin 1) c ∗ idle c ∗ windows c (fun w => V m c (Pipeline.arrRef cfg0.spec w))
    ∗ owes (c : Thread nD τ) (O₀ c) ∅ ∗ levAts L lv ∗ Pipeline.launchCred O₀ c ∗ Pipeline.cellsGhost cfgs EP (0 : Fin 1) c ∗ Pipeline.toksInit cfgs EP (0 : Fin 1) c ∗ ready m c)
/-- What it ends with. -/
def afterwards (c : Dev nD) : sProp 𝕄 := iprop(windows c (finalA m c) ∗ kept m c ∗ scopedSems0 (c : Thread nD τ))

theorem sems_split (c : Dev nD) : (scopedSems0 (c.tc : Thread nD τ) : sProp 𝕄) = iprop((Pipeline.cellsSems0 cfgs (0 : Fin 1) c ∗ own0 c) ∗ idle c) :=
  Pipeline.scopedSems0_split cfgs cellOf_inj (0 : Fin 1) winFacts0.to₀ ownSemFacts c
theorem bufs_split (c : Dev nD) : (scopedBufs (c.tc : Thread nD τ) : sProp 𝕄) = iprop(Dat.staging (cfgs 0) c ∗ Pipeline.scopedRest (cfgs 0).spec c) :=
  Pipeline.scopedBufs_split cfgs (0 : Fin 1) winFacts0.to₀.stage_scoped winFacts0.to₀.stage_inj stage_whole0 c
theorem mem_split (c : Dev nD) : (unscopedBufs c (V m c) : sProp 𝕄)
    = iprop(windows c (fun w => V m c (Pipeline.arrRef cfg0.spec w)) ∗ Pipeline.unscopedRest cfg0.spec c (V m c)) :=
  Pipeline.unscopedBufs_split cfgs (0 : Fin 1) winFacts0.to₀.arr_unscoped winFacts0.arr_inj c (V m c)

/-! ## From a launch to what every device starts with -/

/-- What the launch gives a device. -/
def given (g : Dev nD → PrngReg) (c : Dev nD) : sProp 𝕄 :=
  iprop((scopedBufs (c : Thread nD τ) ∗ Pipeline.cellsSems0 cfgs (0 : Fin 1) c ∗ idle c ∗ windows c (fun w => V m c (Pipeline.arrRef cfg0.spec w))
      ∗ owes (c : Thread nD τ) (O₀ c) ∅ ∗ Pipeline.launchCred O₀ c)
    ∗ (own0 c ∗ Pipeline.unscopedRest cfg0.spec c (V m c))
    ∗ levels0 (Ix := Unit) (Val := Elt F) (Name := ℕ) (U := UU) (Lvl := ℕ) (τ := τ) (sig := sig) c)

theorem given_intro (g : Dev nD → PrngReg) (c : Dev nD) :
    coreInit (Ix := Unit) (Name := ℕ) (U := UU) (Lvl := ℕ) (Pipeline.owing O₀) 0 (⟨m, fun _ => 0, g⟩ : MemSt nD τ sig (Elt F)) (c.tc : Thread nD τ) ⊢ given m g c := by
  refine (Pipeline.coreInit_boundary_owing O₀ m g c).trans ?_
  unfold boundary given
  rw [sems_split c, show (unscopedBufs c fun b => m ((c.tc : Thread nD τ).loc b) : sProp 𝕄) = _ from mem_split m c]
  iintro ⟨⟨Hb, ⟨⟨Hc, Ho⟩, Hi⟩, -⟩, ⟨Hw, Hr⟩, -, HO, Hl, -, Hcr⟩
  isplitl [Hb Hc Hi Hw HO Hcr]
  · isplitl [Hb]; · iexact Hb
    isplitl [Hc]; · iexact Hc
    isplitl [Hi]; · iexact Hi
    isplitl [Hw]; · iexact Hw
    isplitl [HO] <;> iassumption
  isplitl [Ho Hr]
  · isplitl [Ho] <;> iassumption
  iexact Hl

/-- The levels of the semaphores fixed, once for all devices. -/
theorem levels_fixed : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun c _ => lev_assign_cells (c.tc : Thread nD τ) L lv).trans <| (BI.bigSep_bupd _ _).trans <| BI.bupd_mono ?_
  have others : (bigSep Finset.univ fun d : Dev nD => bigSep (Finset.univ.erase Proc.tc) fun p => (coreLevAts ((d, p) : Thread nD τ) L lv : sProp 𝕄)) = BI.emp := by
    refine (bigSep_congr fun d _ => (bigSep_congr fun p hp => ?_).trans (BI.bigSep_emp_const _)).trans (BI.bigSep_emp_const _)
    unfold coreLevAts
    refine (bigSep_congr fun sm _ => ?_).trans (BI.bigSep_emp_const _)
    rw [L_of_ne (((d, p) : Thread nD τ), sm) (Finset.ne_of_mem_erase hp), BI.bigSep_empty]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv), others, bigSep_sep']
  refine (show (_ : sProp 𝕄) ⊢ _ from ?_)
  iintro ⟨-, H⟩
  isplitl [H]; · iexact H
  iempintro

theorem all_before (g : Dev nD → PrngReg) :
    iprop((bigSep Finset.univ fun c : Dev nD => coreInit (Ix := Unit) (Name := ℕ) (U := UU) (Lvl := ℕ) (Pipeline.owing O₀) 0 (⟨m, fun _ => 0, g⟩ : MemSt nD τ sig (Elt F)) (c.tc : Thread nD τ)) ∗ ownU u₀)
      ⊢ (|={Set.univ}=> bigSep Finset.univ (before m g) : sProp 𝕄) := by
  have one (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ (0 : Fin 1))
  refine (sep_mono_left (bigSep_mono fun c _ => given_intro m g c)).trans ?_
  unfold before given
  simp only [bigSep_sep']
  iintro ⟨⟨⟨Hb, Hc, Hi, Hw, HO, Hcr⟩, ⟨Ho, Hr⟩, Hl⟩, Hu⟩
  imod (levels_fixed (F := F)) $$ Hl with Hl
  imod (ownU_start m) $$ Hu with ⟨HP, HG⟩
  imod (Pipeline.fund_ghost cfgs EP cellOf_inj) $$ HP with ⟨Hg, Ht⟩
  imod (glob m) $$ [Ho Hr HG] with HR
  · simp only [bigSep_sep']
    isplitl [Ho]; · iexact Ho
    isplitl [Hr] <;> iassumption
  imodintro
  isplitl [Hb]; · iexact Hb
  isplitl [Hc]; · iexact Hc
  isplitl [Hi]; · iexact Hi
  isplitl [Hw]; · iexact Hw
  isplitl [HO]; · iexact HO
  isplitl [Hl]; · iapply (BI.bigSep_intro_persistent (S := Finset.univ) fun (c : Dev nD) _ => (BI.Entails.refl (levAts L lv : sProp 𝕄))); iexact Hl
  isplitl [Hcr]; · iexact Hcr
  isplitl [Hg]; · iapply (one fun p c => Pipeline.cellsGhost cfgs EP p c); iexact Hg
  isplitl [Ht]; · iapply (one fun p c => Pipeline.toksInit cfgs EP p c); iexact Ht
  iexact HR

end Cert.Kernel6Ideal.Down
-- ==== Proof.DownRun.lean ====
/- Every device's program run to its end, and the end of all of them read. -/
module

public import proofs.«01_k».proof.Proof.DownStart

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝔻" => Pipeline.defs pcfgs (defs₀ (F := F))

/-! ## A device's program, and what its end tells -/

theorem no_prefetch (c : Dev nD) : (BI.emp : sProp 𝕄) ⊢ Pipeline.prefHeld Pipeline.Prefetch.none c (fun _ => fullShare.right) (fun k => k.elim0) := by
  unfold Pipeline.prefHeld
  exact Entails.of_eq (BI.bigSep_empty).symm

theorem last_post (c : Dev nD) : Pipeline.EntryPost cfgs (dats m) () (0 : Fin 1) c
    ⊢ iprop(windows c (finalA m c) ∗ ∃ W, owes (c.tc : Thread nD τ) (0 : CellTallies nD τ sig Unit) W) := by
  unfold Pipeline.EntryPost Pipeline.PerCore.EntryPost
  rw [show (dats m 0 c).arrays _ = _ from windows_eq m c _, show (dats m 0 c).owesAt () (Fin.last (cfgs 0).N) = _ from owesAt_eq m c _,
    if_neg (show ¬(Fin.last (cfgs 0).N).val = 0 by rw [show (Fin.last (cfgs 0).N).val = 4 from N_0]; decide)]
  exact Entails.refl _

theorem first_pre (c : Dev nD) (κ : GSem nD τ sig → ℕ) :
    iprop(windows c (fun w => V m c (Pipeline.arrRef cfg0.spec w)) ∗ owes (c : Thread nD τ) (O₀ c) ∅ ∗ levAts L lv
        ∗ Pipeline.cellsInit cfgs (dats m) EP κ (0 : Fin 1) c ∗ Pipeline.toksInit cfgs EP (0 : Fin 1) c)
      ⊢ Pipeline.EntryPre cfgs (dats m) () EP κ (0 : Fin 1) c := by
  unfold Pipeline.EntryPre Pipeline.PerCore.EntryPre
  rw [show (dats m 0 c).arrays _ = _ from windows_eq m c _, show (dats m 0 c).owesAt () 0 = _ from owesAt_eq m c _, if_pos (show ((0 : Fin (cfg0.N + 1))).val = 0 from rfl)]
  iintro ⟨Hw, HO, Hl, Hi, Ht⟩
  isplitl [Hw]; · iapply (Entails.of_eq (congrArg (fun A => (windows c A : sProp 𝕄)) (funext fun w => (A_eq m c w).symm))); iexact Hw
  isplitl [HO]; · iexists ∅; iexact HO
  isplitl [Hl]; · iapply (waits m c); iexact Hl
  isplitl [Hi] <;> iassumption

theorem leave_all (c : Dev nD) :
    iprop((dats m 0 c).Φ (Fin.last cfg0.N) ∗ Pipeline.cellsSems0 cfgs (0 : Fin 1) c ∗ Dat.staging (cfgs 0) c ∗ idle c)
      ⊢ iprop(kept m c ∗ scopedSems0 (c.tc : Thread nD τ) ∗ scopedBufs (c.tc : Thread nD τ)) := by
  rw [sems_split c, bufs_split c]
  iintro ⟨HΦ, Hc, Hs, Hi⟩
  ihave H := (leave m c) $$ HΦ
  icases H with ⟨Hk, Ho, Hr⟩
  isplitl [Hk]; · iexact Hk
  isplitl [Hc Ho Hi]
  · isplitl [Hc Ho]; · isplitl [Hc] <;> iassumption
    iexact Hi
  isplitl [Hs] <;> iassumption

theorem device_run (g : Dev nD → PrngReg) (c : Dev nD) :
    before m g c ⊢ wp frame (wpE 𝔻 (Variants.lift 𝒱₀) (c.tc : Thread nD τ) none) Set.univ (main (F := F) c)
      fun _ => post (liftTc (afterwards m) BI.emp) (c.tc : Thread nD τ) := by
  rw [show main (F := F) c = .op (.customCall (Pipeline.entry (0 : Fin 1)) ()) fun _ => .ret ⟨⟩ from rfl]
  unfold before
  iintro ⟨Hb, Hc, Hi, Hw, HO, Hl, Hcr, Hg, Ht, HR⟩
  iapply (fupd_wp frame (wpE 𝔻 (Variants.lift 𝒱₀) (c.tc : Thread nD τ) none) Set.univ _ _)
  imod (Pipeline.cellsInit_alloc cfgs (dats m) EP cellOf_inj (0 : Fin 1) c) $$ [Hc Hg] with ⟨%κ, -, Hin⟩
  · isplitl [Hc] <;> iassumption
  imodintro
  iapply (Pipeline.wp_customCall_entry_frame pcfgs (fun p => (cfgs p).toPCfg_adm) (dats m) () EP κ cellOf_inj (0 : Fin 1) defs₀ 𝒱₀ (fun _ => fullShare.right) c Set.univ
      (fun _ _ => Set.mem_univ _) (body_obligation m c).loose (fun w => by fin_cases w <;> exact Nat.succ_pos _) none (fun u h => nomatch h)
      (X := iprop(Pipeline.launchCred O₀ c ∗ ready m c)) (Y := kept m c) (R := Pipeline.scopedRest cfg0.spec c) (I := idle c)
      (Entails.of_eq (bufs_split c)) (enter m c) (leave_all m c)
      (k := fun _ => .ret ⟨⟩) (Q := fun _ => post (liftTc (afterwards m) BI.emp) (c.tc : Thread nD τ))) $$ [Hb Hi Hw HO Hl Hcr Ht HR Hin]
  · isplitl [Hw HO Hl Ht Hin]
    · iapply (first_pre m c κ)
      isplitl [Hw]; · iexact Hw
      isplitl [HO]; · iexact HO
      isplitl [Hl]; · iexact Hl
      isplitl [Hin] <;> iassumption
    isplitr
    · iapply (no_prefetch c); iempintro
    isplitl [Hcr HR]
    · isplitl [Hcr] <;> iassumption
    isplitl [Hi] <;> iassumption
  iintro ⟨Hp, Hk, Hs, -⟩
  rw [wp_ret]; imodintro
  unfold post; simp only [liftTc_tc]
  unfold afterwards
  ihave Hp := (last_post m c) $$ Hp
  icases Hp with ⟨Ha, HW⟩
  isplitr [HW]
  · isplitl [Ha]; · iexact Ha
    isplitl [Hk] <;> iassumption
  · iexact HW

/-- What a device's memory is at the end: the windows' arrays computed, the operands as they were, the results as they landed. -/
def Left (c : Dev nD) (s : MemSt nD τ sig (Elt F)) : Prop :=
  (∀ w : Fin cfg0.W, s.mem ((cfg0.spec w).arr.view.loc (c.tc : Thread nD τ)) = finalA m c w)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v1_1) = landed m c ∧ s.mem ((c : Thread nD τ).loc main_v1_2) = came m c
/-- And its semaphores. -/
def Ends (c : Dev nD) (s : MemSt nD τ sig (Elt F)) : Prop :=
  Left m c s ∧ ∀ sm : SemLoc sig, sm.isScoped .tc = true → s.sem ((c.tc : Thread nD τ), sm) = 0

/-- An array held whole is in memory. -/
theorem whole_read (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have e : (bigSep (Finset.univ : Finset Unit) fun _ => (ℓ ↦{fullShare} f : sProp 𝕄)) = (ℓ ↦{fullShare} f : sProp 𝕄) := bigSep_singleton (i := ())
  iintro ⟨H, HSI⟩
  ihave Hr := (pointsTo_read_all (Finset.univ : Finset Unit) (fun _ => ℓ) (fun _ => f) s' fullShare) $$ [H HSI]
  · isplitl [H]
    · iapply (Entails.of_eq e.symm); iexact H
    iexact HSI
  icases Hr with ⟨%h, HSI⟩
  isplitr
  · ipureintro; exact h () (Finset.mem_univ _)
  · iexact HSI

theorem ends_read (c : Dev nD) (s' : Phys nD τ sig (Elt F)) :
    iprop(afterwards m c ∗ SI s') ⊢ |={Set.univ}=> iprop(⌜Ends m c s'.mem⌝ ∗ SI s') := by
  unfold afterwards kept windows
  iintro ⟨⟨Ha, ⟨H2, H3, H1, H0⟩, Hs⟩, HSI⟩
  ihave %hz := (tcScoped_read_pers c s') $$ [Hs HSI]
  · isplitl [Hs] <;> iassumption
  ihave Hr := (pointsTo_read_all Finset.univ (fun w : Fin cfg0.W => (c.tc : Thread nD τ).loc (Pipeline.arrRef cfg0.spec w)) (finalA m c) s' fullShare) $$ [Ha HSI]
  · isplitl [Ha] <;> iassumption
  icases Hr with ⟨%ha, HSI⟩
  ihave Hr := (whole_read ((c : Thread nD τ).loc main_arg2) (m ((c : Thread nD τ).loc main_arg2)) s') $$ [H2 HSI]
  · isplitl [H2] <;> iassumption
  icases Hr with ⟨%h2, HSI⟩
  ihave Hr := (whole_read ((c : Thread nD τ).loc main_arg3) (m ((c : Thread nD τ).loc main_arg3)) s') $$ [H3 HSI]
  · isplitl [H3] <;> iassumption
  icases Hr with ⟨%h3, HSI⟩
  ihave Hr := (whole_read ((c : Thread nD τ).loc main_v1_1) (landed m c) s') $$ [H1 HSI]
  · isplitl [H1] <;> iassumption
  icases Hr with ⟨%h1, HSI⟩
  ihave Hr := (whole_read ((c : Thread nD τ).loc main_v1_2) (came m c) s') $$ [H0 HSI]
  · isplitl [H0] <;> iassumption
  icases Hr with ⟨%h0, HSI⟩
  imodintro
  isplitr
  · ipureintro; exact ⟨⟨fun w => ha w (Finset.mem_univ w), h2, h3, h1, h0⟩, hz⟩
  · iexact HSI

/-- From any memory with zero counters every weakly fair execution of the eight devices' program terminates, each device's
    windows at the contents computed, its operands unchanged, the exchange landed, and every counter at zero. -/
theorem run (g : Dev nD → PrngReg) :
    θ_run (defs (F := F)) (onTc (τ := τ) (main (F := F))) ⟨m, fun _ => 0, g⟩ (fun r =>
      (∀ c : Dev nD, Left m c r.2) ∧ r.2.sem = fun _ => 0) := by
  classical
  refine (θ_run 𝔻 _ _).mono (Q := fun r => (∀ c : Dev nD, Ends m c r.2) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩)
    (adequate_tpu 𝔻 _ _ _ (reflect_intro_fupd_tc_sems (X := Unit) (Variants.lift 𝒱₀) (Pipeline.owing O₀) 0 (noBookings fun _ => le_rfl) (Pipeline.owing_of_ne O₀) u₀
      (fun _ => before m g) (fun _ => afterwards m) (fun _ => iprop(emp)) Set.univ ?_ (fun _ c => device_run m g c) fun _ => ?_))
  · iintro H
    imod (all_before m g) $$ H with H
    imodintro
    iexists ()
    isplitl [H]; · iexact H
    iempintro
  · iintro ⟨H, -, Hsc⟩ %s' HSI
    ihave %hsc := (scSems_read_zero m g s') $$ [Hsc HSI]
    · isplitl [Hsc] <;> iassumption
    imod (posts_fupd Finset.univ (ends_read m) s') $$ [H HSI] with %h
    · isplitl [H] <;> iassumption
    imodintro
    ipureintro
    exact ⟨fun c => h c (Finset.mem_univ c), hsc⟩

end Cert.Kernel6Ideal.Down
-- ==== Proof.DownValue.lean ====
/- What the call of the sixth program leaves in the gradient's array, over the ideal numbers: the product over all the
   device's rows, accumulated in two halves. -/
module

public import proofs.«01_k».proof.Proof.DownRun
public import proofs.«01_k».proof.Proof.Gen.Kernel6Ideal.Frame
public import Idealize.ShloMosaic.Lib.Pointwise
public import Idealize.ShloMosaic.Lib.Pipeline.ValueKit

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ)

/-- The two arrays a device multiplies: the half step's hidden rows and the gradient of its output. -/
abbrev G (c : Dev nD) : FVec Ideal S4096x2816 .bf16 := m ((c : Thread nD τ).loc main_arg0)
abbrev X (c : Dev nD) : FVec Ideal S4096x1024 .bf16 := m ((c : Thread nD τ).loc main_arg1)

/-- The product of a device's two operands over all its rows. -/
def prod (c : Dev nD) : Vec Ideal S2816x1024 .f32 := fun i =>
  ∑ k : Fin 4096, G m c (ix2 k (i 0)) * X m c (ix2 k (i 1))

theorem idx_in : ∀ t : Fin cfg0.N, win0_0.index t = ![t.val % 2, t.val / 2] ∧ win0_1.index t = ![t.val % 2, 0] ∧ win0_2.index t = ![t.val / 2, 0] :=
  (by decide +kernel : ∀ t : Fin grid0.N, _)

theorem idx_cover : ∀ r : Fin 2, ∃ t : Fin cfg0.N, (cfg0.win 2).flush t = true ∧ win0_2.index t = ![r.val, 0] :=
  (by decide +kernel : ∀ r : Fin 2, ∃ t : Fin grid0.N, win0_2.flush t = true ∧ win0_2.index t = ![r.val, 0])

/-- Row `k` of half `s` of a device's rows. -/
def hrow (s : Fin 2) (k : Fin 2048) : Fin 4096 := ⟨s.val * 2048 + k.val, by omega⟩

theorem add_at (acc : Vec Ideal S1408x1024 .f32) (a : Vec Ideal S2048x1408 .bf16) (b : Vec Ideal S2048x1024 .bf16) (f : Fin 1408) (d : Fin 1024) :
    k0_pay2 acc a b (ix2 f d) = acc (ix2 f d) + ∑ k : Fin 2048, a (ix2 k f) * b (ix2 k d) := by pointwise [k0_pay2]

theorem zero_at (f : Fin 1408) (d : Fin 1024) : k0_pay1 (F := Ideal) (ix2 f d) = 0 := by pointwise [k0_pay1]

theorem g_at (c : Dev nD) (t : Fin cfg0.N) (s : Fin 2) (hs : t.val % 2 = s.val) (k : Fin 2048) (y : Fin 1408) (f : Fin 2816) (hf : f.val = t.val / 2 * 1408 + y.val) :
    iblk m c 0 t (ix2 k y) = G m c (ix2 (hrow s k) f) := by
  blk_ext [iblk, idx_in t, hrow, hs, hf]

theorem x_at (c : Dev nD) (t : Fin cfg0.N) (s : Fin 2) (hs : t.val % 2 = s.val) (k : Fin 2048) (d : Fin 1024) :
    iblk m c 1 t (ix2 k d) = X m c (ix2 (hrow s k) d) := by
  blk_ext [iblk, idx_in t, hrow, hs]

/-- What a point that writes back leaves in the tile: both halves of the rows. -/
theorem tile_at (c : Dev nD) (t : Fin cfg0.N) (ht : t.val % 2 = 1) (y : Fin 1408) (d : Fin 1024) (f : Fin 2816) (hf : f.val = t.val / 2 * 1408 + y.val) :
    tileAt m c t (ix2 y d) = prod m c (ix2 f d) := by
  unfold tileAt
  rw [if_neg (by omega)]
  unfold started
  rw [add_at, add_at, zero_at, zero_add]
  have hp : (prev t).val = t.val - 1 := rfl
  have h0 : (prev t).val % 2 = (0 : Fin 2).val := by rw [hp]; show (t.val - 1) % 2 = 0; omega
  refine Eq.trans (congrArg₂ (· + ·) (Finset.sum_congr rfl fun k _ => ?_) (Finset.sum_congr rfl fun k _ => ?_))
    (((Fin.sum_univ_two _).symm).trans (Fin.sum_mul_add_fin 2 2048 (fun k : Fin 4096 => G m c (ix2 k f) * X m c (ix2 k d)) (by decide)))
  · exact congrArg₂ (· * ·) (g_at m c (prev t) 0 h0 k y f (by rw [hp]; omega)) (x_at m c (prev t) 0 h0 k d)
  · exact congrArg₂ (· * ·) (g_at m c t 1 ht k y f hf) (x_at m c t 1 ht k d)

theorem mem_tile (t : Fin cfg0.N) (i : S2816x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v1_0).slice (win0_2.rect t)).set ↔ _
  rw [View.set_slice_whole, Rect.mem_set_unit]
  exact Iff.rfl

/-- The gradient a device's call leaves. -/
theorem array_eq (c : Dev nD) : finalA m c 2 = prod m c := by
  refine (dats m 0 c).arrAt_eq_of_cover 2 (prod m c) (fun t hf => ?_) (fun i => ?_)
  · have ht : t.val % 2 = 1 := (flush0_2 t).mp hf
    show (cfg0.win 2).cut (grid0.coords t) ((dats m 0 c).after 2 t) = _
    rw [after_2]
    funext y
    have hy0 : (y 0).val < 1408 := (y 0).isLt
    have hy1 : (y 1).val < 1024 := (y 1).isLt
    have e0 : win0_2.index t (0 : Fin 2) = t.val / 2 := congrFun (idx_in t).2.2 0
    have e1 : win0_2.index t (1 : Fin 2) = 0 := congrFun (idx_in t).2.2 1
    have hb0 : (((cfg0.win 2).blk t).view.emb y 0).val = win0_2.index t (0 : Fin 2) * 1408 + 1 * (y 0).val := rfl
    have hb1 : (((cfg0.win 2).blk t).view.emb y 1).val = win0_2.index t (1 : Fin 2) * 1024 + 1 * (y 1).val := rfl
    rw [e0] at hb0; rw [e1] at hb1
    have hx : (cfg0.win 2).xinj (grid0.coords t) y = ix2 (⟨(y 0).val, hy0⟩ : Fin 1408) (⟨(y 1).val, hy1⟩ : Fin 1024) := by
      funext a; apply Fin.ext
      match a with
      | ⟨0, _⟩ => rfl
      | ⟨1, _⟩ => rfl
    have hN : t.val < 4 := lt_of_lt_of_eq t.isLt N_0
    have he : ((cfg0.win 2).blk t).view.emb y = ix2 (⟨t.val / 2 * 1408 + (y 0).val, by omega⟩ : Fin 2816) (⟨(y 1).val, hy1⟩ : Fin 1024) := by
      funext a; apply Fin.ext
      match a with
      | ⟨0, _⟩ => exact hb0.trans (by show _ = t.val / 2 * 1408 + (y 0).val; omega)
      | ⟨1, _⟩ => exact hb1.trans (by show _ = (y 1).val; omega)
    show tileAt m c t ((cfg0.win 2).xinj (grid0.coords t) y) = prod m c (((cfg0.win 2).blk t).view.emb y)
    rw [hx, he]
    exact tile_at m c t ht _ _ _ rfl
  · have h0 : (i 0).val < 2816 := (i 0).isLt
    have h1 : (i 1).val < 1024 := (i 1).isLt
    obtain ⟨t, hf, ht⟩ := idx_cover ⟨(i 0).val / 1408, by omega⟩
    have q0 : win0_2.index t (0 : Fin 2) = (i 0).val / 1408 := congrFun ht 0
    have q1 : win0_2.index t (1 : Fin 2) = 0 := congrFun ht 1
    refine ⟨t, hf, (mem_tile t i).2 fun a => ?_⟩
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

end Cert.Kernel6Ideal.Down
-- ==== Proof.DownRef.lean ====
/- The sixth program's reference read at an index: the gradient of each device's product as one sum over its rows, and
   the block of the other core's gradient that a core owns. -/
module

public import proofs.«01_k».proof.Proof.Gen.Reference6Ideal.Read
public import Idealize.ShloMosaic.Lib.Pointwise
public import Idealize.ShloMosaic.Lib.Pipeline.ValueKit

@[expose] public section

set_option maxRecDepth 16384

noncomputable section

namespace Cert.Reference6Ideal.Ref

open Cert.Reference6Ideal Cert.Reference6Ideal.Gen Cert.Reference6Ideal.Read
open Idealize.ShloMosaic Idealize.ShloMosaic.TcCoe Idealize.ShloMosaic.Tactic Idealize.SL.Sem
open scoped BigOperators

/-- Row `k` of device `c`'s rows, row `f` of its block of the weight's gradient. -/
def brow (c : Fin 8) (k : Fin 4096) : Fin 32768 := ⟨c.val * 4096 + k.val, by omega⟩
def wrow (c : Fin 8) (f : Fin 2816) : Fin 22528 := ⟨c.val * 2816 + f.val, by omega⟩

theorem prod_at (G : FVec Ideal S32768x2816 .bf16) (X : FVec Ideal S32768x1024 .bf16) (c : Fin 8) (f : Fin 2816) (d : Fin 1024) :
    val_main_v18 (F := Ideal) G X (ix2 (wrow c f) d) = ∑ k : Fin 4096, G (ix2 (brow c k) f) * X (ix2 (brow c k) d) := by
  rw [val_main_v18_apply, val_main_v7_apply, val_main_v6_apply]
  refine Finset.sum_congr rfl fun k _ => ?_
  rw [val_main_v3_apply, val_main_v1_apply]
  refine (mul_comm _ _).trans ?_
  refine congrArg₂ (· * ·) (congrArg G ?_) (congrArg X ?_)
  · funext a; fin_cases a <;> apply Fin.ext
    · show ((((c.val * 2816 + f.val) * 1024 + d.val) / 2883584 * 4096 + k.val) * 2816 + ((c.val * 2816 + f.val) * 1024 + d.val) / 1024 % 2816) / 2816 = c.val * 4096 + k.val
      omega
    · show ((((c.val * 2816 + f.val) * 1024 + d.val) / 2883584 * 4096 + k.val) * 2816 + ((c.val * 2816 + f.val) * 1024 + d.val) / 1024 % 2816) % 2816 = f.val
      omega
  · funext a; fin_cases a <;> apply Fin.ext
    · show ((((c.val * 2816 + f.val) * 1024 + d.val) / 2883584 * 4096 + k.val) * 1024 + ((c.val * 2816 + f.val) * 1024 + d.val) % 1024) / 1024 = c.val * 4096 + k.val
      omega
    · show ((((c.val * 2816 + f.val) * 1024 + d.val) / 2883584 * 4096 + k.val) * 1024 + ((c.val * 2816 + f.val) * 1024 + d.val) % 1024) % 1024 = d.val
      omega

variable {F : FTy → Type} [FloatOps F]

/-- Block `q` of core `k` of chip `p` among the 32, and the block the other core holds for it among the 64. -/
def mine (p : Fin 4) (k : Fin 2) (q : Fin 4) : Fin 32 := ⟨(p.val * 2 + k.val) * 4 + q.val, by omega⟩
def theirs (p : Fin 4) (k : Fin 2) (q : Fin 4) : Fin 64 := ⟨(p.val * 2 + (1 - k.val)) * 8 + (2 * q.val + k.val), by omega⟩

theorem v8_at (x : (⟨S64x352x1024, .f32⟩ : BufTy).Contents (Elt F)) (p : Fin 4) (k : Fin 2) (q : Fin 4) (l : Fin 2) (a : Fin 352) (b : Fin 1024) :
    val_main_v8 (F := F) x (ix6 p k q l a b) = x (ix3 (⟨(p.val * 2 + k.val) * 8 + (2 * q.val + l.val), by omega⟩ : Fin 64) a b) := by
  unfold val_main_v8
  refine shapeCast_apply x _ _ _ ?_
  rw [Shape.rowMajor_val_three, Shape.rowMajor_val_six]
  show (((p.val * 2 + k.val) * 8 + (2 * q.val + l.val)) * 352 + a.val) * 1024 + b.val = ((((p.val * 2 + k.val) * 4 + q.val) * 2 + l.val) * 352 + a.val) * 1024 + b.val
  omega
theorem v10_at (x : (⟨S64x352x1024, .f32⟩ : BufTy).Contents (Elt F)) (p q : Fin 4) (a : Fin 352) (b : Fin 1024) :
    val_main_v10 (F := F) x (ix4 p q a b) = x (ix3 (theirs p 0 q) a b) := by
  refine Eq.trans ?_ (v8_at x p 1 q 0 a b)
  unfold val_main_v10
  refine (shapeCast_apply (val_main_v9 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v9_apply]; exact congrArg _ (by funext a; fin_cases a <;> rfl)
theorem v12_at (x : (⟨S64x352x1024, .f32⟩ : BufTy).Contents (Elt F)) (p q : Fin 4) (a : Fin 352) (b : Fin 1024) :
    val_main_v12 (F := F) x (ix4 p q a b) = x (ix3 (theirs p 1 q) a b) := by
  refine Eq.trans ?_ (v8_at x p 0 q 1 a b)
  unfold val_main_v12
  refine (shapeCast_apply (val_main_v11 (F := F) x) _ _ (ix6 p 0 q 0 a b) ?_).trans ?_
  · rw [Shape.rowMajor_val_four, Shape.rowMajor_val_six]
    show ((((p.val * 1 + 0) * 4 + q.val) * 1 + 0) * 352 + a.val) * 1024 + b.val = ((p.val * 4 + q.val) * 352 + a.val) * 1024 + b.val
    omega
  · rw [val_main_v11_apply]; exact congrArg _ (by funext a; fin_cases a <;> rfl)

theorem v15_at0 (x : (⟨S64x352x1024, .f32⟩ : BufTy).Contents (Elt F)) (p : Fin 4) (q : Fin 4) (a : Fin 352) (b : Fin 1024) :
    val_main_v15 (F := F) x (ix5 p (0 : Fin 2) q a b) = x (ix3 (theirs p 0 q) a b) := by
  unfold val_main_v15
  refine (concatenate_pair_apply_left (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (0 : Fin 2) q a b) rfl (ix5 p (0 : Fin 1) q a b) (fun j => ?_)).trans ?_
  · match j with
    | ⟨0, _⟩ => rfl
    | ⟨1, _⟩ => rfl
    | ⟨2, _⟩ => rfl
    | ⟨3, _⟩ => rfl
    | ⟨4, _⟩ => rfl
  · rw [val_main_v13_apply]; exact (congrArg _ (by funext a; fin_cases a <;> rfl)).trans (v10_at x p q a b)
theorem v15_at1 (x : (⟨S64x352x1024, .f32⟩ : BufTy).Contents (Elt F)) (p : Fin 4) (q : Fin 4) (a : Fin 352) (b : Fin 1024) :
    val_main_v15 (F := F) x (ix5 p (1 : Fin 2) q a b) = x (ix3 (theirs p 1 q) a b) := by
  unfold val_main_v15
  refine (concatenate_pair_apply_right (s₁ := S4x1x4x352x1024) (s₂ := S4x1x4x352x1024) (t := S4x2x4x352x1024) (1 : Fin 5) (val_main_v13 x) (val_main_v14 x) concatenates_S4x1x4x352x1024_S4x1x4x352x1024_S4x2x4x352x1024_d1 (ix5 p (1 : Fin 2) q a b) rfl rfl (ix5 p (0 : Fin 1) q a b) (fun j hj => ?_) ?_).trans ?_
  · match j with
    | ⟨0, _⟩ => rfl
    | ⟨1, _⟩ => exact absurd (Fin.ext rfl) hj
    | ⟨2, _⟩ => rfl
    | ⟨3, _⟩ => rfl
    | ⟨4, _⟩ => rfl
  · rfl
  · rw [val_main_v14_apply]; exact (congrArg _ (by funext a; fin_cases a <;> rfl)).trans (v12_at x p q a b)
theorem v15_at (x : (⟨S64x352x1024, .f32⟩ : BufTy).Contents (Elt F)) (p : Fin 4) (k : Fin 2) (q : Fin 4) (a : Fin 352) (b : Fin 1024) :
    val_main_v15 (F := F) x (ix5 p k q a b) = x (ix3 (theirs p k q) a b) := by
  match k with
  | ⟨0, _⟩ => exact v15_at0 x p q a b
  | ⟨1, _⟩ => exact v15_at1 x p q a b

theorem swap_at (x : (⟨S64x352x1024, .f32⟩ : BufTy).Contents (Elt F)) (p : Fin 4) (k : Fin 2) (q : Fin 4) (a : Fin 352) (b : Fin 1024) :
    val_main_v19 (F := F) x (ix3 (mine p k q) a b) = x (ix3 (theirs p k q) a b) := by
  rw [val_main_v19_apply]
  refine (congrArg _ ?_).trans (v15_at x p k q a b)
  funext j; fin_cases j <;> apply Fin.ext
  · show ((((p.val * 2 + k.val) * 4 + q.val) * 352 + a.val) * 1024 + b.val) / 2883584 = p.val; omega
  · show ((((p.val * 2 + k.val) * 4 + q.val) * 352 + a.val) * 1024 + b.val) / 1441792 % 2 = k.val; omega
  · show ((((p.val * 2 + k.val) * 4 + q.val) * 352 + a.val) * 1024 + b.val) / 360448 % 4 = q.val; omega
  · show ((((p.val * 2 + k.val) * 4 + q.val) * 352 + a.val) * 1024 + b.val) / 1024 % 352 = a.val; omega
  · show ((((p.val * 2 + k.val) * 4 + q.val) * 352 + a.val) * 1024 + b.val) % 1024 = b.val; omega

/-- The part chip `q` sends to core `k` of chip `p`. -/
def sent (p : Fin 4) (k : Fin 2) (q : Fin 4) : Fin 32 := ⟨(q.val * 2 + k.val) * 4 + p.val, by omega⟩

theorem chips_at (x : (⟨S32x352x1024, .bf16⟩ : BufTy).Contents (Elt F)) (p : Fin 4) (k : Fin 2) (q : Fin 4) (a : Fin 352) (b : Fin 1024) :
    val_main_v20 (F := F) x (ix3 (mine p k q) a b) = x (ix3 (sent p k q) a b) := by
  unfold val_main_v20
  refine (shapeCast_apply (val_main_v17 (F := F) x) _ _ (ix5 p k q a b) ?_).trans ?_
  · rw [Shape.rowMajor_val_three, Shape.rowMajor_val_five]; rfl
  rw [val_main_v17_apply]
  unfold val_main_v16
  refine shapeCast_apply x _ _ _ ?_
  rw [Shape.rowMajor_val_three, Shape.rowMajor_val_five]
  rfl

end Cert.Reference6Ideal.Ref

end
-- ==== Proof.DownClaims.lean ====
/- The sixth program's claims: the weight gradient of the down projection with two exchanges beside it, between the two cores
   of a chip and between the chips, on eight devices, against its reference on one. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.DownRun
public import proofs.«01_k».proof.Proof.DownValue
public import proofs.«01_k».proof.Proof.DownRef
public import Idealize.ShloMosaic.Lib.Claim
public import Idealize.ShloMosaic.Lib.Layout
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

theorem frame_ref6 : Cert.quiescent_Reference6Ideal := fun m ρ _ =>
  (θ_run (Cert.Reference6Ideal.defs (F := Ideal)) _ _).mono
    (fun r h => ⟨fun c => (h c).2.2.2, sem_eq_zero_of_no_sems (by decide) r.2⟩)
    (Cert.Reference6Ideal.Value.run (F := Ideal) m ρ)

section Frames

variable {F : FTy → Type} [FloatOps F]
variable (m : (ℓ : Loc Cert.Kernel6Ideal.nD Cert.Kernel6Ideal.τ Cert.Kernel6Ideal.sig) → Buf (Elt F) ℓ)

open Cert.Kernel6Ideal Cert.Kernel6Ideal.Gen Cert.Kernel6Ideal.Down

/-- The two operands end as launched: their windows are only read. -/
theorem arg0_kept6 (c : Dev nD) : finalA m c 0 = m ((c : Thread nD τ).loc main_arg0) :=
  ((dats m 0 c).arrAt_in 0 rfl _).trans (A_eq m c 0)
theorem arg1_kept6 (c : Dev nD) : finalA m c 1 = m ((c : Thread nD τ).loc main_arg1) :=
  ((dats m 0 c).arrAt_in 1 rfl _).trans (A_eq m c 1)

/-- The run leaves the four arguments as launched and every counter at zero, over any numbers. -/
theorem kept6 (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) :=
  (θ_run (defs (F := F)) _ _).mono (fun r h => ⟨fun c => ⟨((h.1 c).1 0).trans (arg0_kept6 m c), ((h.1 c).1 1).trans (arg1_kept6 m c), (h.1 c).2.1, (h.1 c).2.2.1⟩, h.2⟩)
    (run m g)

end Frames

theorem frame_ideal6 : Cert.quiescent_Kernel6Ideal := fun m g _ => kept6 (F := Ideal) m g

/-- Over the machine's numbers the two programs are the same text. -/
theorem bodies6 : Cert.Kernel6.defs₀ (F := Bits) = Cert.Kernel6Ideal.defs₀ (F := Bits) := by
  unfold Cert.Kernel6.defs₀ Cert.Kernel6Ideal.defs₀
  refine congrArg (fun f => Defs.onTc f) ?_
  funext l a
  match l, a with
  | 0, (t, s) => rfl

theorem texts6 : Cert.Kernel6.defs (F := Bits) = Cert.Kernel6Ideal.defs (F := Bits) := congrArg (Pipeline.defs Cert.Kernel6.pcfgs) bodies6

theorem frame_bits6 : Cert.quiescent_Kernel6 := fun m g _ => by
  rw [texts6]
  exact kept6 (F := Bits) m g

open Cert.Kernel6Ideal Cert.Kernel6Ideal.Gen Cert.Kernel6Ideal.Down Cert.Reference6Ideal.Ref in
/-- A device's product is its block of the reference's first result. -/
theorem prod_block6 (m : (ℓ : Loc nD τ sig) → Buf (Elt Ideal) ℓ) (c : Dev nD)
    (g : (⟨2, ![32768, 2816]⟩ : Shape).Idx → Elt Ideal .bf16) (x : (⟨2, ![32768, 1024]⟩ : Shape).Idx → Elt Ideal .bf16)
    (hg : G m c = Layout.block ⟨2, ![4096, 2816]⟩ ⟨2, ![32768, 2816]⟩ 0 8 c g)
    (hx : X m c = Layout.block ⟨2, ![4096, 1024]⟩ ⟨2, ![32768, 1024]⟩ 0 8 c x) :
    prod m c = Layout.block ⟨2, ![2816, 1024]⟩ ⟨2, ![22528, 1024]⟩ 0 8 c (Cert.Reference6Ideal.Read.val_main_v18 (F := Ideal) g x) := by
  refine funext fun i : (⟨2, ![2816, 1024]⟩ : Shape).Idx => ?_
  obtain ⟨f, d, rfl⟩ : ∃ (f : Fin 2816) (d : Fin 1024), i = ix2 f d := ⟨i 0, i 1, by blk_ext []⟩
  have e : (Layout.block ⟨2, ![2816, 1024]⟩ ⟨2, ![22528, 1024]⟩ 0 8 c (Cert.Reference6Ideal.Read.val_main_v18 (F := Ideal) g x)) (ix2 f d)
      = Cert.Reference6Ideal.Read.val_main_v18 (F := Ideal) g x (ix2 (wrow c f) d) := by
    refine congrArg (Cert.Reference6Ideal.Read.val_main_v18 (F := Ideal) g x) (funext fun a => Fin.ext ?_)
    match a with
    | ⟨0, _⟩ => rfl
    | ⟨1, _⟩ => rfl
  rw [e, prod_at]
  refine Finset.sum_congr rfl fun k _ => ?_
  show G m c (ix2 k f) * X m c (ix2 k d) = _
  rw [hg, hx]
  refine congrArg₂ (· * ·) (congrArg g (funext fun a => Fin.ext ?_)) (congrArg x (funext fun a => Fin.ext ?_))
  · match a with
    | ⟨0, _⟩ => rfl
    | ⟨1, _⟩ => rfl
  · match a with
    | ⟨0, _⟩ => rfl
    | ⟨1, _⟩ => rfl

open Cert.Kernel6Ideal Cert.Kernel6Ideal.Gen Cert.Kernel6Ideal.Down Cert.Reference6Ideal.Ref in
/-- What lands on a device is its block of the reference's second result. -/
theorem swap_block6 (m : (ℓ : Loc nD τ sig) → Buf (Elt Ideal) ℓ) (w : (⟨3, ![64, 352, 1024]⟩ : Shape).Idx → Elt Ideal .f32)
    (hw : ∀ c : Dev nD, m ((c : Thread nD τ).loc main_arg2) = Layout.block ⟨3, ![8, 352, 1024]⟩ ⟨3, ![64, 352, 1024]⟩ 0 8 c w) (c : Dev nD) :
    landed m c = Layout.block ⟨3, ![4, 352, 1024]⟩ ⟨3, ![32, 352, 1024]⟩ 0 8 c (Cert.Reference6Ideal.Read.val_main_v19 (F := Ideal) w) := by
  refine funext fun i : (⟨3, ![4, 352, 1024]⟩ : Shape).Idx => ?_
  obtain ⟨q, a, b, rfl⟩ : ∃ (q : Fin 4) (a : Fin 352) (b : Fin 1024), i = ix3 q a b := ⟨i 0, i 1, i 2, by blk_ext []⟩
  have hc : c.val < 8 := c.isLt
  have e : (Layout.block ⟨3, ![4, 352, 1024]⟩ ⟨3, ![32, 352, 1024]⟩ 0 8 c (Cert.Reference6Ideal.Read.val_main_v19 (F := Ideal) w)) (ix3 q a b)
      = Cert.Reference6Ideal.Read.val_main_v19 (F := Ideal) w (ix3 (mine ⟨c.val / 2, by omega⟩ ⟨c.val % 2, by omega⟩ q) a b) := by
    refine congrArg (Cert.Reference6Ideal.Read.val_main_v19 (F := Ideal) w) (funext fun j => Fin.ext ?_)
    match j with
    | ⟨0, _⟩ => show c.val * 4 + q.val = (c.val / 2 * 2 + c.val % 2) * 4 + q.val; omega
    | ⟨1, _⟩ => rfl
    | ⟨2, _⟩ => rfl
  rw [e, swap_at]
  have hp : (peer c).val = c.val / 2 * 2 + (1 - c.val % 2) := (by decide : ∀ c : Dev nD, (peer c).val = c.val / 2 * 2 + (1 - c.val % 2)) c
  unfold landed
  rw [hw (peer c)]
  refine congrArg w (funext fun j => Fin.ext ?_)
  match j with
  | ⟨0, _⟩ => show (peer c).val * 8 + (2 * q.val + c.val % 2) = (c.val / 2 * 2 + (1 - c.val % 2)) * 8 + (2 * q.val + c.val % 2); rw [hp]
  | ⟨1, _⟩ => rfl
  | ⟨2, _⟩ => rfl

open Cert.Kernel6Ideal Cert.Kernel6Ideal.Gen Cert.Kernel6Ideal.Down Cert.Reference6Ideal.Ref in
/-- What comes to a device from the chips is its block of the reference's third result. -/
theorem chips_block6 (m : (ℓ : Loc nD τ sig) → Buf (Elt Ideal) ℓ) (w : (⟨3, ![32, 352, 1024]⟩ : Shape).Idx → Elt Ideal .bf16)
    (hw : ∀ c : Dev nD, m ((c : Thread nD τ).loc main_arg3) = Layout.block ⟨3, ![4, 352, 1024]⟩ ⟨3, ![32, 352, 1024]⟩ 0 8 c w) (c : Dev nD) :
    came m c = Layout.block ⟨3, ![4, 352, 1024]⟩ ⟨3, ![32, 352, 1024]⟩ 0 8 c (Cert.Reference6Ideal.Read.val_main_v20 (F := Ideal) w) := by
  refine funext fun i : (⟨3, ![4, 352, 1024]⟩ : Shape).Idx => ?_
  obtain ⟨q, a, b, rfl⟩ : ∃ (q : Fin 4) (a : Fin 352) (b : Fin 1024), i = ix3 q a b := ⟨i 0, i 1, i 2, by blk_ext []⟩
  have e : (Layout.block ⟨3, ![4, 352, 1024]⟩ ⟨3, ![32, 352, 1024]⟩ 0 8 c (Cert.Reference6Ideal.Read.val_main_v20 (F := Ideal) w)) (ix3 q a b)
      = Cert.Reference6Ideal.Read.val_main_v20 (F := Ideal) w (ix3 (mine (chip c) (core c) q) a b) := by
    refine congrArg (Cert.Reference6Ideal.Read.val_main_v20 (F := Ideal) w) (funext fun j => Fin.ext ?_)
    match j with
    | ⟨0, _⟩ => show c.val * 4 + q.val = (c.val / 2 * 2 + c.val % 2) * 4 + q.val; omega
    | ⟨1, _⟩ => rfl
    | ⟨2, _⟩ => rfl
  rw [e, chips_at]
  show (m ((onChip q (core c) : Thread nD τ).loc main_arg3) : S4x352x1024.Idx → _) (ix3 (chip c) a b) = _
  rw [hw (onChip q (core c))]
  refine congrArg w (funext fun j => Fin.ext ?_)
  match j with
  | ⟨0, _⟩ => show (2 * q.val + c.val % 2) * 4 + c.val / 2 = (q.val * 2 + c.val % 2) * 4 + c.val / 2; omega
  | ⟨1, _⟩ => rfl
  | ⟨2, _⟩ => rfl

open Cert.Kernel6Ideal.Gen Cert.Kernel6Ideal.Down in
/-- The three results on the eight devices are the blocks of the reference's three results. -/
theorem results6 : Cert.algebraic_Kernel6Ideal_Reference6Ideal := by
  intro m g m' g' _ hagree
  refine ⟨Cert.Reference6Ideal.Read.val_main_v18 (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)),
    Cert.Reference6Ideal.Read.val_main_v19 (F := Ideal) (m' (((0 : Dev Cert.Reference6Ideal.nD).tc : Thread Cert.Reference6Ideal.nD Cert.Reference6Ideal.τ).loc Cert.Reference6Ideal.main_arg2)),
    Cert.Reference6Ideal.Read.val_main_v20 (F := Ideal) (m' (((0 : Dev Cert.Reference6Ideal.nD).tc : Thread Cert.Reference6Ideal.nD Cert.Reference6Ideal.τ).loc Cert.Reference6Ideal.main_arg3)), ?_, (θ_run (Cert.Reference6Ideal.defs (F := Ideal)) _ _).mono (fun r h => ?_) (Cert.Reference6Ideal.Value.run (F := Ideal) m' g')⟩
  rotate_left
  · obtain ⟨h17, h18, h21, hargs⟩ := h 0
    exact ⟨h17.trans (Cert.Reference6Ideal.Read.val_main_v18_eq (F := Ideal) _ _), h18.trans (Cert.Reference6Ideal.Read.val_main_v19_eq (F := Ideal) _),
      h21.trans (Cert.Reference6Ideal.Read.val_main_v20_eq (F := Ideal) _), hargs⟩
  · refine (θ_run (Cert.Kernel6Ideal.defs (F := Ideal)) _ _).mono (fun r h c => ?_) (run m g)
    obtain ⟨hw, h2, h3, hl, hk⟩ := h.1 c
    exact ⟨((hw 2).trans (array_eq m c)).trans (prod_block6 m c _ _ (hagree c).1 (hagree c).2.1),
      hl.trans (swap_block6 m _ (fun d => (hagree d).2.2.1) c), hk.trans (chips_block6 m _ (fun d => (hagree d).2.2.2) c),
      (hw 0).trans (arg0_kept6 m c), (hw 1).trans (arg1_kept6 m c), h2, h3⟩

end Cert.Proof

end
-- ==== Proof.Adam.lean ====
/- One AdamW step of one entry, over the extended reals: the two running means and the weight's change, from the
   gradient, the means before the step and the weight. -/
module

public import Idealize.ShloMosaic.Lib.Pointwise

@[expose] public section

noncomputable section

namespace Cert.Adam

open Idealize.ShloMosaic

/-- The running mean of the gradient. -/
def mean (g m : EReal) : EReal :=
  FloatOps.ofBits (F := Ideal) .f32 0x3F666666#32 * m + FloatOps.ofBits (F := Ideal) .f32 0x3DCCCCCD#32 * g

/-- The running mean of the gradient's square. -/
def meanSq (g v : EReal) : EReal :=
  FloatOps.ofBits (F := Ideal) .f32 0x3F7FBE77#32 * v + FloatOps.ofBits (F := Ideal) .f32 0x3A83126F#32 * (g * g)

/-- The weight's change. -/
def delta (w g m v : EReal) : EReal :=
  FloatOps.ofBits (F := Ideal) .f32 0xBA83126F#32 *
    (Ideal.div (Ideal.div (mean g m) (FloatOps.ofBits (F := Ideal) .f32 0x3F26BD02#32))
        (FloatOps.sqrt (F := Ideal) (φ := .f32) (Ideal.div (meanSq g v) (FloatOps.ofBits (F := Ideal) .f32 0x3C231ACC#32))
          + FloatOps.ofBits (F := Ideal) .f32 0x322BCC77#32)
      + FloatOps.ofBits (F := Ideal) .f32 0x3C23D70A#32 * w)

end Cert.Adam

end
-- ==== Proof.Ada.lean ====
/- The modulation's weight: what the call leaves in its four arrays is the reference's gradient, change and running means. -/
module

public import proofs.«01_k».proof.Proof.Gen.Kernel7Ideal.Value
public import proofs.«01_k».proof.Proof.Gen.Reference7Ideal.Read
public import proofs.«01_k».proof.Proof.Adam
public import Idealize.ShloMosaic.Lib.Pipeline.ValueKit
public import Idealize.ShloMosaic.Lib.IdealHost

@[expose] public section

set_option maxRecDepth 16384

noncomputable section

namespace Cert.Kernel7Ideal.Ada

open Cert.Kernel7Ideal Cert.Kernel7Ideal.Gen Cert.Kernel7Ideal.Value Cert.Reference7Ideal.Read
open Idealize.ShloMosaic Idealize.ShloMosaic.TcCoe Idealize.SL.Sem
open scoped BigOperators

variable (m : (ℓ : Loc nD τ sig) → Buf (Elt Ideal) ℓ) (c : Dev nD)

/-- The five arrays the call reads: all sequences' conditioning vectors, the gradients of the device's columns, the
    weight's columns and their running means. -/
abbrev C : FVec Ideal S16x1024 .f32 := m ((c : Thread nD τ).loc main_arg0)
abbrev M : FVec Ideal S16x1152 .f32 := m ((c : Thread nD τ).loc main_arg1)
abbrev W : FVec Ideal S1024x1152 .f32 := m ((c : Thread nD τ).loc main_arg2)
abbrev B1 : FVec Ideal S1024x1152 .f32 := m ((c : Thread nD τ).loc main_arg3)
abbrev B2 : FVec Ideal S1024x1152 .f32 := m ((c : Thread nD τ).loc main_arg4)

theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt4 (t : Fin cfg0.N) : t.val < 4 := lt_of_lt_of_eq t.isLt N_0

/-- Row `p` of the block point `t` works on. -/
def row (t : ℕ) (h : t < 4) (p : Fin 256) : Fin 1024 := ⟨t * 256 + p.val, by omega⟩

/-- An entry of the gradient: the sum over all sequences. -/
def grad (C : FVec Ideal S16x1024 .f32) (M : FVec Ideal S16x1152 .f32) (i : Fin 1024) (j : Fin 1152) : EReal :=
  ∑ k : Fin 16, C (ix2 k i) * FloatOps.logistic (F := Ideal) (φ := .f32) (C (ix2 k i)) * M (ix2 k j)

theorem pay1_at (a : Vec Ideal S16x256 .f32) (b : Vec Ideal S16x1152 .f32) (p : Fin 256) (j : Fin 1152) :
    k0_pay1 a b (ix2 p j) = ∑ k : Fin 16, a (ix2 k p) * FloatOps.logistic (F := Ideal) (φ := .f32) (a (ix2 k p)) * b (ix2 k j) := by
  pointwise [k0_pay1]

/-- The reference's expansion of the logistic function. -/
theorem ref_logistic (C : FVec Ideal S16x1024 .f32) (i : S16x1024.Idx) :
    val_main_call0_v5 (F := Ideal) C i = FloatOps.logistic (F := Ideal) (φ := .f32) (C i) := by
  rw [val_main_call0_v5_apply, val_main_call0_v4_apply, val_main_call0_v3_apply, val_main_call0_v2_apply, val_main_call0_v1_apply,
    val_main_call0_v0_apply, val_main_call0_cst_apply, val_main_call0_cst_0_apply]
  show Ideal.div (Ideal.ofBits .f32 0x3F800000#32) (Ideal.ofBits .f32 0x3F800000#32 + Ideal.exp (-(C i))) = Ideal.logistic (C i)
  rw [Ideal.ofBits_one_f32]
  rfl

theorem ref_grad (C : FVec Ideal S16x1024 .f32) (M : FVec Ideal S16x1152 .f32) (i : Fin 1024) (j : Fin 1152) :
    val_main_v3 (F := Ideal) C M (ix2 i j) = grad C M i j := by
  pointwise [val_main_v3, val_main_v2, val_main_v0]
  refine Finset.sum_congr rfl fun k _ => ?_
  rw [ref_logistic, mul_comm]

theorem ref_mean (C : FVec Ideal S16x1024 .f32) (M : FVec Ideal S16x1152 .f32) (B1 : FVec Ideal S1024x1152 .f32) (i : S1024x1152.Idx) :
    val_main_v8 (F := Ideal) C M B1 i = Adam.mean (val_main_v3 (F := Ideal) C M i) (B1 i) := rfl

theorem ref_meanSq (C : FVec Ideal S16x1024 .f32) (M : FVec Ideal S16x1152 .f32) (B2 : FVec Ideal S1024x1152 .f32) (i : S1024x1152.Idx) :
    val_main_v14 (F := Ideal) C M B2 i = Adam.meanSq (val_main_v3 (F := Ideal) C M i) (B2 i) := rfl

theorem ref_delta (C : FVec Ideal S16x1024 .f32) (M : FVec Ideal S16x1152 .f32) (W B1 B2 : FVec Ideal S1024x1152 .f32) (i : S1024x1152.Idx) :
    val_main_v27 (F := Ideal) C M W B1 B2 i = Adam.delta (W i) (val_main_v3 (F := Ideal) C M i) (B1 i) (B2 i) := rfl

theorem pay2_eq (a : Vec Ideal S16x256 .f32) (b : Vec Ideal S16x1152 .f32) (x : Vec Ideal S256x1152 .f32) (y : S256x1152.Idx) :
    k0_pay2 a b x y = Adam.mean (k0_pay1 a b y) (x y) := rfl

theorem pay3_eq (a : Vec Ideal S16x256 .f32) (b : Vec Ideal S16x1152 .f32) (x : Vec Ideal S256x1152 .f32) (y : S256x1152.Idx) :
    k0_pay3 a b x y = Adam.meanSq (k0_pay1 a b y) (x y) := rfl

theorem pay4_eq (a : Vec Ideal S16x256 .f32) (b : Vec Ideal S16x1152 .f32) (w x z : Vec Ideal S256x1152 .f32) (y : S256x1152.Idx) :
    k0_pay4 a b w x z y = Adam.delta (w y) (k0_pay1 a b y) (x y) (z y) := rfl

/-- The body's loads read whole blocks. -/
theorem ld_c (x : Vec Ideal S16x256 .f32) : View.ld x r0_0 = x := View.ld_unit_zero (by decide) _ _
theorem ld_m (x : Vec Ideal S16x1152 .f32) : View.ld x r0_1 = x := View.ld_unit_zero (by decide) _ _
theorem ld_w (x : Vec Ideal S256x1152 .f32) : View.ld x r0_2 = x := View.ld_unit_zero (by decide) _ _

section
variable (t : Fin cfg0.N) (p : Fin 256) (j : Fin 1152)

theorem c_at (k : Fin 16) : iblk m c 0 t (ix2 k p) = C m c (ix2 k (row t.val (lt4 t) p)) := by blk_ext [iblk, idx t, row]
theorem m_at (k : Fin 16) : iblk m c 1 t (ix2 k j) = M m c (ix2 k j) := by blk_ext [iblk, idx t]
theorem w_at : iblk m c 2 t (ix2 p j) = W m c (ix2 (row t.val (lt4 t) p) j) := by blk_ext [iblk, idx t, row]
theorem b1_at : iblk m c 3 t (ix2 p j) = B1 m c (ix2 (row t.val (lt4 t) p) j) := by blk_ext [iblk, idx t, row]
theorem b2_at : iblk m c 4 t (ix2 p j) = B2 m c (ix2 (row t.val (lt4 t) p) j) := by blk_ext [iblk, idx t, row]

/-- The gradient's entry at a point's block is the reference's at the row the block stands for. -/
theorem grad_at : k0_pay1 (iblk m c 0 t) (iblk m c 1 t) (ix2 p j)
    = val_main_v3 (F := Ideal) (C m c) (M m c) (ix2 (row t.val (lt4 t) p) j) := by
  rw [pay1_at, ref_grad]
  exact Finset.sum_congr rfl fun k _ => by rw [c_at, m_at]

theorem emb5 : (win0_5.blk t).view.emb (ix2 p j) = ix2 (row t.val (lt4 t) p) j := by
  funext a
  match a with
  | ⟨0, _⟩ => exact Fin.ext (by blk_simp [idx t, row])
  | ⟨1, _⟩ => exact Fin.ext (by blk_simp [idx t])

theorem emb6 : (win0_6.blk t).view.emb (ix2 p j) = ix2 (row t.val (lt4 t) p) j := emb5 t p j
theorem emb7 : (win0_7.blk t).view.emb (ix2 p j) = ix2 (row t.val (lt4 t) p) j := emb5 t p j
theorem emb8 : (win0_8.blk t).view.emb (ix2 p j) = ix2 (row t.val (lt4 t) p) j := emb5 t p j
end

theorem final5 : (dats m 0 c).arrAt 5 cfg0.N = val_main_v3 (F := Ideal) (C m c) (M m c) := by
  refine (dats m 0 c).arrAt_eq_of_covers 5 _ (by decide +kernel) fun t hf y => ?_
  obtain ⟨p, j, rfl⟩ : ∃ (p : Fin 256) (j : Fin 1152), y = ix2 p j := ⟨y 0, y 1, by blk_ext []⟩
  blk_simp
  rw [after0_5, emb5]
  unfold out0_5
  simp only [ld_c, ld_m]
  unfold r0_2
  rw [View.canon_unit_zero (by decide)]
  exact grad_at m c t p j

theorem final6 : (dats m 0 c).arrAt 6 cfg0.N = val_main_v27 (F := Ideal) (C m c) (M m c) (W m c) (B1 m c) (B2 m c) := by
  refine (dats m 0 c).arrAt_eq_of_covers 6 _ (by decide +kernel) fun t hf y => ?_
  obtain ⟨p, j, rfl⟩ : ∃ (p : Fin 256) (j : Fin 1152), y = ix2 p j := ⟨y 0, y 1, by blk_ext []⟩
  blk_simp
  rw [after0_6, emb6]
  unfold out0_6
  simp only [ld_c, ld_m, ld_w]
  unfold r0_2
  rw [View.canon_unit_zero (by decide)]
  rw [pay4_eq, ref_delta, grad_at, w_at, b1_at, b2_at]

theorem final7 : (dats m 0 c).arrAt 7 cfg0.N = val_main_v8 (F := Ideal) (C m c) (M m c) (B1 m c) := by
  refine (dats m 0 c).arrAt_eq_of_covers 7 _ (by decide +kernel) fun t hf y => ?_
  obtain ⟨p, j, rfl⟩ : ∃ (p : Fin 256) (j : Fin 1152), y = ix2 p j := ⟨y 0, y 1, by blk_ext []⟩
  blk_simp
  rw [after0_7, emb7]
  unfold out0_7
  simp only [ld_c, ld_m, ld_w]
  unfold r0_2
  rw [View.canon_unit_zero (by decide)]
  rw [pay2_eq, ref_mean, grad_at, b1_at]

theorem final8 : (dats m 0 c).arrAt 8 cfg0.N = val_main_v14 (F := Ideal) (C m c) (M m c) (B2 m c) := by
  refine (dats m 0 c).arrAt_eq_of_covers 8 _ (by decide +kernel) fun t hf y => ?_
  obtain ⟨p, j, rfl⟩ : ∃ (p : Fin 256) (j : Fin 1152), y = ix2 p j := ⟨y 0, y 1, by blk_ext []⟩
  blk_simp
  rw [after0_8, emb8]
  unfold out0_8
  simp only [ld_c, ld_m, ld_w]
  unfold r0_2
  rw [View.canon_unit_zero (by decide)]
  rw [pay3_eq, ref_meanSq, grad_at, b2_at]

end Cert.Kernel7Ideal.Ada

end
-- ==== Proof.BigAdam.lean ====
/- A large weight's step: the gradient the call leaves is the sum of the four chips' parts, and its change and running
   means are the reference's. -/
module

public import proofs.«01_k».proof.Proof.Gen.Kernel8Ideal.Value
public import proofs.«01_k».proof.Proof.Gen.Reference8Ideal.Read
public import proofs.«01_k».proof.Proof.Adam
public import Idealize.ShloMosaic.Lib.Pipeline.ValueKit
public import Idealize.ShloMosaic.Lib.IdealHost

@[expose] public section

set_option maxRecDepth 16384

noncomputable section

namespace Cert.Kernel8Ideal.BigAdam

open Cert.Kernel8Ideal Cert.Kernel8Ideal.Gen Cert.Kernel8Ideal.Value Cert.Reference8Ideal.Read
open Idealize.ShloMosaic Idealize.ShloMosaic.TcCoe Idealize.SL.Sem
open scoped BigOperators

variable (m : (ℓ : Loc nD τ sig) → Buf (Elt Ideal) ℓ) (c : Dev nD)

/-- The four arrays the call reads: the four chips' parts of the gradient, the weight, its running means. -/
abbrev R : FVec Ideal S4x352x1024 .bf16 := m ((c : Thread nD τ).loc main_arg0)
abbrev W : FVec Ideal S352x1024 .f32 := m ((c : Thread nD τ).loc main_arg1)
abbrev B1 : FVec Ideal S352x1024 .f32 := m ((c : Thread nD τ).loc main_arg2)
abbrev B2 : FVec Ideal S352x1024 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt2 (t : Fin cfg0.N) : t.val < 2 := lt_of_lt_of_eq t.isLt N_0

/-- Row `p` of the half point `t` works on. -/
def row (t : ℕ) (h : t < 2) (p : Fin 176) : Fin 352 := ⟨t * 176 + p.val, by omega⟩

/-- The sum of the four parts of a block, read from the block. -/
def gsum (x : Vec Ideal S4x176x1024 .bf16) : FVec Ideal S176x1024 .f32 :=
  k0_pay2 (View.ld x r0_0) (View.ld x r0_1) (View.ld x r0_2) (View.ld x r0_3)

theorem gsum_at (x : Vec Ideal S4x176x1024 .bf16) (p : Fin 176) (j : Fin 1024) :
    gsum x (ix2 p j) = ∑ k : Fin 4, (x (ix3 k p j) : EReal) := by
  unfold gsum
  pointwise [k0_pay2, r0_0, r0_1, r0_2, r0_3]
  exact (Fin.sum_univ_four (fun k : Fin 4 => (x (ix3 k p j) : EReal))).symm

theorem ref_sum (R : FVec Ideal S4x352x1024 .bf16) (i : Fin 352) (j : Fin 1024) :
    val_main_v1 (F := Ideal) R (ix2 i j) = ∑ k : Fin 4, (R (ix3 k i j) : EReal) := by
  pointwise [val_main_v1, val_main_v0, val_main_cst]

theorem ref_mean (R : FVec Ideal S4x352x1024 .bf16) (B1 : FVec Ideal S352x1024 .f32) (i : S352x1024.Idx) :
    val_main_v6 (F := Ideal) R B1 i = Adam.mean (val_main_v1 (F := Ideal) R i) (B1 i) := rfl

theorem ref_meanSq (R : FVec Ideal S4x352x1024 .bf16) (B2 : FVec Ideal S352x1024 .f32) (i : S352x1024.Idx) :
    val_main_v12 (F := Ideal) R B2 i = Adam.meanSq (val_main_v1 (F := Ideal) R i) (B2 i) := rfl

theorem ref_delta (R : FVec Ideal S4x352x1024 .bf16) (W B1 B2 : FVec Ideal S352x1024 .f32) (i : S352x1024.Idx) :
    val_main_v25 (F := Ideal) R W B1 B2 i = Adam.delta (W i) (val_main_v1 (F := Ideal) R i) (B1 i) (B2 i) := rfl

/-- The body's loads of the weight and the means read whole blocks. -/
theorem ld_w (x : Vec Ideal S176x1024 .f32) : View.ld x r0_4 = x := View.ld_unit_zero (by decide) _ _

section
variable (t : Fin cfg0.N) (p : Fin 176) (j : Fin 1024)

theorem r_at (k : Fin 4) : iblk m c 0 t (ix3 k p j) = R m c (ix3 k (row t.val (lt2 t) p) j) := by blk_ext [iblk, idx t, row]
theorem w_at : iblk m c 1 t (ix2 p j) = W m c (ix2 (row t.val (lt2 t) p) j) := by blk_ext [iblk, idx t, row]
theorem b1_at : iblk m c 2 t (ix2 p j) = B1 m c (ix2 (row t.val (lt2 t) p) j) := by blk_ext [iblk, idx t, row]
theorem b2_at : iblk m c 3 t (ix2 p j) = B2 m c (ix2 (row t.val (lt2 t) p) j) := by blk_ext [iblk, idx t, row]

/-- The gradient's entry at a point's block is the reference's at the row the block stands for. -/
theorem grad_at : gsum (iblk m c 0 t) (ix2 p j) = val_main_v1 (F := Ideal) (R m c) (ix2 (row t.val (lt2 t) p) j) := by
  rw [gsum_at, ref_sum]
  exact Finset.sum_congr rfl fun k _ => r_at m c t p j k

theorem emb4 : (win0_4.blk t).view.emb (ix2 p j) = ix2 (row t.val (lt2 t) p) j := by
  funext a
  match a with
  | ⟨0, _⟩ => exact Fin.ext (by blk_simp [idx t, row])
  | ⟨1, _⟩ => exact Fin.ext (by blk_simp [idx t])

theorem emb5 : (win0_5.blk t).view.emb (ix2 p j) = ix2 (row t.val (lt2 t) p) j := emb4 t p j
theorem emb6 : (win0_6.blk t).view.emb (ix2 p j) = ix2 (row t.val (lt2 t) p) j := emb4 t p j
theorem emb7 : (win0_7.blk t).view.emb (ix2 p j) = ix2 (row t.val (lt2 t) p) j := emb4 t p j
end

variable (x : Vec Ideal S4x176x1024 .bf16) (w b1 b2 : Vec Ideal S176x1024 .f32) (y : S176x1024.Idx)

theorem out4_eq : out0_4 x w b1 b2 y = gsum x y := by
  unfold out0_4 r0_4
  rw [View.canon_unit_zero (by decide)]
  rfl

theorem out6_eq : out0_6 x w b1 b2 y = Adam.mean (gsum x y) (b1 y) := by
  unfold out0_6
  rw [ld_w]
  unfold r0_4
  rw [View.canon_unit_zero (by decide)]
  rfl

theorem pay6_eq : k0_pay6 x w b1 b2 y = Adam.meanSq (gsum x y) (b2 y) := by
  unfold k0_pay6
  rw [ld_w]
  rfl

theorem out7_eq : out0_7 x w b1 b2 y = Adam.meanSq (gsum x y) (b2 y) := by
  unfold out0_7 r0_4
  rw [View.canon_unit_zero (by decide)]
  exact pay6_eq x w b1 b2 y

theorem out5_eq : out0_5 x w b1 b2 y = Adam.delta (w y) (gsum x y) (b1 y) (b2 y) := by
  unfold out0_5
  rw [ld_w, ld_w]
  unfold r0_4
  rw [View.canon_unit_zero (by decide)]
  unfold Adam.delta
  rw [← pay6_eq x w b1 b2 y]
  rfl

theorem final4 : (dats m 0 c).arrAt 4 cfg0.N = val_main_v1 (F := Ideal) (R m c) := by
  refine (dats m 0 c).arrAt_eq_of_covers 4 _ (by decide +kernel) fun t hf y => ?_
  obtain ⟨p, j, rfl⟩ : ∃ (p : Fin 176) (j : Fin 1024), y = ix2 p j := ⟨y 0, y 1, by blk_ext []⟩
  blk_simp
  rw [after0_4, emb4, out4_eq, grad_at]

theorem final5 : (dats m 0 c).arrAt 5 cfg0.N = val_main_v25 (F := Ideal) (R m c) (W m c) (B1 m c) (B2 m c) := by
  refine (dats m 0 c).arrAt_eq_of_covers 5 _ (by decide +kernel) fun t hf y => ?_
  obtain ⟨p, j, rfl⟩ : ∃ (p : Fin 176) (j : Fin 1024), y = ix2 p j := ⟨y 0, y 1, by blk_ext []⟩
  blk_simp
  rw [after0_5, emb5, out5_eq, ref_delta, grad_at, w_at, b1_at, b2_at]

theorem final6 : (dats m 0 c).arrAt 6 cfg0.N = val_main_v6 (F := Ideal) (R m c) (B1 m c) := by
  refine (dats m 0 c).arrAt_eq_of_covers 6 _ (by decide +kernel) fun t hf y => ?_
  obtain ⟨p, j, rfl⟩ : ∃ (p : Fin 176) (j : Fin 1024), y = ix2 p j := ⟨y 0, y 1, by blk_ext []⟩
  blk_simp
  rw [after0_6, emb6, out6_eq, ref_mean, grad_at, b1_at]

theorem final7 : (dats m 0 c).arrAt 7 cfg0.N = val_main_v12 (F := Ideal) (R m c) (B2 m c) := by
  refine (dats m 0 c).arrAt_eq_of_covers 7 _ (by decide +kernel) fun t hf y => ?_
  obtain ⟨p, j, rfl⟩ : ∃ (p : Fin 176) (j : Fin 1024), y = ix2 p j := ⟨y 0, y 1, by blk_ext []⟩
  blk_simp
  rw [after0_7, emb7, out7_eq, ref_meanSq, grad_at, b2_at]

end Cert.Kernel8Ideal.BigAdam

end
-- ==== Proof.ModFin.lean ====
/- The call that finishes the modulations' and the gains' gradients: each of the nine rows of a sequence is one store,
   and a gain's row is the two sequences' terms, added one after the other to zero. Both are the reference's. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.CanonAppend
public import Idealize.ShloMosaic.Lib.IdealHost

@[expose] public section

set_option maxRecDepth 16384

noncomputable section

namespace Cert.Kernel9Ideal.ModFin

open Cert.Kernel9Ideal Cert.Kernel9Ideal.Gen Cert.Kernel9Ideal.Value Cert.Reference9Ideal.Read
open Idealize.ShloMosaic Idealize.ShloMosaic.TcCoe Idealize.SL.Sem
open scoped BigOperators

variable (m : (ℓ : Loc nD τ sig) → Buf (Elt Ideal) ℓ) (c : Dev nD)

/-- The arrays the call reads: the sub-layers' sums, the modulations, the norms' gains. -/
abbrev M1 : FVec Ideal S2x8x1024 .f32 := m ((c : Thread nD τ).loc main_arg0)
abbrev M2 : FVec Ideal S2x8x1024 .f32 := m ((c : Thread nD τ).loc main_arg1)
abbrev MG : FVec Ideal S2x8x1024 .f32 := m ((c : Thread nD τ).loc main_arg2)
abbrev M3 : FVec Ideal S2x8x1024 .f32 := m ((c : Thread nD τ).loc main_arg3)
abbrev MD : FVec Ideal S2x9216 .f32 := m ((c : Thread nD τ).loc main_arg4)
abbrev G1 : FVec Ideal S1x1024 .f32 := m ((c : Thread nD τ).loc main_arg5)
abbrev G2 : FVec Ideal S1x1024 .f32 := m ((c : Thread nD τ).loc main_arg6)
abbrev G3 : FVec Ideal S1x1024 .f32 := m ((c : Thread nD τ).loc main_arg7)

/-- Column `d` of part `k` of the modulations. -/
def col (k : Fin 9) (d : Fin 1024) : Fin 9216 := ⟨k.val * 1024 + d.val, by omega⟩

/-- A gain's term for one sequence. -/
def term (md s : EReal) : EReal := (FloatOps.ofBits (F := Ideal) .f32 0x3F800000#32 + md) * s

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0, 0] ∧ win0_9.index t = ![0, 0] :=
  (by decide +kernel : ∀ t : Fin grid0.N, _)

section
variable (t : Fin cfg0.N) (b : Fin 2) (d : Fin 1024)

theorem x0_at (k : Fin 8) : iblk m c 0 t (ix3 b k d) = M1 m c (ix3 b k d) := by
  refine Eq.trans (b := V m c main_arg0 (ix3 b k d)) (by blk_ext [iblk, idx t]) (congrFun (V_main_arg0 m c) _)

theorem x1_at (k : Fin 8) : iblk m c 1 t (ix3 b k d) = M2 m c (ix3 b k d) := by
  refine Eq.trans (b := V m c main_arg1 (ix3 b k d)) (by blk_ext [iblk, idx t]) (congrFun (V_main_arg1 m c) _)

theorem x2_at (k : Fin 8) : iblk m c 2 t (ix3 b k d) = MG m c (ix3 b k d) := by
  refine Eq.trans (b := V m c main_arg2 (ix3 b k d)) (by blk_ext [iblk, idx t]) (congrFun (V_main_arg2 m c) _)

theorem x3_at (k : Fin 8) : iblk m c 3 t (ix3 b k d) = M3 m c (ix3 b k d) := by
  refine Eq.trans (b := V m c main_arg3 (ix3 b k d)) (by blk_ext [iblk, idx t]) (congrFun (V_main_arg3 m c) _)

theorem x5_at : iblk m c 5 t (ix2 (0 : Fin 1) d) = G1 m c (ix2 (0 : Fin 1) d) := by
  refine Eq.trans (b := V m c main_arg5 (ix2 (0 : Fin 1) d)) (by blk_ext [iblk, idx t]) (congrFun (V_main_arg5 m c) _)

theorem x6_at : iblk m c 6 t (ix2 (0 : Fin 1) d) = G2 m c (ix2 (0 : Fin 1) d) := by
  refine Eq.trans (b := V m c main_arg6 (ix2 (0 : Fin 1) d)) (by blk_ext [iblk, idx t]) (congrFun (V_main_arg6 m c) _)

theorem x7_at : iblk m c 7 t (ix2 (0 : Fin 1) d) = G3 m c (ix2 (0 : Fin 1) d) := by
  refine Eq.trans (b := V m c main_arg7 (ix2 (0 : Fin 1) d)) (by blk_ext [iblk, idx t]) (congrFun (V_main_arg7 m c) _)

theorem mods_at (X : FVec Ideal S2x9216 .f32) (k : Fin 9) :
    shapeCast S2x9x1024 X shapeCasts_S2x9216_S2x9x1024 (ix3 b k d) = X (ix2 b (col k d)) := by
  pointwise
  rfl

theorem x4_at (k : Fin 9) : iblk m c 4 t (ix3 b k d) = MD m c (ix2 b (col k d)) := by
  refine Eq.trans (b := V m c main_v0 (ix3 b k d)) (by blk_ext [iblk, idx t]) ?_
  show StableHlo.after hostOps0 (fun b => m (c, b)) main_v0 (ix3 (n0 := 2) (n1 := 9) (n2 := 1024) b k d) = _
  after_results
  exact mods_at b d _ k

end

/-- A row of a sequence loaded from a block. -/
theorem ld8 (x : Vec Ideal S2x8x1024 .f32) (b k : ℕ)
    (inb : ∀ a, (![b, k, 0] : Fin 3 → ℕ) a + (![1, 1, 1024] : Fin 3 → ℕ) a ≤ S2x8x1024.size a) (d : Fin 1024) (hb : b < 2 := by decide) (hk : k < 8 := by decide) :
    View.ld x (Rect.unit (s := S2x8x1024) ![b, k, 0] ![1, 1, 1024] inb) (ix3 (0 : Fin 1) (0 : Fin 1) d) = x (ix3 (⟨b, hb⟩ : Fin 2) (⟨k, hk⟩ : Fin 8) d) := by
  refine congrArg x (funext fun a => Fin.ext ?_)
  match a with
  | ⟨0, _⟩ => rfl
  | ⟨1, _⟩ => rfl
  | ⟨2, _⟩ => show 0 + 1 * d.val = d.val; omega

theorem emb9 (b k : ℕ) (hb : b < 2) (hk : k < 9)
    (inb : ∀ a, (![b, k, 0] : Fin 3 → ℕ) a + (![1, 1, 1024] : Fin 3 → ℕ) a ≤ S2x9x1024.size a) (d : Fin 1024) :
    (Rect.unit (s := S2x9x1024) ![b, k, 0] ![1, 1, 1024] inb).emb (ix3 (0 : Fin 1) (0 : Fin 1) d) = ix3 (⟨b, hb⟩ : Fin 2) (⟨k, hk⟩ : Fin 9) d := by
  refine funext fun a => Fin.ext ?_
  match a with
  | ⟨0, _⟩ => rfl
  | ⟨1, _⟩ => rfl
  | ⟨2, _⟩ => show 0 + 1 * d.val = d.val; omega

theorem ld9 (x : Vec Ideal S2x9x1024 .f32) (b k : ℕ)
    (inb : ∀ a, (![b, k, 0] : Fin 3 → ℕ) a + (![1, 1, 1024] : Fin 3 → ℕ) a ≤ S2x9x1024.size a) (d : Fin 1024) (hb : b < 2 := by decide) (hk : k < 9 := by decide) :
    View.ld x (Rect.unit (s := S2x9x1024) ![b, k, 0] ![1, 1, 1024] inb) (ix3 (0 : Fin 1) (0 : Fin 1) d) = x (ix3 (⟨b, hb⟩ : Fin 2) (⟨k, hk⟩ : Fin 9) d) :=
  congrArg x (emb9 b k hb hk inb d)

/-! A copied row, and a row times a gain. -/
section
variable (v u : Vec Ideal S1x1x1024 .f32) (g a : Vec Ideal S1x1024 .f32) (d : Fin 1024)

theorem p3 : k0_pay3 v (ix3 (0 : Fin 1) (0 : Fin 1) d) = v (ix3 (0 : Fin 1) (0 : Fin 1) d) := by pointwise [k0_pay3]
theorem p5 : k0_pay5 v (ix3 (0 : Fin 1) (0 : Fin 1) d) = v (ix3 (0 : Fin 1) (0 : Fin 1) d) := by pointwise [k0_pay5]
theorem p10 : k0_pay10 v (ix3 (0 : Fin 1) (0 : Fin 1) d) = v (ix3 (0 : Fin 1) (0 : Fin 1) d) := by pointwise [k0_pay10]
theorem p12 : k0_pay12 v (ix3 (0 : Fin 1) (0 : Fin 1) d) = v (ix3 (0 : Fin 1) (0 : Fin 1) d) := by pointwise [k0_pay12]
theorem p15 : k0_pay15 v (ix3 (0 : Fin 1) (0 : Fin 1) d) = v (ix3 (0 : Fin 1) (0 : Fin 1) d) := by pointwise [k0_pay15]
theorem p17 : k0_pay17 v (ix3 (0 : Fin 1) (0 : Fin 1) d) = v (ix3 (0 : Fin 1) (0 : Fin 1) d) := by pointwise [k0_pay17]
theorem p20 : k0_pay20 v (ix3 (0 : Fin 1) (0 : Fin 1) d) = v (ix3 (0 : Fin 1) (0 : Fin 1) d) := by pointwise [k0_pay20]
theorem p22 : k0_pay22 v (ix3 (0 : Fin 1) (0 : Fin 1) d) = v (ix3 (0 : Fin 1) (0 : Fin 1) d) := by pointwise [k0_pay22]
theorem p25 : k0_pay25 v (ix3 (0 : Fin 1) (0 : Fin 1) d) = v (ix3 (0 : Fin 1) (0 : Fin 1) d) := by pointwise [k0_pay25]
theorem p27 : k0_pay27 v (ix3 (0 : Fin 1) (0 : Fin 1) d) = v (ix3 (0 : Fin 1) (0 : Fin 1) d) := by pointwise [k0_pay27]
theorem p30 : k0_pay30 v (ix3 (0 : Fin 1) (0 : Fin 1) d) = v (ix3 (0 : Fin 1) (0 : Fin 1) d) := by pointwise [k0_pay30]
theorem p32 : k0_pay32 v (ix3 (0 : Fin 1) (0 : Fin 1) d) = v (ix3 (0 : Fin 1) (0 : Fin 1) d) := by pointwise [k0_pay32]
theorem p4 : k0_pay4 v g (ix3 (0 : Fin 1) (0 : Fin 1) d) = g (ix2 (0 : Fin 1) d) * v (ix3 (0 : Fin 1) (0 : Fin 1) d) := by pointwise [k0_pay4, k0_pay2]
theorem p11 : k0_pay11 v g (ix3 (0 : Fin 1) (0 : Fin 1) d) = g (ix2 (0 : Fin 1) d) * v (ix3 (0 : Fin 1) (0 : Fin 1) d) := by pointwise [k0_pay11, k0_pay9]
theorem p16 : k0_pay16 v g (ix3 (0 : Fin 1) (0 : Fin 1) d) = g (ix2 (0 : Fin 1) d) * v (ix3 (0 : Fin 1) (0 : Fin 1) d) := by pointwise [k0_pay16, k0_pay14]
theorem p21 : k0_pay21 v g (ix3 (0 : Fin 1) (0 : Fin 1) d) = g (ix2 (0 : Fin 1) d) * v (ix3 (0 : Fin 1) (0 : Fin 1) d) := by pointwise [k0_pay21, k0_pay19]
theorem p26 : k0_pay26 v g (ix3 (0 : Fin 1) (0 : Fin 1) d) = g (ix2 (0 : Fin 1) d) * v (ix3 (0 : Fin 1) (0 : Fin 1) d) := by pointwise [k0_pay26, k0_pay24]
theorem p31 : k0_pay31 v g (ix3 (0 : Fin 1) (0 : Fin 1) d) = g (ix2 (0 : Fin 1) d) * v (ix3 (0 : Fin 1) (0 : Fin 1) d) := by pointwise [k0_pay31, k0_pay29]
theorem p13 : k0_pay13 v a u (ix2 (0 : Fin 1) d) = a (ix2 (0 : Fin 1) d) + term (u (ix3 (0 : Fin 1) (0 : Fin 1) d)) (v (ix3 (0 : Fin 1) (0 : Fin 1) d)) := by pointwise [k0_pay13, k0_pay9, term]
theorem p18 : k0_pay18 v a u (ix2 (0 : Fin 1) d) = a (ix2 (0 : Fin 1) d) + term (u (ix3 (0 : Fin 1) (0 : Fin 1) d)) (v (ix3 (0 : Fin 1) (0 : Fin 1) d)) := by pointwise [k0_pay18, k0_pay14, term]
theorem p23 : k0_pay23 v a u (ix2 (0 : Fin 1) d) = a (ix2 (0 : Fin 1) d) + term (u (ix3 (0 : Fin 1) (0 : Fin 1) d)) (v (ix3 (0 : Fin 1) (0 : Fin 1) d)) := by pointwise [k0_pay23, k0_pay19, term]
theorem p28 : k0_pay28 v a u (ix2 (0 : Fin 1) d) = a (ix2 (0 : Fin 1) d) + term (u (ix3 (0 : Fin 1) (0 : Fin 1) d)) (v (ix3 (0 : Fin 1) (0 : Fin 1) d)) := by pointwise [k0_pay28, k0_pay24, term]
theorem p33 : k0_pay33 v a u (ix2 (0 : Fin 1) d) = a (ix2 (0 : Fin 1) d) + term (u (ix3 (0 : Fin 1) (0 : Fin 1) d)) (v (ix3 (0 : Fin 1) (0 : Fin 1) d)) := by pointwise [k0_pay33, k0_pay29, term]
theorem p8 : k0_pay8 (k0_pay6 a) (k0_pay7 v u) (ix2 (0 : Fin 1) d)
    = a (ix2 (0 : Fin 1) d) + term (u (ix3 (0 : Fin 1) (0 : Fin 1) d)) (v (ix3 (0 : Fin 1) (0 : Fin 1) d)) := by
  pointwise [k0_pay8, k0_pay6, k0_pay7, k0_pay2, term]
end

/-! The reference's nine rows. -/
section
variable (x0 x1 x2 x3 : FVec Ideal S2x8x1024 .f32) (x5 x6 x7 : FVec Ideal S1x1024 .f32) (b : Fin 2) (d : Fin 1024)

theorem piece (k : Fin 9) (x : FVec Ideal Cert.Reference9Ideal.S2x1024 .f32)
    (h : val_main_v54 (F := Ideal) x0 x1 x2 x3 x5 x6 x7 (ix2 b (col k d)) = x (ix2 b d)) :
    val_main_v55 (F := Ideal) x0 x1 x2 x3 x5 x6 x7 (ix3 b k d) = x (ix2 b d) := by
  rw [← h, val_main_v55_apply]
  refine congrArg _ (funext fun a => Fin.ext ?_)
  match a with
  | ⟨0, _⟩ => show ((b.val * 9 + k.val) * 1024 + d.val) / 9216 = b.val; omega
  | ⟨1, _⟩ => show ((b.val * 9 + k.val) * 1024 + d.val) % 9216 = k.val * 1024 + d.val; omega

theorem r0 : val_main_v55 (F := Ideal) x0 x1 x2 x3 x5 x6 x7 (ix3 b (0 : Fin 9) d) = x0 (ix3 b 0 d) := by
  refine (piece x0 x1 x2 x3 x5 x6 x7 b d 0 (val_main_v7 (F := Ideal) x0) ?_).trans (by pointwise [val_main_v7, val_main_v6])
  unfold val_main_v54
  refine concatenate_apply_piece (t := Cert.Reference9Ideal.S2x9216) 1 _ _ _ 0 ?_ Cert.Reference9Ideal.S2x1024 _ ?_ rfl 0 ?_ (ix2 b d) (fun a ha => ?_) ?_
  · show 0 < 9; decide
  · rfl
  · rfl
  · match a with
    | ⟨0, _⟩ => rfl
    | ⟨1, _⟩ => exact absurd rfl ha
  · rfl

theorem r1 : val_main_v55 (F := Ideal) x0 x1 x2 x3 x5 x6 x7 (ix3 b (1 : Fin 9) d) = x5 (ix2 (0 : Fin 1) d) * x0 (ix3 b 1 d) := by
  refine (piece x0 x1 x2 x3 x5 x6 x7 b d 1 (val_main_v50 (F := Ideal) x0 x5) ?_).trans (by pointwise [val_main_v50, val_main_v49, val_main_v9, val_main_v8])
  unfold val_main_v54
  refine concatenate_apply_piece (t := Cert.Reference9Ideal.S2x9216) 1 _ _ _ 1 ?_ Cert.Reference9Ideal.S2x1024 _ ?_ rfl 1024 ?_ (ix2 b d) (fun a ha => ?_) ?_
  · show 1 < 9; decide
  · rfl
  · rfl
  · match a with
    | ⟨0, _⟩ => rfl
    | ⟨1, _⟩ => exact absurd rfl ha
  · rfl

theorem r2 : val_main_v55 (F := Ideal) x0 x1 x2 x3 x5 x6 x7 (ix3 b (2 : Fin 9) d) = x0 (ix3 b 2 d) := by
  refine (piece x0 x1 x2 x3 x5 x6 x7 b d 2 (val_main_v1 (F := Ideal) x0) ?_).trans (by pointwise [val_main_v1, val_main_v0])
  unfold val_main_v54
  refine concatenate_apply_piece (t := Cert.Reference9Ideal.S2x9216) 1 _ _ _ 2 ?_ Cert.Reference9Ideal.S2x1024 _ ?_ rfl 2048 ?_ (ix2 b d) (fun a ha => ?_) ?_
  · show 2 < 9; decide
  · rfl
  · rfl
  · match a with
    | ⟨0, _⟩ => rfl
    | ⟨1, _⟩ => exact absurd rfl ha
  · rfl

theorem r3 : val_main_v55 (F := Ideal) x0 x1 x2 x3 x5 x6 x7 (ix3 b (3 : Fin 9) d) = x1 (ix3 b 0 d) := by
  refine (piece x0 x1 x2 x3 x5 x6 x7 b d 3 (val_main_v11 (F := Ideal) x1) ?_).trans (by pointwise [val_main_v11, val_main_v10])
  unfold val_main_v54
  refine concatenate_apply_piece (t := Cert.Reference9Ideal.S2x9216) 1 _ _ _ 3 ?_ Cert.Reference9Ideal.S2x1024 _ ?_ rfl 3072 ?_ (ix2 b d) (fun a ha => ?_) ?_
  · show 3 < 9; decide
  · rfl
  · rfl
  · match a with
    | ⟨0, _⟩ => rfl
    | ⟨1, _⟩ => exact absurd rfl ha
  · rfl

theorem r4 : val_main_v55 (F := Ideal) x0 x1 x2 x3 x5 x6 x7 (ix3 b (4 : Fin 9) d) = x6 (ix2 (0 : Fin 1) d) * x1 (ix3 b 1 d) := by
  refine (piece x0 x1 x2 x3 x5 x6 x7 b d 4 (val_main_v45 (F := Ideal) x1 x6) ?_).trans (by pointwise [val_main_v45, val_main_v44, val_main_v13, val_main_v12])
  unfold val_main_v54
  refine concatenate_apply_piece (t := Cert.Reference9Ideal.S2x9216) 1 _ _ _ 4 ?_ Cert.Reference9Ideal.S2x1024 _ ?_ rfl 4096 ?_ (ix2 b d) (fun a ha => ?_) ?_
  · show 4 < 9; decide
  · rfl
  · rfl
  · match a with
    | ⟨0, _⟩ => rfl
    | ⟨1, _⟩ => exact absurd rfl ha
  · rfl

theorem r5 : val_main_v55 (F := Ideal) x0 x1 x2 x3 x5 x6 x7 (ix3 b (5 : Fin 9) d) = x2 (ix3 b 0 d) := by
  refine (piece x0 x1 x2 x3 x5 x6 x7 b d 5 (val_main_v3 (F := Ideal) x2) ?_).trans (by pointwise [val_main_v3, val_main_v2])
  unfold val_main_v54
  refine concatenate_apply_piece (t := Cert.Reference9Ideal.S2x9216) 1 _ _ _ 5 ?_ Cert.Reference9Ideal.S2x1024 _ ?_ rfl 5120 ?_ (ix2 b d) (fun a ha => ?_) ?_
  · show 5 < 9; decide
  · rfl
  · rfl
  · match a with
    | ⟨0, _⟩ => rfl
    | ⟨1, _⟩ => exact absurd rfl ha
  · rfl

theorem r6 : val_main_v55 (F := Ideal) x0 x1 x2 x3 x5 x6 x7 (ix3 b (6 : Fin 9) d) = x3 (ix3 b 0 d) := by
  refine (piece x0 x1 x2 x3 x5 x6 x7 b d 6 (val_main_v15 (F := Ideal) x3) ?_).trans (by pointwise [val_main_v15, val_main_v14])
  unfold val_main_v54
  refine concatenate_apply_piece (t := Cert.Reference9Ideal.S2x9216) 1 _ _ _ 6 ?_ Cert.Reference9Ideal.S2x1024 _ ?_ rfl 6144 ?_ (ix2 b d) (fun a ha => ?_) ?_
  · show 6 < 9; decide
  · rfl
  · rfl
  · match a with
    | ⟨0, _⟩ => rfl
    | ⟨1, _⟩ => exact absurd rfl ha
  · rfl

theorem r7 : val_main_v55 (F := Ideal) x0 x1 x2 x3 x5 x6 x7 (ix3 b (7 : Fin 9) d) = x7 (ix2 (0 : Fin 1) d) * x3 (ix3 b 1 d) := by
  refine (piece x0 x1 x2 x3 x5 x6 x7 b d 7 (val_main_v40 (F := Ideal) x3 x7) ?_).trans (by pointwise [val_main_v40, val_main_v39, val_main_v17, val_main_v16])
  unfold val_main_v54
  refine concatenate_apply_piece (t := Cert.Reference9Ideal.S2x9216) 1 _ _ _ 7 ?_ Cert.Reference9Ideal.S2x1024 _ ?_ rfl 7168 ?_ (ix2 b d) (fun a ha => ?_) ?_
  · show 7 < 9; decide
  · rfl
  · rfl
  · match a with
    | ⟨0, _⟩ => rfl
    | ⟨1, _⟩ => exact absurd rfl ha
  · rfl

theorem r8 : val_main_v55 (F := Ideal) x0 x1 x2 x3 x5 x6 x7 (ix3 b (8 : Fin 9) d) = x3 (ix3 b 2 d) := by
  refine (piece x0 x1 x2 x3 x5 x6 x7 b d 8 (val_main_v5 (F := Ideal) x3) ?_).trans (by pointwise [val_main_v5, val_main_v4])
  unfold val_main_v54
  refine concatenate_apply_piece (t := Cert.Reference9Ideal.S2x9216) 1 _ _ _ 8 ?_ Cert.Reference9Ideal.S2x1024 _ ?_ rfl 8192 ?_ (ix2 b d) (fun a ha => ?_) ?_
  · show 8 < 9; decide
  · rfl
  · rfl
  · match a with
    | ⟨0, _⟩ => rfl
    | ⟨1, _⟩ => exact absurd rfl ha
  · rfl

end

/-- One row's store over a block: its row reads the store, every other row what was there. -/
theorem cst9 (b' j : ℕ) (inb : ∀ a, (![b', j, 0] : Fin 3 → ℕ) a + (![1, 1, 1024] : Fin 3 → ℕ) a ≤ S2x9x1024.size a)
    (w : Vec Ideal S1x1x1024 .f32) (L : List (View.Piece (Elt Ideal) S2x9x1024 .f32)) (b : Fin 2) (k : Fin 9) (d : Fin 1024) :
    View.canon ((⟨Rect.unit (s := S2x9x1024) ![b', j, 0] ![1, 1, 1024] inb, w⟩ : View.Piece (Elt Ideal) S2x9x1024 .f32) :: L) (ix3 b k d)
      = if b.val = b' ∧ k.val = j then w (ix3 (0 : Fin 1) (0 : Fin 1) d) else View.canon L (ix3 b k d) := by
  by_cases h : b.val = b' ∧ k.val = j
  · obtain ⟨rfl, rfl⟩ := h
    rw [if_pos ⟨rfl, rfl⟩, ← emb9 b.val k.val b.isLt k.isLt inb d]
    exact View.canon_cons_emb _ _ _ _
  · rw [if_neg h]
    refine View.canon_cons_of_not_mem _ _ fun hy => h ?_
    have hy' := (Rect.mem_set_unit (s := S2x9x1024) (inb := inb)).1 hy
    have h0 : b' ≤ b.val ∧ b.val < b' + 1 := hy' 0
    have h1 : j ≤ k.val ∧ k.val < j + 1 := hy' 1
    exact ⟨by omega, by omega⟩

/-- What a point leaves of the modulations' block is the reference's. -/
theorem out8 (t : Fin cfg0.N) (b : Fin 2) (k : Fin 9) (d : Fin 1024) : (outsAt0 m c t).1 (ix3 b k d)
    = val_main_v55 (F := Ideal) (M1 m c) (M2 m c) (MG m c) (M3 m c) (G1 m c) (G2 m c) (G3 m c) (ix3 b k d) := by
  unfold outsAt0
  frame_out
  rw [cst9, cst9, cst9, cst9, cst9, cst9, cst9, cst9, cst9, cst9, cst9, cst9, cst9, cst9, cst9, cst9, cst9, cst9]
  rw [p32, p31, p30, p27, p26, p25, p22, p21, p20, p17, p16, p15, p12, p11, p10, p5, p4, p3]
  simp only [x5_at, x6_at, x7_at]
  match b with
  | 0 =>
    match k with
    | 0 =>
      iterate 17 refine (if_neg (by decide)).trans ?_
      exact (if_pos (by decide)).trans (((ld8 _ 0 0 _ d).trans (x0_at m c t 0 d 0)).trans (r0 _ _ _ _ _ _ _ 0 d).symm)
    | 1 =>
      iterate 16 refine (if_neg (by decide)).trans ?_
      exact (if_pos (by decide)).trans ((congrArg (HMul.hMul (G1 m c (ix2 0 d))) ((ld8 _ 0 1 _ d).trans (x0_at m c t 0 d 1))).trans (r1 _ _ _ _ _ _ _ 0 d).symm)
    | 2 =>
      iterate 15 refine (if_neg (by decide)).trans ?_
      exact (if_pos (by decide)).trans (((ld8 _ 0 2 _ d).trans (x0_at m c t 0 d 2)).trans (r2 _ _ _ _ _ _ _ 0 d).symm)
    | 3 =>
      iterate 11 refine (if_neg (by decide)).trans ?_
      exact (if_pos (by decide)).trans (((ld8 _ 0 0 _ d).trans (x1_at m c t 0 d 0)).trans (r3 _ _ _ _ _ _ _ 0 d).symm)
    | 4 =>
      iterate 10 refine (if_neg (by decide)).trans ?_
      exact (if_pos (by decide)).trans ((congrArg (HMul.hMul (G2 m c (ix2 0 d))) ((ld8 _ 0 1 _ d).trans (x1_at m c t 0 d 1))).trans (r4 _ _ _ _ _ _ _ 0 d).symm)
    | 5 =>
      iterate 9 refine (if_neg (by decide)).trans ?_
      exact (if_pos (by decide)).trans (((ld8 _ 0 0 _ d).trans (x2_at m c t 0 d 0)).trans (r5 _ _ _ _ _ _ _ 0 d).symm)
    | 6 =>
      iterate 5 refine (if_neg (by decide)).trans ?_
      exact (if_pos (by decide)).trans (((ld8 _ 0 0 _ d).trans (x3_at m c t 0 d 0)).trans (r6 _ _ _ _ _ _ _ 0 d).symm)
    | 7 =>
      iterate 4 refine (if_neg (by decide)).trans ?_
      exact (if_pos (by decide)).trans ((congrArg (HMul.hMul (G3 m c (ix2 0 d))) ((ld8 _ 0 1 _ d).trans (x3_at m c t 0 d 1))).trans (r7 _ _ _ _ _ _ _ 0 d).symm)
    | 8 =>
      iterate 3 refine (if_neg (by decide)).trans ?_
      exact (if_pos (by decide)).trans (((ld8 _ 0 2 _ d).trans (x3_at m c t 0 d 2)).trans (r8 _ _ _ _ _ _ _ 0 d).symm)
  | 1 =>
    match k with
    | 0 =>
      iterate 14 refine (if_neg (by decide)).trans ?_
      exact (if_pos (by decide)).trans (((ld8 _ 1 0 _ d).trans (x0_at m c t 1 d 0)).trans (r0 _ _ _ _ _ _ _ 1 d).symm)
    | 1 =>
      iterate 13 refine (if_neg (by decide)).trans ?_
      exact (if_pos (by decide)).trans ((congrArg (HMul.hMul (G1 m c (ix2 0 d))) ((ld8 _ 1 1 _ d).trans (x0_at m c t 1 d 1))).trans (r1 _ _ _ _ _ _ _ 1 d).symm)
    | 2 =>
      iterate 12 refine (if_neg (by decide)).trans ?_
      exact (if_pos (by decide)).trans (((ld8 _ 1 2 _ d).trans (x0_at m c t 1 d 2)).trans (r2 _ _ _ _ _ _ _ 1 d).symm)
    | 3 =>
      iterate 8 refine (if_neg (by decide)).trans ?_
      exact (if_pos (by decide)).trans (((ld8 _ 1 0 _ d).trans (x1_at m c t 1 d 0)).trans (r3 _ _ _ _ _ _ _ 1 d).symm)
    | 4 =>
      iterate 7 refine (if_neg (by decide)).trans ?_
      exact (if_pos (by decide)).trans ((congrArg (HMul.hMul (G2 m c (ix2 0 d))) ((ld8 _ 1 1 _ d).trans (x1_at m c t 1 d 1))).trans (r4 _ _ _ _ _ _ _ 1 d).symm)
    | 5 =>
      iterate 6 refine (if_neg (by decide)).trans ?_
      exact (if_pos (by decide)).trans (((ld8 _ 1 0 _ d).trans (x2_at m c t 1 d 0)).trans (r5 _ _ _ _ _ _ _ 1 d).symm)
    | 6 =>
      iterate 2 refine (if_neg (by decide)).trans ?_
      exact (if_pos (by decide)).trans (((ld8 _ 1 0 _ d).trans (x3_at m c t 1 d 0)).trans (r6 _ _ _ _ _ _ _ 1 d).symm)
    | 7 =>
      iterate 1 refine (if_neg (by decide)).trans ?_
      exact (if_pos (by decide)).trans ((congrArg (HMul.hMul (G3 m c (ix2 0 d))) ((ld8 _ 1 1 _ d).trans (x3_at m c t 1 d 1))).trans (r7 _ _ _ _ _ _ _ 1 d).symm)
    | 8 =>
      exact (if_pos (by decide)).trans (((ld8 _ 1 2 _ d).trans (x3_at m c t 1 d 2)).trans (r8 _ _ _ _ _ _ _ 1 d).symm)

end Cert.Kernel9Ideal.ModFin

end
-- ==== Proof.ModGain.lean ====
/- The gains' gradients that follow from the sub-layers' sums: the block the call fills with zeros and then adds to, row
   by row and sequence by sequence. -/
module

public import proofs.«01_k».proof.Proof.ModFin

@[expose] public section

set_option maxRecDepth 16384

noncomputable section

namespace Cert.Kernel9Ideal.ModFin

open Cert.Kernel9Ideal Cert.Kernel9Ideal.Gen Cert.Kernel9Ideal.Value Cert.Reference9Ideal.Read
open Idealize.ShloMosaic Idealize.ShloMosaic.TcCoe Idealize.SL.Sem
open scoped BigOperators

variable (m : (ℓ : Loc nD τ sig) → Buf (Elt Ideal) ℓ) (c : Dev nD)

theorem lt8 (j : ℕ) (inb : ∀ a, (![j, 0] : Fin 2 → ℕ) a + (![1, 1024] : Fin 2 → ℕ) a ≤ S8x1024.size a) : j < 8 := inb 0

theorem embG (j : ℕ) (inb : ∀ a, (![j, 0] : Fin 2 → ℕ) a + (![1, 1024] : Fin 2 → ℕ) a ≤ S8x1024.size a) (d : Fin 1024) :
    (Rect.unit (s := S8x1024) ![j, 0] ![1, 1024] inb).emb (ix2 (0 : Fin 1) d) = ix2 (⟨j, lt8 j inb⟩ : Fin 8) d := by
  refine funext fun a => Fin.ext ?_
  match a with
  | ⟨0, _⟩ => rfl
  | ⟨1, _⟩ => show 0 + 1 * d.val = d.val; omega

/-- One row's store: its row reads the store, every other row what was there. -/
theorem gst (j : ℕ) (inb : ∀ a, (![j, 0] : Fin 2 → ℕ) a + (![1, 1024] : Fin 2 → ℕ) a ≤ S8x1024.size a)
    (w : Vec Ideal S1x1024 .f32) (L : List (View.Piece (Elt Ideal) S8x1024 .f32)) (k : Fin 8) (d : Fin 1024) :
    View.canon ((⟨Rect.unit (s := S8x1024) ![j, 0] ![1, 1024] inb, w⟩ : View.Piece (Elt Ideal) S8x1024 .f32) :: L) (ix2 k d)
      = if k.val = j then w (ix2 (0 : Fin 1) d) else View.canon L (ix2 k d) := by
  by_cases h : k.val = j
  · subst h
    rw [if_pos rfl, ← embG k.val inb d]
    exact View.canon_cons_emb _ _ _ _
  · rw [if_neg h]
    refine View.canon_cons_of_not_mem _ _ fun hy => h ?_
    have hy' := (Rect.mem_set_unit (s := S8x1024) (inb := inb)).1 hy
    have h1 : j ≤ k.val ∧ k.val < j + 1 := hy' 0
    omega

/-- The block filled with zeros reads zero. -/
theorem gfill (inb : ∀ a, (![0, 0] : Fin 2 → ℕ) a + (![8, 1024] : Fin 2 → ℕ) a ≤ S8x1024.size a) (k : Fin 8) (d : Fin 1024) :
    View.canon [(⟨Rect.unit (s := S8x1024) ![0, 0] ![8, 1024] inb, k0_pay1 (F := Ideal)⟩ : View.Piece (Elt Ideal) S8x1024 .f32)] (ix2 k d) = 0 := by
  have e : (Rect.unit (s := S8x1024) ![0, 0] ![8, 1024] inb).emb (ix2 k d) = ix2 k d := by
    refine funext fun a => Fin.ext ?_
    match a with
    | ⟨0, _⟩ => show 0 + 1 * k.val = k.val; omega
    | ⟨1, _⟩ => show 0 + 1 * d.val = d.val; omega
  refine (congrArg _ e.symm).trans ((View.canon_cons_emb _ _ _ _).trans ?_)
  pointwise [k0_pay1]

/-- A row loaded back from what the stores left. -/
theorem gload {sg : RefSig} {κ : Kind} {sp : Space} (v : View sg κ sp S8x1024 .f32) (L : List (View.Piece (Elt Ideal) S8x1024 .f32)) (j : ℕ)
    (inb : ∀ a, (![j, 0] : Fin 2 → ℕ) a + (![1, 1024] : Fin 2 → ℕ) a ≤ S8x1024.size a) (d : Fin 1024) :
    v.readCov L (Rect.unit (s := S8x1024) ![j, 0] ![1, 1024] inb).toLoadRect (ix2 (0 : Fin 1) d) = View.canon L (ix2 (⟨j, lt8 j inb⟩ : Fin 8) d) := by
  rw [View.readCov_eq_canon']
  exact congrArg (View.canon L) (embG j inb d)

/-- A row's two terms, one for each sequence. -/
def pair (x4 : FVec Ideal S2x9216 .f32) (X : FVec Ideal S2x8x1024 .f32) (k : Fin 9) (d : Fin 1024) : EReal :=
  term (x4 (ix2 0 (col k d))) (X (ix3 0 1 d)) + term (x4 (ix2 1 (col k d))) (X (ix3 1 1 d))

theorem out9 (t : Fin cfg0.N) (k : Fin 8) (d : Fin 1024) : (outsAt0 m c t).2 (ix2 k d)
    = if k.val = 2 then pair (MD m c) (M3 m c) 7 d else if k.val = 1 then pair (MD m c) (M2 m c) 4 d else if k.val = 0 then pair (MD m c) (M1 m c) 1 d else 0 := by
  unfold outsAt0
  frame_out
  simp only [gst, gload, gfill, p33, p28, p23, p18, p13, p8, ↓reduceIte, Nat.reduceEqDiff, OfNat.ofNat_ne_zero, OfNat.zero_ne_ofNat, one_ne_zero, zero_ne_one, zero_add]
  by_cases h2 : k.val = 2
  · rw [if_pos h2, if_pos h2]
    exact congrArg₂ (HAdd.hAdd (α := EReal) (β := EReal) (γ := EReal)) (congrArg₂ term ((ld9 _ 0 7 _ d).trans (x4_at m c t 0 d 7)) ((ld8 _ 0 1 _ d).trans (x3_at m c t 0 d 1)))
      (congrArg₂ term ((ld9 _ 1 7 _ d).trans (x4_at m c t 1 d 7)) ((ld8 _ 1 1 _ d).trans (x3_at m c t 1 d 1)))
  rw [if_neg h2, if_neg h2, if_neg h2]
  by_cases h1 : k.val = 1
  · rw [if_pos h1, if_pos h1]
    exact congrArg₂ (HAdd.hAdd (α := EReal) (β := EReal) (γ := EReal)) (congrArg₂ term ((ld9 _ 0 4 _ d).trans (x4_at m c t 0 d 4)) ((ld8 _ 0 1 _ d).trans (x1_at m c t 0 d 1)))
      (congrArg₂ term ((ld9 _ 1 4 _ d).trans (x4_at m c t 1 d 4)) ((ld8 _ 1 1 _ d).trans (x1_at m c t 1 d 1)))
  rw [if_neg h1, if_neg h1, if_neg h1]
  by_cases h0 : k.val = 0
  · rw [if_pos h0, if_pos h0]
    exact congrArg₂ (HAdd.hAdd (α := EReal) (β := EReal) (γ := EReal)) (congrArg₂ term ((ld9 _ 0 1 _ d).trans (x4_at m c t 0 d 1)) ((ld8 _ 0 1 _ d).trans (x0_at m c t 0 d 1)))
      (congrArg₂ term ((ld9 _ 1 1 _ d).trans (x4_at m c t 1 d 1)) ((ld8 _ 1 1 _ d).trans (x0_at m c t 1 d 1)))
  rw [if_neg h0, if_neg h0, if_neg h0]

/-! The reference's rows. -/
section
variable (x0 x1 x3 : FVec Ideal S2x8x1024 .f32) (x4 : FVec Ideal S2x9216 .f32) (d : Fin 1024)

theorem s51 (b : Fin 2) : val_main_v51 (F := Ideal) x0 x4 (ix2 b d) = term (x4 (ix2 b (col 1 d))) (x0 (ix3 b 1 d)) := by
  refine Eq.trans ?_ (mul_comm _ _)
  pointwise [val_main_v51, val_main_v28, val_main_v27, val_main_cst, val_main_v19, val_main_v9, val_main_v8]
  rfl

theorem s53 : val_main_v53 (F := Ideal) x0 x4 (ix2 (0 : Fin 1) d) = pair x4 x0 1 d := by
  pointwise [val_main_v53, val_main_v52, val_main_cst_4]
  rw [Fin.sum_univ_two, s51, s51]
  rfl

theorem t0 : val_main_v57 (F := Ideal) x0 x1 x3 x4 (ix2 (0 : Fin 8) d) = pair x4 x0 1 d := by
  rw [← s53]
  unfold val_main_v57
  refine concatenate_apply_piece (t := Cert.Reference9Ideal.S8x1024) 0 _ _ _ 0 ?_ Cert.Reference9Ideal.S1x1024 _ ?_ rfl 0 ?_ (ix2 0 d) (fun a ha => ?_) ?_
  · show 0 < 4; decide
  · rfl
  · rfl
  · match a with
    | ⟨0, _⟩ => exact absurd rfl ha
    | ⟨1, _⟩ => rfl
  · rfl

theorem s46 (b : Fin 2) : val_main_v46 (F := Ideal) x1 x4 (ix2 b d) = term (x4 (ix2 b (col 4 d))) (x1 (ix3 b 1 d)) := by
  refine Eq.trans ?_ (mul_comm _ _)
  pointwise [val_main_v46, val_main_v32, val_main_v31, val_main_cst_0, val_main_v22, val_main_v13, val_main_v12]
  rfl

theorem s48 : val_main_v48 (F := Ideal) x1 x4 (ix2 (0 : Fin 1) d) = pair x4 x1 4 d := by
  pointwise [val_main_v48, val_main_v47, val_main_cst_3]
  rw [Fin.sum_univ_two, s46, s46]
  rfl

theorem t1 : val_main_v57 (F := Ideal) x0 x1 x3 x4 (ix2 (1 : Fin 8) d) = pair x4 x1 4 d := by
  rw [← s48]
  unfold val_main_v57
  refine concatenate_apply_piece (t := Cert.Reference9Ideal.S8x1024) 0 _ _ _ 1 ?_ Cert.Reference9Ideal.S1x1024 _ ?_ rfl 1 ?_ (ix2 0 d) (fun a ha => ?_) ?_
  · show 1 < 4; decide
  · rfl
  · rfl
  · match a with
    | ⟨0, _⟩ => exact absurd rfl ha
    | ⟨1, _⟩ => rfl
  · rfl

theorem s41 (b : Fin 2) : val_main_v41 (F := Ideal) x3 x4 (ix2 b d) = term (x4 (ix2 b (col 7 d))) (x3 (ix3 b 1 d)) := by
  refine Eq.trans ?_ (mul_comm _ _)
  pointwise [val_main_v41, val_main_v36, val_main_v35, val_main_cst_1, val_main_v25, val_main_v17, val_main_v16]
  rfl

theorem s43 : val_main_v43 (F := Ideal) x3 x4 (ix2 (0 : Fin 1) d) = pair x4 x3 7 d := by
  pointwise [val_main_v43, val_main_v42, val_main_cst_2]
  rw [Fin.sum_univ_two, s41, s41]
  rfl

theorem t2 : val_main_v57 (F := Ideal) x0 x1 x3 x4 (ix2 (2 : Fin 8) d) = pair x4 x3 7 d := by
  rw [← s43]
  unfold val_main_v57
  refine concatenate_apply_piece (t := Cert.Reference9Ideal.S8x1024) 0 _ _ _ 2 ?_ Cert.Reference9Ideal.S1x1024 _ ?_ rfl 2 ?_ (ix2 0 d) (fun a ha => ?_) ?_
  · show 2 < 4; decide
  · rfl
  · rfl
  · match a with
    | ⟨0, _⟩ => exact absurd rfl ha
    | ⟨1, _⟩ => rfl
  · rfl

/-- The rows no gain stands for are zero. -/
theorem t3 (k : Fin 5) : val_main_v57 (F := Ideal) x0 x1 x3 x4 (ix2 (⟨3 + k.val, by omega⟩ : Fin 8) d) = 0 := by
  refine Eq.trans (b := val_main_v56 (F := Ideal) (ix2 k d)) ?_ (by pointwise [val_main_v56, val_main_cst_5])
  unfold val_main_v57
  refine concatenate_apply_piece (t := Cert.Reference9Ideal.S8x1024) 0 _ _ _ 3 ?_ Cert.Reference9Ideal.S5x1024 _ ?_ rfl 3 ?_ (ix2 k d) (fun a ha => ?_) ?_
  · show 3 < 4; decide
  · rfl
  · rfl
  · match a with
    | ⟨0, _⟩ => exact absurd rfl ha
    | ⟨1, _⟩ => rfl
  · rfl
end

theorem gains_eq (t : Fin cfg0.N) (k : Fin 8) (d : Fin 1024) :
    (outsAt0 m c t).2 (ix2 k d) = val_main_v57 (F := Ideal) (M1 m c) (M2 m c) (M3 m c) (MD m c) (ix2 k d) := by
  rw [out9]
  match k with
  | 0 => exact (t0 (M1 m c) (M2 m c) (M3 m c) (MD m c) d).symm
  | 1 => exact (t1 (M1 m c) (M2 m c) (M3 m c) (MD m c) d).symm
  | 2 => exact (t2 (M1 m c) (M2 m c) (M3 m c) (MD m c) d).symm
  | 3 => exact (t3 (M1 m c) (M2 m c) (M3 m c) (MD m c) d 0).symm
  | 4 => exact (t3 (M1 m c) (M2 m c) (M3 m c) (MD m c) d 1).symm
  | 5 => exact (t3 (M1 m c) (M2 m c) (M3 m c) (MD m c) d 2).symm
  | 6 => exact (t3 (M1 m c) (M2 m c) (M3 m c) (MD m c) d 3).symm
  | 7 => exact (t3 (M1 m c) (M2 m c) (M3 m c) (MD m c) d 4).symm

theorem embM (t : Fin cfg0.N) (b : Fin 2) (k : Fin 9) (d : Fin 1024) : (win0_8.blk t).view.emb (ix3 b k d) = ix3 b k d := by
  blk_ext [idx t]

theorem embN (t : Fin cfg0.N) (k : Fin 8) (d : Fin 1024) : (win0_9.blk t).view.emb (ix2 k d) = ix2 k d := by
  blk_ext [idx t]

theorem final8 : (dats m 0 c).arrAt 8 cfg0.N
    = val_main_v55 (F := Ideal) (M1 m c) (M2 m c) (MG m c) (M3 m c) (G1 m c) (G2 m c) (G3 m c) := by
  refine (dats m 0 c).arrAt_eq_of_covers 8 _ (by decide +kernel) fun t hf y => ?_
  obtain ⟨b, k, d, rfl⟩ : ∃ (b : Fin 2) (k : Fin 9) (d : Fin 1024), y = ix3 b k d := ⟨y 0, y 1, y 2, by blk_ext []⟩
  blk_simp
  rw [after0_8, embM]
  exact out8 m c t b k d

theorem final9 : (dats m 0 c).arrAt 9 cfg0.N = val_main_v57 (F := Ideal) (M1 m c) (M2 m c) (M3 m c) (MD m c) := by
  refine (dats m 0 c).arrAt_eq_of_covers 9 _ (by decide +kernel) fun t hf y => ?_
  obtain ⟨k, d, rfl⟩ : ∃ (k : Fin 8) (d : Fin 1024), y = ix2 k d := ⟨y 0, y 1, by blk_ext []⟩
  blk_simp
  rw [after0_9, embN]
  exact gains_eq m c t k d

end Cert.Kernel9Ideal.ModFin

end
-- ==== Proof.SmallClaims.lean ====
/- The claims of the calls without an exchange that end the step: the modulation's weight and a large weight, each with
   its gradient, its change and its new running means, and the gradients of the modulations and of the norms' gains.
   They hold for all arguments. -/
module

public import proofs.«01_k».proof.Defs
public import proofs.«01_k».proof.Proof.Ada
public import proofs.«01_k».proof.Proof.BigAdam
public import proofs.«01_k».proof.Proof.ModGain
public import proofs.«01_k».proof.Proof.Gen.Reference7Ideal.Run
public import proofs.«01_k».proof.Proof.Gen.Reference8Ideal.Run
public import proofs.«01_k».proof.Proof.Gen.Reference9Ideal.Run
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem frame_ref7 : Cert.quiescent_Reference7Ideal := fun m ρ _ =>
  (θ_run (Cert.Reference7Ideal.defs (F := Ideal)) _ _).mono
    (fun r h => ⟨fun c => (h c).2.2.2.2, sem_eq_zero_of_no_sems (by decide) r.2⟩)
    (Cert.Reference7Ideal.Value.run (F := Ideal) m ρ)

theorem frame_ref8 : Cert.quiescent_Reference8Ideal := fun m ρ _ =>
  (θ_run (Cert.Reference8Ideal.defs (F := Ideal)) _ _).mono
    (fun r h => ⟨fun c => (h c).2.2.2.2, sem_eq_zero_of_no_sems (by decide) r.2⟩)
    (Cert.Reference8Ideal.Value.run (F := Ideal) m ρ)

theorem frame_ref9 : Cert.quiescent_Reference9Ideal := fun m ρ _ =>
  (θ_run (Cert.Reference9Ideal.defs (F := Ideal)) _ _).mono
    (fun r h => ⟨fun c => (h c).2.2, sem_eq_zero_of_no_sems (by decide) r.2⟩)
    (Cert.Reference9Ideal.Value.run (F := Ideal) m ρ)

open Cert.Kernel7Ideal.Gen Cert.Kernel7Ideal.Value Cert.Kernel7Ideal.Ada in
/-- The modulation's weight: the four results are the reference's. -/
theorem results7 : Cert.algebraic_Kernel7Ideal_Reference7Ideal := by
  intro m g m' g' _ hagree
  refine ⟨fun c => (dats m 0 c).arrAt 5 Cert.Kernel7Ideal.cfg0.N, fun c => (dats m 0 c).arrAt 6 Cert.Kernel7Ideal.cfg0.N,
    fun c => (dats m 0 c).arrAt 7 Cert.Kernel7Ideal.cfg0.N, fun c => (dats m 0 c).arrAt 8 Cert.Kernel7Ideal.cfg0.N, run_blocks m g, ?_⟩
  refine (θ_run (Cert.Reference7Ideal.defs (F := Ideal)) _ _).mono (fun r h c => ?_) (Cert.Reference7Ideal.Value.run (F := Ideal) m' g')
  obtain ⟨hg, hd, hm, hv, hargs⟩ := h c
  obtain ⟨e0, e1, e2, e3, e4⟩ := hagree c
  rw [e0, e1, e2, e3, e4] at hd
  rw [e0, e1, e3] at hm
  rw [e0, e1, e4] at hv
  rw [e0, e1] at hg
  exact ⟨hg.trans (final5 m c).symm, hd.trans (final6 m c).symm, hm.trans (final7 m c).symm, hv.trans (final8 m c).symm, hargs⟩

open Cert.Kernel8Ideal.Gen Cert.Kernel8Ideal.Value Cert.Kernel8Ideal.BigAdam in
/-- A large weight: the four results are the reference's. -/
theorem results8 : Cert.algebraic_Kernel8Ideal_Reference8Ideal := by
  intro m g m' g' _ hagree
  refine ⟨fun c => (dats m 0 c).arrAt 4 Cert.Kernel8Ideal.cfg0.N, fun c => (dats m 0 c).arrAt 5 Cert.Kernel8Ideal.cfg0.N,
    fun c => (dats m 0 c).arrAt 6 Cert.Kernel8Ideal.cfg0.N, fun c => (dats m 0 c).arrAt 7 Cert.Kernel8Ideal.cfg0.N, run_blocks m g, ?_⟩
  refine (θ_run (Cert.Reference8Ideal.defs (F := Ideal)) _ _).mono (fun r h c => ?_) (Cert.Reference8Ideal.Value.run (F := Ideal) m' g')
  obtain ⟨hg, hd, hm, hv, hargs⟩ := h c
  obtain ⟨e0, e1, e2, e3⟩ := hagree c
  rw [e0, e1, e2, e3] at hd
  rw [e0, e2] at hm
  rw [e0, e3] at hv
  rw [e0] at hg
  exact ⟨hg.trans (final4 m c).symm, hd.trans (final5 m c).symm, hm.trans (final6 m c).symm, hv.trans (final7 m c).symm, hargs⟩

open Cert.Kernel9Ideal.Gen Cert.Kernel9Ideal.Value Cert.Kernel9Ideal.ModFin in
/-- The modulations and the norms' gains: both results are the reference's. -/
theorem results9 : Cert.algebraic_Kernel9Ideal_Reference9Ideal := by
  intro m g m' g' _ hagree
  refine ⟨fun c => (dats m 0 c).arrAt 8 Cert.Kernel9Ideal.cfg0.N, fun c => (dats m 0 c).arrAt 9 Cert.Kernel9Ideal.cfg0.N, run_blocks m g, ?_⟩
  refine (θ_run (Cert.Reference9Ideal.defs (F := Ideal)) _ _).mono (fun r h c => ?_) (Cert.Reference9Ideal.Value.run (F := Ideal) m' g')
  obtain ⟨hd, hg, hargs⟩ := h c
  obtain ⟨e0, e1, e2, e3, e4, e5, e6, e7⟩ := hagree c
  rw [e0, e1, e2, e3, e5, e6, e7] at hd
  rw [e0, e1, e3, e4] at hg
  exact ⟨hd.trans (final8 m c).symm, hg.trans (final9 m c).symm, hargs⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.KerRun
public import proofs.«01_k».proof.Proof.RefR
public import proofs.«01_k».proof.Proof.Finite
public import proofs.«01_k».proof.Proof.Claims
public import proofs.«01_k».proof.Proof.SwapClaims
public import proofs.«01_k».proof.Proof.CrossClaims
public import proofs.«01_k».proof.Proof.DownClaims
public import proofs.«01_k».proof.Proof.SmallClaims
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Half

/-- The reference runs, its arguments end as launched, its counters at zero. -/
theorem frame_ref : Cert.quiescent_ReferenceIdeal := fun m ρ _ =>
  (θ_run (Cert.ReferenceIdeal.defs (F := Ideal)) _ _).mono
    (fun r h => ⟨fun c => (h c).2.2.2.2.2.2.2.2, sem_eq_zero_of_no_sems (by decide) r.2⟩)
    (Cert.ReferenceIdeal.Value.run (F := Ideal) m ρ)

/-- Under the precondition a device's arguments hold real arrays. -/
theorem args_at (m : (ℓ : Loc Cert.KernelIdeal.nD Cert.KernelIdeal.τ Cert.KernelIdeal.sig) → Buf (Elt Ideal) ℓ)
    (h : Cert.Pre_KernelIdeal_finite m) (c : Dev Cert.KernelIdeal.nD) : ∃ A : Data, Cert.KernelIdeal.Host.ArgsAt m c A := by
  obtain ⟨h0, h1, h2, h3, h4, h5, h6⟩ := h c
  exact args_of_finite (Cert.Pre_finite.real_at _ _ h0) (Cert.Pre_finite.real_at _ _ h1) (Cert.Pre_finite.real_at _ _ h2)
    (Cert.Pre_finite.real_at _ _ h3) (Cert.Pre_finite.real_at _ _ h4) (Cert.Pre_finite.real_at _ _ h5) (Cert.Pre_finite.real_at _ _ h6)

open Cert.KernelIdeal.Gen in
/-- The kernel's eight results are the reference's. -/
theorem results : Cert.algebraic_KernelIdeal_ReferenceIdeal_pre_finite := by
  intro m g m' g' hpre hagree
  refine ⟨fun c => W5 m g c (Proc.devRef .tc Cert.KernelIdeal.main_v16), fun c => W5 m g c (Proc.devRef .tc Cert.KernelIdeal.main_v12_0),
    fun c => W5 m g c (Proc.devRef .tc Cert.KernelIdeal.main_v12_1), fun c => W5 m g c (Proc.devRef .tc Cert.KernelIdeal.main_v12_2),
    fun c => W5 m g c (Proc.devRef .tc Cert.KernelIdeal.main_v12_3), fun c => W5 m g c (Proc.devRef .tc Cert.KernelIdeal.main_v12_5),
    fun c => W5 m g c (Proc.devRef .tc Cert.KernelIdeal.main_v13), fun c => W5 m g c (Proc.devRef .tc Cert.KernelIdeal.main_v12_6), ?_, ?_⟩
  · refine (θ_run (Cert.KernelIdeal.defs (F := Ideal)) _ _).mono (fun r h c => ?_) (Cert.KernelIdeal.Host.run_all m g)
    exact ⟨h c _ (mem_uc _ (by decide)), h c _ (mem_uc _ (by decide)), h c _ (mem_uc _ (by decide)), h c _ (mem_uc _ (by decide)),
      h c _ (mem_uc _ (by decide)), h c _ (mem_uc _ (by decide)), h c _ (mem_uc _ (by decide)), h c _ (mem_uc _ (by decide)),
      (h c _ (mem_uc Cert.KernelIdeal.main_arg0 (by decide))).trans (W5_main_arg0 m g c),
      (h c _ (mem_uc Cert.KernelIdeal.main_arg1 (by decide))).trans (W5_main_arg1 m g c),
      (h c _ (mem_uc Cert.KernelIdeal.main_arg2 (by decide))).trans (W5_main_arg2 m g c),
      (h c _ (mem_uc Cert.KernelIdeal.main_arg3 (by decide))).trans (W5_main_arg3 m g c),
      (h c _ (mem_uc Cert.KernelIdeal.main_arg4 (by decide))).trans (W5_main_arg4 m g c),
      (h c _ (mem_uc Cert.KernelIdeal.main_arg5 (by decide))).trans (W5_main_arg5 m g c),
      (h c _ (mem_uc Cert.KernelIdeal.main_arg6 (by decide))).trans (W5_main_arg6 m g c)⟩
  · refine (θ_run (Cert.ReferenceIdeal.defs (F := Ideal)) _ _).mono (fun r h c => ?_) (Cert.ReferenceIdeal.Value.run (F := Ideal) m' g')
    obtain ⟨h56, h110, h112, h114, h116, h118, h119, h109, hargs⟩ := h c
    obtain ⟨A, hA⟩ := args_at m hpre c
    have hR := args_ref hA (hagree c)
    exact ⟨(h56.trans (Cert.ReferenceIdeal.Read.val_main_v56_eq (F := Ideal) (StableHlo.launchContents m' c))).trans
        ((Cert.ReferenceIdeal.Ref.r56 hR).trans (Cert.KernelIdeal.Host.loss_eq g hA).symm),
      (h110.trans (Cert.ReferenceIdeal.Read.val_main_v110_eq (F := Ideal) (StableHlo.launchContents m' c))).trans
        ((Cert.ReferenceIdeal.Ref.r110 hR).trans (Cert.KernelIdeal.Host.dh_eq g hA).symm),
      (h112.trans (Cert.ReferenceIdeal.Read.val_main_v112_eq (F := Ideal) (StableHlo.launchContents m' c))).trans
        ((Cert.ReferenceIdeal.Ref.r112 hR).trans (Cert.KernelIdeal.Host.xn_eq g hA).symm),
      (h114.trans (Cert.ReferenceIdeal.Read.val_main_v114_eq (F := Ideal) (StableHlo.launchContents m' c))).trans
        ((Cert.ReferenceIdeal.Ref.r114 hR).trans (Cert.KernelIdeal.Host.dy_eq g hA).symm),
      (h116.trans (Cert.ReferenceIdeal.Read.val_main_v116_eq (F := Ideal) (StableHlo.launchContents m' c))).trans
        ((Cert.ReferenceIdeal.Ref.r116 hR).trans (Cert.KernelIdeal.Host.aa_eq g hA).symm),
      (h118.trans (Cert.ReferenceIdeal.Read.val_main_v118_eq (F := Ideal) (StableHlo.launchContents m' c))).trans
        ((Cert.ReferenceIdeal.Ref.r118 hR).trans (Cert.KernelIdeal.Host.du_eq g hA).symm),
      (h119.trans (Cert.ReferenceIdeal.Read.val_main_v119_eq (F := Ideal) (StableHlo.launchContents m' c))).trans
        ((Cert.ReferenceIdeal.Ref.r119 hR).trans (Cert.KernelIdeal.Host.wg_eq g hA).symm),
      (h109.trans (Cert.ReferenceIdeal.Read.val_main_v109_eq (F := Ideal) (StableHlo.launchContents m' c))).trans
        ((Cert.ReferenceIdeal.Ref.r109 hR).trans (Cert.KernelIdeal.Host.mg_eq g hA).symm),
      hargs⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite.facts, by
    exact ⟨fun m ρ _ => Cert.Kernel.Gen.frame m ρ, fun m ρ _ => Cert.KernelIdeal.Gen.frame m ρ, fun m ρ _ => Cert.KernelIdeal.Gen.frame m ρ,
      frame_ref, fun m ρ _ => frame_ref m ρ trivial,
      fun m ρ _ => Cert.Kernel2.Gen.frame m ρ, fun m ρ _ => Cert.Kernel2Ideal.Gen.frame m ρ, fun m ρ _ => Cert.Kernel2Ideal.Gen.frame m ρ,
      frame_ref2, fun m ρ _ => frame_ref2 m ρ trivial,
      fun m ρ _ => Cert.Kernel3.Gen.frame m ρ, fun m ρ _ => Cert.Kernel3Ideal.Gen.frame m ρ, frame_ref3,
      frame_bits4, frame_ideal4, frame_ref4, frame_bits5, frame_ideal5, frame_ref5,
      frame_bits6, frame_ideal6, frame_ref6,
      fun m ρ _ => Cert.Kernel7.Gen.frame m ρ, fun m ρ _ => Cert.Kernel7Ideal.Gen.frame m ρ, frame_ref7,
      fun m ρ _ => Cert.Kernel8.Gen.frame m ρ, fun m ρ _ => Cert.Kernel8Ideal.Gen.frame m ρ, frame_ref8,
      fun m ρ _ => Cert.Kernel9.Gen.frame m ρ, fun m ρ _ => Cert.Kernel9Ideal.Gen.frame m ρ, frame_ref9,
      trivial, results, trivial, results2, trivial, results3, trivial, results4, trivial, results5, trivial, results6,
      trivial, results7, trivial, results8, trivial, results9⟩⟩

end Cert.Proof

end
